-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v14) = v2 c
          ∧ r.2.mem ((c.tc : Thread Cert.Reference3Ideal.nD Cert.Reference3Ideal.τ).loc Cert.Reference3Ideal.main_v15) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_v2) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v78) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v62) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_v80) = v4 c
          ∧ r.2.mem ((c.tc : Thread Cert.Reference5Ideal.nD Cert.Reference5Ideal.τ).loc Cert.Reference5Ideal.main_v81) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_v24) = v2 c
          ∧ r.2.mem ((c.tc : Thread Cert.Reference12Ideal.nD Cert.Reference12Ideal.τ).loc Cert.Reference12Ideal.main_v28) = v3 c
          ∧ r.2.mem ((c.tc : Thread Cert.Reference12Ideal.nD Cert.Reference12Ideal.τ).loc Cert.Reference12Ideal.main_v32) = v4 c
          ∧ r.2.mem ((c.tc : Thread Cert.Reference12Ideal.nD Cert.Reference12Ideal.τ).loc Cert.Reference12Ideal.main_v36) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m ((c.tc : Thread Cert.Kernel14Ideal.nD Cert.Kernel14Ideal.τ).loc Cert.Kernel14Ideal.main_arg0) = Layout.block ⟨2, ![8, 128]⟩ ⟨2, ![64, 128]⟩ 0 8 c (m' (((0 : Dev Cert.Reference14Ideal.nD).tc : Thread Cert.Reference14Ideal.nD Cert.Reference14Ideal.τ).loc Cert.Reference14Ideal.main_arg0))) →
    ∃ (v0 : Buf (Elt Ideal) (((0 : Dev Cert.Reference14Ideal.nD).tc : Thread Cert.Reference14Ideal.nD Cert.Reference14Ideal.τ).loc Cert.Reference14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r =>
          r.2.mem (((0 : Dev Cert.Reference14Ideal.nD).tc : Thread Cert.Reference14Ideal.nD Cert.Reference14Ideal.τ).loc Cert.Reference14Ideal.main_v3) = v0
          ∧ r.2.mem (((0 : Dev Cert.Reference14Ideal.nD).tc : Thread Cert.Reference14Ideal.nD Cert.Reference14Ideal.τ).loc Cert.Reference14Ideal.main_arg0) = m' (((0 : Dev Cert.Reference14Ideal.nD).tc : Thread Cert.Reference14Ideal.nD Cert.Reference14Ideal.τ).loc Cert.Reference14Ideal.main_arg0))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite3 : Cert.Pre_finite3.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite3.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg6 : FVec F S2816x1024 .bf16) (main_v33 : IVec S_ 1) : IVec S_ 1 :=
  let main_v34 : FVec F S2816x1024 .bf16 := Host.absf main_arg6
  let main_cst_12 : FVec F S_ .bf16 := constant S_ .bf16 0x7F80#16
  let main_v35 : FVec F S2816x1024 .bf16 := broadcastInDim S2816x1024 ![] bcast_S_S2816x1024 main_cst_12
  let main_v36 : IVec S2816x1024 1 := cmpf .olt main_v34 main_v35
  let main_c_13 : IVec S_ 1 := constantI S_ 1 1#1
  let main_v37 : IVec S_ 1 := (fun x v => Host.reduce IntOp.andi x v reducesTo_S2816x1024_S_d0_1 h_S_) main_v36 main_c_13
  let main_v38 : IVec S_ 1 := andi main_v33 main_v37
  main_v38

def fn_part1 {F : FTy → Type} [FloatOps F] (main_arg3 : FVec F S8192x2816 .bf16) (main_arg4 : FVec F S2816x1024 .bf16) (main_arg5 : FVec F S2816x1024 .bf16) (main_arg6 : FVec F S2816x1024 .bf16) (main_v13 : IVec S_ 1) (main_v16 : IVec S8192x2816 1) : IVec S_ 1 :=
  let main_c_5 : IVec S_ 1 := constantI S_ 1 1#1
  let main_v17 : IVec S_ 1 := (fun x v => Host.reduce IntOp.andi x v reducesTo_S8192x2816_S_d0_1 h_S_) main_v16 main_c_5
  let main_v18 : IVec S_ 1 := andi main_v13 main_v17
  let main_v19 : FVec F S8192x2816 .bf16 := Host.absf main_arg3
  let main_cst_6 : FVec F S_ .bf16 := constant S_ .bf16 0x7F80#16
  let main_v20 : FVec F S8192x2816 .bf16 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  let main_v24 : FVec F S2816x1024 .bf16 := Host.absf main_arg4
  let main_cst_8 : FVec F S_ .bf16 := constant S_ .bf16 0x7F80#16
  let main_v25 : FVec F S2816x1024 .bf16 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S2816x1024 .bf16 := Host.absf main_arg5
  let main_cst_10 : FVec F S_ .bf16 := constant S_ .bf16 0x7F80#16
  let main_v30 : FVec F S2816x1024 .bf16 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg6 main_v33

def fn {F : FTy → Type} [FloatOps F] (main_arg0 : FVec F S8192x1024 .f32) (main_arg1 : FVec F S1x1024 .f32) (main_arg2 : FVec F S8192x2816 .bf16) (main_arg3 : FVec F S8192x2816 .bf16) (main_arg4 : FVec F S2816x1024 .bf16) (main_arg5 : FVec F S2816x1024 .bf16) (main_arg6 : FVec F S2816x1024 .bf16) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8192x1024 .f32 := Host.absf main_arg7
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x2816 .bf16 := Host.absf main_arg2
  let main_cst_4 : FVec F S_ .bf16 := constant S_ .bf16 0x7F80#16
  let main_v15 : FVec F S8192x2816 .bf16 := broadcastInDim S8192x2816 ![] bcast_S_S8192x2816 main_cst_4
  let main_v16 : IVec S8192x2816 1 := cmpf .olt main_v14 main_v15
  fn_part1 (F := F) main_arg3 main_arg4 main_arg5 main_arg6 main_v13 main_v16
-- ==== Kernel.lean ====
abbrev S8192x512 : Shape := ⟨2, ![8192, 512]⟩
abbrev S128x4x64x64 : Shape := ⟨4, ![128, 4, 64, 64]⟩
abbrev S128x8x128 : Shape := ⟨3, ![128, 8, 128]⟩
abbrev S4x2048x512 : Shape := ⟨3, ![4, 2048, 512]⟩
abbrev S4x32x4x64x64 : Shape := ⟨5, ![4, 32, 4, 64, 64]⟩
abbrev S4x32x8x128 : Shape := ⟨4, ![4, 32, 8, 128]⟩
abbrev S4x32x4x128x128 : Shape := ⟨5, ![4, 32, 4, 128, 128]⟩
abbrev S2x512x512 : Shape := ⟨3, ![2, 512, 512]⟩
abbrev S2x8x4x64x64 : Shape := ⟨5, ![2, 8, 4, 64, 64]⟩
abbrev S2x8x8x128 : Shape := ⟨4, ![2, 8, 8, 128]⟩
abbrev S2x8x4x128x128 : Shape := ⟨5, ![2, 8, 4, 128, 128]⟩
abbrev S2x4x128x128 : Shape := ⟨4, ![2, 4, 128, 128]⟩
abbrev S1x1x8x128 : Shape := ⟨4, ![1, 1, 8, 128]⟩
abbrev S8x128 : Shape := ⟨2, ![8, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S1x64x128 : Shape := ⟨3, ![1, 64, 128]⟩
abbrev S64x128 : Shape := ⟨2, ![64, 128]⟩
abbrev S1x1x1x64x64 : Shape := ⟨5, ![1, 1, 1, 64, 64]⟩
abbrev S64x64 : Shape := ⟨2, ![64, 64]⟩
abbrev S1x128 : Shape := ⟨2, ![1, 128]⟩
abbrev S128x4x128x128 : Shape := ⟨4, ![128, 4, 128, 128]⟩
abbrev S128 : Shape := ⟨1, ![128]⟩
abbrev S1x1x1x128 : Shape := ⟨4, ![1, 1, 1, 128]⟩

abbrev nBuf : Space → Nat
  | .hbm => 37
  | .vmem => 46
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S128x4x64x64, .f32⟩
  | .hbm, ⟨5, _⟩ => ⟨S128x8x128, .f32⟩
  | .hbm, ⟨6, _⟩ => ⟨S8192x512, .f32⟩
  | .hbm, ⟨7, _⟩ => ⟨S4x2048x512, .bf16⟩
  | .hbm, ⟨8, _⟩ => ⟨S4x2048x512, .f32⟩
  | .hbm, ⟨9, _⟩ => ⟨S4x2048x512, .bf16⟩
  | .hbm, ⟨10, _⟩ => ⟨S4x2048x512, .bf16⟩
  | .hbm, ⟨11, _⟩ => ⟨S4x32x4x64x64, .f32⟩
  | .hbm, ⟨12, _⟩ => ⟨S4x32x8x128, .f32⟩
  | .hbm, ⟨13, _⟩ => ⟨S4x2048x512, .f32⟩
  | .hbm, ⟨14, _⟩ => ⟨S4x32x4x128x128, .f32⟩
  | .hbm, ⟨15, _⟩ => ⟨S8192x512, .f32⟩
  | .hbm, ⟨16, _⟩ => ⟨S128x4x128x128, .f32⟩
  | .hbm, ⟨17, _⟩ => ⟨S4x2048x512, .bf16⟩
  | .hbm, ⟨18, _⟩ => ⟨S4x2048x512, .f32⟩
  | .hbm, ⟨19, _⟩ => ⟨S4x2048x512, .bf16⟩
  | .hbm, ⟨20, _⟩ => ⟨S4x2048x512, .bf16⟩
  | .hbm, ⟨21, _⟩ => ⟨S4x32x4x64x64, .f32⟩
  | .hbm, ⟨22, _⟩ => ⟨S4x32x8x128, .f32⟩
  | .hbm, ⟨23, _⟩ => ⟨S4x32x4x128x128, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x32x4x64x64, .f32⟩
  | .hbm, ⟨30, _⟩ => ⟨S4x32x8x128, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S128x4x64x64, .f32⟩
  | .hbm, ⟨36, _⟩ => ⟨S128x8x128, .f32⟩
  | .local _ .vmem, ⟨0, _⟩ => ⟨S2x512x512, .bf16⟩
  | .local _ .vmem, ⟨1, _⟩ => ⟨S2x512x512, .bf16⟩
  | .local _ .vmem, ⟨2, _⟩ => ⟨S2x512x512, .f32⟩
  | .local _ .vmem, ⟨3, _⟩ => ⟨S2x512x512, .f32⟩
  | .local _ .vmem, ⟨4, _⟩ => ⟨S2x512x512, .bf16⟩
  | .local _ .vmem, ⟨5, _⟩ => ⟨S2x512x512, .bf16⟩
  | .local _ .vmem, ⟨6, _⟩ => ⟨S2x512x512, .bf16⟩
  | .local _ .vmem, ⟨7, _⟩ => ⟨S2x512x512, .bf16⟩
  | .local _ .vmem, ⟨8, _⟩ => ⟨S2x8x4x64x64, .f32⟩
  | .local _ .vmem, ⟨9, _⟩ => ⟨S2x8x4x64x64, .f32⟩
  | .local _ .vmem, ⟨10, _⟩ => ⟨S2x8x8x128, .f32⟩
  | .local _ .vmem, ⟨11, _⟩ => ⟨S2x8x8x128, .f32⟩
  | .local _ .vmem, ⟨12, _⟩ => ⟨S2x512x512, .f32⟩
  | .local _ .vmem, ⟨13, _⟩ => ⟨S2x512x512, .f32⟩
  | .local _ .vmem, ⟨14, _⟩ => ⟨S2x8x4x128x128, .f32⟩
  | .local _ .vmem, ⟨15, _⟩ => ⟨S2x8x4x128x128, .f32⟩
  | .local _ .vmem, ⟨16, _⟩ => ⟨S2x4x128x128, .f32⟩
  | .local _ .vmem, ⟨17, _⟩ => ⟨S2x512x512, .bf16⟩
  | .local _ .vmem, ⟨18, _⟩ => ⟨S2x512x512, .bf16⟩
  | .local _ .vmem, ⟨19, _⟩ => ⟨S2x512x512, .f32⟩
  | .local _ .vmem, ⟨20, _⟩ => ⟨S2x512x512, .f32⟩
  | .local _ .vmem, ⟨21, _⟩ => ⟨S2x512x512, .bf16⟩
  | .local _ .vmem, ⟨22, _⟩ => ⟨S2x512x512, .bf16⟩
  | .local _ .vmem, ⟨23, _⟩ => ⟨S2x512x512, .bf16⟩
  | .local _ .vmem, ⟨24, _⟩ => ⟨S2x512x512, .bf16⟩
  | .local _ .vmem, ⟨25, _⟩ => ⟨S2x8x4x64x64, .f32⟩
  | .local _ .vmem, ⟨26, _⟩ => ⟨S2x8x4x64x64, .f32⟩
  | .local _ .vmem, ⟨27, _⟩ => ⟨S2x8x8x128, .f32⟩
  | .local _ .vmem, ⟨28, _⟩ => ⟨S2x8x8x128, .f32⟩
  | .local _ .vmem, ⟨29, _⟩ => ⟨S2x8x4x128x128, .f32⟩
  | .local _ .vmem, ⟨30, _⟩ => ⟨S2x8x4x128x128, .f32⟩
  | .local _ .vmem, ⟨31, _⟩ => ⟨S2x512x512, .f32⟩
  | .local _ .vmem, ⟨32, _⟩ => ⟨S2x512x512, .f32⟩
  | .local _ .vmem, ⟨33, _⟩ => ⟨S2x512x512, .f32⟩
  | .local _ .vmem, ⟨34, _⟩ => ⟨S2x512x512, .f32⟩
  | .local _ .vmem, ⟨35, _⟩ => ⟨S2x512x512, .f32⟩
  | .local _ .vmem, ⟨36, _⟩ => ⟨S2x512x512, .f32⟩
  | .local _ .vmem, ⟨37, _⟩ => ⟨S2x512x512, .f32⟩
  | .local _ .vmem, ⟨38, _⟩ => ⟨S2x512x512, .f32⟩
  | .local _ .vmem, ⟨39, _⟩ => ⟨S2x512x512, .f32⟩
  | .local _ .vmem, ⟨40, _⟩ => ⟨S2x512x512, .f32⟩
  | .local _ .vmem, ⟨41, _⟩ => ⟨S2x8x4x64x64, .f32⟩
  | .local _ .vmem, ⟨42, _⟩ => ⟨S2x8x4x64x64, .f32⟩
  | .local _ .vmem, ⟨43, _⟩ => ⟨S2x8x8x128, .f32⟩
  | .local _ .vmem, ⟨44, _⟩ => ⟨S2x8x8x128, .f32⟩
  | .local _ .vmem, ⟨45, _⟩ => ⟨S2x4x128x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  v4
def k0_off1 (k0_t1 : Fin k0_t1_loop.trips) : Fin 4 → Nat :=
  let c0 : Index := 0#32
  let c0_i32_1 : BitVec 32 := 0#32
  let c1_i32 : BitVec 32 := 1#32
  let arg11 : BitVec 32 := Scf.iv c0_i32_1 c1_i32 k0_t1
  let v6 : Index := Scalar.indexCast arg11
  let c0_3 : Index := 0#32
  let c0_4 : Index := 0#32
  ![0, v6.toNat, 0, 0]
def k0_off2 (k0_t1 : Fin k0_t1_loop.trips) : Fin 4 → Nat :=
  let c1 : Index := 1#32
  let c0_i32_1 : BitVec 32 := 0#32
  let c1_i32 : BitVec 32 := 1#32
  let arg11 : BitVec 32 := Scf.iv c0_i32_1 c1_i32 k0_t1
  let v9 : Index := Scalar.indexCast arg11
  let c0_5 : Index := 0#32
  let c0_6 : Index := 0#32
  ![1, v9.toNat, 0, 0]
def k0_off3 (k0_t1 : Fin k0_t1_loop.trips) : Fin 5 → Nat :=
  let c0_37 : Index := 0#32
  let c0_i32_1 : BitVec 32 := 0#32
  let c1_i32 : BitVec 32 := 1#32
  let arg11 : BitVec 32 := Scf.iv c0_i32_1 c1_i32 k0_t1
  let v28 : Index := Scalar.indexCast arg11
  let c0_38 : Index := 0#32
  let c0_39 : Index := 0#32
  let c0_40 : Index := 0#32
  ![0, v28.toNat, 0, 0, 0]
def k0_off4 (k0_t1 : Fin k0_t1_loop.trips) : Fin 5 → Nat :=
  let c0_41 : Index := 0#32
  let c0_i32_1 : BitVec 32 := 0#32
  let c1_i32 : BitVec 32 := 1#32
  let arg11 : BitVec 32 := Scf.iv c0_i32_1 c1_i32 k0_t1
  let v32 : Index := Scalar.indexCast arg11
  let c1_42 : Index := 1#32
  let c0_43 : Index := 0#32
  let c0_44 : Index := 0#32
  ![0, v32.toNat, 1, 0, 0]
def k0_off5 (k0_t1 : Fin k0_t1_loop.trips) : Fin 5 → Nat :=
  let c0_45 : Index := 0#32
  let c0_i32_1 : BitVec 32 := 0#32
  let c1_i32 : BitVec 32 := 1#32
  let arg11 : BitVec 32 := Scf.iv c0_i32_1 c1_i32 k0_t1
  let v36 : Index := Scalar.indexCast arg11
  let c2_46 : Index := 2#32
  let c0_47 : Index := 0#32
  let c0_48 : Index := 0#32
  ![0, v36.toNat, 2, 0, 0]
def k0_off6 (k0_t1 : Fin k0_t1_loop.trips) : Fin 5 → Nat :=
  let c0_49 : Index := 0#32
  let c0_i32_1 : BitVec 32 := 0#32
  let c1_i32 : BitVec 32 := 1#32
  let arg11 : BitVec 32 := Scf.iv c0_i32_1 c1_i32 k0_t1
  let v40 : Index := Scalar.indexCast arg11
  let c3_50 : Index := 3#32
  let c0_51 : Index := 0#32
  let c0_52 : Index := 0#32
  ![0, v40.toNat, 3, 0, 0]
def k0_off7 (k0_t1 : Fin k0_t1_loop.trips) : Fin 5 → Nat :=
  let c1_53 : Index := 1#32
  let c0_i32_1 : BitVec 32 := 0#32
  let c1_i32 : BitVec 32 := 1#32
  let arg11 : BitVec 32 := Scf.iv c0_i32_1 c1_i32 k0_t1
  let v44 : Index := Scalar.indexCast arg11
  let c0_54 : Index := 0#32
  let c0_55 : Index := 0#32
  let c0_56 : Index := 0#32
  ![1, v44.toNat, 0, 0, 0]
def k0_off8 (k0_t1 : Fin k0_t1_loop.trips) : Fin 5 → Nat :=
  let c1_57 : Index := 1#32
  let c0_i32_1 : BitVec 32 := 0#32
  let c1_i32 : BitVec 32 := 1#32
  let arg11 : BitVec 32 := Scf.iv c0_i32_1 c1_i32 k0_t1
  let v48 : Index := Scalar.indexCast arg11
  let c1_58 : Index := 1#32
  let c0_59 : Index := 0#32
  let c0_60 : Index := 0#32
  ![1, v48.toNat, 1, 0, 0]
def k0_off9 (k0_t1 : Fin k0_t1_loop.trips) : Fin 5 → Nat :=
  let c1_61 : Index := 1#32
  let c0_i32_1 : BitVec 32 := 0#32
  let c1_i32 : BitVec 32 := 1#32
  let arg11 : BitVec 32 := Scf.iv c0_i32_1 c1_i32 k0_t1
  let v52 : Index := Scalar.indexCast arg11
  let c2_62 : Index := 2#32
  let c0_63 : Index := 0#32
  let c0_64 : Index := 0#32
  ![1, v52.toNat, 2, 0, 0]
def k0_off10 (k0_t1 : Fin k0_t1_loop.trips) : Fin 5 → Nat :=
  let c1_65 : Index := 1#32
  let c0_i32_1 : BitVec 32 := 0#32
  let c1_i32 : BitVec 32 := 1#32
  let arg11 : BitVec 32 := Scf.iv c0_i32_1 c1_i32 k0_t1
  let v56 : Index := Scalar.indexCast arg11
  let c3_66 : Index := 3#32
  let c0_67 : Index := 0#32
  let c0_68 : Index := 0#32
  ![1, v56.toNat, 3, 0, 0]
def k0_off11 (k0_t1 : Fin k0_t1_loop.trips) : Fin 3 → Nat :=
  let c0_69 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v60 : Index := Scalar.indexCast v5
  let c0_70 : Index := 0#32
  ![0, v60.toNat, 0]
def k0_off12 (k0_t1 : Fin k0_t1_loop.trips) : Fin 3 → Nat :=
  let c0_71 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v63 : Index := Scalar.indexCast v5
  let c128 : Index := 128#32
  ![0, v63.toNat, 128]
def k0_off13 (k0_t1 : Fin k0_t1_loop.trips) : Fin 3 → Nat :=
  let c0_72 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v66 : Index := Scalar.indexCast v5
  let c256 : Index := 256#32
  ![0, v66.toNat, 256]
def k0_off14 (k0_t1 : Fin k0_t1_loop.trips) : Fin 3 → Nat :=
  let c0_73 : Index := 0#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v69 : Index := Scalar.indexCast v5
  let c384 : Index := 384#32
  ![0, v69.toNat, 384]
def k0_off15 (k0_t1 : Fin k0_t1_loop.trips) : Fin 3 → Nat :=
  let c1_74 : Index := 1#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v72 : Index := Scalar.indexCast v5
  let c0_75 : Index := 0#32
  ![1, v72.toNat, 0]
def k0_off16 (k0_t1 : Fin k0_t1_loop.trips) : Fin 3 → Nat :=
  let c1_76 : Index := 1#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v75 : Index := Scalar.indexCast v5
  let c128_77 : Index := 128#32
  ![1, v75.toNat, 128]
def k0_off17 (k0_t1 : Fin k0_t1_loop.trips) : Fin 3 → Nat :=
  let c1_78 : Index := 1#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v78 : Index := Scalar.indexCast v5
  let c256_79 : Index := 256#32
  ![1, v78.toNat, 256]
def k0_off18 (k0_t1 : Fin k0_t1_loop.trips) : Fin 3 → Nat :=
  let c1_80 : Index := 1#32
  let c0_i32_1 : BitVec 32 := 0#32
  let c1_i32 : BitVec 32 := 1#32
  let arg11 : BitVec 32 := Scf.iv c0_i32_1 c1_i32 k0_t1
  let c64_i32 : BitVec 32 := 64#32
  let v4 : BitVec 32 := Scalar.muli arg11 c64_i32
  let v5 : BitVec 32 := v4
  let v81 : Index := Scalar.indexCast v5
  let c384_81 : Index := 384#32
  ![1, v81.toNat, 384]
def k0_off19 (k0_t1 : Fin k0_t1_loop.trips) : Fin 5 → Nat :=
  let c0_130 : Index := 0#32
  let c0_i32_1 : BitVec 32 := 0#32
  let c1_i32 : BitVec 32 := 1#32
  let arg11 : BitVec 32 := Scf.iv c0_i32_1 c1_i32 k0_t1
  let v156 : Index := Scalar.indexCast arg11
  let c0_131 : Index := 0#32
  let c0_132 : Index := 0#32
  let c0_133 : Index := 0#32
  ![0, v156.toNat, 0, 0, 0]
def k0_off20 (k0_t1 : Fin k0_t1_loop.trips) : Fin 5 → Nat :=
  let c0_134 : Index := 0#32
  let c0_i32_1 : BitVec 32 := 0#32
  let c1_i32 : BitVec 32 := 1#32
  let arg11 : BitVec 32 := Scf.iv c0_i32_1 c1_i32 k0_t1
  let v159 : Index := Scalar.indexCast arg11
  let c1_135 : Index := 1#32
  let c0_136 : Index := 0#32
  let c0_137 : Index := 0#32
  ![0, v159.toNat, 1, 0, 0]
def k0_off21 (k0_t1 : Fin k0_t1_loop.trips) : Fin 5 → Nat :=
  let c0_138 : Index := 0#32
  let c0_i32_1 : BitVec 32 := 0#32
  let c1_i32 : BitVec 32 := 1#32
  let arg11 : BitVec 32 := Scf.iv c0_i32_1 c1_i32 k0_t1
  let v162 : Index := Scalar.indexCast arg11
  let c2_139 : Index := 2#32
  let c0_140 : Index := 0#32
  let c0_141 : Index := 0#32
  ![0, v162.toNat, 2, 0, 0]
def k0_off22 (k0_t1 : Fin k0_t1_loop.trips) : Fin 5 → Nat :=
  let c0_142 : Index := 0#32
  let c0_i32_1 : BitVec 32 := 0#32
  let c1_i32 : BitVec 32 := 1#32
  let arg11 : BitVec 32 := Scf.iv c0_i32_1 c1_i32 k0_t1
  let v165 : Index := Scalar.indexCast arg11
  let c3_143 : Index := 3#32
  let c0_144 : Index := 0#32
  let c0_145 : Index := 0#32
  ![0, v165.toNat, 3, 0, 0]
def k0_off23 (k0_t1 : Fin k0_t1_loop.trips) : Fin 5 → Nat :=
  let c1_146 : Index := 1#32
  let c0_i32_1 : BitVec 32 := 0#32
  let c1_i32 : BitVec 32 := 1#32
  let arg11 : BitVec 32 := Scf.iv c0_i32_1 c1_i32 k0_t1
  let v168 : Index := Scalar.indexCast arg11
  let c0_147 : Index := 0#32
  let c0_148 : Index := 0#32
  let c0_149 : Index := 0#32
  ![1, v168.toNat, 0, 0, 0]
def k0_off24 (k0_t1 : Fin k0_t1_loop.trips) : Fin 5 → Nat :=
  let c1_150 : Index := 1#32
  let c0_i32_1 : BitVec 32 := 0#32
  let c1_i32 : BitVec 32 := 1#32
  let arg11 : BitVec 32 := Scf.iv c0_i32_1 c1_i32 k0_t1
  let v171 : Index := Scalar.indexCast arg11
  let c1_151 : Index := 1#32
  let c0_152 : Index := 0#32
  let c0_153 : Index := 0#32
  ![1, v171.toNat, 1, 0, 0]
def k0_off25 (k0_t1 : Fin k0_t1_loop.trips) : Fin 5 → Nat :=
  let c1_154 : Index := 1#32
  let c0_i32_1 : BitVec 32 := 0#32
  let c1_i32 : BitVec 32 := 1#32
  let arg11 : BitVec 32 := Scf.iv c0_i32_1 c1_i32 k0_t1
  let v174 : Index := Scalar.indexCast arg11
  let c2_155 : Index := 2#32
  let c0_156 : Index := 0#32
  let c0_157 : Index := 0#32
  ![1, v174.toNat, 2, 0, 0]
def k0_off26 (k0_t1 : Fin k0_t1_loop.trips) : Fin 5 → Nat :=
  let c1_158 : Index := 1#32
  let c0_i32_1 : BitVec 32 := 0#32
  let c1_i32 : BitVec 32 := 1#32
  let arg11 : BitVec 32 := Scf.iv c0_i32_1 c1_i32 k0_t1
  let v177 : Index := Scalar.indexCast arg11
  let c3_159 : Index := 3#32
  let c0_160 : Index := 0#32
  let c0_161 : Index := 0#32
  ![1, v177.toNat, 3, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 4], ![false, false]⟩

@[reducible] def k1_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k1_mult1 (k1_t1 : Fin k1_t1_loop.trips) : BitVec 32 :=
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  v5
def k1_off1 (k1_t1 : Fin k1_t1_loop.trips) : Fin 4 → Nat :=
  let c0 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v7 : Index := Scalar.indexCast v4
  let c0_3 : Index := 0#32
  let c0_4 : Index := 0#32
  ![0, v7.toNat, 0, 0]
def k1_off2 (k1_t1 : Fin k1_t1_loop.trips) : Fin 4 → Nat :=
  let c1 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v10 : Index := Scalar.indexCast v4
  let c0_5 : Index := 0#32
  let c0_6 : Index := 0#32
  ![1, v10.toNat, 0, 0]
def k1_off3 (k1_t1 : Fin k1_t1_loop.trips) : Fin 3 → Nat :=
  let c0_14 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v23 : Index := Scalar.indexCast v6
  let c0_15 : Index := 0#32
  ![0, v23.toNat, 0]
def k1_off4 (k1_t1 : Fin k1_t1_loop.trips) : Fin 3 → Nat :=
  let c0_16 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v27 : Index := Scalar.indexCast v6
  let c128 : Index := 128#32
  ![0, v27.toNat, 128]
def k1_off5 (k1_t1 : Fin k1_t1_loop.trips) : Fin 3 → Nat :=
  let c0_17 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v31 : Index := Scalar.indexCast v6
  let c256 : Index := 256#32
  ![0, v31.toNat, 256]
def k1_off6 (k1_t1 : Fin k1_t1_loop.trips) : Fin 3 → Nat :=
  let c0_18 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v35 : Index := Scalar.indexCast v6
  let c384 : Index := 384#32
  ![0, v35.toNat, 384]
def k1_off7 (k1_t1 : Fin k1_t1_loop.trips) : Fin 3 → Nat :=
  let c1_19 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v39 : Index := Scalar.indexCast v6
  let c0_20 : Index := 0#32
  ![1, v39.toNat, 0]
def k1_off8 (k1_t1 : Fin k1_t1_loop.trips) : Fin 3 → Nat :=
  let c1_21 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v43 : Index := Scalar.indexCast v6
  let c128_22 : Index := 128#32
  ![1, v43.toNat, 128]
def k1_off9 (k1_t1 : Fin k1_t1_loop.trips) : Fin 3 → Nat :=
  let c1_23 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v47 : Index := Scalar.indexCast v6
  let c256_24 : Index := 256#32
  ![1, v47.toNat, 256]
def k1_off10 (k1_t1 : Fin k1_t1_loop.trips) : Fin 3 → Nat :=
  let c1_25 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let c64_i32 : BitVec 32 := 64#32
  let v5 : BitVec 32 := Scalar.muli v4 c64_i32
  let v6 : BitVec 32 := v5
  let v51 : Index := Scalar.indexCast v6
  let c384_26 : Index := 384#32
  ![1, v51.toNat, 384]
def k1_off11 (k1_t1 : Fin k1_t1_loop.trips) : Fin 5 → Nat :=
  let c0_75 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v143 : Index := Scalar.indexCast v4
  let c0_76 : Index := 0#32
  let c0_77 : Index := 0#32
  let c0_78 : Index := 0#32
  ![0, v143.toNat, 0, 0, 0]
def k1_off12 (k1_t1 : Fin k1_t1_loop.trips) : Fin 5 → Nat :=
  let c0_79 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v146 : Index := Scalar.indexCast v4
  let c1_80 : Index := 1#32
  let c0_81 : Index := 0#32
  let c0_82 : Index := 0#32
  ![0, v146.toNat, 1, 0, 0]
def k1_off13 (k1_t1 : Fin k1_t1_loop.trips) : Fin 5 → Nat :=
  let c0_83 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v149 : Index := Scalar.indexCast v4
  let c2 : Index := 2#32
  let c0_84 : Index := 0#32
  let c0_85 : Index := 0#32
  ![0, v149.toNat, 2, 0, 0]
def k1_off14 (k1_t1 : Fin k1_t1_loop.trips) : Fin 5 → Nat :=
  let c0_86 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v152 : Index := Scalar.indexCast v4
  let c3 : Index := 3#32
  let c0_87 : Index := 0#32
  let c0_88 : Index := 0#32
  ![0, v152.toNat, 3, 0, 0]
def k1_off15 (k1_t1 : Fin k1_t1_loop.trips) : Fin 5 → Nat :=
  let c1_89 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v155 : Index := Scalar.indexCast v4
  let c0_90 : Index := 0#32
  let c0_91 : Index := 0#32
  let c0_92 : Index := 0#32
  ![1, v155.toNat, 0, 0, 0]
def k1_off16 (k1_t1 : Fin k1_t1_loop.trips) : Fin 5 → Nat :=
  let c1_93 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v158 : Index := Scalar.indexCast v4
  let c1_94 : Index := 1#32
  let c0_95 : Index := 0#32
  let c0_96 : Index := 0#32
  ![1, v158.toNat, 1, 0, 0]
def k1_off17 (k1_t1 : Fin k1_t1_loop.trips) : Fin 5 → Nat :=
  let c1_97 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v161 : Index := Scalar.indexCast v4
  let c2_98 : Index := 2#32
  let c0_99 : Index := 0#32
  let c0_100 : Index := 0#32
  ![1, v161.toNat, 2, 0, 0]
def k1_off18 (k1_t1 : Fin k1_t1_loop.trips) : Fin 5 → Nat :=
  let c1_101 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v164 : Index := Scalar.indexCast v4
  let c3_102 : Index := 3#32
  let c0_103 : Index := 0#32
  let c0_104 : Index := 0#32
  ![1, v164.toNat, 3, 0, 0]
def k1_off19 (k1_t1 : Fin k1_t1_loop.trips) : Fin 5 → Nat :=
  let c0_105 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v175 : Index := Scalar.indexCast v4
  let c0_106 : Index := 0#32
  let c0_107 : Index := 0#32
  let c0_108 : Index := 0#32
  ![0, v175.toNat, 0, 0, 0]
def k1_off20 (k1_t1 : Fin k1_t1_loop.trips) : Fin 5 → Nat :=
  let c0_109 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v178 : Index := Scalar.indexCast v4
  let c1_110 : Index := 1#32
  let c0_111 : Index := 0#32
  let c0_112 : Index := 0#32
  ![0, v178.toNat, 1, 0, 0]
def k1_off21 (k1_t1 : Fin k1_t1_loop.trips) : Fin 5 → Nat :=
  let c0_113 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v181 : Index := Scalar.indexCast v4
  let c2_114 : Index := 2#32
  let c0_115 : Index := 0#32
  let c0_116 : Index := 0#32
  ![0, v181.toNat, 2, 0, 0]
def k1_off22 (k1_t1 : Fin k1_t1_loop.trips) : Fin 5 → Nat :=
  let c0_117 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v184 : Index := Scalar.indexCast v4
  let c3_118 : Index := 3#32
  let c0_119 : Index := 0#32
  let c0_120 : Index := 0#32
  ![0, v184.toNat, 3, 0, 0]
def k1_off23 (k1_t1 : Fin k1_t1_loop.trips) : Fin 5 → Nat :=
  let c1_121 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v187 : Index := Scalar.indexCast v4
  let c0_122 : Index := 0#32
  let c0_123 : Index := 0#32
  let c0_124 : Index := 0#32
  ![1, v187.toNat, 0, 0, 0]
def k1_off24 (k1_t1 : Fin k1_t1_loop.trips) : Fin 5 → Nat :=
  let c1_125 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v190 : Index := Scalar.indexCast v4
  let c1_126 : Index := 1#32
  let c0_127 : Index := 0#32
  let c0_128 : Index := 0#32
  ![1, v190.toNat, 1, 0, 0]
def k1_off25 (k1_t1 : Fin k1_t1_loop.trips) : Fin 5 → Nat :=
  let c1_129 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v193 : Index := Scalar.indexCast v4
  let c2_130 : Index := 2#32
  let c0_131 : Index := 0#32
  let c0_132 : Index := 0#32
  ![1, v193.toNat, 2, 0, 0]
def k1_off26 (k1_t1 : Fin k1_t1_loop.trips) : Fin 5 → Nat :=
  let c1_133 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v196 : Index := Scalar.indexCast v4
  let c3_134 : Index := 3#32
  let c0_135 : Index := 0#32
  let c0_136 : Index := 0#32
  ![1, v196.toNat, 3, 0, 0]
def k1_off27 (k1_t1 : Fin k1_t1_loop.trips) : Fin 4 → Nat :=
  let c0_285 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v579 : Index := Scalar.indexCast v4
  let c0_286 : Index := 0#32
  let c0_287 : Index := 0#32
  ![0, v579.toNat, 0, 0]
def k1_off28 (k1_t1 : Fin k1_t1_loop.trips) : Fin 4 → Nat :=
  let c0_304 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v606 : Index := Scalar.indexCast v4
  let c1_305 : Index := 1#32
  let c0_306 : Index := 0#32
  ![0, v606.toNat, 1, 0]
def k1_off29 (k1_t1 : Fin k1_t1_loop.trips) : Fin 4 → Nat :=
  let c0_323 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v633 : Index := Scalar.indexCast v4
  let c2_324 : Index := 2#32
  let c0_325 : Index := 0#32
  ![0, v633.toNat, 2, 0]
def k1_off30 (k1_t1 : Fin k1_t1_loop.trips) : Fin 4 → Nat :=
  let c0_342 : Index := 0#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v660 : Index := Scalar.indexCast v4
  let c3_343 : Index := 3#32
  let c0_344 : Index := 0#32
  ![0, v660.toNat, 3, 0]
def k1_off31 (k1_t1 : Fin k1_t1_loop.trips) : Fin 4 → Nat :=
  let c1_361 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v687 : Index := Scalar.indexCast v4
  let c0_362 : Index := 0#32
  let c0_363 : Index := 0#32
  ![1, v687.toNat, 0, 0]
def k1_off32 (k1_t1 : Fin k1_t1_loop.trips) : Fin 4 → Nat :=
  let c1_380 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v714 : Index := Scalar.indexCast v4
  let c1_381 : Index := 1#32
  let c0_382 : Index := 0#32
  ![1, v714.toNat, 1, 0]
def k1_off33 (k1_t1 : Fin k1_t1_loop.trips) : Fin 4 → Nat :=
  let c1_399 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v741 : Index := Scalar.indexCast v4
  let c2_400 : Index := 2#32
  let c0_401 : Index := 0#32
  ![1, v741.toNat, 2, 0]
def k1_off34 (k1_t1 : Fin k1_t1_loop.trips) : Fin 4 → Nat :=
  let c1_418 : Index := 1#32
  let c7_i32 : BitVec 32 := 7#32
  let c0_i32_1 : BitVec 32 := 0#32
  let c1_i32 : BitVec 32 := 1#32
  let arg17 : BitVec 32 := Scf.iv c0_i32_1 c1_i32 k1_t1
  let v4 : BitVec 32 := Scalar.subi c7_i32 arg17
  let v768 : Index := Scalar.indexCast v4
  let c3_419 : Index := 3#32
  let c0_420 : Index := 0#32
  ![1, v768.toNat, 3, 0]
def cc1_transform_0 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_4 (i : grid1.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_8 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_9 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_10 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_11 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc1_transform_12 (i : grid1.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc1_transform_13 (i : grid1.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage1_0 : Fin 2 → Memref sig .tc .vmem S2x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x8x4x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x8x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x8x4x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S2x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S2x8x4x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S2x8x8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S2048x256 : Shape := ⟨2, ![2048, 256]⟩
abbrev S1408x256 : Shape := ⟨2, ![1408, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_38 : BitVec 32 := 0#32
  let v46 : BitVec 1 := Scalar.cmpi .ne v45 c0_i32_38
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x2816, .bf16⟩
  | .hbm, ⟨11, _⟩ => ⟨S8192x2816, .bf16⟩
  | .hbm, ⟨12, _⟩ => ⟨S8192x2816, .bf16⟩
  | .hbm, ⟨13, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S2816x1024, .bf16⟩
  | .local _ .vmem, ⟨8, _⟩ => ⟨S2816x1024, .bf16⟩
  | .local _ .vmem, ⟨9, _⟩ => ⟨S2816x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_38 : BitVec 32 := 0#32
  let v69 : BitVec 1 := Scalar.cmpi .ne v68 c0_i32_38
  v69

def k0_cond2 (i : grid0.Coords) : BitVec 1 :=
  let arg0 : BitVec 32 := BitVec.ofNat 32 (i 0).val
  let c0_i32 : BitVec 32 := 0#32
  let v67 : BitVec 1 := Scalar.cmpi .eq arg0 c0_i32
  let v_true : BitVec 1 := 1#1
  let v70 : BitVec 1 := Scalar.xori v67 v_true
  let v71 : BitVec 32 := Scalar.extui v70
  let c0_i32_39 : BitVec 32 := 0#32
  let v72 : BitVec 1 := Scalar.cmpi .ne v71 c0_i32_39
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S_ : Shape := ⟨0, ![]⟩
abbrev S1024x2816 : Shape := ⟨2, ![1024, 2816]⟩
abbrev S8192 : Shape := ⟨1, ![8192]⟩
abbrev S8192x1 : Shape := ⟨2, ![8192, 1]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S2816x1024, .f32⟩
  | .hbm, ⟨30, _⟩ => ⟨S1024x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .bf16⟩
  | .hbm, ⟨39, _⟩ => ⟨S8192x2816, .bf16⟩
  | .hbm, ⟨40, _⟩ => ⟨S8192x2816, .f32⟩
  | .hbm, ⟨41, _⟩ => ⟨S2816x1024, .f32⟩
  | .hbm, ⟨42, _⟩ => ⟨S8192x1024, .f32⟩
  | .hbm, ⟨43, _⟩ => ⟨S8192x2816, .f32⟩
  | .hbm, ⟨44, _⟩ => ⟨S2816x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_0 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S8192x1024, .bf16⟩
  | .hbm, ⟨7, _⟩ => ⟨S8192x2816, .bf16⟩
  | .hbm, ⟨8, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_21 : BitVec 32 := 0#32
  let v32 : BitVec 1 := Scalar.cmpi .ne v31 c0_i32_21
  v32

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S2816x1024, .f32⟩
  | .hbm, ⟨23, _⟩ => ⟨S1024x2816, .f32⟩
  | .hbm, ⟨24, _⟩ => ⟨S8192x2816, .f32⟩
  | .hbm, ⟨25, _⟩ => ⟨S8192x1024, .f32⟩
  | .hbm, ⟨26, _⟩ => ⟨S2816x1024, .f32⟩
  | .hbm, ⟨27, _⟩ => ⟨S1024x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .bf16⟩
  | .hbm, ⟨40, _⟩ => ⟨S8192x2816, .f32⟩
  | .hbm, ⟨41, _⟩ => ⟨S2816x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x2816, .bf16⟩
  | .hbm, ⟨48, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S2816x1024 : Shape := ⟨2, ![2816, 1024]⟩
abbrev S8x128 : Shape := ⟨2, ![8, 128]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8x128, .f32⟩
  | .hbm, ⟨9, _⟩ => ⟨S1x1024, .f32⟩
  | .hbm, ⟨10, _⟩ => ⟨S8192x1024, .bf16⟩
  | .hbm, ⟨11, _⟩ => ⟨S8192x2816, .bf16⟩
  | .hbm, ⟨12, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S8x128, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_21 : BitVec 32 := 0#32
  let v32 : BitVec 1 := Scalar.cmpi .ne v31 c0_i32_21
  v32

def k0_cond3 (i : grid0.Coords) : BitVec 1 :=
  let arg0 : BitVec 32 := BitVec.ofNat 32 (i 0).val
  let c0_i32_44 : BitVec 32 := 0#32
  let v80 : BitVec 1 := Scalar.cmpi .eq arg0 c0_i32_44
  let v83 : BitVec 32 := Scalar.extui v80
  let c0_i32_45 : BitVec 32 := 0#32
  let v84 : BitVec 1 := Scalar.cmpi .ne v83 c0_i32_45
  v84

def k0_cond4 (i : grid0.Coords) : BitVec 1 :=
  let arg0 : BitVec 32 := BitVec.ofNat 32 (i 0).val
  let c0_i32_44 : BitVec 32 := 0#32
  let v80 : BitVec 1 := Scalar.cmpi .eq arg0 c0_i32_44
  let v_true : BitVec 1 := 1#1
  let v85 : BitVec 1 := Scalar.xori v80 v_true
  let v86 : BitVec 32 := Scalar.extui v85
  let c0_i32_46 : BitVec 32 := 0#32
  let v87 : BitVec 1 := Scalar.cmpi .ne v86 c0_i32_46
  v87

def k0_cond5 (i : grid0.Coords) : BitVec 1 :=
  let arg0 : BitVec 32 := BitVec.ofNat 32 (i 0).val
  let c0_i32_47 : BitVec 32 := 0#32
  let v88 : BitVec 1 := Scalar.cmpi .eq arg0 c0_i32_47
  let v89 : BitVec 32 := Scalar.extui v88
  let c0_i32_48 : BitVec 32 := 0#32
  let v90 : BitVec 1 := Scalar.cmpi .ne v89 c0_i32_48
  v90

def k0_cond6 (i : grid0.Coords) : BitVec 1 :=
  let arg0 : BitVec 32 := BitVec.ofNat 32 (i 0).val
  let c0_i32_47 : BitVec 32 := 0#32
  let v88 : BitVec 1 := Scalar.cmpi .eq arg0 c0_i32_47
  let true_49 : BitVec 1 := 1#1
  let v91 : BitVec 1 := Scalar.xori v88 true_49
  let v92 : BitVec 32 := Scalar.extui v91
  let c0_i32_50 : BitVec 32 := 0#32
  let v93 : BitVec 1 := Scalar.cmpi .ne v92 c0_i32_50
  v93

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S1024 : Shape := ⟨1, ![1024]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S2816x1024, .f32⟩
  | .hbm, ⟨25, _⟩ => ⟨S1024x2816, .f32⟩
  | .hbm, ⟨26, _⟩ => ⟨S8192x2816, .f32⟩
  | .hbm, ⟨27, _⟩ => ⟨S8192x1024, .f32⟩
  | .hbm, ⟨28, _⟩ => ⟨S2816x1024, .f32⟩
  | .hbm, ⟨29, _⟩ => ⟨S1024x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | .hbm, ⟨42, _⟩ => ⟨S8192x2816, .f32⟩
  | .hbm, ⟨43, _⟩ => ⟨S2816x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1024, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8x128, .f32⟩
  | .hbm, ⟨115, _⟩ => ⟨S8192x2816, .bf16⟩
  | .hbm, ⟨116, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_cst_12 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_17 : Ref sig .tc := ⟨.hbm, 104, rfl⟩
abbrev main_v71 : Ref sig .tc := ⟨.hbm, 105, rfl⟩
abbrev main_v72 : Ref sig .tc := ⟨.hbm, 106, rfl⟩
abbrev main_cst_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Kernel6.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S8x385x1024 : Shape := ⟨3, ![8, 385, 1024]⟩
abbrev S385x1024 : Shape := ⟨2, ![385, 1024]⟩
abbrev S1x385x1024 : Shape := ⟨3, ![1, 385, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x385x1024, .bf16⟩
  | .hbm, ⟨1, _⟩ => ⟨S385x1024, .f32⟩
  | .hbm, ⟨2, _⟩ => ⟨S385x1024, .f32⟩
  | .hbm, ⟨3, _⟩ => ⟨S385x1024, .f32⟩
  | .hbm, ⟨4, _⟩ => ⟨S385x1024, .f32⟩
  | .hbm, ⟨5, _⟩ => ⟨S385x1024, .f32⟩
  | .hbm, ⟨6, _⟩ => ⟨S385x1024, .f32⟩
  | .hbm, ⟨7, _⟩ => ⟨S385x1024, .f32⟩
  | .local _ .vmem, ⟨0, _⟩ => ⟨S8x385x1024, .bf16⟩
  | .local _ .vmem, ⟨1, _⟩ => ⟨S385x1024, .f32⟩
  | .local _ .vmem, ⟨2, _⟩ => ⟨S385x1024, .f32⟩
  | .local _ .vmem, ⟨3, _⟩ => ⟨S385x1024, .f32⟩
  | .local _ .vmem, ⟨4, _⟩ => ⟨S385x1024, .f32⟩
  | .local _ .vmem, ⟨5, _⟩ => ⟨S385x1024, .f32⟩
  | .local _ .vmem, ⟨6, _⟩ => ⟨S385x1024, .f32⟩
  | .local _ .vmem, ⟨7, _⟩ => ⟨S385x1024, .f32⟩
  | _, _ => ⟨S8x385x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x385x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S385x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S385x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S385x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S385x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S385x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S385x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S385x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S8x385x1024 : Shape := ⟨3, ![8, 385, 1024]⟩
abbrev S385x1024 : Shape := ⟨2, ![385, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x385x1024, .bf16⟩
  | .hbm, ⟨1, _⟩ => ⟨S385x1024, .f32⟩
  | .hbm, ⟨2, _⟩ => ⟨S385x1024, .f32⟩
  | .hbm, ⟨3, _⟩ => ⟨S385x1024, .f32⟩
  | .hbm, ⟨4, _⟩ => ⟨S8x385x1024, .f32⟩
  | .hbm, ⟨5, _⟩ => ⟨S_, .f32⟩
  | .hbm, ⟨6, _⟩ => ⟨S385x1024, .f32⟩
  | .hbm, ⟨7, _⟩ => ⟨S_, .f32⟩
  | .hbm, ⟨8, _⟩ => ⟨S385x1024, .f32⟩
  | .hbm, ⟨9, _⟩ => ⟨S385x1024, .f32⟩
  | .hbm, ⟨10, _⟩ => ⟨S_, .f32⟩
  | .hbm, ⟨11, _⟩ => ⟨S385x1024, .f32⟩
  | .hbm, ⟨12, _⟩ => ⟨S385x1024, .f32⟩
  | .hbm, ⟨13, _⟩ => ⟨S385x1024, .f32⟩
  | .hbm, ⟨14, _⟩ => ⟨S_, .f32⟩
  | .hbm, ⟨15, _⟩ => ⟨S385x1024, .f32⟩
  | .hbm, ⟨16, _⟩ => ⟨S385x1024, .f32⟩
  | .hbm, ⟨17, _⟩ => ⟨S385x1024, .f32⟩
  | .hbm, ⟨18, _⟩ => ⟨S_, .f32⟩
  | .hbm, ⟨19, _⟩ => ⟨S385x1024, .f32⟩
  | .hbm, ⟨20, _⟩ => ⟨S385x1024, .f32⟩
  | .hbm, ⟨21, _⟩ => ⟨S385x1024, .f32⟩
  | .hbm, ⟨22, _⟩ => ⟨S_, .f32⟩
  | .hbm, ⟨23, _⟩ => ⟨S385x1024, .f32⟩
  | .hbm, ⟨24, _⟩ => ⟨S385x1024, .f32⟩
  | .hbm, ⟨25, _⟩ => ⟨S_, .f32⟩
  | .hbm, ⟨26, _⟩ => ⟨S385x1024, .f32⟩
  | .hbm, ⟨27, _⟩ => ⟨S385x1024, .f32⟩
  | .hbm, ⟨28, _⟩ => ⟨S385x1024, .f32⟩
  | .hbm, ⟨29, _⟩ => ⟨S_, .f32⟩
  | .hbm, ⟨30, _⟩ => ⟨S385x1024, .f32⟩
  | .hbm, ⟨31, _⟩ => ⟨S385x1024, .f32⟩
  | .hbm, ⟨32, _⟩ => ⟨S385x1024, .f32⟩
  | .hbm, ⟨33, _⟩ => ⟨S_, .f32⟩
  | .hbm, ⟨34, _⟩ => ⟨S385x1024, .f32⟩
  | .hbm, ⟨35, _⟩ => ⟨S385x1024, .f32⟩
  | .hbm, ⟨36, _⟩ => ⟨S385x1024, .f32⟩
  | .hbm, ⟨37, _⟩ => ⟨S_, .f32⟩
  | .hbm, ⟨38, _⟩ => ⟨S385x1024, .f32⟩
  | .hbm, ⟨39, _⟩ => ⟨S385x1024, .f32⟩
  | _, _ => ⟨S8x385x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel8.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S8x1128x128 : Shape := ⟨3, ![8, 1128, 128]⟩
abbrev S1128x128 : Shape := ⟨2, ![1128, 128]⟩
abbrev S8x24x128 : Shape := ⟨3, ![8, 24, 128]⟩
abbrev S24x128 : Shape := ⟨2, ![24, 128]⟩
abbrev S1x24x128 : Shape := ⟨3, ![1, 24, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1128x128, .f32⟩
  | .hbm, ⟨1, _⟩ => ⟨S1128x128, .f32⟩
  | .hbm, ⟨2, _⟩ => ⟨S1128x128, .f32⟩
  | .hbm, ⟨3, _⟩ => ⟨S1128x128, .f32⟩
  | .hbm, ⟨4, _⟩ => ⟨S1128x128, .f32⟩
  | .hbm, ⟨5, _⟩ => ⟨S1128x128, .f32⟩
  | .hbm, ⟨6, _⟩ => ⟨S1128x128, .f32⟩
  | .hbm, ⟨7, _⟩ => ⟨S1128x128, .f32⟩
  | .local _ .vmem, ⟨0, _⟩ => ⟨S8x24x128, .f32⟩
  | .local _ .vmem, ⟨1, _⟩ => ⟨S8x24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | .local _ .vmem, ⟨7, _⟩ => ⟨S24x128, .f32⟩
  | .local _ .vmem, ⟨8, _⟩ => ⟨S24x128, .f32⟩
  | .local _ .vmem, ⟨9, _⟩ => ⟨S24x128, .f32⟩
  | .local _ .vmem, ⟨10, _⟩ => ⟨S24x128, .f32⟩
  | .local _ .vmem, ⟨11, _⟩ => ⟨S24x128, .f32⟩
  | .local _ .vmem, ⟨12, _⟩ => ⟨S24x128, .f32⟩
  | .local _ .vmem, ⟨13, _⟩ => ⟨S24x128, .f32⟩
  | .local _ .vmem, ⟨14, _⟩ => ⟨S24x128, .f32⟩
  | .local _ .vmem, ⟨15, _⟩ => ⟨S24x128, .f32⟩
  | _, _ => ⟨S8x1128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![47], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S24x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x1128x128 : Shape := ⟨3, ![8, 1128, 128]⟩
abbrev S1128x128 : Shape := ⟨2, ![1128, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1128x128, .f32⟩
  | .hbm, ⟨1, _⟩ => ⟨S1128x128, .f32⟩
  | .hbm, ⟨2, _⟩ => ⟨S1128x128, .f32⟩
  | .hbm, ⟨3, _⟩ => ⟨S1128x128, .f32⟩
  | .hbm, ⟨4, _⟩ => ⟨S_, .f32⟩
  | .hbm, ⟨5, _⟩ => ⟨S1128x128, .f32⟩
  | .hbm, ⟨6, _⟩ => ⟨S_, .f32⟩
  | .hbm, ⟨7, _⟩ => ⟨S1128x128, .f32⟩
  | .hbm, ⟨8, _⟩ => ⟨S1128x128, .f32⟩
  | .hbm, ⟨9, _⟩ => ⟨S_, .f32⟩
  | .hbm, ⟨10, _⟩ => ⟨S1128x128, .f32⟩
  | .hbm, ⟨11, _⟩ => ⟨S1128x128, .f32⟩
  | .hbm, ⟨12, _⟩ => ⟨S1128x128, .f32⟩
  | .hbm, ⟨13, _⟩ => ⟨S_, .f32⟩
  | .hbm, ⟨14, _⟩ => ⟨S1128x128, .f32⟩
  | .hbm, ⟨15, _⟩ => ⟨S1128x128, .f32⟩
  | .hbm, ⟨16, _⟩ => ⟨S1128x128, .f32⟩
  | .hbm, ⟨17, _⟩ => ⟨S_, .f32⟩
  | .hbm, ⟨18, _⟩ => ⟨S1128x128, .f32⟩
  | .hbm, ⟨19, _⟩ => ⟨S1128x128, .f32⟩
  | .hbm, ⟨20, _⟩ => ⟨S1128x128, .f32⟩
  | .hbm, ⟨21, _⟩ => ⟨S_, .f32⟩
  | .hbm, ⟨22, _⟩ => ⟨S1128x128, .f32⟩
  | .hbm, ⟨23, _⟩ => ⟨S1128x128, .f32⟩
  | .hbm, ⟨24, _⟩ => ⟨S_, .f32⟩
  | .hbm, ⟨25, _⟩ => ⟨S1128x128, .f32⟩
  | .hbm, ⟨26, _⟩ => ⟨S1128x128, .f32⟩
  | .hbm, ⟨27, _⟩ => ⟨S1128x128, .f32⟩
  | .hbm, ⟨28, _⟩ => ⟨S_, .f32⟩
  | .hbm, ⟨29, _⟩ => ⟨S1128x128, .f32⟩
  | .hbm, ⟨30, _⟩ => ⟨S1128x128, .f32⟩
  | .hbm, ⟨31, _⟩ => ⟨S1128x128, .f32⟩
  | .hbm, ⟨32, _⟩ => ⟨S_, .f32⟩
  | .hbm, ⟨33, _⟩ => ⟨S1128x128, .f32⟩
  | .hbm, ⟨34, _⟩ => ⟨S1128x128, .f32⟩
  | .hbm, ⟨35, _⟩ => ⟨S1128x128, .f32⟩
  | .hbm, ⟨36, _⟩ => ⟨S_, .f32⟩
  | .hbm, ⟨37, _⟩ => ⟨S1128x128, .f32⟩
  | .hbm, ⟨38, _⟩ => ⟨S1128x128, .f32⟩
  | _, _ => ⟨S8x1128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S1x4x192 : Shape := ⟨3, ![1, 4, 192]⟩
abbrev S4x192 : Shape := ⟨2, ![4, 192]⟩

abbrev nBuf : Space → Nat
  | .hbm => 8
  | .vmem => 8
  | .smem => 0
  | _ => 0

abbrev bufTy : (tb : Table) → Fin (tcTables nBuf tb) → BufTy
  | .hbm, ⟨0, _⟩ => ⟨S1x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S1x4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S1x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S1x4x192 : Shape := ⟨3, ![1, 4, 192]⟩
abbrev S4x192 : Shape := ⟨2, ![4, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S_, .f32⟩
  | .hbm, ⟨7, _⟩ => ⟨S4x192, .f32⟩
  | .hbm, ⟨8, _⟩ => ⟨S4x192, .f32⟩
  | .hbm, ⟨9, _⟩ => ⟨S_, .f32⟩
  | .hbm, ⟨10, _⟩ => ⟨S4x192, .f32⟩
  | .hbm, ⟨11, _⟩ => ⟨S4x192, .f32⟩
  | .hbm, ⟨12, _⟩ => ⟨S4x192, .f32⟩
  | .hbm, ⟨13, _⟩ => ⟨S_, .f32⟩
  | .hbm, ⟨14, _⟩ => ⟨S4x192, .f32⟩
  | .hbm, ⟨15, _⟩ => ⟨S4x192, .f32⟩
  | .hbm, ⟨16, _⟩ => ⟨S4x192, .f32⟩
  | .hbm, ⟨17, _⟩ => ⟨S_, .f32⟩
  | .hbm, ⟨18, _⟩ => ⟨S4x192, .f32⟩
  | .hbm, ⟨19, _⟩ => ⟨S4x192, .f32⟩
  | .hbm, ⟨20, _⟩ => ⟨S4x192, .f32⟩
  | .hbm, ⟨21, _⟩ => ⟨S_, .f32⟩
  | .hbm, ⟨22, _⟩ => ⟨S4x192, .f32⟩
  | .hbm, ⟨23, _⟩ => ⟨S4x192, .f32⟩
  | .hbm, ⟨24, _⟩ => ⟨S_, .f32⟩
  | .hbm, ⟨25, _⟩ => ⟨S4x192, .f32⟩
  | .hbm, ⟨26, _⟩ => ⟨S4x192, .f32⟩
  | .hbm, ⟨27, _⟩ => ⟨S4x192, .f32⟩
  | .hbm, ⟨28, _⟩ => ⟨S_, .f32⟩
  | .hbm, ⟨29, _⟩ => ⟨S4x192, .f32⟩
  | .hbm, ⟨30, _⟩ => ⟨S4x192, .f32⟩
  | .hbm, ⟨31, _⟩ => ⟨S4x192, .f32⟩
  | .hbm, ⟨32, _⟩ => ⟨S_, .f32⟩
  | .hbm, ⟨33, _⟩ => ⟨S4x192, .f32⟩
  | .hbm, ⟨34, _⟩ => ⟨S4x192, .f32⟩
  | .hbm, ⟨35, _⟩ => ⟨S4x192, .f32⟩
  | .hbm, ⟨36, _⟩ => ⟨S_, .f32⟩
  | .hbm, ⟨37, _⟩ => ⟨S4x192, .f32⟩
  | .hbm, ⟨38, _⟩ => ⟨S4x192, .f32⟩
  | _, _ => ⟨S1x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S8192x3328 : Shape := ⟨2, ![8192, 3328]⟩
abbrev S8192x1024 : Shape := ⟨2, ![8192, 1024]⟩
abbrev S3328x1024 : Shape := ⟨2, ![3328, 1024]⟩
abbrev S2048x1664 : Shape := ⟨2, ![2048, 1664]⟩
abbrev S2048x1024 : Shape := ⟨2, ![2048, 1024]⟩
abbrev S1664x1024 : Shape := ⟨2, ![1664, 1024]⟩
abbrev S2048x256 : Shape := ⟨2, ![2048, 256]⟩
abbrev S1664x256 : Shape := ⟨2, ![1664, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x3328, .bf16⟩
  | .hbm, ⟨1, _⟩ => ⟨S8192x1024, .bf16⟩
  | .hbm, ⟨2, _⟩ => ⟨S3328x1024, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8192x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_38 : BitVec 32 := 0#32
  let v46 : BitVec 1 := Scalar.cmpi .ne v45 c0_i32_38
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x3328 : Shape := ⟨2, ![8192, 3328]⟩
abbrev S8192x1024 : Shape := ⟨2, ![8192, 1024]⟩
abbrev S_ : Shape := ⟨0, ![]⟩
abbrev S1024x3328 : Shape := ⟨2, ![1024, 3328]⟩
abbrev S3328x1024 : Shape := ⟨2, ![3328, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x3328, .bf16⟩
  | .hbm, ⟨1, _⟩ => ⟨S8192x1024, .bf16⟩
  | .hbm, ⟨2, _⟩ => ⟨S_, .f32⟩
  | .hbm, ⟨3, _⟩ => ⟨S1024x3328, .f32⟩
  | .hbm, ⟨4, _⟩ => ⟨S8192x1024, .f32⟩
  | .hbm, ⟨5, _⟩ => ⟨S8192x3328, .f32⟩
  | .hbm, ⟨6, _⟩ => ⟨S8192x3328, .f32⟩
  | .hbm, ⟨7, _⟩ => ⟨S3328x1024, .f32⟩
  | .hbm, ⟨8, _⟩ => ⟨S1024x3328, .f32⟩
  | .hbm, ⟨9, _⟩ => ⟨S3328x1024, .f32⟩
  | .hbm, ⟨10, _⟩ => ⟨S3328x1024, .bf16⟩
  | _, _ => ⟨S8192x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S512x1024 : Shape := ⟨2, ![512, 1024]⟩
abbrev S1536x1024 : Shape := ⟨2, ![1536, 1024]⟩
abbrev S128x1024 : Shape := ⟨2, ![128, 1024]⟩
abbrev S8192x512 : Shape := ⟨2, ![8192, 512]⟩
abbrev S8192x1536 : Shape := ⟨2, ![8192, 1536]⟩
abbrev S8192x128 : Shape := ⟨2, ![8192, 128]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S512x1024, .bf16⟩
  | .hbm, ⟨3, _⟩ => ⟨S512x1024, .bf16⟩
  | .hbm, ⟨4, _⟩ => ⟨S1536x1024, .bf16⟩
  | .hbm, ⟨5, _⟩ => ⟨S512x1024, .bf16⟩
  | .hbm, ⟨6, _⟩ => ⟨S128x1024, .bf16⟩
  | .hbm, ⟨7, _⟩ => ⟨S128x1024, .bf16⟩
  | .hbm, ⟨8, _⟩ => ⟨S8192x512, .f32⟩
  | .hbm, ⟨9, _⟩ => ⟨S8192x512, .f32⟩
  | .hbm, ⟨10, _⟩ => ⟨S8192x1536, .f32⟩
  | .hbm, ⟨11, _⟩ => ⟨S8192x512, .f32⟩
  | .hbm, ⟨12, _⟩ => ⟨S8192x128, .f32⟩
  | .hbm, ⟨13, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1536x1024, .bf16⟩
  | .local _ .vmem, ⟨6, _⟩ => ⟨S512x1024, .bf16⟩
  | .local _ .vmem, ⟨7, _⟩ => ⟨S128x1024, .bf16⟩
  | .local _ .vmem, ⟨8, _⟩ => ⟨S128x1024, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1536, .f32⟩
  | .local _ .vmem, ⟨14, _⟩ => ⟨S512x1536, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference12Ideal.lean ====
abbrev S8192x1024 : Shape := ⟨2, ![8192, 1024]⟩
abbrev S1x1024 : Shape := ⟨2, ![1, 1024]⟩
abbrev S512x1024 : Shape := ⟨2, ![512, 1024]⟩
abbrev S1536x1024 : Shape := ⟨2, ![1536, 1024]⟩
abbrev S128x1024 : Shape := ⟨2, ![128, 1024]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S8192x512 : Shape := ⟨2, ![8192, 512]⟩
abbrev S1024x1536 : Shape := ⟨2, ![1024, 1536]⟩
abbrev S8192x1536 : Shape := ⟨2, ![8192, 1536]⟩
abbrev S1024x128 : Shape := ⟨2, ![1024, 128]⟩
abbrev S8192x128 : Shape := ⟨2, ![8192, 128]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S512x1024, .bf16⟩
  | .hbm, ⟨3, _⟩ => ⟨S512x1024, .bf16⟩
  | .hbm, ⟨4, _⟩ => ⟨S1536x1024, .bf16⟩
  | .hbm, ⟨5, _⟩ => ⟨S512x1024, .bf16⟩
  | .hbm, ⟨6, _⟩ => ⟨S128x1024, .bf16⟩
  | .hbm, ⟨7, _⟩ => ⟨S128x1024, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S512x1024, .f32⟩
  | .hbm, ⟨25, _⟩ => ⟨S1024x512, .f32⟩
  | .hbm, ⟨26, _⟩ => ⟨S8192x1024, .f32⟩
  | .hbm, ⟨27, _⟩ => ⟨S8192x512, .f32⟩
  | .hbm, ⟨28, _⟩ => ⟨S512x1024, .f32⟩
  | .hbm, ⟨29, _⟩ => ⟨S1024x512, .f32⟩
  | .hbm, ⟨30, _⟩ => ⟨S8192x1024, .f32⟩
  | .hbm, ⟨31, _⟩ => ⟨S8192x512, .f32⟩
  | .hbm, ⟨32, _⟩ => ⟨S1536x1024, .f32⟩
  | .hbm, ⟨33, _⟩ => ⟨S1024x1536, .f32⟩
  | .hbm, ⟨34, _⟩ => ⟨S8192x1024, .f32⟩
  | .hbm, ⟨35, _⟩ => ⟨S8192x1536, .f32⟩
  | .hbm, ⟨36, _⟩ => ⟨S512x1024, .f32⟩
  | .hbm, ⟨37, _⟩ => ⟨S1024x512, .f32⟩
  | .hbm, ⟨38, _⟩ => ⟨S8192x1024, .f32⟩
  | .hbm, ⟨39, _⟩ => ⟨S8192x512, .f32⟩
  | .hbm, ⟨40, _⟩ => ⟨S128x1024, .f32⟩
  | .hbm, ⟨41, _⟩ => ⟨S1024x128, .f32⟩
  | .hbm, ⟨42, _⟩ => ⟨S8192x1024, .f32⟩
  | .hbm, ⟨43, _⟩ => ⟨S8192x128, .f32⟩
  | .hbm, ⟨44, _⟩ => ⟨S128x1024, .f32⟩
  | .hbm, ⟨45, _⟩ => ⟨S1024x128, .f32⟩
  | .hbm, ⟨46, _⟩ => ⟨S8192x1024, .f32⟩
  | .hbm, ⟨47, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel13.lean ====
abbrev S8192x1024 : Shape := ⟨2, ![8192, 1024]⟩
abbrev S8192x512 : Shape := ⟨2, ![8192, 512]⟩
abbrev S512x1024 : Shape := ⟨2, ![512, 1024]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x1024, .bf16⟩
  | .hbm, ⟨5, _⟩ => ⟨S512x1024, .bf16⟩
  | .hbm, ⟨6, _⟩ => ⟨S1x128, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8192x1024 : Shape := ⟨2, ![8192, 1024]⟩
abbrev S8192x512 : Shape := ⟨2, ![8192, 512]⟩
abbrev S512x1024 : Shape := ⟨2, ![512, 1024]⟩
abbrev S1x128 : Shape := ⟨2, ![1, 128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512x1024, .bf16⟩
  | .hbm, ⟨5, _⟩ => ⟨S512x1024, .bf16⟩
  | .hbm, ⟨6, _⟩ => ⟨S1x128, .f32⟩
  | .hbm, ⟨7, _⟩ => ⟨S8192x4x128, .f32⟩
  | .hbm, ⟨8, _⟩ => ⟨S8192x4x128, .f32⟩
  | .hbm, ⟨9, _⟩ => ⟨S8192x4x128, .f32⟩
  | .hbm, ⟨10, _⟩ => ⟨S_, .f32⟩
  | .hbm, ⟨11, _⟩ => ⟨S8192x4, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S_, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S8192x4x128, .f32⟩
  | .hbm, ⟨21, _⟩ => ⟨S8192x4x128, .f32⟩
  | .hbm, ⟨22, _⟩ => ⟨S1x1x128, .f32⟩
  | .hbm, ⟨23, _⟩ => ⟨S8192x4x128, .f32⟩
  | .hbm, ⟨24, _⟩ => ⟨S8192x4x128, .f32⟩
  | .hbm, ⟨25, _⟩ => ⟨S8192x4x128, .f32⟩
  | .hbm, ⟨26, _⟩ => ⟨S8192x4x128, .f32⟩
  | .hbm, ⟨27, _⟩ => ⟨S_, .f32⟩
  | .hbm, ⟨28, _⟩ => ⟨S8192x4x128, .f32⟩
  | .hbm, ⟨29, _⟩ => ⟨S8192x4x128, .f32⟩
  | .hbm, ⟨30, _⟩ => ⟨S_, .f32⟩
  | .hbm, ⟨31, _⟩ => ⟨S8192x4x128, .f32⟩
  | .hbm, ⟨32, _⟩ => ⟨S8192x4x128, .f32⟩
  | .hbm, ⟨33, _⟩ => ⟨S8192x4x128, .f32⟩
  | .hbm, ⟨34, _⟩ => ⟨S8192x4x128, .f32⟩
  | .hbm, ⟨35, _⟩ => ⟨S8192x512, .f32⟩
  | .hbm, ⟨36, _⟩ => ⟨S8192x512, .bf16⟩
  | .hbm, ⟨37, _⟩ => ⟨S1024x1024, .bf16⟩
  | .hbm, ⟨38, _⟩ => ⟨S1024x1024, .f32⟩
  | .hbm, ⟨39, _⟩ => ⟨S8192x512, .bf16⟩
  | .hbm, ⟨40, _⟩ => ⟨S8192x1024, .bf16⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel14.lean ====
abbrev S8x128 : Shape := ⟨2, ![8, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== Reference14Ideal.lean ====
abbrev S64x128 : Shape := ⟨2, ![64, 128]⟩
abbrev S8x8x128 : Shape := ⟨3, ![8, 8, 128]⟩
abbrev S8x1x1 : Shape := ⟨3, ![8, 1, 1]⟩
abbrev S8 : Shape := ⟨1, ![8]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x8x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.LoopF.lean ====
/- One trip of the forward loop, and the loop as an invariant over the pieces its trips write. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄G" => MT nD τ sig Unit (Elt F) ℕ (UR sig nD τ) ℕ

/-- The class of the forward loop's invariants. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10)

/-! ### `k0_t1_loop`: the generated invariant (classifier: affine) -/

/-- One trip's resources: what the region reads (arg2, arg3, arg4, arg5, arg6, arg7) at its
   contents, what it writes (arg8, arg9, arg10) at any. -/
abbrev Trip_k0_t1 (c : Dev nD) (arg2 : Memref sig .tc .vmem S2x512x512 .bf16) (arg3 : Memref sig .tc .vmem S2x512x512 .f32) (arg4 : Memref sig .tc .vmem S2x512x512 .bf16) (arg5 : Memref sig .tc .vmem S2x512x512 .bf16) (arg6 : Memref sig .tc .vmem S2x8x4x64x64 .f32) (arg7 : Memref sig .tc .vmem S2x8x8x128 .f32) (arg8 : Memref sig .tc .vmem S2x512x512 .f32) (arg9 : Memref sig .tc .vmem S2x8x4x128x128 .f32) (arg10 : Memref sig .tc .vmem S2x4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) (f_arg10 : BufTy.Contents (Elt F) arg10.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10))

/-- ONE TRIP of `k0_t1_loop` at a symbolic `k`, run by `sl_exec` (its rectangles' offsets closed
   forms of `k`, their geometry linear arithmetic): the pieces it writes into arg8, arg9, arg10 are
   the run's own finds — the witnesses `sl_close` assigns handing the buffers to the continuation,
   as functions of the contents the trip finds in the memrefs it loads back (arg10).
   `@[irreducible]`: cited, never unfolded. -/
@[irreducible] def trip_k0_t1 (𝒱 : Variants) (c : Dev nD) (bd : Option 𝒱.V) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    Σ' (L_arg8 : (BufTy.Contents (Elt F) arg10.view.ty → List (View.Piece (Elt F) S2x512x512 .f32))) (L_arg9 : (BufTy.Contents (Elt F) arg10.view.ty → List (View.Piece (Elt F) S2x8x4x128x128 .f32))) , { L_arg10 : (BufTy.Contents (Elt F) arg10.view.ty → List (View.Piece (Elt F) S2x4x128x128 .f32)) // ∀ (E : Set ℕ) (f_arg8 : BufTy.Contents (Elt F) arg8.view.ty) (f_arg9 : BufTy.Contents (Elt F) arg9.view.ty) (f_arg10 : BufTy.Contents (Elt F) arg10.view.ty),
      Trip_k0_t1 (F := F) c arg2 arg3 arg4 arg5 arg6 arg7 arg8 arg9 arg10 X_arg2 X_arg3 X_arg4 X_arg5 X_arg6 X_arg7 f_arg8 f_arg9 f_arg10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 k PUnit.unit)
          (fun _ => Trip_k0_t1 (F := F) c arg2 arg3 arg4 arg5 arg6 arg7 arg8 arg9 arg10 X_arg2 X_arg3 X_arg4 X_arg5 X_arg6 X_arg7 (arg8.view.writes (Elt F) f_arg8 (L_arg8 f_arg10)) (arg9.view.writes (Elt F) f_arg9 (L_arg9 f_arg10)) (arg10.view.writes (Elt F) f_arg10 (L_arg10 f_arg10))) } := by
  have hk : k.val < 8 := Nat.lt_of_lt_of_le k.isLt k0_t1_abs.2.1
  refine ⟨?_, ?_, ?_, fun E f_arg8 f_arg9 f_arg10 => ?run⟩
  case run =>
    unfold k0_t1_body
    iintro ⟨HR_arg2, HR_arg3, HR_arg4, HR_arg5, HR_arg6, HR_arg7, HW_arg8, HW_arg9, HW_arg10⟩
    sl_exec
    sl_step
    sl_close

/-- The trip's piece lists (plain projections of `trip_…`, for the recursion below to cite without
   its proof), at the contents the trip finds in the memrefs it loads back (arg10). -/
abbrev tripL_k0_t1 (𝒱 : Variants) (c : Dev nD) (bd : Option 𝒱.V) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f_arg10 : BufTy.Contents (Elt F) arg10.view.ty) : List (View.Piece (Elt F) S2x512x512 .f32) × List (View.Piece (Elt F) S2x8x4x128x128 .f32) × List (View.Piece (Elt F) S2x4x128x128 .f32) :=
  ((trip_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k).1 f_arg10, (trip_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k).2.1 f_arg10, (trip_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k).2.2.1 f_arg10)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg10 : BufTy.Contents (Elt F) arg10.view.ty) (k : ℕ) (prev : List (View.Piece (Elt F) S2x512x512 .f32) × List (View.Piece (Elt F) S2x8x4x128x128 .f32) × List (View.Piece (Elt F) S2x4x128x128 .f32)) : List (View.Piece (Elt F) S2x512x512 .f32) × List (View.Piece (Elt F) S2x8x4x128x128 .f32) × List (View.Piece (Elt F) S2x4x128x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 ⟨k, h⟩ (arg10.view.writes (Elt F) G_arg10 prev.2.2)).1 ++ prev.1, (tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 ⟨k, h⟩ (arg10.view.writes (Elt F) G_arg10 prev.2.2)).2.1 ++ prev.2.1, (tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 ⟨k, h⟩ (arg10.view.writes (Elt F) G_arg10 prev.2.2)).2.2 ++ prev.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg10 : BufTy.Contents (Elt F) arg10.view.ty) : ℕ → List (View.Piece (Elt F) S2x512x512 .f32) × List (View.Piece (Elt F) S2x8x4x128x128 .f32) × List (View.Piece (Elt F) S2x4x128x128 .f32)
  | 0 => ([], [], [])
  | k + 1 => pb_k0_t1Step 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k (pb_k0_t1 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k)

theorem pb_k0_t1_succ (𝒱 : Variants) (c : Dev nD) (bd : Option 𝒱.V) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg10 : BufTy.Contents (Elt F) arg10.view.ty) (k : Fin k0_t1_loop.trips) :
    pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 (k.val + 1)
      = ((tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k (arg10.view.writes (Elt F) G_arg10 (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k.val).2.2)).1 ++ (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k.val).1, (tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k (arg10.view.writes (Elt F) G_arg10 (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k.val).2.2)).2.1 ++ (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k.val).2.1, (tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k (arg10.view.writes (Elt F) G_arg10 (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k.val).2.2)).2.2 ++ (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k.val).2.2) := by
  rw [pb_k0_t1.eq_2]; unfold pb_k0_t1Step; exact dif_pos k.isLt

/-- THE INVARIANT before trip `k`: arg2, arg3, arg4, arg5, arg6, arg7 read at `X_·`; arg8, arg9,
   arg10 holding the pieces of the trips before `k` written over the contents at loop entry `G_·`
   (stated `∃ f, … ∗ ⌜f = …⌝`, so that a hypothesis of any contents matches and the equation is what
   is proved). -/
abbrev inv_k0_t1 (𝒱 : Variants) (c : Dev nD) (bd : Option 𝒱.V) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (G_arg10 : BufTy.Contents (Elt F) arg10.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k).1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k).2.1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg10 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg8 : BufTy.Contents (Elt F) arg8.view.ty) (G_arg9 : BufTy.Contents (Elt F) arg9.view.ty) (G_arg10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 where
  inv := inv_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 G_arg8 G_arg9 G_arg10
  step k acc := by
    iintro ⟨HR_arg2, HR_arg3, HR_arg4, HR_arg5, HR_arg6, HR_arg7, ⟨%f_arg8, HW_arg8, %h_arg8⟩, ⟨%f_arg9, HW_arg9, %h_arg9⟩, ⟨%f_arg10, HW_arg10, %h_arg10⟩⟩
    iapply (wp_wand_r Idealize.ShloMosaic.frame (wpE (defs₀ (F := F)) 𝒱 (c : Thread nD τ) bd) E)
    isplitl [HR_arg2 HR_arg3 HR_arg4 HR_arg5 HR_arg6 HR_arg7 HW_arg8 HW_arg9 HW_arg10]
    · iapply ((trip_k0_t1 (F := F) 𝒱 c bd i arg2 harg2 arg3 harg3 arg4 harg4 arg5 harg5 arg6 harg6 arg7 harg7 arg8 harg8 arg9 harg9 arg10 harg10 X_arg2 X_arg3 X_arg4 X_arg5 X_arg6 X_arg7 k).2.2.2 E f_arg8 f_arg9 f_arg10)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HW_arg8]; · iexact HW_arg8
      isplitl [HW_arg9]; · iexact HW_arg9
      iexact HW_arg10
    · iintro %_ ⟨HR_arg2, HR_arg3, HR_arg4, HR_arg5, HR_arg6, HR_arg7, HW_arg8, HW_arg9, HW_arg10⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      rw [pb_k0_t1_succ]
      isplitl [HW_arg8]
      · iexists _; isplitl [HW_arg8]; · iexact HW_arg8
        ipureintro; rw [h_arg10, h_arg8, ← View.writes_append]
      isplitl [HW_arg9]
      · iexists _; isplitl [HW_arg9]; · iexact HW_arg9
        ipureintro; rw [h_arg10, h_arg9, ← View.writes_append]
      iexists _; isplitl [HW_arg10]; · iexact HW_arg10
      ipureintro; rw [h_arg10, ← View.writes_append]

end Cert.KernelIdeal.Fwd

end
-- ==== Proof.FwdRuns.lean ====
/- What the runs of the forward region share: its blocks, its branch condition, its staging memrefs. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.LoopF
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))
/-- The region's buffers at its entry. -/
abbrev V (c : Dev nD) (b : Ref sig .tc) : Buf (Elt F) ((c : Thread nD τ).loc b) := m c b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- One staging buffer of output window 6, through which its contents are stated (`View.read_writes_of_cover`: the
    choice does not matter). -/
abbrev VO0_6 : View sig .tc .vmem S2x512x512 .f32 := (Memref.whole cc0_stg6_0 : Memref sig .tc .vmem S2x512x512 .f32).view
/-- One staging buffer of output window 7, through which its contents are stated (`View.read_writes_of_cover`: the
    choice does not matter). -/
abbrev VO0_7 : View sig .tc .vmem S2x8x4x128x128 .f32 := (Memref.whole cc0_stg7_0 : Memref sig .tc .vmem S2x8x4x128x128 .f32).view
/-- Each window's current staging memref at point `t`, spelled as the pipeline passes it (`bodyAt0`), and its wholeness. -/
abbrev ms0_0 (t : Fin cfg0.N) : Memref sig .tc .vmem S2x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8x4x64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x8x4x128x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x4x128x128 .f32 := Memref.whole cc0_scratch0
/-- The scratch `arg10` the kernel carries between points, as a view: what it holds is stated through it. -/
abbrev VS0_0 : View sig .tc .vmem S2x4x128x128 .f32 := scM0_0.view

/-- Everything scoped that is neither a staging buffer of this region nor its scratch, with the generator register. -/
def restE (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The class invariant with the carried scratch apart. -/
theorem PhiA0_eq (c : Dev nD) :
    (Pipeline.ΦA spec0 c : sProp 𝕄)
      = iprop(iprop((∃ d, owns (c : Thread nD τ) scM0_0 fullShare d)) ∗ restE c) := by
  unfold Pipeline.ΦA restE
  rw [Pipeline.scopedRest_split_of_list spec0 c [cc0_scratch0] (by decide) (by decide)]
  simp only [scM0_0, owns_whole]
  exact Idealize.SL.BI.Entails.antisymm Idealize.SL.BI.sep_assoc Idealize.SL.BI.sep_assoc'

end Cert.KernelIdeal.Fwd

end
-- ==== Proof.FwdRunA.lean ====
/- One run of the forward body (at the first point of a pair of sequences). -/
module

public import proofs.«01_k».proof.Proof.FwdRuns

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))

-- (the run's proof term is large: the definition's epilogue — `abstractNestedProofs` — walks it past the default budget)
set_option maxHeartbeats 1000000 in
/-- What the body's stores leave in each output's staging memref, as pieces (last first) IN CASE A (`scf.if` 0 taken: points 0, 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) :
    Σ' (L6 : List (View.Piece (Elt F) S2x512x512 .f32)), Σ' (L7 : List (View.Piece (Elt F) S2x8x4x128x128 .f32)), { LS0 : List (View.Piece (Elt F) S2x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_delta_seq_fwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_delta_seq_fwd_eq_skeleton]; unfold cc0_delta_seq_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Fwd

end
-- ==== Proof.FwdRunB.lean ====
/- One run of the forward body (at a later point). -/
module

public import proofs.«01_k».proof.Proof.FwdRuns

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))

-- (the run's proof term is large: the definition's epilogue — `abstractNestedProofs` — walks it past the default budget)
set_option maxHeartbeats 1000000 in
/-- What the body's stores leave in each output's staging memref, as pieces (last first) IN CASE B (`scf.if` 0 not taken: points 1, 2, 3, 5, 6, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : ¬cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (xs0 : Vec F S2x4x128x128 .f32) :
    Σ' (L6 : List (View.Piece (Elt F) S2x512x512 .f32)), Σ' (L7 : List (View.Piece (Elt F) S2x8x4x128x128 .f32)), { LS0 : List (View.Piece (Elt F) S2x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_delta_seq_fwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_delta_seq_fwd_eq_skeleton]; unfold cc0_delta_seq_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Fwd

end
-- ==== Proof.FwdFrame.lean ====
/- What the forward region leaves point by point, and its body obligation. -/
module

public import proofs.«01_k».proof.Proof.FwdRunA
public import proofs.«01_k».proof.Proof.FwdRunB
public import Idealize.ShloMosaic.Lib.Claim

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))

/-- Case A's pieces for output 6 tile its block (64 stores of `S1x64x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (y : S2x512x512.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S1x64x128.size (by sl_kernel_rfl) y

/-- What case A leaves in output 6's staging buffer: its pieces read back over junk. -/
def out0_A_6 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) : Vec F S2x512x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

/-- Case A's pieces for output 7 tile its block (64 stores of `S1x1x1x128x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (y : S2x8x4x128x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1x1x1x128x128.size (by sl_kernel_rfl) y

/-- What case A leaves in output 7's staging buffer: its pieces read back over junk. -/
def out0_A_7 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) : Vec F S2x8x4x128x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

/-- Case A's pieces for scratch `arg10`, which the kernel carries between points, cover it: one of them a store of the WHOLE buffer (Lib/Ring.lean `sl_whole_mem`). -/
theorem scover0_A_0 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (y : S2x4x128x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 hc0 x0 x1 x2 x3 x4 x5).2.2.1 (by sl_whole_mem) y

/-- What case A leaves in scratch `arg10`: its pieces read back over junk. -/
def sout0_A_0 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) : Vec F S2x4x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5).2.2.1)

/-- Case B's pieces for output 6 tile its block (64 stores of `S1x64x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : ¬cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (xs0 : Vec F S2x4x128x128 .f32) (y : S2x512x512.Idx) :
    ∃ pc ∈ (kernelRun0_B c i arg2 harg2 arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xs0).1 S1x64x128.size (by sl_kernel_rfl) y

/-- What case B leaves in output 6's staging buffer: its pieces read back over junk. -/
def out0_B_6 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : ¬cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (xs0 : Vec F S2x4x128x128 .f32) : Vec F S2x512x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xs0).1)

/-- Case B's pieces for output 7 tile its block (64 stores of `S1x1x1x128x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : ¬cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (xs0 : Vec F S2x4x128x128 .f32) (y : S2x8x4x128x128.Idx) :
    ∃ pc ∈ (kernelRun0_B c i arg2 harg2 arg3 harg3 arg4 harg4 arg5 harg5 arg6 harg6 arg7 harg7 arg8 harg8 arg9 harg9 arg10 harg10 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xs0).2.1 S1x1x1x128x128.size (by sl_kernel_rfl) y

/-- What case B leaves in output 7's staging buffer: its pieces read back over junk. -/
def out0_B_7 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : ¬cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (xs0 : Vec F S2x4x128x128 .f32) : Vec F S2x8x4x128x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 xs0).2.1)

/-- Case B's pieces for scratch `arg10`, which the kernel carries between points, cover it: 64 pieces of `S1x1x128x128` tiling it (Lib/Ring.lean `Piece.tiledL`). -/
theorem scover0_B_0 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : ¬cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (xs0 : Vec F S2x4x128x128 .f32) (y : S2x4x128x128.Idx) :
    ∃ pc ∈ (kernelRun0_B c i arg2 harg2 arg3 harg3 arg4 harg4 arg5 harg5 arg6 harg6 arg7 harg7 arg8 harg8 arg9 harg9 arg10 harg10 hc0 x0 x1 x2 x3 x4 x5 xs0).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xs0).2.2.1 S1x1x128x128.size (by sl_kernel_rfl) y

/-- What case B leaves in scratch `arg10`: its pieces read back over junk. -/
def sout0_B_0 (c : Dev nD) (i : grid0.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x512x512 .f32) (harg8 : arg8.IsWhole) (arg9 : Memref sig .tc .vmem S2x8x4x128x128 .f32) (harg9 : arg9.IsWhole) (arg10 : Memref sig .tc .vmem S2x4x128x128 .f32) (harg10 : arg10.IsWhole) (hc0 : ¬cond0_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (xs0 : Vec F S2x4x128x128 .f32) : Vec F S2x4x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 x0 x1 x2 x3 x4 x5 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x512x512 .f32 × Vec F S2x8x4x128x128 .f32 × Vec F S2x4x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a point of case A: that case's contents. -/
theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ restE c)

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ restE c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ restE c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · rw [PhiS_castSucc m c t, PhiS_pos m c _ _ hz]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

end Cert.KernelIdeal.Fwd

end
-- ==== Proof.LoopB.lean ====
/- One trip of the backward loop, and the loop as an invariant over the pieces its trips write. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄G" => MT nD τ sig Unit (Elt F) ℕ (UR sig nD τ) ℕ

/-- The class of the backward loop's invariants. -/
abbrev LoopInvTy_k1_t1 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) :=
  Idealize.ShloMosaic.LoopInv (M := MT nD τ sig Ix (Elt F) Name U Lvl) Idealize.ShloMosaic.frame (wpE defs₀ 𝒱 (c : Thread nD τ) bd) E
    k1_t1_loop.lb k1_t1_loop.ub k1_t1_loop.st k1_t1_ok () (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)

/-! ### `k1_t1_loop`: the generated invariant (classifier: affine) -/

/-- One trip's resources: what the region reads (arg2, arg3, arg4, arg5, arg6, arg7, arg8, arg9) at
   its contents, what it writes (arg10, arg11, arg12, arg13, arg14, arg15, arg16) at any. -/
abbrev Trip_k1_t1 (c : Dev nD) (arg2 : Memref sig .tc .vmem S2x512x512 .bf16) (arg3 : Memref sig .tc .vmem S2x512x512 .f32) (arg4 : Memref sig .tc .vmem S2x512x512 .bf16) (arg5 : Memref sig .tc .vmem S2x512x512 .bf16) (arg6 : Memref sig .tc .vmem S2x8x4x64x64 .f32) (arg7 : Memref sig .tc .vmem S2x8x8x128 .f32) (arg8 : Memref sig .tc .vmem S2x8x4x128x128 .f32) (arg9 : Memref sig .tc .vmem S2x512x512 .f32) (arg10 : Memref sig .tc .vmem S2x512x512 .f32) (arg11 : Memref sig .tc .vmem S2x512x512 .f32) (arg12 : Memref sig .tc .vmem S2x512x512 .f32) (arg13 : Memref sig .tc .vmem S2x512x512 .f32) (arg14 : Memref sig .tc .vmem S2x8x4x64x64 .f32) (arg15 : Memref sig .tc .vmem S2x8x8x128 .f32) (arg16 : Memref sig .tc .vmem S2x4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

/-- ONE TRIP of `k1_t1_loop` at a symbolic `k`, run by `sl_exec` (its rectangles' offsets closed
   forms of `k`, their geometry linear arithmetic): the pieces it writes into arg10, arg11, arg12,
   arg13, arg14, arg15, arg16 are the run's own finds — the witnesses `sl_close` assigns handing the
   buffers to the continuation, as functions of the contents the trip finds in the memrefs it loads
   back (arg16). `@[irreducible]`: cited, never unfolded. -/
@[irreducible] def trip_k1_t1 (𝒱 : Variants) (c : Dev nD) (bd : Option 𝒱.V) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k1_t1_loop.trips) :
    Σ' (L_arg10 : (BufTy.Contents (Elt F) arg16.view.ty → List (View.Piece (Elt F) S2x512x512 .f32))) (L_arg11 : (BufTy.Contents (Elt F) arg16.view.ty → List (View.Piece (Elt F) S2x512x512 .f32))) (L_arg12 : (BufTy.Contents (Elt F) arg16.view.ty → List (View.Piece (Elt F) S2x512x512 .f32))) (L_arg13 : (BufTy.Contents (Elt F) arg16.view.ty → List (View.Piece (Elt F) S2x512x512 .f32))) (L_arg14 : (BufTy.Contents (Elt F) arg16.view.ty → List (View.Piece (Elt F) S2x8x4x64x64 .f32))) (L_arg15 : (BufTy.Contents (Elt F) arg16.view.ty → List (View.Piece (Elt F) S2x8x8x128 .f32))) , { L_arg16 : (BufTy.Contents (Elt F) arg16.view.ty → List (View.Piece (Elt F) S2x4x128x128 .f32)) // ∀ (E : Set ℕ) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty),
      Trip_k1_t1 (F := F) c arg2 arg3 arg4 arg5 arg6 arg7 arg8 arg9 arg10 arg11 arg12 arg13 arg14 arg15 arg16 X_arg2 X_arg3 X_arg4 X_arg5 X_arg6 X_arg7 X_arg8 X_arg9 f_arg10 f_arg11 f_arg12 f_arg13 f_arg14 f_arg15 f_arg16
      ⊢ wp frame (wpE (defs₀ (F := F)) 𝒱 (c : Thread nD τ) bd) E (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k PUnit.unit)
          (fun _ => Trip_k1_t1 (F := F) c arg2 arg3 arg4 arg5 arg6 arg7 arg8 arg9 arg10 arg11 arg12 arg13 arg14 arg15 arg16 X_arg2 X_arg3 X_arg4 X_arg5 X_arg6 X_arg7 X_arg8 X_arg9 (arg10.view.writes (Elt F) f_arg10 (L_arg10 f_arg16)) (arg11.view.writes (Elt F) f_arg11 (L_arg11 f_arg16)) (arg12.view.writes (Elt F) f_arg12 (L_arg12 f_arg16)) (arg13.view.writes (Elt F) f_arg13 (L_arg13 f_arg16)) (arg14.view.writes (Elt F) f_arg14 (L_arg14 f_arg16)) (arg15.view.writes (Elt F) f_arg15 (L_arg15 f_arg16)) (arg16.view.writes (Elt F) f_arg16 (L_arg16 f_arg16))) } := by
  have hk : k.val < 8 := Nat.lt_of_lt_of_le k.isLt k1_t1_abs.2.1
  refine ⟨?_, ?_, ?_, ?_, ?_, ?_, ?_, fun E f_arg10 f_arg11 f_arg12 f_arg13 f_arg14 f_arg15 f_arg16 => ?run⟩
  case run =>
    unfold k1_t1_body
    iintro ⟨HR_arg2, HR_arg3, HR_arg4, HR_arg5, HR_arg6, HR_arg7, HR_arg8, HR_arg9, HW_arg10, HW_arg11, HW_arg12, HW_arg13, HW_arg14, HW_arg15, HW_arg16⟩
    sl_exec
    sl_step
    sl_close

/-- The trip's piece lists (plain projections of `trip_…`, for the recursion below to cite without
   its proof), at the contents the trip finds in the memrefs it loads back (arg16). -/
abbrev tripL_k1_t1 (𝒱 : Variants) (c : Dev nD) (bd : Option 𝒱.V) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k1_t1_loop.trips) (f_arg16 : BufTy.Contents (Elt F) arg16.view.ty) : List (View.Piece (Elt F) S2x512x512 .f32) × List (View.Piece (Elt F) S2x512x512 .f32) × List (View.Piece (Elt F) S2x512x512 .f32) × List (View.Piece (Elt F) S2x512x512 .f32) × List (View.Piece (Elt F) S2x8x4x64x64 .f32) × List (View.Piece (Elt F) S2x8x8x128 .f32) × List (View.Piece (Elt F) S2x4x128x128 .f32) :=
  ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).1 f_arg16, (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.1 f_arg16, (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.1 f_arg16, (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.1 f_arg16, (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.2.1 f_arg16, (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.2.2.1 f_arg16, (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.2.2.2.1 f_arg16)

/-- Trip `k`'s contribution to the state the recursion `pb_k1_t1` below carries (`prev`): its pieces
   in front, per written memref; past the last trip, `prev` itself. -/
@[irreducible] def pb_k1_t1Step (𝒱 : Variants) (c : Dev nD) (bd : Option 𝒱.V) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg16 : BufTy.Contents (Elt F) arg16.view.ty) (k : ℕ) (prev : List (View.Piece (Elt F) S2x512x512 .f32) × List (View.Piece (Elt F) S2x512x512 .f32) × List (View.Piece (Elt F) S2x512x512 .f32) × List (View.Piece (Elt F) S2x512x512 .f32) × List (View.Piece (Elt F) S2x8x4x64x64 .f32) × List (View.Piece (Elt F) S2x8x8x128 .f32) × List (View.Piece (Elt F) S2x4x128x128 .f32)) : List (View.Piece (Elt F) S2x512x512 .f32) × List (View.Piece (Elt F) S2x512x512 .f32) × List (View.Piece (Elt F) S2x512x512 .f32) × List (View.Piece (Elt F) S2x512x512 .f32) × List (View.Piece (Elt F) S2x8x4x64x64 .f32) × List (View.Piece (Elt F) S2x8x8x128 .f32) × List (View.Piece (Elt F) S2x4x128x128 .f32) :=
  if h : k < k1_t1_loop.trips then
    ((tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 ⟨k, h⟩ (arg16.view.writes (Elt F) G_arg16 prev.2.2.2.2.2.2)).1 ++ prev.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 ⟨k, h⟩ (arg16.view.writes (Elt F) G_arg16 prev.2.2.2.2.2.2)).2.1 ++ prev.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 ⟨k, h⟩ (arg16.view.writes (Elt F) G_arg16 prev.2.2.2.2.2.2)).2.2.1 ++ prev.2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 ⟨k, h⟩ (arg16.view.writes (Elt F) G_arg16 prev.2.2.2.2.2.2)).2.2.2.1 ++ prev.2.2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 ⟨k, h⟩ (arg16.view.writes (Elt F) G_arg16 prev.2.2.2.2.2.2)).2.2.2.2.1 ++ prev.2.2.2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 ⟨k, h⟩ (arg16.view.writes (Elt F) G_arg16 prev.2.2.2.2.2.2)).2.2.2.2.2.1 ++ prev.2.2.2.2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 ⟨k, h⟩ (arg16.view.writes (Elt F) G_arg16 prev.2.2.2.2.2.2)).2.2.2.2.2.2 ++ prev.2.2.2.2.2.2)
  else prev

/-- The pieces of the trips before `k` (last first), per written memref, starting from the contents
   `G_·` at loop entry; each trip's pieces taken at the contents the earlier trips left. -/
def pb_k1_t1 (𝒱 : Variants) (c : Dev nD) (bd : Option 𝒱.V) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg16 : BufTy.Contents (Elt F) arg16.view.ty) : ℕ → List (View.Piece (Elt F) S2x512x512 .f32) × List (View.Piece (Elt F) S2x512x512 .f32) × List (View.Piece (Elt F) S2x512x512 .f32) × List (View.Piece (Elt F) S2x512x512 .f32) × List (View.Piece (Elt F) S2x8x4x64x64 .f32) × List (View.Piece (Elt F) S2x8x8x128 .f32) × List (View.Piece (Elt F) S2x4x128x128 .f32)
  | 0 => ([], [], [], [], [], [], [])
  | k + 1 => pb_k1_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k (pb_k1_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k)

theorem pb_k1_t1_succ (𝒱 : Variants) (c : Dev nD) (bd : Option 𝒱.V) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg16 : BufTy.Contents (Elt F) arg16.view.ty) (k : Fin k1_t1_loop.trips) :
    pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 (k.val + 1)
      = ((tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k (arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2)).1 ++ (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k (arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2)).2.1 ++ (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k (arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2)).2.2.1 ++ (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k (arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2)).2.2.2.1 ++ (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k (arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2)).2.2.2.2.1 ++ (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k (arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2)).2.2.2.2.2.1 ++ (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.1, (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k (arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2)).2.2.2.2.2.2 ++ (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k.val).2.2.2.2.2.2) := by
  rw [pb_k1_t1.eq_2]; unfold pb_k1_t1Step; exact dif_pos k.isLt

/-- THE INVARIANT before trip `k`: arg2, arg3, arg4, arg5, arg6, arg7, arg8, arg9 read at `X_·`;
   arg10, arg11, arg12, arg13, arg14, arg15, arg16 holding the pieces of the trips before `k`
   written over the contents at loop entry `G_·` (stated `∃ f, … ∗ ⌜f = …⌝`, so that a hypothesis of
   any contents matches and the equation is what is proved). -/
abbrev inv_k1_t1 (𝒱 : Variants) (c : Dev nD) (bd : Option 𝒱.V) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg10.view.loc (c : Thread nD τ) ↦[arg10.view.set]{fullShare} f) ∗ ⌜f = arg10.view.writes (Elt F) G_arg10 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k).1⌝) ∗ (∃ f, (arg11.view.loc (c : Thread nD τ) ↦[arg11.view.set]{fullShare} f) ∗ ⌜f = arg11.view.writes (Elt F) G_arg11 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k).2.1⌝) ∗ (∃ f, (arg12.view.loc (c : Thread nD τ) ↦[arg12.view.set]{fullShare} f) ∗ ⌜f = arg12.view.writes (Elt F) G_arg12 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k).2.2.1⌝) ∗ (∃ f, (arg13.view.loc (c : Thread nD τ) ↦[arg13.view.set]{fullShare} f) ∗ ⌜f = arg13.view.writes (Elt F) G_arg13 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k).2.2.2.1⌝) ∗ (∃ f, (arg14.view.loc (c : Thread nD τ) ↦[arg14.view.set]{fullShare} f) ∗ ⌜f = arg14.view.writes (Elt F) G_arg14 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k).2.2.2.2.1⌝) ∗ (∃ f, (arg15.view.loc (c : Thread nD τ) ↦[arg15.view.set]{fullShare} f) ∗ ⌜f = arg15.view.writes (Elt F) G_arg15 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k).2.2.2.2.2.1⌝) ∗ (∃ f, (arg16.view.loc (c : Thread nD τ) ↦[arg16.view.set]{fullShare} f) ∗ ⌜f = arg16.view.writes (Elt F) G_arg16 (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg16 k).2.2.2.2.2.2⌝))

set_option warn.classDefReducibility false in
/-- THE LOOP BY ITS INVARIANT — generated (`@[sl_loop]`: `sl_exec` finds it meeting `k1_t1_loop`,
   fixing `X_· G_·` against the context; after the loop each written memref holds `writes G (pb …
   trips)`). -/
@[sl_loop] def loopInv_k1_t1 (𝒱 : Variants) (c : Dev nD) (bd : Option 𝒱.V) (E : Set ℕ) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    LoopInvTy_k1_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv := inv_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 G_arg10 G_arg11 G_arg12 G_arg13 G_arg14 G_arg15 G_arg16
  step k acc := by
    iintro ⟨HR_arg2, HR_arg3, HR_arg4, HR_arg5, HR_arg6, HR_arg7, HR_arg8, HR_arg9, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HW_arg10 HW_arg11 HW_arg12 HW_arg13 HW_arg14 HW_arg15 HW_arg16]
    · iapply ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg5 X_arg6 X_arg7 X_arg8 X_arg9 k).2.2.2.2.2.2.2 E f_arg10 f_arg11 f_arg12 f_arg13 f_arg14 f_arg15 f_arg16)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HW_arg10]; · iexact HW_arg10
      isplitl [HW_arg11]; · iexact HW_arg11
      isplitl [HW_arg12]; · iexact HW_arg12
      isplitl [HW_arg13]; · iexact HW_arg13
      isplitl [HW_arg14]; · iexact HW_arg14
      isplitl [HW_arg15]; · iexact HW_arg15
      iexact HW_arg16
    · iintro %_ ⟨HR_arg2, HR_arg3, HR_arg4, HR_arg5, HR_arg6, HR_arg7, HR_arg8, HR_arg9, HW_arg10, HW_arg11, HW_arg12, HW_arg13, HW_arg14, HW_arg15, HW_arg16⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      rw [pb_k1_t1_succ]
      isplitl [HW_arg10]
      · iexists _; isplitl [HW_arg10]; · iexact HW_arg10
        ipureintro; rw [h_arg16, h_arg10, ← View.writes_append]
      isplitl [HW_arg11]
      · iexists _; isplitl [HW_arg11]; · iexact HW_arg11
        ipureintro; rw [h_arg16, h_arg11, ← View.writes_append]
      isplitl [HW_arg12]
      · iexists _; isplitl [HW_arg12]; · iexact HW_arg12
        ipureintro; rw [h_arg16, h_arg12, ← View.writes_append]
      isplitl [HW_arg13]
      · iexists _; isplitl [HW_arg13]; · iexact HW_arg13
        ipureintro; rw [h_arg16, h_arg13, ← View.writes_append]
      isplitl [HW_arg14]
      · iexists _; isplitl [HW_arg14]; · iexact HW_arg14
        ipureintro; rw [h_arg16, h_arg14, ← View.writes_append]
      isplitl [HW_arg15]
      · iexists _; isplitl [HW_arg15]; · iexact HW_arg15
        ipureintro; rw [h_arg16, h_arg15, ← View.writes_append]
      iexists _; isplitl [HW_arg16]; · iexact HW_arg16
      ipureintro; rw [h_arg16, ← View.writes_append]

end Cert.KernelIdeal.Bwd

end
-- ==== Proof.BwdRuns.lean ====
/- What the runs of the backward region share: its blocks, its branch condition, its staging memrefs. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.LoopB
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))
/-- The region's buffers at its entry. -/
abbrev V (c : Dev nD) (b : Ref sig .tc) : Buf (Elt F) ((c : Thread nD τ).loc b) := m c b

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 4) — by arithmetic of the point. -/
theorem hcond1_0 : ∀ t : Fin cfg1.N, cond1_0 (grid1.coords t) ↔ t.val % 4 = 0 :=
  (fun t => by
    have ht : t.val < 8 := Nat.lt_of_lt_of_eq t.isLt N_1
    have e0 : (grid1.coords t 0).val = t.val / 4 % 2 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-! ## The kernel body on any staging memrefs: a subtype the run finds -/

/-- One staging buffer of output window 8, through which its contents are stated (`View.read_writes_of_cover`: the
    choice does not matter). -/
abbrev VO1_8 : View sig .tc .vmem S2x512x512 .f32 := (Memref.whole cc1_stg8_0 : Memref sig .tc .vmem S2x512x512 .f32).view
/-- One staging buffer of output window 9, through which its contents are stated (`View.read_writes_of_cover`: the
    choice does not matter). -/
abbrev VO1_9 : View sig .tc .vmem S2x512x512 .f32 := (Memref.whole cc1_stg9_0 : Memref sig .tc .vmem S2x512x512 .f32).view
/-- One staging buffer of output window 10, through which its contents are stated (`View.read_writes_of_cover`: the
    choice does not matter). -/
abbrev VO1_10 : View sig .tc .vmem S2x512x512 .f32 := (Memref.whole cc1_stg10_0 : Memref sig .tc .vmem S2x512x512 .f32).view
/-- One staging buffer of output window 11, through which its contents are stated (`View.read_writes_of_cover`: the
    choice does not matter). -/
abbrev VO1_11 : View sig .tc .vmem S2x512x512 .f32 := (Memref.whole cc1_stg11_0 : Memref sig .tc .vmem S2x512x512 .f32).view
/-- One staging buffer of output window 12, through which its contents are stated (`View.read_writes_of_cover`: the
    choice does not matter). -/
abbrev VO1_12 : View sig .tc .vmem S2x8x4x64x64 .f32 := (Memref.whole cc1_stg12_0 : Memref sig .tc .vmem S2x8x4x64x64 .f32).view
/-- One staging buffer of output window 13, through which its contents are stated (`View.read_writes_of_cover`: the
    choice does not matter). -/
abbrev VO1_13 : View sig .tc .vmem S2x8x8x128 .f32 := (Memref.whole cc1_stg13_0 : Memref sig .tc .vmem S2x8x8x128 .f32).view
/-- Each window's current staging memref at point `t`, spelled as the pipeline passes it (`bodyAt1`), and its wholeness. -/
abbrev ms1_0 (t : Fin cfg1.N) : Memref sig .tc .vmem S2x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x8x4x64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x8x8x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x8x4x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x512x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x512x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2x512x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2x512x512 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2x512x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2x8x4x64x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S2x8x8x128 .f32 := win1_13.stage (cfg1.slots t 13)
abbrev hs1_13 (t : Fin cfg1.N) : (ms1_13 t).IsWhole := hstage1_13 ((cfg1.slots t 13).cast nbuf1_13)
/-- The scratch operands: whole scoped buffers of the kernel's own, passed beside the windows. -/
abbrev scM1_0 : Memref sig .tc .vmem S2x4x128x128 .f32 := Memref.whole cc1_scratch0
/-- The scratch `arg16` the kernel carries between points, as a view: what it holds is stated through it. -/
abbrev VS1_0 : View sig .tc .vmem S2x4x128x128 .f32 := scM1_0.view

/-- Everything scoped that is neither a staging buffer of this region nor its scratch, with the generator register. -/
def restE (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The class invariant with the carried scratch apart. -/
theorem PhiA1_eq (c : Dev nD) :
    (Pipeline.ΦA spec1 c : sProp 𝕄)
      = iprop(iprop((∃ d, owns (c : Thread nD τ) scM1_0 fullShare d)) ∗ restE c) := by
  unfold Pipeline.ΦA restE
  rw [Pipeline.scopedRest_split_of_list spec1 c [cc1_scratch0] (by decide) (by decide)]
  simp only [scM1_0, owns_whole]
  exact Idealize.SL.BI.Entails.antisymm Idealize.SL.BI.sep_assoc Idealize.SL.BI.sep_assoc'

end Cert.KernelIdeal.Bwd

end
-- ==== Proof.BwdRunA.lean ====
/- One run of the backward body (at the first point of a pair of sequences). -/
module

public import proofs.«01_k».proof.Proof.BwdRuns

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))

-- (the run's proof term is large: the definition's epilogue — `abstractNestedProofs` — walks it past the default budget)
set_option maxHeartbeats 1000000 in
/-- What the body's stores leave in each output's staging memref, as pieces (last first) IN CASE A (`scf.if` 0 taken: points 0, 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) :
    Σ' (L8 : List (View.Piece (Elt F) S2x512x512 .f32)), Σ' (L9 : List (View.Piece (Elt F) S2x512x512 .f32)), Σ' (L10 : List (View.Piece (Elt F) S2x512x512 .f32)), Σ' (L11 : List (View.Piece (Elt F) S2x512x512 .f32)), Σ' (L12 : List (View.Piece (Elt F) S2x8x4x64x64 .f32)), Σ' (L13 : List (View.Piece (Elt F) S2x8x8x128 .f32)), { LS0 : List (View.Piece (Elt F) S2x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc1_delta_seq_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc1_delta_seq_bwd_eq_skeleton]; unfold cc1_delta_seq_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdRunB.lean ====
/- One run of the backward body (at a later point). -/
module

public import proofs.«01_k».proof.Proof.BwdRuns

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))

-- (the run's proof term is large: the definition's epilogue — `abstractNestedProofs` — walks it past the default budget)
set_option maxHeartbeats 1000000 in
/-- What the body's stores leave in each output's staging memref, as pieces (last first) IN CASE B (`scf.if` 0 not taken: points 1, 2, 3, 5, 6, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) :
    Σ' (L8 : List (View.Piece (Elt F) S2x512x512 .f32)), Σ' (L9 : List (View.Piece (Elt F) S2x512x512 .f32)), Σ' (L10 : List (View.Piece (Elt F) S2x512x512 .f32)), Σ' (L11 : List (View.Piece (Elt F) S2x512x512 .f32)), Σ' (L12 : List (View.Piece (Elt F) S2x8x4x64x64 .f32)), Σ' (L13 : List (View.Piece (Elt F) S2x8x8x128 .f32)), { LS0 : List (View.Piece (Elt F) S2x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc1_delta_seq_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc1_delta_seq_bwd_eq_skeleton]; unfold cc1_delta_seq_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg16.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdFrame.lean ====
/- What the backward region leaves point by point, and its body obligation. -/
module

public import proofs.«01_k».proof.Proof.BwdRunA
public import proofs.«01_k».proof.Proof.BwdRunB
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- What the region's buffers hold when it is entered. -/
variable (m : Dev nD → Valuation τ sig (Elt F))

/-- Case A's pieces for output 8 tile its block (64 stores of `S1x64x128`, checked by the kernel's evaluation: Lib/Ring.lean `Piece.tiledL`, linear in the pieces, through a loop's `@[irreducible]` trip theorem too), so they cover it. -/
theorem cover1_A_8 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (y : S2x512x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1 S1x64x128.size (by sl_kernel_rfl) y

/-- What case A leaves in output 8's staging buffer: its pieces read back over junk. -/
def out1_A_8 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) : Vec F S2x512x512 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1)

/-- Case A's pieces for output 9 tile its block (64 stores of `S1x64x128`, checked by the kernel's evaluation: Lib/Ring.lean `Piece.tiledL`, linear in the pieces, through a loop's `@[irreducible]` trip theorem too), so they cover it. -/
theorem cover1_A_9 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (y : S2x512x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1 S1x64x128.size (by sl_kernel_rfl) y

/-- What case A leaves in output 9's staging buffer: its pieces read back over junk. -/
def out1_A_9 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) : Vec F S2x512x512 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1)

/-- Case A's pieces for output 10 tile its block (64 stores of `S1x64x128`, checked by the kernel's evaluation: Lib/Ring.lean `Piece.tiledL`, linear in the pieces, through a loop's `@[irreducible]` trip theorem too), so they cover it. -/
theorem cover1_A_10 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (y : S2x512x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 S1x64x128.size (by sl_kernel_rfl) y

/-- What case A leaves in output 10's staging buffer: its pieces read back over junk. -/
def out1_A_10 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) : Vec F S2x512x512 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1)

/-- Case A's pieces for output 11 tile its block (64 stores of `S1x64x128`, checked by the kernel's evaluation: Lib/Ring.lean `Piece.tiledL`, linear in the pieces, through a loop's `@[irreducible]` trip theorem too), so they cover it. -/
theorem cover1_A_11 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (y : S2x512x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 S1x64x128.size (by sl_kernel_rfl) y

/-- What case A leaves in output 11's staging buffer: its pieces read back over junk. -/
def out1_A_11 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) : Vec F S2x512x512 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1)

/-- Case A's pieces for output 12 tile its block (64 stores of `S1x1x1x64x64`, checked by the kernel's evaluation: Lib/Ring.lean `Piece.tiledL`, linear in the pieces, through a loop's `@[irreducible]` trip theorem too), so they cover it. -/
theorem cover1_A_12 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (y : S2x8x4x64x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1 S1x1x1x64x64.size (by sl_kernel_rfl) y

/-- What case A leaves in output 12's staging buffer: its pieces read back over junk. -/
def out1_A_12 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) : Vec F S2x8x4x64x64 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1)

/-- Case A's pieces for output 13 are of SEVERAL sizes (80 stores of `S1x1x1x128`, `S1x1x8x128`): cut into blocks of `![1, 1, 1, 128]` they tile its block (checked by the kernel's evaluation: Lib/Ring.lean `Piece.tiledBy`), so they cover it. -/
theorem cover1_A_13 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (y : S2x8x8x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1, y ∈ pc.1.set :=
  View.cover_of_tiledBy (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1 ![1, 1, 1, 128] (by sl_kernel_rfl) y

/-- What case A leaves in output 13's staging buffer: its pieces read back over junk. -/
def out1_A_13 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) : Vec F S2x8x8x128 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1)

/-- Case A's pieces for scratch `arg16`, which the kernel carries between points, cover it: one of them a store of the WHOLE buffer (Lib/Ring.lean `sl_whole_mem`). -/
theorem scover1_A_0 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (y : S2x4x128x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1, y ∈ pc.1.set :=
  View.cover_of_wholeMem (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1 (by sl_whole_mem) y

/-- What case A leaves in scratch `arg16`: its pieces read back over junk. -/
def sout1_A_0 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) : Vec F S2x4x128x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1)

/-- Case B's pieces for output 8 tile its block (64 stores of `S1x64x128`, checked by the kernel's evaluation: Lib/Ring.lean `Piece.tiledL`, linear in the pieces, through a loop's `@[irreducible]` trip theorem too), so they cover it. -/
theorem cover1_B_8 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) (y : S2x512x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).1 S1x64x128.size (by sl_kernel_rfl) y

/-- What case B leaves in output 8's staging buffer: its pieces read back over junk. -/
def out1_B_8 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) : Vec F S2x512x512 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).1)

/-- Case B's pieces for output 9 tile its block (64 stores of `S1x64x128`, checked by the kernel's evaluation: Lib/Ring.lean `Piece.tiledL`, linear in the pieces, through a loop's `@[irreducible]` trip theorem too), so they cover it. -/
theorem cover1_B_9 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) (y : S2x512x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.1 S1x64x128.size (by sl_kernel_rfl) y

/-- What case B leaves in output 9's staging buffer: its pieces read back over junk. -/
def out1_B_9 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) : Vec F S2x512x512 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.1)

/-- Case B's pieces for output 10 tile its block (64 stores of `S1x64x128`, checked by the kernel's evaluation: Lib/Ring.lean `Piece.tiledL`, linear in the pieces, through a loop's `@[irreducible]` trip theorem too), so they cover it. -/
theorem cover1_B_10 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) (y : S2x512x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.1 S1x64x128.size (by sl_kernel_rfl) y

/-- What case B leaves in output 10's staging buffer: its pieces read back over junk. -/
def out1_B_10 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) : Vec F S2x512x512 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.1)

/-- Case B's pieces for output 11 tile its block (64 stores of `S1x64x128`, checked by the kernel's evaluation: Lib/Ring.lean `Piece.tiledL`, linear in the pieces, through a loop's `@[irreducible]` trip theorem too), so they cover it. -/
theorem cover1_B_11 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) (y : S2x512x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.1 S1x64x128.size (by sl_kernel_rfl) y

/-- What case B leaves in output 11's staging buffer: its pieces read back over junk. -/
def out1_B_11 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) : Vec F S2x512x512 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.1)

/-- Case B's pieces for output 12 tile its block (64 stores of `S1x1x1x64x64`, checked by the kernel's evaluation: Lib/Ring.lean `Piece.tiledL`, linear in the pieces, through a loop's `@[irreducible]` trip theorem too), so they cover it. -/
theorem cover1_B_12 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) (y : S2x8x4x64x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.1 S1x1x1x64x64.size (by sl_kernel_rfl) y

/-- What case B leaves in output 12's staging buffer: its pieces read back over junk. -/
def out1_B_12 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) : Vec F S2x8x4x64x64 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.1)

/-- Case B's pieces for output 13 are of SEVERAL sizes (80 stores of `S1x1x1x128`, `S1x1x8x128`): cut into blocks of `![1, 1, 1, 128]` they tile its block (checked by the kernel's evaluation: Lib/Ring.lean `Piece.tiledBy`), so they cover it. -/
theorem cover1_B_13 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) (y : S2x8x8x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.1, y ∈ pc.1.set :=
  View.cover_of_tiledBy (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.1 ![1, 1, 1, 128] (by sl_kernel_rfl) y

/-- What case B leaves in output 13's staging buffer: its pieces read back over junk. -/
def out1_B_13 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) : Vec F S2x8x8x128 .f32 :=
  VO1_13.read (Elt F) (VO1_13.writes (Elt F) VO1_13.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.1)

/-- Case B's pieces for scratch `arg16`, which the kernel carries between points, cover it: 64 pieces of `S1x1x128x128` tiling it (Lib/Ring.lean `Piece.tiledL`). -/
theorem scover1_B_0 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) (y : S2x4x128x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.2.1 S1x1x128x128.size (by sl_kernel_rfl) y

/-- What case B leaves in scratch `arg16`: its pieces read back over junk. -/
def sout1_B_0 (c : Dev nD) (i : grid1.Coords) (arg2 : Memref sig .tc .vmem S2x512x512 .bf16) (harg2 : arg2.IsWhole) (arg3 : Memref sig .tc .vmem S2x512x512 .f32) (harg3 : arg3.IsWhole) (arg4 : Memref sig .tc .vmem S2x512x512 .bf16) (harg4 : arg4.IsWhole) (arg5 : Memref sig .tc .vmem S2x512x512 .bf16) (harg5 : arg5.IsWhole) (arg6 : Memref sig .tc .vmem S2x8x4x64x64 .f32) (harg6 : arg6.IsWhole) (arg7 : Memref sig .tc .vmem S2x8x8x128 .f32) (harg7 : arg7.IsWhole) (arg8 : Memref sig .tc .vmem S2x8x4x128x128 .f32) (harg8 : arg8.IsWhole) (arg9 : Memref sig .tc .vmem S2x512x512 .f32) (harg9 : arg9.IsWhole) (arg10 : Memref sig .tc .vmem S2x512x512 .f32) (harg10 : arg10.IsWhole) (arg11 : Memref sig .tc .vmem S2x512x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x8x4x64x64 .f32) (harg14 : arg14.IsWhole) (arg15 : Memref sig .tc .vmem S2x8x8x128 .f32) (harg15 : arg15.IsWhole) (arg16 : Memref sig .tc .vmem S2x4x128x128 .f32) (harg16 : arg16.IsWhole) (hc0 : ¬cond1_0 i)
    (x0 : Vec F S2x512x512 .bf16) (x1 : Vec F S2x512x512 .f32) (x2 : Vec F S2x512x512 .bf16) (x3 : Vec F S2x512x512 .bf16) (x4 : Vec F S2x8x4x64x64 .f32) (x5 : Vec F S2x8x8x128 .f32) (x6 : Vec F S2x8x4x128x128 .f32) (x7 : Vec F S2x512x512 .f32) (xs0 : Vec F S2x4x128x128 .f32) : Vec F S2x4x128x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2x512x512 .f32 × Vec F S2x512x512 .f32 × Vec F S2x512x512 .f32 × Vec F S2x512x512 .f32 × Vec F S2x8x4x64x64 .f32 × Vec F S2x8x8x128 .f32 × Vec F S2x4x128x128 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt1 c n (Nat.lt_of_succ_lt hn)).2.2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt1 c n (Nat.lt_of_succ_lt hn)).2.2.2.2.2.2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt1 c n (Nat.lt_of_succ_lt hn)).2.2.2.2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt1 c n (Nat.lt_of_succ_lt hn)).2.2.2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt1 c n (Nat.lt_of_succ_lt hn)).2.2.2.2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt1 c n (Nat.lt_of_succ_lt hn)).2.2.2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt1 c n (Nat.lt_of_succ_lt hn)).2.2.2.2.2.2)

/-- `outsAt1` at a point of case A: that case's contents. -/
theorem outsAt1_A (c : Dev nD) (t : Fin cfg1.N) (h0 : t.val % 4 = 0) :
    outsAt1 m c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 m c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (outsAt1 m c (t.val - 1) (Nat.lt_of_le_of_lt (Nat.sub_le _ _) t.isLt)).2.2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (outsAt1 m c (t.val - 1) (Nat.lt_of_le_of_lt (Nat.sub_le _ _) t.isLt)).2.2.2.2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (outsAt1 m c (t.val - 1) (Nat.lt_of_le_of_lt (Nat.sub_le _ _) t.isLt)).2.2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (outsAt1 m c (t.val - 1) (Nat.lt_of_le_of_lt (Nat.sub_le _ _) t.isLt)).2.2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (outsAt1 m c (t.val - 1) (Nat.lt_of_le_of_lt (Nat.sub_le _ _) t.isLt)).2.2.2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (outsAt1 m c (t.val - 1) (Nat.lt_of_le_of_lt (Nat.sub_le _ _) t.isLt)).2.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk m c 0 t) (iblk m c 1 t) (iblk m c 2 t) (iblk m c 3 t) (iblk m c 4 t) (iblk m c 5 t) (iblk m c 6 t) (iblk m c 7 t) (outsAt1 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 m c n hn).2.2.2.2.2.2)) ∗ restE c)

theorem PhiS_zero (c : Dev nD) (n : ℕ) (h : n ≤ cfg1.N) (hz : n = 0) : PhiS m c n h = Pipeline.ΦA spec1 c := by
  subst hz; rfl

/-- After point `n` (before point `n + 1`): the carried scratch at that point's contents. -/
theorem PhiS_succ (c : Dev nD) (n : ℕ) (hn : n < cfg1.N) :
    PhiS m c (n + 1) hn = iprop(iprop(owns (c : Thread nD τ) scM1_0 fullShare ((outsAt1 m c n hn).2.2.2.2.2.2)) ∗ restE c) := rfl

/-- Before a point that is not the first: the carried scratch at what the point before left. -/
theorem PhiS_pos (c : Dev nD) (n : ℕ) (h : n ≤ cfg1.N) (hz : n ≠ 0) :
    PhiS m c n h = iprop(iprop(owns (c : Thread nD τ) scM1_0 fullShare ((outsAt1 m c (n - 1) (by omega)).2.2.2.2.2.2)) ∗ restE c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt1 m c t.val t.isLt).1
    | ⟨9, _⟩ => (outsAt1 m c t.val t.isLt).2.1
    | ⟨10, _⟩ => (outsAt1 m c t.val t.isLt).2.2.1
    | ⟨11, _⟩ => (outsAt1 m c t.val t.isLt).2.2.2.1
    | ⟨12, _⟩ => (outsAt1 m c t.val t.isLt).2.2.2.2.1
    | ⟨13, _⟩ => (outsAt1 m c t.val t.isLt).2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats m 0 c).A w = V m c (Pipeline.arrRef spec1 w) := by
  dsimp only [dats]

/-- The invariant at a point's start (the proof data at `t.castSucc`), restated at `t.val`. -/
theorem PhiS_castSucc (c : Dev nD) (t : Fin cfg1.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after1_0 (c : Dev nD) (t : Fin cfg1.N) : (dats m 0 c).after 0 t = iblk m c 0 t := by dsimp only [dats]
theorem after1_1 (c : Dev nD) (t : Fin cfg1.N) : (dats m 0 c).after 1 t = iblk m c 1 t := by dsimp only [dats]
theorem after1_2 (c : Dev nD) (t : Fin cfg1.N) : (dats m 0 c).after 2 t = iblk m c 2 t := by dsimp only [dats]
theorem after1_3 (c : Dev nD) (t : Fin cfg1.N) : (dats m 0 c).after 3 t = iblk m c 3 t := by dsimp only [dats]
theorem after1_4 (c : Dev nD) (t : Fin cfg1.N) : (dats m 0 c).after 4 t = iblk m c 4 t := by dsimp only [dats]
theorem after1_5 (c : Dev nD) (t : Fin cfg1.N) : (dats m 0 c).after 5 t = iblk m c 5 t := by dsimp only [dats]
theorem after1_6 (c : Dev nD) (t : Fin cfg1.N) : (dats m 0 c).after 6 t = iblk m c 6 t := by dsimp only [dats]
theorem after1_7 (c : Dev nD) (t : Fin cfg1.N) : (dats m 0 c).after 7 t = iblk m c 7 t := by dsimp only [dats]
theorem after1_8 (c : Dev nD) (t : Fin cfg1.N) : (dats m 0 c).after 8 t = (outsAt1 m c t.val t.isLt).1 := by dsimp only [dats]
theorem after1_9 (c : Dev nD) (t : Fin cfg1.N) : (dats m 0 c).after 9 t = (outsAt1 m c t.val t.isLt).2.1 := by dsimp only [dats]
theorem after1_10 (c : Dev nD) (t : Fin cfg1.N) : (dats m 0 c).after 10 t = (outsAt1 m c t.val t.isLt).2.2.1 := by dsimp only [dats]
theorem after1_11 (c : Dev nD) (t : Fin cfg1.N) : (dats m 0 c).after 11 t = (outsAt1 m c t.val t.isLt).2.2.2.1 := by dsimp only [dats]
theorem after1_12 (c : Dev nD) (t : Fin cfg1.N) : (dats m 0 c).after 12 t = (outsAt1 m c t.val t.isLt).2.2.2.2.1 := by dsimp only [dats]
theorem after1_13 (c : Dev nD) (t : Fin cfg1.N) : (dats m 0 c).after 13 t = (outsAt1 m c t.val t.isLt).2.2.2.2.2.1 := by dsimp only [dats]

/-- Each input's current staging buffer holds its block at every point, fetched there or not (`beforeK_W_of`). -/
theorem before1_0 (c : Dev nD) (t : Fin cfg1.N) (d) : (dats m 0 c).before 0 t d = iblk m c 0 t :=
  before1_0_of m (dats m 0 c) (A_eq m c 0) (after1_0 m c) t d
theorem before1_1 (c : Dev nD) (t : Fin cfg1.N) (d) : (dats m 0 c).before 1 t d = iblk m c 1 t :=
  before1_1_of m (dats m 0 c) (A_eq m c 1) (after1_1 m c) t d
theorem before1_2 (c : Dev nD) (t : Fin cfg1.N) (d) : (dats m 0 c).before 2 t d = iblk m c 2 t :=
  before1_2_of m (dats m 0 c) (A_eq m c 2) (after1_2 m c) t d
theorem before1_3 (c : Dev nD) (t : Fin cfg1.N) (d) : (dats m 0 c).before 3 t d = iblk m c 3 t :=
  before1_3_of m (dats m 0 c) (A_eq m c 3) (after1_3 m c) t d
theorem before1_4 (c : Dev nD) (t : Fin cfg1.N) (d) : (dats m 0 c).before 4 t d = iblk m c 4 t :=
  before1_4_of m (dats m 0 c) (A_eq m c 4) (after1_4 m c) t d
theorem before1_5 (c : Dev nD) (t : Fin cfg1.N) (d) : (dats m 0 c).before 5 t d = iblk m c 5 t :=
  before1_5_of m (dats m 0 c) (A_eq m c 5) (after1_5 m c) t d
theorem before1_6 (c : Dev nD) (t : Fin cfg1.N) (d) : (dats m 0 c).before 6 t d = iblk m c 6 t :=
  before1_6_of m (dats m 0 c) (A_eq m c 6) (after1_6 m c) t d
theorem before1_7 (c : Dev nD) (t : Fin cfg1.N) (d) : (dats m 0 c).before 7 t d = iblk m c 7 t :=
  before1_7_of m (dats m 0 c) (A_eq m c 7) (after1_7 m c) t d

/-! ## The body obligation, at a generic point -/

/-- What the body is called with at point `t` (Lib/Pipeline.lean `BodyObligation`'s precondition, the windows one by one), -/
def bodyPre (c : Dev nD) (t : Fin cfg1.N) : sProp 𝕄 :=
  iprop((dats m 0 c).Φ t.castSucc ∗ (dats m 0 c).owesAt () t.castSucc
    ∗ (∃ d, owns (c : Thread nD τ) (ms1_0 t) fullShare ((dats m 0 c).before 0 t d))
    ∗ (∃ d, owns (c : Thread nD τ) (ms1_1 t) fullShare ((dats m 0 c).before 1 t d))
    ∗ (∃ d, owns (c : Thread nD τ) (ms1_2 t) fullShare ((dats m 0 c).before 2 t d))
    ∗ (∃ d, owns (c : Thread nD τ) (ms1_3 t) fullShare ((dats m 0 c).before 3 t d))
    ∗ (∃ d, owns (c : Thread nD τ) (ms1_4 t) fullShare ((dats m 0 c).before 4 t d))
    ∗ (∃ d, owns (c : Thread nD τ) (ms1_5 t) fullShare ((dats m 0 c).before 5 t d))
    ∗ (∃ d, owns (c : Thread nD τ) (ms1_6 t) fullShare ((dats m 0 c).before 6 t d))
    ∗ (∃ d, owns (c : Thread nD τ) (ms1_7 t) fullShare ((dats m 0 c).before 7 t d))
    ∗ (∃ d, owns (c : Thread nD τ) (ms1_8 t) fullShare ((dats m 0 c).before 8 t d))
    ∗ (∃ d, owns (c : Thread nD τ) (ms1_9 t) fullShare ((dats m 0 c).before 9 t d))
    ∗ (∃ d, owns (c : Thread nD τ) (ms1_10 t) fullShare ((dats m 0 c).before 10 t d))
    ∗ (∃ d, owns (c : Thread nD τ) (ms1_11 t) fullShare ((dats m 0 c).before 11 t d))
    ∗ (∃ d, owns (c : Thread nD τ) (ms1_12 t) fullShare ((dats m 0 c).before 12 t d))
    ∗ (∃ d, owns (c : Thread nD τ) (ms1_13 t) fullShare ((dats m 0 c).before 13 t d)))

/-- and what it returns. -/
def bodyPost (c : Dev nD) (t : Fin cfg1.N) : sProp 𝕄 :=
  iprop((dats m 0 c).Φ t.succ ∗ (dats m 0 c).owesAt () t.succ
    ∗ owns (c : Thread nD τ) (ms1_0 t) fullShare ((dats m 0 c).after 0 t)
    ∗ owns (c : Thread nD τ) (ms1_1 t) fullShare ((dats m 0 c).after 1 t)
    ∗ owns (c : Thread nD τ) (ms1_2 t) fullShare ((dats m 0 c).after 2 t)
    ∗ owns (c : Thread nD τ) (ms1_3 t) fullShare ((dats m 0 c).after 3 t)
    ∗ owns (c : Thread nD τ) (ms1_4 t) fullShare ((dats m 0 c).after 4 t)
    ∗ owns (c : Thread nD τ) (ms1_5 t) fullShare ((dats m 0 c).after 5 t)
    ∗ owns (c : Thread nD τ) (ms1_6 t) fullShare ((dats m 0 c).after 6 t)
    ∗ owns (c : Thread nD τ) (ms1_7 t) fullShare ((dats m 0 c).after 7 t)
    ∗ owns (c : Thread nD τ) (ms1_8 t) fullShare ((dats m 0 c).after 8 t)
    ∗ owns (c : Thread nD τ) (ms1_9 t) fullShare ((dats m 0 c).after 9 t)
    ∗ owns (c : Thread nD τ) (ms1_10 t) fullShare ((dats m 0 c).after 10 t)
    ∗ owns (c : Thread nD τ) (ms1_11 t) fullShare ((dats m 0 c).after 11 t)
    ∗ owns (c : Thread nD τ) (ms1_12 t) fullShare ((dats m 0 c).after 12 t)
    ∗ owns (c : Thread nD τ) (ms1_13 t) fullShare ((dats m 0 c).after 13 t))

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dats m 0 c).owesAt () t.succ = (dats m 0 c).owesAt () t.castSucc from rfl,
    after1_0, after1_1, after1_2, after1_3, after1_4, after1_5, after1_6, after1_7, after1_8, after1_9, after1_10, after1_11, after1_12, after1_13]
  rw [show (dats m 0 c).Φ t.succ = PhiS m c (t.val + 1) t.isLt from rfl, PhiS_succ]
  have hN : t.val < 8 := lt_of_lt_of_eq t.isLt (show cfg1.N = 8 from N_1)
  by_cases h0 : t.val % 4 = 0
  · by_cases hz : t.val = 0
    · rw [PhiS_castSucc m c t, PhiS_zero m c _ _ hz, PhiA1_eq]
      rw [outsAt1_A m c t h0]
      unfold out1_A_8 out1_A_9 out1_A_10 out1_A_11 out1_A_12 out1_A_13 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_A c (grid1.coords t) _ _ _ _ _ _ _ _ _ _ _ _ _ _ _ _ _ _ _ _ _ _ _ _ _ _ _ _ _ _ ((hcond1_0 t).mpr h0) (iblk m c 0 t) (iblk m c 1 t) (iblk m c 2 t) (iblk m c 3 t) (iblk m c 4 t) (iblk m c 5 t) (iblk m c 6 t) (iblk m c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _)
    · rw [PhiS_castSucc m c t, PhiS_pos m c _ _ hz]
      rw [outsAt1_A m c t h0]
      unfold out1_A_8 out1_A_9 out1_A_10 out1_A_11 out1_A_12 out1_A_13 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_A c (grid1.coords t) _ _ _ _ _ _ _ _ _ _ _ _ _ _ _ _ _ _ _ _ _ _ _ _ _ _ _ _ _ _ ((hcond1_0 t).mpr h0) (iblk m c 0 t) (iblk m c 1 t) (iblk m c 2 t) (iblk m c 3 t) (iblk m c 4 t) (iblk m c 5 t) (iblk m c 6 t) (iblk m c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexists _; iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _)
  · by_cases hz : t.val = 0
    · exfalso; have hN : t.val < 8 := lt_of_lt_of_eq t.isLt (show cfg1.N = 8 from N_1); omega
    · rw [PhiS_castSucc m c t, PhiS_pos m c _ _ hz]
      rw [outsAt1_B m c t h0]
      unfold out1_B_8 out1_B_9 out1_B_10 out1_B_11 out1_B_12 out1_B_13 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_B c (grid1.coords t) _ _ _ _ _ _ _ _ _ _ _ _ _ _ _ _ _ _ _ _ _ _ _ _ _ _ _ _ _ _ (fun h => h0 ((hcond1_0 t).mp h)) (iblk m c 0 t) (iblk m c 1 t) (iblk m c 2 t) (iblk m c 3 t) (iblk m c 4 t) (iblk m c 5 t) (iblk m c 6 t) (iblk m c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W1, bigSep_W1, defs₀_row]
  exact triple_restated (sound_body m c t) rfl .rfl fun _ => .rfl

/-- What the launch hands the region (`ΦA`) is the invariant before the first point. -/
theorem hin (c : Dev nD) : Pipeline.ΦA spec1 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dats m 0 c).Φ t ⊢ Pipeline.ΦA spec1 c := by
  rw [show (dats m 0 c).Φ t = PhiS m c t.val (Nat.le_of_lt_succ t.isLt) from rfl, PhiS_pos m c _ _ ht, PhiA1_eq]
  iintro ⟨HS0, Hg⟩
  isplitl [HS0]
  · iexists _; iexact HS0
  iexact Hg

/-- The same after the last point. -/
theorem hout (c : Dev nD) : (dats m 0 c).Φ (Fin.last cfg1.N) ⊢ Pipeline.ΦA spec1 c :=
  Phi_out m c _ (by rw [Fin.val_last]; have : cfg1.N = 8 := N_1; omega)

end Cert.KernelIdeal.Bwd

end
-- ==== Proof.RunDefs.lean ====
/- The buffers between the items of @main, and its two regions. -/
module

public import proofs.«01_k».proof.Proof.FwdFrame
public import proofs.«01_k».proof.Proof.BwdFrame
public import proofs.«01_k».proof.Proof.Gen.KernelIdeal.Regions
public import Idealize.ShloMosaic.Lib.Pipeline.RegionArraysS

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the items -/

/-- After the forward region. -/
def W2 (c : Dev nD) : Valuation τ sig (Elt F) := Pipeline.afterRegion (Fwd.dats (V1 m) 0 c) (V1 m c)
/-- Before the backward region. -/
def W3 (c : Dev nD) : Valuation τ sig (Elt F) := StableHlo.after hostOps1 (W2 m c)
/-- After the backward region. -/
def W4 (c : Dev nD) : Valuation τ sig (Elt F) := Pipeline.afterRegion (Bwd.dats (W3 m) 0 c) (W3 m c)
/-- At the end. -/
def W5 (c : Dev nD) : Valuation τ sig (Elt F) := StableHlo.after hostOps2 (W4 m c)

/-- The two regions' proof data. -/
def pdats : (p : Fin 2) → (c : Dev nD) → Dat τ (Elt F) Unit ℕ (UR sig nD τ) ℕ (cfgs p) c
  | ⟨0, _⟩ => fun c => Fwd.dats (V1 m) 0 c
  | ⟨1, _⟩ => fun c => Bwd.dats (W3 m) 0 c

/-- The staging waits have their one index on every TensorCore's counter, at level zero. -/
def L : GSem nD τ sig → Finset Unit := fun g => if g.1.2 = .tc then {()} else ∅
def lv : GSem nD τ sig → Unit → ℕ := fun _ _ => 0

theorem hL (g : GSem nD τ sig) (h : g.1.2 ≠ .tc) : L g = ∅ := if_neg h

theorem cut (p : Fin 2) : Pipeline.LevelCut (pcfgs (F := F)) adm () L lv p (fun _ => 0) (fun _ => 0) where
  hι c w s := by
    unfold L
    rw [if_pos (show ((c : Thread nD τ)).2 = .tc from rfl)]
    exact Finset.mem_singleton_self _
  hιb _ _ _ := Nat.le_refl _
  hD _ _ _ h := absurd h (Nat.lt_irrefl _)

/-- What rides beside the buffers. -/
def E (c : Dev nD) : sProp 𝕄 :=
  iprop((∃ Wd, owes (c : Thread nD τ) (0 : CellTallies nD τ sig Unit) Wd) ∗ (∃ r, prngReg c r) ∗ emp)

theorem arr0_S : Pipeline.arrRefs (τ := τ) (pcfgs (F := F) 0).spec ⊆ Pipeline.ucRefs τ sig :=
  Pipeline.arrRefs_sub_ucRefs spec0 (by decide)
theorem arr1_S : Pipeline.arrRefs (τ := τ) (pcfgs (F := F) 1).spec ⊆ Pipeline.ucRefs τ sig :=
  Pipeline.arrRefs_sub_ucRefs spec1 (by decide)

set_option backward.isDefEq.respectTransparency.types false in
/-- The forward region over its arrays. -/
def R0 : RegionSeg (pcfgs (F := F)) adm (pdats m) () defs₀ Variants.none L lv 0 :=
  Pipeline.RegionSeg.ofHeldIn (pcfgs (F := F)) adm (pdats m) () defs₀ Variants.none L lv 0 (fun _ => 0)
    (Pipeline.ucRefs τ sig) (fun c => iprop(∃ r, prngReg c r)) (fun c => iprop(∃ r, prngReg c r)) launch0.toP rfl
    (fun c => (Fwd.body_obligation (V1 m) c).loose) (fun _ _ => rfl) (fun _ => rfl)
    (fun c => (pdats m 0 c).share_full fun _ => rfl) (fun c => Fwd.hin (V1 m) c) (fun c => Fwd.hout (V1 m) c)
    (fun _ => 0) (cut 0) (fun _ => iprop(emp)) (V1 m) (fun c w => Fwd.A_eq (V1 m) c w)

set_option backward.isDefEq.respectTransparency.types false in
/-- The backward region over its arrays. -/
def R1 : RegionSeg (pcfgs (F := F)) adm (pdats m) () defs₀ Variants.none L lv 1 :=
  Pipeline.RegionSeg.ofHeldIn (pcfgs (F := F)) adm (pdats m) () defs₀ Variants.none L lv 1 (fun _ => 0)
    (Pipeline.ucRefs τ sig) (fun c => iprop(∃ r, prngReg c r)) (fun c => iprop(∃ r, prngReg c r)) launch1.toP rfl
    (fun c => (Bwd.body_obligation (W3 m) c).loose) (fun _ _ => rfl) (fun _ => rfl)
    (fun c => (pdats m 1 c).share_full fun _ => rfl) (fun c => Bwd.hin (W3 m) c) (fun c => Bwd.hout (W3 m) c)
    (fun _ => 0) (cut 1) (fun _ => iprop(emp)) (W3 m) (fun c w => Bwd.A_eq (W3 m) c w)

end Cert.KernelIdeal.Run

end
-- ==== Proof.Run.lean ====
/- The run of @main: host operations, the forward region, host operations, the backward region, host operations. -/
module

public import proofs.«01_k».proof.Proof.RunDefs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

theorem pre0 (c : Dev nD) : iprop(StableHlo.held (c : Thread nD τ) (Pipeline.ucRefs τ sig) (V1 m c) ∗ E c) ⊢ (R0 m).pre c := by
  delta R0 E
  apply Pipeline.RegionSeg.ofHeldIn_pre
  exact arr0_S (F := F)

theorem post0 (c : Dev nD) : (R0 m).post c ⊢ iprop(StableHlo.held (c : Thread nD τ) (Pipeline.ucRefs τ sig) (W2 m c) ∗ E c) := by
  delta R0 E
  apply Pipeline.RegionSeg.ofHeldIn_post
  exact arr0_S (F := F)

theorem pre1 (c : Dev nD) : iprop(StableHlo.held (c : Thread nD τ) (Pipeline.ucRefs τ sig) (W3 m c) ∗ E c) ⊢ (R1 m).pre c := by
  delta R1 E
  apply Pipeline.RegionSeg.ofHeldIn_pre
  exact arr1_S (F := F)

theorem post1 (c : Dev nD) : (R1 m).post c ⊢ iprop(StableHlo.held (c : Thread nD τ) (Pipeline.ucRefs τ sig) (W4 m c) ∗ E c) := by
  delta R1 E
  apply Pipeline.RegionSeg.ofHeldIn_post
  exact arr1_S (F := F)

/-- The items of @main. -/
def s0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def s2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) E
def s4 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) E

abbrev items (_ : Dev nD) : List (Seg (pcfgs (F := F)) adm (pdats m) () defs₀ Variants.none L lv) :=
  [.host (s0 m), .region (R0 m), .host (s2 m), .region (R1 m), .host (s4 m)]

set_option backward.isDefEq.respectTransparency.types false in
/-- @main ends with every unscoped buffer at `W5` and every counter at zero. -/
theorem run (ρ : Dev nD → PrngReg) :
    θ_run defs (onTc (τ := τ) (main (F := F))) ⟨m, fun _ => 0, ρ⟩ (fun r =>
      (∀ (c : Dev nD), ∀ b ∈ Pipeline.ucRefs τ sig, r.2.mem ((c.tc : Thread nD τ).1, b) = W5 m c b)
      ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [items, Seg.pipes_host, Seg.pipes_region, Seg.pipes_nil]; decide)
    (O₀ := 0) (hL := hL) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (W5 m c))
    (hch := fun c => ⟨.rfl, pre0 m c, post0 m c, pre1 m c, post1 m c, sep_mono .rfl (by
      unfold E
      iintro ⟨HO, -, -⟩
      iexact HO)⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold E
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    imodintro; iexact Hr

/-- The arguments end as they were at launch. -/
theorem W5_arg (c : Dev nD) (r : Ref sig .tc) (h0 : r ∉ hostOps0_W) (h1 : r ∉ hostOps1_W) (h2 : r ∉ hostOps2_W)
    (h3 : ∀ w, Pipeline.arrRef spec0 w = r → (cfg0.win w).isOut = false)
    (h4 : ∀ w, Pipeline.arrRef spec1 w = r → (cfg1.win w).isOut = false) :
    W5 m c (Proc.devRef .tc r) = m ((c : Thread nD τ).loc r) := by
  rw [show W5 m c (Proc.devRef .tc r) = W4 m c (Proc.devRef .tc r) from StableHlo.after_of_writes_sub hostOps2 _ hostOps2_writes h2,
    show W4 m c (Proc.devRef .tc r) = W3 m c (Proc.devRef .tc r) from
      Pipeline.afterRegion_keeps _ _ launch1.win.arr_inj (fun w => Bwd.A_eq (W3 m) c w) r h4,
    show W3 m c (Proc.devRef .tc r) = W2 m c (Proc.devRef .tc r) from StableHlo.after_of_writes_sub hostOps1 _ hostOps1_writes h1,
    show W2 m c (Proc.devRef .tc r) = V1 m c (Proc.devRef .tc r) from
      Pipeline.afterRegion_keeps _ _ launch0.win.arr_inj (fun w => Fwd.A_eq (V1 m) c w) r h3]
  exact (V1_of m c r h0).trans rfl

theorem mem_uc (r : Ref sig .tc) (h : r.isScoped = false) : (Proc.devRef .tc r : DevRef τ sig) ∈ Pipeline.ucRefs τ sig := Pipeline.devRef_mem_ucRefs h

/-- @main ends with its arguments as they were, its results at `W5`, and every counter at zero. -/
theorem run_main (ρ : Dev nD → PrngReg) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ (c : Dev nD) (b : Ref sig .tc), b.isScoped = false → r.2.mem ((c.tc : Thread nD τ).loc b) = W5 m c (Proc.devRef .tc b)) :=
  (θ_run defs _ _).mono (fun r h => ⟨⟨fun c =>
    ⟨(h.1 c _ (mem_uc main_arg0 rfl)).trans (W5_arg m c main_arg0 (by decide) (by decide) (by decide) (by decide) (by decide)),
      (h.1 c _ (mem_uc main_arg1 rfl)).trans (W5_arg m c main_arg1 (by decide) (by decide) (by decide) (by decide) (by decide)),
      (h.1 c _ (mem_uc main_arg2 rfl)).trans (W5_arg m c main_arg2 (by decide) (by decide) (by decide) (by decide) (by decide)),
      (h.1 c _ (mem_uc main_arg3 rfl)).trans (W5_arg m c main_arg3 (by decide) (by decide) (by decide) (by decide) (by decide)),
      (h.1 c _ (mem_uc main_arg4 rfl)).trans (W5_arg m c main_arg4 (by decide) (by decide) (by decide) (by decide) (by decide)),
      (h.1 c _ (mem_uc main_arg5 rfl)).trans (W5_arg m c main_arg5 (by decide) (by decide) (by decide) (by decide) (by decide)),
      (h.1 c _ (mem_uc main_arg6 rfl)).trans (W5_arg m c main_arg6 (by decide) (by decide) (by decide) (by decide) (by decide))⟩, h.2⟩,
    fun c b hb => h.1 c _ (mem_uc b hb)⟩) (run m ρ)

end Cert.KernelIdeal.Run

end
-- ==== Proof.Bits.lean ====
/- The delta program read at bit patterns: the two printings are one program, so one run serves both frames. -/
module

public import proofs.«01_k».proof.Defs
public import proofs.«01_k».proof.Proof.Gen.Kernel
public import proofs.«01_k».proof.Proof.Run

@[expose] public section

noncomputable section

namespace Cert.Proof

open Idealize.ShloMosaic Idealize.SL.Sem

set_option maxHeartbeats 4000000

theorem fwd_eq : Cert.Kernel.cc0_delta_seq_fwd (F := Bits) = Cert.KernelIdeal.cc0_delta_seq_fwd (F := Bits) := rfl

theorem bwd_eq : Cert.Kernel.cc1_delta_seq_bwd (F := Bits) = Cert.KernelIdeal.cc1_delta_seq_bwd (F := Bits) := rfl

theorem bodies_eq : Cert.Kernel.defs₀ (F := Bits) = Cert.KernelIdeal.defs₀ (F := Bits) := by
  unfold Cert.Kernel.defs₀
  refine congrArg Defs.onTc (funext fun k => ?_)
  match k with
  | 0 =>
    funext p; obtain ⟨t, s⟩ := p
    dsimp only
    rw [fwd_eq]
    rfl
  | 1 =>
    funext p; obtain ⟨t, s⟩ := p
    dsimp only
    rw [bwd_eq]
    rfl

theorem defs_eq : Cert.Kernel.defs (F := Bits) = Cert.KernelIdeal.defs (F := Bits) := by
  unfold Cert.Kernel.defs
  rw [bodies_eq]
  rfl

theorem frame_kernel : Cert.quiescent_Kernel := by
  intro m ρ _
  rw [defs_eq]
  exact (θ_run Cert.KernelIdeal.defs _ _).mono (fun _ h => h.1) (Cert.KernelIdeal.Run.run_main (F := Bits) m ρ)

end Cert.Proof

end
-- ==== Proof.WgRuns.lean ====
/- What the runs of the weight-gradient product share: its blocks, its branch conditions, its staging memrefs. -/
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Wg

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 3 (mod 4) — by arithmetic of the point. -/
theorem hcond0_0 : ∀ t : Fin cfg0.N, cond0_0 (grid0.coords t) ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 4 % 1 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, ¬cond0_0 (grid0.coords t) → cfg0.idle 2 (grid0.coords t) = true := by decide +kernel
/-- At the points of case A the pipeline does not write output 2's block back. -/
theorem noFlush0_2_A : ∀ t : Fin cfg0.N, ¬cond0_0 (grid0.coords t) → (cfg0.win 2).flush t = false := by decide +kernel
/-- At the points of case B the printed configuration (`Cfg.idle`) calls output 2 live: the case stores into it. -/
theorem liveAt0_2_B : ∀ t : Fin cfg0.N, cond0_0 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1408x1024 .bf16 := (Memref.whole cc0_stg2_0 : Memref sig .tc .vmem S1408x1024 .bf16).view
/-- Each window's current staging memref at point `t`, spelled as the pipeline passes it (`bodyAt0`), and its wholeness. -/
abbrev ms0_0 (t : Fin cfg0.N) : Memref sig .tc .vmem S2048x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x1024 .bf16 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1408x1024 .f32 := Memref.whole cc0_scratch0
/-- The scratch `arg6` the kernel carries between points, as a view: what it holds is stated through it. -/
abbrev VS0_0 : View sig .tc .vmem S1408x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Wg

end
-- ==== Proof.WgRunA.lean ====
/- One run of the body of the weight-gradient product (case A). -/
module

public import proofs.«01_k».proof.Proof.WgRuns

@[expose] public section

set_option maxRecDepth 16384

noncomputable section

namespace Cert.Kernel2Ideal.Wg

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 not taken: points 0, 1, 2, 4, 5, 6), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i)
    (x0 : Vec F S2048x1408 .bf16) (x1 : Vec F S2048x1024 .bf16) (xs0 : Vec F S1408x1024 .f32) :
    Σ' (L2 : List (View.Piece (Elt F) S1408x1024 .bf16)), { LS0 : List (View.Piece (Elt F) S1408x1024 .f32) //
      ∀ (xi2 : Vec F S1408x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_ffn_wg i arg3 harg3 arg4 harg4 arg5 harg5 arg6 harg6) K } := by
  refine ⟨[], ?_, fun xi2 E K => ?run⟩
  case run =>
    simp only [cc0_ffn_wg_eq_skeleton]; unfold cc0_ffn_wg_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel2Ideal.Wg

end
-- ==== Proof.WgRunB.lean ====
/- One run of the body of the weight-gradient product (case B). -/
module

public import proofs.«01_k».proof.Proof.WgRuns

@[expose] public section

set_option maxRecDepth 16384

noncomputable section

namespace Cert.Kernel2Ideal.Wg

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken: points 3, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec F S2048x1408 .bf16) (x1 : Vec F S2048x1024 .bf16) (xs0 : Vec F S1408x1024 .f32) :
    Σ' (L2 : List (View.Piece (Elt F) S1408x1024 .bf16)), { LS0 : List (View.Piece (Elt F) S1408x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0_ffn_wg i arg3 harg3 arg4 harg4 arg5 harg5 arg6 harg6) K } := by
  refine ⟨?_, ?_, fun E K => ?run⟩
  case run =>
    simp only [cc0_ffn_wg_eq_skeleton]; unfold cc0_ffn_wg_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel2Ideal.Wg

end
-- ==== Proof.WgFrame.lean ====
/- What the weight-gradient product leaves point by point, its body obligation, its run. -/
module

public import proofs.«01_k».proof.Proof.WgRunA
public import proofs.«01_k».proof.Proof.WgRunB
public import Idealize.ShloMosaic.Lib.Claim

@[expose] public section

set_option maxRecDepth 16384

noncomputable section

namespace Cert.Kernel2Ideal.Wg

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i)
    (x0 : Vec F S2048x1408 .bf16) (x1 : Vec F S2048x1024 .bf16) (xs0 : Vec F S1408x1024 .f32) : Vec F S1408x1024 .bf16 :=
  VO0_2.read (Elt F) (VO0_2.writes (Elt F) VO0_2.junk (kernelRun0_A c i arg3 harg3 arg4 harg4 arg5 harg5 arg6 harg6 hc0 x0 x1 xs0).1)

/-- Case A's pieces for scratch `arg6`, which the kernel carries between points, cover it: 4 pieces of `S1408x256` tiling it (Lib/Ring.lean `Piece.tiledL`). -/
theorem scover0_A_0 (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i)
    (x0 : Vec F S2048x1408 .bf16) (x1 : Vec F S2048x1024 .bf16) (xs0 : Vec F S1408x1024 .f32) (y : S1408x1024.Idx) :
    ∃ pc ∈ (kernelRun0_A c i arg3 harg3 arg4 harg4 arg5 harg5 arg6 harg6 hc0 x0 x1 xs0).2.1, y ∈ pc.1.set :=
  View.cover_of_tiledL (kernelRun0_A c i arg3 harg3 arg4 harg4 arg5 harg5 arg6 harg6 hc0 x0 x1 xs0).2.1 S1408x256.size (by sl_kernel_rfl) y

/-- What case A leaves in scratch `arg6`: its pieces read back over junk. -/
def sout0_A_0 (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i)
    (x0 : Vec F S2048x1408 .bf16) (x1 : Vec F S2048x1024 .bf16) (xs0 : Vec F S1408x1024 .f32) : Vec F S1408x1024 .f32 :=
  VS0_0.read (Elt F) (VS0_0.writes (Elt F) VS0_0.junk (kernelRun0_A c i arg3 harg3 arg4 harg4 arg5 harg5 arg6 harg6 hc0 x0 x1 xs0).2.1)

/-- Case B's pieces for output 2 tile its block (1 store of `S1408x1024`, checked by the kernel's evaluation: Lib/Ring.lean `Piece.tiledL`, linear in the pieces, through a loop's `@[irreducible]` trip theorem too), so they cover it. -/
theorem cover0_B_2 (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec F S2048x1408 .bf16) (x1 : Vec F S2048x1024 .bf16) (xs0 : Vec F S1408x1024 .f32) (y : S1408x1024.Idx) :
    ∃ pc ∈ (kernelRun0_B c i arg3 harg3 arg4 harg4 arg5 harg5 arg6 harg6 hc0 x0 x1 xs0).1, y ∈ pc.1.set :=
  View.cover_of_tiledL (kernelRun0_B c i arg3 harg3 arg4 harg4 arg5 harg5 arg6 harg6 hc0 x0 x1 xs0).1 S1408x1024.size (by sl_kernel_rfl) y

/-- What case B leaves in output 2's staging buffer: its pieces read back over junk. -/
def out0_B_2 (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec F S2048x1408 .bf16) (x1 : Vec F S2048x1024 .bf16) (xs0 : Vec F S1408x1024 .f32) : Vec F S1408x1024 .bf16 :=
  VO0_2.read (Elt F) (VO0_2.writes (Elt F) VO0_2.junk (kernelRun0_B c i arg3 harg3 arg4 harg4 arg5 harg5 arg6 harg6 hc0 x0 x1 xs0).1)

/-- Case B's pieces for scratch `arg6`, which the kernel carries between points, cover it: 4 pieces of `S1408x256` tiling it (Lib/Ring.lean `Piece.tiledL`). -/
theorem scover0_B_0 (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec F S2048x1408 .bf16) (x1 : Vec F S2048x1024 .bf16) (xs0 : Vec F S1408x1024 .f32) (y : S1408x1024.Idx) :
    ∃ pc ∈ (kernelRun0_B c i arg3 harg3 arg4 harg4 arg5 harg5 arg6 harg6 hc0 x0 x1 xs0).2.1, y ∈ pc.1.set :=
  View.cover_of_tiledL (kernelRun0_B c i arg3 harg3 arg4 harg4 arg5 harg5 arg6 harg6 hc0 x0 x1 xs0).2.1 S1408x256.size (by sl_kernel_rfl) y

/-- What case B leaves in scratch `arg6`: its pieces read back over junk. -/
def sout0_B_0 (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec F S2048x1408 .bf16) (x1 : Vec F S2048x1024 .bf16) (xs0 : Vec F S1408x1024 .f32) : Vec F S1408x1024 .f32 :=
  VS0_0.read (Elt F) (VS0_0.writes (Elt F) VS0_0.junk (kernelRun0_B c i arg3 harg3 arg4 harg4 arg5 harg5 arg6 harg6 hc0 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1408x1024 .bf16 × Vec F S1408x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (fun h => (fun h => by (try dsimp only at h); omega) ((hcond0_0 ⟨0, hn⟩).mp h)) (iblk m c 0 ⟨0, hn⟩) (iblk m c 1 ⟨0, hn⟩) ((VO0_2.read (Elt F) VO0_2.junk, VS0_0.read (Elt F) VS0_0.junk) : Vec F S1408x1024 .bf16 × Vec F S1408x1024 .f32).2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (fun h => (fun h => by (try dsimp only at h); omega) ((hcond0_0 ⟨0, hn⟩).mp h)) (iblk m c 0 ⟨0, hn⟩) (iblk m c 1 ⟨0, hn⟩) ((VO0_2.read (Elt F) VO0_2.junk, VS0_0.read (Elt F) VS0_0.junk) : Vec F S1408x1024 .bf16 × Vec F S1408x1024 .f32).2)
  | n + 1, hn =>
    if h0 : (n + 1) % 4 = 3 then
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩) (outsAt0 c n (Nat.lt_of_succ_lt hn)).2)
    else
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2)

/-- `outsAt0` at a point of case A: that case's contents, over what the point before left. -/
theorem outsAt0_A (c : Dev nD) (t : Fin cfg0.N) (h0 : ¬t.val % 4 = 3) (hz : t.val ≠ 0) :
    outsAt0 m c t.val t.isLt = (out0_A_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2, sout0_A_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl hz
  | succ n => exact (dif_neg h0).trans rfl

/-- `outsAt0` at a point of case A: that case's contents, at the grid's first point. -/
theorem outsAt0_A0 (c : Dev nD) (t : Fin cfg0.N) (h0 : ¬t.val % 4 = 3) (hz : t.val = 0) :
    outsAt0 m c t.val t.isLt = (out0_A_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) ((VO0_2.read (Elt F) VO0_2.junk, VS0_0.read (Elt F) VS0_0.junk) : Vec F S1408x1024 .bf16 × Vec F S1408x1024 .f32).2, sout0_A_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) ((VO0_2.read (Elt F) VO0_2.junk, VS0_0.read (Elt F) VS0_0.junk) : Vec F S1408x1024 .bf16 × Vec F S1408x1024 .f32).2) := by
  obtain ⟨n, hn⟩ := t
  cases n with
  | zero => exact rfl
  | succ n => exact absurd hz (Nat.succ_ne_zero n)

/-- `outsAt0` at a point of case B: that case's contents, over what the point before left. -/
theorem outsAt0_B (c : Dev nD) (t : Fin cfg0.N) (h0 : t.val % 4 = 3) :
    outsAt0 m c t.val t.isLt = (out0_B_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) ((hcond0_0 t).mpr h0) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact by omega)
  | succ n => exact (dif_pos h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- A select whose condition compares zero with zero takes its first branch. -/
theorem sel_zero (x y : FVec F S1408x256 .f32) :
    Scalar.select (Scalar.cmpi .eq (BitVec.ofNat 32 0) 0#32) x y = x := rfl

/-- At a point that begins a sum over the tokens, the pieces do not depend on what the accumulator held. -/
theorem pieces_first (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i)
    (x0 : Vec F S2048x1408 .bf16) (x1 : Vec F S2048x1024 .bf16) (xs xs' : Vec F S1408x1024 .f32) (hi : (i 2).val = 0) :
    (kernelRun0_A c i arg3 harg3 arg4 harg4 arg5 harg5 arg6 harg6 hc0 x0 x1 xs).2.1 = (kernelRun0_A c i arg3 harg3 arg4 harg4 arg5 harg5 arg6 harg6 hc0 x0 x1 xs').2.1 := by
  unfold kernelRun0_A
  dsimp only
  unfold k0_pay1 k0_pay2 k0_pay4 k0_pay5 kernelRun0_A.sl.v25
  simp only [hi, sel_zero]

/-- The grid's first point begins a sum. -/
theorem first_coord (t : Fin cfg0.N) (hz : t.val = 0) : ((grid0.coords t) 2).val = 0 := by
  have h : ∀ t : Fin grid0.N, t.val = 0 → ((grid0.coords t) 2).val = 0 := by decide +kernel
  exact h t hz

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 3
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2_B t ((hcond0_0 t).mpr h0)], after0_2]
    by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_2 sout0_B_0; (try dsimp only)
      iintro ⟨⟨HS0, Hg⟩, Ho, ⟨%d0, H0⟩, ⟨%d1, H1⟩, ⟨%d2, H2⟩⟩
      iapply ((kernelRun0_B c (grid0.coords t) _ _ _ _ _ _ _ _ ((hcond0_0 t).mpr h0) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2_A t (fun h => h0 ((hcond0_0 t).mp h))) (noFlush0_2_A t (fun h => h0 ((hcond0_0 t).mp h)))]
    by_cases hz : t.val = 0
    · rw [PhiS_castSucc m c t, PhiS_zero m c _ _ hz, PhiA0_eq]
      rw [outsAt0_A0 m c t h0 hz]
      unfold sout0_A_0; (try dsimp only)
      iintro ⟨⟨⟨%ds, HS0⟩, Hg⟩, Ho, ⟨%d0, H0⟩, ⟨%d1, H1⟩, ⟨%d2, H2⟩⟩
      iapply ((kernelRun0_A c (grid0.coords t) _ _ _ _ _ _ _ _ (fun h => h0 ((hcond0_0 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; rw [pieces_first c (grid0.coords t) _ _ _ _ _ _ _ _ (fun h => h0 ((hcond0_0 t).mp h)) (iblk m c 0 t) (iblk m c 1 t) ds ((VO0_2.read (Elt F) VO0_2.junk, VS0_0.read (Elt F) VS0_0.junk) : Vec F S1408x1024 .bf16 × Vec F S1408x1024 .f32).2 (first_coord t hz)]; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      rw [outsAt0_A m c t h0 hz]
      unfold sout0_A_0; (try dsimp only)
      iintro ⟨⟨HS0, Hg⟩, Ho, ⟨%d0, H0⟩, ⟨%d1, H1⟩, ⟨%d2, H2⟩⟩
      iapply ((kernelRun0_A c (grid0.coords t) _ _ _ _ _ _ _ _ (fun h => h0 ((hcond0_0 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel2Ideal.Wg

end
-- ==== Proof.WgValue.lean ====
/- The output arrays of the weight-gradient product, block by block. -/
module

public import proofs.«01_k».proof.Proof.WgFrame
public import Idealize.ShloMosaic.Lib.Pipeline.Value

@[expose] public section

set_option maxRecDepth 16384

noncomputable section

namespace Cert.Kernel2Ideal.Wg

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : t.val % 4 = 3) :
    (dats m 0 c).flushed 2 t = (cfg0.win 2).cut (grid0.coords t) (out0_B_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t) (outsAt0 m c (t.val - 1) (Nat.lt_of_le_of_lt (Nat.sub_le _ _) t.isLt)).2) := by
  simp only [flushed2, outsAt0_B m c t h0]

-- no `blocks2`: window 2's index map revisits a block index, or its points could not be enumerated here;
-- the final array is still the frame's `arrAt`, to read with Lib/Pipeline/Value.lean's lemmas by hand

/-- An index that no flushing point's block covers keeps output window 2's array contents at region entry. -/
theorem entry2 (c : Dev nD) (i : S2816x1024.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0) = (dats m 0 c).arrAt 2 cfg0.N :=
  (h c).1 2

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      kept_main_arg0 m r h c,
      kept_main_arg1 m r h c⟩)
    (run_main m ρ)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1408x1024 .bf16 × Vec F S1408x1024 .f32 :=
  ((VO0_2.read (Elt F) VO0_2.junk, VS0_0.read (Elt F) VS0_0.junk) : Vec F S1408x1024 .bf16 × Vec F S1408x1024 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1408x1024 .bf16 × Vec F S1408x1024 .f32) : Vec F S1408x1024 .bf16 × Vec F S1408x1024 .f32 :=
  if h0 : n % 4 = 3 then
    (out0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) acc.2)
  else
    (out0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2, sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2)

/-- `stAt0` at a point of case A: that case's contents, over `acc`. -/
theorem stAt0_A (c : Dev nD) (t : Fin cfg0.N) (acc : Vec F S1408x1024 .bf16 × Vec F S1408x1024 .f32) (h0 : ¬t.val % 4 = 3) :
    stAt0 m c t.val t.isLt acc = (out0_A_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) acc.2, sout0_A_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) acc.2) :=
  (dif_neg h0).trans rfl

/-- `stAt0` at a point of case B: that case's contents, over `acc`. -/
theorem stAt0_B (c : Dev nD) (t : Fin cfg0.N) (acc : Vec F S1408x1024 .bf16 × Vec F S1408x1024 .f32) (h0 : t.val % 4 = 3) :
    stAt0 m c t.val t.isLt acc = (out0_B_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t) acc.2, sout0_B_0 c (grid0.coords t) (ms0_0 t) (hs0_0 t) (ms0_1 t) (hs0_1 t) (ms0_2 t) (hs0_2 t) scM0_0 (Memref.isWhole_whole _) ((hcond0_0 t).mpr h0) (iblk m c 0 t) (iblk m c 1 t) acc.2) :=
  (dif_pos h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 8 from N_0)
  have e := Pipeline.eq_accAt_of_mod (fun n h => outsAt0 m c n h) 8 (fun n h => stAt0 m c n h junk0) (stAt0 m c)
    (fun n h _ => by
      have hN := lt_of_lt_of_eq h (show cfg0.N = 8 from N_0)
      obtain rfl : n = 0 := by omega
      exact outsAt0_zero m c h)
    (fun n h _ => outsAt0_succ m c n h)
    (by decide) n hn (by have := Nat.div_add_mod n 8; omega)
  have hd : n / 8 = 0 := Nat.div_eq_of_lt hN
  have hm : n % 8 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 2 -/

/-- The block of the array that holds index `i`, numbered in the order the points write the blocks back (one every 4 points),
    `i`'s place in it, and the point that writes it back (the last of its 4). -/
abbrev run2Of (i : S2816x1024.Idx) : ℕ := 1 * ((i 0).val / 1408 - 0) + 1 * ((i 1).val / 1024 - 0)
set_option backward.proofsInPublic true in
abbrev loc2Of (i : S2816x1024.Idx) : S1408x1024.Idx := fun a => match a with
  | ⟨0, _⟩ => ⟨(i 0).val % 1408, Nat.mod_lt _ (by decide)⟩
  | ⟨1, _⟩ => ⟨(i 1).val % 1024, Nat.mod_lt _ (by decide)⟩
abbrev pt2Of (i : S2816x1024.Idx) : ℕ := 4 * run2Of i + 3

/-- WHAT THE ARRAY ENDS HOLDING at index `i` inside the box the flushing blocks fill: output 2's component of the carried
    state's fold at the point that writes `i`'s block back, at `i`'s place in the block. `G2` states the array's contents
    only inside the box. -/
def G2 (c : Dev nD) : Buf (Elt F) ((c : Thread nD τ).loc main_v0) := fun i =>
  if h : pt2Of i < cfg0.N then
    (Pipeline.accAt (fun n h => stAt0 m c n h junk0) (stAt0 m c) 0 (pt2Of i) (by omega)).1 (loc2Of i)
  else V m c (Pipeline.arrRef spec0 2) i

/-- The printed index map, decided over the grid: output window 2's block indices stay in the box, and the block number
    read off them is the point's (`t / 4`). -/
theorem idx_facts2 : ∀ t : Fin cfg0.N, 0 ≤ win0_2.index t (0 : Fin 2) ∧ win0_2.index t (0 : Fin 2) ≤ 1
    ∧ 0 ≤ win0_2.index t (1 : Fin 2) ∧ win0_2.index t (1 : Fin 2) ≤ 0
    ∧ 1 * (win0_2.index t (0 : Fin 2) - 0) + 1 * (win0_2.index t (1 : Fin 2) - 0) = t.val / 4 :=
  (by decide +kernel : ∀ t : Fin grid0.N, _)

/-- Every block of the box is SOME flushing point's: `onto2Pt`, the point that writes back the block at place `q` of the box (the last point of its run). -/
abbrev onto2Pt (q0 : Fin 2) (q1 : Fin 1) : Fin grid0.N :=
  ⟨4 * (1 * q0.val + 1 * q1.val) + 3, lt_of_lt_of_eq (by omega) N_0.symm⟩
theorem idx_onto2 : ∀ (q0 : Fin 2) (q1 : Fin 1), ∃ t : Fin cfg0.N, (cfg0.win 2).flush t = true ∧ win0_2.index t = ![q0.val + 0, q1.val + 0] :=
  fun q0 q1 => ⟨onto2Pt q0 q1, (by decide +kernel : ∀ (q0 : Fin 2) (q1 : Fin 1), win0_2.flush (onto2Pt q0 q1) = true ∧ win0_2.index (onto2Pt q0 q1) = ![q0.val + 0, q1.val + 0]) q0 q1⟩

/-- WHAT A FLUSHING POINT `t` WRITES BACK is block `t` of `G2`: output 2's component of the fold up to `t`. -/
theorem flushed2_eq (c : Dev nD) (t : Fin cfg0.N) (hf : (cfg0.win 2).flush t = true) :
    (dats m 0 c).flushed 2 t = ((cfg0.win 2).blk t).view.read (Elt F) (G2 m c) := by
  show (cfg0.win 2).cut (grid0.coords t) ((dats m 0 c).after 2 t) = _
  rw [after0_2, outsAt0_sweep]
  have hm : t.val % 4 = 3 := (flush0_2 t).mp hf
  obtain ⟨e0, e1, e2⟩ := idx_facts2 t
  funext y
  have hy0 : (y 0).val < 1408 := (y 0).isLt
  have hy1 : (y 1).val < 1024 := (y 1).isLt
  have hb0 : (((cfg0.win 2).blk t).view.emb y 0).val = win0_2.index t (0 : Fin 2) * 1408 + 1 * (y 0).val := rfl
  have hb1 : (((cfg0.win 2).blk t).view.emb y 1).val = win0_2.index t (1 : Fin 2) * 1024 + 1 * (y 1).val := rfl
  have hr : run2Of (((cfg0.win 2).blk t).view.emb y) = t.val / 4 := by
    show 1 * ((((cfg0.win 2).blk t).view.emb y 0).val / 1408 - 0) + 1 * ((((cfg0.win 2).blk t).view.emb y 1).val / 1024 - 0) = _
    rw [hb0, hb1]
    rw [show (win0_2.index t (0 : Fin 2) * 1408 + 1 * (y 0).val) / 1408 = win0_2.index t (0 : Fin 2) from by omega]; rw [show (win0_2.index t (1 : Fin 2) * 1024 + 1 * (y 1).val) / 1024 = win0_2.index t (1 : Fin 2) from by omega]
    omega
  have hl : loc2Of (((cfg0.win 2).blk t).view.emb y) = (cfg0.win 2).xinj (grid0.coords t) y := by
    funext a; apply Fin.ext
    match a with
    | ⟨0, _⟩ => show (((cfg0.win 2).blk t).view.emb y 0).val % 1408 = (y 0).val; rw [hb0]; omega
    | ⟨1, _⟩ => show (((cfg0.win 2).blk t).view.emb y 1).val % 1024 = (y 1).val; rw [hb1]; omega
  have hp : pt2Of (((cfg0.win 2).blk t).view.emb y) = t.val := by
    show 4 * run2Of (((cfg0.win 2).blk t).view.emb y) + 3 = _
    rw [hr]; have := Nat.div_add_mod t.val 4; omega
  show (Pipeline.accAt (fun n h => stAt0 m c n h junk0) (stAt0 m c) 0 t.val _).1 ((cfg0.win 2).xinj (grid0.coords t) y) = G2 m c (((cfg0.win 2).blk t).view.emb y)
  unfold G2
  rw [dif_pos (by rw [hp]; exact t.isLt), hl, fold0_congr m c _ _ _ _ hp.symm]

/-- An index of the array is in point `t`'s block iff each coordinate is in the block's range on its axis. -/
theorem mem_blk2 (t : Fin cfg0.N) (i : S2816x1024.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v0).slice (win0_2.rect t)).set ↔ _
  rw [View.set_slice_whole, Rect.mem_set_unit]
  exact Iff.rfl

/-- THE COVERED INDICES: in some flushing point's block iff inside the box those blocks fill. -/
theorem covered_iff2 (i : S2816x1024.Idx) :
    (∃ t : Fin cfg0.N, (cfg0.win 2).flush t = true ∧ i ∈ ((cfg0.win 2).blk t).view.set) ↔ 0 ≤ (i 0).val ∧ (i 0).val < 2816 ∧ 0 ≤ (i 1).val ∧ (i 1).val < 1024 := by
  constructor
  · rintro ⟨t, -, hi⟩
    rw [mem_blk2] at hi
    have b0 : win0_2.index t (0 : Fin 2) * 1408 ≤ (i 0).val ∧ (i 0).val < win0_2.index t (0 : Fin 2) * 1408 + 1408 := hi 0
    have b1 : win0_2.index t (1 : Fin 2) * 1024 ≤ (i 1).val ∧ (i 1).val < win0_2.index t (1 : Fin 2) * 1024 + 1024 := hi 1
    obtain ⟨e0, e1, e2⟩ := idx_facts2 t
    omega
  · intro h
    have hi0 : (i 0).val < 2816 := (i 0).isLt
    have hi1 : (i 1).val < 1024 := (i 1).isLt
    obtain ⟨t, hft, ht⟩ := idx_onto2 ⟨(i 0).val / 1408 - 0, by omega⟩ ⟨(i 1).val / 1024 - 0, by omega⟩
    have q0 : win0_2.index t (0 : Fin 2) = (i 0).val / 1408 - 0 + 0 := congrFun ht 0
    have q1 : win0_2.index t (1 : Fin 2) = (i 1).val / 1024 - 0 + 0 := congrFun ht 1
    refine ⟨t, hft, ?_⟩
    rw [mem_blk2]
    intro a
    match a with
    | ⟨0, _⟩ => show win0_2.index t (0 : Fin 2) * 1408 ≤ (i 0).val ∧ (i 0).val < win0_2.index t (0 : Fin 2) * 1408 + 1408; omega
    | ⟨1, _⟩ => show win0_2.index t (1 : Fin 2) * 1024 ≤ (i 1).val ∧ (i 1).val < win0_2.index t (1 : Fin 2) * 1024 + 1024; omega

/-- THE ARRAY after the run: `G2` (the flushing blocks tile it). -/
theorem final2 (c : Dev nD) : (dats m 0 c).arrAt 2 cfg0.N = G2 m c :=
  (dats m 0 c).arrAt_eq_of_cover 2 _ (fun t hf => flushed2_eq m c t hf) (fun i => (covered_iff2 i).2 (by
    have h0 : (i 0).val < 2816 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      kept_main_arg0 m r h c,
      kept_main_arg1 m r h c⟩)
    (run_main m ρ)

end Cert.Kernel2Ideal.Wg

end
-- ==== Proof.WgAlg.lean ====
/- The value of the weight-gradient product over the extended reals. -/
module

public import proofs.«01_k».proof.Proof.WgValue
public import Idealize.ShloMosaic.Lib.Pointwise
public import Idealize.ShloMosaic.Lib.ValueIdx
public import Idealize.ShloMosaic.Lib.Pointwise.Sums

@[expose] public section

set_option maxRecDepth 16384

noncomputable section

namespace Cert.Kernel2Ideal.Wg

open Cert.Kernel2Ideal Cert.Kernel2Ideal.Gen
open Idealize.ShloMosaic Idealize.ShloMosaic.TcCoe Idealize.ShloMosaic.Tactic
open Idealize.ShloMosaic.Pipeline (Dat Cfg Window BodyObligation cellOf)
open scoped BigOperators

/-- One block's product: 2048 tokens' contribution to the gradient at `y`. -/
def addend (x0 : Vec Ideal S2048x1408 .bf16) (x1 : Vec Ideal S2048x1024 .bf16) (y : S1408x1024.Idx) : EReal :=
  ∑ k : Fin 2048, x0 (ix2 k (y 0)) * x1 (ix2 k (y 1))

/-- What the accumulator holds after a point: the block's product added to what it held, or to zero where a sum begins. -/
def stepAt (i : grid0.Coords) (x0 : Vec Ideal S2048x1408 .bf16) (x1 : Vec Ideal S2048x1024 .bf16) (xs0 : Vec Ideal S1408x1024 .f32)
    (y : S1408x1024.Idx) : EReal :=
  (if (i 2).val = 0 then 0 else xs0 y) + addend x0 x1 y

theorem sel_apply (n : ℕ) (hn : n < 4) (x y : FVec Ideal S1408x256 .f32) (j : S1408x256.Idx) :
    Scalar.select (Scalar.cmpi .eq (BitVec.ofNat 32 n) 0#32) x y j = if n = 0 then x j else y j := by
  have : n = 0 ∨ n = 1 ∨ n = 2 ∨ n = 3 := by omega
  rcases this with rfl | rfl | rfl | rfl <;> rfl

/-- The step at a place of one block of 256 columns. -/
theorem step_rect (i : grid0.Coords) (x0 : Vec Ideal S2048x1408 .bf16) (x1 : Vec Ideal S2048x1024 .bf16)
    (xs0 : Vec Ideal S1408x1024 .f32) (y z : S1408x1024.Idx) (f : Fin 2048 → S2048x1408.Idx) (g : Fin 2048 → S2048x1024.Idx)
    (hz : z = y) (hf : ∀ k, f k = ix2 k (y 0)) (hg : ∀ k, g k = ix2 k (y 1)) :
    (if (i 2).val = 0 then (0 : EReal) else xs0 z) + ((0 : EReal) + ∑ k : Fin 2048, x0 (f k) * x1 (g k))
      = stepAt i x0 x1 xs0 y := by
  subst hz
  obtain rfl : f = fun k => ix2 k (z 0) := funext hf
  obtain rfl : g = fun k => ix2 k (z 1) := funext hg
  unfold stepAt addend
  exact congrArg (fun u : EReal => (if (i 2).val = 0 then (0 : EReal) else xs0 z) + u) (zero_add _)

theorem ix2_eq {n0 n1 : ℕ} {a a' : Fin n0} {b b' : Fin n1} (ha : a.val = a'.val) (hb : b.val = b'.val) : ix2 a b = ix2 a' b' := by
  obtain rfl := Fin.ext ha
  obtain rfl := Fin.ext hb
  rfl

/-- The pieces a point stores in the accumulator are its step's values. -/
theorem pieces_A (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i)
    (x0 : Vec Ideal S2048x1408 .bf16) (x1 : Vec Ideal S2048x1024 .bf16) (xs0 : Vec Ideal S1408x1024 .f32) :
    ∀ p ∈ (kernelRun0_A c i arg3 harg3 arg4 harg4 arg5 harg5 arg6 harg6 hc0 x0 x1 xs0).2.1, ∀ x, p.2 x = stepAt i x0 x1 xs0 (p.1.emb x) := by
  have hi : (i 2).val < 4 := (i 2).isLt
  unfold kernelRun0_A
  dsimp only
  intro p hp x
  simp only [List.mem_cons, List.mem_nil_iff, or_false] at hp
  rcases hp with rfl | rfl | rfl | rfl <;> dsimp only
  · unfold k0_pay2 kernelRun0_A.sl.v37
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay1 kernelRun0_A.sl.r kernelRun0_A.sl.v25 kernelRun0_A.sl.v26
    dsimp only
    unfold k0_pay6
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay5 kernelRun0_A.sl.v15
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay4
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl

/-- The pieces the last point of a sum stores in the accumulator are its step's values. -/
theorem pieces_B (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec Ideal S2048x1408 .bf16) (x1 : Vec Ideal S2048x1024 .bf16) (xs0 : Vec Ideal S1408x1024 .f32) :
    ∀ p ∈ (kernelRun0_B c i arg3 harg3 arg4 harg4 arg5 harg5 arg6 harg6 hc0 x0 x1 xs0).2.1, ∀ x, p.2 x = stepAt i x0 x1 xs0 (p.1.emb x) := by
  have hi : (i 2).val < 4 := (i 2).isLt
  unfold kernelRun0_B
  dsimp only
  unfold kernelRun0_B.sl.HS0_4
  intro p hp x
  simp only [List.mem_cons, List.mem_nil_iff, or_false] at hp
  rcases hp with rfl | rfl | rfl | rfl <;> dsimp only
  · unfold k0_pay2 kernelRun0_B.sl.v37
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay1 kernelRun0_B.sl.r kernelRun0_B.sl.v25 kernelRun0_B.sl.v26
    dsimp only
    unfold k0_pay6
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay5 kernelRun0_B.sl.v15
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay4
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl

theorem sout0_A_apply (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i)
    (x0 : Vec Ideal S2048x1408 .bf16) (x1 : Vec Ideal S2048x1024 .bf16) (xs0 : Vec Ideal S1408x1024 .f32) (y : S1408x1024.Idx) :
    sout0_A_0 c i arg3 harg3 arg4 harg4 arg5 harg5 arg6 harg6 hc0 x0 x1 xs0 y = stepAt i x0 x1 xs0 y := by
  unfold sout0_A_0
  exact View.read_writes_apply_of_pieces _ _ (stepAt i x0 x1 xs0) _ (pieces_A c i arg3 harg3 arg4 harg4 arg5 harg5 arg6 harg6 hc0 x0 x1 xs0) y (scover0_A_0 c i arg3 harg3 arg4 harg4 arg5 harg5 arg6 harg6 hc0 x0 x1 xs0 y)

theorem sout0_B_apply (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec Ideal S2048x1408 .bf16) (x1 : Vec Ideal S2048x1024 .bf16) (xs0 : Vec Ideal S1408x1024 .f32) (y : S1408x1024.Idx) :
    sout0_B_0 c i arg3 harg3 arg4 harg4 arg5 harg5 arg6 harg6 hc0 x0 x1 xs0 y = stepAt i x0 x1 xs0 y := by
  unfold sout0_B_0
  exact View.read_writes_apply_of_pieces _ _ (stepAt i x0 x1 xs0) _ (pieces_B c i arg3 harg3 arg4 harg4 arg5 harg5 arg6 harg6 hc0 x0 x1 xs0) y (scover0_B_0 c i arg3 harg3 arg4 harg4 arg5 harg5 arg6 harg6 hc0 x0 x1 xs0 y)

theorem out0_B_apply (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i)
    (x0 : Vec Ideal S2048x1408 .bf16) (x1 : Vec Ideal S2048x1024 .bf16) (xs0 : Vec Ideal S1408x1024 .f32) (y : S1408x1024.Idx) :
    out0_B_2 c i arg3 harg3 arg4 harg4 arg5 harg5 arg6 harg6 hc0 x0 x1 xs0 y = stepAt i x0 x1 xs0 y := by
  unfold out0_B_2
  refine View.read_writes_apply_of_pieces _ _ (stepAt i x0 x1 xs0) _ ?_ y (cover0_B_2 c i arg3 harg3 arg4 harg4 arg5 harg5 arg6 harg6 hc0 x0 x1 xs0 y)
  unfold kernelRun0_B
  dsimp only
  intro p hp x
  simp only [List.mem_cons, List.mem_nil_iff, or_false] at hp
  subst hp
  dsimp only
  unfold k0_pay3 kernelRun0_B.sl.v47
  simp only [pointwise]
  exact View.read_writes_apply_of_pieces arg6.view _ (stepAt i x0 x1 xs0) (kernelRun0_B c i arg3 harg3 arg4 harg4 arg5 harg5 arg6 harg6 hc0 x0 x1 xs0).2.1 (pieces_B c i arg3 harg3 arg4 harg4 arg5 harg5 arg6 harg6 hc0 x0 x1 xs0) _ (scover0_B_0 c i arg3 harg3 arg4 harg4 arg5 harg5 arg6 harg6 hc0 x0 x1 xs0 _)

variable (m : (ℓ : Loc nD τ sig) → Buf (Elt Ideal) ℓ)

/-- The incoming gradient's array. -/
def dgArr (c : Dev nD) : S8192x2816.Idx → EReal := m ((c : Thread nD τ).loc main_arg0)
/-- The activations' array. -/
def hArr (c : Dev nD) : S8192x1024.Idx → EReal := m ((c : Thread nD τ).loc main_arg1)

/-- The two arrays' product at one token, at the places the gradient's index names. -/
def term (c : Dev nD) (i : S2816x1024.Idx) (k : Fin 8192) : EReal :=
  dgArr m c (ix2 k (i 0)) * hArr m c (ix2 k (i 1))

/-- The array the kernel leaves, read as extended reals. -/
def outArr (c : Dev nD) : S2816x1024.Idx → EReal := G2 m c

/-- The grid's third coordinate counts the blocks of tokens. -/
theorem coord2 : ∀ t : Fin cfg0.N, ((grid0.coords t) 2).val = t.val % 4 :=
  (by decide +kernel : ∀ t : Fin grid0.N, _)

theorem index0 : ∀ t : Fin cfg0.N, win0_0.index t (0 : Fin 2) = t.val % 4 ∧ win0_0.index t (1 : Fin 2) = t.val / 4 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)

theorem lt_N (t : Fin cfg0.N) : t.val < 8 := lt_of_lt_of_eq t.isLt N_0

theorem iblk0_apply (c : Dev nD) (t : Fin cfg0.N) (k : Fin 2048) (a : Fin 1408) :
    (iblk m c 0 t : S2048x1408.Idx → EReal) (ix2 k a)
      = dgArr m c
          (ix2 ⟨t.val % 4 * 2048 + k.val, by omega⟩ ⟨t.val / 4 * 1408 + a.val, by have := lt_N t; omega⟩) := by
  obtain ⟨e0, e1⟩ := index0 t
  show dgArr m c (((cfg0.win 0).blk t).view.emb (ix2 k a)) = _
  refine congrArg _ (funext fun b => ?_)
  match b with
  | ⟨0, _⟩ =>
    apply Fin.ext
    show win0_0.index t (0 : Fin 2) * 2048 + 1 * k.val = t.val % 4 * 2048 + k.val
    rw [e0, Nat.one_mul]
  | ⟨1, _⟩ =>
    apply Fin.ext
    show win0_0.index t (1 : Fin 2) * 1408 + 1 * a.val = t.val / 4 * 1408 + a.val
    rw [e1, Nat.one_mul]

theorem iblk1_apply (c : Dev nD) (t : Fin cfg0.N) (k : Fin 2048) (a : Fin 1024) :
    (iblk m c 1 t : S2048x1024.Idx → EReal) (ix2 k a)
      = hArr m c
          (ix2 ⟨t.val % 4 * 2048 + k.val, by omega⟩ a) := by
  obtain ⟨e0, e1⟩ := index1 t
  show hArr m c (((cfg0.win 1).blk t).view.emb (ix2 k a)) = _
  refine congrArg _ (funext fun b => ?_)
  match b with
  | ⟨0, _⟩ =>
    apply Fin.ext
    show win0_1.index t (0 : Fin 2) * 2048 + 1 * k.val = t.val % 4 * 2048 + k.val
    rw [e0, Nat.one_mul]
  | ⟨1, _⟩ =>
    apply Fin.ext
    show win0_1.index t (1 : Fin 2) * 1024 + 1 * a.val = a.val
    rw [e1, Nat.one_mul, Nat.zero_mul, Nat.zero_add]

/-- What point `n` adds to the accumulator. -/
def blockAdd (c : Dev nD) (n : ℕ) (hn : n < cfg0.N) (y : S1408x1024.Idx) : EReal :=
  addend (iblk m c 0 ⟨n, hn⟩) (iblk m c 1 ⟨n, hn⟩) y

/-- It is the sum over the point's 2048 tokens. -/
theorem blockAdd_eq (c : Dev nD) (n s : ℕ) (hn : n < cfg0.N) (i : S2816x1024.Idx) (hs : s < 4) (h : n = 4 * ((i 0).val / 1408) + s) :
    blockAdd m c n hn (loc2Of i) = ∑ k : Fin 2048, term m c i ⟨s * 2048 + k.val, by omega⟩ := by
  unfold blockAdd addend term
  refine Finset.sum_congr rfl fun k _ => ?_
  have h8 : n < 8 := lt_of_lt_of_eq hn N_0
  have e0 : n % 4 = s := by omega
  have e1 : n / 4 = (i 0).val / 1408 := by omega
  have h1 : (i 1).val < 1024 := (i 1).isLt
  refine congrArg₂ (fun a b : EReal => a * b) ((iblk0_apply m c ⟨n, hn⟩ k (loc2Of i 0)).trans (congrArg _ (ix2_eq ?_ ?_)))
    ((iblk1_apply m c ⟨n, hn⟩ k (loc2Of i 1)).trans (congrArg _ (ix2_eq ?_ ?_)))
  · show n % 4 * 2048 + k.val = s * 2048 + k.val
    rw [e0]
  · show n / 4 * 1408 + (i 0).val % 1408 = (i 0).val
    rw [e1]; omega
  · show n % 4 * 2048 + k.val = s * 2048 + k.val
    rw [e0]
  · show (i 1).val % 1024 = (i 1).val
    omega

theorem stAt0_snd (c : Dev nD) (n : ℕ) (hn : n < cfg0.N) (acc : Vec Ideal S1408x1024 .bf16 × Vec Ideal S1408x1024 .f32) (y : S1408x1024.Idx) :
    (stAt0 m c n hn acc).2 y = (if n % 4 = 0 then (0 : EReal) else acc.2 y) + blockAdd m c n hn y := by
  have hc := coord2 ⟨n, hn⟩
  by_cases h0 : n % 4 = 3
  · rw [stAt0_B m c ⟨n, hn⟩ acc h0]
    dsimp only
    rw [sout0_B_apply]
    unfold stepAt blockAdd
    rw [hc]
  · rw [stAt0_A m c ⟨n, hn⟩ acc h0]
    dsimp only
    rw [sout0_A_apply]
    unfold stepAt blockAdd
    rw [hc]

theorem stAt0_fst (c : Dev nD) (n : ℕ) (hn : n < cfg0.N) (acc : Vec Ideal S1408x1024 .bf16 × Vec Ideal S1408x1024 .f32) (y : S1408x1024.Idx)
    (h0 : n % 4 = 3) : (stAt0 m c n hn acc).1 y = acc.2 y + blockAdd m c n hn y := by
  have hc := coord2 ⟨n, hn⟩
  rw [stAt0_B m c ⟨n, hn⟩ acc h0]
  dsimp only
  rw [out0_B_apply]
  unfold stepAt blockAdd
  rw [hc, if_neg (by show ¬ n % 4 = 0; omega)]

/-- A sum begins at the first block of tokens. -/
theorem fold_first (c : Dev nD) (n : ℕ) (hn : n < cfg0.N) (h : n % 4 = 0) (y : S1408x1024.Idx) :
    (outsAt0 m c n hn).2 y = blockAdd m c n hn y := by
  match n, hn, h with
  | 0, hn, h => rw [outsAt0_zero, stAt0_snd, if_pos h, zero_add]
  | n + 1, hn, h => rw [outsAt0_succ, stAt0_snd, if_pos h, zero_add]

theorem fold_next (c : Dev nD) (n : ℕ) (hn : n + 1 < cfg0.N) (h : ¬ (n + 1) % 4 = 0) (y : S1408x1024.Idx) :
    (outsAt0 m c (n + 1) hn).2 y = (outsAt0 m c n (Nat.lt_of_succ_lt hn)).2 y + blockAdd m c (n + 1) hn y := by
  rw [outsAt0_succ, stAt0_snd, if_neg h]

theorem fold_last (c : Dev nD) (n : ℕ) (hn : n + 1 < cfg0.N) (h : (n + 1) % 4 = 3) (y : S1408x1024.Idx) :
    (outsAt0 m c (n + 1) hn).1 y = (outsAt0 m c n (Nat.lt_of_succ_lt hn)).2 y + blockAdd m c (n + 1) hn y := by
  rw [outsAt0_succ, stAt0_fst m c _ _ _ _ h]

/-- The array the kernel leaves: at each place, the product summed over all the tokens. -/
theorem G2_apply (c : Dev nD) (i : S2816x1024.Idx) : outArr m c i = ∑ k : Fin 8192, term m c i k := by
  have hi0 : (i 0).val < 2816 := (i 0).isLt
  have hi1 : (i 1).val < 1024 := (i 1).isLt
  have hN : cfg0.N = 8 := N_0
  have hp : pt2Of i = 4 * ((i 0).val / 1408) + 2 + 1 := by unfold pt2Of run2Of; omega
  have hlt : 4 * ((i 0).val / 1408) + 2 + 1 < cfg0.N := by omega
  have hG : outArr m c i = (outsAt0 m c (4 * ((i 0).val / 1408) + 2 + 1) hlt).1 (loc2Of i) := by
    unfold outArr G2
    rw [dif_pos (by omega), ← outsAt0_sweep m c (pt2Of i) (by omega)]
    simp only [hp]
  rw [hG, fold_last m c _ _ (by omega), fold_next m c _ _ (by omega), fold_next m c _ _ (by omega), fold_first m c _ _ (by omega),
    blockAdd_eq m c _ 0 _ i (by omega) (by omega), blockAdd_eq m c _ 1 _ i (by omega) (by omega),
    blockAdd_eq m c _ 2 _ i (by omega) (by omega), blockAdd_eq m c _ 3 _ i (by omega) (by omega),
    Fin.sum_univ_tiles 4 2048 rfl, Fin.sum_univ_four]
  rfl

end Cert.Kernel2Ideal.Wg

end
-- ==== Proof.Wg.lean ====
/- The claims of the weight-gradient product. -/
module

public import proofs.«01_k».proof.Defs
public import proofs.«01_k».proof.Proof.Gen.Kernel2
public import proofs.«01_k».proof.Proof.Gen.Reference2Ideal.Run
public import proofs.«01_k».proof.Proof.Gen.Reference2Ideal.Read
public import proofs.«01_k».proof.Proof.WgAlg

@[expose] public section

noncomputable section

namespace Cert.Proof

open Idealize.ShloMosaic Idealize.ShloMosaic.TcCoe Idealize.SL.Sem

theorem frame_kernel2Ideal : Cert.quiescent_Kernel2Ideal := fun m ρ _ => Cert.Kernel2Ideal.Wg.frame (F := Ideal) m ρ

/-- At bit patterns the two printings are one program. -/
theorem wg_defs_eq : Cert.Kernel2.defs (F := Bits) = Cert.Kernel2Ideal.defs (F := Bits) := by
  have h : Cert.Kernel2.defs₀ (F := Bits) = Cert.Kernel2Ideal.defs₀ (F := Bits) := by
    unfold Cert.Kernel2.defs₀
    refine congrArg Defs.onTc (funext fun k => ?_)
    match k with
    | 0 => rfl
  unfold Cert.Kernel2.defs
  rw [h]
  rfl

theorem frame_kernel2 : Cert.quiescent_Kernel2 := by
  intro m ρ _
  rw [wg_defs_eq]
  exact Cert.Kernel2Ideal.Wg.frame (F := Bits) m ρ

theorem frame_reference2Ideal : Cert.quiescent_Reference2Ideal := fun m ρ _ =>
  (θ_run Cert.Reference2Ideal.defs _ _).mono (fun r h => ⟨fun c => (h c).2, Idealize.ShloMosaic.sem_eq_zero_of_no_sems (by decide) r.2⟩) (Cert.Reference2Ideal.Value.run (F := Ideal) m ρ)

/-- The reference's weight gradient at a place: the product of the two arrays summed over the tokens. -/
theorem reference2_apply (x0 : (⟨Cert.Reference2Ideal.S8192x2816, .bf16⟩ : BufTy).Contents (Elt Ideal)) (x1 : (⟨Cert.Reference2Ideal.S8192x1024, .bf16⟩ : BufTy).Contents (Elt Ideal))
    (i : Cert.Reference2Ideal.S2816x1024.Idx) :
    (Cert.Reference2Ideal.Read.val_main_v7 (F := Ideal) x0 x1 i : EReal)
      = ∑ k : Fin 8192, (x0 : Cert.Reference2Ideal.S8192x2816.Idx → EReal) (ix2 k (i 0)) * (x1 : Cert.Reference2Ideal.S8192x1024.Idx → EReal) (ix2 k (i 1)) := by
  rw [Cert.Reference2Ideal.Read.val_main_v7_apply, Cert.Reference2Ideal.Read.val_main_v6_apply, Cert.Reference2Ideal.Read.val_main_v5_apply,
    Cert.Reference2Ideal.Read.val_main_v4_apply]
  refine Finset.sum_congr rfl fun k _ => ?_
  have e0 : Cert.Reference2Ideal.Read.lidx_main_v4 (Cert.Reference2Ideal.Read.idx_main_v5 (Cert.Reference2Ideal.Read.idx_main_v6 i)) k = ix2 k (i 0) := by
    funext a
    match a with
    | ⟨0, _⟩ => rfl
    | ⟨1, _⟩ => rfl
  have e1 : Cert.Reference2Ideal.Read.ridx_main_v4 (Cert.Reference2Ideal.Read.idx_main_v5 (Cert.Reference2Ideal.Read.idx_main_v6 i)) k = ix2 k (i 1) := by
    funext a
    match a with
    | ⟨0, _⟩ => rfl
    | ⟨1, _⟩ => rfl
  rw [Cert.Reference2Ideal.Read.val_main_v3_apply, Cert.Reference2Ideal.Read.val_main_v1_apply, e0, e1]
  rfl

theorem algebraic2 : Cert.algebraic_Kernel2Ideal_Reference2Ideal := by
  intro m g m' g' _ h
  refine ⟨fun c => Cert.Kernel2Ideal.Wg.G2 m c, Cert.Kernel2Ideal.Wg.run (F := Ideal) m g, ?_⟩
  refine (θ_run Cert.Reference2Ideal.defs _ _).mono (fun r hr c => ⟨(hr c).1.trans ?_, (hr c).2⟩) (Cert.Reference2Ideal.Value.run (F := Ideal) m' g')
  refine (Cert.Reference2Ideal.Read.val_main_v7_eq _ _).trans ?_
  rw [(h c).1, (h c).2]
  funext i
  exact (reference2_apply _ _ i).trans (Cert.Kernel2Ideal.Wg.G2_apply m c i).symm

end Cert.Proof

end
-- ==== Proof.FbRuns.lean ====
/- What the runs of the backward call of the feed-forward block share: its blocks, its branch conditions, its staging memrefs. -/
module

public import proofs.«01_k».proof.Proof.Gen.Kernel3Ideal.Skeleton
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel3Ideal.Fb

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 10 is never idle (an output stored at every point, under no condition). -/
theorem liveAt0_10 : ∀ t : Fin cfg0.N, cfg0.idle 10 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Window 13 is never idle (an output stored at every point, under no condition). -/
theorem liveAt0_13 : ∀ t : Fin cfg0.N, cfg0.idle 13 (grid0.coords t) = false := fun _ => rfl
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x80000000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → cfg0.idle 9 (grid0.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_B : ∀ t : Fin cfg0.N, ¬cond0_0 (grid0.coords t) → cond0_1 (grid0.coords t) → cfg0.fresh 9 t.val = false := by
  intro t; rw [fresh0_9_eq t]; revert t; decide +kernel

/-! ## The kernel body on any staging memrefs: a subtype the run finds -/

/-- One staging buffer of output window 8, through which its contents are stated (`View.read_writes_of_cover`: the
    choice does not matter). -/
abbrev VO0_8 : View sig .tc .vmem S256x1024 .f32 := (Memref.whole cc0_stg8_0 : Memref sig .tc .vmem S256x1024 .f32).view
/-- One staging buffer of output window 9, through which its contents are stated (`View.read_writes_of_cover`: the
    choice does not matter). -/
abbrev VO0_9 : View sig .tc .vmem S1x1024 .f32 := (Memref.whole cc0_stg9_0 : Memref sig .tc .vmem S1x1024 .f32).view
/-- One staging buffer of output window 10, through which its contents are stated (`View.read_writes_of_cover`: the
    choice does not matter). -/
abbrev VO0_10 : View sig .tc .vmem S256x2816 .bf16 := (Memref.whole cc0_stg10_0 : Memref sig .tc .vmem S256x2816 .bf16).view
/-- One staging buffer of output window 11, through which its contents are stated (`View.read_writes_of_cover`: the
    choice does not matter). -/
abbrev VO0_11 : View sig .tc .vmem S256x2816 .bf16 := (Memref.whole cc0_stg11_0 : Memref sig .tc .vmem S256x2816 .bf16).view
/-- One staging buffer of output window 12, through which its contents are stated (`View.read_writes_of_cover`: the
    choice does not matter). -/
abbrev VO0_12 : View sig .tc .vmem S256x2816 .bf16 := (Memref.whole cc0_stg12_0 : Memref sig .tc .vmem S256x2816 .bf16).view
/-- One staging buffer of output window 13, through which its contents are stated (`View.read_writes_of_cover`: the
    choice does not matter). -/
abbrev VO0_13 : View sig .tc .vmem S256x1024 .bf16 := (Memref.whole cc0_stg13_0 : Memref sig .tc .vmem S256x1024 .bf16).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2816x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2816 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2816 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x2816 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .bf16 := win0_13.stage (cfg0.slots t 13)
abbrev hs0_13 (t : Fin cfg0.N) : (ms0_13 t).IsWhole := hstage0_13 ((cfg0.slots t 13).cast nbuf0_13)

end Cert.Kernel3Ideal.Fb

end
-- ==== Proof.FbRunA.lean ====
/- One run of the body of the backward call of the feed-forward block (case A). -/
module

public import proofs.«01_k».proof.Proof.FbRuns

@[expose] public section

set_option maxRecDepth 16384

noncomputable section

namespace Cert.Kernel3Ideal.Fb

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) :
    Σ' (L8 : List (View.Piece (Elt F) S256x1024 .f32)), Σ' (L9 : List (View.Piece (Elt F) S1x1024 .f32)), Σ' (L10 : List (View.Piece (Elt F) S256x2816 .bf16)), Σ' (L11 : List (View.Piece (Elt F) S256x2816 .bf16)), Σ' (L12 : List (View.Piece (Elt F) S256x2816 .bf16)), { L13 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_ffn_bwd_x i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_bwd_x_eq_skeleton]; unfold cc0_ffn_bwd_x_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel3Ideal.Fb

end
-- ==== Proof.FbRunB.lean ====
/- One run of the body of the backward call of the feed-forward block (case B). -/
module

public import proofs.«01_k».proof.Proof.FbRuns

@[expose] public section

set_option maxRecDepth 16384

noncomputable section

namespace Cert.Kernel3Ideal.Fb

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 31: 31 of 32), WITH the
    proof that on whole staging memrefs — the inputs' at their contents, the outputs it reads before covering (9) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) :
    Σ' (L8 : List (View.Piece (Elt F) S256x1024 .f32)), Σ' (L9 : List (View.Piece (Elt F) S1x1024 .f32)), Σ' (L10 : List (View.Piece (Elt F) S256x2816 .bf16)), Σ' (L11 : List (View.Piece (Elt F) S256x2816 .bf16)), Σ' (L12 : List (View.Piece (Elt F) S256x2816 .bf16)), { L13 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_ffn_bwd_x i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_bwd_x_eq_skeleton]; unfold cc0_ffn_bwd_x_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel3Ideal.Fb

end
-- ==== Proof.FbFrame.lean ====
/- What the backward call of the feed-forward block leaves point by point, its body obligation, its run. -/
module

public import proofs.«01_k».proof.Proof.FbRunA
public import proofs.«01_k».proof.Proof.FbRunB
public import Idealize.ShloMosaic.Lib.Claim

@[expose] public section

set_option maxRecDepth 16384

noncomputable section

namespace Cert.Kernel3Ideal.Fb

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (1 store of `S256x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 S256x1024.size (by sl_kernel_rfl) y

/-- What case A leaves in output 8's staging buffer: its pieces read back over junk. -/
def out0_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) : Vec F S256x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1)

/-- Case A's pieces for output 9 tile its block (1 store of `S1x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1 S1x1024.size (by sl_kernel_rfl) y

/-- What case A leaves in output 9's staging buffer: its pieces read back over junk. -/
def out0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) : Vec F S1x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.1)

/-- Case A's pieces for output 10 tile its block (1 store of `S256x2816`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (y : S256x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1 S256x2816.size (by sl_kernel_rfl) y

/-- What case A leaves in output 10's staging buffer: its pieces read back over junk. -/
def out0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) : Vec F S256x2816 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1)

/-- Case A's pieces for output 11 tile its block (1 store of `S256x2816`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (y : S256x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1 S256x2816.size (by sl_kernel_rfl) y

/-- What case A leaves in output 11's staging buffer: its pieces read back over junk. -/
def out0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) : Vec F S256x2816 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1)

/-- Case A's pieces for output 12 tile its block (1 store of `S256x2816`, checked by the kernel's evaluation: Lib/Ring.lean `Piece.tiledL`, linear in the pieces, through a loop's `@[irreducible]` trip theorem too), so they cover it. -/
theorem cover0_A_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (y : S256x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1 S256x2816.size (by sl_kernel_rfl) y

/-- What case A leaves in output 12's staging buffer: its pieces read back over junk. -/
def out0_A_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) : Vec F S256x2816 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1)

/-- Case A's pieces for output 13 tile its block (1 store of `S256x1024`, checked by the kernel's evaluation: Lib/Ring.lean `Piece.tiledL`, linear in the pieces, through a loop's `@[irreducible]` trip theorem too), so they cover it. -/
theorem cover0_A_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.2.1 S256x1024.size (by sl_kernel_rfl) y

/-- What case A leaves in output 13's staging buffer: its pieces read back over junk. -/
def out0_A_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) : Vec F S256x1024 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.2.1)

/-- Case B's pieces for output 8 tile its block (1 store of `S256x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).1 S256x1024.size (by sl_kernel_rfl) y

/-- What case B leaves in output 8's staging buffer: its pieces read back over junk. -/
def out0_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) : Vec F S256x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).1)

/-- Case B's pieces for output 9 tile its block (1 store of `S1x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.1 S1x1024.size (by sl_kernel_rfl) y

/-- What case B leaves in output 9's staging buffer: its pieces read back over junk. -/
def out0_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) : Vec F S1x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.1)

/-- Case B's pieces for output 10 tile its block (1 store of `S256x2816`, checked by the kernel's evaluation: Lib/Ring.lean `Piece.tiledL`, linear in the pieces, through a loop's `@[irreducible]` trip theorem too), so they cover it. -/
theorem cover0_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) (y : S256x2816.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.1 S256x2816.size (by sl_kernel_rfl) y

/-- What case B leaves in output 10's staging buffer: its pieces read back over junk. -/
def out0_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) : Vec F S256x2816 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.1)

/-- Case B's pieces for output 11 tile its block (1 store of `S256x2816`, checked by the kernel's evaluation: Lib/Ring.lean `Piece.tiledL`, linear in the pieces, through a loop's `@[irreducible]` trip theorem too), so they cover it. -/
theorem cover0_B_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) (y : S256x2816.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.1 S256x2816.size (by sl_kernel_rfl) y

/-- What case B leaves in output 11's staging buffer: its pieces read back over junk. -/
def out0_B_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) : Vec F S256x2816 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.1)

/-- Case B's pieces for output 12 tile its block (1 store of `S256x2816`, checked by the kernel's evaluation: Lib/Ring.lean `Piece.tiledL`, linear in the pieces, through a loop's `@[irreducible]` trip theorem too), so they cover it. -/
theorem cover0_B_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) (y : S256x2816.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.2.1 S256x2816.size (by sl_kernel_rfl) y

/-- What case B leaves in output 12's staging buffer: its pieces read back over junk. -/
def out0_B_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) : Vec F S256x2816 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.2.1)

/-- Case B's pieces for output 13 tile its block (1 store of `S256x1024`, checked by the kernel's evaluation: Lib/Ring.lean `Piece.tiledL`, linear in the pieces, through a loop's `@[irreducible]` trip theorem too), so they cover it. -/
theorem cover0_B_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.2.2.1 S256x1024.size (by sl_kernel_rfl) y

/-- What case B leaves in output 13's staging buffer: its pieces read back over junk. -/
def out0_B_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec F S256x1024 .f32) (x1 : Vec F S1x1024 .f32) (x2 : Vec F S256x2816 .bf16) (x3 : Vec F S256x2816 .bf16) (x4 : Vec F S2816x1024 .bf16) (x5 : Vec F S2816x1024 .bf16) (x6 : Vec F S2816x1024 .bf16) (x7 : Vec F S256x1024 .f32) (xo9 : Vec F S1x1024 .f32) : Vec F S256x1024 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1024 .f32 × Vec F S1x1024 .f32 × Vec F S256x2816 .bf16 × Vec F S256x2816 .bf16 × Vec F S256x2816 .bf16 × Vec F S256x1024 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      if h1 : 1 ≤ (n + 1) then
        False.elim (by have hN : n + 1 < 32 := lt_of_lt_of_eq hn (show cfg0.N = 32 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : 1 ≤ (n + 1) then
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 32 = 0) (h1 : ¬1 ≤ t.val) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : 1 ≤ t.val) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 32 := lt_of_lt_of_eq t.isLt (show cfg0.N = 32 from N_0)
  rw [after0_9, after0_9]
  by_cases h0 : t.val % 32 = 0
  · by_cases h1 : 1 ≤ t.val
    · exfalso; omega
    · rw [liveAt0_9_A t ((hcond0_0 t).mpr h0) (fun h => h1 ((hcond0_1 t).mp h))] at hi
      exact absurd hi Bool.false_ne_true
  · by_cases h1 : 1 ≤ t.val
    · rw [liveAt0_9_B t (fun h => h0 ((hcond0_0 t).mp h)) ((hcond0_1 t).mpr h1)] at hi
      exact absurd hi Bool.false_ne_true
    · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 32 = 0) (h1 : 1 ≤ t.val) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 32 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [outsAt0_A m c t h0 h1]
      unfold out0_A_8 out0_A_9 out0_A_10 out0_A_11 out0_A_12 out0_A_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iintro ⟨H0, H1, H2, H3, H4, H5, H6, H7, ⟨%e8, H8⟩, ⟨%e9, H9⟩, ⟨%e10, H10⟩, ⟨%e11, H11⟩, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _)
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [outsAt0_B m c t h0 h1]
      simp only [before0_9_B m c t h0 h1]
      unfold out0_B_8 out0_B_9 out0_B_10 out0_B_11 out0_B_12 out0_B_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [H11]; · iexists _; iexact H11
      isplitl [H12]; · iexists _; iexact H12
      isplitl [H13]; · iexists _; iexact H13
      iintro ⟨H0, H1, H2, H3, H4, H5, H6, H7, ⟨%e8, H8⟩, ⟨%e9, H9⟩, ⟨%e10, H10⟩, ⟨%e11, H11⟩, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel3Ideal.Fb

end
-- ==== Proof.FbValue.lean ====
/- The output arrays of the backward call of the feed-forward block, block by block. -/
module

public import proofs.«01_k».proof.Proof.FbFrame
public import Idealize.ShloMosaic.Lib.Pipeline.Value

@[expose] public section

set_option maxRecDepth 16384

noncomputable section

namespace Cert.Kernel3Ideal.Fb

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 32 = 0) (h1 : ¬1 ≤ t.val) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 32 = 0) (h1 : 1 ≤ t.val) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed8, outsAt0_B m c t h0 h1]

/-- The index map sends distinct grid points to distinct block indices (decided over the 32 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8192x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 32 = 0) (h1 : ¬1 ≤ t.val) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 32 = 0) (h1 : 1 ≤ t.val) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed9, outsAt0_B m c t h0 h1]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 32 = 0) (h1 : ¬1 ≤ t.val) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 32 = 0) (h1 : 1 ≤ t.val) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed10, outsAt0_B m c t h0 h1]

/-- The index map sends distinct grid points to distinct block indices (decided over the 32 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8192x2816.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 3), read through the window's block. -/
theorem flushed11 (c : Dev nD) (t : Fin cfg0.N) :
    (dats m 0 c).flushed 11 t = (cfg0.win 11).cut (grid0.coords t) ((outsAt0 m c t.val t.isLt).2.2.2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 32 = 0) (h1 : ¬1 ≤ t.val) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 32 = 0) (h1 : 1 ≤ t.val) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed11, outsAt0_B m c t h0 h1]

/-- The index map sends distinct grid points to distinct block indices (decided over the 32 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S8192x2816.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 4), read through the window's block. -/
theorem flushed12 (c : Dev nD) (t : Fin cfg0.N) :
    (dats m 0 c).flushed 12 t = (cfg0.win 12).cut (grid0.coords t) ((outsAt0 m c t.val t.isLt).2.2.2.2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 32 = 0) (h1 : ¬1 ≤ t.val) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed12, outsAt0_A m c t h0 h1]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 32 = 0) (h1 : 1 ≤ t.val) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed12, outsAt0_B m c t h0 h1]

/-- The index map sends distinct grid points to distinct block indices (decided over the 32 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S8192x2816.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 5), read through the window's block. -/
theorem flushed13 (c : Dev nD) (t : Fin cfg0.N) :
    (dats m 0 c).flushed 13 t = (cfg0.win 13).cut (grid0.coords t) ((outsAt0 m c t.val t.isLt).2.2.2.2.2) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 32 = 0) (h1 : ¬1 ≤ t.val) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed13, outsAt0_A m c t h0 h1]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 32 = 0) (h1 : 1 ≤ t.val) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed13, outsAt0_B m c t h0 h1]

/-- The index map sends distinct grid points to distinct block indices (decided over the 32 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S8192x1024.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_4) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_5) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_v0_3) = (dats m 0 c).arrAt 11 cfg0.N
      ∧ r.2.mem ((c : Thread nD τ).loc main_v0_4) = (dats m 0 c).arrAt 12 cfg0.N
      ∧ r.2.mem ((c : Thread nD τ).loc main_v0_5) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      post11 m r h c,
      post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Kernel3Ideal.Fb

end
-- ==== Proof.FbReal.lean ====
/- The mathematics of the gated unit's backward pass over the reals, row by row, and the extended reals' arithmetic read on reals. -/
module

public import Idealize.ShloMosaic.Lib.Pointwise
public import Idealize.ShloMosaic.Lib.ValueIdx
public import Idealize.ShloMosaic.Lib.Pointwise.Sums
public import Idealize.ShloMosaic.Lib.IdealHost

@[expose] public section

noncomputable section

namespace Cert.FbReal

open Idealize.ShloMosaic
open scoped BigOperators

/-! ## The constants -/

/-- The small number added to the mean square. -/
def eps : ℝ := 8796093 / 8796093022208

theorem eps_pos : 0 < eps := by unfold eps; norm_num

theorem bits_eps : Ideal.ofBits .f32 0x358637BD#32 = ((eps : ℝ) : EReal) := by
  unfold eps
  simp [Ideal.ofBits, Ideal.ieee, -EReal.coe_mul]; norm_num

theorem bits_half : Ideal.ofBits .f32 0x3F000000#32 = ((2⁻¹ : ℝ) : EReal) := by
  simp [Ideal.ofBits, Ideal.ieee, -EReal.coe_mul]; norm_num

theorem bits_neg_half : Ideal.ofBits .f32 0xBF000000#32 = ((-2⁻¹ : ℝ) : EReal) := by
  simp [Ideal.ofBits, Ideal.ieee, -EReal.coe_mul, -EReal.coe_neg]; norm_num

theorem bits_1024 : Ideal.ofBits .f32 0x44800000#32 = ((1024 : ℝ) : EReal) := by
  simp [Ideal.ofBits, Ideal.ieee, -EReal.coe_mul]; norm_num

theorem bits_one : Ideal.ofBits .f32 0x3F800000#32 = ((1 : ℝ) : EReal) := by
  rw [Ideal.ofBits_one_f32]; norm_cast

theorem bits_zero : Ideal.ofBits .f32 0x00000000#32 = ((0 : ℝ) : EReal) := by
  rw [Ideal.ofBits_zero_f32]; norm_cast

/-! ## Extended reals that are reals -/

theorem sum_coe {ι : Type} [Fintype ι] (f : ι → ℝ) : (∑ i, ((f i : ℝ) : EReal)) = ((∑ i, f i : ℝ) : EReal) := by
  classical
  have h : ∀ s : Finset ι, (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact h _

theorem div_coe_coe {y : ℝ} (h : y ≠ 0) (x : ℝ) : Ideal.div (x : EReal) (y : EReal) = ((x / y : ℝ) : EReal) := by
  rw [Ideal.div_coe h, ← EReal.coe_mul]
  congr 1
  ring

theorem rsqrt_pos {v : ℝ} (h : 0 < v) : Ideal.rsqrt (v : EReal) = (((√v)⁻¹ : ℝ) : EReal) := by
  rw [Ideal.rsqrt_coe, if_neg (not_lt.2 h.le), if_neg h.ne']

/-- An extended real whose absolute value is below infinity is a real. -/
theorem exists_real {a : EReal} (h : max a (-a) < ⊤) : ∃ r : ℝ, a = (r : EReal) := by
  induction a using EReal.rec with
  | bot => simp at h
  | top => simp at h
  | coe r => exact ⟨r, rfl⟩

/-! ## The rows -/

/-- The logistic function. -/
def sg (g : ℝ) : ℝ := (1 + Real.exp (-g))⁻¹

theorem one_add_exp_ne (g : ℝ) : 1 + Real.exp (-g) ≠ 0 := by positivity

/-- The gradient of the gated activations at one token: half the token's gradient through the down projection. -/
def da (dy : Fin 1024 → ℝ) (wd : Fin 2816 → Fin 1024 → ℝ) (f : Fin 2816) : ℝ := ∑ k, 2⁻¹ * dy k * wd f k

/-- The gradient of the gate. -/
def dg (dy : Fin 1024 → ℝ) (wd : Fin 2816 → Fin 1024 → ℝ) (g u : Fin 2816 → ℝ) (f : Fin 2816) : ℝ :=
  da dy wd f * u f * (sg (g f) + g f * sg (g f) * (1 - sg (g f)))

/-- The gradient of the other factor. -/
def du (dy : Fin 1024 → ℝ) (wd : Fin 2816 → Fin 1024 → ℝ) (g : Fin 2816 → ℝ) (f : Fin 2816) : ℝ :=
  da dy wd f * (g f * sg (g f))

/-- The gated activation. -/
def act (g u : ℝ) : ℝ := g * sg g * u

/-- The gradient of the normalised token, from the gradients of the gate and of the other factor. -/
def dh (dgr dur : Fin 2816 → ℝ) (wg wu : Fin 2816 → Fin 1024 → ℝ) (k : Fin 1024) : ℝ :=
  (∑ f, dgr f * wg f k) + ∑ f, dur f * wu f k

/-- The mean square with the small number added. -/
def ms (x : Fin 1024 → ℝ) : ℝ := (∑ k, x k * x k) / 1024 + eps

theorem ms_pos (x : Fin 1024 → ℝ) : 0 < ms x := by
  have : 0 ≤ ∑ k, x k * x k := Finset.sum_nonneg fun k _ => mul_self_nonneg _
  have h := eps_pos
  unfold ms
  positivity

/-- The reciprocal root of the mean square. -/
def rr (x : Fin 1024 → ℝ) : ℝ := (√(ms x))⁻¹

/-- The gradient of the token through the normalisation, added to the gradient that passes it by. -/
def dx (dy x dhr nw : Fin 1024 → ℝ) (k : Fin 1024) : ℝ :=
  dy k + rr x * (dhr k * nw k - x k * rr x * ((∑ l, dhr l * nw l * (x l * rr x)) / 1024))

/-- One token's part of the gradient of the normalisation's weights. -/
def dnw (x dhr : Fin 1024 → ℝ) (k : Fin 1024) : ℝ := dhr k * (x k * rr x)

theorem rr_sq (x : Fin 1024 → ℝ) : rr x * rr x = (ms x)⁻¹ := by
  unfold rr
  rw [← mul_inv, Real.mul_self_sqrt (ms_pos x).le]

/-! ## The same rows as automatic differentiation writes them -/

/-- The gate's gradient with its two summands apart. -/
theorem dg_eq (a g u s : ℝ) : a * u * s + g * (a * u) * (s * (1 - s)) = a * u * (s + g * s * (1 - s)) := by ring

/-- The token's gradient with the reciprocal root's derivative through its quotient form. -/
theorem dx_eq (dy x dhr nw : Fin 1024 → ℝ) (k : Fin 1024) :
    dy k + (dhr k * nw k * rr x
      + (x k * ((∑ l, x l * (dhr l * nw l)) * (-2⁻¹ * (rr x / ms x)) / 1024)
        + (∑ l, x l * (dhr l * nw l)) * (-2⁻¹ * (rr x / ms x)) / 1024 * x k)) = dx dy x dhr nw k := by
  have h1 : (∑ l, dhr l * nw l * (x l * rr x)) = (∑ l, x l * (dhr l * nw l)) * rr x := by
    rw [Finset.sum_mul]
    exact Finset.sum_congr rfl fun l _ => by ring
  have h2 : rr x / ms x = rr x * (rr x * rr x) := by rw [rr_sq]; rfl
  unfold dx
  rw [h1, h2]
  ring

/-! ## Whole arrays -/

/-- The arguments, their entries reals. -/
structure Args where
  x : Fin 8192 → Fin 1024 → ℝ
  nw : Fin 1024 → ℝ
  g : Fin 8192 → Fin 2816 → ℝ
  u : Fin 8192 → Fin 2816 → ℝ
  wg : Fin 2816 → Fin 1024 → ℝ
  wu : Fin 2816 → Fin 1024 → ℝ
  wd : Fin 2816 → Fin 1024 → ℝ
  dy : Fin 8192 → Fin 1024 → ℝ

variable (R : Args)

def Args.dgA (n : Fin 8192) : Fin 2816 → ℝ := dg (R.dy n) R.wd (R.g n) (R.u n)
def Args.duA (n : Fin 8192) : Fin 2816 → ℝ := du (R.dy n) R.wd (R.g n)
def Args.dhA (n : Fin 8192) : Fin 1024 → ℝ := dh (R.dgA n) (R.duA n) R.wg R.wu
def Args.dxA (n : Fin 8192) : Fin 1024 → ℝ := dx (R.dy n) (R.x n) (R.dhA n) R.nw
def Args.dnwAt (n : Fin 8192) : Fin 1024 → ℝ := dnw (R.x n) (R.dhA n)
def Args.dnwA (k : Fin 1024) : ℝ := ∑ n, R.dnwAt n k
def Args.actA (n : Fin 8192) (f : Fin 2816) : ℝ := act (R.g n f) (R.u n f)
def Args.dyhA (n : Fin 8192) (k : Fin 1024) : ℝ := 2⁻¹ * R.dy n k

/-- The tokens' parts up to the end of a block, block by block. -/
theorem Args.dnw_tiles (k : Fin 1024) :
    R.dnwA k = ∑ s : Fin 32, ∑ p : Fin 256, R.dnwAt ⟨s.val * 256 + p.val, by omega⟩ k :=
  Fin.sum_univ_tiles 32 256 rfl _

end Cert.FbReal
-- ==== Proof.FbPay.lean ====
/- What one grid point of the gated unit's backward pass computes, read on real blocks. -/
module

public import proofs.«01_k».proof.Proof.Gen.Kernel3Ideal.Skeleton
public import proofs.«01_k».proof.Proof.FbReal

@[expose] public section

set_option maxRecDepth 16384

noncomputable section

namespace Cert.Kernel3Ideal.Fb

open Cert.Kernel3Ideal Cert.Kernel3Ideal.Gen
open Idealize.ShloMosaic Idealize.ShloMosaic.TcCoe
open Cert.FbReal (sum_coe div_coe_coe bits_half bits_1024 bits_eps bits_one bits_zero)
open scoped BigOperators

variable {X DY : Fin 256 → Fin 1024 → ℝ} {G U : Fin 256 → Fin 2816 → ℝ} {WD WG WU : Fin 2816 → Fin 1024 → ℝ} {NW : Fin 1024 → ℝ}
variable {x dy : Vec Ideal S256x1024 .f32} {g u : Vec Ideal S256x2816 .bf16} {wd wg wu : Vec Ideal S2816x1024 .bf16} {nw : Vec Ideal S1x1024 .f32}

/-- A column broadcast along the rows, at an index. -/
theorem bcCol (v : FVec Ideal S256x1 .f32) (h) (p : Fin 256) (k : Fin 1024) :
    broadcastTo S256x1024 v h (ix2 p k) = v (ix2 p 0) := by
  refine congrArg v (funext fun a => ?_)
  match a with
  | ⟨0, _⟩ => rfl
  | ⟨1, _⟩ => rfl

/-- A row broadcast along the columns, at an index. -/
theorem bcRow (v : FVec Ideal S1x1024 .f32) (h) (p : Fin 256) (k : Fin 1024) :
    broadcastTo S256x1024 v h (ix2 p k) = v (ix2 0 k) := by
  refine congrArg v (funext fun a => ?_)
  match a with
  | ⟨0, _⟩ => rfl
  | ⟨1, _⟩ => rfl

theorem pay2_real (hdy : ∀ p k, dy (ix2 p k) = ((DY p k : ℝ) : EReal)) (p : Fin 256) (k : Fin 1024) :
    k0_pay2 dy (ix2 p k) = ((2⁻¹ * DY p k : ℝ) : EReal) := by
  unfold k0_pay2
  simp only [pointwise]
  rw [hdy, bits_half, EReal.coe_mul]

theorem pay5_real (hg : ∀ p f, g (ix2 p f) = ((G p f : ℝ) : EReal)) (p : Fin 256) (f : Fin 2816) :
    k0_pay5 g (ix2 p f) = ((FbReal.sg (G p f) : ℝ) : EReal) := by
  unfold k0_pay5 k0_pay3
  simp only [pointwise]
  rw [hg, show (0 : EReal) - ((G p f : ℝ) : EReal) = ((-(G p f) : ℝ) : EReal) by rw [zero_sub, EReal.coe_neg], Ideal.exp_coe,
    show (1 : EReal) = ((1 : ℝ) : EReal) from EReal.coe_one.symm, ← EReal.coe_add, div_coe_coe (FbReal.one_add_exp_ne _), one_div]
  rfl

theorem pay7_real (hdy : ∀ p k, dy (ix2 p k) = ((DY p k : ℝ) : EReal)) (hwd : ∀ f k, wd (ix2 f k) = ((WD f k : ℝ) : EReal))
    (p : Fin 256) (f : Fin 2816) : k0_pay7 dy wd (ix2 p f) = ((FbReal.da (DY p) WD f : ℝ) : EReal) := by
  unfold k0_pay7
  simp only [pointwise]
  simp only [pay2_real hdy, hwd, ← EReal.coe_mul, sum_coe, bits_zero]
  rw [zero_add]
  rfl

theorem pay6_real (hg : ∀ p f, g (ix2 p f) = ((G p f : ℝ) : EReal)) (p : Fin 256) (f : Fin 2816) :
    k0_pay6 g (ix2 p f) = ((G p f * FbReal.sg (G p f) : ℝ) : EReal) := by
  unfold k0_pay6
  simp only [pointwise]
  rw [pay5_real hg, EReal.coe_mul, ← hg]
  rfl

theorem pay8_real (hdy : ∀ p k, dy (ix2 p k) = ((DY p k : ℝ) : EReal)) (hwd : ∀ f k, wd (ix2 f k) = ((WD f k : ℝ) : EReal))
    (hg : ∀ p f, g (ix2 p f) = ((G p f : ℝ) : EReal)) (hu : ∀ p f, u (ix2 p f) = ((U p f : ℝ) : EReal))
    (p : Fin 256) (f : Fin 2816) : k0_pay8 dy g u wd (ix2 p f) = ((FbReal.dg (DY p) WD (G p) (U p) f : ℝ) : EReal) := by
  unfold k0_pay8 k0_pay4
  simp only [pointwise]
  rw [pay5_real hg, pay6_real hg, pay7_real hdy hwd, hu, show (1 : EReal) = ((1 : ℝ) : EReal) from EReal.coe_one.symm,
    ← EReal.coe_sub, ← EReal.coe_mul, ← EReal.coe_mul, ← EReal.coe_add, ← EReal.coe_mul]
  rfl

theorem pay9_real (hdy : ∀ p k, dy (ix2 p k) = ((DY p k : ℝ) : EReal)) (hwd : ∀ f k, wd (ix2 f k) = ((WD f k : ℝ) : EReal))
    (hg : ∀ p f, g (ix2 p f) = ((G p f : ℝ) : EReal))
    (p : Fin 256) (f : Fin 2816) : k0_pay9 dy g wd (ix2 p f) = ((FbReal.du (DY p) WD (G p) f : ℝ) : EReal) := by
  unfold k0_pay9
  simp only [pointwise]
  rw [pay6_real hg, pay7_real hdy hwd, ← EReal.coe_mul]
  rfl

theorem pay10_real (hg : ∀ p f, g (ix2 p f) = ((G p f : ℝ) : EReal)) (hu : ∀ p f, u (ix2 p f) = ((U p f : ℝ) : EReal))
    (p : Fin 256) (f : Fin 2816) : k0_pay10 g u (ix2 p f) = ((FbReal.act (G p f) (U p f) : ℝ) : EReal) := by
  unfold k0_pay10 k0_pay4
  simp only [pointwise]
  rw [pay6_real hg, hu, ← EReal.coe_mul]
  rfl

section
variable {DG DU : Fin 256 → Fin 2816 → ℝ} {dg du : FVec Ideal S256x2816 .bf16}

theorem pay11_real (hdg : ∀ p f, dg (ix2 p f) = ((DG p f : ℝ) : EReal)) (hdu : ∀ p f, du (ix2 p f) = ((DU p f : ℝ) : EReal))
    (hwg : ∀ f k, wg (ix2 f k) = ((WG f k : ℝ) : EReal)) (hwu : ∀ f k, wu (ix2 f k) = ((WU f k : ℝ) : EReal))
    (p : Fin 256) (k : Fin 1024) : k0_pay11 dg du wg wu (ix2 p k) = ((FbReal.dh (DG p) (DU p) WG WU k : ℝ) : EReal) := by
  unfold k0_pay11
  simp only [pointwise]
  simp only [hdg, hdu, hwg, hwu, ← EReal.coe_mul, sum_coe, zero_add]
  rw [← EReal.coe_add]
  rfl

theorem pay12_real (hx : ∀ p k, x (ix2 p k) = ((X p k : ℝ) : EReal)) (p : Fin 256) :
    k0_pay12 x (ix2 p 0) = ((FbReal.rr (X p) : ℝ) : EReal) := by
  unfold k0_pay12
  simp only [pointwise]
  simp only [hx, ← EReal.coe_mul, sum_coe]
  rw [bits_1024, bits_eps, div_coe_coe (by norm_num), ← EReal.coe_add]
  exact FbReal.rsqrt_pos (FbReal.ms_pos _)

theorem pay13_real (hx : ∀ p k, x (ix2 p k) = ((X p k : ℝ) : EReal)) (p : Fin 256) (k : Fin 1024) :
    k0_pay13 x (ix2 p k) = ((X p k * FbReal.rr (X p) : ℝ) : EReal) := by
  unfold k0_pay13
  simp only [↓bcCol, pointwise]
  rw [hx, pay12_real hx, ← EReal.coe_mul]

theorem pay14_real (hdg : ∀ p f, dg (ix2 p f) = ((DG p f : ℝ) : EReal)) (hdu : ∀ p f, du (ix2 p f) = ((DU p f : ℝ) : EReal))
    (hwg : ∀ f k, wg (ix2 f k) = ((WG f k : ℝ) : EReal)) (hwu : ∀ f k, wu (ix2 f k) = ((WU f k : ℝ) : EReal))
    (hx : ∀ p k, x (ix2 p k) = ((X p k : ℝ) : EReal)) (k : Fin 1024) :
    k0_pay14 dg du wg wu x (ix2 0 k) = ((∑ p, FbReal.dnw (X p) (FbReal.dh (DG p) (DU p) WG WU) k : ℝ) : EReal) := by
  unfold k0_pay14
  simp only [pointwise]
  simp only [pay11_real hdg hdu hwg hwu, pay13_real hx, ← EReal.coe_mul, sum_coe]
  rfl

theorem pay15_real (hdy : ∀ p k, dy (ix2 p k) = ((DY p k : ℝ) : EReal))
    (hdg : ∀ p f, dg (ix2 p f) = ((DG p f : ℝ) : EReal)) (hdu : ∀ p f, du (ix2 p f) = ((DU p f : ℝ) : EReal))
    (hwg : ∀ f k, wg (ix2 f k) = ((WG f k : ℝ) : EReal)) (hwu : ∀ f k, wu (ix2 f k) = ((WU f k : ℝ) : EReal))
    (hx : ∀ p k, x (ix2 p k) = ((X p k : ℝ) : EReal)) (hnw : ∀ k, nw (ix2 0 k) = ((NW k : ℝ) : EReal)) (p : Fin 256) (k : Fin 1024) :
    k0_pay15 dy dg du wg wu x nw (ix2 p k) = ((FbReal.dx (DY p) (X p) (FbReal.dh (DG p) (DU p) WG WU) NW k : ℝ) : EReal) := by
  unfold k0_pay15
  simp only [↓bcCol, ↓bcRow, pointwise]
  simp only [pay11_real hdg hdu hwg hwu, pay13_real hx, pay12_real hx, hnw, hdy, ← EReal.coe_mul, sum_coe]
  rw [bits_1024, div_coe_coe (by norm_num), ← EReal.coe_mul, ← EReal.coe_sub, ← EReal.coe_mul, ← EReal.coe_add]
  rfl

end

end Cert.Kernel3Ideal.Fb
-- ==== Proof.FbOut.lean ====
/- What a grid point of the gated unit's backward pass leaves in each output block. -/
module

public import proofs.«01_k».proof.Proof.FbValue
public import proofs.«01_k».proof.Proof.FbPay

@[expose] public section

set_option maxRecDepth 16384

noncomputable section

namespace Cert.Kernel3Ideal.Fb

open Cert.Kernel3Ideal Cert.Kernel3Ideal.Gen
open Idealize.ShloMosaic Idealize.ShloMosaic.TcCoe Idealize.ShloMosaic.Tactic
open Idealize.ShloMosaic.Pipeline (Dat Cfg Window BodyObligation cellOf)
open scoped BigOperators

/-- The rectangle of the whole block keeps every index. -/
theorem emb_whole {n0 n1 : ℕ} (h) (x : (⟨2, ![n0, n1]⟩ : Shape).Idx) :
    (Rect.unit (s := ⟨2, ![n0, n1]⟩) ![0, 0] ![n0, n1] h).emb x = x := by
  funext a
  apply Fin.ext
  match a with
  | ⟨0, _⟩ => show 0 + 1 * (x 0).val = (x 0).val; omega
  | ⟨1, _⟩ => show 0 + 1 * (x 1).val = (x 1).val; omega

/-- A whole block loaded is the block. -/
theorem ld_whole {n0 n1 : ℕ} {e : EltTy} (v : Vec Ideal ⟨2, ![n0, n1]⟩ e) (h) :
    View.ld v (Rect.unit (s := ⟨2, ![n0, n1]⟩) ![0, 0] ![n0, n1] h) = v := by
  funext x
  exact congrArg v (emb_whole h x)

/-- Output 8 in case A: the token's gradient. -/
theorem out_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay15 x7 (k0_pay8 x7 x2 x3 x6) (k0_pay9 x7 x2 x6) x4 x5 x0 x1 := by
  funext y
  unfold out0_A_8
  refine View.read_writes_apply_of_pieces _ _ (k0_pay15 x7 (k0_pay8 x7 x2 x3 x6) (k0_pay9 x7 x2 x6) x4 x5 x0 x1) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)
  unfold kernelRun0_A
  dsimp only
  intro p hp x
  simp only [List.mem_cons, List.mem_nil_iff, or_false] at hp
  subst hp
  dsimp only
  simp only [kernelRun0_A.sl.r, kernelRun0_A.sl.r_1, kernelRun0_A.sl.r_2, kernelRun0_A.sl.r_3, View.readAt_eq_ld, Memref.IsWhole.read_unread, ld_whole, emb_whole]

/-- Output 9 in case A: the weights' gradient so far. -/
theorem out_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay14 (k0_pay8 x7 x2 x3 x6) (k0_pay9 x7 x2 x6) x4 x5 x0 := by
  funext y
  unfold out0_A_9
  refine View.read_writes_apply_of_pieces _ _ (k0_pay14 (k0_pay8 x7 x2 x3 x6) (k0_pay9 x7 x2 x6) x4 x5 x0) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)
  unfold kernelRun0_A
  dsimp only
  intro p hp x
  simp only [List.mem_cons, List.mem_nil_iff, or_false] at hp
  subst hp
  dsimp only
  simp only [kernelRun0_A.sl.r, kernelRun0_A.sl.r_1, kernelRun0_A.sl.r_2, kernelRun0_A.sl.r_3, View.readAt_eq_ld, Memref.IsWhole.read_unread, ld_whole, emb_whole]

/-- Output 10 in case A: the gate's gradient. -/
theorem out_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay8 x7 x2 x3 x6 := by
  funext y
  unfold out0_A_10
  refine View.read_writes_apply_of_pieces _ _ (k0_pay8 x7 x2 x3 x6) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)
  unfold kernelRun0_A
  dsimp only
  intro p hp x
  simp only [List.mem_cons, List.mem_nil_iff, or_false] at hp
  subst hp
  dsimp only
  simp only [kernelRun0_A.sl.r, kernelRun0_A.sl.r_1, kernelRun0_A.sl.r_2, kernelRun0_A.sl.r_3, View.readAt_eq_ld, Memref.IsWhole.read_unread, ld_whole, emb_whole]

/-- Output 11 in case A: the other factor's gradient. -/
theorem out_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay9 x7 x2 x6 := by
  funext y
  unfold out0_A_11
  refine View.read_writes_apply_of_pieces _ _ (k0_pay9 x7 x2 x6) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)
  unfold kernelRun0_A
  dsimp only
  intro p hp x
  simp only [List.mem_cons, List.mem_nil_iff, or_false] at hp
  subst hp
  dsimp only
  simp only [kernelRun0_A.sl.r, kernelRun0_A.sl.r_1, kernelRun0_A.sl.r_2, kernelRun0_A.sl.r_3, View.readAt_eq_ld, Memref.IsWhole.read_unread, ld_whole, emb_whole]

/-- Output 12 in case A: the gated activation. -/
theorem out_A_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay10 x2 x3 := by
  funext y
  unfold out0_A_12
  refine View.read_writes_apply_of_pieces _ _ (k0_pay10 x2 x3) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)
  unfold kernelRun0_A
  dsimp only
  intro p hp x
  simp only [List.mem_cons, List.mem_nil_iff, or_false] at hp
  subst hp
  dsimp only
  simp only [kernelRun0_A.sl.r, kernelRun0_A.sl.r_1, kernelRun0_A.sl.r_2, kernelRun0_A.sl.r_3, View.readAt_eq_ld, Memref.IsWhole.read_unread, ld_whole, emb_whole]

/-- Output 13 in case A: half the incoming gradient. -/
theorem out_A_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : cond0_0 i) (hc1 : ¬cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = k0_pay2 x7 := by
  funext y
  unfold out0_A_13
  refine View.read_writes_apply_of_pieces _ _ (k0_pay2 x7) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 y)
  unfold kernelRun0_A
  dsimp only
  intro p hp x
  simp only [List.mem_cons, List.mem_nil_iff, or_false] at hp
  subst hp
  dsimp only
  simp only [kernelRun0_A.sl.r, kernelRun0_A.sl.r_1, kernelRun0_A.sl.r_2, kernelRun0_A.sl.r_3, View.readAt_eq_ld, Memref.IsWhole.read_unread, ld_whole, emb_whole]

/-- Output 8 in case B: the token's gradient. -/
theorem out_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) (xo9 : Vec Ideal S1x1024 .f32) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 = k0_pay15 x7 (k0_pay8 x7 x2 x3 x6) (k0_pay9 x7 x2 x6) x4 x5 x0 x1 := by
  funext y
  unfold out0_B_8
  refine View.read_writes_apply_of_pieces _ _ (k0_pay15 x7 (k0_pay8 x7 x2 x3 x6) (k0_pay9 x7 x2 x6) x4 x5 x0 x1) _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 y)
  unfold kernelRun0_B
  dsimp only
  intro p hp x
  simp only [List.mem_cons, List.mem_nil_iff, or_false] at hp
  subst hp
  dsimp only
  simp only [kernelRun0_B.sl.r, kernelRun0_B.sl.r_1, kernelRun0_B.sl.r_2, kernelRun0_B.sl.r_3, View.readAt_eq_ld, Memref.IsWhole.read_unread, ld_whole, emb_whole]

/-- Output 9 in case B: the weights' gradient so far. -/
theorem out_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) (xo9 : Vec Ideal S1x1024 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 = k0_pay1 (k0_pay14 (k0_pay8 x7 x2 x3 x6) (k0_pay9 x7 x2 x6) x4 x5 x0) xo9 := by
  funext y
  unfold out0_B_9
  refine View.read_writes_apply_of_pieces _ _ (k0_pay1 (k0_pay14 (k0_pay8 x7 x2 x3 x6) (k0_pay9 x7 x2 x6) x4 x5 x0) xo9) _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 y)
  unfold kernelRun0_B
  dsimp only
  intro p hp x
  simp only [List.mem_cons, List.mem_nil_iff, or_false] at hp
  subst hp
  dsimp only
  simp only [kernelRun0_B.sl.r, kernelRun0_B.sl.r_1, kernelRun0_B.sl.r_2, kernelRun0_B.sl.r_3, View.readAt_eq_ld, Memref.IsWhole.read_unread, ld_whole, emb_whole]

/-- Output 10 in case B: the gate's gradient. -/
theorem out_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) (xo9 : Vec Ideal S1x1024 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 = k0_pay8 x7 x2 x3 x6 := by
  funext y
  unfold out0_B_10
  refine View.read_writes_apply_of_pieces _ _ (k0_pay8 x7 x2 x3 x6) _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 y)
  unfold kernelRun0_B
  dsimp only
  intro p hp x
  simp only [List.mem_cons, List.mem_nil_iff, or_false] at hp
  subst hp
  dsimp only
  simp only [kernelRun0_B.sl.r, kernelRun0_B.sl.r_1, kernelRun0_B.sl.r_2, kernelRun0_B.sl.r_3, View.readAt_eq_ld, Memref.IsWhole.read_unread, ld_whole, emb_whole]

/-- Output 11 in case B: the other factor's gradient. -/
theorem out_B_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) (xo9 : Vec Ideal S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 = k0_pay9 x7 x2 x6 := by
  funext y
  unfold out0_B_11
  refine View.read_writes_apply_of_pieces _ _ (k0_pay9 x7 x2 x6) _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 y)
  unfold kernelRun0_B
  dsimp only
  intro p hp x
  simp only [List.mem_cons, List.mem_nil_iff, or_false] at hp
  subst hp
  dsimp only
  simp only [kernelRun0_B.sl.r, kernelRun0_B.sl.r_1, kernelRun0_B.sl.r_2, kernelRun0_B.sl.r_3, View.readAt_eq_ld, Memref.IsWhole.read_unread, ld_whole, emb_whole]

/-- Output 12 in case B: the gated activation. -/
theorem out_B_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) (xo9 : Vec Ideal S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 = k0_pay10 x2 x3 := by
  funext y
  unfold out0_B_12
  refine View.read_writes_apply_of_pieces _ _ (k0_pay10 x2 x3) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 y)
  unfold kernelRun0_B
  dsimp only
  intro p hp x
  simp only [List.mem_cons, List.mem_nil_iff, or_false] at hp
  subst hp
  dsimp only
  simp only [kernelRun0_B.sl.r, kernelRun0_B.sl.r_1, kernelRun0_B.sl.r_2, kernelRun0_B.sl.r_3, View.readAt_eq_ld, Memref.IsWhole.read_unread, ld_whole, emb_whole]

/-- Output 13 in case B: half the incoming gradient. -/
theorem out_B_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (hc0 : ¬cond0_0 i) (hc1 : cond0_1 i)
    (x0 : Vec Ideal S256x1024 .f32) (x1 : Vec Ideal S1x1024 .f32) (x2 : Vec Ideal S256x2816 .bf16) (x3 : Vec Ideal S256x2816 .bf16) (x4 : Vec Ideal S2816x1024 .bf16) (x5 : Vec Ideal S2816x1024 .bf16) (x6 : Vec Ideal S2816x1024 .bf16) (x7 : Vec Ideal S256x1024 .f32) (xo9 : Vec Ideal S1x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 = k0_pay2 x7 := by
  funext y
  unfold out0_B_13
  refine View.read_writes_apply_of_pieces _ _ (k0_pay2 x7) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xo9 y)
  unfold kernelRun0_B
  dsimp only
  intro p hp x
  simp only [List.mem_cons, List.mem_nil_iff, or_false] at hp
  subst hp
  dsimp only
  simp only [kernelRun0_B.sl.r, kernelRun0_B.sl.r_1, kernelRun0_B.sl.r_2, kernelRun0_B.sl.r_3, View.readAt_eq_ld, Memref.IsWhole.read_unread, ld_whole, emb_whole]

end Cert.Kernel3Ideal.Fb
-- ==== Proof.FbAlg.lean ====
/- The gated unit's backward pass: the arrays the kernel leaves, over real arguments. -/
module

public import proofs.«01_k».proof.Proof.FbOut

@[expose] public section

set_option maxRecDepth 16384

noncomputable section

namespace Cert.Kernel3Ideal.Fb

open Cert.Kernel3Ideal Cert.Kernel3Ideal.Gen
open Idealize.ShloMosaic Idealize.ShloMosaic.TcCoe Idealize.ShloMosaic.Tactic
open Idealize.ShloMosaic.Pipeline (Dat Cfg Window BodyObligation cellOf)
open Cert.FbReal (Args)
open scoped BigOperators

variable (m : (ℓ : Loc nD τ sig) → Buf (Elt Ideal) ℓ)

def arr0 (c : Dev nD) : S8192x1024.Idx → EReal := m ((c : Thread nD τ).loc main_arg0)
def arr1 (c : Dev nD) : S1x1024.Idx → EReal := m ((c : Thread nD τ).loc main_arg1)
def arr2 (c : Dev nD) : S8192x2816.Idx → EReal := m ((c : Thread nD τ).loc main_arg2)
def arr3 (c : Dev nD) : S8192x2816.Idx → EReal := m ((c : Thread nD τ).loc main_arg3)
def arr4 (c : Dev nD) : S2816x1024.Idx → EReal := m ((c : Thread nD τ).loc main_arg4)
def arr5 (c : Dev nD) : S2816x1024.Idx → EReal := m ((c : Thread nD τ).loc main_arg5)
def arr6 (c : Dev nD) : S2816x1024.Idx → EReal := m ((c : Thread nD τ).loc main_arg6)
def arr7 (c : Dev nD) : S8192x1024.Idx → EReal := m ((c : Thread nD τ).loc main_arg7)

/-- The argument arrays of device `c` hold the reals `R`. -/
structure Holds (c : Dev nD) (R : Args) : Prop where
  h0 : ∀ i, arr0 m c i = ((R.x (i 0) (i 1) : ℝ) : EReal)
  h1 : ∀ i, arr1 m c i = ((R.nw (i 1) : ℝ) : EReal)
  h2 : ∀ i, arr2 m c i = ((R.g (i 0) (i 1) : ℝ) : EReal)
  h3 : ∀ i, arr3 m c i = ((R.u (i 0) (i 1) : ℝ) : EReal)
  h4 : ∀ i, arr4 m c i = ((R.wg (i 0) (i 1) : ℝ) : EReal)
  h5 : ∀ i, arr5 m c i = ((R.wu (i 0) (i 1) : ℝ) : EReal)
  h6 : ∀ i, arr6 m c i = ((R.wd (i 0) (i 1) : ℝ) : EReal)
  h7 : ∀ i, arr7 m c i = ((R.dy (i 0) (i 1) : ℝ) : EReal)

theorem lt_N (t : Fin cfg0.N) : t.val < 32 := lt_of_lt_of_eq t.isLt N_0

/-- Row `p` of block `t`. -/
def row (t : Fin cfg0.N) (p : Fin 256) : Fin 8192 := ⟨t.val * 256 + p.val, by have := lt_N t; omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)

theorem flush8 : ∀ t : Fin cfg0.N, (cfg0.win 8).flush t = true :=
  (by decide +kernel : ∀ t : Fin grid0.N, win0_8.flush t = true)
theorem flush10 : ∀ t : Fin cfg0.N, (cfg0.win 10).flush t = true :=
  (by decide +kernel : ∀ t : Fin grid0.N, win0_10.flush t = true)
theorem flush11 : ∀ t : Fin cfg0.N, (cfg0.win 11).flush t = true :=
  (by decide +kernel : ∀ t : Fin grid0.N, win0_11.flush t = true)
theorem flush12 : ∀ t : Fin cfg0.N, (cfg0.win 12).flush t = true :=
  (by decide +kernel : ∀ t : Fin grid0.N, win0_12.flush t = true)
theorem flush13 : ∀ t : Fin cfg0.N, (cfg0.win 13).flush t = true :=
  (by decide +kernel : ∀ t : Fin grid0.N, win0_13.flush t = true)

variable {m} {c : Dev nD} {R : Args} (H : Holds m c R) (t : Fin cfg0.N)
include H

theorem iblk0_real (p : Fin 256) (k : Fin 1024) :
    (iblk m c 0 t : S256x1024.Idx → EReal) (ix2 p k) = ((R.x (row t p) k : ℝ) : EReal) := by
  obtain ⟨e0, e1⟩ := index0 t
  refine Eq.trans ?_ (H.h0 (ix2 (row t p) k))
  show arr0 m c (((cfg0.win 0).blk t).view.emb (ix2 p k)) = _
  refine congrArg _ (funext fun b => ?_)
  match b with
  | ⟨0, _⟩ =>
    apply Fin.ext
    show win0_0.index t (0 : Fin 2) * 256 + 1 * p.val = t.val * 256 + p.val
    rw [e0, Nat.one_mul]
  | ⟨1, _⟩ =>
    apply Fin.ext
    show win0_0.index t (1 : Fin 2) * 1024 + 1 * k.val = k.val
    rw [e1, Nat.one_mul, Nat.zero_mul, Nat.zero_add]

theorem iblk1_real (k : Fin 1024) :
    (iblk m c 1 t : S1x1024.Idx → EReal) (ix2 0 k) = ((R.nw k : ℝ) : EReal) := by
  obtain ⟨e0, e1⟩ := index1 t
  refine Eq.trans ?_ (H.h1 (ix2 0 k))
  show arr1 m c (((cfg0.win 1).blk t).view.emb (ix2 (0 : Fin 1) k)) = _
  refine congrArg _ (funext fun b => ?_)
  match b with
  | ⟨0, _⟩ =>
    apply Fin.ext
    show win0_1.index t (0 : Fin 2) * 1 + 1 * 0 = 0
    rw [e0]
  | ⟨1, _⟩ =>
    apply Fin.ext
    show win0_1.index t (1 : Fin 2) * 1024 + 1 * k.val = k.val
    rw [e1, Nat.one_mul, Nat.zero_mul, Nat.zero_add]

theorem iblk2_real (p : Fin 256) (k : Fin 2816) :
    (iblk m c 2 t : S256x2816.Idx → EReal) (ix2 p k) = ((R.g (row t p) k : ℝ) : EReal) := by
  obtain ⟨e0, e1⟩ := index2 t
  refine Eq.trans ?_ (H.h2 (ix2 (row t p) k))
  show arr2 m c (((cfg0.win 2).blk t).view.emb (ix2 p k)) = _
  refine congrArg _ (funext fun b => ?_)
  match b with
  | ⟨0, _⟩ =>
    apply Fin.ext
    show win0_2.index t (0 : Fin 2) * 256 + 1 * p.val = t.val * 256 + p.val
    rw [e0, Nat.one_mul]
  | ⟨1, _⟩ =>
    apply Fin.ext
    show win0_2.index t (1 : Fin 2) * 2816 + 1 * k.val = k.val
    rw [e1, Nat.one_mul, Nat.zero_mul, Nat.zero_add]

theorem iblk3_real (p : Fin 256) (k : Fin 2816) :
    (iblk m c 3 t : S256x2816.Idx → EReal) (ix2 p k) = ((R.u (row t p) k : ℝ) : EReal) := by
  obtain ⟨e0, e1⟩ := index3 t
  refine Eq.trans ?_ (H.h3 (ix2 (row t p) k))
  show arr3 m c (((cfg0.win 3).blk t).view.emb (ix2 p k)) = _
  refine congrArg _ (funext fun b => ?_)
  match b with
  | ⟨0, _⟩ =>
    apply Fin.ext
    show win0_3.index t (0 : Fin 2) * 256 + 1 * p.val = t.val * 256 + p.val
    rw [e0, Nat.one_mul]
  | ⟨1, _⟩ =>
    apply Fin.ext
    show win0_3.index t (1 : Fin 2) * 2816 + 1 * k.val = k.val
    rw [e1, Nat.one_mul, Nat.zero_mul, Nat.zero_add]

theorem iblk4_real (p : Fin 2816) (k : Fin 1024) :
    (iblk m c 4 t : S2816x1024.Idx → EReal) (ix2 p k) = ((R.wg p k : ℝ) : EReal) := by
  obtain ⟨e0, e1⟩ := index4 t
  refine Eq.trans ?_ (H.h4 (ix2 p k))
  show arr4 m c (((cfg0.win 4).blk t).view.emb (ix2 p k)) = _
  refine congrArg _ (funext fun b => ?_)
  match b with
  | ⟨0, _⟩ =>
    apply Fin.ext
    show win0_4.index t (0 : Fin 2) * 2816 + 1 * p.val = p.val
    rw [e0, Nat.one_mul, Nat.zero_mul, Nat.zero_add]
  | ⟨1, _⟩ =>
    apply Fin.ext
    show win0_4.index t (1 : Fin 2) * 1024 + 1 * k.val = k.val
    rw [e1, Nat.one_mul, Nat.zero_mul, Nat.zero_add]

theorem iblk5_real (p : Fin 2816) (k : Fin 1024) :
    (iblk m c 5 t : S2816x1024.Idx → EReal) (ix2 p k) = ((R.wu p k : ℝ) : EReal) := by
  obtain ⟨e0, e1⟩ := index5 t
  refine Eq.trans ?_ (H.h5 (ix2 p k))
  show arr5 m c (((cfg0.win 5).blk t).view.emb (ix2 p k)) = _
  refine congrArg _ (funext fun b => ?_)
  match b with
  | ⟨0, _⟩ =>
    apply Fin.ext
    show win0_5.index t (0 : Fin 2) * 2816 + 1 * p.val = p.val
    rw [e0, Nat.one_mul, Nat.zero_mul, Nat.zero_add]
  | ⟨1, _⟩ =>
    apply Fin.ext
    show win0_5.index t (1 : Fin 2) * 1024 + 1 * k.val = k.val
    rw [e1, Nat.one_mul, Nat.zero_mul, Nat.zero_add]

theorem iblk6_real (p : Fin 2816) (k : Fin 1024) :
    (iblk m c 6 t : S2816x1024.Idx → EReal) (ix2 p k) = ((R.wd p k : ℝ) : EReal) := by
  obtain ⟨e0, e1⟩ := index6 t
  refine Eq.trans ?_ (H.h6 (ix2 p k))
  show arr6 m c (((cfg0.win 6).blk t).view.emb (ix2 p k)) = _
  refine congrArg _ (funext fun b => ?_)
  match b with
  | ⟨0, _⟩ =>
    apply Fin.ext
    show win0_6.index t (0 : Fin 2) * 2816 + 1 * p.val = p.val
    rw [e0, Nat.one_mul, Nat.zero_mul, Nat.zero_add]
  | ⟨1, _⟩ =>
    apply Fin.ext
    show win0_6.index t (1 : Fin 2) * 1024 + 1 * k.val = k.val
    rw [e1, Nat.one_mul, Nat.zero_mul, Nat.zero_add]

theorem iblk7_real (p : Fin 256) (k : Fin 1024) :
    (iblk m c 7 t : S256x1024.Idx → EReal) (ix2 p k) = ((R.dy (row t p) k : ℝ) : EReal) := by
  obtain ⟨e0, e1⟩ := index7 t
  refine Eq.trans ?_ (H.h7 (ix2 (row t p) k))
  show arr7 m c (((cfg0.win 7).blk t).view.emb (ix2 p k)) = _
  refine congrArg _ (funext fun b => ?_)
  match b with
  | ⟨0, _⟩ =>
    apply Fin.ext
    show win0_7.index t (0 : Fin 2) * 256 + 1 * p.val = t.val * 256 + p.val
    rw [e0, Nat.one_mul]
  | ⟨1, _⟩ =>
    apply Fin.ext
    show win0_7.index t (1 : Fin 2) * 1024 + 1 * k.val = k.val
    rw [e1, Nat.one_mul, Nat.zero_mul, Nat.zero_add]

omit H

theorem outs8 : (outsAt0 m c t.val t.isLt).1 = k0_pay15 (iblk m c 7 t) (k0_pay8 (iblk m c 7 t) (iblk m c 2 t) (iblk m c 3 t) (iblk m c 6 t)) (k0_pay9 (iblk m c 7 t) (iblk m c 2 t) (iblk m c 6 t)) (iblk m c 4 t) (iblk m c 5 t) (iblk m c 0 t) (iblk m c 1 t) := by
  by_cases h : t.val = 0
  · rw [outsAt0_A m c t (by omega) (by omega)]
    dsimp only
    rw [out_A_8]
  · rw [outsAt0_B m c t (by have := lt_N t; omega) (by omega)]
    dsimp only
    rw [out_B_8]

theorem outs10 : (outsAt0 m c t.val t.isLt).2.2.1 = k0_pay8 (iblk m c 7 t) (iblk m c 2 t) (iblk m c 3 t) (iblk m c 6 t) := by
  by_cases h : t.val = 0
  · rw [outsAt0_A m c t (by omega) (by omega)]
    dsimp only
    rw [out_A_10]
  · rw [outsAt0_B m c t (by have := lt_N t; omega) (by omega)]
    dsimp only
    rw [out_B_10]

theorem outs11 : (outsAt0 m c t.val t.isLt).2.2.2.1 = k0_pay9 (iblk m c 7 t) (iblk m c 2 t) (iblk m c 6 t) := by
  by_cases h : t.val = 0
  · rw [outsAt0_A m c t (by omega) (by omega)]
    dsimp only
    rw [out_A_11]
  · rw [outsAt0_B m c t (by have := lt_N t; omega) (by omega)]
    dsimp only
    rw [out_B_11]

theorem outs12 : (outsAt0 m c t.val t.isLt).2.2.2.2.1 = k0_pay10 (iblk m c 2 t) (iblk m c 3 t) := by
  by_cases h : t.val = 0
  · rw [outsAt0_A m c t (by omega) (by omega)]
    dsimp only
    rw [out_A_12]
  · rw [outsAt0_B m c t (by have := lt_N t; omega) (by omega)]
    dsimp only
    rw [out_B_12]

theorem outs13 : (outsAt0 m c t.val t.isLt).2.2.2.2.2 = k0_pay2 (iblk m c 7 t) := by
  by_cases h : t.val = 0
  · rw [outsAt0_A m c t (by omega) (by omega)]
    dsimp only
    rw [out_A_13]
  · rw [outsAt0_B m c t (by have := lt_N t; omega) (by omega)]
    dsimp only
    rw [out_B_13]

theorem outs9_zero (h : t.val = 0) : (outsAt0 m c t.val t.isLt).2.1 = k0_pay14 (k0_pay8 (iblk m c 7 t) (iblk m c 2 t) (iblk m c 3 t) (iblk m c 6 t)) (k0_pay9 (iblk m c 7 t) (iblk m c 2 t) (iblk m c 6 t)) (iblk m c 4 t) (iblk m c 5 t) (iblk m c 0 t) := by
  rw [outsAt0_A m c t (by omega) (by omega)]
  dsimp only
  rw [out_A_9]

theorem outs9_succ (h : ¬t.val = 0) : (outsAt0 m c t.val t.isLt).2.1
    = k0_pay1 (k0_pay14 (k0_pay8 (iblk m c 7 t) (iblk m c 2 t) (iblk m c 3 t) (iblk m c 6 t)) (k0_pay9 (iblk m c 7 t) (iblk m c 2 t) (iblk m c 6 t)) (iblk m c 4 t) (iblk m c 5 t) (iblk m c 0 t)) (outsAt0 m c (t.val - 1) (Nat.lt_of_le_of_lt (Nat.sub_le _ _) t.isLt)).2.1 := by
  rw [outsAt0_B m c t (by have := lt_N t; omega) (by omega)]
  dsimp only
  rw [out_B_9]

include H

theorem outs8_real (p : Fin 256) (k : Fin 1024) :
    ((outsAt0 m c t.val t.isLt).1 (ix2 p k) : EReal) = ((R.dxA (row t p) k : ℝ) : EReal) := by
  rw [outs8]
  exact pay15_real (iblk7_real H t) (pay8_real (iblk7_real H t) (iblk6_real H t) (iblk2_real H t) (iblk3_real H t)) (pay9_real (iblk7_real H t) (iblk6_real H t) (iblk2_real H t)) (iblk4_real H t) (iblk5_real H t) (iblk0_real H t) (iblk1_real H t) p k

theorem outs10_real (p : Fin 256) (k : Fin 2816) :
    ((outsAt0 m c t.val t.isLt).2.2.1 (ix2 p k) : EReal) = ((R.dgA (row t p) k : ℝ) : EReal) := by
  rw [outs10]
  exact pay8_real (iblk7_real H t) (iblk6_real H t) (iblk2_real H t) (iblk3_real H t) p k

theorem outs11_real (p : Fin 256) (k : Fin 2816) :
    ((outsAt0 m c t.val t.isLt).2.2.2.1 (ix2 p k) : EReal) = ((R.duA (row t p) k : ℝ) : EReal) := by
  rw [outs11]
  exact pay9_real (iblk7_real H t) (iblk6_real H t) (iblk2_real H t) p k

theorem outs12_real (p : Fin 256) (k : Fin 2816) :
    ((outsAt0 m c t.val t.isLt).2.2.2.2.1 (ix2 p k) : EReal) = ((R.actA (row t p) k : ℝ) : EReal) := by
  rw [outs12]
  exact pay10_real (iblk2_real H t) (iblk3_real H t) p k

theorem outs13_real (p : Fin 256) (k : Fin 1024) :
    ((outsAt0 m c t.val t.isLt).2.2.2.2.2 (ix2 p k) : EReal) = ((R.dyhA (row t p) k : ℝ) : EReal) := by
  rw [outs13]
  exact pay2_real (iblk7_real H t) p k

/-- A block's part of the weights' gradient. -/
theorem part_real (k : Fin 1024) :
    (k0_pay14 (k0_pay8 (iblk m c 7 t) (iblk m c 2 t) (iblk m c 3 t) (iblk m c 6 t)) (k0_pay9 (iblk m c 7 t) (iblk m c 2 t) (iblk m c 6 t)) (iblk m c 4 t) (iblk m c 5 t) (iblk m c 0 t) (ix2 0 k) : EReal) = ((∑ p : Fin 256, R.dnwAt (row t p) k : ℝ) : EReal) :=
  pay14_real (pay8_real (iblk7_real H t) (iblk6_real H t) (iblk2_real H t) (iblk3_real H t)) (pay9_real (iblk7_real H t) (iblk6_real H t) (iblk2_real H t)) (iblk4_real H t) (iblk5_real H t) (iblk0_real H t) k

/-- The weights' gradient after the blocks up to `n`. -/
theorem outs9_real (n : ℕ) (hn : n < cfg0.N) (k : Fin 1024) :
    ((outsAt0 m c n hn).2.1 (ix2 0 k) : EReal)
      = ((∑ s : Fin (n + 1), ∑ p : Fin 256, R.dnwAt (row ⟨s.val, by have := s.isLt; omega⟩ p) k : ℝ) : EReal) := by
  induction n with
  | zero =>
    rw [outs9_zero (⟨0, hn⟩ : Fin cfg0.N) rfl, part_real H]
    congr 1
    rw [Fin.sum_univ_one]
    rfl
  | succ n ih =>
    rw [outs9_succ (⟨n + 1, hn⟩ : Fin cfg0.N) (Nat.succ_ne_zero n)]
    unfold k0_pay1
    simp only [pointwise]
    rw [part_real H]
    rw [Fin.sum_univ_castSucc (fun s : Fin (n + 1 + 1) => ∑ p : Fin 256, R.dnwAt (row ⟨s.val, by have := s.isLt; omega⟩ p) k), EReal.coe_add]
    refine congrArg₂ (fun a b : EReal => a + b) ?_ rfl
    exact ih _

/-- The array of output 8 after the run. -/
theorem final8 : ((dats m 0 c).arrAt 8 cfg0.N : S8192x1024.Idx → EReal) = fun i : S8192x1024.Idx => ((R.dxA (i 0) (i 1) : ℝ) : EReal) := by
  refine (dats m 0 c).arrAt_eq_of_cover 8 _ (fun t hf => ?_) (fun i => ?_)
  · rw [flushed8]
    obtain ⟨e0, e1⟩ := index8 t
    funext y
    have hy0 : (y 0).val < 256 := (y 0).isLt
    have hy1 : (y 1).val < 1024 := (y 1).isLt
    have hb : ((cfg0.win 8).blk t).view.emb y = ix2 (row t ⟨(y 0).val, hy0⟩) ⟨(y 1).val, hy1⟩ := by
      funext a
      apply Fin.ext
      match a with
      | ⟨0, _⟩ => show win0_8.index t (0 : Fin 2) * 256 + 1 * (y 0).val = t.val * 256 + (y 0).val; omega
      | ⟨1, _⟩ => show win0_8.index t (1 : Fin 2) * 1024 + 1 * (y 1).val = (y 1).val; omega
    have hx : (cfg0.win 8).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).1 ((cfg0.win 8).xinj (grid0.coords t) y) : EReal)
      = (fun i : S8192x1024.Idx => ((R.dxA (i 0) (i 1) : ℝ) : EReal)) (((cfg0.win 8).blk t).view.emb y)
    rw [hb, hx]
    exact outs8_real H t _ _
  · have h0 : (i 0).val < 8192 := (i 0).isLt
    have h1 : (i 1).val < 1024 := (i 1).isLt
    have hN : (i 0).val / 256 < cfg0.N := lt_of_lt_of_eq (by omega) N_0.symm
    obtain ⟨e0, e1⟩ := index8 ⟨(i 0).val / 256, hN⟩
    refine ⟨⟨(i 0).val / 256, hN⟩, flush8 _, ?_⟩
    show i ∈ ((View.whole main_v0_0).slice (win0_8.rect ⟨(i 0).val / 256, hN⟩)).set
    rw [View.set_slice_whole, Rect.mem_set_unit]
    intro a
    match a with
    | ⟨0, _⟩ =>
      show win0_8.index ⟨(i 0).val / 256, hN⟩ (0 : Fin 2) * 256 ≤ (i 0).val
        ∧ (i 0).val < win0_8.index ⟨(i 0).val / 256, hN⟩ (0 : Fin 2) * 256 + 256
      rw [e0]; dsimp only; omega
    | ⟨1, _⟩ =>
      show win0_8.index ⟨(i 0).val / 256, hN⟩ (1 : Fin 2) * 1024 ≤ (i 1).val
        ∧ (i 1).val < win0_8.index ⟨(i 0).val / 256, hN⟩ (1 : Fin 2) * 1024 + 1024
      rw [e1]; omega

/-- The array of output 9 after the run. -/
theorem final9 : ((dats m 0 c).arrAt 9 cfg0.N : S1x1024.Idx → EReal) = fun i : S1x1024.Idx => ((R.dnwA (i 1) : ℝ) : EReal) := by
  refine (dats m 0 c).arrAt_eq_of_cover 9 _ (fun t hf => ?_) (fun i => ?_)
  · rw [flushed9]
    obtain ⟨e0, e1⟩ := index9 t
    funext y
    have hy0 : (y 0).val < 1 := (y 0).isLt
    have hy1 : (y 1).val < 1024 := (y 1).isLt
    have ht : t.val = 31 := by have := (flush0_9 t).mp hf; have := lt_N t; omega
    have hb : ((cfg0.win 9).blk t).view.emb y = ix2 (0 : Fin 1) ⟨(y 1).val, hy1⟩ := by
      funext a
      apply Fin.ext
      match a with
      | ⟨0, _⟩ => show win0_9.index t (0 : Fin 2) * 1 + 1 * (y 0).val = 0; omega
      | ⟨1, _⟩ => show win0_9.index t (1 : Fin 2) * 1024 + 1 * (y 1).val = (y 1).val; omega
    have hx : (cfg0.win 9).xinj (grid0.coords t) y = ix2 (0 : Fin 1) ⟨(y 1).val, hy1⟩ := by
      funext a
      apply Fin.ext
      match a with
      | ⟨0, _⟩ => show (y 0).val = 0; omega
      | ⟨1, _⟩ => rfl
    show ((outsAt0 m c t.val t.isLt).2.1 ((cfg0.win 9).xinj (grid0.coords t) y) : EReal)
      = (fun i : S1x1024.Idx => ((R.dnwA (i 1) : ℝ) : EReal)) (((cfg0.win 9).blk t).view.emb y)
    rw [hb, hx, outs9_real H t.val t.isLt]
    obtain ⟨n, hn⟩ := t
    dsimp only at ht
    subst ht
    show _ = ((R.dnwA ⟨(y 1).val, hy1⟩ : ℝ) : EReal)
    rw [Args.dnw_tiles]
    rfl
  · have h0 : (i 0).val < 1 := (i 0).isLt
    have h1 : (i 1).val < 1024 := (i 1).isLt
    have hN : 31 < cfg0.N := lt_of_lt_of_eq (by omega) N_0.symm
    obtain ⟨e0, e1⟩ := index9 ⟨31, hN⟩
    refine ⟨⟨31, hN⟩, (flush0_9 _).mpr rfl, ?_⟩
    show i ∈ ((View.whole main_v0_1).slice (win0_9.rect ⟨31, hN⟩)).set
    rw [View.set_slice_whole, Rect.mem_set_unit]
    intro a
    match a with
    | ⟨0, _⟩ =>
      show win0_9.index ⟨31, hN⟩ (0 : Fin 2) * 1 ≤ (i 0).val ∧ (i 0).val < win0_9.index ⟨31, hN⟩ (0 : Fin 2) * 1 + 1
      rw [e0]; omega
    | ⟨1, _⟩ =>
      show win0_9.index ⟨31, hN⟩ (1 : Fin 2) * 1024 ≤ (i 1).val ∧ (i 1).val < win0_9.index ⟨31, hN⟩ (1 : Fin 2) * 1024 + 1024
      rw [e1]; omega

/-- The array of output 10 after the run. -/
theorem final10 : ((dats m 0 c).arrAt 10 cfg0.N : S8192x2816.Idx → EReal) = fun i : S8192x2816.Idx => ((R.dgA (i 0) (i 1) : ℝ) : EReal) := by
  refine (dats m 0 c).arrAt_eq_of_cover 10 _ (fun t hf => ?_) (fun i => ?_)
  · rw [flushed10]
    obtain ⟨e0, e1⟩ := index10 t
    funext y
    have hy0 : (y 0).val < 256 := (y 0).isLt
    have hy1 : (y 1).val < 2816 := (y 1).isLt
    have hb : ((cfg0.win 10).blk t).view.emb y = ix2 (row t ⟨(y 0).val, hy0⟩) ⟨(y 1).val, hy1⟩ := by
      funext a
      apply Fin.ext
      match a with
      | ⟨0, _⟩ => show win0_10.index t (0 : Fin 2) * 256 + 1 * (y 0).val = t.val * 256 + (y 0).val; omega
      | ⟨1, _⟩ => show win0_10.index t (1 : Fin 2) * 2816 + 1 * (y 1).val = (y 1).val; omega
    have hx : (cfg0.win 10).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.1 ((cfg0.win 10).xinj (grid0.coords t) y) : EReal)
      = (fun i : S8192x2816.Idx => ((R.dgA (i 0) (i 1) : ℝ) : EReal)) (((cfg0.win 10).blk t).view.emb y)
    rw [hb, hx]
    exact outs10_real H t _ _
  · have h0 : (i 0).val < 8192 := (i 0).isLt
    have h1 : (i 1).val < 2816 := (i 1).isLt
    have hN : (i 0).val / 256 < cfg0.N := lt_of_lt_of_eq (by omega) N_0.symm
    obtain ⟨e0, e1⟩ := index10 ⟨(i 0).val / 256, hN⟩
    refine ⟨⟨(i 0).val / 256, hN⟩, flush10 _, ?_⟩
    show i ∈ ((View.whole main_v0_2).slice (win0_10.rect ⟨(i 0).val / 256, hN⟩)).set
    rw [View.set_slice_whole, Rect.mem_set_unit]
    intro a
    match a with
    | ⟨0, _⟩ =>
      show win0_10.index ⟨(i 0).val / 256, hN⟩ (0 : Fin 2) * 256 ≤ (i 0).val
        ∧ (i 0).val < win0_10.index ⟨(i 0).val / 256, hN⟩ (0 : Fin 2) * 256 + 256
      rw [e0]; dsimp only; omega
    | ⟨1, _⟩ =>
      show win0_10.index ⟨(i 0).val / 256, hN⟩ (1 : Fin 2) * 2816 ≤ (i 1).val
        ∧ (i 1).val < win0_10.index ⟨(i 0).val / 256, hN⟩ (1 : Fin 2) * 2816 + 2816
      rw [e1]; omega

/-- The array of output 11 after the run. -/
theorem final11 : ((dats m 0 c).arrAt 11 cfg0.N : S8192x2816.Idx → EReal) = fun i : S8192x2816.Idx => ((R.duA (i 0) (i 1) : ℝ) : EReal) := by
  refine (dats m 0 c).arrAt_eq_of_cover 11 _ (fun t hf => ?_) (fun i => ?_)
  · rw [flushed11]
    obtain ⟨e0, e1⟩ := index11 t
    funext y
    have hy0 : (y 0).val < 256 := (y 0).isLt
    have hy1 : (y 1).val < 2816 := (y 1).isLt
    have hb : ((cfg0.win 11).blk t).view.emb y = ix2 (row t ⟨(y 0).val, hy0⟩) ⟨(y 1).val, hy1⟩ := by
      funext a
      apply Fin.ext
      match a with
      | ⟨0, _⟩ => show win0_11.index t (0 : Fin 2) * 256 + 1 * (y 0).val = t.val * 256 + (y 0).val; omega
      | ⟨1, _⟩ => show win0_11.index t (1 : Fin 2) * 2816 + 1 * (y 1).val = (y 1).val; omega
    have hx : (cfg0.win 11).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.2.1 ((cfg0.win 11).xinj (grid0.coords t) y) : EReal)
      = (fun i : S8192x2816.Idx => ((R.duA (i 0) (i 1) : ℝ) : EReal)) (((cfg0.win 11).blk t).view.emb y)
    rw [hb, hx]
    exact outs11_real H t _ _
  · have h0 : (i 0).val < 8192 := (i 0).isLt
    have h1 : (i 1).val < 2816 := (i 1).isLt
    have hN : (i 0).val / 256 < cfg0.N := lt_of_lt_of_eq (by omega) N_0.symm
    obtain ⟨e0, e1⟩ := index11 ⟨(i 0).val / 256, hN⟩
    refine ⟨⟨(i 0).val / 256, hN⟩, flush11 _, ?_⟩
    show i ∈ ((View.whole main_v0_3).slice (win0_11.rect ⟨(i 0).val / 256, hN⟩)).set
    rw [View.set_slice_whole, Rect.mem_set_unit]
    intro a
    match a with
    | ⟨0, _⟩ =>
      show win0_11.index ⟨(i 0).val / 256, hN⟩ (0 : Fin 2) * 256 ≤ (i 0).val
        ∧ (i 0).val < win0_11.index ⟨(i 0).val / 256, hN⟩ (0 : Fin 2) * 256 + 256
      rw [e0]; dsimp only; omega
    | ⟨1, _⟩ =>
      show win0_11.index ⟨(i 0).val / 256, hN⟩ (1 : Fin 2) * 2816 ≤ (i 1).val
        ∧ (i 1).val < win0_11.index ⟨(i 0).val / 256, hN⟩ (1 : Fin 2) * 2816 + 2816
      rw [e1]; omega

/-- The array of output 12 after the run. -/
theorem final12 : ((dats m 0 c).arrAt 12 cfg0.N : S8192x2816.Idx → EReal) = fun i : S8192x2816.Idx => ((R.actA (i 0) (i 1) : ℝ) : EReal) := by
  refine (dats m 0 c).arrAt_eq_of_cover 12 _ (fun t hf => ?_) (fun i => ?_)
  · rw [flushed12]
    obtain ⟨e0, e1⟩ := index12 t
    funext y
    have hy0 : (y 0).val < 256 := (y 0).isLt
    have hy1 : (y 1).val < 2816 := (y 1).isLt
    have hb : ((cfg0.win 12).blk t).view.emb y = ix2 (row t ⟨(y 0).val, hy0⟩) ⟨(y 1).val, hy1⟩ := by
      funext a
      apply Fin.ext
      match a with
      | ⟨0, _⟩ => show win0_12.index t (0 : Fin 2) * 256 + 1 * (y 0).val = t.val * 256 + (y 0).val; omega
      | ⟨1, _⟩ => show win0_12.index t (1 : Fin 2) * 2816 + 1 * (y 1).val = (y 1).val; omega
    have hx : (cfg0.win 12).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.2.2.1 ((cfg0.win 12).xinj (grid0.coords t) y) : EReal)
      = (fun i : S8192x2816.Idx => ((R.actA (i 0) (i 1) : ℝ) : EReal)) (((cfg0.win 12).blk t).view.emb y)
    rw [hb, hx]
    exact outs12_real H t _ _
  · have h0 : (i 0).val < 8192 := (i 0).isLt
    have h1 : (i 1).val < 2816 := (i 1).isLt
    have hN : (i 0).val / 256 < cfg0.N := lt_of_lt_of_eq (by omega) N_0.symm
    obtain ⟨e0, e1⟩ := index12 ⟨(i 0).val / 256, hN⟩
    refine ⟨⟨(i 0).val / 256, hN⟩, flush12 _, ?_⟩
    show i ∈ ((View.whole main_v0_4).slice (win0_12.rect ⟨(i 0).val / 256, hN⟩)).set
    rw [View.set_slice_whole, Rect.mem_set_unit]
    intro a
    match a with
    | ⟨0, _⟩ =>
      show win0_12.index ⟨(i 0).val / 256, hN⟩ (0 : Fin 2) * 256 ≤ (i 0).val
        ∧ (i 0).val < win0_12.index ⟨(i 0).val / 256, hN⟩ (0 : Fin 2) * 256 + 256
      rw [e0]; dsimp only; omega
    | ⟨1, _⟩ =>
      show win0_12.index ⟨(i 0).val / 256, hN⟩ (1 : Fin 2) * 2816 ≤ (i 1).val
        ∧ (i 1).val < win0_12.index ⟨(i 0).val / 256, hN⟩ (1 : Fin 2) * 2816 + 2816
      rw [e1]; omega

/-- The array of output 13 after the run. -/
theorem final13 : ((dats m 0 c).arrAt 13 cfg0.N : S8192x1024.Idx → EReal) = fun i : S8192x1024.Idx => ((R.dyhA (i 0) (i 1) : ℝ) : EReal) := by
  refine (dats m 0 c).arrAt_eq_of_cover 13 _ (fun t hf => ?_) (fun i => ?_)
  · rw [flushed13]
    obtain ⟨e0, e1⟩ := index13 t
    funext y
    have hy0 : (y 0).val < 256 := (y 0).isLt
    have hy1 : (y 1).val < 1024 := (y 1).isLt
    have hb : ((cfg0.win 13).blk t).view.emb y = ix2 (row t ⟨(y 0).val, hy0⟩) ⟨(y 1).val, hy1⟩ := by
      funext a
      apply Fin.ext
      match a with
      | ⟨0, _⟩ => show win0_13.index t (0 : Fin 2) * 256 + 1 * (y 0).val = t.val * 256 + (y 0).val; omega
      | ⟨1, _⟩ => show win0_13.index t (1 : Fin 2) * 1024 + 1 * (y 1).val = (y 1).val; omega
    have hx : (cfg0.win 13).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.2.2.2 ((cfg0.win 13).xinj (grid0.coords t) y) : EReal)
      = (fun i : S8192x1024.Idx => ((R.dyhA (i 0) (i 1) : ℝ) : EReal)) (((cfg0.win 13).blk t).view.emb y)
    rw [hb, hx]
    exact outs13_real H t _ _
  · have h0 : (i 0).val < 8192 := (i 0).isLt
    have h1 : (i 1).val < 1024 := (i 1).isLt
    have hN : (i 0).val / 256 < cfg0.N := lt_of_lt_of_eq (by omega) N_0.symm
    obtain ⟨e0, e1⟩ := index13 ⟨(i 0).val / 256, hN⟩
    refine ⟨⟨(i 0).val / 256, hN⟩, flush13 _, ?_⟩
    show i ∈ ((View.whole main_v0_5).slice (win0_13.rect ⟨(i 0).val / 256, hN⟩)).set
    rw [View.set_slice_whole, Rect.mem_set_unit]
    intro a
    match a with
    | ⟨0, _⟩ =>
      show win0_13.index ⟨(i 0).val / 256, hN⟩ (0 : Fin 2) * 256 ≤ (i 0).val
        ∧ (i 0).val < win0_13.index ⟨(i 0).val / 256, hN⟩ (0 : Fin 2) * 256 + 256
      rw [e0]; dsimp only; omega
    | ⟨1, _⟩ =>
      show win0_13.index ⟨(i 0).val / 256, hN⟩ (1 : Fin 2) * 1024 ≤ (i 1).val
        ∧ (i 1).val < win0_13.index ⟨(i 0).val / 256, hN⟩ (1 : Fin 2) * 1024 + 1024
      rw [e1]; omega

end Cert.Kernel3Ideal.Fb
-- ==== Proof.FbRef.lean ====
/- The gated unit's backward pass: the reference's arrays, over real arguments. -/
module

public import proofs.«01_k».proof.Proof.Gen.Reference3Ideal.Read
public import proofs.«01_k».proof.Proof.FbReal

@[expose] public section

set_option maxRecDepth 16384

noncomputable section

namespace Cert.Reference3Ideal.Fb

open Cert.Reference3Ideal Cert.Reference3Ideal.Gen Cert.Reference3Ideal.Read
open Idealize.ShloMosaic Idealize.ShloMosaic.TcCoe
open Cert.FbReal (Args sum_coe div_coe_coe bits_half bits_neg_half bits_1024 bits_eps bits_one bits_zero)
open scoped BigOperators

variable {x0 : (⟨S8192x1024, .f32⟩ : BufTy).Contents (Elt Ideal)} {x1 : (⟨S1x1024, .f32⟩ : BufTy).Contents (Elt Ideal)}
variable {x2 x3 : (⟨S8192x2816, .bf16⟩ : BufTy).Contents (Elt Ideal)} {x4 x5 x6 : (⟨S2816x1024, .bf16⟩ : BufTy).Contents (Elt Ideal)}
variable {x7 : (⟨S8192x1024, .f32⟩ : BufTy).Contents (Elt Ideal)} {R : Args}

/-- Two reals' quotient. -/
theorem quo {a b : EReal} {p q : ℝ} (ha : a = (p : EReal)) (hb : b = (q : EReal)) (h : q ≠ 0) : Ideal.div a b = ((p / q : ℝ) : EReal) := by
  rw [ha, hb, div_coe_coe h]
theorem add {a b : EReal} {p q : ℝ} (ha : a = (p : EReal)) (hb : b = (q : EReal)) : a + b = ((p + q : ℝ) : EReal) := by
  rw [ha, hb, EReal.coe_add]
theorem mul {a b : EReal} {p q : ℝ} (ha : a = (p : EReal)) (hb : b = (q : EReal)) : a * b = ((p * q : ℝ) : EReal) := by
  rw [ha, hb, EReal.coe_mul]
theorem sub {a b : EReal} {p q : ℝ} (ha : a = (p : EReal)) (hb : b = (q : EReal)) : a - b = ((p - q : ℝ) : EReal) := by
  rw [ha, hb, EReal.coe_sub]
theorem neg {a : EReal} {p : ℝ} (ha : a = (p : EReal)) : -a = ((-p : ℝ) : EReal) := by
  rw [ha, EReal.coe_neg]
theorem exp {a : EReal} {p : ℝ} (ha : a = (p : EReal)) : Ideal.exp a = ((Real.exp p : ℝ) : EReal) := by
  rw [ha, Ideal.exp_coe]
theorem sum {ι : Type} [Fintype ι] {a : ι → EReal} {p : ι → ℝ} (ha : ∀ k, a k = ((p k : ℝ) : EReal)) : ∑ k, a k = ((∑ k, p k : ℝ) : EReal) := by
  rw [← sum_coe]
  exact Finset.sum_congr rfl fun k _ => ha k
theorem zero_sum {ι : Type} [Fintype ι] {z : EReal} {a : ι → EReal} {p : ι → ℝ} (hz : z = ((0 : ℝ) : EReal)) (ha : ∀ k, a k = ((p k : ℝ) : EReal)) :
    z + ∑ k, a k = ((∑ k, p k : ℝ) : EReal) := by
  rw [hz, sum ha, EReal.coe_zero, zero_add]

theorem idx40 (i : S1x1024.Idx) : (idx_main_v40 i 0 : Fin 1024) = i 1 := by
  have h : (i 0).val < 1 := (i 0).isLt
  apply Fin.ext
  show (i 0).val * 1024 + (i 1).val = (i 1).val
  omega
theorem idx45 (i : S8192x1.Idx) : (idx_main_v45 i 0 : Fin 8192) = i 0 := by
  have h : (i 1).val < 1 := (i 1).isLt
  apply Fin.ext
  show (i 0).val * 1 + (i 1).val = (i 0).val
  omega

theorem r_v0  (i : S8192x1024.Idx) :
    (val_main_v0 (F := Ideal) i : EReal) = ((2⁻¹ : ℝ) : EReal) :=
  (val_main_v0_apply i).trans (bits_half)

theorem r_v1 (h7 : ∀ i, (x7 i : EReal) = ((R.dy (i 0) (i 1) : ℝ) : EReal)) (i : S8192x1024.Idx) :
    (val_main_v1 (F := Ideal) x7 i : EReal) = ((R.dyhA (i 0) (i 1) : ℝ) : EReal) :=
  (val_main_v1_apply _ i).trans (mul (r_v0 _) (h7 _))

theorem r_v2 (h7 : ∀ i, (x7 i : EReal) = ((R.dy (i 0) (i 1) : ℝ) : EReal)) (i : S8192x1024.Idx) :
    (val_main_v2 (F := Ideal) x7 i : EReal) = ((R.dyhA (i 0) (i 1) : ℝ) : EReal) :=
  (val_main_v2_apply _ i).trans ((r_v1 h7 _))

theorem r_v3 (h2 : ∀ i, (x2 i : EReal) = ((R.g (i 0) (i 1) : ℝ) : EReal)) (i : S8192x2816.Idx) :
    (val_main_v3 (F := Ideal) x2 i : EReal) = ((R.g (i 0) (i 1) : ℝ) : EReal) :=
  (val_main_v3_apply _ i).trans (h2 _)

theorem r_v4 (h3 : ∀ i, (x3 i : EReal) = ((R.u (i 0) (i 1) : ℝ) : EReal)) (i : S8192x2816.Idx) :
    (val_main_v4 (F := Ideal) x3 i : EReal) = ((R.u (i 0) (i 1) : ℝ) : EReal) :=
  (val_main_v4_apply _ i).trans (h3 _)

theorem r_call0_v0 (h2 : ∀ i, (x2 i : EReal) = ((R.g (i 0) (i 1) : ℝ) : EReal)) (i : S8192x2816.Idx) :
    (val_main_call0_v0 (F := Ideal) x2 i : EReal) = ((-(R.g (i 0) (i 1)) : ℝ) : EReal) :=
  (val_main_call0_v0_apply _ i).trans (neg (r_v3 h2 _))

theorem r_call0_v1 (h2 : ∀ i, (x2 i : EReal) = ((R.g (i 0) (i 1) : ℝ) : EReal)) (i : S8192x2816.Idx) :
    (val_main_call0_v1 (F := Ideal) x2 i : EReal) = ((Real.exp (-(R.g (i 0) (i 1))) : ℝ) : EReal) :=
  (val_main_call0_v1_apply _ i).trans (exp (r_call0_v0 h2 _))

theorem r_call0_v2  (i : S8192x2816.Idx) :
    (val_main_call0_v2 (F := Ideal) i : EReal) = ((1 : ℝ) : EReal) :=
  (val_main_call0_v2_apply i).trans (bits_one)

theorem r_call0_v4  (i : S8192x2816.Idx) :
    (val_main_call0_v4 (F := Ideal) i : EReal) = ((1 : ℝ) : EReal) :=
  (val_main_call0_v4_apply i).trans (bits_one)

theorem r_call0_v6  (i : S8192x2816.Idx) :
    (val_main_call0_v6 (F := Ideal) i : EReal) = ((1 : ℝ) : EReal) :=
  (val_main_call0_v6_apply i).trans (bits_one)

theorem r_call0_v3 (h2 : ∀ i, (x2 i : EReal) = ((R.g (i 0) (i 1) : ℝ) : EReal)) (i : S8192x2816.Idx) :
    (val_main_call0_v3 (F := Ideal) x2 i : EReal) = ((1 + Real.exp (-(R.g (i 0) (i 1))) : ℝ) : EReal) :=
  (val_main_call0_v3_apply _ i).trans (add (r_call0_v2 _) (r_call0_v1 h2 _))

theorem r_v5_2 (h2 : ∀ i, (x2 i : EReal) = ((R.g (i 0) (i 1) : ℝ) : EReal)) (i : S8192x2816.Idx) :
    (val_main_v5_2 (F := Ideal) x2 i : EReal) = ((FbReal.sg (R.g (i 0) (i 1)) : ℝ) : EReal) :=
  (val_main_v5_2_apply _ i).trans ((quo (r_call0_v4 _) (r_call0_v3 h2 _) (FbReal.one_add_exp_ne _)).trans (by rw [one_div]; rfl))

theorem r_call0_v7 (h2 : ∀ i, (x2 i : EReal) = ((R.g (i 0) (i 1) : ℝ) : EReal)) (i : S8192x2816.Idx) :
    (val_main_call0_v7 (F := Ideal) x2 i : EReal) = ((1 - FbReal.sg (R.g (i 0) (i 1)) : ℝ) : EReal) :=
  (val_main_call0_v7_apply _ i).trans (sub (r_call0_v6 _) (r_v5_2 h2 _))

theorem r_v5_1 (h2 : ∀ i, (x2 i : EReal) = ((R.g (i 0) (i 1) : ℝ) : EReal)) (i : S8192x2816.Idx) :
    (val_main_v5_1 (F := Ideal) x2 i : EReal) = ((FbReal.sg (R.g (i 0) (i 1)) * (1 - FbReal.sg (R.g (i 0) (i 1))) : ℝ) : EReal) :=
  (val_main_v5_1_apply _ i).trans (mul (r_v5_2 h2 _) (r_call0_v7 h2 _))

theorem r_v5_0 (h2 : ∀ i, (x2 i : EReal) = ((R.g (i 0) (i 1) : ℝ) : EReal)) (i : S8192x2816.Idx) :
    (val_main_v5_0 (F := Ideal) x2 i : EReal) = ((R.g (i 0) (i 1) * FbReal.sg (R.g (i 0) (i 1)) : ℝ) : EReal) :=
  (val_main_v5_0_apply _ i).trans (mul (r_v3 h2 _) (r_v5_2 h2 _))

theorem r_v6 (h2 : ∀ i, (x2 i : EReal) = ((R.g (i 0) (i 1) : ℝ) : EReal)) (h3 : ∀ i, (x3 i : EReal) = ((R.u (i 0) (i 1) : ℝ) : EReal)) (i : S8192x2816.Idx) :
    (val_main_v6 (F := Ideal) x2 x3 i : EReal) = ((R.actA (i 0) (i 1) : ℝ) : EReal) :=
  (val_main_v6_apply _ _ i).trans (mul (r_v5_0 h2 _) (r_v4 h3 _))

theorem r_v58 (h2 : ∀ i, (x2 i : EReal) = ((R.g (i 0) (i 1) : ℝ) : EReal)) (h3 : ∀ i, (x3 i : EReal) = ((R.u (i 0) (i 1) : ℝ) : EReal)) (i : S8192x2816.Idx) :
    (val_main_v58 (F := Ideal) x2 x3 i : EReal) = ((R.actA (i 0) (i 1) : ℝ) : EReal) :=
  (val_main_v58_apply _ _ i).trans ((r_v6 h2 h3 _))

theorem r_v7 (h7 : ∀ i, (x7 i : EReal) = ((R.dy (i 0) (i 1) : ℝ) : EReal)) (i : S8192x1024.Idx) :
    (val_main_v7 (F := Ideal) x7 i : EReal) = ((R.dyhA (i 0) (i 1) : ℝ) : EReal) :=
  (val_main_v7_apply _ i).trans ((r_v2 h7 _))

theorem r_v8 (h6 : ∀ i, (x6 i : EReal) = ((R.wd (i 0) (i 1) : ℝ) : EReal)) (i : S2816x1024.Idx) :
    (val_main_v8 (F := Ideal) x6 i : EReal) = ((R.wd (i 0) (i 1) : ℝ) : EReal) :=
  (val_main_v8_apply _ i).trans (h6 _)

theorem r_v9 (h6 : ∀ i, (x6 i : EReal) = ((R.wd (i 0) (i 1) : ℝ) : EReal)) (i : S1024x2816.Idx) :
    (val_main_v9 (F := Ideal) x6 i : EReal) = ((R.wd (i 1) (i 0) : ℝ) : EReal) :=
  (val_main_v9_apply _ i).trans ((r_v8 h6 _))

theorem r_v10 (h6 : ∀ i, (x6 i : EReal) = ((R.wd (i 0) (i 1) : ℝ) : EReal)) (h7 : ∀ i, (x7 i : EReal) = ((R.dy (i 0) (i 1) : ℝ) : EReal)) (i : S8192x2816.Idx) :
    (val_main_v10 (F := Ideal) x6 x7 i : EReal) = ((FbReal.da (R.dy (i 0)) R.wd (i 1) : ℝ) : EReal) :=
  (val_main_v10_apply _ _ i).trans (sum fun k => mul (r_v7 h7 _) (r_v9 h6 _))

theorem r_v11 (h2 : ∀ i, (x2 i : EReal) = ((R.g (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_v11 (F := Ideal) x2 x6 x7 i : EReal) = ((R.duA (i 0) (i 1) : ℝ) : EReal) :=
  (val_main_v11_apply _ _ _ i).trans ((mul (r_v5_0 h2 _) (r_v10 h6 h7 _)).trans (congrArg _ (mul_comm _ _)))

theorem r_v12 (h3 : ∀ i, (x3 i : EReal) = ((R.u (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_v12 (F := Ideal) x3 x6 x7 i : EReal) = ((FbReal.da (R.dy (i 0)) R.wd (i 1) * R.u (i 0) (i 1) : ℝ) : EReal) :=
  (val_main_v12_apply _ _ _ i).trans (mul (r_v10 h6 h7 _) (r_v4 h3 _))

theorem r_call1_v0 (h2 : ∀ i, (x2 i : EReal) = ((R.g (i 0) (i 1) : ℝ) : EReal)) (h3 : ∀ i, (x3 i : EReal) = ((R.u (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_call1_v0 (F := Ideal) x2 x3 x6 x7 i : EReal) = ((R.g (i 0) (i 1) * (FbReal.da (R.dy (i 0)) R.wd (i 1) * R.u (i 0) (i 1)) : ℝ) : EReal) :=
  (val_main_call1_v0_apply _ _ _ _ i).trans (mul (r_v3 h2 _) (r_v12 h3 h6 h7 _))

theorem r_call1_v1 (h2 : ∀ i, (x2 i : EReal) = ((R.g (i 0) (i 1) : ℝ) : EReal)) (h3 : ∀ i, (x3 i : EReal) = ((R.u (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_call1_v1 (F := Ideal) x2 x3 x6 x7 i : EReal) = ((FbReal.da (R.dy (i 0)) R.wd (i 1) * R.u (i 0) (i 1) * FbReal.sg (R.g (i 0) (i 1)) : ℝ) : EReal) :=
  (val_main_call1_v1_apply _ _ _ _ i).trans (mul (r_v12 h3 h6 h7 _) (r_v5_2 h2 _))

theorem r_call1_v2 (h2 : ∀ i, (x2 i : EReal) = ((R.g (i 0) (i 1) : ℝ) : EReal)) (h3 : ∀ i, (x3 i : EReal) = ((R.u (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_call1_v2 (F := Ideal) x2 x3 x6 x7 i : EReal) = ((R.g (i 0) (i 1) * (FbReal.da (R.dy (i 0)) R.wd (i 1) * R.u (i 0) (i 1)) * (FbReal.sg (R.g (i 0) (i 1)) * (1 - FbReal.sg (R.g (i 0) (i 1)))) : ℝ) : EReal) :=
  (val_main_call1_v2_apply _ _ _ _ i).trans (mul (r_call1_v0 h2 h3 h6 h7 _) (r_v5_1 h2 _))

theorem r_v13 (h2 : ∀ i, (x2 i : EReal) = ((R.g (i 0) (i 1) : ℝ) : EReal)) (h3 : ∀ i, (x3 i : EReal) = ((R.u (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_v13 (F := Ideal) x2 x3 x6 x7 i : EReal) = ((R.dgA (i 0) (i 1) : ℝ) : EReal) :=
  (val_main_v13_apply _ _ _ _ i).trans ((add (r_call1_v1 h2 h3 h6 h7 _) (r_call1_v2 h2 h3 h6 h7 _)).trans (congrArg _ (FbReal.dg_eq _ _ _ _)))

theorem r_v14 (h2 : ∀ i, (x2 i : EReal) = ((R.g (i 0) (i 1) : ℝ) : EReal)) (h3 : ∀ i, (x3 i : EReal) = ((R.u (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_v14 (F := Ideal) x2 x3 x6 x7 i : EReal) = ((R.dgA (i 0) (i 1) : ℝ) : EReal) :=
  (val_main_v14_apply _ _ _ _ i).trans ((r_v13 h2 h3 h6 h7 _))

theorem r_v15 (h2 : ∀ i, (x2 i : EReal) = ((R.g (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_v15 (F := Ideal) x2 x6 x7 i : EReal) = ((R.duA (i 0) (i 1) : ℝ) : EReal) :=
  (val_main_v15_apply _ _ _ i).trans ((r_v11 h2 h6 h7 _))

theorem r_v16 (h2 : ∀ i, (x2 i : EReal) = ((R.g (i 0) (i 1) : ℝ) : EReal)) (h3 : ∀ i, (x3 i : EReal) = ((R.u (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_v16 (F := Ideal) x2 x3 x6 x7 i : EReal) = ((R.dgA (i 0) (i 1) : ℝ) : EReal) :=
  (val_main_v16_apply _ _ _ _ i).trans ((r_v14 h2 h3 h6 h7 _))

theorem r_v17 (h4 : ∀ i, (x4 i : EReal) = ((R.wg (i 0) (i 1) : ℝ) : EReal)) (i : S2816x1024.Idx) :
    (val_main_v17 (F := Ideal) x4 i : EReal) = ((R.wg (i 0) (i 1) : ℝ) : EReal) :=
  (val_main_v17_apply _ i).trans (h4 _)

theorem r_v18 (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v18 (F := Ideal) x2 x3 x4 x6 x7 i : EReal) = ((∑ f, R.dgA (i 0) f * R.wg f (i 1) : ℝ) : EReal) :=
  (val_main_v18_apply _ _ _ _ _ i).trans (sum fun k => mul (r_v16 h2 h3 h6 h7 _) (r_v17 h4 _))

theorem r_v19 (h2 : ∀ i, (x2 i : EReal) = ((R.g (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x2816.Idx) :
    (val_main_v19 (F := Ideal) x2 x6 x7 i : EReal) = ((R.duA (i 0) (i 1) : ℝ) : EReal) :=
  (val_main_v19_apply _ _ _ i).trans ((r_v15 h2 h6 h7 _))

theorem r_v20 (h5 : ∀ i, (x5 i : EReal) = ((R.wu (i 0) (i 1) : ℝ) : EReal)) (i : S2816x1024.Idx) :
    (val_main_v20 (F := Ideal) x5 i : EReal) = ((R.wu (i 0) (i 1) : ℝ) : EReal) :=
  (val_main_v20_apply _ i).trans (h5 _)

theorem r_v21 (h2 : ∀ i, (x2 i : EReal) = ((R.g (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v21 (F := Ideal) x2 x5 x6 x7 i : EReal) = ((∑ f, R.duA (i 0) f * R.wu f (i 1) : ℝ) : EReal) :=
  (val_main_v21_apply _ _ _ _ i).trans (sum fun k => mul (r_v19 h2 h6 h7 _) (r_v20 h5 _))

theorem r_v22 (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v22 (F := Ideal) x2 x3 x4 x5 x6 x7 i : EReal) = ((R.dhA (i 0) (i 1) : ℝ) : EReal) :=
  (val_main_v22_apply _ _ _ _ _ _ i).trans (add (r_v18 h2 h3 h4 h6 h7 _) (r_v21 h2 h5 h6 h7 _))

theorem r_v23 (h0 : ∀ i, (x0 i : EReal) = ((R.x (i 0) (i 1) : ℝ) : EReal)) (i : S8192x1024.Idx) :
    (val_main_v23 (F := Ideal) x0 i : EReal) = ((R.x (i 0) (i 1) * R.x (i 0) (i 1) : ℝ) : EReal) :=
  (val_main_v23_apply _ i).trans (mul (h0 _) (h0 _))

theorem r_v24 (h0 : ∀ i, (x0 i : EReal) = ((R.x (i 0) (i 1) : ℝ) : EReal)) (i : S8192.Idx) :
    (val_main_v24 (F := Ideal) x0 i : EReal) = ((∑ k, R.x (i 0) k * R.x (i 0) k : ℝ) : EReal) :=
  (val_main_v24_apply _ i).trans (zero_sum bits_zero fun k => (r_v23 h0 _))

theorem r_v25 (h0 : ∀ i, (x0 i : EReal) = ((R.x (i 0) (i 1) : ℝ) : EReal)) (i : S8192x1.Idx) :
    (val_main_v25 (F := Ideal) x0 i : EReal) = ((∑ k, R.x (i 0) k * R.x (i 0) k : ℝ) : EReal) :=
  (val_main_v25_apply _ i).trans ((r_v24 h0 _))

theorem r_v26  (i : S8192x1.Idx) :
    (val_main_v26 (F := Ideal) i : EReal) = ((1024 : ℝ) : EReal) :=
  (val_main_v26_apply i).trans (bits_1024)

theorem r_v27 (h0 : ∀ i, (x0 i : EReal) = ((R.x (i 0) (i 1) : ℝ) : EReal)) (i : S8192x1.Idx) :
    (val_main_v27 (F := Ideal) x0 i : EReal) = (((∑ k, R.x (i 0) k * R.x (i 0) k) / 1024 : ℝ) : EReal) :=
  (val_main_v27_apply _ i).trans (quo (r_v25 h0 _) (r_v26 _) (by norm_num))

theorem r_v28  (i : S8192x1.Idx) :
    (val_main_v28 (F := Ideal) i : EReal) = ((FbReal.eps : ℝ) : EReal) :=
  (val_main_v28_apply i).trans (bits_eps)

theorem r_v29 (h0 : ∀ i, (x0 i : EReal) = ((R.x (i 0) (i 1) : ℝ) : EReal)) (i : S8192x1.Idx) :
    (val_main_v29 (F := Ideal) x0 i : EReal) = ((FbReal.ms (R.x (i 0)) : ℝ) : EReal) :=
  (val_main_v29_apply _ i).trans (add (r_v27 h0 _) (r_v28 _))

theorem r_v30 (h0 : ∀ i, (x0 i : EReal) = ((R.x (i 0) (i 1) : ℝ) : EReal)) (i : S8192x1.Idx) :
    (val_main_v30 (F := Ideal) x0 i : EReal) = ((FbReal.rr (R.x (i 0)) : ℝ) : EReal) :=
  (val_main_v30_apply _ i).trans ((congrArg Ideal.rsqrt (r_v29 h0 _)).trans (FbReal.rsqrt_pos (FbReal.ms_pos _)))

theorem r_v31 (h0 : ∀ i, (x0 i : EReal) = ((R.x (i 0) (i 1) : ℝ) : EReal)) (i : S8192x1.Idx) :
    (val_main_v31 (F := Ideal) x0 i : EReal) = ((FbReal.rr (R.x (i 0)) / FbReal.ms (R.x (i 0)) : ℝ) : EReal) :=
  (val_main_v31_apply _ i).trans (quo (r_v30 h0 _) (r_v29 h0 _) (FbReal.ms_pos _).ne')

theorem r_v32  (i : S8192x1.Idx) :
    (val_main_v32 (F := Ideal) i : EReal) = ((-2⁻¹ : ℝ) : EReal) :=
  (val_main_v32_apply i).trans (bits_neg_half)

theorem r_v33 (h0 : ∀ i, (x0 i : EReal) = ((R.x (i 0) (i 1) : ℝ) : EReal)) (i : S8192x1.Idx) :
    (val_main_v33 (F := Ideal) x0 i : EReal) = ((-2⁻¹ * (FbReal.rr (R.x (i 0)) / FbReal.ms (R.x (i 0))) : ℝ) : EReal) :=
  (val_main_v33_apply _ i).trans (mul (r_v32 _) (r_v31 h0 _))

theorem r_v34 (h0 : ∀ i, (x0 i : EReal) = ((R.x (i 0) (i 1) : ℝ) : EReal)) (i : S8192x1024.Idx) :
    (val_main_v34 (F := Ideal) x0 i : EReal) = ((FbReal.rr (R.x (i 0)) : ℝ) : EReal) :=
  (val_main_v34_apply _ i).trans ((r_v30 h0 _))

theorem r_v35 (h0 : ∀ i, (x0 i : EReal) = ((R.x (i 0) (i 1) : ℝ) : EReal)) (i : S8192x1024.Idx) :
    (val_main_v35 (F := Ideal) x0 i : EReal) = ((R.x (i 0) (i 1) * FbReal.rr (R.x (i 0)) : ℝ) : EReal) :=
  (val_main_v35_apply _ i).trans (mul (h0 _) (r_v34 h0 _))

theorem r_v38 (h0 : ∀ i, (x0 i : EReal) = ((R.x (i 0) (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v38 (F := Ideal) x0 x2 x3 x4 x5 x6 x7 i : EReal) = ((R.dnwAt (i 0) (i 1) : ℝ) : EReal) :=
  (val_main_v38_apply _ _ _ _ _ _ _ i).trans ((mul (r_v35 h0 _) (r_v22 h2 h3 h4 h5 h6 h7 _)).trans (congrArg _ (mul_comm _ _)))

theorem r_v39 (h0 : ∀ i, (x0 i : EReal) = ((R.x (i 0) (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S1024.Idx) :
    (val_main_v39 (F := Ideal) x0 x2 x3 x4 x5 x6 x7 i : EReal) = ((R.dnwA (i 0) : ℝ) : EReal) :=
  (val_main_v39_apply _ _ _ _ _ _ _ i).trans (zero_sum bits_zero fun k => (r_v38 h0 h2 h3 h4 h5 h6 h7 _))

theorem r_v40 (h0 : ∀ i, (x0 i : EReal) = ((R.x (i 0) (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S1x1024.Idx) :
    (val_main_v40 (F := Ideal) x0 x2 x3 x4 x5 x6 x7 i : EReal) = ((R.dnwA (i 1) : ℝ) : EReal) :=
  (val_main_v40_apply _ _ _ _ _ _ _ i).trans ((r_v39 h0 h2 h3 h4 h5 h6 h7 _).trans (congrArg (fun k : Fin 1024 => ((R.dnwA k : ℝ) : EReal)) (idx40 i)))

theorem r_v41 (h1 : ∀ i, (x1 i : EReal) = ((R.nw (i 1) : ℝ) : EReal)) (i : S8192x1024.Idx) :
    (val_main_v41 (F := Ideal) x1 i : EReal) = ((R.nw (i 1) : ℝ) : EReal) :=
  (val_main_v41_apply _ i).trans (h1 _)

theorem r_v42 (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v42 (F := Ideal) x1 x2 x3 x4 x5 x6 x7 i : EReal) = ((R.dhA (i 0) (i 1) * R.nw (i 1) : ℝ) : EReal) :=
  (val_main_v42_apply _ _ _ _ _ _ _ i).trans (mul (r_v22 h2 h3 h4 h5 h6 h7 _) (r_v41 h1 _))

theorem r_v43 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v43 (F := Ideal) x0 x1 x2 x3 x4 x5 x6 x7 i : EReal) = ((R.x (i 0) (i 1) * (R.dhA (i 0) (i 1) * R.nw (i 1)) : ℝ) : EReal) :=
  (val_main_v43_apply _ _ _ _ _ _ _ _ i).trans (mul (h0 _) (r_v42 h1 h2 h3 h4 h5 h6 h7 _))

theorem r_v44 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192.Idx) :
    (val_main_v44 (F := Ideal) x0 x1 x2 x3 x4 x5 x6 x7 i : EReal) = (((∑ l, R.x (i 0) l * (R.dhA (i 0) l * R.nw l)) : ℝ) : EReal) :=
  (val_main_v44_apply _ _ _ _ _ _ _ _ i).trans (zero_sum bits_zero fun k => (r_v43 h0 h1 h2 h3 h4 h5 h6 h7 _))

theorem r_v45 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1.Idx) :
    (val_main_v45 (F := Ideal) x0 x1 x2 x3 x4 x5 x6 x7 i : EReal) = (((∑ l, R.x (i 0) l * (R.dhA (i 0) l * R.nw l)) : ℝ) : EReal) :=
  (val_main_v45_apply _ _ _ _ _ _ _ _ i).trans ((r_v44 h0 h1 h2 h3 h4 h5 h6 h7 _).trans (congrArg (fun n : Fin 8192 => ((∑ l, R.x n l * (R.dhA n l * R.nw l) : ℝ) : EReal)) (idx45 i)))

theorem r_v46 (h0 : ∀ i, (x0 i : EReal) = ((R.x (i 0) (i 1) : ℝ) : EReal)) (i : S8192x1024.Idx) :
    (val_main_v46 (F := Ideal) x0 i : EReal) = ((FbReal.rr (R.x (i 0)) : ℝ) : EReal) :=
  (val_main_v46_apply _ i).trans ((r_v30 h0 _))

theorem r_v47 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v47 (F := Ideal) x0 x1 x2 x3 x4 x5 x6 x7 i : EReal) = ((R.dhA (i 0) (i 1) * R.nw (i 1) * FbReal.rr (R.x (i 0)) : ℝ) : EReal) :=
  (val_main_v47_apply _ _ _ _ _ _ _ _ i).trans (mul (r_v42 h1 h2 h3 h4 h5 h6 h7 _) (r_v46 h0 _))

theorem r_v48 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1.Idx) :
    (val_main_v48 (F := Ideal) x0 x1 x2 x3 x4 x5 x6 x7 i : EReal) = (((∑ l, R.x (i 0) l * (R.dhA (i 0) l * R.nw l)) * (-2⁻¹ * (FbReal.rr (R.x (i 0)) / FbReal.ms (R.x (i 0)))) : ℝ) : EReal) :=
  (val_main_v48_apply _ _ _ _ _ _ _ _ i).trans (mul (r_v45 h0 h1 h2 h3 h4 h5 h6 h7 _) (r_v33 h0 _))

theorem r_v49  (i : S8192x1.Idx) :
    (val_main_v49 (F := Ideal) i : EReal) = ((1024 : ℝ) : EReal) :=
  (val_main_v49_apply i).trans (bits_1024)

theorem r_v50 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1.Idx) :
    (val_main_v50 (F := Ideal) x0 x1 x2 x3 x4 x5 x6 x7 i : EReal) = (((∑ l, R.x (i 0) l * (R.dhA (i 0) l * R.nw l)) * (-2⁻¹ * (FbReal.rr (R.x (i 0)) / FbReal.ms (R.x (i 0)))) / 1024 : ℝ) : EReal) :=
  (val_main_v50_apply _ _ _ _ _ _ _ _ i).trans (quo (r_v48 h0 h1 h2 h3 h4 h5 h6 h7 _) (r_v49 _) (by norm_num))

theorem r_v51 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192.Idx) :
    (val_main_v51 (F := Ideal) x0 x1 x2 x3 x4 x5 x6 x7 i : EReal) = (((∑ l, R.x (i 0) l * (R.dhA (i 0) l * R.nw l)) * (-2⁻¹ * (FbReal.rr (R.x (i 0)) / FbReal.ms (R.x (i 0)))) / 1024 : ℝ) : EReal) :=
  (val_main_v51_apply _ _ _ _ _ _ _ _ i).trans ((zero_sum bits_zero fun k => (r_v50 h0 h1 h2 h3 h4 h5 h6 h7 _)).trans (congrArg _ (Fin.sum_univ_one _)))

theorem r_v52 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v52 (F := Ideal) x0 x1 x2 x3 x4 x5 x6 x7 i : EReal) = (((∑ l, R.x (i 0) l * (R.dhA (i 0) l * R.nw l)) * (-2⁻¹ * (FbReal.rr (R.x (i 0)) / FbReal.ms (R.x (i 0)))) / 1024 : ℝ) : EReal) :=
  (val_main_v52_apply _ _ _ _ _ _ _ _ i).trans ((r_v51 h0 h1 h2 h3 h4 h5 h6 h7 _))

theorem r_v53 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v53 (F := Ideal) x0 x1 x2 x3 x4 x5 x6 x7 i : EReal) = ((R.x (i 0) (i 1) * ((∑ l, R.x (i 0) l * (R.dhA (i 0) l * R.nw l)) * (-2⁻¹ * (FbReal.rr (R.x (i 0)) / FbReal.ms (R.x (i 0)))) / 1024) : ℝ) : EReal) :=
  (val_main_v53_apply _ _ _ _ _ _ _ _ i).trans (mul (h0 _) (r_v52 h0 h1 h2 h3 h4 h5 h6 h7 _))

theorem r_v54 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v54 (F := Ideal) x0 x1 x2 x3 x4 x5 x6 x7 i : EReal) = ((R.dhA (i 0) (i 1) * R.nw (i 1) * FbReal.rr (R.x (i 0)) + R.x (i 0) (i 1) * ((∑ l, R.x (i 0) l * (R.dhA (i 0) l * R.nw l)) * (-2⁻¹ * (FbReal.rr (R.x (i 0)) / FbReal.ms (R.x (i 0)))) / 1024) : ℝ) : EReal) :=
  (val_main_v54_apply _ _ _ _ _ _ _ _ i).trans (add (r_v47 h0 h1 h2 h3 h4 h5 h6 h7 _) (r_v53 h0 h1 h2 h3 h4 h5 h6 h7 _))

theorem r_v55 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v55 (F := Ideal) x0 x1 x2 x3 x4 x5 x6 x7 i : EReal) = (((∑ l, R.x (i 0) l * (R.dhA (i 0) l * R.nw l)) * (-2⁻¹ * (FbReal.rr (R.x (i 0)) / FbReal.ms (R.x (i 0)))) / 1024 * R.x (i 0) (i 1) : ℝ) : EReal) :=
  (val_main_v55_apply _ _ _ _ _ _ _ _ i).trans (mul (r_v52 h0 h1 h2 h3 h4 h5 h6 h7 _) (h0 _))

theorem r_v56 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v56 (F := Ideal) x0 x1 x2 x3 x4 x5 x6 x7 i : EReal) = ((R.dhA (i 0) (i 1) * R.nw (i 1) * FbReal.rr (R.x (i 0)) + R.x (i 0) (i 1) * ((∑ l, R.x (i 0) l * (R.dhA (i 0) l * R.nw l)) * (-2⁻¹ * (FbReal.rr (R.x (i 0)) / FbReal.ms (R.x (i 0)))) / 1024) + (∑ l, R.x (i 0) l * (R.dhA (i 0) l * R.nw l)) * (-2⁻¹ * (FbReal.rr (R.x (i 0)) / FbReal.ms (R.x (i 0)))) / 1024 * R.x (i 0) (i 1) : ℝ) : EReal) :=
  (val_main_v56_apply _ _ _ _ _ _ _ _ i).trans (add (r_v54 h0 h1 h2 h3 h4 h5 h6 h7 _) (r_v55 h0 h1 h2 h3 h4 h5 h6 h7 _))

theorem r_v57 (h0 : ∀ i, (x0 i : EReal) = ((R.x (i 0) (i 1) : ℝ) : EReal)) (h1 : ∀ i, (x1 i : EReal) = ((R.nw (i 1) : ℝ) : EReal)) (h2 : ∀ i, (x2 i : EReal) = ((R.g (i 0) (i 1) : ℝ) : EReal)) (h3 : ∀ i, (x3 i : EReal) = ((R.u (i 0) (i 1) : ℝ) : EReal)) (h4 : ∀ i, (x4 i : EReal) = ((R.wg (i 0) (i 1) : ℝ) : EReal)) (h5 : ∀ i, (x5 i : EReal) = ((R.wu (i 0) (i 1) : ℝ) : EReal)) (h6 : ∀ i, (x6 i : EReal) = ((R.wd (i 0) (i 1) : ℝ) : EReal)) (h7 : ∀ i, (x7 i : EReal) = ((R.dy (i 0) (i 1) : ℝ) : EReal)) (i : S8192x1024.Idx) :
    (val_main_v57 (F := Ideal) x0 x1 x2 x3 x4 x5 x6 x7 i : EReal) = ((R.dxA (i 0) (i 1) : ℝ) : EReal) :=
  (val_main_v57_apply _ _ _ _ _ _ _ _ i).trans ((add (h7 _) (r_v56 h0 h1 h2 h3 h4 h5 h6 h7 _)).trans (congrArg _ ((congrArg _ (add_assoc _ _ _)).trans (FbReal.dx_eq _ _ _ _ _))))

end Cert.Reference3Ideal.Fb
-- ==== Proof.FbPre.lean ====
/- The precondition of the gated unit's backward pass: its facts, and that it makes every entry of every argument a real. -/
module

public import proofs.«01_k».proof.Pre_finite3
public import proofs.«01_k».proof.Proof.FbReal
public import Idealize.ShloMosaic.Lib.ReduceAll
public import Idealize.ShloMosaic.Lib.Decide

@[expose] public section

set_option maxRecDepth 16384

noncomputable section

namespace Cert.Pre_finite3

open Idealize.ShloMosaic

instance facts : Cert.Pre_finite3.Facts where
  bcast_S_S8192x1024 := by decide
  reducesTo_S8192x1024_S_d0_1 := by decide
  h_S_ := by decide
  bcast_S_S1x1024 := by decide
  reducesTo_S1x1024_S_d0_1 := by decide
  bcast_S_S8192x2816 := by decide
  reducesTo_S8192x2816_S_d0_1 := by decide
  bcast_S_S2816x1024 := by decide
  reducesTo_S2816x1024_S_d0_1 := by decide

/-- A conjunction of two bits is one when both are. -/
theorem both_of_andi (a b : BitVec 1) (h : IntOp.andi a b = 1#1) : a = 1#1 ∧ b = 1#1 := by
  revert a b; decide

/-- A conjunction of eight bits is one when each is. -/
theorem each_of_andi (b0 b1 b2 b3 b4 b5 b6 b7 : IVec S_ 1) (j : S_.Idx)
    (h : andi (andi (andi (andi (andi (andi (andi b0 b1) b2) b3) b4) b5) b6) b7 j = 1#1) :
    b0 j = 1#1 ∧ b1 j = 1#1 ∧ b2 j = 1#1 ∧ b3 j = 1#1 ∧ b4 j = 1#1 ∧ b5 j = 1#1 ∧ b6 j = 1#1 ∧ b7 j = 1#1 := by
  obtain ⟨h, h7⟩ := both_of_andi _ _ h
  obtain ⟨h, h6⟩ := both_of_andi _ _ h
  obtain ⟨h, h5⟩ := both_of_andi _ _ h
  obtain ⟨h, h4⟩ := both_of_andi _ _ h
  obtain ⟨h, h3⟩ := both_of_andi _ _ h
  obtain ⟨h, h2⟩ := both_of_andi _ _ h
  obtain ⟨h0, h1⟩ := both_of_andi _ _ h
  exact ⟨h0, h1, h2, h3, h4, h5, h6, h7⟩

/-- An array whose every absolute value is below infinity, which the reduction says, has real entries. -/
theorem real_of_all {s : Shape} {axes : List (Fin s.rank)} {φ : FTy} (a : FVec Ideal s φ) (b : BitVec φ.bits) (hb : Ideal.ofBits φ b = ⊤)
    (bc : S_.BroadcastsInDim s (![] : Fin 0 → Fin s.rank)) (h : s.ReducesTo axes S_) (hu : 0 < S_.numel) (j : S_.Idx)
    (e : Host.reduce IntOp.andi (cmpf .olt (Host.absf a) (broadcastInDim s ![] bc (constant S_ φ b))) (constantI S_ 1 1#1) h hu j = 1#1)
    (i : s.Idx) : ∃ r : ℝ, a i = (r : EReal) := by
  haveI : Subsingleton S_.Idx := ⟨fun x y => funext fun k => k.elim0⟩
  have h1 := Host.reduce_andi_all _ _ h hu j e i
  have h2 : FloatOps.cmpf (F := Ideal) .olt (max (a i) (-(a i)) : EReal) (Ideal.ofBits φ b) = 1#1 := h1
  rw [hb] at h2
  refine Cert.FbReal.exists_real ?_
  by_contra hn
  have h3 : FloatOps.cmpf (F := Ideal) (φ := φ) .olt (max (a i) (-(a i)) : EReal) (⊤ : EReal) = 0#1 := by
    show BitVec.ofBool (decide _) = _
    rw [decide_eq_false hn]; rfl
  rw [h3] at h2
  exact absurd h2 (by decide)

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- What the precondition says. -/
theorem reals {a0 : FVec Ideal S8192x1024 .f32} {a1 : FVec Ideal S1x1024 .f32} {a2 a3 : FVec Ideal S8192x2816 .bf16}
    {a4 a5 a6 : FVec Ideal S2816x1024 .bf16} {a7 : FVec Ideal S8192x1024 .f32}
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have e : fn (F := Ideal) a0 a1 a2 a3 a4 a5 a6 a7 (Shape.Idx.first facts.h_S_) = 1#1 := by rw [h]
  unfold fn fn_part1 fn_part2 at e
  dsimp only at e
  obtain ⟨h0, h1, h7, h2, h3, h4, h5, h6⟩ := each_of_andi _ _ _ _ _ _ _ _ _ e
  clear e h
  exact ⟨fun i => real_of_all a0 _ top_f32 _ _ _ _ h0 i, fun i => real_of_all a1 _ top_f32 _ _ _ _ h1 i,
    fun i => real_of_all a2 _ top_bf16 _ _ _ _ h2 i, fun i => real_of_all a3 _ top_bf16 _ _ _ _ h3 i,
    fun i => real_of_all a4 _ top_bf16 _ _ _ _ h4 i, fun i => real_of_all a5 _ top_bf16 _ _ _ _ h5 i,
    fun i => real_of_all a6 _ top_bf16 _ _ _ _ h6 i, fun i => real_of_all a7 _ top_f32 _ _ _ _ h7 i⟩

end Cert.Pre_finite3
-- ==== Proof.Fb.lean ====
/- The claims of the gated unit's backward pass. -/
module

public import proofs.«01_k».proof.Defs
public import proofs.«01_k».proof.Proof.Gen.Kernel3
public import proofs.«01_k».proof.Proof.Gen.Reference3Ideal.Run
public import proofs.«01_k».proof.Proof.FbAlg
public import proofs.«01_k».proof.Proof.FbRef
public import proofs.«01_k».proof.Proof.FbPre

@[expose] public section

set_option maxRecDepth 16384

noncomputable section

namespace Cert.Proof

open Idealize.ShloMosaic Idealize.ShloMosaic.TcCoe
open Cert.FbReal (Args)

theorem frame_kernel3Ideal : Cert.quiescent_Kernel3Ideal := fun m ρ _ => Cert.Kernel3Ideal.Fb.frame (F := Ideal) m ρ

theorem frame_kernel3Ideal_pre : Cert.quiescent_Kernel3Ideal_pre_finite3 := fun m ρ _ => Cert.Kernel3Ideal.Fb.frame (F := Ideal) m ρ

set_option maxHeartbeats 4000000 in
/-- The word-for-word program and its reading over the reals have the same launches. -/
theorem fb_defs_eq : Cert.Kernel3.defs (F := Bits) = Cert.Kernel3Ideal.defs (F := Bits) := by
  have h : Cert.Kernel3.defs₀ (F := Bits) = Cert.Kernel3Ideal.defs₀ (F := Bits) := by
    unfold Cert.Kernel3.defs₀
    refine congrArg Defs.onTc (funext fun k => ?_)
    match k with
    | 0 => rfl
  unfold Cert.Kernel3.defs
  rw [h]
  rfl

theorem frame_kernel3 : Cert.quiescent_Kernel3 := by
  intro m ρ _
  rw [fb_defs_eq]
  exact Cert.Kernel3Ideal.Fb.frame (F := Bits) m ρ

theorem frame_reference3Ideal : Cert.quiescent_Reference3Ideal := fun m ρ _ =>
  (θ_run Cert.Reference3Ideal.defs _ _).mono (fun r h => ⟨fun c => (h c).2.2.2.2.2.2, Idealize.ShloMosaic.sem_eq_zero_of_no_sems (by decide) r.2⟩) (Cert.Reference3Ideal.Value.run (F := Ideal) m ρ)

theorem frame_reference3Ideal_pre : Cert.quiescent_Reference3Ideal_pre_finite3 := fun m ρ _ => frame_reference3Ideal m ρ trivial

/-- Under the precondition every device's arguments hold reals. -/
theorem holds_of_pre (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) : ∃ R : Args, Cert.Kernel3Ideal.Fb.Holds m c R := by
  obtain ⟨h0, h1, h2, h3, h4, h5, h6, h7⟩ := Cert.Pre_finite3.reals (h c)
  choose r0 e0 using h0
  choose r1 e1 using h1
  choose r2 e2 using h2
  choose r3 e3 using h3
  choose r4 e4 using h4
  choose r5 e5 using h5
  choose r6 e6 using h6
  choose r7 e7 using h7
  refine ⟨⟨fun a b => r0 (ix2 a b), fun b => r1 (ix2 0 b), fun a b => r2 (ix2 a b), fun a b => r3 (ix2 a b), fun a b => r4 (ix2 a b),
    fun a b => r5 (ix2 a b), fun a b => r6 (ix2 a b), fun a b => r7 (ix2 a b)⟩, ⟨fun i => ?_, fun i => ?_, fun i => ?_, fun i => ?_, fun i => ?_, fun i => ?_, fun i => ?_, fun i => ?_⟩⟩
  · exact (e0 i).trans (congrArg (fun j => ((r0 j : ℝ) : EReal)) (eq_ix2 i))
  · have hi : i = ix2 (0 : Fin 1) (i 1) := by
      have h : (i 0).val < 1 := (i 0).isLt
      funext a
      apply Fin.ext
      match a with
      | ⟨0, _⟩ => show (i 0).val = 0; omega
      | ⟨1, _⟩ => rfl
    exact (e1 i).trans (congrArg (fun j => ((r1 j : ℝ) : EReal)) hi)
  · exact (e2 i).trans (congrArg (fun j => ((r2 j : ℝ) : EReal)) (eq_ix2 i))
  · exact (e3 i).trans (congrArg (fun j => ((r3 j : ℝ) : EReal)) (eq_ix2 i))
  · exact (e4 i).trans (congrArg (fun j => ((r4 j : ℝ) : EReal)) (eq_ix2 i))
  · exact (e5 i).trans (congrArg (fun j => ((r5 j : ℝ) : EReal)) (eq_ix2 i))
  · exact (e6 i).trans (congrArg (fun j => ((r6 j : ℝ) : EReal)) (eq_ix2 i))
  · exact (e7 i).trans (congrArg (fun j => ((r7 j : ℝ) : EReal)) (eq_ix2 i))

theorem algebraic3 : Cert.algebraic_Kernel3Ideal_Reference3Ideal_pre_finite3 := by
  intro m g m' g' hp h
  choose R H using holds_of_pre m hp
  refine ⟨fun c => (fun i : Cert.Kernel3Ideal.S8192x1024.Idx => (((R c).dxA (i 0) (i 1) : ℝ) : EReal)),
    fun c => (fun i : Cert.Kernel3Ideal.S1x1024.Idx => (((R c).dnwA (i 1) : ℝ) : EReal)),
    fun c => (fun i : Cert.Kernel3Ideal.S8192x2816.Idx => (((R c).dgA (i 0) (i 1) : ℝ) : EReal)),
    fun c => (fun i : Cert.Kernel3Ideal.S8192x2816.Idx => (((R c).duA (i 0) (i 1) : ℝ) : EReal)),
    fun c => (fun i : Cert.Kernel3Ideal.S8192x2816.Idx => (((R c).actA (i 0) (i 1) : ℝ) : EReal)),
    fun c => (fun i : Cert.Kernel3Ideal.S8192x1024.Idx => (((R c).dyhA (i 0) (i 1) : ℝ) : EReal)), ?_, ?_⟩
  · refine (θ_run Cert.Kernel3Ideal.defs _ _).mono (fun r hr c => ?_) (Cert.Kernel3Ideal.Fb.run_blocks (F := Ideal) m g)
    obtain ⟨k0, k1, k2, k3, k4, k5, k⟩ := hr c
    exact ⟨k0.trans (Cert.Kernel3Ideal.Fb.final8 (H c)), k1.trans (Cert.Kernel3Ideal.Fb.final9 (H c)), k2.trans (Cert.Kernel3Ideal.Fb.final10 (H c)), k3.trans (Cert.Kernel3Ideal.Fb.final11 (H c)), k4.trans (Cert.Kernel3Ideal.Fb.final12 (H c)), k5.trans (Cert.Kernel3Ideal.Fb.final13 (H c)), k⟩
  · refine (θ_run Cert.Reference3Ideal.defs _ _).mono (fun r hr c => ?_) (Cert.Reference3Ideal.Value.run (F := Ideal) m' g')
    obtain ⟨k0, k1, k2, k3, k4, k5, k⟩ := hr c
    obtain ⟨a0, a1, a2, a3, a4, a5, a6, a7⟩ := h c
    obtain ⟨h0, h1, h2, h3, h4, h5, h6, h7⟩ := H c
    refine ⟨k0.trans ?_, k1.trans ?_, k2.trans ?_, k3.trans ?_, k4.trans ?_, k5.trans ?_, k⟩
    · refine (Cert.Reference3Ideal.Read.val_main_v57_eq m' c).trans ?_
      rw [a0, a1, a2, a3, a4, a5, a6, a7]
      funext i
      exact Cert.Reference3Ideal.Fb.r_v57 h0 h1 h2 h3 h4 h5 h6 h7 i
    · refine (Cert.Reference3Ideal.Read.val_main_v40_eq _ _ _ _ _ _ _).trans ?_
      rw [a0, a2, a3, a4, a5, a6, a7]
      funext i
      exact Cert.Reference3Ideal.Fb.r_v40 h0 h2 h3 h4 h5 h6 h7 i
    · refine (Cert.Reference3Ideal.Read.val_main_v14_eq _ _ _ _).trans ?_
      rw [a2, a3, a6, a7]
      funext i
      exact Cert.Reference3Ideal.Fb.r_v14 h2 h3 h6 h7 i
    · refine (Cert.Reference3Ideal.Read.val_main_v15_eq _ _ _).trans ?_
      rw [a2, a6, a7]
      funext i
      exact Cert.Reference3Ideal.Fb.r_v15 h2 h6 h7 i
    · refine (Cert.Reference3Ideal.Read.val_main_v58_eq _ _).trans ?_
      rw [a2, a3]
      funext i
      exact Cert.Reference3Ideal.Fb.r_v58 h2 h3 i
    · refine (Cert.Reference3Ideal.Read.val_main_v2_eq _).trans ?_
      rw [a7]
      funext i
      exact Cert.Reference3Ideal.Fb.r_v2 h7 i

end Cert.Proof

end
-- ==== Proof.FfRuns.lean ====
/- What the runs of the forward call of the feed-forward block share: its blocks, its branch conditions, its staging memrefs. -/
module

public import proofs.«01_k».proof.Proof.Gen.Kernel4Ideal.Skeleton
public import proofs.«01_k».proof.Proof.Gen.Kernel4Ideal.Launch
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Ff

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin cfg0.N, cond0_1 (grid0.coords t) ↔ t.val % 2 = 1 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A output 6 is live: the case stores into it. -/
theorem liveAt0_6_A : ∀ t : Fin cfg0.N, cond0_0 (grid0.coords t) → ¬cond0_1 (grid0.coords t) → cfg0.idle 6 (grid0.coords t) = false := by decide +kernel
/-- At the points of case B output 6 is idle: the case reads it and stores nothing into it. -/
theorem idleAt0_6_B : ∀ t : Fin cfg0.N, ¬cond0_0 (grid0.coords t) → cond0_1 (grid0.coords t) → cfg0.idle 6 (grid0.coords t) = true := by decide +kernel
/-- At the points of case B the pipeline writes output 6's block back. -/
theorem flushAt0_6_B : ∀ t : Fin cfg0.N, ¬cond0_0 (grid0.coords t) → cond0_1 (grid0.coords t) → (cfg0.win 6).flush t = true := by decide +kernel
/-- Window 7 is never idle (an output stored at every point, under no condition). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S512x1024 .f32 := (Memref.whole cc0_stg5_0 : Memref sig .tc .vmem S512x1024 .f32).view
/-- One staging buffer of output window 6, through which its contents are stated (`View.read_writes_of_cover`: the
    choice does not matter). -/
abbrev VO0_6 : View sig .tc .vmem S512x1024 .bf16 := (Memref.whole cc0_stg6_0 : Memref sig .tc .vmem S512x1024 .bf16).view
/-- One staging buffer of output window 7, through which its contents are stated (`View.read_writes_of_cover`: the
    choice does not matter). -/
abbrev VO0_7 : View sig .tc .vmem S512x1408 .bf16 := (Memref.whole cc0_stg7_0 : Memref sig .tc .vmem S512x1408 .bf16).view
/-- One staging buffer of output window 8, through which its contents are stated (`View.read_writes_of_cover`: the
    choice does not matter). -/
abbrev VO0_8 : View sig .tc .vmem S512x1408 .bf16 := (Memref.whole cc0_stg8_0 : Memref sig .tc .vmem S512x1408 .bf16).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1408x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1408x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1408 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x1024 .f32 := Memref.whole cc0_scratch0
/-- The scratch `arg11` the kernel carries between points, as a view: what it holds is stated through it. -/
abbrev VS0_0 : View sig .tc .vmem S512x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel4Ideal.Ff

end
-- ==== Proof.FfRunA.lean ====
/- One run of the body of the forward call of the feed-forward block (case A). -/
module

public import proofs.«01_k».proof.Proof.FfRuns

@[expose] public section

set_option maxRecDepth 16384

noncomputable section

namespace Cert.Kernel4Ideal.Ff

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 2, … 30: 16 of 32), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) :
    Σ' (L5 : List (View.Piece (Elt F) S512x1024 .f32)), Σ' (L6 : List (View.Piece (Elt F) S512x1024 .bf16)), Σ' (L7 : List (View.Piece (Elt F) S512x1408 .bf16)), Σ' (L8 : List (View.Piece (Elt F) S512x1408 .bf16)), { LS0 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_ffn1_fwd i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0_ffn1_fwd_eq_skeleton]; unfold cc0_ffn1_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

end Cert.Kernel4Ideal.Ff

end
-- ==== Proof.FfRunB.lean ====
/- One run of the body of the forward call of the feed-forward block (case B). -/
module

public import proofs.«01_k».proof.Proof.FfRuns

@[expose] public section

set_option maxRecDepth 16384

noncomputable section

namespace Cert.Kernel4Ideal.Ff

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 3, … 31: 16 of 32), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written (6, which it reads and stores nothing into, as it was): the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) :
    Σ' (L5 : List (View.Piece (Elt F) S512x1024 .f32)), Σ' (L7 : List (View.Piece (Elt F) S512x1408 .bf16)), Σ' (L8 : List (View.Piece (Elt F) S512x1408 .bf16)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xo6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_ffn1_fwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn1_fwd_eq_skeleton]; unfold cc0_ffn1_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [H8]; · iexists _; iexact H8
    iexists _; iexact HS0

end Cert.Kernel4Ideal.Ff

end
-- ==== Proof.FfFrame.lean ====
/- What the forward call of the feed-forward block leaves point by point, its body obligation, its run. -/
module

public import proofs.«01_k».proof.Proof.FfRunA
public import proofs.«01_k».proof.Proof.FfRunB
public import Idealize.ShloMosaic.Lib.Claim

@[expose] public section

set_option maxRecDepth 16384

noncomputable section

namespace Cert.Kernel4Ideal.Ff

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) : Vec F S512x1024 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

/-- Case A's pieces for output 6 tile its block (2 stores of `S512x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (y : S512x1024.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.1 S512x1024.size (by sl_kernel_rfl) y

/-- What case A leaves in output 6's staging buffer: its pieces read back over junk. -/
def out0_A_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4).2.1)

/-- Case A's pieces for output 7 tile its block (1 store of `S512x1408`, checked by the kernel's evaluation: Lib/Ring.lean `Piece.tiledL`, linear in the pieces, through a loop's `@[irreducible]` trip theorem too), so they cover it. -/
theorem cover0_A_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (y : S512x1408.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.1 S512x1408.size (by sl_kernel_rfl) y

/-- What case A leaves in output 7's staging buffer: its pieces read back over junk. -/
def out0_A_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) : Vec F S512x1408 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4).2.2.1)

/-- Case A's pieces for output 8 tile its block (1 store of `S512x1408`, checked by the kernel's evaluation: Lib/Ring.lean `Piece.tiledL`, linear in the pieces, through a loop's `@[irreducible]` trip theorem too), so they cover it. -/
theorem cover0_A_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (y : S512x1408.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.2.1 S512x1408.size (by sl_kernel_rfl) y

/-- What case A leaves in output 8's staging buffer: its pieces read back over junk. -/
def out0_A_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) : Vec F S512x1408 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4).2.2.2.1)

/-- Case A's pieces for scratch `arg11`, which the kernel carries between points, cover it: 2 pieces of `S512x1024` tiling it (Lib/Ring.lean `Piece.tiledL`). -/
theorem scover0_A_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (y : S512x1024.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.2.2.1 S512x1024.size (by sl_kernel_rfl) y

/-- What case A leaves in scratch `arg11`: its pieces read back over junk. -/
def sout0_A_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.2.2.2.1)

/-- Case B's pieces for output 5 tile its block (1 store of `S512x1024`, checked by the kernel's evaluation: Lib/Ring.lean `Piece.tiledL`, linear in the pieces, through a loop's `@[irreducible]` trip theorem too), so they cover it. -/
theorem cover0_B_5 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo6 xs0).1 S512x1024.size (by sl_kernel_rfl) y

/-- What case B leaves in output 5's staging buffer: its pieces read back over junk. -/
def out0_B_5 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) : Vec F S512x1024 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xo6 xs0).1)

/-- Case B stores nothing into output 6 and leaves in its staging buffer what was there. -/
def out0_B_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) : Vec F S512x1024 .bf16 :=
  xo6

/-- Case B's pieces for output 7 tile its block (1 store of `S512x1408`, checked by the kernel's evaluation: Lib/Ring.lean `Piece.tiledL`, linear in the pieces, through a loop's `@[irreducible]` trip theorem too), so they cover it. -/
theorem cover0_B_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) (y : S512x1408.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo6 xs0).2.1 S512x1408.size (by sl_kernel_rfl) y

/-- What case B leaves in output 7's staging buffer: its pieces read back over junk. -/
def out0_B_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) : Vec F S512x1408 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 xo6 xs0).2.1)

/-- Case B's pieces for output 8 tile its block (1 store of `S512x1408`, checked by the kernel's evaluation: Lib/Ring.lean `Piece.tiledL`, linear in the pieces, through a loop's `@[irreducible]` trip theorem too), so they cover it. -/
theorem cover0_B_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) (y : S512x1408.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo6 xs0).2.2.1 S512x1408.size (by sl_kernel_rfl) y

/-- What case B leaves in output 8's staging buffer: its pieces read back over junk. -/
def out0_B_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) : Vec F S512x1408 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 xo6 xs0).2.2.1)

/-- Case B's pieces for scratch `arg11`, which the kernel carries between points, cover it: 1 piece of `S512x1024` tiling it (Lib/Ring.lean `Piece.tiledL`). -/
theorem scover0_B_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xo6 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xo6 xs0).2.2.2.1 S512x1024.size (by sl_kernel_rfl) y

/-- What case B leaves in scratch `arg11`: its pieces read back over junk. -/
def sout0_B_0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1x1024 .f32) (x2 : Vec F S1408x1024 .bf16) (x3 : Vec F S1408x1024 .bf16) (x4 : Vec F S1408x1024 .bf16) (xo6 : Vec F S512x1024 .bf16) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 xo6 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x1024 .bf16 × Vec F S512x1408 .bf16 × Vec F S512x1408 .bf16 × Vec F S512x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by have hN : n + 1 < 32 := lt_of_lt_of_eq hn (show cfg0.N = 32 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 2 = 0) (h1 : t.val % 2 = 1) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 2 = 0) (h1 : t.val % 2 = 1) (d) :
    (dats m 0 c).before 6 t d = (outsAt0 m c (t.val - 1) (Nat.lt_of_le_of_lt (Nat.sub_le _ _) t.isLt)).2.1 := by
  have hN : t.val < 32 := lt_of_lt_of_eq t.isLt (show cfg0.N = 32 from N_0)
  have hfl : (cfg0.win 6).flush ⟨t.val - 1, Nat.lt_of_le_of_lt (Nat.sub_le _ _) t.isLt⟩ = false :=
    Bool.eq_false_iff.mpr fun h => by have := (flush0_6 _).mp h; dsimp only at this; omega
  have hlive : cfg0.idle 6 (cfg0.grid.coords ⟨t.val - 1, Nat.lt_of_le_of_lt (Nat.sub_le _ _) t.isLt⟩) = false :=
    liveAt0_6_A ⟨t.val - 1, Nat.lt_of_le_of_lt (Nat.sub_le _ _) t.isLt⟩ ((hcond0_0 _).mpr (by dsimp only; omega))
      (fun h => by have := (hcond0_1 _).mp h; dsimp only at this; omega)
  have hk : (dats m 0 c).before 6 t d = (dats m 0 c).kept 6 ⟨t.val - 1, Nat.lt_of_le_of_lt (Nat.sub_le _ _) t.isLt⟩ d := by
    rw [Dat.before_of_pos _ 6 t (by omega) ((cfg0.win 6).fetch_out rfl t), hfl, if_neg Bool.false_ne_true]
    unfold Dat.left; rw [hlive]
  rw [hk]
  unfold Dat.kept
  rw [Pipeline.fill_of_clip_none 6 _ (fun _ => rfl) d ((dats m 0 c).after 6 _), Window.fill_cut]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · rw [PhiS_castSucc m c t, PhiS_zero m c _ _ hz, PhiA0_eq]
        rw [outsAt0_A m c t h0 h1]
        unfold out0_A_6 out0_A_7 out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        iintro ⟨H0, H1, H2, H3, H4, H5, ⟨%e6, H6⟩, ⟨%e7, H7⟩, ⟨%e8, H8⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _)
        unfold owns; iexists _; isplitr
        swap; · iexact H8
        ipureintro; exact View.read_writes_of_cover _ _ _ _ _ (cover0_A_8 c _ _ _ _ _ _ _ _ _ _ _ _ _ _ _ _ _ _ _ _ _ _ _ _ _ _ _ _)
      · rw [PhiS_castSucc m c t, PhiS_pos m c _ _ hz]
        rw [outsAt0_A m c t h0 h1]
        unfold out0_A_6 out0_A_7 out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexists _; iexact HS0
        iintro ⟨H0, H1, H2, H3, H4, H5, ⟨%e6, H6⟩, ⟨%e7, H7⟩, ⟨%e8, H8⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _)
        unfold owns; iexists _; isplitr
        swap; · iexact H8
        ipureintro; exact View.read_writes_of_cover _ _ _ _ _ (cover0_A_8 c _ _ _ _ _ _ _ _ _ _ _ _ _ _ _ _ _ _ _ _ _ _ _ _ _ _ _ _)
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [idleAt0_6_B t (fun h => h0 ((hcond0_0 t).mp h)) ((hcond0_1 t).mpr h1), flushAt0_6_B t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_6_B m c t h0 h1]
        unfold out0_B_5 out0_B_6 out0_B_7 out0_B_8 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [H8]; · iexists _; iexact H8
        isplitl [HS0]; · iexact HS0
        iintro ⟨H0, H1, H2, H3, H4, ⟨%e5, H5⟩, H6, ⟨%e7, H7⟩, ⟨%e8, H8⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _)
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _)
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.Ff

end
-- ==== Proof.FfValue.lean ====
/- The arrays of the gated unit's forward pass after the run. -/
module

public import proofs.«01_k».proof.Proof.FfFrame
public import Idealize.ShloMosaic.Lib.Pipeline.Value

@[expose] public section

set_option maxRecDepth 16384

noncomputable section

namespace Cert.Kernel4Ideal.Ff

open Cert.Kernel4Ideal Cert.Kernel4Ideal.Gen
open Idealize.ShloMosaic Idealize.ShloMosaic.TcCoe Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- What point `t` writes back to output 5. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- What point `t` writes back to output 6. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- What point `t` writes back to output 7. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- What point `t` writes back to output 8. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- The run leaves in each output array what the points wrote back, and leaves the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      (h c).1 6,
      (h c).1 7,
      (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kernel4Ideal.Ff

end
-- ==== Proof.FfSpec.lean ====
/- The gated unit's forward pass as functions of the extended reals. -/
module

public import Idealize.ShloMosaic.Lib.Pointwise
public import Idealize.ShloMosaic.Lib.ValueIdx
public import Idealize.ShloMosaic.Lib.Pointwise.Sums
public import Idealize.ShloMosaic.Lib.IdealHost

@[expose] public section

noncomputable section

namespace Cert.FfSpec

open Idealize.ShloMosaic
open scoped BigOperators

/-- The reciprocal of a row's root mean square. -/
def rr (x : Fin 1024 → EReal) : EReal :=
  Ideal.rsqrt (Ideal.div (∑ k, x k * x k) (Ideal.ofBits .f32 0x44800000#32) + Ideal.ofBits .f32 0x358637BD#32)

/-- A row normalised and weighted. -/
def hn (x nw : Fin 1024 → EReal) (k : Fin 1024) : EReal := x k * rr x * nw k

/-- The product of a row with a row of a matrix. -/
def pr (h w : Fin 1024 → EReal) : EReal := ∑ k, h k * w k

/-- The gated activation. -/
def act (g u : EReal) : EReal := g * Ideal.div 1 (1 + Ideal.exp (-g)) * u

/-- The residual sum. -/
def yy (x a : EReal) : EReal := x + Ideal.ofBits .f32 0x3F000000#32 * a

/-- The argument arrays. -/
structure Args where
  x : Fin 8192 → Fin 1024 → EReal
  nw : Fin 1024 → EReal
  wg : Fin 2816 → Fin 1024 → EReal
  wu : Fin 2816 → Fin 1024 → EReal
  wd : Fin 2816 → Fin 1024 → EReal

namespace Args
variable (R : Args)

def hA (n : Fin 8192) (k : Fin 1024) : EReal := hn (R.x n) R.nw k
def gA (n : Fin 8192) (f : Fin 2816) : EReal := pr (R.hA n) (R.wg f)
def uA (n : Fin 8192) (f : Fin 2816) : EReal := pr (R.hA n) (R.wu f)
def aA (n : Fin 8192) (f : Fin 2816) : EReal := act (R.gA n f) (R.uA n f)
def sA (n : Fin 8192) (k : Fin 1024) : EReal := ∑ f, R.aA n f * R.wd f k
def yA (n : Fin 8192) (k : Fin 1024) : EReal := yy (R.x n k) (R.sA n k)

/-- Row `f` of half `j` of the matrices. -/
def half (j : Fin 2) (f : Fin 1408) : Fin 2816 := ⟨j.val * 1408 + f.val, by omega⟩

/-- The last product, one half after the other. -/
theorem sA_halves (n : Fin 8192) (k : Fin 1024) :
    R.sA n k = (∑ f, R.aA n (half 0 f) * R.wd (half 0 f) k) + ∑ f, R.aA n (half 1 f) * R.wd (half 1 f) k := by
  unfold sA
  rw [Fin.sum_univ_add (a := 1408) (b := 1408) (fun f : Fin 2816 => R.aA n f * R.wd f k)]
  refine congrArg₂ (fun a b : EReal => a + b) (Finset.sum_congr rfl fun f _ => ?_) (Finset.sum_congr rfl fun f _ => ?_)
  · have e : (Fin.castAdd 1408 f : Fin 2816) = half 0 f := Fin.ext (by show f.val = 0 * 1408 + f.val; omega)
    rw [e]
  · have e : (Fin.natAdd 1408 f : Fin 2816) = half 1 f := Fin.ext (by show 1408 + f.val = 1 * 1408 + f.val; omega)
    rw [e]

end Args

end Cert.FfSpec

end
-- ==== Proof.FfPay.lean ====
/- What one grid point of the gated unit's forward pass computes, at an index. -/
module

public import proofs.«01_k».proof.Proof.Gen.Kernel4Ideal.Skeleton
public import proofs.«01_k».proof.Proof.FfSpec

@[expose] public section

set_option maxRecDepth 16384

noncomputable section

namespace Cert.Kernel4Ideal.Ff

open Cert.Kernel4Ideal Cert.Kernel4Ideal.Gen
open Idealize.ShloMosaic Idealize.ShloMosaic.TcCoe
open scoped BigOperators

variable {X A : Fin 512 → Fin 1024 → EReal} {H : Fin 512 → Fin 1024 → EReal} {WD WG WU : Fin 1408 → Fin 1024 → EReal} {NW : Fin 1024 → EReal}
variable {x acc : Vec Ideal S512x1024 .f32} {h : Vec Ideal S512x1024 .bf16} {wd wg wu : Vec Ideal S1408x1024 .bf16} {nw : Vec Ideal S1x1024 .f32}

/-- A column broadcast along the rows, at an index. -/
theorem bcCol (v : FVec Ideal S512x1 .f32) (h) (p : Fin 512) (k : Fin 1024) :
    broadcastTo S512x1024 v h (ix2 p k) = v (ix2 p 0) := by
  refine congrArg v (funext fun a => ?_)
  match a with
  | ⟨0, _⟩ => rfl
  | ⟨1, _⟩ => rfl

/-- A row broadcast along the columns, at an index. -/
theorem bcRow (v : FVec Ideal S1x1024 .f32) (h) (p : Fin 512) (k : Fin 1024) :
    broadcastTo S512x1024 v h (ix2 p k) = v (ix2 0 k) := by
  refine congrArg v (funext fun a => ?_)
  match a with
  | ⟨0, _⟩ => rfl
  | ⟨1, _⟩ => rfl

theorem pay1_val (hx : ∀ p k, x (ix2 p k) = X p k) (ha : ∀ p k, acc (ix2 p k) = A p k) (p : Fin 512) (k : Fin 1024) :
    k0_pay1 x acc (ix2 p k) = FfSpec.yy (X p k) (A p k) := by
  unfold k0_pay1
  simp only [pointwise]
  rw [hx, ha]
  rfl

theorem pay2_val (hx : ∀ p k, x (ix2 p k) = X p k) (hw : ∀ k, nw (ix2 0 k) = NW k) (p : Fin 512) (k : Fin 1024) :
    k0_pay2 x nw (ix2 p k) = FfSpec.hn (X p) NW k := by
  unfold k0_pay2
  simp only [↓bcCol, ↓bcRow, pointwise]
  simp only [hx, hw]
  rfl

theorem pay3_val (p : Fin 512) (k : Fin 1024) : k0_pay3 (F := Ideal) (ix2 p k) = (0 : EReal) := by
  unfold k0_pay3
  simp only [pointwise]

theorem pay5_val (hh : ∀ p k, h (ix2 p k) = H p k) (hg : ∀ f k, wg (ix2 f k) = WG f k) (p : Fin 512) (f : Fin 1408) :
    k0_pay5 h wg (ix2 p f) = FfSpec.pr (H p) (WG f) := by
  unfold k0_pay5 k0_pay4
  simp only [pointwise]
  simp only [hh, hg, zero_add]
  rfl

theorem pay6_val (hh : ∀ p k, h (ix2 p k) = H p k) (hg : ∀ f k, wg (ix2 f k) = WG f k) (p : Fin 512) (f : Fin 1408) :
    k0_pay6 h wg (ix2 p f) = FfSpec.pr (H p) (WG f) := by
  unfold k0_pay6 k0_pay4
  simp only [pointwise]
  simp only [hh, hg, zero_add]
  rfl

theorem pay7_val (hh : ∀ p k, h (ix2 p k) = H p k) (hg : ∀ f k, wg (ix2 f k) = WG f k) (p : Fin 512) (f : Fin 1408) :
    k0_pay7 h wg (ix2 p f) = FfSpec.pr (H p) (WG f) := by
  unfold k0_pay7
  simp only [pointwise]
  exact pay5_val hh hg p f

theorem pay8_val (hh : ∀ p k, h (ix2 p k) = H p k) (hg : ∀ f k, wg (ix2 f k) = WG f k) (p : Fin 512) (f : Fin 1408) :
    k0_pay8 h wg (ix2 p f) = FfSpec.pr (H p) (WG f) := by
  unfold k0_pay8
  simp only [pointwise]
  exact pay6_val hh hg p f

theorem pay9_val (hh : ∀ p k, h (ix2 p k) = H p k) (hg : ∀ f k, wg (ix2 f k) = WG f k) (hu : ∀ f k, wu (ix2 f k) = WU f k)
    (ha : ∀ p k, acc (ix2 p k) = A p k) (hd : ∀ f k, wd (ix2 f k) = WD f k) (p : Fin 512) (k : Fin 1024) :
    k0_pay9 h wg wu acc wd (ix2 p k) = A p k + ∑ f, FfSpec.act (FfSpec.pr (H p) (WG f)) (FfSpec.pr (H p) (WU f)) * WD f k := by
  unfold k0_pay9
  simp only [pointwise]
  simp only [pay5_val hh hg, pay6_val hh hu, ha, hd, zero_add, zero_sub]
  rfl

end Cert.Kernel4Ideal.Ff

end
-- ==== Proof.FfOut.lean ====
/- What a grid point of the gated unit's forward pass leaves in each output block. -/
module

public import proofs.«01_k».proof.Proof.FfValue
public import proofs.«01_k».proof.Proof.FfPay
public import Idealize.ShloMosaic.Lib.VecWindow

@[expose] public section

set_option maxRecDepth 16384

noncomputable section

namespace Cert.Kernel4Ideal.Ff

open Cert.Kernel4Ideal Cert.Kernel4Ideal.Gen
open Idealize.ShloMosaic Idealize.ShloMosaic.TcCoe Idealize.ShloMosaic.Tactic
open Idealize.ShloMosaic.Pipeline (Dat Cfg Window BodyObligation cellOf)
open scoped BigOperators

/-- The rectangle of the whole block keeps every index. -/
theorem emb_whole {n0 n1 : ℕ} (h) (x : (⟨2, ![n0, n1]⟩ : Shape).Idx) :
    (Rect.unit (s := ⟨2, ![n0, n1]⟩) ![0, 0] ![n0, n1] h).emb x = x := by
  funext a
  apply Fin.ext
  match a with
  | ⟨0, _⟩ => show 0 + 1 * (x 0).val = (x 0).val; omega
  | ⟨1, _⟩ => show 0 + 1 * (x 1).val = (x 1).val; omega

/-- A whole block loaded is the block. -/
theorem ld_whole {n0 n1 : ℕ} {e : EltTy} (v : Vec Ideal ⟨2, ![n0, n1]⟩ e) (h) :
    View.ld v (Rect.unit (s := ⟨2, ![n0, n1]⟩) ![0, 0] ![n0, n1] h) = v := by
  funext x
  exact congrArg v (emb_whole h x)

/-- Output 6 in case A: the normalised rows. -/
theorem out_A_6 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec Ideal S512x1024 .f32) (x1 : Vec Ideal S1x1024 .f32) (x2 : Vec Ideal S1408x1024 .bf16) (x3 : Vec Ideal S1408x1024 .bf16) (x4 : Vec Ideal S1408x1024 .bf16) :
    out0_A_6 c i arg2 harg2 arg3 harg3 arg4 harg4 arg5 harg5 arg6 harg6 arg7 harg7 arg8 harg8 arg9 harg9 arg10 harg10 arg11 harg11 hc0 hc1 x0 x1 x2 x3 x4 = k0_pay2 x0 x1 := by
  unfold out0_A_6
  unfold kernelRun0_A
  dsimp only
  unfold kernelRun0_A.sl.H6_1
  rw [View.read_writes_full]
  simp only [kernelRun0_A.sl.v3, kernelRun0_A.sl.v22, kernelRun0_A.sl.H6_1, kernelRun0_A.sl.HS0_1, View.readCov_cons_toLoadRect, View.readAt_eq_ld, Memref.IsWhole.read_unread, ld_whole]

/-- Output 7 in case A: the gate. -/
theorem out_A_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec Ideal S512x1024 .f32) (x1 : Vec Ideal S1x1024 .f32) (x2 : Vec Ideal S1408x1024 .bf16) (x3 : Vec Ideal S1408x1024 .bf16) (x4 : Vec Ideal S1408x1024 .bf16) :
    out0_A_7 c i arg2 harg2 arg3 harg3 arg4 harg4 arg5 harg5 arg6 harg6 arg7 harg7 arg8 harg8 arg9 harg9 arg10 harg10 arg11 harg11 hc0 hc1 x0 x1 x2 x3 x4 = k0_pay7 (k0_pay2 x0 x1) x2 := by
  unfold out0_A_7
  unfold kernelRun0_A
  dsimp only
  rw [View.read_writes_full]
  simp only [kernelRun0_A.sl.v3, kernelRun0_A.sl.v22, kernelRun0_A.sl.H6_1, kernelRun0_A.sl.HS0_1, View.readCov_cons_toLoadRect, View.readAt_eq_ld, Memref.IsWhole.read_unread, ld_whole]

/-- Output 8 in case A: the other factor. -/
theorem out_A_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec Ideal S512x1024 .f32) (x1 : Vec Ideal S1x1024 .f32) (x2 : Vec Ideal S1408x1024 .bf16) (x3 : Vec Ideal S1408x1024 .bf16) (x4 : Vec Ideal S1408x1024 .bf16) :
    out0_A_8 c i arg2 harg2 arg3 harg3 arg4 harg4 arg5 harg5 arg6 harg6 arg7 harg7 arg8 harg8 arg9 harg9 arg10 harg10 arg11 harg11 hc0 hc1 x0 x1 x2 x3 x4 = k0_pay8 (k0_pay2 x0 x1) x3 := by
  unfold out0_A_8
  unfold kernelRun0_A
  dsimp only
  rw [View.read_writes_full]
  simp only [kernelRun0_A.sl.v3, kernelRun0_A.sl.v22, kernelRun0_A.sl.H6_1, kernelRun0_A.sl.HS0_1, View.readCov_cons_toLoadRect, View.readAt_eq_ld, Memref.IsWhole.read_unread, ld_whole]

/-- The scratch in case A: the sum so far. -/
theorem out_A_s0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : cond0_0 i) (hc1 : ¬cond0_1 i)
    (x0 : Vec Ideal S512x1024 .f32) (x1 : Vec Ideal S1x1024 .f32) (x2 : Vec Ideal S1408x1024 .bf16) (x3 : Vec Ideal S1408x1024 .bf16) (x4 : Vec Ideal S1408x1024 .bf16) :
    sout0_A_0 c i arg2 harg2 arg3 harg3 arg4 harg4 arg5 harg5 arg6 harg6 arg7 harg7 arg8 harg8 arg9 harg9 arg10 harg10 arg11 harg11 hc0 hc1 x0 x1 x2 x3 x4 = k0_pay9 (k0_pay2 x0 x1) x2 x3 (k0_pay3 (F := Ideal)) x4 := by
  unfold sout0_A_0
  unfold kernelRun0_A
  dsimp only
  rw [View.read_writes_full]
  simp only [kernelRun0_A.sl.v3, kernelRun0_A.sl.v22, kernelRun0_A.sl.H6_1, kernelRun0_A.sl.HS0_1, View.readCov_cons_toLoadRect, View.readAt_eq_ld, Memref.IsWhole.read_unread, ld_whole]

/-- Output 5 in case B: the rows that the block returns. -/
theorem out_B_5 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec Ideal S512x1024 .f32) (x1 : Vec Ideal S1x1024 .f32) (x2 : Vec Ideal S1408x1024 .bf16) (x3 : Vec Ideal S1408x1024 .bf16) (x4 : Vec Ideal S1408x1024 .bf16) (xo6 : Vec Ideal S512x1024 .bf16) (xs0 : Vec Ideal S512x1024 .f32) :
    out0_B_5 c i arg2 harg2 arg3 harg3 arg4 harg4 arg5 harg5 arg6 harg6 arg7 harg7 arg8 harg8 arg9 harg9 arg10 harg10 arg11 harg11 hc0 hc1 x0 x1 x2 x3 x4 xo6 xs0 = k0_pay1 x0 (k0_pay9 xo6 x2 x3 xs0 x4) := by
  unfold out0_B_5
  unfold kernelRun0_B
  dsimp only
  rw [View.read_writes_full]
  simp only [kernelRun0_B.sl.v34, kernelRun0_B.sl.HS0_1, View.readCov_cons_toLoadRect, View.readAt_eq_ld, Memref.IsWhole.read_unread, ld_whole]

/-- Output 7 in case B: the gate. -/
theorem out_B_7 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec Ideal S512x1024 .f32) (x1 : Vec Ideal S1x1024 .f32) (x2 : Vec Ideal S1408x1024 .bf16) (x3 : Vec Ideal S1408x1024 .bf16) (x4 : Vec Ideal S1408x1024 .bf16) (xo6 : Vec Ideal S512x1024 .bf16) (xs0 : Vec Ideal S512x1024 .f32) :
    out0_B_7 c i arg2 harg2 arg3 harg3 arg4 harg4 arg5 harg5 arg6 harg6 arg7 harg7 arg8 harg8 arg9 harg9 arg10 harg10 arg11 harg11 hc0 hc1 x0 x1 x2 x3 x4 xo6 xs0 = k0_pay7 xo6 x2 := by
  unfold out0_B_7
  unfold kernelRun0_B
  dsimp only
  rw [View.read_writes_full]
  simp only [kernelRun0_B.sl.v34, kernelRun0_B.sl.HS0_1, View.readCov_cons_toLoadRect, View.readAt_eq_ld, Memref.IsWhole.read_unread, ld_whole]

/-- Output 8 in case B: the other factor. -/
theorem out_B_8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole) (hc0 : ¬cond0_0 i) (hc1 : cond0_1 i)
    (x0 : Vec Ideal S512x1024 .f32) (x1 : Vec Ideal S1x1024 .f32) (x2 : Vec Ideal S1408x1024 .bf16) (x3 : Vec Ideal S1408x1024 .bf16) (x4 : Vec Ideal S1408x1024 .bf16) (xo6 : Vec Ideal S512x1024 .bf16) (xs0 : Vec Ideal S512x1024 .f32) :
    out0_B_8 c i arg2 harg2 arg3 harg3 arg4 harg4 arg5 harg5 arg6 harg6 arg7 harg7 arg8 harg8 arg9 harg9 arg10 harg10 arg11 harg11 hc0 hc1 x0 x1 x2 x3 x4 xo6 xs0 = k0_pay8 xo6 x3 := by
  unfold out0_B_8
  unfold kernelRun0_B
  dsimp only
  rw [View.read_writes_full]
  simp only [kernelRun0_B.sl.v34, kernelRun0_B.sl.HS0_1, View.readCov_cons_toLoadRect, View.readAt_eq_ld, Memref.IsWhole.read_unread, ld_whole]

end Cert.Kernel4Ideal.Ff

end
-- ==== Proof.FfAlg.lean ====
/- The gated unit's forward pass: the arrays the kernel leaves. -/
module

public import proofs.«01_k».proof.Proof.FfOut

@[expose] public section

set_option maxRecDepth 16384

noncomputable section

namespace Cert.Kernel4Ideal.Ff

open Cert.Kernel4Ideal Cert.Kernel4Ideal.Gen
open Idealize.ShloMosaic Idealize.ShloMosaic.TcCoe Idealize.ShloMosaic.Tactic
open Idealize.ShloMosaic.Pipeline (Dat Cfg Window BodyObligation cellOf)
open Cert.FfSpec (Args)
open scoped BigOperators

variable (m : (ℓ : Loc nD τ sig) → Buf (Elt Ideal) ℓ)

def arr0 (c : Dev nD) : S8192x1024.Idx → EReal := m ((c : Thread nD τ).loc main_arg0)
def arr1 (c : Dev nD) : S1x1024.Idx → EReal := m ((c : Thread nD τ).loc main_arg1)
def arr2 (c : Dev nD) : S2816x1024.Idx → EReal := m ((c : Thread nD τ).loc main_arg2)
def arr3 (c : Dev nD) : S2816x1024.Idx → EReal := m ((c : Thread nD τ).loc main_arg3)
def arr4 (c : Dev nD) : S2816x1024.Idx → EReal := m ((c : Thread nD τ).loc main_arg4)

/-- The argument arrays of device `c`. -/
structure Holds (c : Dev nD) (R : Args) : Prop where
  h0 : ∀ i, arr0 m c i = R.x (i 0) (i 1)
  h1 : ∀ i, arr1 m c i = R.nw (i 1)
  h2 : ∀ i, arr2 m c i = R.wg (i 0) (i 1)
  h3 : ∀ i, arr3 m c i = R.wu (i 0) (i 1)
  h4 : ∀ i, arr4 m c i = R.wd (i 0) (i 1)

theorem holds (c : Dev nD) : Holds m c ⟨fun a b => arr0 m c (ix2 a b), fun b => arr1 m c (ix2 0 b), fun a b => arr2 m c (ix2 a b),
    fun a b => arr3 m c (ix2 a b), fun a b => arr4 m c (ix2 a b)⟩ where
  h0 i := congrArg (arr0 m c) (eq_ix2 i)
  h1 i := congrArg (arr1 m c) (by
    have h : (i 0).val < 1 := (i 0).isLt
    funext a
    apply Fin.ext
    match a with
    | ⟨0, _⟩ => show (i 0).val = 0; omega
    | ⟨1, _⟩ => rfl)
  h2 i := congrArg (arr2 m c) (eq_ix2 i)
  h3 i := congrArg (arr3 m c) (eq_ix2 i)
  h4 i := congrArg (arr4 m c) (eq_ix2 i)

theorem lt_N (t : Fin cfg0.N) : t.val < 32 := lt_of_lt_of_eq t.isLt N_0

/-- Row `p` of the rows of point `t`. -/
def row (t : Fin cfg0.N) (p : Fin 512) : Fin 8192 := ⟨t.val / 2 * 512 + p.val, by have := lt_N t; omega⟩

/-- Row `f` of the matrices' half at point `t`. -/
def col (t : Fin cfg0.N) (f : Fin 1408) : Fin 2816 := Args.half ⟨t.val % 2, by omega⟩ f

theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val % 2 ∧ win0_2.index t (1 : Fin 2) = 0 :=
  (by decide +kernel : ∀ t : Fin grid0.N, _)
theorem index3 : ∀ t : Fin cfg0.N, win0_3.index t (0 : Fin 2) = t.val % 2 ∧ win0_3.index t (1 : Fin 2) = 0 :=
  (by decide +kernel : ∀ t : Fin grid0.N, _)
theorem index4 : ∀ t : Fin cfg0.N, win0_4.index t (0 : Fin 2) = t.val % 2 ∧ win0_4.index t (1 : Fin 2) = 0 :=
  (by decide +kernel : ∀ t : Fin grid0.N, _)
theorem index5 : ∀ t : Fin cfg0.N, win0_5.index t (0 : Fin 2) = t.val / 2 ∧ win0_5.index t (1 : Fin 2) = 0 :=
  (by decide +kernel : ∀ t : Fin grid0.N, _)
theorem index6 : ∀ t : Fin cfg0.N, win0_6.index t (0 : Fin 2) = t.val / 2 ∧ win0_6.index t (1 : Fin 2) = 0 :=
  (by decide +kernel : ∀ t : Fin grid0.N, _)
theorem index7 : ∀ t : Fin cfg0.N, win0_7.index t (0 : Fin 2) = t.val / 2 ∧ win0_7.index t (1 : Fin 2) = t.val % 2 :=
  (by decide +kernel : ∀ t : Fin grid0.N, _)
theorem index8 : ∀ t : Fin cfg0.N, win0_8.index t (0 : Fin 2) = t.val / 2 ∧ win0_8.index t (1 : Fin 2) = t.val % 2 :=
  (by decide +kernel : ∀ t : Fin grid0.N, _)
theorem flush5 : ∀ t : Fin cfg0.N, (cfg0.win 5).flush t = true ↔ t.val % 2 = 1 :=
  (by decide +kernel : ∀ t : Fin grid0.N, _)
theorem flush6 : ∀ t : Fin cfg0.N, (cfg0.win 6).flush t = true ↔ t.val % 2 = 1 :=
  (by decide +kernel : ∀ t : Fin grid0.N, _)
theorem flush7 : ∀ t : Fin cfg0.N, (cfg0.win 7).flush t = true :=
  (by decide +kernel : ∀ t : Fin grid0.N, _)
theorem flush8 : ∀ t : Fin cfg0.N, (cfg0.win 8).flush t = true :=
  (by decide +kernel : ∀ t : Fin grid0.N, _)

variable {m} {c : Dev nD} {R : Args} (H : Holds m c R) (t : Fin cfg0.N)
include H

theorem iblk0_val (p : Fin 512) (k : Fin 1024) :
    (iblk m c 0 t : S512x1024.Idx → EReal) (ix2 p k) = R.x (row t p) k := by
  obtain ⟨e0, e1⟩ := index0 t
  refine Eq.trans ?_ (H.h0 (ix2 (row t p) k))
  show arr0 m c (((cfg0.win 0).blk t).view.emb (ix2 p k)) = _
  refine congrArg _ (funext fun b => ?_)
  match b with
  | ⟨0, _⟩ =>
    apply Fin.ext
    show win0_0.index t (0 : Fin 2) * 512 + 1 * p.val = t.val / 2 * 512 + p.val
    rw [e0, Nat.one_mul]
  | ⟨1, _⟩ =>
    apply Fin.ext
    show win0_0.index t (1 : Fin 2) * 1024 + 1 * k.val = k.val
    rw [e1, Nat.one_mul, Nat.zero_mul, Nat.zero_add]

theorem iblk1_val (k : Fin 1024) :
    (iblk m c 1 t : S1x1024.Idx → EReal) (ix2 0 k) = R.nw k := by
  obtain ⟨e0, e1⟩ := index1 t
  refine Eq.trans ?_ (H.h1 (ix2 0 k))
  show arr1 m c (((cfg0.win 1).blk t).view.emb (ix2 (0 : Fin 1) k)) = _
  refine congrArg _ (funext fun b => ?_)
  match b with
  | ⟨0, _⟩ =>
    apply Fin.ext
    show win0_1.index t (0 : Fin 2) * 1 + 1 * 0 = 0
    rw [e0]
  | ⟨1, _⟩ =>
    apply Fin.ext
    show win0_1.index t (1 : Fin 2) * 1024 + 1 * k.val = k.val
    rw [e1, Nat.one_mul, Nat.zero_mul, Nat.zero_add]

theorem iblk2_val (p : Fin 1408) (k : Fin 1024) :
    (iblk m c 2 t : S1408x1024.Idx → EReal) (ix2 p k) = R.wg (col t p) k := by
  obtain ⟨e0, e1⟩ := index2 t
  refine Eq.trans ?_ (H.h2 (ix2 (col t p) k))
  show arr2 m c (((cfg0.win 2).blk t).view.emb (ix2 p k)) = _
  refine congrArg _ (funext fun b => ?_)
  match b with
  | ⟨0, _⟩ =>
    apply Fin.ext
    show win0_2.index t (0 : Fin 2) * 1408 + 1 * p.val = t.val % 2 * 1408 + p.val
    rw [e0, Nat.one_mul]
  | ⟨1, _⟩ =>
    apply Fin.ext
    show win0_2.index t (1 : Fin 2) * 1024 + 1 * k.val = k.val
    rw [e1, Nat.one_mul, Nat.zero_mul, Nat.zero_add]

theorem iblk3_val (p : Fin 1408) (k : Fin 1024) :
    (iblk m c 3 t : S1408x1024.Idx → EReal) (ix2 p k) = R.wu (col t p) k := by
  obtain ⟨e0, e1⟩ := index3 t
  refine Eq.trans ?_ (H.h3 (ix2 (col t p) k))
  show arr3 m c (((cfg0.win 3).blk t).view.emb (ix2 p k)) = _
  refine congrArg _ (funext fun b => ?_)
  match b with
  | ⟨0, _⟩ =>
    apply Fin.ext
    show win0_3.index t (0 : Fin 2) * 1408 + 1 * p.val = t.val % 2 * 1408 + p.val
    rw [e0, Nat.one_mul]
  | ⟨1, _⟩ =>
    apply Fin.ext
    show win0_3.index t (1 : Fin 2) * 1024 + 1 * k.val = k.val
    rw [e1, Nat.one_mul, Nat.zero_mul, Nat.zero_add]

theorem iblk4_val (p : Fin 1408) (k : Fin 1024) :
    (iblk m c 4 t : S1408x1024.Idx → EReal) (ix2 p k) = R.wd (col t p) k := by
  obtain ⟨e0, e1⟩ := index4 t
  refine Eq.trans ?_ (H.h4 (ix2 (col t p) k))
  show arr4 m c (((cfg0.win 4).blk t).view.emb (ix2 p k)) = _
  refine congrArg _ (funext fun b => ?_)
  match b with
  | ⟨0, _⟩ =>
    apply Fin.ext
    show win0_4.index t (0 : Fin 2) * 1408 + 1 * p.val = t.val % 2 * 1408 + p.val
    rw [e0, Nat.one_mul]
  | ⟨1, _⟩ =>
    apply Fin.ext
    show win0_4.index t (1 : Fin 2) * 1024 + 1 * k.val = k.val
    rw [e1, Nat.one_mul, Nat.zero_mul, Nat.zero_add]

omit H

theorem outs6_A (h : t.val % 2 = 0) : (outsAt0 m c t.val t.isLt).2.1 = k0_pay2 (iblk m c 0 t) (iblk m c 1 t) := by
  rw [outsAt0_A m c t (by omega) (by omega)]
  dsimp only
  rw [out_A_6]

theorem outs7_A (h : t.val % 2 = 0) : (outsAt0 m c t.val t.isLt).2.2.1 = k0_pay7 (k0_pay2 (iblk m c 0 t) (iblk m c 1 t)) (iblk m c 2 t) := by
  rw [outsAt0_A m c t (by omega) (by omega)]
  dsimp only
  rw [out_A_7]

theorem outs8_A (h : t.val % 2 = 0) : (outsAt0 m c t.val t.isLt).2.2.2.1 = k0_pay8 (k0_pay2 (iblk m c 0 t) (iblk m c 1 t)) (iblk m c 3 t) := by
  rw [outsAt0_A m c t (by omega) (by omega)]
  dsimp only
  rw [out_A_8]

theorem acc_A (h : t.val % 2 = 0) : (outsAt0 m c t.val t.isLt).2.2.2.2 = k0_pay9 (k0_pay2 (iblk m c 0 t) (iblk m c 1 t)) (iblk m c 2 t) (iblk m c 3 t) (k0_pay3 (F := Ideal)) (iblk m c 4 t) := by
  rw [outsAt0_A m c t (by omega) (by omega)]
  dsimp only
  rw [out_A_s0]

theorem outs6_B (h : t.val % 2 = 1) : (outsAt0 m c t.val t.isLt).2.1 = (outsAt0 m c (t.val - 1) (Nat.lt_of_le_of_lt (Nat.sub_le _ _) t.isLt)).2.1 := by
  rw [outsAt0_B m c t (by omega) (by omega)]
  dsimp only
  rw [out0_B_6]

theorem outs7_B (h : t.val % 2 = 1) : (outsAt0 m c t.val t.isLt).2.2.1 = k0_pay7 (outsAt0 m c (t.val - 1) (Nat.lt_of_le_of_lt (Nat.sub_le _ _) t.isLt)).2.1 (iblk m c 2 t) := by
  rw [outsAt0_B m c t (by omega) (by omega)]
  dsimp only
  rw [out_B_7]

theorem outs8_B (h : t.val % 2 = 1) : (outsAt0 m c t.val t.isLt).2.2.2.1 = k0_pay8 (outsAt0 m c (t.val - 1) (Nat.lt_of_le_of_lt (Nat.sub_le _ _) t.isLt)).2.1 (iblk m c 3 t) := by
  rw [outsAt0_B m c t (by omega) (by omega)]
  dsimp only
  rw [out_B_8]

theorem outs5_B (h : t.val % 2 = 1) : (outsAt0 m c t.val t.isLt).1 = k0_pay1 (iblk m c 0 t) (k0_pay9 (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2.2.2 (iblk m c 4 t)) := by
  rw [outsAt0_B m c t (by omega) (by omega)]
  dsimp only
  rw [out_B_5]

/-- The point before one of the second half has the same rows. -/
theorem row_pred (h : t.val % 2 = 1) (p : Fin 512) : row ⟨t.val - 1, Nat.lt_of_le_of_lt (Nat.sub_le _ _) t.isLt⟩ p = row t p :=
  Fin.ext (by show (t.val - 1) / 2 * 512 + p.val = t.val / 2 * 512 + p.val; omega)

theorem col_zero (h : t.val % 2 = 0) (f : Fin 1408) : col t f = Args.half 0 f :=
  Fin.ext (by show t.val % 2 * 1408 + f.val = 0 * 1408 + f.val; rw [h])

theorem col_one (h : t.val % 2 = 1) (f : Fin 1408) : col t f = Args.half 1 f :=
  Fin.ext (by show t.val % 2 * 1408 + f.val = 1 * 1408 + f.val; rw [h])

include H

theorem outs6_zero (h : t.val % 2 = 0) (p : Fin 512) (k : Fin 1024) :
    ((outsAt0 m c t.val t.isLt).2.1 (ix2 p k) : EReal) = R.hA (row t p) k := by
  rw [outs6_A t h]
  exact pay2_val (iblk0_val H t) (iblk1_val H t) p k

/-- What the point before left of the normalised rows. -/
theorem prev6 (h : t.val % 2 = 1) (p : Fin 512) (k : Fin 1024) :
    ((outsAt0 m c (t.val - 1) (Nat.lt_of_le_of_lt (Nat.sub_le _ _) t.isLt)).2.1 (ix2 p k) : EReal) = R.hA (row t p) k :=
  (outs6_zero H ⟨t.val - 1, Nat.lt_of_le_of_lt (Nat.sub_le _ _) t.isLt⟩ (by show (t.val - 1) % 2 = 0; omega) p k).trans
    (by rw [row_pred t h])

theorem outs6_val (p : Fin 512) (k : Fin 1024) :
    ((outsAt0 m c t.val t.isLt).2.1 (ix2 p k) : EReal) = R.hA (row t p) k := by
  by_cases h : t.val % 2 = 0
  · exact outs6_zero H t h p k
  · rw [outs6_B t (by omega)]
    exact prev6 H t (by omega) p k

theorem outs7_val (p : Fin 512) (f : Fin 1408) :
    ((outsAt0 m c t.val t.isLt).2.2.1 (ix2 p f) : EReal) = R.gA (row t p) (col t f) := by
  by_cases h : t.val % 2 = 0
  · rw [outs7_A t h]
    exact pay7_val (pay2_val (iblk0_val H t) (iblk1_val H t)) (iblk2_val H t) p f
  · rw [outs7_B t (by omega)]
    exact pay7_val (prev6 H t (by omega)) (iblk2_val H t) p f

theorem outs8_val (p : Fin 512) (f : Fin 1408) :
    ((outsAt0 m c t.val t.isLt).2.2.2.1 (ix2 p f) : EReal) = R.uA (row t p) (col t f) := by
  by_cases h : t.val % 2 = 0
  · rw [outs8_A t h]
    exact pay8_val (pay2_val (iblk0_val H t) (iblk1_val H t)) (iblk3_val H t) p f
  · rw [outs8_B t (by omega)]
    exact pay8_val (prev6 H t (by omega)) (iblk3_val H t) p f

/-- What the first half leaves in the scratch. -/
theorem acc_zero (h : t.val % 2 = 0) (p : Fin 512) (k : Fin 1024) :
    ((outsAt0 m c t.val t.isLt).2.2.2.2 (ix2 p k) : EReal) = ∑ f, R.aA (row t p) (Args.half 0 f) * R.wd (Args.half 0 f) k := by
  rw [acc_A t h]
  refine (pay9_val (pay2_val (iblk0_val H t) (iblk1_val H t)) (iblk2_val H t) (iblk3_val H t) pay3_val (iblk4_val H t) p k).trans ?_
  rw [zero_add]
  refine Finset.sum_congr rfl fun f _ => ?_
  rw [col_zero t h]
  rfl

/-- What the point before left in the scratch. -/
theorem prevAcc (h : t.val % 2 = 1) (p : Fin 512) (k : Fin 1024) :
    ((outsAt0 m c (t.val - 1) (Nat.lt_of_le_of_lt (Nat.sub_le _ _) t.isLt)).2.2.2.2 (ix2 p k) : EReal) = ∑ f, R.aA (row t p) (Args.half 0 f) * R.wd (Args.half 0 f) k :=
  (acc_zero H ⟨t.val - 1, Nat.lt_of_le_of_lt (Nat.sub_le _ _) t.isLt⟩ (by show (t.val - 1) % 2 = 0; omega) p k).trans
    (by rw [row_pred t h])

theorem outs5_val (h : t.val % 2 = 1) (p : Fin 512) (k : Fin 1024) :
    ((outsAt0 m c t.val t.isLt).1 (ix2 p k) : EReal) = R.yA (row t p) k := by
  rw [outs5_B t h]
  refine (pay1_val (iblk0_val H t) (pay9_val (prev6 H t h) (iblk2_val H t) (iblk3_val H t) (prevAcc H t h) (iblk4_val H t)) p k).trans ?_
  unfold Args.yA
  rw [Args.sA_halves]
  refine congrArg (fun s : EReal => FfSpec.yy (R.x (row t p) k) ((∑ f, R.aA (row t p) (Args.half 0 f) * R.wd (Args.half 0 f) k) + s)) ?_
  refine Finset.sum_congr rfl fun f _ => ?_
  rw [col_one t h]
  rfl

/-- The array of output 5 after the run. -/
theorem final5 : ((dats m 0 c).arrAt 5 cfg0.N : S8192x1024.Idx → EReal) = fun i : S8192x1024.Idx => R.yA (i 0) (i 1) := by
  refine (dats m 0 c).arrAt_eq_of_cover 5 _ (fun t hf => ?_) (fun i => ?_)
  · rw [flushed5]
    obtain ⟨e0, e1⟩ := index5 t
    funext y
    have hy0 : (y 0).val < 512 := (y 0).isLt
    have hy1 : (y 1).val < 1024 := (y 1).isLt
    have hb : ((cfg0.win 5).blk t).view.emb y = ix2 (row t ⟨(y 0).val, hy0⟩) ⟨(y 1).val, hy1⟩ := by
      funext a
      apply Fin.ext
      match a with
      | ⟨0, _⟩ => show win0_5.index t (0 : Fin 2) * 512 + 1 * (y 0).val = t.val / 2 * 512 + (y 0).val; omega
      | ⟨1, _⟩ => show win0_5.index t (1 : Fin 2) * 1024 + 1 * (y 1).val = (y 1).val; omega
    have hx : (cfg0.win 5).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).1 ((cfg0.win 5).xinj (grid0.coords t) y) : EReal)
      = (fun i : S8192x1024.Idx => R.yA (i 0) (i 1)) (((cfg0.win 5).blk t).view.emb y)
    rw [hb, hx]
    exact outs5_val H t ((flush5 t).mp hf) _ _
  · have h0 : (i 0).val < 8192 := (i 0).isLt
    have h1 : (i 1).val < 1024 := (i 1).isLt
    have hN : (i 0).val / 512 * 2 + 1 < cfg0.N := lt_of_lt_of_eq (by omega) N_0.symm
    obtain ⟨e0, e1⟩ := index5 ⟨(i 0).val / 512 * 2 + 1, hN⟩
    refine ⟨⟨(i 0).val / 512 * 2 + 1, hN⟩, (flush5 _).mpr (by dsimp only; omega), ?_⟩
    show i ∈ ((View.whole main_v0_0).slice (win0_5.rect ⟨(i 0).val / 512 * 2 + 1, hN⟩)).set
    rw [View.set_slice_whole, Rect.mem_set_unit]
    dsimp only at e0 e1
    intro a
    match a with
    | ⟨0, _⟩ =>
      show win0_5.index ⟨(i 0).val / 512 * 2 + 1, hN⟩ (0 : Fin 2) * 512 ≤ (i 0).val
        ∧ (i 0).val < win0_5.index ⟨(i 0).val / 512 * 2 + 1, hN⟩ (0 : Fin 2) * 512 + 512
      rw [e0]; omega
    | ⟨1, _⟩ =>
      show win0_5.index ⟨(i 0).val / 512 * 2 + 1, hN⟩ (1 : Fin 2) * 1024 ≤ (i 1).val
        ∧ (i 1).val < win0_5.index ⟨(i 0).val / 512 * 2 + 1, hN⟩ (1 : Fin 2) * 1024 + 1024
      rw [e1]; omega

/-- The array of output 6 after the run. -/
theorem final6 : ((dats m 0 c).arrAt 6 cfg0.N : S8192x1024.Idx → EReal) = fun i : S8192x1024.Idx => R.hA (i 0) (i 1) := by
  refine (dats m 0 c).arrAt_eq_of_cover 6 _ (fun t hf => ?_) (fun i => ?_)
  · rw [flushed6]
    obtain ⟨e0, e1⟩ := index6 t
    funext y
    have hy0 : (y 0).val < 512 := (y 0).isLt
    have hy1 : (y 1).val < 1024 := (y 1).isLt
    have hb : ((cfg0.win 6).blk t).view.emb y = ix2 (row t ⟨(y 0).val, hy0⟩) ⟨(y 1).val, hy1⟩ := by
      funext a
      apply Fin.ext
      match a with
      | ⟨0, _⟩ => show win0_6.index t (0 : Fin 2) * 512 + 1 * (y 0).val = t.val / 2 * 512 + (y 0).val; omega
      | ⟨1, _⟩ => show win0_6.index t (1 : Fin 2) * 1024 + 1 * (y 1).val = (y 1).val; omega
    have hx : (cfg0.win 6).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.1 ((cfg0.win 6).xinj (grid0.coords t) y) : EReal)
      = (fun i : S8192x1024.Idx => R.hA (i 0) (i 1)) (((cfg0.win 6).blk t).view.emb y)
    rw [hb, hx]
    exact outs6_val H t _ _
  · have h0 : (i 0).val < 8192 := (i 0).isLt
    have h1 : (i 1).val < 1024 := (i 1).isLt
    have hN : (i 0).val / 512 * 2 + 1 < cfg0.N := lt_of_lt_of_eq (by omega) N_0.symm
    obtain ⟨e0, e1⟩ := index6 ⟨(i 0).val / 512 * 2 + 1, hN⟩
    refine ⟨⟨(i 0).val / 512 * 2 + 1, hN⟩, (flush6 _).mpr (by dsimp only; omega), ?_⟩
    show i ∈ ((View.whole main_v0_1).slice (win0_6.rect ⟨(i 0).val / 512 * 2 + 1, hN⟩)).set
    rw [View.set_slice_whole, Rect.mem_set_unit]
    dsimp only at e0 e1
    intro a
    match a with
    | ⟨0, _⟩ =>
      show win0_6.index ⟨(i 0).val / 512 * 2 + 1, hN⟩ (0 : Fin 2) * 512 ≤ (i 0).val
        ∧ (i 0).val < win0_6.index ⟨(i 0).val / 512 * 2 + 1, hN⟩ (0 : Fin 2) * 512 + 512
      rw [e0]; omega
    | ⟨1, _⟩ =>
      show win0_6.index ⟨(i 0).val / 512 * 2 + 1, hN⟩ (1 : Fin 2) * 1024 ≤ (i 1).val
        ∧ (i 1).val < win0_6.index ⟨(i 0).val / 512 * 2 + 1, hN⟩ (1 : Fin 2) * 1024 + 1024
      rw [e1]; omega

/-- The array of output 7 after the run. -/
theorem final7 : ((dats m 0 c).arrAt 7 cfg0.N : S8192x2816.Idx → EReal) = fun i : S8192x2816.Idx => R.gA (i 0) (i 1) := by
  refine (dats m 0 c).arrAt_eq_of_cover 7 _ (fun t hf => ?_) (fun i => ?_)
  · rw [flushed7]
    obtain ⟨e0, e1⟩ := index7 t
    funext y
    have hy0 : (y 0).val < 512 := (y 0).isLt
    have hy1 : (y 1).val < 1408 := (y 1).isLt
    have hb : ((cfg0.win 7).blk t).view.emb y = ix2 (row t ⟨(y 0).val, hy0⟩) (col t ⟨(y 1).val, hy1⟩) := by
      funext a
      apply Fin.ext
      match a with
      | ⟨0, _⟩ => show win0_7.index t (0 : Fin 2) * 512 + 1 * (y 0).val = t.val / 2 * 512 + (y 0).val; omega
      | ⟨1, _⟩ => show win0_7.index t (1 : Fin 2) * 1408 + 1 * (y 1).val = t.val % 2 * 1408 + (y 1).val; omega
    have hx : (cfg0.win 7).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.1 ((cfg0.win 7).xinj (grid0.coords t) y) : EReal)
      = (fun i : S8192x2816.Idx => R.gA (i 0) (i 1)) (((cfg0.win 7).blk t).view.emb y)
    rw [hb, hx]
    exact outs7_val H t _ _
  · have h0 : (i 0).val < 8192 := (i 0).isLt
    have h1 : (i 1).val < 2816 := (i 1).isLt
    have hN : (i 0).val / 512 * 2 + (i 1).val / 1408 < cfg0.N := lt_of_lt_of_eq (by omega) N_0.symm
    obtain ⟨e0, e1⟩ := index7 ⟨(i 0).val / 512 * 2 + (i 1).val / 1408, hN⟩
    refine ⟨⟨(i 0).val / 512 * 2 + (i 1).val / 1408, hN⟩, flush7 _, ?_⟩
    show i ∈ ((View.whole main_v0_2).slice (win0_7.rect ⟨(i 0).val / 512 * 2 + (i 1).val / 1408, hN⟩)).set
    rw [View.set_slice_whole, Rect.mem_set_unit]
    dsimp only at e0 e1
    intro a
    match a with
    | ⟨0, _⟩ =>
      show win0_7.index ⟨(i 0).val / 512 * 2 + (i 1).val / 1408, hN⟩ (0 : Fin 2) * 512 ≤ (i 0).val
        ∧ (i 0).val < win0_7.index ⟨(i 0).val / 512 * 2 + (i 1).val / 1408, hN⟩ (0 : Fin 2) * 512 + 512
      rw [e0]; omega
    | ⟨1, _⟩ =>
      show win0_7.index ⟨(i 0).val / 512 * 2 + (i 1).val / 1408, hN⟩ (1 : Fin 2) * 1408 ≤ (i 1).val
        ∧ (i 1).val < win0_7.index ⟨(i 0).val / 512 * 2 + (i 1).val / 1408, hN⟩ (1 : Fin 2) * 1408 + 1408
      rw [e1]; omega

/-- The array of output 8 after the run. -/
theorem final8 : ((dats m 0 c).arrAt 8 cfg0.N : S8192x2816.Idx → EReal) = fun i : S8192x2816.Idx => R.uA (i 0) (i 1) := by
  refine (dats m 0 c).arrAt_eq_of_cover 8 _ (fun t hf => ?_) (fun i => ?_)
  · rw [flushed8]
    obtain ⟨e0, e1⟩ := index8 t
    funext y
    have hy0 : (y 0).val < 512 := (y 0).isLt
    have hy1 : (y 1).val < 1408 := (y 1).isLt
    have hb : ((cfg0.win 8).blk t).view.emb y = ix2 (row t ⟨(y 0).val, hy0⟩) (col t ⟨(y 1).val, hy1⟩) := by
      funext a
      apply Fin.ext
      match a with
      | ⟨0, _⟩ => show win0_8.index t (0 : Fin 2) * 512 + 1 * (y 0).val = t.val / 2 * 512 + (y 0).val; omega
      | ⟨1, _⟩ => show win0_8.index t (1 : Fin 2) * 1408 + 1 * (y 1).val = t.val % 2 * 1408 + (y 1).val; omega
    have hx : (cfg0.win 8).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.2.1 ((cfg0.win 8).xinj (grid0.coords t) y) : EReal)
      = (fun i : S8192x2816.Idx => R.uA (i 0) (i 1)) (((cfg0.win 8).blk t).view.emb y)
    rw [hb, hx]
    exact outs8_val H t _ _
  · have h0 : (i 0).val < 8192 := (i 0).isLt
    have h1 : (i 1).val < 2816 := (i 1).isLt
    have hN : (i 0).val / 512 * 2 + (i 1).val / 1408 < cfg0.N := lt_of_lt_of_eq (by omega) N_0.symm
    obtain ⟨e0, e1⟩ := index8 ⟨(i 0).val / 512 * 2 + (i 1).val / 1408, hN⟩
    refine ⟨⟨(i 0).val / 512 * 2 + (i 1).val / 1408, hN⟩, flush8 _, ?_⟩
    show i ∈ ((View.whole main_v0_3).slice (win0_8.rect ⟨(i 0).val / 512 * 2 + (i 1).val / 1408, hN⟩)).set
    rw [View.set_slice_whole, Rect.mem_set_unit]
    dsimp only at e0 e1
    intro a
    match a with
    | ⟨0, _⟩ =>
      show win0_8.index ⟨(i 0).val / 512 * 2 + (i 1).val / 1408, hN⟩ (0 : Fin 2) * 512 ≤ (i 0).val
        ∧ (i 0).val < win0_8.index ⟨(i 0).val / 512 * 2 + (i 1).val / 1408, hN⟩ (0 : Fin 2) * 512 + 512
      rw [e0]; omega
    | ⟨1, _⟩ =>
      show win0_8.index ⟨(i 0).val / 512 * 2 + (i 1).val / 1408, hN⟩ (1 : Fin 2) * 1408 ≤ (i 1).val
        ∧ (i 1).val < win0_8.index ⟨(i 0).val / 512 * 2 + (i 1).val / 1408, hN⟩ (1 : Fin 2) * 1408 + 1408
      rw [e1]; omega

end Cert.Kernel4Ideal.Ff

end
-- ==== Proof.FfRef.lean ====
/- The gated unit's forward pass: the reference's arrays. -/
module

public import proofs.«01_k».proof.Proof.Gen.Reference4Ideal.Read
public import proofs.«01_k».proof.Proof.FfSpec

@[expose] public section

set_option maxRecDepth 16384

noncomputable section

namespace Cert.Reference4Ideal.Ff

open Cert.Reference4Ideal Cert.Reference4Ideal.Gen Cert.Reference4Ideal.Read
open Idealize.ShloMosaic Idealize.ShloMosaic.TcCoe
open Cert.FfSpec (Args)
open scoped BigOperators

variable {x0 : (⟨S8192x1024, .f32⟩ : BufTy).Contents (Elt Ideal)} {x1 : (⟨S1x1024, .f32⟩ : BufTy).Contents (Elt Ideal)}
variable {x2 x3 x4 : (⟨S2816x1024, .bf16⟩ : BufTy).Contents (Elt Ideal)} {R : Args}

theorem add {a b p q : EReal} (ha : a = p) (hb : b = q) : a + b = p + q := by rw [ha, hb]
theorem mul {a b p q : EReal} (ha : a = p) (hb : b = q) : a * b = p * q := by rw [ha, hb]
theorem quo {a b p q : EReal} (ha : a = p) (hb : b = q) : Ideal.div a b = Ideal.div p q := by rw [ha, hb]
theorem neg {a p : EReal} (ha : a = p) : -a = -p := by rw [ha]
theorem sum {ι : Type} [Fintype ι] {a p : ι → EReal} (ha : ∀ k, a k = p k) : ∑ k, a k = ∑ k, p k :=
  Finset.sum_congr rfl fun k _ => ha k
theorem zero_sum {ι : Type} [Fintype ι] {z : EReal} {a p : ι → EReal} (hz : z = 0) (ha : ∀ k, a k = p k) : z + ∑ k, a k = ∑ k, p k := by
  rw [hz, zero_add, sum ha]
theorem bits_zero : Ideal.ofBits .f32 0x00000000#32 = 0 := by simp [Ideal.ofBits, Ideal.ieee]
theorem bits_one : Ideal.ofBits .f32 0x3F800000#32 = 1 :=
  (show Ideal.ofBits .f32 0x3F800000#32 = ((1 : ℝ) : EReal) by
    simp [Ideal.ofBits, Ideal.ieee, -EReal.coe_mul]; norm_num).trans EReal.coe_one

theorem r_v0 (h0 : ∀ i, (x0 i : EReal) = R.x (i 0) (i 1)) (i : S8192x1024.Idx) :
    (val_main_v0 (F := Ideal) x0 i : EReal) = R.x (i 0) (i 1) * R.x (i 0) (i 1) :=
  (val_main_v0_apply _ i).trans (mul (h0 _) (h0 _))

theorem r_v1 (h0 : ∀ i, (x0 i : EReal) = R.x (i 0) (i 1)) (i : S8192.Idx) :
    (val_main_v1 (F := Ideal) x0 i : EReal) = ∑ k, R.x (i 0) k * R.x (i 0) k :=
  (val_main_v1_apply _ i).trans (zero_sum bits_zero fun k => (r_v0 h0 _))

theorem r_v2 (h0 : ∀ i, (x0 i : EReal) = R.x (i 0) (i 1)) (i : S8192x1.Idx) :
    (val_main_v2 (F := Ideal) x0 i : EReal) = ∑ k, R.x (i 0) k * R.x (i 0) k :=
  (val_main_v2_apply _ i).trans ((r_v1 h0 _))

theorem r_v3  (i : S8192x1.Idx) :
    (val_main_v3 (F := Ideal) i : EReal) = Ideal.ofBits .f32 0x44800000#32 :=
  (val_main_v3_apply i).trans (rfl)

theorem r_v4 (h0 : ∀ i, (x0 i : EReal) = R.x (i 0) (i 1)) (i : S8192x1.Idx) :
    (val_main_v4 (F := Ideal) x0 i : EReal) = Ideal.div (∑ k, R.x (i 0) k * R.x (i 0) k) (Ideal.ofBits .f32 0x44800000#32) :=
  (val_main_v4_apply _ i).trans (quo (r_v2 h0 _) (r_v3 _))

theorem r_v5  (i : S8192x1.Idx) :
    (val_main_v5 (F := Ideal) i : EReal) = Ideal.ofBits .f32 0x358637BD#32 :=
  (val_main_v5_apply i).trans (rfl)

theorem r_v6 (h0 : ∀ i, (x0 i : EReal) = R.x (i 0) (i 1)) (i : S8192x1.Idx) :
    (val_main_v6 (F := Ideal) x0 i : EReal) = Ideal.div (∑ k, R.x (i 0) k * R.x (i 0) k) (Ideal.ofBits .f32 0x44800000#32) + Ideal.ofBits .f32 0x358637BD#32 :=
  (val_main_v6_apply _ i).trans (add (r_v4 h0 _) (r_v5 _))

theorem r_v7 (h0 : ∀ i, (x0 i : EReal) = R.x (i 0) (i 1)) (i : S8192x1.Idx) :
    (val_main_v7 (F := Ideal) x0 i : EReal) = FfSpec.rr (R.x (i 0)) :=
  (val_main_v7_apply _ i).trans (congrArg Ideal.rsqrt (r_v6 h0 _))

theorem r_v8 (h0 : ∀ i, (x0 i : EReal) = R.x (i 0) (i 1)) (i : S8192x1024.Idx) :
    (val_main_v8 (F := Ideal) x0 i : EReal) = FfSpec.rr (R.x (i 0)) :=
  (val_main_v8_apply _ i).trans ((r_v7 h0 _))

theorem r_v9 (h0 : ∀ i, (x0 i : EReal) = R.x (i 0) (i 1)) (i : S8192x1024.Idx) :
    (val_main_v9 (F := Ideal) x0 i : EReal) = R.x (i 0) (i 1) * FfSpec.rr (R.x (i 0)) :=
  (val_main_v9_apply _ i).trans (mul (h0 _) (r_v8 h0 _))

theorem r_v10 (h1 : ∀ i, (x1 i : EReal) = R.nw (i 1)) (i : S8192x1024.Idx) :
    (val_main_v10 (F := Ideal) x1 i : EReal) = R.nw (i 1) :=
  (val_main_v10_apply _ i).trans (h1 _)

theorem r_v11 (h0 : ∀ i, (x0 i : EReal) = R.x (i 0) (i 1)) (h1 : ∀ i, (x1 i : EReal) = R.nw (i 1)) (i : S8192x1024.Idx) :
    (val_main_v11 (F := Ideal) x0 x1 i : EReal) = R.hA (i 0) (i 1) :=
  (val_main_v11_apply _ _ i).trans (mul (r_v9 h0 _) (r_v10 h1 _))

theorem r_v12 (h0 : ∀ i, (x0 i : EReal) = R.x (i 0) (i 1)) (h1 : ∀ i, (x1 i : EReal) = R.nw (i 1)) (i : S8192x1024.Idx) :
    (val_main_v12 (F := Ideal) x0 x1 i : EReal) = R.hA (i 0) (i 1) :=
  (val_main_v12_apply _ _ i).trans ((r_v11 h0 h1 _))

theorem r_v13 (h0 : ∀ i, (x0 i : EReal) = R.x (i 0) (i 1)) (h1 : ∀ i, (x1 i : EReal) = R.nw (i 1)) (i : S8192x1024.Idx) :
    (val_main_v13 (F := Ideal) x0 x1 i : EReal) = R.hA (i 0) (i 1) :=
  (val_main_v13_apply _ _ i).trans ((r_v12 h0 h1 _))

theorem r_v14 (h2 : ∀ i, (x2 i : EReal) = R.wg (i 0) (i 1)) (i : S2816x1024.Idx) :
    (val_main_v14 (F := Ideal) x2 i : EReal) = R.wg (i 0) (i 1) :=
  (val_main_v14_apply _ i).trans (h2 _)

theorem r_v15 (h2 : ∀ i, (x2 i : EReal) = R.wg (i 0) (i 1)) (i : S1024x2816.Idx) :
    (val_main_v15 (F := Ideal) x2 i : EReal) = R.wg (i 1) (i 0) :=
  (val_main_v15_apply _ i).trans ((r_v14 h2 _))

theorem r_v16 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_v16 (F := Ideal) x0 x1 x2 i : EReal) = R.gA (i 0) (i 1) :=
  (val_main_v16_apply _ _ _ i).trans (sum fun k => mul (r_v13 h0 h1 _) (r_v15 h2 _))

theorem r_v17 (h0 : ∀ i, (x0 i : EReal) = R.x (i 0) (i 1)) (h1 : ∀ i, (x1 i : EReal) = R.nw (i 1)) (i : S8192x1024.Idx) :
    (val_main_v17 (F := Ideal) x0 x1 i : EReal) = R.hA (i 0) (i 1) :=
  (val_main_v17_apply _ _ i).trans ((r_v12 h0 h1 _))

theorem r_v18 (h3 : ∀ i, (x3 i : EReal) = R.wu (i 0) (i 1)) (i : S2816x1024.Idx) :
    (val_main_v18 (F := Ideal) x3 i : EReal) = R.wu (i 0) (i 1) :=
  (val_main_v18_apply _ i).trans (h3 _)

theorem r_v19 (h3 : ∀ i, (x3 i : EReal) = R.wu (i 0) (i 1)) (i : S1024x2816.Idx) :
    (val_main_v19 (F := Ideal) x3 i : EReal) = R.wu (i 1) (i 0) :=
  (val_main_v19_apply _ i).trans ((r_v18 h3 _))

theorem r_v20 (h0 : ∀ i, (x0 i : EReal) = R.x (i 0) (i 1)) (h1 : ∀ i, (x1 i : EReal) = R.nw (i 1)) (h3 : ∀ i, (x3 i : EReal) = R.wu (i 0) (i 1)) (i : S8192x2816.Idx) :
    (val_main_v20 (F := Ideal) x0 x1 x3 i : EReal) = R.uA (i 0) (i 1) :=
  (val_main_v20_apply _ _ _ i).trans (sum fun k => mul (r_v17 h0 h1 _) (r_v19 h3 _))

theorem r_call0_v0 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v0 (F := Ideal) x0 x1 x2 i : EReal) = -R.gA (i 0) (i 1) :=
  (val_main_call0_v0_apply _ _ _ i).trans (neg (r_v16 h0 h1 h2 _))

theorem r_call0_v1 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v1 (F := Ideal) x0 x1 x2 i : EReal) = Ideal.exp (-R.gA (i 0) (i 1)) :=
  (val_main_call0_v1_apply _ _ _ i).trans (congrArg Ideal.exp (r_call0_v0 h0 h1 h2 _))

theorem r_call0_v2  (i : S8192x2816.Idx) :
    (val_main_call0_v2 (F := Ideal) i : EReal) = 1 :=
  (val_main_call0_v2_apply i).trans (bits_one)

theorem r_call0_v3 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v3 (F := Ideal) x0 x1 x2 i : EReal) = 1 + Ideal.exp (-R.gA (i 0) (i 1)) :=
  (val_main_call0_v3_apply _ _ _ i).trans (add (r_call0_v2 _) (r_call0_v1 h0 h1 h2 _))

theorem r_call0_v4  (i : S8192x2816.Idx) :
    (val_main_call0_v4 (F := Ideal) i : EReal) = 1 :=
  (val_main_call0_v4_apply i).trans (bits_one)

theorem r_call0_v5 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v5 (F := Ideal) x0 x1 x2 i : EReal) = Ideal.div 1 (1 + Ideal.exp (-R.gA (i 0) (i 1))) :=
  (val_main_call0_v5_apply _ _ _ i).trans (quo (r_call0_v4 _) (r_call0_v3 h0 h1 h2 _))

theorem r_v21 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_v21 (F := Ideal) x0 x1 x2 i : EReal) = R.gA (i 0) (i 1) * Ideal.div 1 (1 + Ideal.exp (-R.gA (i 0) (i 1))) :=
  (val_main_v21_apply _ _ _ i).trans (mul (r_v16 h0 h1 h2 _) (r_call0_v5 h0 h1 h2 _))

theorem r_v22 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (i : S8192x2816.Idx) :
    (val_main_v22 (F := Ideal) x0 x1 x2 x3 i : EReal) = R.aA (i 0) (i 1) :=
  (val_main_v22_apply _ _ _ _ i).trans (mul (r_v21 h0 h1 h2 _) (r_v20 h0 h1 h3 _))

theorem r_v23 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (i : S8192x2816.Idx) :
    (val_main_v23 (F := Ideal) x0 x1 x2 x3 i : EReal) = R.aA (i 0) (i 1) :=
  (val_main_v23_apply _ _ _ _ i).trans ((r_v22 h0 h1 h2 h3 _))

theorem r_v24 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (i : S8192x2816.Idx) :
    (val_main_v24 (F := Ideal) x0 x1 x2 x3 i : EReal) = R.aA (i 0) (i 1) :=
  (val_main_v24_apply _ _ _ _ i).trans ((r_v23 h0 h1 h2 h3 _))

theorem r_v25 (h4 : ∀ i, (x4 i : EReal) = R.wd (i 0) (i 1)) (i : S2816x1024.Idx) :
    (val_main_v25 (F := Ideal) x4 i : EReal) = R.wd (i 0) (i 1) :=
  (val_main_v25_apply _ i).trans (h4 _)

theorem r_v26 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v26 (F := Ideal) x0 x1 x2 x3 x4 i : EReal) = R.sA (i 0) (i 1) :=
  (val_main_v26_apply _ _ _ _ _ i).trans (sum fun k => mul (r_v24 h0 h1 h2 h3 _) (r_v25 h4 _))

theorem r_v27  (i : S8192x1024.Idx) :
    (val_main_v27 (F := Ideal) i : EReal) = Ideal.ofBits .f32 0x3F000000#32 :=
  (val_main_v27_apply i).trans (rfl)

theorem r_v28 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v28 (F := Ideal) x0 x1 x2 x3 x4 i : EReal) = Ideal.ofBits .f32 0x3F000000#32 * R.sA (i 0) (i 1) :=
  (val_main_v28_apply _ _ _ _ _ i).trans (mul (r_v27 _) (r_v26 h0 h1 h2 h3 h4 _))

theorem r_v29 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v29 (F := Ideal) x0 x1 x2 x3 x4 i : EReal) = R.yA (i 0) (i 1) :=
  (val_main_v29_apply _ _ _ _ _ i).trans (add (h0 _) (r_v28 h0 h1 h2 h3 h4 _))

theorem r_v30 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_v30 (F := Ideal) x0 x1 x2 i : EReal) = R.gA (i 0) (i 1) :=
  (val_main_v30_apply _ _ _ i).trans ((r_v16 h0 h1 h2 _))

theorem r_v31 (h0 : ∀ i, (x0 i : EReal) = R.x (i 0) (i 1)) (h1 : ∀ i, (x1 i : EReal) = R.nw (i 1)) (h3 : ∀ i, (x3 i : EReal) = R.wu (i 0) (i 1)) (i : S8192x2816.Idx) :
    (val_main_v31 (F := Ideal) x0 x1 x3 i : EReal) = R.uA (i 0) (i 1) :=
  (val_main_v31_apply _ _ _ i).trans ((r_v20 h0 h1 h3 _))

end Cert.Reference4Ideal.Ff

end
-- ==== Proof.Ff.lean ====
/- The claims of the gated unit's forward pass. -/
module

public import proofs.«01_k».proof.Defs
public import proofs.«01_k».proof.Proof.Gen.Kernel4
public import proofs.«01_k».proof.Proof.Gen.Reference4Ideal.Run
public import proofs.«01_k».proof.Proof.FfAlg
public import proofs.«01_k».proof.Proof.FfRef

@[expose] public section

set_option maxRecDepth 16384

noncomputable section

namespace Cert.Proof

open Idealize.ShloMosaic Idealize.ShloMosaic.TcCoe

theorem frame_kernel4Ideal : Cert.quiescent_Kernel4Ideal := fun m ρ _ => Cert.Kernel4Ideal.Ff.frame (F := Ideal) m ρ

set_option maxHeartbeats 4000000 in
/-- The word-for-word program and its reading over the reals have the same launches. -/
theorem ff_defs_eq : Cert.Kernel4.defs (F := Bits) = Cert.Kernel4Ideal.defs (F := Bits) := by
  have h : Cert.Kernel4.defs₀ (F := Bits) = Cert.Kernel4Ideal.defs₀ (F := Bits) := by
    unfold Cert.Kernel4.defs₀
    refine congrArg Defs.onTc (funext fun k => ?_)
    match k with
    | 0 => rfl
  unfold Cert.Kernel4.defs
  rw [h]
  rfl

theorem frame_kernel4 : Cert.quiescent_Kernel4 := by
  intro m ρ _
  rw [ff_defs_eq]
  exact Cert.Kernel4Ideal.Ff.frame (F := Bits) m ρ

theorem frame_reference4Ideal : Cert.quiescent_Reference4Ideal := fun m ρ _ =>
  (θ_run Cert.Reference4Ideal.defs _ _).mono (fun r h => ⟨fun c => (h c).2.2.2.2, Idealize.ShloMosaic.sem_eq_zero_of_no_sems (by decide) r.2⟩) (Cert.Reference4Ideal.Value.run (F := Ideal) m ρ)

theorem algebraic4 : Cert.algebraic_Kernel4Ideal_Reference4Ideal := by
  intro m g m' g' _ h
  choose R H using fun c => (⟨_, Cert.Kernel4Ideal.Ff.holds m c⟩ : ∃ R : Cert.FfSpec.Args, Cert.Kernel4Ideal.Ff.Holds m c R)
  refine ⟨fun c => (fun i : Cert.Kernel4Ideal.S8192x1024.Idx => (R c).yA (i 0) (i 1)),
    fun c => (fun i : Cert.Kernel4Ideal.S8192x1024.Idx => (R c).hA (i 0) (i 1)),
    fun c => (fun i : Cert.Kernel4Ideal.S8192x2816.Idx => (R c).gA (i 0) (i 1)),
    fun c => (fun i : Cert.Kernel4Ideal.S8192x2816.Idx => (R c).uA (i 0) (i 1)), ?_, ?_⟩
  · refine (θ_run Cert.Kernel4Ideal.defs _ _).mono (fun r hr c => ?_) (Cert.Kernel4Ideal.Ff.run_blocks (F := Ideal) m g)
    obtain ⟨k0, k1, k2, k3, k⟩ := hr c
    exact ⟨k0.trans (Cert.Kernel4Ideal.Ff.final5 (H c)), k1.trans (Cert.Kernel4Ideal.Ff.final6 (H c)), k2.trans (Cert.Kernel4Ideal.Ff.final7 (H c)),
      k3.trans (Cert.Kernel4Ideal.Ff.final8 (H c)), k⟩
  · refine (θ_run Cert.Reference4Ideal.defs _ _).mono (fun r hr c => ?_) (Cert.Reference4Ideal.Value.run (F := Ideal) m' g')
    obtain ⟨k0, k1, k2, k3, k⟩ := hr c
    obtain ⟨a0, a1, a2, a3, a4⟩ := h c
    obtain ⟨h0, h1, h2, h3, h4⟩ := H c
    refine ⟨k0.trans ?_, k1.trans ?_, k2.trans ?_, k3.trans ?_, k⟩
    · refine (Cert.Reference4Ideal.Read.val_main_v29_eq _ _ _ _ _).trans ?_
      rw [a0, a1, a2, a3, a4]
      funext i
      exact Cert.Reference4Ideal.Ff.r_v29 h0 h1 h2 h3 h4 i
    · refine (Cert.Reference4Ideal.Read.val_main_v12_eq _ _).trans ?_
      rw [a0, a1]
      funext i
      exact Cert.Reference4Ideal.Ff.r_v12 h0 h1 i
    · refine (Cert.Reference4Ideal.Read.val_main_v30_eq _ _ _).trans ?_
      rw [a0, a1, a2]
      funext i
      exact Cert.Reference4Ideal.Ff.r_v30 h0 h1 h2 i
    · refine (Cert.Reference4Ideal.Read.val_main_v31_eq _ _ _).trans ?_
      rw [a0, a1, a3]
      funext i
      exact Cert.Reference4Ideal.Ff.r_v31 h0 h1 h3 i

end Cert.Proof

end
-- ==== Proof.LfRuns.lean ====
/- What the runs of the forward call of a feed-forward block with the loss share: its blocks, its branch conditions, its staging memrefs. -/
module

public import proofs.«01_k».proof.Proof.Gen.Kernel5Ideal.Skeleton
public import proofs.«01_k».proof.Proof.Gen.Kernel5Ideal.Launch
public import proofs.«01_k».proof.Proof.Gen.Kernel5Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin cfg0.N, cond0_1 (grid0.coords t) ↔ t.val % 2 = 1 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-- The condition of the body's `scf.if` 2 (`k0_h3`), from the grid coordinates (the skeleton's scalar
    chain substituted). -/
abbrev cond0_2 (i : grid0.Coords) : Prop := k0_cond3 i = 1#1
/-- It holds at the points before point 2 — by arithmetic of the point. -/
theorem hcond0_2 : ∀ t : Fin cfg0.N, cond0_2 (grid0.coords t) ↔ t.val < 2 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val < 2)

/-- The condition of the body's `scf.if` 3 (`k0_h4`), from the grid coordinates (the skeleton's scalar
    chain substituted). -/
abbrev cond0_3 (i : grid0.Coords) : Prop := k0_cond4 i = 1#1
/-- It holds at the points from point 2 on — decided over the grid. -/
theorem hcond0_3 : ∀ t : Fin cfg0.N, cond0_3 (grid0.coords t) ↔ 2 ≤ t.val :=
  (by decide +kernel : ∀ t : Fin grid0.N, cond0_3 (grid0.coords t) ↔ 2 ≤ t.val)

/-- The condition of the body's `scf.if` 4 (`k0_h5`), from the grid coordinates (the skeleton's scalar
    chain substituted). -/
abbrev cond0_4 (i : grid0.Coords) : Prop := k0_cond5 i = 1#1
/-- It holds at the points before point 2 — by arithmetic of the point. -/
theorem hcond0_4 : ∀ t : Fin cfg0.N, cond0_4 (grid0.coords t) ↔ t.val < 2 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_4, k0_cond5, e0, e1]
    word_cmp
   : ∀ t : Fin grid0.N, cond0_4 (grid0.coords t) ↔ t.val < 2)

/-- The condition of the body's `scf.if` 5 (`k0_h6`), from the grid coordinates (the skeleton's scalar
    chain substituted). -/
abbrev cond0_5 (i : grid0.Coords) : Prop := k0_cond6 i = 1#1
/-- It holds at the points from point 2 on — decided over the grid. -/
theorem hcond0_5 : ∀ t : Fin cfg0.N, cond0_5 (grid0.coords t) ↔ 2 ≤ t.val :=
  (by decide +kernel : ∀ t : Fin grid0.N, cond0_5 (grid0.coords t) ↔ 2 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A output 10 is live: the case stores into it. -/
theorem liveAt0_10_A : ∀ t : Fin cfg0.N, cond0_0 (grid0.coords t) → cfg0.idle 10 (grid0.coords t) = false := by decide +kernel
/-- At the other points output 10 is idle: the body reads it and stores nothing into it. -/
theorem idleAt0_10 : ∀ t : Fin cfg0.N, ¬cond0_0 (grid0.coords t) → cfg0.idle 10 (grid0.coords t) = true := by decide +kernel
/-- At the other points the pipeline writes output 10's block back. -/
theorem flushAt0_10 : ∀ t : Fin cfg0.N, ¬cond0_0 (grid0.coords t) → (cfg0.win 10).flush t = true := by decide +kernel
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-! A case with many branch conditions on the grid states them as ONE proposition, its `Decidable` instance assembled
one condition at a time: the facts below about that case's points are decided under it and restated with one premise
per condition, so that the instance `decide` searches for does not grow with their number. -/

/-- Case B's branch conditions on the grid, as one proposition. -/
abbrev conds0_B (i : grid0.Coords) : Prop := ¬cond0_0 i ∧ cond0_1 i ∧ cond0_2 i ∧ ¬cond0_3 i ∧ cond0_4 i ∧ ¬cond0_5 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance inferInstance))))
/-- Case C's branch conditions on the grid, as one proposition. -/
abbrev conds0_C (i : grid0.Coords) : Prop := ¬cond0_0 i ∧ cond0_1 i ∧ ¬cond0_2 i ∧ cond0_3 i ∧ ¬cond0_4 i ∧ cond0_5 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance inferInstance))))
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 live: the case stores into it. -/
theorem liveAt0_7_B : ∀ t : Fin cfg0.N, ¬cond0_0 (grid0.coords t) → cond0_1 (grid0.coords t) → cond0_2 (grid0.coords t) → ¬cond0_3 (grid0.coords t) → cond0_4 (grid0.coords t) → ¬cond0_5 (grid0.coords t) → cfg0.idle 7 (grid0.coords t) = false :=
  fun t h0 h1 h2 h3 h4 h5 => (by decide +kernel : ∀ t : Fin cfg0.N, conds0_B (grid0.coords t) → cfg0.idle 7 (grid0.coords t) = false) t ⟨h0, h1, h2, h3, h4, h5⟩
/-- At the points of case C the printed configuration (`Cfg.idle`) calls output 7 live: the case stores into it. -/
theorem liveAt0_7_C : ∀ t : Fin cfg0.N, ¬cond0_0 (grid0.coords t) → cond0_1 (grid0.coords t) → ¬cond0_2 (grid0.coords t) → cond0_3 (grid0.coords t) → ¬cond0_4 (grid0.coords t) → cond0_5 (grid0.coords t) → cfg0.idle 7 (grid0.coords t) = false :=
  fun t h0 h1 h2 h3 h4 h5 => (by decide +kernel : ∀ t : Fin cfg0.N, conds0_C (grid0.coords t) → cfg0.idle 7 (grid0.coords t) = false) t ⟨h0, h1, h2, h3, h4, h5⟩
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x80000001 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 live: the case stores into it. -/
theorem liveAt0_8_B : ∀ t : Fin cfg0.N, ¬cond0_0 (grid0.coords t) → cond0_1 (grid0.coords t) → cond0_2 (grid0.coords t) → ¬cond0_3 (grid0.coords t) → cond0_4 (grid0.coords t) → ¬cond0_5 (grid0.coords t) → cfg0.idle 8 (grid0.coords t) = false :=
  fun t h0 h1 h2 h3 h4 h5 => (by decide +kernel : ∀ t : Fin cfg0.N, conds0_B (grid0.coords t) → cfg0.idle 8 (grid0.coords t) = false) t ⟨h0, h1, h2, h3, h4, h5⟩
/-- At the points of case C the printed configuration (`Cfg.idle`) calls output 8 live: the case stores into it. -/
theorem liveAt0_8_C : ∀ t : Fin cfg0.N, ¬cond0_0 (grid0.coords t) → cond0_1 (grid0.coords t) → ¬cond0_2 (grid0.coords t) → cond0_3 (grid0.coords t) → ¬cond0_4 (grid0.coords t) → cond0_5 (grid0.coords t) → cfg0.idle 8 (grid0.coords t) = false :=
  fun t h0 h1 h2 h3 h4 h5 => (by decide +kernel : ∀ t : Fin cfg0.N, conds0_C (grid0.coords t) → cfg0.idle 8 (grid0.coords t) = false) t ⟨h0, h1, h2, h3, h4, h5⟩
/-- At the points of case C, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_C : ∀ t : Fin cfg0.N, ¬cond0_0 (grid0.coords t) → cond0_1 (grid0.coords t) → ¬cond0_2 (grid0.coords t) → cond0_3 (grid0.coords t) → ¬cond0_4 (grid0.coords t) → cond0_5 (grid0.coords t) → cfg0.fresh 8 t.val = false :=
  fun t h0 h1 h2 h3 h4 h5 => (by intro t; rw [fresh0_8_eq t]; revert t; decide +kernel : ∀ t : Fin cfg0.N, conds0_C (grid0.coords t) → cfg0.fresh 8 t.val = false) t ⟨h0, h1, h2, h3, h4, h5⟩
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x80000001 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 live: the case stores into it. -/
theorem liveAt0_9_B : ∀ t : Fin cfg0.N, ¬cond0_0 (grid0.coords t) → cond0_1 (grid0.coords t) → cond0_2 (grid0.coords t) → ¬cond0_3 (grid0.coords t) → cond0_4 (grid0.coords t) → ¬cond0_5 (grid0.coords t) → cfg0.idle 9 (grid0.coords t) = false :=
  fun t h0 h1 h2 h3 h4 h5 => (by decide +kernel : ∀ t : Fin cfg0.N, conds0_B (grid0.coords t) → cfg0.idle 9 (grid0.coords t) = false) t ⟨h0, h1, h2, h3, h4, h5⟩
/-- At the points of case C the printed configuration (`Cfg.idle`) calls output 9 live: the case stores into it. -/
theorem liveAt0_9_C : ∀ t : Fin cfg0.N, ¬cond0_0 (grid0.coords t) → cond0_1 (grid0.coords t) → ¬cond0_2 (grid0.coords t) → cond0_3 (grid0.coords t) → ¬cond0_4 (grid0.coords t) → cond0_5 (grid0.coords t) → cfg0.idle 9 (grid0.coords t) = false :=
  fun t h0 h1 h2 h3 h4 h5 => (by decide +kernel : ∀ t : Fin cfg0.N, conds0_C (grid0.coords t) → cfg0.idle 9 (grid0.coords t) = false) t ⟨h0, h1, h2, h3, h4, h5⟩
/-- At the points of case C, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_C : ∀ t : Fin cfg0.N, ¬cond0_0 (grid0.coords t) → cond0_1 (grid0.coords t) → ¬cond0_2 (grid0.coords t) → cond0_3 (grid0.coords t) → ¬cond0_4 (grid0.coords t) → cond0_5 (grid0.coords t) → cfg0.fresh 9 t.val = false :=
  fun t h0 h1 h2 h3 h4 h5 => (by intro t; rw [fresh0_9_eq t]; revert t; decide +kernel : ∀ t : Fin cfg0.N, conds0_C (grid0.coords t) → cfg0.fresh 9 t.val = false) t ⟨h0, h1, h2, h3, h4, h5⟩

/-! ## The kernel body on any staging memrefs: a subtype the run finds -/

/-- One staging buffer of output window 7, through which its contents are stated (`View.read_writes_of_cover`: the
    choice does not matter). -/
abbrev VO0_7 : View sig .tc .vmem S512x1024 .f32 := (Memref.whole cc0_stg7_0 : Memref sig .tc .vmem S512x1024 .f32).view
/-- One staging buffer of output window 8, through which its contents are stated (`View.read_writes_of_cover`: the
    choice does not matter). -/
abbrev VO0_8 : View sig .tc .vmem S8x128 .f32 := (Memref.whole cc0_stg8_0 : Memref sig .tc .vmem S8x128 .f32).view
/-- One staging buffer of output window 9, through which its contents are stated (`View.read_writes_of_cover`: the
    choice does not matter). -/
abbrev VO0_9 : View sig .tc .vmem S1x1024 .f32 := (Memref.whole cc0_stg9_0 : Memref sig .tc .vmem S1x1024 .f32).view
/-- One staging buffer of output window 10, through which its contents are stated (`View.read_writes_of_cover`: the
    choice does not matter). -/
abbrev VO0_10 : View sig .tc .vmem S512x1024 .bf16 := (Memref.whole cc0_stg10_0 : Memref sig .tc .vmem S512x1024 .bf16).view
/-- One staging buffer of output window 11, through which its contents are stated (`View.read_writes_of_cover`: the
    choice does not matter). -/
abbrev VO0_11 : View sig .tc .vmem S512x1408 .bf16 := (Memref.whole cc0_stg11_0 : Memref sig .tc .vmem S512x1408 .bf16).view
/-- One staging buffer of output window 12, through which its contents are stated (`View.read_writes_of_cover`: the
    choice does not matter). -/
abbrev VO0_12 : View sig .tc .vmem S512x1408 .bf16 := (Memref.whole cc0_stg12_0 : Memref sig .tc .vmem S512x1408 .bf16).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1408x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1408x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1408 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1408 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S512x1024 .f32 := Memref.whole cc0_scratch0
/-- The scratch `arg15` the kernel carries between points, as a view: what it holds is stated through it. -/
abbrev VS0_0 : View sig .tc .vmem S512x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel5Ideal.Lf

end
-- ==== Proof.LfRunA.lean ====
/- One run of the body of the forward call of a feed-forward block with the loss (case A). -/
module

public import proofs.«01_k».proof.Proof.LfRuns

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 2, … 30: 16 of 32), WITH the
    proof that on whole staging memrefs — the inputs' at their contents, the outputs it leaves idle (7, 8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .f32) (harg15 : arg15.IsWhole) (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) :
    Σ' (L7 : List (View.Piece (Elt F) S512x1024 .f32)), Σ' (L8 : List (View.Piece (Elt F) S8x128 .f32)), Σ' (L9 : List (View.Piece (Elt F) S1x1024 .f32)), Σ' (L10 : List (View.Piece (Elt F) S512x1024 .bf16)), Σ' (L11 : List (View.Piece (Elt F) S512x1408 .bf16)), Σ' (L12 : List (View.Piece (Elt F) S512x1408 .bf16)), { LS0 : List (View.Piece (Elt F) S512x1024 .f32) //
      ∀ (xi7 : Vec F S512x1024 .f32) (xi8 : Vec F S8x128 .f32) (xi9 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], ?_, ?_, ?_, ?_, fun xi7 xi8 xi9 E K => ?run⟩
  case run =>
    simp only [cc0_ffn2_fwd_loss_eq_skeleton]; unfold cc0_ffn2_fwd_loss_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    iexists _; iexact HS0

end Cert.Kernel5Ideal.Lf

end
-- ==== Proof.LfRunB.lean ====
/- One run of the body of the forward call of a feed-forward block with the loss (case B). -/
module

public import proofs.«01_k».proof.Proof.LfRuns

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 taken, `scf.if` 3 not taken, `scf.if` 4 taken, `scf.if` 5 not taken: points 1), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written (10, which it reads and stores nothing into, as it was): the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .f32) (harg15 : arg15.IsWhole) (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) :
    Σ' (L7 : List (View.Piece (Elt F) S512x1024 .f32)), Σ' (L8 : List (View.Piece (Elt F) S8x128 .f32)), Σ' (L9 : List (View.Piece (Elt F) S1x1024 .f32)), Σ' (L11 : List (View.Piece (Elt F) S512x1408 .bf16)), Σ' (L12 : List (View.Piece (Elt F) S512x1408 .bf16)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo10 ∗ (∃ d, owns (c : Thread nD τ) arg13 fullShare d) ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xo10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn2_fwd_loss_eq_skeleton]; unfold cc0_ffn2_fwd_loss_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; obtain rfl := harg15.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]
    · iexists _; isplitr; · ipureintro; exact harg12.read_unread _
      iexact H10
    isplitl [H11]; · iexists _; iexact H11
    isplitl [H12]; · iexists _; iexact H12
    iexists _; iexact HS0

end Cert.Kernel5Ideal.Lf

end
-- ==== Proof.LfRunC.lean ====
/- One run of the body of the forward call of a feed-forward block with the loss (case C). -/
module

public import proofs.«01_k».proof.Proof.LfRuns

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken, `scf.if` 3 taken, `scf.if` 4 not taken, `scf.if` 5 taken: points 3, 5, … 31: 15 of 32), WITH the
    proof that on whole staging memrefs — the inputs' at their contents, the outputs it reads before covering (8, 9, 10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written (10, which it reads and stores nothing into, as it was): the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1024 .f32) (harg15 : arg15.IsWhole) (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) :
    Σ' (L7 : List (View.Piece (Elt F) S512x1024 .f32)), Σ' (L8 : List (View.Piece (Elt F) S8x128 .f32)), Σ' (L9 : List (View.Piece (Elt F) S1x1024 .f32)), Σ' (L11 : List (View.Piece (Elt F) S512x1408 .bf16)), Σ' (L12 : List (View.Piece (Elt F) S512x1408 .bf16)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9 ∗ owns (c : Thread nD τ) arg12 fullShare xo10 ∗ (∃ d, owns (c : Thread nD τ) arg13 fullShare d) ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xo10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0_ffn2_fwd_loss i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn2_fwd_loss_eq_skeleton]; unfold cc0_ffn2_fwd_loss_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg15.eq_unread hfs0
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]
    · iexists _; isplitr; · ipureintro; exact harg12.read_unread _
      iexact H10
    isplitl [H11]; · iexists _; iexact H11
    isplitl [H12]; · iexists _; iexact H12
    iexists _; iexact HS0

end Cert.Kernel5Ideal.Lf

end
-- ==== Proof.LfFrame.lean ====
/- What the forward call of a feed-forward block with the loss leaves point by point, its body obligation, its run. -/
module

public import proofs.«01_k».proof.Proof.LfRunA
public import proofs.«01_k».proof.Proof.LfRunB
public import proofs.«01_k».proof.Proof.LfRunC
public import Idealize.ShloMosaic.Lib.Claim

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S512x1024 .f32) (harg2 : arg2.IsWhole) (arg3 : Memref sig .tc .vmem S1x1024 .f32) (harg3 : arg3.IsWhole)
  (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole)
  (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole)
  (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole)
  (arg13 : Memref sig .tc .vmem S512x1408 .bf16) (harg13 : arg13.IsWhole) (arg14 : Memref sig .tc .vmem S512x1408 .bf16) (harg14 : arg14.IsWhole) (arg15 : Memref sig .tc .vmem S512x1024 .f32) (harg15 : arg15.IsWhole)
include c i arg2 harg2 arg3 harg3 arg4 harg4 arg5 harg5 arg6 harg6 arg7 harg7 arg8 harg8 arg9 harg9 arg10 harg10 arg11 harg11 arg12 harg12 arg13 harg13 arg14 harg14 arg15 harg15

/-- Case A stores nothing into output 7 (the window is idle at its points and not written back there):
    no pieces — a placeholder (junk read back) that nothing consults, since at these points the window is neither
    written back nor read at the next point (Lib/Pipeline.lean "Idle points"). -/
def out0_A_7 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) : Vec F S512x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1)

/-- Case A's pieces for output 10 tile its block (2 stores of `S512x1024`, checked by the kernel's evaluation: Lib/Ring.lean `Piece.tiledL`, linear in the pieces, through a loop's `@[irreducible]` trip theorem too), so they cover it. -/
theorem cover0_A_10 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 S512x1024.size (by sl_kernel_rfl) y

/-- What case A leaves in output 10's staging buffer: its pieces read back over junk. -/
def out0_A_10 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) : Vec F S512x1024 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1)

/-- Case A's pieces for output 11 tile its block (1 store of `S512x1408`, checked by the kernel's evaluation: Lib/Ring.lean `Piece.tiledL`, linear in the pieces, through a loop's `@[irreducible]` trip theorem too), so they cover it. -/
theorem cover0_A_11 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (y : S512x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 S512x1408.size (by sl_kernel_rfl) y

/-- What case A leaves in output 11's staging buffer: its pieces read back over junk. -/
def out0_A_11 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) : Vec F S512x1408 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1)

/-- Case A's pieces for output 12 tile its block (1 store of `S512x1408`, checked by the kernel's evaluation: Lib/Ring.lean `Piece.tiledL`, linear in the pieces, through a loop's `@[irreducible]` trip theorem too), so they cover it. -/
theorem cover0_A_12 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (y : S512x1408.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1 S512x1408.size (by sl_kernel_rfl) y

/-- What case A leaves in output 12's staging buffer: its pieces read back over junk. -/
def out0_A_12 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) : Vec F S512x1408 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1)

/-- Case A's pieces for scratch `arg15`, which the kernel carries between points, cover it: 2 pieces of `S512x1024` tiling it (Lib/Ring.lean `Piece.tiledL`). -/
theorem scover0_A_0 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.1 S512x1024.size (by sl_kernel_rfl) y

/-- What case A leaves in scratch `arg15`: its pieces read back over junk. -/
def sout0_A_0 (hc0 : cond0_0 i) (hc1 : ¬cond0_1 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.1)

/-- Case B's pieces for output 7 tile its block (1 store of `S512x1024`, checked by the kernel's evaluation: Lib/Ring.lean `Piece.tiledL`, linear in the pieces, through a loop's `@[irreducible]` trip theorem too), so they cover it. -/
theorem cover0_B_7 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).1 S512x1024.size (by sl_kernel_rfl) y

/-- What case B leaves in output 7's staging buffer: its pieces read back over junk. -/
def out0_B_7 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) : Vec F S512x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).1)

/-- Case B's pieces for output 8 tile its block (1 store of `S8x128`, checked by the kernel's evaluation: Lib/Ring.lean `Piece.tiledL`, linear in the pieces, through a loop's `@[irreducible]` trip theorem too), so they cover it. -/
theorem cover0_B_8 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.1 S8x128.size (by sl_kernel_rfl) y

/-- What case B leaves in output 8's staging buffer: its pieces read back over junk. -/
def out0_B_8 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) : Vec F S8x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.1)

/-- Case B's pieces for output 9 tile its block (1 store of `S1x1024`, checked by the kernel's evaluation: Lib/Ring.lean `Piece.tiledL`, linear in the pieces, through a loop's `@[irreducible]` trip theorem too), so they cover it. -/
theorem cover0_B_9 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.1 S1x1024.size (by sl_kernel_rfl) y

/-- What case B leaves in output 9's staging buffer: its pieces read back over junk. -/
def out0_B_9 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) : Vec F S1x1024 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.1)

/-- Case B's pieces for output 11 tile its block (1 store of `S512x1408`, checked by the kernel's evaluation: Lib/Ring.lean `Piece.tiledL`, linear in the pieces, through a loop's `@[irreducible]` trip theorem too), so they cover it. -/
theorem cover0_B_11 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) (y : S512x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.1 S512x1408.size (by sl_kernel_rfl) y

/-- What case B leaves in output 11's staging buffer: its pieces read back over junk. -/
def out0_B_11 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) : Vec F S512x1408 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.1)

/-- Case B's pieces for output 12 tile its block (1 store of `S512x1408`, checked by the kernel's evaluation: Lib/Ring.lean `Piece.tiledL`, linear in the pieces, through a loop's `@[irreducible]` trip theorem too), so they cover it. -/
theorem cover0_B_12 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) (y : S512x1408.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.2.1 S512x1408.size (by sl_kernel_rfl) y

/-- What case B leaves in output 12's staging buffer: its pieces read back over junk. -/
def out0_B_12 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) : Vec F S512x1408 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.2.1)

/-- Case B's pieces for scratch `arg15`, which the kernel carries between points, cover it: 1 piece of `S512x1024` tiling it (Lib/Ring.lean `Piece.tiledL`). -/
theorem scover0_B_0 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.2.2.1 S512x1024.size (by sl_kernel_rfl) y

/-- What case B leaves in scratch `arg15`: its pieces read back over junk. -/
def sout0_B_0 (hc0 : ¬cond0_0 i) (hc1 : cond0_1 i) (hc2 : cond0_2 i) (hc3 : ¬cond0_3 i) (hc4 : cond0_4 i) (hc5 : ¬cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo10 : Vec F S512x1024 .bf16) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0).2.2.2.2.2.1)

/-- Case C's pieces for output 7 tile its block (1 store of `S512x1024`, checked by the kernel's evaluation: Lib/Ring.lean `Piece.tiledL`, linear in the pieces, through a loop's `@[irreducible]` trip theorem too), so they cover it. -/
theorem cover0_C_7 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).1 S512x1024.size (by sl_kernel_rfl) y

/-- What case C leaves in output 7's staging buffer: its pieces read back over junk. -/
def out0_C_7 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) : Vec F S512x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).1)

/-- Case C's pieces for output 8 tile its block (1 store of `S8x128`, checked by the kernel's evaluation: Lib/Ring.lean `Piece.tiledL`, linear in the pieces, through a loop's `@[irreducible]` trip theorem too), so they cover it. -/
theorem cover0_C_8 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.1 S8x128.size (by sl_kernel_rfl) y

/-- What case C leaves in output 8's staging buffer: its pieces read back over junk. -/
def out0_C_8 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) : Vec F S8x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.1)

/-- Case C's pieces for output 9 tile its block (1 store of `S1x1024`, checked by the kernel's evaluation: Lib/Ring.lean `Piece.tiledL`, linear in the pieces, through a loop's `@[irreducible]` trip theorem too), so they cover it. -/
theorem cover0_C_9 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.1 S1x1024.size (by sl_kernel_rfl) y

/-- What case C leaves in output 9's staging buffer: its pieces read back over junk. -/
def out0_C_9 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) : Vec F S1x1024 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.1)

/-- Case C's pieces for output 11 tile its block (1 store of `S512x1408`, checked by the kernel's evaluation: Lib/Ring.lean `Piece.tiledL`, linear in the pieces, through a loop's `@[irreducible]` trip theorem too), so they cover it. -/
theorem cover0_C_11 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) (y : S512x1408.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.1 S512x1408.size (by sl_kernel_rfl) y

/-- What case C leaves in output 11's staging buffer: its pieces read back over junk. -/
def out0_C_11 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) : Vec F S512x1408 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.1)

/-- Case C's pieces for output 12 tile its block (1 store of `S512x1408`, checked by the kernel's evaluation: Lib/Ring.lean `Piece.tiledL`, linear in the pieces, through a loop's `@[irreducible]` trip theorem too), so they cover it. -/
theorem cover0_C_12 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) (y : S512x1408.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.2.1 S512x1408.size (by sl_kernel_rfl) y

/-- What case C leaves in output 12's staging buffer: its pieces read back over junk. -/
def out0_C_12 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) : Vec F S512x1408 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.2.1)

/-- Case C's pieces for scratch `arg15`, which the kernel carries between points, cover it: 1 piece of `S512x1024` tiling it (Lib/Ring.lean `Piece.tiledL`). -/
theorem scover0_C_0 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.2.2.1 S512x1024.size (by sl_kernel_rfl) y

/-- What case C leaves in scratch `arg15`: its pieces read back over junk. -/
def sout0_C_0 (hc0 : ¬cond0_0 i) (hc1 : cond0_1 i) (hc2 : ¬cond0_2 i) (hc3 : cond0_3 i) (hc4 : ¬cond0_4 i) (hc5 : cond0_5 i)
    (x0 : Vec F S512x1024 .f32) (x1 : Vec F S1x1024 .f32) (x2 : Vec F S1408x1024 .bf16) (x3 : Vec F S1408x1024 .bf16) (x4 : Vec F S1408x1024 .bf16) (x5 : Vec F S512x1024 .f32) (x6 : Vec F S1x1024 .f32) (xo8 : Vec F S8x128 .f32) (xo9 : Vec F S1x1024 .f32) (xo10 : Vec F S512x1024 .bf16) (xs0 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0).2.2.2.2.2.1)

/-! ## What the outputs hold after each point -/

end

/-- What the outputs' staging buffers and the scratch hold. -/
abbrev Left (F : FTy → Type) [FloatOps F] : Type := Vec F S512x1024 .f32 × Vec F S8x128 .f32 × Vec F S1x1024 .f32 × Vec F S512x1024 .bf16 × Vec F S512x1408 .bf16 × Vec F S512x1408 .bf16 × Vec F S512x1024 .f32

/-- A point of case A, from what the point before left. -/
def ptA (c : Dev nD) (t : Fin cfg0.N) (h0 : t.val % 2 = 0) (h1 : ¬t.val % 2 = 1) (P : Left F) : Left F :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
   P.2.1,
   P.2.2.1,
   out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
   out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
   out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))

/-- A point of case B, from what the point before left. -/
def ptB (c : Dev nD) (t : Fin cfg0.N) (h0 : ¬t.val % 2 = 0) (h1 : t.val % 2 = 1) (h2 : t.val < 2) (h3 : ¬2 ≤ t.val) (h4 : t.val < 2) (h5 : ¬2 ≤ t.val) (P : Left F) : Left F :=
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) P.2.2.2.1 P.2.2.2.2.2.2,
   out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) P.2.2.2.1 P.2.2.2.2.2.2,
   out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) P.2.2.2.1 P.2.2.2.2.2.2,
   P.2.2.2.1,
   out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) P.2.2.2.1 P.2.2.2.2.2.2,
   out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) P.2.2.2.1 P.2.2.2.2.2.2,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) P.2.2.2.1 P.2.2.2.2.2.2)

/-- A point of case C, from what the point before left. -/
def ptC (c : Dev nD) (t : Fin cfg0.N) (h0 : ¬t.val % 2 = 0) (h1 : t.val % 2 = 1) (h2 : ¬t.val < 2) (h3 : 2 ≤ t.val) (h4 : ¬t.val < 2) (h5 : 2 ≤ t.val) (P : Left F) : Left F :=
  (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) P.2.1 P.2.2.1 P.2.2.2.1 P.2.2.2.2.2.2,
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) P.2.1 P.2.2.1 P.2.2.2.1 P.2.2.2.2.2.2,
   out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) P.2.1 P.2.2.1 P.2.2.2.1 P.2.2.2.2.2.2,
   P.2.2.2.1,
   out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) P.2.1 P.2.2.1 P.2.2.2.1 P.2.2.2.2.2.2,
   out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) P.2.1 P.2.2.1 P.2.2.2.1 P.2.2.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) P.2.1 P.2.2.1 P.2.2.2.1 P.2.2.2.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Left F
  | 0, hn => ptA m c ⟨0, hn⟩ (Nat.zero_mod _) (by dsimp only; omega) (VO0_7.read (Elt F) VO0_7.junk, VO0_8.read (Elt F) VO0_8.junk, VO0_9.read (Elt F) VO0_9.junk, VO0_10.read (Elt F) VO0_10.junk, VO0_11.read (Elt F) VO0_11.junk, VO0_12.read (Elt F) VO0_12.junk, VS0_0.read (Elt F) VS0_0.junk)
  | n + 1, hn =>
    if h0 : (n + 1) % 2 = 0 then
      if h1 : (n + 1) % 2 = 1 then
        False.elim (by have hN : n + 1 < 32 := lt_of_lt_of_eq hn (show cfg0.N = 32 from N_0); omega)
      else
        ptA m c ⟨n + 1, hn⟩ h0 h1 (outsAt0 c n (Nat.lt_of_succ_lt hn))
    else
      if h1 : (n + 1) % 2 = 1 then
        if h2 : (n + 1) < 2 then
          if h3 : 2 ≤ (n + 1) then
            False.elim (by have hN : n + 1 < 32 := lt_of_lt_of_eq hn (show cfg0.N = 32 from N_0); omega)
          else
            if h4 : (n + 1) < 2 then
              if h5 : 2 ≤ (n + 1) then
                False.elim (by have hN : n + 1 < 32 := lt_of_lt_of_eq hn (show cfg0.N = 32 from N_0); omega)
              else
                ptB m c ⟨n + 1, hn⟩ h0 h1 h2 h3 h4 h5 (outsAt0 c n (Nat.lt_of_succ_lt hn))
            else
              False.elim (by have hN : n + 1 < 32 := lt_of_lt_of_eq hn (show cfg0.N = 32 from N_0); omega)
        else
          if h3 : 2 ≤ (n + 1) then
            if h4 : (n + 1) < 2 then
              False.elim (by have hN : n + 1 < 32 := lt_of_lt_of_eq hn (show cfg0.N = 32 from N_0); omega)
            else
              if h5 : 2 ≤ (n + 1) then
                ptC m c ⟨n + 1, hn⟩ h0 h1 h2 h3 h4 h5 (outsAt0 c n (Nat.lt_of_succ_lt hn))
              else
                False.elim (by have hN : n + 1 < 32 := lt_of_lt_of_eq hn (show cfg0.N = 32 from N_0); omega)
          else
            False.elim (by have hN : n + 1 < 32 := lt_of_lt_of_eq hn (show cfg0.N = 32 from N_0); omega)
      else
        False.elim (by have hN : n + 1 < 32 := lt_of_lt_of_eq hn (show cfg0.N = 32 from N_0); omega)

/-- A point of case A keeps of the point before two outputs' contents only. -/
theorem ptA_congr (c : Dev nD) (t : Fin cfg0.N) (h0 : t.val % 2 = 0) (h1 : ¬t.val % 2 = 1) (P Q : Left F) (h : P.2.1 = Q.2.1) (h' : P.2.2.1 = Q.2.2.1) :
    ptA m c t h0 h1 P = ptA m c t h0 h1 Q := by
  unfold ptA; rw [h, h']

/-- `outsAt0` at a point of case A: that case's contents, over what the point before left. -/
theorem outsAt0_A (c : Dev nD) (t : Fin cfg0.N) (h0 : t.val % 2 = 0) (h1 : ¬t.val % 2 = 1) :
    outsAt0 m c t.val t.isLt = ptA m c t h0 h1 (outsAt0 m c (t.val - 1) (Nat.lt_of_le_of_lt (Nat.sub_le _ _) t.isLt)) := by
  obtain ⟨n, hn⟩ := t
  cases n with
  | zero => exact ptA_congr m c _ _ _ _ _ rfl rfl
  | succ n => exact (dif_pos h0).trans ((dif_neg h1).trans rfl)

/-- `outsAt0` at a point of case B: that case's contents, over what the point before left. -/
theorem outsAt0_B (c : Dev nD) (t : Fin cfg0.N) (h0 : ¬t.val % 2 = 0) (h1 : t.val % 2 = 1) (h2 : t.val < 2) (h3 : ¬2 ≤ t.val) (h4 : t.val < 2) (h5 : ¬2 ≤ t.val) :
    outsAt0 m c t.val t.isLt = ptB m c t h0 h1 h2 h3 h4 h5 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans ((dif_pos h4).trans ((dif_neg h5).trans rfl)))))

/-- `outsAt0` at a point of case C: that case's contents, over what the point before left. -/
theorem outsAt0_C (c : Dev nD) (t : Fin cfg0.N) (h0 : ¬t.val % 2 = 0) (h1 : t.val % 2 = 1) (h2 : ¬t.val < 2) (h3 : 2 ≤ t.val) (h4 : ¬t.val < 2) (h5 : 2 ≤ t.val) :
    outsAt0 m c t.val t.isLt = ptC m c t h0 h1 h2 h3 h4 h5 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans ((dif_pos h5).trans rfl)))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
    | ⟨12, _⟩ => (outsAt0 m c t.val t.isLt).2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]
theorem after0_12 (c : Dev nD) (t : Fin cfg0.N) : (dats m 0 c).after 12 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 32 := lt_of_lt_of_eq t.isLt (show cfg0.N = 32 from N_0)
  rw [after0_8, after0_8]
  by_cases h0 : t.val % 2 = 0
  · by_cases h1 : t.val % 2 = 1
    · exfalso; omega
    · rw [outsAt0_A m c t h0 h1]; unfold ptA
      dsimp only
  · by_cases h1 : t.val % 2 = 1
    · by_cases h2 : t.val < 2
      · by_cases h3 : 2 ≤ t.val
        · exfalso; omega
        · by_cases h4 : t.val < 2
          · by_cases h5 : 2 ≤ t.val
            · exfalso; omega
            · rw [liveAt0_8_B t (fun h => h0 ((hcond0_0 t).mp h)) ((hcond0_1 t).mpr h1) ((hcond0_2 t).mpr h2) (fun h => h3 ((hcond0_3 t).mp h)) ((hcond0_4 t).mpr h4) (fun h => h5 ((hcond0_5 t).mp h))] at hi
              exact absurd hi Bool.false_ne_true
          · exfalso; omega
      · by_cases h3 : 2 ≤ t.val
        · by_cases h4 : t.val < 2
          · exfalso; omega
          · by_cases h5 : 2 ≤ t.val
            · rw [liveAt0_8_C t (fun h => h0 ((hcond0_0 t).mp h)) ((hcond0_1 t).mpr h1) (fun h => h2 ((hcond0_2 t).mp h)) ((hcond0_3 t).mpr h3) (fun h => h4 ((hcond0_4 t).mp h)) ((hcond0_5 t).mpr h5)] at hi
              exact absurd hi Bool.false_ne_true
            · exfalso; omega
        · exfalso; omega
    · exfalso; omega

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 32 := lt_of_lt_of_eq t.isLt (show cfg0.N = 32 from N_0)
  rw [after0_9, after0_9]
  by_cases h0 : t.val % 2 = 0
  · by_cases h1 : t.val % 2 = 1
    · exfalso; omega
    · rw [outsAt0_A m c t h0 h1]; unfold ptA
      dsimp only
  · by_cases h1 : t.val % 2 = 1
    · by_cases h2 : t.val < 2
      · by_cases h3 : 2 ≤ t.val
        · exfalso; omega
        · by_cases h4 : t.val < 2
          · by_cases h5 : 2 ≤ t.val
            · exfalso; omega
            · rw [liveAt0_9_B t (fun h => h0 ((hcond0_0 t).mp h)) ((hcond0_1 t).mpr h1) ((hcond0_2 t).mpr h2) (fun h => h3 ((hcond0_3 t).mp h)) ((hcond0_4 t).mpr h4) (fun h => h5 ((hcond0_5 t).mp h))] at hi
              exact absurd hi Bool.false_ne_true
          · exfalso; omega
      · by_cases h3 : 2 ≤ t.val
        · by_cases h4 : t.val < 2
          · exfalso; omega
          · by_cases h5 : 2 ≤ t.val
            · rw [liveAt0_9_C t (fun h => h0 ((hcond0_0 t).mp h)) ((hcond0_1 t).mpr h1) (fun h => h2 ((hcond0_2 t).mp h)) ((hcond0_3 t).mpr h3) (fun h => h4 ((hcond0_4 t).mp h)) ((hcond0_5 t).mpr h5)] at hi
              exact absurd hi Bool.false_ne_true
            · exfalso; omega
        · exfalso; omega
    · exfalso; omega
/-- Past a point of case A output 10's current staging buffer holds what that point left: it stored into the buffer, and the
    pipeline did not write it back between. -/
theorem before0_10_odd (c : Dev nD) (t : Fin cfg0.N) (h0 : ¬t.val % 2 = 0) (d) :
    (dats m 0 c).before 10 t d = (outsAt0 m c (t.val - 1) (Nat.lt_of_le_of_lt (Nat.sub_le _ _) t.isLt)).2.2.2.1 := by
  have hN : t.val < 32 := lt_of_lt_of_eq t.isLt (show cfg0.N = 32 from N_0)
  have hfl : (cfg0.win 10).flush ⟨t.val - 1, Nat.lt_of_le_of_lt (Nat.sub_le _ _) t.isLt⟩ = false :=
    Bool.eq_false_iff.mpr fun h => by have := (flush0_10 _).mp h; dsimp only at this; omega
  have hlive : cfg0.idle 10 (cfg0.grid.coords ⟨t.val - 1, Nat.lt_of_le_of_lt (Nat.sub_le _ _) t.isLt⟩) = false :=
    liveAt0_10_A ⟨t.val - 1, Nat.lt_of_le_of_lt (Nat.sub_le _ _) t.isLt⟩ ((hcond0_0 _).mpr (by dsimp only; omega))
  have hk : (dats m 0 c).before 10 t d = (dats m 0 c).kept 10 ⟨t.val - 1, Nat.lt_of_le_of_lt (Nat.sub_le _ _) t.isLt⟩ d := by
    rw [Dat.before_of_pos _ 10 t (by omega) ((cfg0.win 10).fetch_out rfl t), hfl, if_neg Bool.false_ne_true]
    unfold Dat.left; rw [hlive]
  rw [hk]
  unfold Dat.kept
  rw [Pipeline.fill_of_clip_none 10 _ (fun _ => rfl) d ((dats m 0 c).after 10 _), Window.fill_cut]
  dsimp only [dats]
/-- At a point of case C output 8's current staging buffer holds what the point before left: the buffer is not fresh
    there (`notFresh0_8_C`: stored into since the region's entry or the last write-back, carried through the points that
    leave it idle by `hcarry0_8`; Lib/Pipeline/TableIdle.lean `Dat.before_out_traj`). -/
theorem before0_8_C (c : Dev nD) (t : Fin cfg0.N) (h0 : ¬t.val % 2 = 0) (h1 : t.val % 2 = 1) (h2 : ¬t.val < 2) (h3 : 2 ≤ t.val) (h4 : ¬t.val < 2) (h5 : 2 ≤ t.val) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_C t (fun h => h0 ((hcond0_0 t).mp h)) ((hcond0_1 t).mpr h1) (fun h => h2 ((hcond0_2 t).mp h)) ((hcond0_3 t).mpr h3) (fun h => h4 ((hcond0_4 t).mp h)) ((hcond0_5 t).mpr h5)]; exact Bool.false_ne_true)]
  dsimp only [dats]
/-- At a point of case C output 9's current staging buffer holds what the point before left: the buffer is not fresh
    there (`notFresh0_9_C`: stored into since the region's entry or the last write-back, carried through the points that
    leave it idle by `hcarry0_9`; Lib/Pipeline/TableIdle.lean `Dat.before_out_traj`). -/
theorem before0_9_C (c : Dev nD) (t : Fin cfg0.N) (h0 : ¬t.val % 2 = 0) (h1 : t.val % 2 = 1) (h2 : ¬t.val < 2) (h3 : 2 ≤ t.val) (h4 : ¬t.val < 2) (h5 : 2 ≤ t.val) (d) :
    (dats m 0 c).before 9 t d = (outsAt0 m c (t.val - 1) (Nat.lt_of_le_of_lt (Nat.sub_le _ _) t.isLt)).2.2.1 := by
  rw [Dat.before_out_traj _ 9 rfl (fun _ _ => rfl) (hcarry0_9 m c) t.val t rfl d,
    if_neg (by rw [notFresh0_9_C t (fun h => h0 ((hcond0_0 t).mp h)) ((hcond0_1 t).mpr h1) (fun h => h2 ((hcond0_2 t).mp h)) ((hcond0_3 t).mpr h3) (fun h => h4 ((hcond0_4 t).mp h)) ((hcond0_5 t).mpr h5)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-! ## What the body leaves in a window that it never leaves idle -/

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leaves0_11 (c : Dev nD) (t : Fin cfg0.N) : (dats m 0 c).leavesExact 11 t = owns (c : Thread nD τ) (ms0_11 t) fullShare ((dats m 0 c).after 11 t) := by
  unfold Dat.leavesExact; rw [liveAt0_11 t]
theorem leaves0_12 (c : Dev nD) (t : Fin cfg0.N) : (dats m 0 c).leavesExact 12 t = owns (c : Thread nD τ) (ms0_12 t) fullShare ((dats m 0 c).after 12 t) := by
  unfold Dat.leavesExact; rw [liveAt0_12 t]

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  · by_cases h1 : t.val % 2 = 1
    · exfalso; omega
    · rw [leaves0_0, after0_0, leaves0_1, after0_1, leaves0_2, after0_2, leaves0_3, after0_3, leaves0_4, after0_4, leaves0_5, after0_5, leaves0_6, after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [show (dats m 0 c).leavesExact 10 t = owns (c : Thread nD τ) (ms0_10 t) fullShare ((dats m 0 c).after 10 t) from by
      unfold Dat.leavesExact; rw [liveAt0_10_A t ((hcond0_0 t).mpr h0)], after0_10]
      rw [leaves0_11, after0_11, leaves0_12, after0_12]
      by_cases hz : t.val = 0
      · rw [PhiS_castSucc m c t, PhiS_zero m c _ _ hz, PhiA0_eq]
        rw [outsAt0_A m c t h0 h1]; unfold ptA
        unfold out0_A_10 out0_A_11 out0_A_12 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        iintro ⟨H0, H1, H2, H3, H4, H5, H6, H7, H8, H9, ⟨%e10, H10⟩, ⟨%e11, H11⟩, ⟨%e12, H12⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]; unfold ptA
        unfold out0_A_10 out0_A_11 out0_A_12 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexists _; iexact HS0
        iintro ⟨H0, H1, H2, H3, H4, H5, H6, H7, H8, H9, ⟨%e10, H10⟩, ⟨%e11, H11⟩, ⟨%e12, H12⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _)
  · by_cases h1 : t.val % 2 = 1
    · by_cases h2 : t.val < 2
      · by_cases h3 : 2 ≤ t.val
        · exfalso; omega
        · by_cases h4 : t.val < 2
          · by_cases h5 : 2 ≤ t.val
            · exfalso; omega
            · rw [leaves0_0, after0_0, leaves0_1, after0_1, leaves0_2, after0_2, leaves0_3, after0_3, leaves0_4, after0_4, leaves0_5, after0_5, leaves0_6, after0_6]
              rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) ((hcond0_2 t).mpr h2) (fun h => h3 ((hcond0_3 t).mp h)) ((hcond0_4 t).mpr h4) (fun h => h5 ((hcond0_5 t).mp h))], after0_7]
              rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1) ((hcond0_2 t).mpr h2) (fun h => h3 ((hcond0_3 t).mp h)) ((hcond0_4 t).mpr h4) (fun h => h5 ((hcond0_5 t).mp h))], after0_8]
              rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) ((hcond0_2 t).mpr h2) (fun h => h3 ((hcond0_3 t).mp h)) ((hcond0_4 t).mpr h4) (fun h => h5 ((hcond0_5 t).mp h))], after0_9]
              rw [show (dats m 0 c).leavesExact 10 t = owns (c : Thread nD τ) (ms0_10 t) fullShare ((dats m 0 c).after 10 t) from by
      unfold Dat.leavesExact; rw [idleAt0_10 t (fun h => h0 ((hcond0_0 t).mp h)), flushAt0_10 t (fun h => h0 ((hcond0_0 t).mp h))], after0_10]
              rw [leaves0_11, after0_11, leaves0_12, after0_12]
              by_cases hz : t.val = 0
              · exfalso; have hN : t.val < 32 := lt_of_lt_of_eq t.isLt (show cfg0.N = 32 from N_0); omega
              · rw [PhiS_castSucc m c t, PhiS_pos m c _ _ hz]
                rw [outsAt0_B m c t h0 h1 h2 h3 h4 h5]; unfold ptB
                simp only [before0_10_odd m c t h0]
                unfold out0_B_7 out0_B_8 out0_B_9 out0_B_11 out0_B_12 sout0_B_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
                iapply ((kernelRun0_B c (grid0.coords t) _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) (iblk m c 6 t) _ _).2.2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexists _; iexact H8
                isplitl [H9]; · iexists _; iexact H9
                isplitl [H10]; · iexact H10
                isplitl [H11]; · iexists _; iexact H11
                isplitl [H12]; · iexists _; iexact H12
                isplitl [HS0]; · iexact HS0
                iintro ⟨H0, H1, H2, H3, H4, H5, H6, ⟨%e7, H7⟩, ⟨%e8, H8⟩, ⟨%e9, H9⟩, H10, ⟨%e11, H11⟩, ⟨%e12, H12⟩, ⟨%es0, HS0⟩⟩
                isplitl [HS0 Hg]
                · isplitl [HS0]
                  · unfold owns; iexists _; isplitr
                    swap; · iexact HS0
                    ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _)
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]
                · unfold owns; iexists _; isplitr
                  swap; · iexact H7
                  ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _)
                isplitl [H8]
                · unfold owns; iexists _; isplitr
                  swap; · iexact H8
                  ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _)
                isplitl [H9]
                · unfold owns; iexists _; isplitr
                  swap; · iexact H9
                  ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)
                isplitl [H10]; · iexact H10
                isplitl [H11]
                · unfold owns; iexists _; isplitr
                  swap; · iexact H11
                  ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _)
                unfold owns; iexists _; isplitr
                swap; · iexact H12
                ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _)
          · exfalso; omega
      · by_cases h3 : 2 ≤ t.val
        · by_cases h4 : t.val < 2
          · exfalso; omega
          · by_cases h5 : 2 ≤ t.val
            · rw [leaves0_0, after0_0, leaves0_1, after0_1, leaves0_2, after0_2, leaves0_3, after0_3, leaves0_4, after0_4, leaves0_5, after0_5, leaves0_6, after0_6]
              rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1) (fun h => h2 ((hcond0_2 t).mp h)) ((hcond0_3 t).mpr h3) (fun h => h4 ((hcond0_4 t).mp h)) ((hcond0_5 t).mpr h5)], after0_7]
              rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1) (fun h => h2 ((hcond0_2 t).mp h)) ((hcond0_3 t).mpr h3) (fun h => h4 ((hcond0_4 t).mp h)) ((hcond0_5 t).mpr h5)], after0_8]
              rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1) (fun h => h2 ((hcond0_2 t).mp h)) ((hcond0_3 t).mpr h3) (fun h => h4 ((hcond0_4 t).mp h)) ((hcond0_5 t).mpr h5)], after0_9]
              rw [show (dats m 0 c).leavesExact 10 t = owns (c : Thread nD τ) (ms0_10 t) fullShare ((dats m 0 c).after 10 t) from by
      unfold Dat.leavesExact; rw [idleAt0_10 t (fun h => h0 ((hcond0_0 t).mp h)), flushAt0_10 t (fun h => h0 ((hcond0_0 t).mp h))], after0_10]
              rw [leaves0_11, after0_11, leaves0_12, after0_12]
              by_cases hz : t.val = 0
              · exfalso; have hN : t.val < 32 := lt_of_lt_of_eq t.isLt (show cfg0.N = 32 from N_0); omega
              · rw [PhiS_castSucc m c t, PhiS_pos m c _ _ hz]
                rw [outsAt0_C m c t h0 h1 h2 h3 h4 h5]; unfold ptC
                simp only [before0_8_C m c t h0 h1 h2 h3 h4 h5, before0_9_C m c t h0 h1 h2 h3 h4 h5, before0_10_odd m c t h0]
                unfold out0_C_7 out0_C_8 out0_C_9 out0_C_11 out0_C_12 sout0_C_0; (try dsimp only)
                iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
                iapply ((kernelRun0_C c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) ((hcond0_5 t).mpr h5) (iblk m c 0 t) (iblk m c 1 t) (iblk m c 2 t) (iblk m c 3 t) (iblk m c 4 t) (iblk m c 5 t) (iblk m c 6 t) _ _ _ _).2.2.2.2.2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexists _; iexact H7
                isplitl [H8]; · iexact H8
                isplitl [H9]; · iexact H9
                isplitl [H10]; · iexact H10
                isplitl [H11]; · iexists _; iexact H11
                isplitl [H12]; · iexists _; iexact H12
                isplitl [HS0]; · iexact HS0
                iintro ⟨H0, H1, H2, H3, H4, H5, H6, ⟨%e7, H7⟩, ⟨%e8, H8⟩, ⟨%e9, H9⟩, H10, ⟨%e11, H11⟩, ⟨%e12, H12⟩, ⟨%es0, HS0⟩⟩
                isplitl [HS0 Hg]
                · isplitl [HS0]
                  · unfold owns; iexists _; isplitr
                    swap; · iexact HS0
                    ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _)
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]
                · unfold owns; iexists _; isplitr
                  swap; · iexact H7
                  ipureintro; exact View.read_writes_of_cover _ _ _ _ _ (cover0_C_7 c _ _ _ _ _ _ _ _ _ _ _ _ _ _ _ _ _ _ _ _ _ _ _ _ _ _ _ _ _ _ _ _ _ _ _ _ _ _ _ _ _ _ _ _ _ _)
                isplitl [H8]
                · unfold owns; iexists _; isplitr
                  swap; · iexact H8
                  ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _)
                isplitl [H9]
                · unfold owns; iexists _; isplitr
                  swap; · iexact H9
                  ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _)
                isplitl [H10]; · iexact H10
                isplitl [H11]
                · unfold owns; iexists _; isplitr
                  swap; · iexact H11
                  ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _)
                unfold owns; iexists _; isplitr
                swap; · iexact H12
                ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _)
            · exfalso; omega
        · exfalso; omega
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel5Ideal.Lf

end
-- ==== Proof.LfValue.lean ====
/- The arrays of the forward pass with the loss after the run. -/
module

public import proofs.«01_k».proof.Proof.LfFrame
public import Idealize.ShloMosaic.Lib.Pipeline.Value

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- What point `t` writes back to output 7. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- What point `t` writes back to output 8. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- What point `t` writes back to output 9. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- What point `t` writes back to output 10. -/
theorem flushed10 (c : Dev nD) (t : Fin cfg0.N) :
    (dats m 0 c).flushed 10 t = (cfg0.win 10).cut (grid0.coords t) ((outsAt0 m c t.val t.isLt).2.2.2.1) := by
  show (cfg0.win 10).cut (grid0.coords t) ((dats m 0 c).after 10 t) = _
  rw [after0_10]

/-- What point `t` writes back to output 11. -/
theorem flushed11 (c : Dev nD) (t : Fin cfg0.N) :
    (dats m 0 c).flushed 11 t = (cfg0.win 11).cut (grid0.coords t) ((outsAt0 m c t.val t.isLt).2.2.2.2.1) := by
  show (cfg0.win 11).cut (grid0.coords t) ((dats m 0 c).after 11 t) = _
  rw [after0_11]

/-- What point `t` writes back to output 12. -/
theorem flushed12 (c : Dev nD) (t : Fin cfg0.N) :
    (dats m 0 c).flushed 12 t = (cfg0.win 12).cut (grid0.coords t) ((outsAt0 m c t.val t.isLt).2.2.2.2.2.1) := by
  show (cfg0.win 12).cut (grid0.coords t) ((dats m 0 c).after 12 t) = _
  rw [after0_12]

/-- The run leaves in each output array what the points wrote back, and leaves the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_v0_4) = (dats m 0 c).arrAt 11 cfg0.N
      ∧ r.2.mem ((c : Thread nD τ).loc main_v0_5) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7,
      (h c).1 8,
      (h c).1 9,
      (h c).1 10,
      (h c).1 11,
      (h c).1 12,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Kernel5Ideal.Lf

end
-- ==== Proof.LfSpec.lean ====
/- The gated unit's forward pass with the loss, as functions of the extended reals, and the gradients of the loss. -/
module

public import proofs.«01_k».proof.Proof.FfSpec

@[expose] public section

noncomputable section

namespace Cert.LfSpec

open Idealize.ShloMosaic
open Cert.FfSpec (rr hn)
open scoped BigOperators

/-! ## The constants -/

theorem c1024 : Ideal.ofBits .f32 0x44800000#32 = ((1024 : ℝ) : EReal) := by
  simp [Ideal.ofBits, Ideal.ieee, -EReal.coe_mul]; norm_num
theorem cHalf : Ideal.ofBits .f32 0x3F000000#32 = ((2⁻¹ : ℝ) : EReal) := by
  simp [Ideal.ofBits, Ideal.ieee, -EReal.coe_mul]; norm_num
theorem cNegHalf : Ideal.ofBits .f32 0xBF000000#32 = ((-2⁻¹ : ℝ) : EReal) := by
  simp [Ideal.ofBits, Ideal.ieee, -EReal.coe_mul, -EReal.coe_neg]; norm_num
theorem cTwo : Ideal.ofBits .f32 0x40000000#32 = ((2 : ℝ) : EReal) := by
  simp [Ideal.ofBits, Ideal.ieee, -EReal.coe_mul]; norm_num
theorem cInv : Ideal.ofBits .f32 0x3A800000#32 = ((1024⁻¹ : ℝ) : EReal) := by
  simp [Ideal.ofBits, Ideal.ieee, -EReal.coe_mul]; norm_num
theorem cOne : Ideal.ofBits .f32 0x3F800000#32 = ((1 : ℝ) : EReal) := by
  rw [Ideal.ofBits_one_f32]; norm_cast
/-- The small number added to the mean square. -/
def eps : ℝ := 8796093 / 8796093022208
theorem eps_pos : 0 < eps := by unfold eps; norm_num
theorem cEps : Ideal.ofBits .f32 0x358637BD#32 = ((eps : ℝ) : EReal) := by
  unfold eps
  simp [Ideal.ofBits, Ideal.ieee, -EReal.coe_mul]; norm_num

/-! ## Reals among the extended reals -/

theorem coe_mul_add {a : ℝ} (h : 0 ≤ a) (x y : EReal) : (a : EReal) * (x + y) = a * x + a * y :=
  EReal.left_distrib_of_nonneg_of_ne_top (EReal.coe_nonneg.2 h) (EReal.coe_ne_top a) x y

theorem coe_mul_sum {a : ℝ} (h : 0 ≤ a) {ι : Type} [Fintype ι] (f : ι → EReal) : (a : EReal) * ∑ i, f i = ∑ i, (a : EReal) * f i := by
  classical
  have H : ∀ s : Finset ι, (a : EReal) * ∑ i ∈ s, f i = ∑ i ∈ s, (a : EReal) * f i := by
    intro s
    induction s using Finset.induction_on with
    | empty => simp
    | insert b s hb ih => rw [Finset.sum_insert hb, Finset.sum_insert hb, coe_mul_add h, ih]
  exact H _

/-- A real times a real times any number. -/
theorem coe_coe (a b : ℝ) (x : EReal) : (a : EReal) * ((b : EReal) * x) = ((a * b : ℝ) : EReal) * x := by
  rw [← mul_assoc, ← EReal.coe_mul]

theorem twice (x : EReal) : x + x = ((2 : ℝ) : EReal) * x := by
  induction x using EReal.rec with
  | bot => rw [EReal.coe_mul_bot_of_pos (by norm_num)]; rfl
  | top => rw [EReal.coe_mul_top_of_pos (by norm_num)]; rfl
  | coe r => rw [← EReal.coe_add, ← EReal.coe_mul, two_mul]

theorem square_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

theorem div_1024 (x : EReal) : Ideal.div x (Ideal.ofBits .f32 0x44800000#32) = ((1024⁻¹ : ℝ) : EReal) * x := by
  rw [c1024, Ideal.div_coe (by norm_num), mul_comm, one_div]

/-! ## The reciprocal root mean square -/

/-- The mean square with the small number added. -/
def ms (y : Fin 1024 → EReal) : EReal :=
  Ideal.div (∑ k, y k * y k) (Ideal.ofBits .f32 0x44800000#32) + Ideal.ofBits .f32 0x358637BD#32

theorem rr_eq (y : Fin 1024 → EReal) : rr y = Ideal.rsqrt (ms y) := rfl

/-- Either the mean square is infinite, or it is a positive real and the row is real. -/
theorem ms_cases (y : Fin 1024 → EReal) :
    ms y = ⊤ ∨ ∃ v : ℝ, 0 < v ∧ ms y = (v : EReal) ∧ ∃ Y : Fin 1024 → ℝ, ∀ k, y k = (Y k : EReal) := by
  have hn : ∀ k ∈ (Finset.univ : Finset (Fin 1024)), 0 ≤ y k * y k := fun k _ => square_nonneg (y k)
  have h0 : 0 ≤ ∑ k, y k * y k := Finset.sum_nonneg hn
  have hle : ∀ k, y k * y k ≤ ∑ l, y l * y l := fun k => Finset.single_le_sum hn (Finset.mem_univ k)
  unfold ms
  rw [div_1024, cEps]
  generalize (∑ k, y k * y k) = s at h0 hle
  induction s using EReal.rec with
  | bot => exact absurd h0 (by simp)
  | top => left; rw [EReal.coe_mul_top_of_pos (by norm_num)]; rfl
  | coe r =>
    right
    have hr : 0 ≤ r := EReal.coe_nonneg.1 h0
    refine ⟨1024⁻¹ * r + eps, by have := eps_pos; positivity, by rw [← EReal.coe_mul, ← EReal.coe_add], ?_⟩
    have hy : ∀ k, ∃ a : ℝ, y k = (a : EReal) := by
      intro k
      have h := hle k
      induction hk : y k using EReal.rec with
      | bot => rw [hk, EReal.bot_mul_bot] at h; exact absurd h (by simp)
      | top => rw [hk, EReal.top_mul_top] at h; exact absurd h (by simp)
      | coe a => exact ⟨a, rfl⟩
    choose Y hY using hy
    exact ⟨Y, hY⟩

/-! ## One token -/

/-- The error of a token's normalised and weighted row. -/
def er (y t w : Fin 1024 → EReal) (k : Fin 1024) : EReal := hn y w k - t k

/-- A token's mean squared error. -/
def tl (y t w : Fin 1024 → EReal) : EReal := Ideal.div (∑ k, er y t w k * er y t w k) (Ideal.ofBits .f32 0x44800000#32)

/-- The loss's gradient in the weighted row. -/
def dd (y t w : Fin 1024 → EReal) (k : Fin 1024) : EReal := er y t w k * Ideal.ofBits .f32 0x3A800000#32

/-- A token's part of the weight's gradient. -/
def dw (y t w : Fin 1024 → EReal) (k : Fin 1024) : EReal := dd y t w k * (y k * rr y)

/-- The gradient through the normalisation: from a gradient `d` of the normalised row, the mean of its product with the row taken away. -/
def back (y d : Fin 1024 → EReal) (k : Fin 1024) : EReal :=
  rr y * (d k - y k * rr y * Ideal.div (∑ l, d l * (y l * rr y)) (Ideal.ofBits .f32 0x44800000#32))

/-- The loss's gradient in the row. -/
def dy (y t w : Fin 1024 → EReal) (k : Fin 1024) : EReal := back y (fun l => dd y t w l * w l) k

/-- The reference's multiple of the row in the gradient through the normalisation. -/
def zz (y d : Fin 1024 → EReal) : EReal :=
  Ideal.div ((∑ l, y l * d l) * (Ideal.ofBits .f32 0xBF000000#32 * Ideal.div (rr y) (ms y))) (Ideal.ofBits .f32 0x44800000#32)

/-- The reference's constants come to the kernel's one. -/
theorem dd_eq (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [div_1024, cHalf, cOne, cTwo, cInv, ← EReal.coe_mul, ← EReal.coe_mul, coe_coe, mul_comm e]
  norm_num

/-- The two forms of the gradient through the normalisation are equal, whatever the gradient `d`. -/
theorem back_eq (y d : Fin 1024 → EReal) (k : Fin 1024) :
    d k * rr y + y k * zz y d + zz y d * y k = back y d k := by
  unfold back zz
  rcases ms_cases y with h | ⟨v, hv, h, Y, hY⟩
  · have hr : rr y = 0 := by rw [rr_eq, h, Ideal.rsqrt_top]
    have hz : Ideal.div (0 : EReal) ⊤ = 0 := by simp [Ideal.div]
    rw [h, hr, hz, div_1024]
    simp
  · have hr : rr y = (((√v)⁻¹ : ℝ) : EReal) := by
      rw [rr_eq, h, Ideal.rsqrt_coe, if_neg (not_lt.2 hv.le), if_neg hv.ne']
    have hp : 0 < (√v)⁻¹ := inv_pos.2 (Real.sqrt_pos.2 hv)
    have hq : (√v)⁻¹ * (1 / v) = (√v)⁻¹ * (√v)⁻¹ * (√v)⁻¹ := by
      have : (√v)⁻¹ * (√v)⁻¹ = 1 / v := by rw [← mul_inv, Real.mul_self_sqrt hv.le, one_div]
      rw [mul_assoc, this]
    have hS : (∑ l, d l * (y l * rr y)) = (((√v)⁻¹ : ℝ) : EReal) * ∑ l, y l * d l := by
      rw [coe_mul_sum hp.le]
      refine Finset.sum_congr rfl fun l _ => ?_
      rw [hr, mul_comm (y l), mul_comm (d l), mul_assoc]
    rw [hS, h, hr, Ideal.div_coe hv.ne', ← EReal.coe_mul, hq]
    generalize (√v)⁻¹ = r at hp
    generalize (∑ l, y l * d l) = S
    rw [hY k, div_1024, div_1024, cNegHalf, ← EReal.coe_mul, mul_comm S, mul_comm (((1024⁻¹ : ℝ) : EReal) * _) ((Y k : ℝ) : EReal),
      add_assoc, twice, sub_eq_add_neg, coe_mul_add hp.le, mul_neg, mul_comm (d k), ← EReal.coe_mul]
    simp only [coe_coe, ← neg_mul, ← EReal.coe_neg]
    congr 3
    ring

/-! ## The argument arrays -/

/-- The argument arrays. -/
structure Args extends FfSpec.Args where
  tgt : Fin 8192 → Fin 1024 → EReal
  fnw : Fin 1024 → EReal

namespace Args
variable (R : Args)

/-- Row `p` of block `s` of the tokens. -/
def tok (s : Fin 16) (p : Fin 512) : Fin 8192 := ⟨s.val * 512 + p.val, by omega⟩

def tlA (n : Fin 8192) : EReal := tl (R.yA n) (R.tgt n) R.fnw
def dyA (n : Fin 8192) (k : Fin 1024) : EReal := dy (R.yA n) (R.tgt n) R.fnw k
def dwA (n : Fin 8192) (k : Fin 1024) : EReal := dw (R.yA n) (R.tgt n) R.fnw k
/-- The loss. -/
def lossA : EReal := Ideal.ofBits .f32 0x3F000000#32 * ∑ n, R.tlA n
/-- The weight's gradient. -/
def dfnA (k : Fin 1024) : EReal := ∑ n, R.dwA n k
/-- A block's part of the loss. -/
def lossB (s : Fin 16) : EReal := Ideal.ofBits .f32 0x3F000000#32 * ∑ p, R.tlA (tok s p)

theorem loss_tiles : R.lossA = ∑ s : Fin 16, R.lossB s := by
  unfold lossA lossB
  rw [cHalf, ← coe_mul_sum (by norm_num)]
  exact congrArg _ (Fin.sum_univ_tiles 16 512 rfl _)

theorem dfn_tiles (k : Fin 1024) : R.dfnA k = ∑ s : Fin 16, ∑ p : Fin 512, R.dwA (tok s p) k :=
  Fin.sum_univ_tiles 16 512 rfl _

end Args

end Cert.LfSpec

end
-- ==== Proof.LfPay.lean ====
/- What one grid point of the forward pass with the loss computes, at an index. -/
module

public import proofs.«01_k».proof.Proof.Gen.Kernel5Ideal.Skeleton
public import proofs.«01_k».proof.Proof.LfSpec

@[expose] public section

set_option maxRecDepth 16384

noncomputable section

namespace Cert.Kernel5Ideal.Lf

open Cert.Kernel5Ideal Cert.Kernel5Ideal.Gen
open Idealize.ShloMosaic Idealize.ShloMosaic.TcCoe
open scoped BigOperators

variable {X A Y T : Fin 512 → Fin 1024 → EReal} {H : Fin 512 → Fin 1024 → EReal} {WD WG WU : Fin 1408 → Fin 1024 → EReal} {NW W : Fin 1024 → EReal}
variable {x acc tg : Vec Ideal S512x1024 .f32} {h : Vec Ideal S512x1024 .bf16} {wd wg wu : Vec Ideal S1408x1024 .bf16} {nw w : Vec Ideal S1x1024 .f32}

/-- A column broadcast along the rows, at an index. -/
theorem bcCol (v : FVec Ideal S512x1 .f32) (h) (p : Fin 512) (k : Fin 1024) :
    broadcastTo S512x1024 v h (ix2 p k) = v (ix2 p 0) := by
  refine congrArg v (funext fun a => ?_)
  match a with
  | ⟨0, _⟩ => rfl
  | ⟨1, _⟩ => rfl

/-- A row broadcast along the columns, at an index. -/
theorem bcRow (v : FVec Ideal S1x1024 .f32) (h) (p : Fin 512) (k : Fin 1024) :
    broadcastTo S512x1024 v h (ix2 p k) = v (ix2 0 k) := by
  refine congrArg v (funext fun a => ?_)
  match a with
  | ⟨0, _⟩ => rfl
  | ⟨1, _⟩ => rfl

/-- A single number broadcast, at an index. -/
theorem bcOne (v : FVec Ideal S1x1 .f32) (h) (p : Fin 8) (k : Fin 128) :
    broadcastTo S8x128 v h (ix2 p k) = v (ix2 0 0) := by
  refine congrArg v (funext fun a => ?_)
  match a with
  | ⟨0, _⟩ => rfl
  | ⟨1, _⟩ => rfl

/-! ## The unit -/

theorem pay6_val (hx : ∀ p k, x (ix2 p k) = X p k) (ha : ∀ p k, acc (ix2 p k) = A p k) (p : Fin 512) (k : Fin 1024) :
    k0_pay6 x acc (ix2 p k) = FfSpec.yy (X p k) (A p k) := by
  unfold k0_pay6
  simp only [pointwise]
  rw [hx, ha]
  rfl

theorem pay13_val (hx : ∀ p k, x (ix2 p k) = X p k) (hw : ∀ k, nw (ix2 0 k) = NW k) (p : Fin 512) (k : Fin 1024) :
    k0_pay13 x nw (ix2 p k) = FfSpec.hn (X p) NW k := by
  unfold k0_pay13
  simp only [↓bcCol, ↓bcRow, pointwise]
  simp only [hx, hw]
  rfl

theorem pay14_val (p : Fin 512) (k : Fin 1024) : k0_pay14 (F := Ideal) (ix2 p k) = (0 : EReal) := by
  unfold k0_pay14
  simp only [pointwise]

theorem pay16_val (hh : ∀ p k, h (ix2 p k) = H p k) (hg : ∀ f k, wg (ix2 f k) = WG f k) (p : Fin 512) (f : Fin 1408) :
    k0_pay16 h wg (ix2 p f) = FfSpec.pr (H p) (WG f) := by
  unfold k0_pay16 k0_pay15
  simp only [pointwise]
  simp only [hh, hg, zero_add]
  rfl

theorem pay17_val (hh : ∀ p k, h (ix2 p k) = H p k) (hg : ∀ f k, wg (ix2 f k) = WG f k) (p : Fin 512) (f : Fin 1408) :
    k0_pay17 h wg (ix2 p f) = FfSpec.pr (H p) (WG f) := by
  unfold k0_pay17 k0_pay15
  simp only [pointwise]
  simp only [hh, hg, zero_add]
  rfl

theorem pay18_val (hh : ∀ p k, h (ix2 p k) = H p k) (hg : ∀ f k, wg (ix2 f k) = WG f k) (p : Fin 512) (f : Fin 1408) :
    k0_pay18 h wg (ix2 p f) = FfSpec.pr (H p) (WG f) := by
  unfold k0_pay18
  simp only [pointwise]
  exact pay16_val hh hg p f

theorem pay19_val (hh : ∀ p k, h (ix2 p k) = H p k) (hg : ∀ f k, wg (ix2 f k) = WG f k) (p : Fin 512) (f : Fin 1408) :
    k0_pay19 h wg (ix2 p f) = FfSpec.pr (H p) (WG f) := by
  unfold k0_pay19
  simp only [pointwise]
  exact pay17_val hh hg p f

theorem pay20_val (hh : ∀ p k, h (ix2 p k) = H p k) (hg : ∀ f k, wg (ix2 f k) = WG f k) (hu : ∀ f k, wu (ix2 f k) = WU f k)
    (ha : ∀ p k, acc (ix2 p k) = A p k) (hd : ∀ f k, wd (ix2 f k) = WD f k) (p : Fin 512) (k : Fin 1024) :
    k0_pay20 h wg wu acc wd (ix2 p k) = A p k + ∑ f, FfSpec.act (FfSpec.pr (H p) (WG f)) (FfSpec.pr (H p) (WU f)) * WD f k := by
  unfold k0_pay20
  simp only [pointwise]
  simp only [pay16_val hh hg, pay17_val hh hu, ha, hd, zero_add, zero_sub]
  rfl

/-! ## The loss and its gradients, from the rows `Y` that the unit gives -/

theorem pay7_val (hy : ∀ p k, k0_pay6 x acc (ix2 p k) = Y p k) (p : Fin 512) : k0_pay7 x acc (ix2 p 0) = FfSpec.rr (Y p) := by
  unfold k0_pay7
  simp only [pointwise]
  simp only [hy]
  rfl

theorem pay8_val (hy : ∀ p k, k0_pay6 x acc (ix2 p k) = Y p k) (p : Fin 512) (k : Fin 1024) :
    k0_pay8 x acc (ix2 p k) = Y p k * FfSpec.rr (Y p) := by
  unfold k0_pay8
  simp only [↓bcCol, pointwise]
  rw [hy, pay7_val hy]

theorem pay9_val (hy : ∀ p k, k0_pay6 x acc (ix2 p k) = Y p k) (hw : ∀ k, w (ix2 0 k) = W k) (ht : ∀ p k, tg (ix2 p k) = T p k) (p : Fin 512) (k : Fin 1024) :
    k0_pay9 x acc w tg (ix2 p k) = LfSpec.er (Y p) (T p) W k := by
  unfold k0_pay9
  simp only [↓bcRow, pointwise]
  rw [pay8_val hy, hw, ht]
  rfl

theorem pay10_val (hy : ∀ p k, k0_pay6 x acc (ix2 p k) = Y p k) (hw : ∀ k, w (ix2 0 k) = W k) (ht : ∀ p k, tg (ix2 p k) = T p k) :
    k0_pay10 x acc w tg (ix2 0 0) = Ideal.ofBits .f32 0x3F000000#32 * ∑ p, LfSpec.tl (Y p) (T p) W := by
  unfold k0_pay10
  simp only [pointwise]
  simp only [pay9_val hy hw ht]
  rfl

theorem pay11_val (hy : ∀ p k, k0_pay6 x acc (ix2 p k) = Y p k) (hw : ∀ k, w (ix2 0 k) = W k) (ht : ∀ p k, tg (ix2 p k) = T p k) (p : Fin 512) (k : Fin 1024) :
    k0_pay11 x acc w tg (ix2 p k) = LfSpec.dd (Y p) (T p) W k := by
  unfold k0_pay11
  simp only [pointwise]
  rw [pay9_val hy hw ht]
  rfl

theorem out7_val (hy : ∀ p k, k0_pay6 x acc (ix2 p k) = Y p k) (hw : ∀ k, w (ix2 0 k) = W k) (ht : ∀ p k, tg (ix2 p k) = T p k) (p : Fin 512) (k : Fin 1024) :
    k0_pay1 (k0_pay7 x acc) (k0_pay12 x acc w tg) (ix2 p k) = LfSpec.dy (Y p) (T p) W k := by
  unfold k0_pay1 k0_pay12
  simp only [↓bcCol, ↓bcRow, pointwise]
  simp only [pay11_val hy hw ht, pay8_val hy, pay7_val hy, hw]
  rfl

theorem out9_val (hy : ∀ p k, k0_pay6 x acc (ix2 p k) = Y p k) (hw : ∀ k, w (ix2 0 k) = W k) (ht : ∀ p k, tg (ix2 p k) = T p k) (k : Fin 1024) :
    k0_pay2 (k0_pay8 x acc) (k0_pay11 x acc w tg) (ix2 0 k) = ∑ p, LfSpec.dw (Y p) (T p) W k := by
  unfold k0_pay2
  simp only [pointwise]
  simp only [pay11_val hy hw ht, pay8_val hy]
  rfl

theorem pay3_val (v : FVec Ideal S1x1 .f32) (a : Fin 8) (b : Fin 128) : k0_pay3 v (ix2 a b) = v (ix2 0 0) := by
  unfold k0_pay3
  simp only [↓bcOne, pointwise]

theorem pay4_val (v : FVec Ideal S1x1 .f32) (u : Vec Ideal S8x128 .f32) (a : Fin 8) (b : Fin 128) :
    k0_pay4 v u (ix2 a b) = (u (ix2 a b) + v (ix2 0 0) : EReal) := by
  unfold k0_pay4
  simp only [pointwise]
  rw [pay3_val]

theorem pay5_val (v u : FVec Ideal S512x1024 .f32) (s : Vec Ideal S1x1024 .f32) (k : Fin 1024) :
    k0_pay5 v u s (ix2 0 k) = (s (ix2 0 k) + k0_pay2 v u (ix2 0 k) : EReal) := by
  unfold k0_pay5
  simp only [pointwise]

end Cert.Kernel5Ideal.Lf

end
-- ==== Proof.LfOut.lean ====
/- What a grid point of the forward pass with the loss leaves in each output block. -/
module

public import proofs.«01_k».proof.Proof.LfValue
public import proofs.«01_k».proof.Proof.LfPay
public import Idealize.ShloMosaic.Lib.VecWindow

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.ShloMosaic.Pipeline (Dat Cfg Window BodyObligation cellOf)
open scoped BigOperators

/-- The rectangle of the whole block keeps every index. -/
theorem emb_whole {n0 n1 : ℕ} (h) (x : (⟨2, ![n0, n1]⟩ : Shape).Idx) :
    (Rect.unit (s := ⟨2, ![n0, n1]⟩) ![0, 0] ![n0, n1] h).emb x = x := by
  funext a
  apply Fin.ext
  match a with
  | ⟨0, _⟩ => show 0 + 1 * (x 0).val = (x 0).val; omega
  | ⟨1, _⟩ => show 0 + 1 * (x 1).val = (x 1).val; omega

/-- A whole block loaded is the block. -/
theorem ld_whole {n0 n1 : ℕ} {e : EltTy} (v : Vec Ideal ⟨2, ![n0, n1]⟩ e) (h) :
    View.ld v (Rect.unit (s := ⟨2, ![n0, n1]⟩) ![0, 0] ![n0, n1] h) = v := by
  funext x
  exact congrArg v (emb_whole h x)

variable (c : Dev nD) (i : grid0.Coords) (arg2 : Memref sig .tc .vmem S512x1024 .f32) (harg2 : arg2.IsWhole) (arg3 : Memref sig .tc .vmem S1x1024 .f32) (harg3 : arg3.IsWhole)
  (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole)
  (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole)
  (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole)
  (arg13 : Memref sig .tc .vmem S512x1408 .bf16) (harg13 : arg13.IsWhole) (arg14 : Memref sig .tc .vmem S512x1408 .bf16) (harg14 : arg14.IsWhole) (arg15 : Memref sig .tc .vmem S512x1024 .f32) (harg15 : arg15.IsWhole)
variable (x0 : Vec Ideal S512x1024 .f32) (x1 : Vec Ideal S1x1024 .f32) (x2 x3 x4 : Vec Ideal S1408x1024 .bf16) (x5 : Vec Ideal S512x1024 .f32) (x6 : Vec Ideal S1x1024 .f32)
  (xo8 : Vec Ideal S8x128 .f32) (xo9 : Vec Ideal S1x1024 .f32) (xo10 : Vec Ideal S512x1024 .bf16) (xs0 : Vec Ideal S512x1024 .f32)

/-- Output 10 in case A: the normalised rows. -/
theorem out_A_10 (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay13 x0 x1 := by
  unfold out0_A_10
  unfold kernelRun0_A
  dsimp only
  unfold kernelRun0_A.sl.H10_1
  rw [View.read_writes_full]
  simp only [kernelRun0_A.sl.v3, kernelRun0_A.sl.v22, kernelRun0_A.sl.H10_1, kernelRun0_A.sl.HS0_1, View.readCov_cons_toLoadRect, View.readAt_eq_ld, Memref.IsWhole.read_unread, ld_whole]

/-- Output 11 in case A: the gate. -/
theorem out_A_11 (hc0 : cond0_0 i) (hc1 : ¬cond0_1 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay18 (k0_pay13 x0 x1) x2 := by
  unfold out0_A_11
  unfold kernelRun0_A
  dsimp only
  rw [View.read_writes_full]
  simp only [kernelRun0_A.sl.v3, kernelRun0_A.sl.v22, kernelRun0_A.sl.H10_1, kernelRun0_A.sl.HS0_1, View.readCov_cons_toLoadRect, View.readAt_eq_ld, Memref.IsWhole.read_unread, ld_whole]

/-- Output 12 in case A: the other factor. -/
theorem out_A_12 (hc0 : cond0_0 i) (hc1 : ¬cond0_1 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay19 (k0_pay13 x0 x1) x3 := by
  unfold out0_A_12
  unfold kernelRun0_A
  dsimp only
  rw [View.read_writes_full]
  simp only [kernelRun0_A.sl.v3, kernelRun0_A.sl.v22, kernelRun0_A.sl.H10_1, kernelRun0_A.sl.HS0_1, View.readCov_cons_toLoadRect, View.readAt_eq_ld, Memref.IsWhole.read_unread, ld_whole]

/-- The scratch in case A: the sum so far. -/
theorem out_A_s0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay20 (k0_pay13 x0 x1) x2 x3 (k0_pay14 (F := Ideal)) x4 := by
  unfold sout0_A_0
  unfold kernelRun0_A
  dsimp only
  rw [View.read_writes_full]
  simp only [kernelRun0_A.sl.v3, kernelRun0_A.sl.v22, kernelRun0_A.sl.H10_1, kernelRun0_A.sl.HS0_1, View.readCov_cons_toLoadRect, View.readAt_eq_ld, Memref.IsWhole.read_unread, ld_whole]

/-- Output 7 in case B: the gradient in the rows. -/
theorem out_B_7 (hc0 : ¬cond0_0 i) (hc1 : cond0_1 i) (hc2 : cond0_2 i) (hc3 : ¬cond0_3 i) (hc4 : cond0_4 i) (hc5 : ¬cond0_5 i) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0 = k0_pay1 (k0_pay7 x0 (k0_pay20 xo10 x2 x3 xs0 x4)) (k0_pay12 x0 (k0_pay20 xo10 x2 x3 xs0 x4) x6 x5) := by
  unfold out0_B_7
  unfold kernelRun0_B
  dsimp only
  rw [View.read_writes_full]
  simp only [kernelRun0_B.sl.v34, kernelRun0_B.sl.HS0_1, kernelRun0_B.sl.r, kernelRun0_B.sl.r_1, kernelRun0_B.sl.r_2, kernelRun0_B.sl.r_3, kernelRun0_B.sl.r_4, View.readCov_cons_toLoadRect, View.readAt_eq_ld, Memref.IsWhole.read_unread, ld_whole]

/-- Output 8 in case B: the loss so far. -/
theorem out_B_8 (hc0 : ¬cond0_0 i) (hc1 : cond0_1 i) (hc2 : cond0_2 i) (hc3 : ¬cond0_3 i) (hc4 : cond0_4 i) (hc5 : ¬cond0_5 i) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0 = k0_pay3 (k0_pay10 x0 (k0_pay20 xo10 x2 x3 xs0 x4) x6 x5) := by
  unfold out0_B_8
  unfold kernelRun0_B
  dsimp only
  rw [View.read_writes_full]
  simp only [kernelRun0_B.sl.v34, kernelRun0_B.sl.HS0_1, kernelRun0_B.sl.r, kernelRun0_B.sl.r_1, kernelRun0_B.sl.r_2, kernelRun0_B.sl.r_3, kernelRun0_B.sl.r_4, View.readCov_cons_toLoadRect, View.readAt_eq_ld, Memref.IsWhole.read_unread, ld_whole]

/-- Output 9 in case B: the last weight's gradient so far. -/
theorem out_B_9 (hc0 : ¬cond0_0 i) (hc1 : cond0_1 i) (hc2 : cond0_2 i) (hc3 : ¬cond0_3 i) (hc4 : cond0_4 i) (hc5 : ¬cond0_5 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0 = k0_pay2 (k0_pay8 x0 (k0_pay20 xo10 x2 x3 xs0 x4)) (k0_pay11 x0 (k0_pay20 xo10 x2 x3 xs0 x4) x6 x5) := by
  unfold out0_B_9
  unfold kernelRun0_B
  dsimp only
  rw [View.read_writes_full]
  simp only [kernelRun0_B.sl.v34, kernelRun0_B.sl.HS0_1, kernelRun0_B.sl.r, kernelRun0_B.sl.r_1, kernelRun0_B.sl.r_2, kernelRun0_B.sl.r_3, kernelRun0_B.sl.r_4, View.readCov_cons_toLoadRect, View.readAt_eq_ld, Memref.IsWhole.read_unread, ld_whole]

/-- Output 11 in case B: the gate. -/
theorem out_B_11 (hc0 : ¬cond0_0 i) (hc1 : cond0_1 i) (hc2 : cond0_2 i) (hc3 : ¬cond0_3 i) (hc4 : cond0_4 i) (hc5 : ¬cond0_5 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0 = k0_pay18 xo10 x2 := by
  unfold out0_B_11
  unfold kernelRun0_B
  dsimp only
  rw [View.read_writes_full]
  simp only [kernelRun0_B.sl.v34, kernelRun0_B.sl.HS0_1, kernelRun0_B.sl.r, kernelRun0_B.sl.r_1, kernelRun0_B.sl.r_2, kernelRun0_B.sl.r_3, kernelRun0_B.sl.r_4, View.readCov_cons_toLoadRect, View.readAt_eq_ld, Memref.IsWhole.read_unread, ld_whole]

/-- Output 12 in case B: the other factor. -/
theorem out_B_12 (hc0 : ¬cond0_0 i) (hc1 : cond0_1 i) (hc2 : cond0_2 i) (hc3 : ¬cond0_3 i) (hc4 : cond0_4 i) (hc5 : ¬cond0_5 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo10 xs0 = k0_pay19 xo10 x3 := by
  unfold out0_B_12
  unfold kernelRun0_B
  dsimp only
  rw [View.read_writes_full]
  simp only [kernelRun0_B.sl.v34, kernelRun0_B.sl.HS0_1, kernelRun0_B.sl.r, kernelRun0_B.sl.r_1, kernelRun0_B.sl.r_2, kernelRun0_B.sl.r_3, kernelRun0_B.sl.r_4, View.readCov_cons_toLoadRect, View.readAt_eq_ld, Memref.IsWhole.read_unread, ld_whole]

/-- Output 7 in case C: the gradient in the rows. -/
theorem out_C_7 (hc0 : ¬cond0_0 i) (hc1 : cond0_1 i) (hc2 : ¬cond0_2 i) (hc3 : cond0_3 i) (hc4 : ¬cond0_4 i) (hc5 : cond0_5 i) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0 = k0_pay1 (k0_pay7 x0 (k0_pay20 xo10 x2 x3 xs0 x4)) (k0_pay12 x0 (k0_pay20 xo10 x2 x3 xs0 x4) x6 x5) := by
  unfold out0_C_7
  unfold kernelRun0_C
  dsimp only
  rw [View.read_writes_full]
  simp only [kernelRun0_C.sl.v34, kernelRun0_C.sl.HS0_1, kernelRun0_C.sl.r, kernelRun0_C.sl.r_1, kernelRun0_C.sl.r_2, kernelRun0_C.sl.r_3, kernelRun0_C.sl.r_4, View.readCov_cons_toLoadRect, View.readAt_eq_ld, Memref.IsWhole.read_unread, ld_whole]

/-- Output 8 in case C: the loss so far. -/
theorem out_C_8 (hc0 : ¬cond0_0 i) (hc1 : cond0_1 i) (hc2 : ¬cond0_2 i) (hc3 : cond0_3 i) (hc4 : ¬cond0_4 i) (hc5 : cond0_5 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0 = k0_pay4 (k0_pay10 x0 (k0_pay20 xo10 x2 x3 xs0 x4) x6 x5) xo8 := by
  unfold out0_C_8
  unfold kernelRun0_C
  dsimp only
  rw [View.read_writes_full]
  simp only [kernelRun0_C.sl.v34, kernelRun0_C.sl.HS0_1, kernelRun0_C.sl.r, kernelRun0_C.sl.r_1, kernelRun0_C.sl.r_2, kernelRun0_C.sl.r_3, kernelRun0_C.sl.r_4, View.readCov_cons_toLoadRect, View.readAt_eq_ld, Memref.IsWhole.read_unread, ld_whole]

/-- Output 9 in case C: the last weight's gradient so far. -/
theorem out_C_9 (hc0 : ¬cond0_0 i) (hc1 : cond0_1 i) (hc2 : ¬cond0_2 i) (hc3 : cond0_3 i) (hc4 : ¬cond0_4 i) (hc5 : cond0_5 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0 = k0_pay5 (k0_pay8 x0 (k0_pay20 xo10 x2 x3 xs0 x4)) (k0_pay11 x0 (k0_pay20 xo10 x2 x3 xs0 x4) x6 x5) xo9 := by
  unfold out0_C_9
  unfold kernelRun0_C
  dsimp only
  rw [View.read_writes_full]
  simp only [kernelRun0_C.sl.v34, kernelRun0_C.sl.HS0_1, kernelRun0_C.sl.r, kernelRun0_C.sl.r_1, kernelRun0_C.sl.r_2, kernelRun0_C.sl.r_3, kernelRun0_C.sl.r_4, View.readCov_cons_toLoadRect, View.readAt_eq_ld, Memref.IsWhole.read_unread, ld_whole]

/-- Output 11 in case C: the gate. -/
theorem out_C_11 (hc0 : ¬cond0_0 i) (hc1 : cond0_1 i) (hc2 : ¬cond0_2 i) (hc3 : cond0_3 i) (hc4 : ¬cond0_4 i) (hc5 : cond0_5 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0 = k0_pay18 xo10 x2 := by
  unfold out0_C_11
  unfold kernelRun0_C
  dsimp only
  rw [View.read_writes_full]
  simp only [kernelRun0_C.sl.v34, kernelRun0_C.sl.HS0_1, kernelRun0_C.sl.r, kernelRun0_C.sl.r_1, kernelRun0_C.sl.r_2, kernelRun0_C.sl.r_3, kernelRun0_C.sl.r_4, View.readCov_cons_toLoadRect, View.readAt_eq_ld, Memref.IsWhole.read_unread, ld_whole]

/-- Output 12 in case C: the other factor. -/
theorem out_C_12 (hc0 : ¬cond0_0 i) (hc1 : cond0_1 i) (hc2 : ¬cond0_2 i) (hc3 : cond0_3 i) (hc4 : ¬cond0_4 i) (hc5 : cond0_5 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xo8 xo9 xo10 xs0 = k0_pay19 xo10 x3 := by
  unfold out0_C_12
  unfold kernelRun0_C
  dsimp only
  rw [View.read_writes_full]
  simp only [kernelRun0_C.sl.v34, kernelRun0_C.sl.HS0_1, kernelRun0_C.sl.r, kernelRun0_C.sl.r_1, kernelRun0_C.sl.r_2, kernelRun0_C.sl.r_3, kernelRun0_C.sl.r_4, View.readCov_cons_toLoadRect, View.readAt_eq_ld, Memref.IsWhole.read_unread, ld_whole]

end Cert.Kernel5Ideal.Lf

end
-- ==== Proof.LfAlg.lean ====
/- The forward pass with the loss: the arrays the kernel leaves. -/
module

public import proofs.«01_k».proof.Proof.LfOut

@[expose] public section

set_option maxRecDepth 16384

noncomputable section

namespace Cert.Kernel5Ideal.Lf

open Cert.Kernel5Ideal Cert.Kernel5Ideal.Gen
open Idealize.ShloMosaic Idealize.ShloMosaic.TcCoe Idealize.ShloMosaic.Tactic
open Idealize.ShloMosaic.Pipeline (Dat Cfg Window BodyObligation cellOf)
open Cert.LfSpec (Args)
open scoped BigOperators

variable (m : (ℓ : Loc nD τ sig) → Buf (Elt Ideal) ℓ)

def arr0 (c : Dev nD) : S8192x1024.Idx → EReal := m ((c : Thread nD τ).loc main_arg0)
def arr1 (c : Dev nD) : S1x1024.Idx → EReal := m ((c : Thread nD τ).loc main_arg1)
def arr2 (c : Dev nD) : S2816x1024.Idx → EReal := m ((c : Thread nD τ).loc main_arg2)
def arr3 (c : Dev nD) : S2816x1024.Idx → EReal := m ((c : Thread nD τ).loc main_arg3)
def arr4 (c : Dev nD) : S2816x1024.Idx → EReal := m ((c : Thread nD τ).loc main_arg4)

def arr5 (c : Dev nD) : S8192x1024.Idx → EReal := m ((c : Thread nD τ).loc main_arg5)
def arr6 (c : Dev nD) : S1x1024.Idx → EReal := m ((c : Thread nD τ).loc main_arg6)

/-- The argument arrays of device `c`. -/
structure Holds (c : Dev nD) (R : Args) : Prop where
  h0 : ∀ i, arr0 m c i = R.x (i 0) (i 1)
  h1 : ∀ i, arr1 m c i = R.nw (i 1)
  h2 : ∀ i, arr2 m c i = R.wg (i 0) (i 1)
  h3 : ∀ i, arr3 m c i = R.wu (i 0) (i 1)
  h4 : ∀ i, arr4 m c i = R.wd (i 0) (i 1)
  h5 : ∀ i, arr5 m c i = R.tgt (i 0) (i 1)
  h6 : ∀ i, arr6 m c i = R.fnw (i 1)

/-- A row's index. -/
theorem eq_row (i : S1x1024.Idx) : i = ix2 (0 : Fin 1) (i 1) := by
  have h : (i 0).val < 1 := (i 0).isLt
  funext a
  apply Fin.ext
  match a with
  | ⟨0, _⟩ => show (i 0).val = 0; omega
  | ⟨1, _⟩ => rfl

theorem holds (c : Dev nD) : Holds m c ⟨⟨fun a b => arr0 m c (ix2 a b), fun b => arr1 m c (ix2 0 b), fun a b => arr2 m c (ix2 a b),
    fun a b => arr3 m c (ix2 a b), fun a b => arr4 m c (ix2 a b)⟩, fun a b => arr5 m c (ix2 a b), fun b => arr6 m c (ix2 0 b)⟩ where
  h0 i := congrArg (arr0 m c) (eq_ix2 i)
  h1 i := congrArg (arr1 m c) (eq_row i)
  h2 i := congrArg (arr2 m c) (eq_ix2 i)
  h3 i := congrArg (arr3 m c) (eq_ix2 i)
  h4 i := congrArg (arr4 m c) (eq_ix2 i)
  h5 i := congrArg (arr5 m c) (eq_ix2 i)
  h6 i := congrArg (arr6 m c) (eq_row i)

theorem lt_N (t : Fin cfg0.N) : t.val < 32 := lt_of_lt_of_eq t.isLt N_0

/-- Row `p` of the rows of point `t`. -/
def row (t : Fin cfg0.N) (p : Fin 512) : Fin 8192 := ⟨t.val / 2 * 512 + p.val, by have := lt_N t; omega⟩

/-- The block of tokens of point `t`. -/
def blk (t : Fin cfg0.N) : Fin 16 := ⟨t.val / 2, by have := lt_N t; omega⟩

/-- Row `f` of the matrices' half at point `t`. -/
def col (t : Fin cfg0.N) (f : Fin 1408) : Fin 2816 := FfSpec.Args.half ⟨t.val % 2, by omega⟩ f

theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val % 2 ∧ win0_2.index t (1 : Fin 2) = 0 :=
  (by decide +kernel : ∀ t : Fin grid0.N, _)
theorem index3 : ∀ t : Fin cfg0.N, win0_3.index t (0 : Fin 2) = t.val % 2 ∧ win0_3.index t (1 : Fin 2) = 0 :=
  (by decide +kernel : ∀ t : Fin grid0.N, _)
theorem index4 : ∀ t : Fin cfg0.N, win0_4.index t (0 : Fin 2) = t.val % 2 ∧ win0_4.index t (1 : Fin 2) = 0 :=
  (by decide +kernel : ∀ t : Fin grid0.N, _)
theorem index5 : ∀ t : Fin cfg0.N, win0_5.index t (0 : Fin 2) = t.val / 2 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val / 2 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = t.val / 2 ∧ win0_10.index t (1 : Fin 2) = 0 :=
  (by decide +kernel : ∀ t : Fin grid0.N, _)
theorem index11 : ∀ t : Fin cfg0.N, win0_11.index t (0 : Fin 2) = t.val / 2 ∧ win0_11.index t (1 : Fin 2) = t.val % 2 :=
  (by decide +kernel : ∀ t : Fin grid0.N, _)
theorem index12 : ∀ t : Fin cfg0.N, win0_12.index t (0 : Fin 2) = t.val / 2 ∧ win0_12.index t (1 : Fin 2) = t.val % 2 :=
  (by decide +kernel : ∀ t : Fin grid0.N, _)
theorem flush7 : ∀ t : Fin cfg0.N, (cfg0.win 7).flush t = true ↔ t.val % 2 = 1 :=
  (by decide +kernel : ∀ t : Fin grid0.N, _)
theorem flush8 : ∀ t : Fin cfg0.N, (cfg0.win 8).flush t = true ↔ t.val = 31 :=
  (by decide +kernel : ∀ t : Fin grid0.N, _)
theorem flush9 : ∀ t : Fin cfg0.N, (cfg0.win 9).flush t = true ↔ t.val = 31 :=
  (by decide +kernel : ∀ t : Fin grid0.N, _)
theorem flush10 : ∀ t : Fin cfg0.N, (cfg0.win 10).flush t = true ↔ t.val % 2 = 1 :=
  (by decide +kernel : ∀ t : Fin grid0.N, _)
theorem flush11 : ∀ t : Fin cfg0.N, (cfg0.win 11).flush t = true :=
  (by decide +kernel : ∀ t : Fin grid0.N, _)
theorem flush12 : ∀ t : Fin cfg0.N, (cfg0.win 12).flush t = true :=
  (by decide +kernel : ∀ t : Fin grid0.N, _)

variable {m} {c : Dev nD} {R : Args} (H : Holds m c R) (t : Fin cfg0.N)
include H

theorem iblk0_val (p : Fin 512) (k : Fin 1024) :
    (iblk m c 0 t : S512x1024.Idx → EReal) (ix2 p k) = R.x (row t p) k := by
  obtain ⟨e0, e1⟩ := index0 t
  refine Eq.trans ?_ (H.h0 (ix2 (row t p) k))
  show arr0 m c (((cfg0.win 0).blk t).view.emb (ix2 p k)) = _
  refine congrArg _ (funext fun b => ?_)
  match b with
  | ⟨0, _⟩ =>
    apply Fin.ext
    show win0_0.index t (0 : Fin 2) * 512 + 1 * p.val = t.val / 2 * 512 + p.val
    rw [e0, Nat.one_mul]
  | ⟨1, _⟩ =>
    apply Fin.ext
    show win0_0.index t (1 : Fin 2) * 1024 + 1 * k.val = k.val
    rw [e1, Nat.one_mul, Nat.zero_mul, Nat.zero_add]

theorem iblk1_val (k : Fin 1024) :
    (iblk m c 1 t : S1x1024.Idx → EReal) (ix2 0 k) = R.nw k := by
  obtain ⟨e0, e1⟩ := index1 t
  refine Eq.trans ?_ (H.h1 (ix2 0 k))
  show arr1 m c (((cfg0.win 1).blk t).view.emb (ix2 (0 : Fin 1) k)) = _
  refine congrArg _ (funext fun b => ?_)
  match b with
  | ⟨0, _⟩ =>
    apply Fin.ext
    show win0_1.index t (0 : Fin 2) * 1 + 1 * 0 = 0
    rw [e0]
  | ⟨1, _⟩ =>
    apply Fin.ext
    show win0_1.index t (1 : Fin 2) * 1024 + 1 * k.val = k.val
    rw [e1, Nat.one_mul, Nat.zero_mul, Nat.zero_add]

theorem iblk2_val (p : Fin 1408) (k : Fin 1024) :
    (iblk m c 2 t : S1408x1024.Idx → EReal) (ix2 p k) = R.wg (col t p) k := by
  obtain ⟨e0, e1⟩ := index2 t
  refine Eq.trans ?_ (H.h2 (ix2 (col t p) k))
  show arr2 m c (((cfg0.win 2).blk t).view.emb (ix2 p k)) = _
  refine congrArg _ (funext fun b => ?_)
  match b with
  | ⟨0, _⟩ =>
    apply Fin.ext
    show win0_2.index t (0 : Fin 2) * 1408 + 1 * p.val = t.val % 2 * 1408 + p.val
    rw [e0, Nat.one_mul]
  | ⟨1, _⟩ =>
    apply Fin.ext
    show win0_2.index t (1 : Fin 2) * 1024 + 1 * k.val = k.val
    rw [e1, Nat.one_mul, Nat.zero_mul, Nat.zero_add]

theorem iblk3_val (p : Fin 1408) (k : Fin 1024) :
    (iblk m c 3 t : S1408x1024.Idx → EReal) (ix2 p k) = R.wu (col t p) k := by
  obtain ⟨e0, e1⟩ := index3 t
  refine Eq.trans ?_ (H.h3 (ix2 (col t p) k))
  show arr3 m c (((cfg0.win 3).blk t).view.emb (ix2 p k)) = _
  refine congrArg _ (funext fun b => ?_)
  match b with
  | ⟨0, _⟩ =>
    apply Fin.ext
    show win0_3.index t (0 : Fin 2) * 1408 + 1 * p.val = t.val % 2 * 1408 + p.val
    rw [e0, Nat.one_mul]
  | ⟨1, _⟩ =>
    apply Fin.ext
    show win0_3.index t (1 : Fin 2) * 1024 + 1 * k.val = k.val
    rw [e1, Nat.one_mul, Nat.zero_mul, Nat.zero_add]

theorem iblk4_val (p : Fin 1408) (k : Fin 1024) :
    (iblk m c 4 t : S1408x1024.Idx → EReal) (ix2 p k) = R.wd (col t p) k := by
  obtain ⟨e0, e1⟩ := index4 t
  refine Eq.trans ?_ (H.h4 (ix2 (col t p) k))
  show arr4 m c (((cfg0.win 4).blk t).view.emb (ix2 p k)) = _
  refine congrArg _ (funext fun b => ?_)
  match b with
  | ⟨0, _⟩ =>
    apply Fin.ext
    show win0_4.index t (0 : Fin 2) * 1408 + 1 * p.val = t.val % 2 * 1408 + p.val
    rw [e0, Nat.one_mul]
  | ⟨1, _⟩ =>
    apply Fin.ext
    show win0_4.index t (1 : Fin 2) * 1024 + 1 * k.val = k.val
    rw [e1, Nat.one_mul, Nat.zero_mul, Nat.zero_add]

theorem iblk5_val (p : Fin 512) (k : Fin 1024) :
    (iblk m c 5 t : S512x1024.Idx → EReal) (ix2 p k) = R.tgt (row t p) k := by
  obtain ⟨e0, e1⟩ := index5 t
  refine Eq.trans ?_ (H.h5 (ix2 (row t p) k))
  show arr5 m c (((cfg0.win 5).blk t).view.emb (ix2 p k)) = _
  refine congrArg _ (funext fun b => ?_)
  match b with
  | ⟨0, _⟩ =>
    apply Fin.ext
    show win0_5.index t (0 : Fin 2) * 512 + 1 * p.val = t.val / 2 * 512 + p.val
    rw [e0, Nat.one_mul]
  | ⟨1, _⟩ =>
    apply Fin.ext
    show win0_5.index t (1 : Fin 2) * 1024 + 1 * k.val = k.val
    rw [e1, Nat.one_mul, Nat.zero_mul, Nat.zero_add]

theorem iblk6_val (k : Fin 1024) :
    (iblk m c 6 t : S1x1024.Idx → EReal) (ix2 0 k) = R.fnw k := by
  obtain ⟨e0, e1⟩ := index6 t
  refine Eq.trans ?_ (H.h6 (ix2 0 k))
  show arr6 m c (((cfg0.win 6).blk t).view.emb (ix2 (0 : Fin 1) k)) = _
  refine congrArg _ (funext fun b => ?_)
  match b with
  | ⟨0, _⟩ =>
    apply Fin.ext
    show win0_6.index t (0 : Fin 2) * 1 + 1 * 0 = 0
    rw [e0]
  | ⟨1, _⟩ =>
    apply Fin.ext
    show win0_6.index t (1 : Fin 2) * 1024 + 1 * k.val = k.val
    rw [e1, Nat.one_mul, Nat.zero_mul, Nat.zero_add]

omit H

/-- The sum in the scratch after a point of the second half. -/
def accB (m : (ℓ : Loc nD τ sig) → Buf (Elt Ideal) ℓ) (c : Dev nD) (t : Fin cfg0.N) : Vec Ideal S512x1024 .f32 :=
  k0_pay20 (outsAt0 m c (t.val - 1) (Nat.lt_of_le_of_lt (Nat.sub_le _ _) t.isLt)).2.2.2.1 (iblk m c 2 t) (iblk m c 3 t) (outsAt0 m c (t.val - 1) (Nat.lt_of_le_of_lt (Nat.sub_le _ _) t.isLt)).2.2.2.2.2.2 (iblk m c 4 t)

theorem outs10_A (h : t.val % 2 = 0) : (outsAt0 m c t.val t.isLt).2.2.2.1 = k0_pay13 (iblk m c 0 t) (iblk m c 1 t) := by
  rw [outsAt0_A m c t (by omega) (by omega)]
  dsimp only [ptA]
  rw [out_A_10]

theorem outs11_A (h : t.val % 2 = 0) : (outsAt0 m c t.val t.isLt).2.2.2.2.1 = k0_pay18 (k0_pay13 (iblk m c 0 t) (iblk m c 1 t)) (iblk m c 2 t) := by
  rw [outsAt0_A m c t (by omega) (by omega)]
  dsimp only [ptA]
  rw [out_A_11]

theorem outs12_A (h : t.val % 2 = 0) : (outsAt0 m c t.val t.isLt).2.2.2.2.2.1 = k0_pay19 (k0_pay13 (iblk m c 0 t) (iblk m c 1 t)) (iblk m c 3 t) := by
  rw [outsAt0_A m c t (by omega) (by omega)]
  dsimp only [ptA]
  rw [out_A_12]

theorem acc_A (h : t.val % 2 = 0) : (outsAt0 m c t.val t.isLt).2.2.2.2.2.2 = k0_pay20 (k0_pay13 (iblk m c 0 t) (iblk m c 1 t)) (iblk m c 2 t) (iblk m c 3 t) (k0_pay14 (F := Ideal)) (iblk m c 4 t) := by
  rw [outsAt0_A m c t (by omega) (by omega)]
  dsimp only [ptA]
  rw [out_A_s0]

theorem outs8_A (h : t.val % 2 = 0) : (outsAt0 m c t.val t.isLt).2.1 = (outsAt0 m c (t.val - 1) (Nat.lt_of_le_of_lt (Nat.sub_le _ _) t.isLt)).2.1 := by
  rw [outsAt0_A m c t (by omega) (by omega)]
  dsimp only [ptA]

theorem outs9_A (h : t.val % 2 = 0) : (outsAt0 m c t.val t.isLt).2.2.1 = (outsAt0 m c (t.val - 1) (Nat.lt_of_le_of_lt (Nat.sub_le _ _) t.isLt)).2.2.1 := by
  rw [outsAt0_A m c t (by omega) (by omega)]
  dsimp only [ptA]

theorem outs7_B (h : t.val % 2 = 1) : (outsAt0 m c t.val t.isLt).1 = k0_pay1 (k0_pay7 (iblk m c 0 t) (accB m c t)) (k0_pay12 (iblk m c 0 t) (accB m c t) (iblk m c 6 t) (iblk m c 5 t)) := by
  by_cases h2 : t.val < 2
  · rw [outsAt0_B m c t (by omega) (by omega) (by omega) (by omega) (by omega) (by omega)]
    dsimp only [ptB]
    rw [out_B_7, accB]
  · rw [outsAt0_C m c t (by omega) (by omega) (by omega) (by omega) (by omega) (by omega)]
    dsimp only [ptC]
    rw [out_C_7, accB]

theorem outs10_B (h : t.val % 2 = 1) : (outsAt0 m c t.val t.isLt).2.2.2.1 = (outsAt0 m c (t.val - 1) (Nat.lt_of_le_of_lt (Nat.sub_le _ _) t.isLt)).2.2.2.1 := by
  by_cases h2 : t.val < 2
  · rw [outsAt0_B m c t (by omega) (by omega) (by omega) (by omega) (by omega) (by omega)]
    dsimp only [ptB]
  · rw [outsAt0_C m c t (by omega) (by omega) (by omega) (by omega) (by omega) (by omega)]
    dsimp only [ptC]

theorem outs11_B (h : t.val % 2 = 1) : (outsAt0 m c t.val t.isLt).2.2.2.2.1 = k0_pay18 (outsAt0 m c (t.val - 1) (Nat.lt_of_le_of_lt (Nat.sub_le _ _) t.isLt)).2.2.2.1 (iblk m c 2 t) := by
  by_cases h2 : t.val < 2
  · rw [outsAt0_B m c t (by omega) (by omega) (by omega) (by omega) (by omega) (by omega)]
    dsimp only [ptB]
    rw [out_B_11]
  · rw [outsAt0_C m c t (by omega) (by omega) (by omega) (by omega) (by omega) (by omega)]
    dsimp only [ptC]
    rw [out_C_11]

theorem outs12_B (h : t.val % 2 = 1) : (outsAt0 m c t.val t.isLt).2.2.2.2.2.1 = k0_pay19 (outsAt0 m c (t.val - 1) (Nat.lt_of_le_of_lt (Nat.sub_le _ _) t.isLt)).2.2.2.1 (iblk m c 3 t) := by
  by_cases h2 : t.val < 2
  · rw [outsAt0_B m c t (by omega) (by omega) (by omega) (by omega) (by omega) (by omega)]
    dsimp only [ptB]
    rw [out_B_12]
  · rw [outsAt0_C m c t (by omega) (by omega) (by omega) (by omega) (by omega) (by omega)]
    dsimp only [ptC]
    rw [out_C_12]

theorem outs8_B (h : t.val % 2 = 1) (h2 : t.val < 2) : (outsAt0 m c t.val t.isLt).2.1 = k0_pay3 (k0_pay10 (iblk m c 0 t) (accB m c t) (iblk m c 6 t) (iblk m c 5 t)) := by
  rw [outsAt0_B m c t (by omega) (by omega) (by omega) (by omega) (by omega) (by omega)]
  dsimp only [ptB]
  rw [out_B_8, accB]

theorem outs9_B (h : t.val % 2 = 1) (h2 : t.val < 2) : (outsAt0 m c t.val t.isLt).2.2.1 = k0_pay2 (k0_pay8 (iblk m c 0 t) (accB m c t)) (k0_pay11 (iblk m c 0 t) (accB m c t) (iblk m c 6 t) (iblk m c 5 t)) := by
  rw [outsAt0_B m c t (by omega) (by omega) (by omega) (by omega) (by omega) (by omega)]
  dsimp only [ptB]
  rw [out_B_9, accB]

theorem outs8_C (h : t.val % 2 = 1) (h2 : ¬t.val < 2) : (outsAt0 m c t.val t.isLt).2.1 = k0_pay4 (k0_pay10 (iblk m c 0 t) (accB m c t) (iblk m c 6 t) (iblk m c 5 t)) (outsAt0 m c (t.val - 1) (Nat.lt_of_le_of_lt (Nat.sub_le _ _) t.isLt)).2.1 := by
  rw [outsAt0_C m c t (by omega) (by omega) (by omega) (by omega) (by omega) (by omega)]
  dsimp only [ptC]
  rw [out_C_8, accB]

theorem outs9_C (h : t.val % 2 = 1) (h2 : ¬t.val < 2) : (outsAt0 m c t.val t.isLt).2.2.1 = k0_pay5 (k0_pay8 (iblk m c 0 t) (accB m c t)) (k0_pay11 (iblk m c 0 t) (accB m c t) (iblk m c 6 t) (iblk m c 5 t)) (outsAt0 m c (t.val - 1) (Nat.lt_of_le_of_lt (Nat.sub_le _ _) t.isLt)).2.2.1 := by
  rw [outsAt0_C m c t (by omega) (by omega) (by omega) (by omega) (by omega) (by omega)]
  dsimp only [ptC]
  rw [out_C_9, accB]

/-- The point before one of the second half has the same rows. -/
theorem row_pred (h : t.val % 2 = 1) (p : Fin 512) : row ⟨t.val - 1, Nat.lt_of_le_of_lt (Nat.sub_le _ _) t.isLt⟩ p = row t p :=
  Fin.ext (by show (t.val - 1) / 2 * 512 + p.val = t.val / 2 * 512 + p.val; omega)

theorem col_zero (h : t.val % 2 = 0) (f : Fin 1408) : col t f = FfSpec.Args.half 0 f :=
  Fin.ext (by show t.val % 2 * 1408 + f.val = 0 * 1408 + f.val; rw [h])

theorem col_one (h : t.val % 2 = 1) (f : Fin 1408) : col t f = FfSpec.Args.half 1 f :=
  Fin.ext (by show t.val % 2 * 1408 + f.val = 1 * 1408 + f.val; rw [h])

include H

theorem outs10_zero (h : t.val % 2 = 0) (p : Fin 512) (k : Fin 1024) :
    ((outsAt0 m c t.val t.isLt).2.2.2.1 (ix2 p k) : EReal) = R.hA (row t p) k := by
  rw [outs10_A t h]
  exact pay13_val (iblk0_val H t) (iblk1_val H t) p k

/-- What the point before left of the normalised rows. -/
theorem prev10 (h : t.val % 2 = 1) (p : Fin 512) (k : Fin 1024) :
    ((outsAt0 m c (t.val - 1) (Nat.lt_of_le_of_lt (Nat.sub_le _ _) t.isLt)).2.2.2.1 (ix2 p k) : EReal) = R.hA (row t p) k :=
  (outs10_zero H ⟨t.val - 1, Nat.lt_of_le_of_lt (Nat.sub_le _ _) t.isLt⟩ (by show (t.val - 1) % 2 = 0; omega) p k).trans
    (by rw [row_pred t h])

theorem outs10_val (p : Fin 512) (k : Fin 1024) :
    ((outsAt0 m c t.val t.isLt).2.2.2.1 (ix2 p k) : EReal) = R.hA (row t p) k := by
  by_cases h : t.val % 2 = 0
  · exact outs10_zero H t h p k
  · rw [outs10_B t (by omega)]
    exact prev10 H t (by omega) p k

theorem outs11_val (p : Fin 512) (f : Fin 1408) :
    ((outsAt0 m c t.val t.isLt).2.2.2.2.1 (ix2 p f) : EReal) = R.gA (row t p) (col t f) := by
  by_cases h : t.val % 2 = 0
  · rw [outs11_A t h]
    exact pay18_val (pay13_val (iblk0_val H t) (iblk1_val H t)) (iblk2_val H t) p f
  · rw [outs11_B t (by omega)]
    exact pay18_val (prev10 H t (by omega)) (iblk2_val H t) p f

theorem outs12_val (p : Fin 512) (f : Fin 1408) :
    ((outsAt0 m c t.val t.isLt).2.2.2.2.2.1 (ix2 p f) : EReal) = R.uA (row t p) (col t f) := by
  by_cases h : t.val % 2 = 0
  · rw [outs12_A t h]
    exact pay19_val (pay13_val (iblk0_val H t) (iblk1_val H t)) (iblk3_val H t) p f
  · rw [outs12_B t (by omega)]
    exact pay19_val (prev10 H t (by omega)) (iblk3_val H t) p f

/-- What the first half leaves in the scratch. -/
theorem acc_zero (h : t.val % 2 = 0) (p : Fin 512) (k : Fin 1024) :
    ((outsAt0 m c t.val t.isLt).2.2.2.2.2.2 (ix2 p k) : EReal) = ∑ f, R.aA (row t p) (FfSpec.Args.half 0 f) * R.wd (FfSpec.Args.half 0 f) k := by
  rw [acc_A t h]
  refine (pay20_val (pay13_val (iblk0_val H t) (iblk1_val H t)) (iblk2_val H t) (iblk3_val H t) pay14_val (iblk4_val H t) p k).trans ?_
  rw [zero_add]
  refine Finset.sum_congr rfl fun f _ => ?_
  rw [col_zero t h]
  rfl

/-- What the point before left in the scratch. -/
theorem prevAcc (h : t.val % 2 = 1) (p : Fin 512) (k : Fin 1024) :
    ((outsAt0 m c (t.val - 1) (Nat.lt_of_le_of_lt (Nat.sub_le _ _) t.isLt)).2.2.2.2.2.2 (ix2 p k) : EReal) = ∑ f, R.aA (row t p) (FfSpec.Args.half 0 f) * R.wd (FfSpec.Args.half 0 f) k :=
  (acc_zero H ⟨t.val - 1, Nat.lt_of_le_of_lt (Nat.sub_le _ _) t.isLt⟩ (by show (t.val - 1) % 2 = 0; omega) p k).trans
    (by rw [row_pred t h])

/-- The rows that the unit gives. -/
theorem y_val (h : t.val % 2 = 1) (p : Fin 512) (k : Fin 1024) :
    k0_pay6 (iblk m c 0 t) (accB m c t) (ix2 p k) = R.yA (row t p) k := by
  refine (pay6_val (iblk0_val H t) (pay20_val (prev10 H t h) (iblk2_val H t) (iblk3_val H t) (prevAcc H t h) (iblk4_val H t)) p k).trans ?_
  unfold FfSpec.Args.yA
  rw [FfSpec.Args.sA_halves]
  refine congrArg (fun s : EReal => FfSpec.yy (R.x (row t p) k) ((∑ f, R.aA (row t p) (FfSpec.Args.half 0 f) * R.wd (FfSpec.Args.half 0 f) k) + s)) ?_
  refine Finset.sum_congr rfl fun f _ => ?_
  rw [col_one t h]
  rfl

theorem outs7_val (h : t.val % 2 = 1) (p : Fin 512) (k : Fin 1024) :
    ((outsAt0 m c t.val t.isLt).1 (ix2 p k) : EReal) = R.dyA (row t p) k := by
  rw [outs7_B t h]
  exact out7_val (y_val H t h) (iblk6_val H t) (iblk5_val H t) p k

/-- A block's part of the loss. -/
theorem part8 (h : t.val % 2 = 1) : k0_pay10 (iblk m c 0 t) (accB m c t) (iblk m c 6 t) (iblk m c 5 t) (ix2 0 0) = R.lossB (blk t) :=
  pay10_val (y_val H t h) (iblk6_val H t) (iblk5_val H t)

/-- A block's part of the last weight's gradient. -/
theorem part9 (h : t.val % 2 = 1) (k : Fin 1024) :
    k0_pay2 (k0_pay8 (iblk m c 0 t) (accB m c t)) (k0_pay11 (iblk m c 0 t) (accB m c t) (iblk m c 6 t) (iblk m c 5 t)) (ix2 0 k)
      = ∑ p, R.dwA (Args.tok (blk t) p) k :=
  out9_val (y_val H t h) (iblk6_val H t) (iblk5_val H t) k

omit H in
/-- The block of a point of the second half. -/
theorem blk_eq (n : ℕ) (hn : n < 16) (ht : t.val = 2 * n + 1) : blk t = ⟨n, hn⟩ :=
  Fin.ext (by show t.val / 2 = n; omega)

/-- The loss after the blocks up to block `n`. -/
theorem outs8_sum (a : Fin 8) (b : Fin 128) : ∀ (n : ℕ) (hn : n < 16) (t : Fin cfg0.N), t.val = 2 * n + 1 →
    ((outsAt0 m c t.val t.isLt).2.1 (ix2 a b) : EReal) = ∑ s : Fin (n + 1), R.lossB ⟨s.val, Nat.lt_of_lt_of_le s.isLt hn⟩ := by
  intro n
  induction n with
  | zero =>
    intro hn t ht
    rw [outs8_B t (by omega) (by omega), pay3_val, part8 H t (by omega), blk_eq t 0 hn ht, Fin.sum_univ_one]
    rfl
  | succ n ih =>
    intro hn t ht
    rw [outs8_C t (by omega) (by omega), pay4_val, part8 H t (by omega), blk_eq t (n + 1) hn ht]
    rw [Fin.sum_univ_castSucc (fun s : Fin (n + 1 + 1) => R.lossB ⟨s.val, Nat.lt_of_lt_of_le s.isLt hn⟩)]
    refine congrArg₂ (fun a b : EReal => a + b) ?_ rfl
    rw [outs8_A ⟨t.val - 1, Nat.lt_of_le_of_lt (Nat.sub_le _ _) t.isLt⟩ (by show (t.val - 1) % 2 = 0; omega)]
    exact ih (by omega) ⟨t.val - 1 - 1, Nat.lt_of_le_of_lt (Nat.sub_le _ _) (Nat.lt_of_le_of_lt (Nat.sub_le _ _) t.isLt)⟩
      (by show t.val - 1 - 1 = 2 * n + 1; omega)

/-- The last weight's gradient after the blocks up to block `n`. -/
theorem outs9_sum (k : Fin 1024) : ∀ (n : ℕ) (hn : n < 16) (t : Fin cfg0.N), t.val = 2 * n + 1 →
    ((outsAt0 m c t.val t.isLt).2.2.1 (ix2 0 k) : EReal) = ∑ s : Fin (n + 1), ∑ p, R.dwA (Args.tok ⟨s.val, Nat.lt_of_lt_of_le s.isLt hn⟩ p) k := by
  intro n
  induction n with
  | zero =>
    intro hn t ht
    rw [outs9_B t (by omega) (by omega), part9 H t (by omega), blk_eq t 0 hn ht, Fin.sum_univ_one]
    rfl
  | succ n ih =>
    intro hn t ht
    rw [outs9_C t (by omega) (by omega), pay5_val, part9 H t (by omega), blk_eq t (n + 1) hn ht]
    rw [Fin.sum_univ_castSucc (fun s : Fin (n + 1 + 1) => ∑ p, R.dwA (Args.tok ⟨s.val, Nat.lt_of_lt_of_le s.isLt hn⟩ p) k)]
    refine congrArg₂ (fun a b : EReal => a + b) ?_ rfl
    rw [outs9_A ⟨t.val - 1, Nat.lt_of_le_of_lt (Nat.sub_le _ _) t.isLt⟩ (by show (t.val - 1) % 2 = 0; omega)]
    exact ih (by omega) ⟨t.val - 1 - 1, Nat.lt_of_le_of_lt (Nat.sub_le _ _) (Nat.lt_of_le_of_lt (Nat.sub_le _ _) t.isLt)⟩
      (by show t.val - 1 - 1 = 2 * n + 1; omega)

/-- The array of output 7 after the run. -/
theorem final7 : ((dats m 0 c).arrAt 7 cfg0.N : S8192x1024.Idx → EReal) = fun i : S8192x1024.Idx => R.dyA (i 0) (i 1) := by
  refine (dats m 0 c).arrAt_eq_of_cover 7 _ (fun t hf => ?_) (fun i => ?_)
  · rw [flushed7]
    obtain ⟨e0, e1⟩ := index7 t
    funext y
    have hy0 : (y 0).val < 512 := (y 0).isLt
    have hy1 : (y 1).val < 1024 := (y 1).isLt
    have hb : ((cfg0.win 7).blk t).view.emb y = ix2 (row t ⟨(y 0).val, hy0⟩) ⟨(y 1).val, hy1⟩ := by
      funext a
      apply Fin.ext
      match a with
      | ⟨0, _⟩ => show win0_7.index t (0 : Fin 2) * 512 + 1 * (y 0).val = t.val / 2 * 512 + (y 0).val; omega
      | ⟨1, _⟩ => show win0_7.index t (1 : Fin 2) * 1024 + 1 * (y 1).val = (y 1).val; omega
    have hx : (cfg0.win 7).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).1 ((cfg0.win 7).xinj (grid0.coords t) y) : EReal)
      = (fun i : S8192x1024.Idx => R.dyA (i 0) (i 1)) (((cfg0.win 7).blk t).view.emb y)
    rw [hb, hx]
    exact outs7_val H t ((flush7 t).mp hf) _ _
  · have h0 : (i 0).val < 8192 := (i 0).isLt
    have h1 : (i 1).val < 1024 := (i 1).isLt
    have hN : (i 0).val / 512 * 2 + 1 < cfg0.N := lt_of_lt_of_eq (by omega) N_0.symm
    obtain ⟨e0, e1⟩ := index7 ⟨(i 0).val / 512 * 2 + 1, hN⟩
    refine ⟨⟨(i 0).val / 512 * 2 + 1, hN⟩, (flush7 _).mpr (by dsimp only; omega), ?_⟩
    show i ∈ ((View.whole main_v0_0).slice (win0_7.rect ⟨(i 0).val / 512 * 2 + 1, hN⟩)).set
    rw [View.set_slice_whole, Rect.mem_set_unit]
    dsimp only at e0 e1
    intro a
    match a with
    | ⟨0, _⟩ =>
      show win0_7.index ⟨(i 0).val / 512 * 2 + 1, hN⟩ (0 : Fin 2) * 512 ≤ (i 0).val
        ∧ (i 0).val < win0_7.index ⟨(i 0).val / 512 * 2 + 1, hN⟩ (0 : Fin 2) * 512 + 512
      rw [e0]; omega
    | ⟨1, _⟩ =>
      show win0_7.index ⟨(i 0).val / 512 * 2 + 1, hN⟩ (1 : Fin 2) * 1024 ≤ (i 1).val
        ∧ (i 1).val < win0_7.index ⟨(i 0).val / 512 * 2 + 1, hN⟩ (1 : Fin 2) * 1024 + 1024
      rw [e1]; omega

/-- The array of output 10 after the run. -/
theorem final10 : ((dats m 0 c).arrAt 10 cfg0.N : S8192x1024.Idx → EReal) = fun i : S8192x1024.Idx => R.hA (i 0) (i 1) := by
  refine (dats m 0 c).arrAt_eq_of_cover 10 _ (fun t hf => ?_) (fun i => ?_)
  · rw [flushed10]
    obtain ⟨e0, e1⟩ := index10 t
    funext y
    have hy0 : (y 0).val < 512 := (y 0).isLt
    have hy1 : (y 1).val < 1024 := (y 1).isLt
    have hb : ((cfg0.win 10).blk t).view.emb y = ix2 (row t ⟨(y 0).val, hy0⟩) ⟨(y 1).val, hy1⟩ := by
      funext a
      apply Fin.ext
      match a with
      | ⟨0, _⟩ => show win0_10.index t (0 : Fin 2) * 512 + 1 * (y 0).val = t.val / 2 * 512 + (y 0).val; omega
      | ⟨1, _⟩ => show win0_10.index t (1 : Fin 2) * 1024 + 1 * (y 1).val = (y 1).val; omega
    have hx : (cfg0.win 10).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.2.1 ((cfg0.win 10).xinj (grid0.coords t) y) : EReal)
      = (fun i : S8192x1024.Idx => R.hA (i 0) (i 1)) (((cfg0.win 10).blk t).view.emb y)
    rw [hb, hx]
    exact outs10_val H t _ _
  · have h0 : (i 0).val < 8192 := (i 0).isLt
    have h1 : (i 1).val < 1024 := (i 1).isLt
    have hN : (i 0).val / 512 * 2 + 1 < cfg0.N := lt_of_lt_of_eq (by omega) N_0.symm
    obtain ⟨e0, e1⟩ := index10 ⟨(i 0).val / 512 * 2 + 1, hN⟩
    refine ⟨⟨(i 0).val / 512 * 2 + 1, hN⟩, (flush10 _).mpr (by dsimp only; omega), ?_⟩
    show i ∈ ((View.whole main_v0_3).slice (win0_10.rect ⟨(i 0).val / 512 * 2 + 1, hN⟩)).set
    rw [View.set_slice_whole, Rect.mem_set_unit]
    dsimp only at e0 e1
    intro a
    match a with
    | ⟨0, _⟩ =>
      show win0_10.index ⟨(i 0).val / 512 * 2 + 1, hN⟩ (0 : Fin 2) * 512 ≤ (i 0).val
        ∧ (i 0).val < win0_10.index ⟨(i 0).val / 512 * 2 + 1, hN⟩ (0 : Fin 2) * 512 + 512
      rw [e0]; omega
    | ⟨1, _⟩ =>
      show win0_10.index ⟨(i 0).val / 512 * 2 + 1, hN⟩ (1 : Fin 2) * 1024 ≤ (i 1).val
        ∧ (i 1).val < win0_10.index ⟨(i 0).val / 512 * 2 + 1, hN⟩ (1 : Fin 2) * 1024 + 1024
      rw [e1]; omega

/-- The array of output 11 after the run. -/
theorem final11 : ((dats m 0 c).arrAt 11 cfg0.N : S8192x2816.Idx → EReal) = fun i : S8192x2816.Idx => R.gA (i 0) (i 1) := by
  refine (dats m 0 c).arrAt_eq_of_cover 11 _ (fun t hf => ?_) (fun i => ?_)
  · rw [flushed11]
    obtain ⟨e0, e1⟩ := index11 t
    funext y
    have hy0 : (y 0).val < 512 := (y 0).isLt
    have hy1 : (y 1).val < 1408 := (y 1).isLt
    have hb : ((cfg0.win 11).blk t).view.emb y = ix2 (row t ⟨(y 0).val, hy0⟩) (col t ⟨(y 1).val, hy1⟩) := by
      funext a
      apply Fin.ext
      match a with
      | ⟨0, _⟩ => show win0_11.index t (0 : Fin 2) * 512 + 1 * (y 0).val = t.val / 2 * 512 + (y 0).val; omega
      | ⟨1, _⟩ => show win0_11.index t (1 : Fin 2) * 1408 + 1 * (y 1).val = t.val % 2 * 1408 + (y 1).val; omega
    have hx : (cfg0.win 11).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.2.2.1 ((cfg0.win 11).xinj (grid0.coords t) y) : EReal)
      = (fun i : S8192x2816.Idx => R.gA (i 0) (i 1)) (((cfg0.win 11).blk t).view.emb y)
    rw [hb, hx]
    exact outs11_val H t _ _
  · have h0 : (i 0).val < 8192 := (i 0).isLt
    have h1 : (i 1).val < 2816 := (i 1).isLt
    have hN : (i 0).val / 512 * 2 + (i 1).val / 1408 < cfg0.N := lt_of_lt_of_eq (by omega) N_0.symm
    obtain ⟨e0, e1⟩ := index11 ⟨(i 0).val / 512 * 2 + (i 1).val / 1408, hN⟩
    refine ⟨⟨(i 0).val / 512 * 2 + (i 1).val / 1408, hN⟩, flush11 _, ?_⟩
    show i ∈ ((View.whole main_v0_4).slice (win0_11.rect ⟨(i 0).val / 512 * 2 + (i 1).val / 1408, hN⟩)).set
    rw [View.set_slice_whole, Rect.mem_set_unit]
    dsimp only at e0 e1
    intro a
    match a with
    | ⟨0, _⟩ =>
      show win0_11.index ⟨(i 0).val / 512 * 2 + (i 1).val / 1408, hN⟩ (0 : Fin 2) * 512 ≤ (i 0).val
        ∧ (i 0).val < win0_11.index ⟨(i 0).val / 512 * 2 + (i 1).val / 1408, hN⟩ (0 : Fin 2) * 512 + 512
      rw [e0]; omega
    | ⟨1, _⟩ =>
      show win0_11.index ⟨(i 0).val / 512 * 2 + (i 1).val / 1408, hN⟩ (1 : Fin 2) * 1408 ≤ (i 1).val
        ∧ (i 1).val < win0_11.index ⟨(i 0).val / 512 * 2 + (i 1).val / 1408, hN⟩ (1 : Fin 2) * 1408 + 1408
      rw [e1]; omega

/-- The array of output 12 after the run. -/
theorem final12 : ((dats m 0 c).arrAt 12 cfg0.N : S8192x2816.Idx → EReal) = fun i : S8192x2816.Idx => R.uA (i 0) (i 1) := by
  refine (dats m 0 c).arrAt_eq_of_cover 12 _ (fun t hf => ?_) (fun i => ?_)
  · rw [flushed12]
    obtain ⟨e0, e1⟩ := index12 t
    funext y
    have hy0 : (y 0).val < 512 := (y 0).isLt
    have hy1 : (y 1).val < 1408 := (y 1).isLt
    have hb : ((cfg0.win 12).blk t).view.emb y = ix2 (row t ⟨(y 0).val, hy0⟩) (col t ⟨(y 1).val, hy1⟩) := by
      funext a
      apply Fin.ext
      match a with
      | ⟨0, _⟩ => show win0_12.index t (0 : Fin 2) * 512 + 1 * (y 0).val = t.val / 2 * 512 + (y 0).val; omega
      | ⟨1, _⟩ => show win0_12.index t (1 : Fin 2) * 1408 + 1 * (y 1).val = t.val % 2 * 1408 + (y 1).val; omega
    have hx : (cfg0.win 12).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.2.2.2.2.1 ((cfg0.win 12).xinj (grid0.coords t) y) : EReal)
      = (fun i : S8192x2816.Idx => R.uA (i 0) (i 1)) (((cfg0.win 12).blk t).view.emb y)
    rw [hb, hx]
    exact outs12_val H t _ _
  · have h0 : (i 0).val < 8192 := (i 0).isLt
    have h1 : (i 1).val < 2816 := (i 1).isLt
    have hN : (i 0).val / 512 * 2 + (i 1).val / 1408 < cfg0.N := lt_of_lt_of_eq (by omega) N_0.symm
    obtain ⟨e0, e1⟩ := index12 ⟨(i 0).val / 512 * 2 + (i 1).val / 1408, hN⟩
    refine ⟨⟨(i 0).val / 512 * 2 + (i 1).val / 1408, hN⟩, flush12 _, ?_⟩
    show i ∈ ((View.whole main_v0_5).slice (win0_12.rect ⟨(i 0).val / 512 * 2 + (i 1).val / 1408, hN⟩)).set
    rw [View.set_slice_whole, Rect.mem_set_unit]
    dsimp only at e0 e1
    intro a
    match a with
    | ⟨0, _⟩ =>
      show win0_12.index ⟨(i 0).val / 512 * 2 + (i 1).val / 1408, hN⟩ (0 : Fin 2) * 512 ≤ (i 0).val
        ∧ (i 0).val < win0_12.index ⟨(i 0).val / 512 * 2 + (i 1).val / 1408, hN⟩ (0 : Fin 2) * 512 + 512
      rw [e0]; omega
    | ⟨1, _⟩ =>
      show win0_12.index ⟨(i 0).val / 512 * 2 + (i 1).val / 1408, hN⟩ (1 : Fin 2) * 1408 ≤ (i 1).val
        ∧ (i 1).val < win0_12.index ⟨(i 0).val / 512 * 2 + (i 1).val / 1408, hN⟩ (1 : Fin 2) * 1408 + 1408
      rw [e1]; omega

/-- The array of output 8 after the run. -/
theorem final8 : ((dats m 0 c).arrAt 8 cfg0.N : S8x128.Idx → EReal) = fun i : S8x128.Idx => R.lossA := by
  refine (dats m 0 c).arrAt_eq_of_cover 8 _ (fun t hf => ?_) (fun i => ?_)
  · rw [flushed8]
    obtain ⟨e0, e1⟩ := index8 t
    funext y
    have hy0 : (y 0).val < 8 := (y 0).isLt
    have hy1 : (y 1).val < 128 := (y 1).isLt
    have ht : t.val = 31 := (flush8 t).mp hf
    have hb : ((cfg0.win 8).blk t).view.emb y = ix2 ⟨(y 0).val, hy0⟩ ⟨(y 1).val, hy1⟩ := by
      funext a
      apply Fin.ext
      match a with
      | ⟨0, _⟩ => show win0_8.index t (0 : Fin 2) * 8 + 1 * (y 0).val = (y 0).val; omega
      | ⟨1, _⟩ => show win0_8.index t (1 : Fin 2) * 128 + 1 * (y 1).val = (y 1).val; omega
    have hx : (cfg0.win 8).xinj (grid0.coords t) y = ix2 ⟨(y 0).val, hy0⟩ ⟨(y 1).val, hy1⟩ := by
      funext a
      apply Fin.ext
      match a with
      | ⟨0, _⟩ => rfl
      | ⟨1, _⟩ => rfl
    show ((outsAt0 m c t.val t.isLt).2.1 ((cfg0.win 8).xinj (grid0.coords t) y) : EReal)
      = (fun i : S8x128.Idx => R.lossA) (((cfg0.win 8).blk t).view.emb y)
    rw [hb, hx]
    refine (outs8_sum H _ _ 15 (by omega) t (by omega)).trans ?_
    show _ = R.lossA
    rw [R.loss_tiles]
  · have h0 : (i 0).val < 8 := (i 0).isLt
    have h1 : (i 1).val < 128 := (i 1).isLt
    have hN : 31 < cfg0.N := lt_of_lt_of_eq (by omega) N_0.symm
    obtain ⟨e0, e1⟩ := index8 ⟨31, hN⟩
    refine ⟨⟨31, hN⟩, (flush8 _).mpr rfl, ?_⟩
    show i ∈ ((View.whole main_v0_1).slice (win0_8.rect ⟨31, hN⟩)).set
    rw [View.set_slice_whole, Rect.mem_set_unit]
    intro a
    match a with
    | ⟨0, _⟩ =>
      show win0_8.index ⟨31, hN⟩ (0 : Fin 2) * 8 ≤ (i 0).val ∧ (i 0).val < win0_8.index ⟨31, hN⟩ (0 : Fin 2) * 8 + 8
      rw [e0]; omega
    | ⟨1, _⟩ =>
      show win0_8.index ⟨31, hN⟩ (1 : Fin 2) * 128 ≤ (i 1).val ∧ (i 1).val < win0_8.index ⟨31, hN⟩ (1 : Fin 2) * 128 + 128
      rw [e1]; omega

/-- The array of output 9 after the run. -/
theorem final9 : ((dats m 0 c).arrAt 9 cfg0.N : S1x1024.Idx → EReal) = fun i : S1x1024.Idx => R.dfnA (i 1) := by
  refine (dats m 0 c).arrAt_eq_of_cover 9 _ (fun t hf => ?_) (fun i => ?_)
  · rw [flushed9]
    obtain ⟨e0, e1⟩ := index9 t
    funext y
    have hy0 : (y 0).val < 1 := (y 0).isLt
    have hy1 : (y 1).val < 1024 := (y 1).isLt
    have ht : t.val = 31 := (flush9 t).mp hf
    have hb : ((cfg0.win 9).blk t).view.emb y = ix2 ⟨(y 0).val, hy0⟩ ⟨(y 1).val, hy1⟩ := by
      funext a
      apply Fin.ext
      match a with
      | ⟨0, _⟩ => show win0_9.index t (0 : Fin 2) * 1 + 1 * (y 0).val = (y 0).val; omega
      | ⟨1, _⟩ => show win0_9.index t (1 : Fin 2) * 1024 + 1 * (y 1).val = (y 1).val; omega
    have hx : (cfg0.win 9).xinj (grid0.coords t) y = ix2 (0 : Fin 1) ⟨(y 1).val, hy1⟩ := by
      funext a
      apply Fin.ext
      match a with
      | ⟨0, _⟩ => show (y 0).val = 0; omega
      | ⟨1, _⟩ => rfl
    show ((outsAt0 m c t.val t.isLt).2.2.1 ((cfg0.win 9).xinj (grid0.coords t) y) : EReal)
      = (fun i : S1x1024.Idx => R.dfnA (i 1)) (((cfg0.win 9).blk t).view.emb y)
    rw [hb, hx]
    refine (outs9_sum H _ 15 (by omega) t (by omega)).trans ?_
    show _ = R.dfnA ⟨(y 1).val, hy1⟩
    rw [R.dfn_tiles]
  · have h0 : (i 0).val < 1 := (i 0).isLt
    have h1 : (i 1).val < 1024 := (i 1).isLt
    have hN : 31 < cfg0.N := lt_of_lt_of_eq (by omega) N_0.symm
    obtain ⟨e0, e1⟩ := index9 ⟨31, hN⟩
    refine ⟨⟨31, hN⟩, (flush9 _).mpr rfl, ?_⟩
    show i ∈ ((View.whole main_v0_2).slice (win0_9.rect ⟨31, hN⟩)).set
    rw [View.set_slice_whole, Rect.mem_set_unit]
    intro a
    match a with
    | ⟨0, _⟩ =>
      show win0_9.index ⟨31, hN⟩ (0 : Fin 2) * 1 ≤ (i 0).val ∧ (i 0).val < win0_9.index ⟨31, hN⟩ (0 : Fin 2) * 1 + 1
      rw [e0]; omega
    | ⟨1, _⟩ =>
      show win0_9.index ⟨31, hN⟩ (1 : Fin 2) * 1024 ≤ (i 1).val ∧ (i 1).val < win0_9.index ⟨31, hN⟩ (1 : Fin 2) * 1024 + 1024
      rw [e1]; omega

end Cert.Kernel5Ideal.Lf

end
-- ==== Proof.LfRef.lean ====
/- The forward pass with the loss: the reference's arrays. -/
module

public import proofs.«01_k».proof.Proof.Gen.Reference5Ideal.Read
public import proofs.«01_k».proof.Proof.LfSpec

@[expose] public section

set_option maxRecDepth 16384

noncomputable section

namespace Cert.Reference5Ideal.Lf

open Cert.Reference5Ideal Cert.Reference5Ideal.Gen Cert.Reference5Ideal.Read
open Idealize.ShloMosaic Idealize.ShloMosaic.TcCoe
open Cert.LfSpec (Args)
open scoped BigOperators

variable {x0 : (⟨S8192x1024, .f32⟩ : BufTy).Contents (Elt Ideal)} {x1 : (⟨S1x1024, .f32⟩ : BufTy).Contents (Elt Ideal)}
variable {x5 : (⟨S8192x1024, .f32⟩ : BufTy).Contents (Elt Ideal)} {x6 : (⟨S1x1024, .f32⟩ : BufTy).Contents (Elt Ideal)}
variable {x2 x3 x4 : (⟨S2816x1024, .bf16⟩ : BufTy).Contents (Elt Ideal)} {R : Args}

theorem add {a b p q : EReal} (ha : a = p) (hb : b = q) : a + b = p + q := by rw [ha, hb]
theorem mul {a b p q : EReal} (ha : a = p) (hb : b = q) : a * b = p * q := by rw [ha, hb]
theorem quo {a b p q : EReal} (ha : a = p) (hb : b = q) : Ideal.div a b = Ideal.div p q := by rw [ha, hb]
theorem neg {a p : EReal} (ha : a = p) : -a = -p := by rw [ha]
theorem sum {ι : Type} [Fintype ι] {a p : ι → EReal} (ha : ∀ k, a k = p k) : ∑ k, a k = ∑ k, p k :=
  Finset.sum_congr rfl fun k _ => ha k
theorem zero_sum {ι : Type} [Fintype ι] {z : EReal} {a p : ι → EReal} (hz : z = 0) (ha : ∀ k, a k = p k) : z + ∑ k, a k = ∑ k, p k := by
  rw [hz, zero_add, sum ha]
theorem bits_zero : Ideal.ofBits .f32 0x00000000#32 = 0 := by simp [Ideal.ofBits, Ideal.ieee]
theorem bits_one : Ideal.ofBits .f32 0x3F800000#32 = 1 :=
  (show Ideal.ofBits .f32 0x3F800000#32 = ((1 : ℝ) : EReal) by
    simp [Ideal.ofBits, Ideal.ieee, -EReal.coe_mul]; norm_num).trans EReal.coe_one

theorem sub {a b p q : EReal} (ha : a = p) (hb : b = q) : a - b = p - q := by rw [ha, hb]
theorem idx62 (i : S1x1024.Idx) : (idx_main_v62 i 0 : Fin 1024) = i 1 := by
  have h : (i 0).val < 1 := (i 0).isLt
  apply Fin.ext
  show (i 0).val * 1024 + (i 1).val = (i 1).val
  omega
theorem idx67 (i : S8192x1.Idx) : (idx_main_v67 i 0 : Fin 8192) = i 0 := by
  have h : (i 1).val < 1 := (i 1).isLt
  apply Fin.ext
  show (i 0).val * 1 + (i 1).val = (i 0).val
  omega

theorem r_v0 (h0 : ∀ i, (x0 i : EReal) = R.x (i 0) (i 1)) (i : S8192x1024.Idx) :
    (val_main_v0 (F := Ideal) x0 i : EReal) = R.x (i 0) (i 1) * R.x (i 0) (i 1) :=
  (val_main_v0_apply _ i).trans (mul (h0 _) (h0 _))

theorem r_v1 (h0 : ∀ i, (x0 i : EReal) = R.x (i 0) (i 1)) (i : S8192.Idx) :
    (val_main_v1 (F := Ideal) x0 i : EReal) = ∑ k, R.x (i 0) k * R.x (i 0) k :=
  (val_main_v1_apply _ i).trans (zero_sum bits_zero fun k => (r_v0 h0 _))

theorem r_v2 (h0 : ∀ i, (x0 i : EReal) = R.x (i 0) (i 1)) (i : S8192x1.Idx) :
    (val_main_v2 (F := Ideal) x0 i : EReal) = ∑ k, R.x (i 0) k * R.x (i 0) k :=
  (val_main_v2_apply _ i).trans ((r_v1 h0 _))

theorem r_v3  (i : S8192x1.Idx) :
    (val_main_v3 (F := Ideal) i : EReal) = Ideal.ofBits .f32 0x44800000#32 :=
  (val_main_v3_apply i).trans (rfl)

theorem r_v4 (h0 : ∀ i, (x0 i : EReal) = R.x (i 0) (i 1)) (i : S8192x1.Idx) :
    (val_main_v4 (F := Ideal) x0 i : EReal) = Ideal.div (∑ k, R.x (i 0) k * R.x (i 0) k) (Ideal.ofBits .f32 0x44800000#32) :=
  (val_main_v4_apply _ i).trans (quo (r_v2 h0 _) (r_v3 _))

theorem r_v5  (i : S8192x1.Idx) :
    (val_main_v5 (F := Ideal) i : EReal) = Ideal.ofBits .f32 0x358637BD#32 :=
  (val_main_v5_apply i).trans (rfl)

theorem r_v6 (h0 : ∀ i, (x0 i : EReal) = R.x (i 0) (i 1)) (i : S8192x1.Idx) :
    (val_main_v6 (F := Ideal) x0 i : EReal) = Ideal.div (∑ k, R.x (i 0) k * R.x (i 0) k) (Ideal.ofBits .f32 0x44800000#32) + Ideal.ofBits .f32 0x358637BD#32 :=
  (val_main_v6_apply _ i).trans (add (r_v4 h0 _) (r_v5 _))

theorem r_v7 (h0 : ∀ i, (x0 i : EReal) = R.x (i 0) (i 1)) (i : S8192x1.Idx) :
    (val_main_v7 (F := Ideal) x0 i : EReal) = FfSpec.rr (R.x (i 0)) :=
  (val_main_v7_apply _ i).trans (congrArg Ideal.rsqrt (r_v6 h0 _))

theorem r_v8 (h0 : ∀ i, (x0 i : EReal) = R.x (i 0) (i 1)) (i : S8192x1024.Idx) :
    (val_main_v8 (F := Ideal) x0 i : EReal) = FfSpec.rr (R.x (i 0)) :=
  (val_main_v8_apply _ i).trans ((r_v7 h0 _))

theorem r_v9 (h0 : ∀ i, (x0 i : EReal) = R.x (i 0) (i 1)) (i : S8192x1024.Idx) :
    (val_main_v9 (F := Ideal) x0 i : EReal) = R.x (i 0) (i 1) * FfSpec.rr (R.x (i 0)) :=
  (val_main_v9_apply _ i).trans (mul (h0 _) (r_v8 h0 _))

theorem r_v10 (h1 : ∀ i, (x1 i : EReal) = R.nw (i 1)) (i : S8192x1024.Idx) :
    (val_main_v10 (F := Ideal) x1 i : EReal) = R.nw (i 1) :=
  (val_main_v10_apply _ i).trans (h1 _)

theorem r_v11 (h0 : ∀ i, (x0 i : EReal) = R.x (i 0) (i 1)) (h1 : ∀ i, (x1 i : EReal) = R.nw (i 1)) (i : S8192x1024.Idx) :
    (val_main_v11 (F := Ideal) x0 x1 i : EReal) = R.hA (i 0) (i 1) :=
  (val_main_v11_apply _ _ i).trans (mul (r_v9 h0 _) (r_v10 h1 _))

theorem r_v12 (h0 : ∀ i, (x0 i : EReal) = R.x (i 0) (i 1)) (h1 : ∀ i, (x1 i : EReal) = R.nw (i 1)) (i : S8192x1024.Idx) :
    (val_main_v12 (F := Ideal) x0 x1 i : EReal) = R.hA (i 0) (i 1) :=
  (val_main_v12_apply _ _ i).trans ((r_v11 h0 h1 _))

theorem r_v13 (h0 : ∀ i, (x0 i : EReal) = R.x (i 0) (i 1)) (h1 : ∀ i, (x1 i : EReal) = R.nw (i 1)) (i : S8192x1024.Idx) :
    (val_main_v13 (F := Ideal) x0 x1 i : EReal) = R.hA (i 0) (i 1) :=
  (val_main_v13_apply _ _ i).trans ((r_v12 h0 h1 _))

theorem r_v14 (h2 : ∀ i, (x2 i : EReal) = R.wg (i 0) (i 1)) (i : S2816x1024.Idx) :
    (val_main_v14 (F := Ideal) x2 i : EReal) = R.wg (i 0) (i 1) :=
  (val_main_v14_apply _ i).trans (h2 _)

theorem r_v15 (h2 : ∀ i, (x2 i : EReal) = R.wg (i 0) (i 1)) (i : S1024x2816.Idx) :
    (val_main_v15 (F := Ideal) x2 i : EReal) = R.wg (i 1) (i 0) :=
  (val_main_v15_apply _ i).trans ((r_v14 h2 _))

theorem r_v16 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_v16 (F := Ideal) x0 x1 x2 i : EReal) = R.gA (i 0) (i 1) :=
  (val_main_v16_apply _ _ _ i).trans (sum fun k => mul (r_v13 h0 h1 _) (r_v15 h2 _))

theorem r_v17 (h0 : ∀ i, (x0 i : EReal) = R.x (i 0) (i 1)) (h1 : ∀ i, (x1 i : EReal) = R.nw (i 1)) (i : S8192x1024.Idx) :
    (val_main_v17 (F := Ideal) x0 x1 i : EReal) = R.hA (i 0) (i 1) :=
  (val_main_v17_apply _ _ i).trans ((r_v12 h0 h1 _))

theorem r_v18 (h3 : ∀ i, (x3 i : EReal) = R.wu (i 0) (i 1)) (i : S2816x1024.Idx) :
    (val_main_v18 (F := Ideal) x3 i : EReal) = R.wu (i 0) (i 1) :=
  (val_main_v18_apply _ i).trans (h3 _)

theorem r_v19 (h3 : ∀ i, (x3 i : EReal) = R.wu (i 0) (i 1)) (i : S1024x2816.Idx) :
    (val_main_v19 (F := Ideal) x3 i : EReal) = R.wu (i 1) (i 0) :=
  (val_main_v19_apply _ i).trans ((r_v18 h3 _))

theorem r_v20 (h0 : ∀ i, (x0 i : EReal) = R.x (i 0) (i 1)) (h1 : ∀ i, (x1 i : EReal) = R.nw (i 1)) (h3 : ∀ i, (x3 i : EReal) = R.wu (i 0) (i 1)) (i : S8192x2816.Idx) :
    (val_main_v20 (F := Ideal) x0 x1 x3 i : EReal) = R.uA (i 0) (i 1) :=
  (val_main_v20_apply _ _ _ i).trans (sum fun k => mul (r_v17 h0 h1 _) (r_v19 h3 _))

theorem r_call0_v0 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v0 (F := Ideal) x0 x1 x2 i : EReal) = -R.gA (i 0) (i 1) :=
  (val_main_call0_v0_apply _ _ _ i).trans (neg (r_v16 h0 h1 h2 _))

theorem r_call0_v1 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v1 (F := Ideal) x0 x1 x2 i : EReal) = Ideal.exp (-R.gA (i 0) (i 1)) :=
  (val_main_call0_v1_apply _ _ _ i).trans (congrArg Ideal.exp (r_call0_v0 h0 h1 h2 _))

theorem r_call0_v2  (i : S8192x2816.Idx) :
    (val_main_call0_v2 (F := Ideal) i : EReal) = 1 :=
  (val_main_call0_v2_apply i).trans (bits_one)

theorem r_call0_v3 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v3 (F := Ideal) x0 x1 x2 i : EReal) = 1 + Ideal.exp (-R.gA (i 0) (i 1)) :=
  (val_main_call0_v3_apply _ _ _ i).trans (add (r_call0_v2 _) (r_call0_v1 h0 h1 h2 _))

theorem r_call0_v4  (i : S8192x2816.Idx) :
    (val_main_call0_v4 (F := Ideal) i : EReal) = 1 :=
  (val_main_call0_v4_apply i).trans (bits_one)

theorem r_call0_v5 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_call0_v5 (F := Ideal) x0 x1 x2 i : EReal) = Ideal.div 1 (1 + Ideal.exp (-R.gA (i 0) (i 1))) :=
  (val_main_call0_v5_apply _ _ _ i).trans (quo (r_call0_v4 _) (r_call0_v3 h0 h1 h2 _))

theorem r_v21 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_v21 (F := Ideal) x0 x1 x2 i : EReal) = R.gA (i 0) (i 1) * Ideal.div 1 (1 + Ideal.exp (-R.gA (i 0) (i 1))) :=
  (val_main_v21_apply _ _ _ i).trans (mul (r_v16 h0 h1 h2 _) (r_call0_v5 h0 h1 h2 _))

theorem r_v22 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (i : S8192x2816.Idx) :
    (val_main_v22 (F := Ideal) x0 x1 x2 x3 i : EReal) = R.aA (i 0) (i 1) :=
  (val_main_v22_apply _ _ _ _ i).trans (mul (r_v21 h0 h1 h2 _) (r_v20 h0 h1 h3 _))

theorem r_v23 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (i : S8192x2816.Idx) :
    (val_main_v23 (F := Ideal) x0 x1 x2 x3 i : EReal) = R.aA (i 0) (i 1) :=
  (val_main_v23_apply _ _ _ _ i).trans ((r_v22 h0 h1 h2 h3 _))

theorem r_v24 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (i : S8192x2816.Idx) :
    (val_main_v24 (F := Ideal) x0 x1 x2 x3 i : EReal) = R.aA (i 0) (i 1) :=
  (val_main_v24_apply _ _ _ _ i).trans ((r_v23 h0 h1 h2 h3 _))

theorem r_v25 (h4 : ∀ i, (x4 i : EReal) = R.wd (i 0) (i 1)) (i : S2816x1024.Idx) :
    (val_main_v25 (F := Ideal) x4 i : EReal) = R.wd (i 0) (i 1) :=
  (val_main_v25_apply _ i).trans (h4 _)

theorem r_v26 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v26 (F := Ideal) x0 x1 x2 x3 x4 i : EReal) = R.sA (i 0) (i 1) :=
  (val_main_v26_apply _ _ _ _ _ i).trans (sum fun k => mul (r_v24 h0 h1 h2 h3 _) (r_v25 h4 _))

theorem r_v27  (i : S8192x1024.Idx) :
    (val_main_v27 (F := Ideal) i : EReal) = Ideal.ofBits .f32 0x3F000000#32 :=
  (val_main_v27_apply i).trans (rfl)

theorem r_v28 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v28 (F := Ideal) x0 x1 x2 x3 x4 i : EReal) = Ideal.ofBits .f32 0x3F000000#32 * R.sA (i 0) (i 1) :=
  (val_main_v28_apply _ _ _ _ _ i).trans (mul (r_v27 _) (r_v26 h0 h1 h2 h3 h4 _))

theorem r_v29 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v29 (F := Ideal) x0 x1 x2 x3 x4 i : EReal) = R.yA (i 0) (i 1) :=
  (val_main_v29_apply _ _ _ _ _ i).trans (add (h0 _) (r_v28 h0 h1 h2 h3 h4 _))

theorem r_v30 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v30 (F := Ideal) x0 x1 x2 x3 x4 i : EReal) = R.yA (i 0) (i 1) * R.yA (i 0) (i 1) :=
  (val_main_v30_apply _ _ _ _ _ i).trans (mul (r_v29 h0 h1 h2 h3 h4 _) (r_v29 h0 h1 h2 h3 h4 _))

theorem r_v31 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192.Idx) :
    (val_main_v31 (F := Ideal) x0 x1 x2 x3 x4 i : EReal) = ∑ k, R.yA (i 0) k * R.yA (i 0) k :=
  (val_main_v31_apply _ _ _ _ _ i).trans (zero_sum bits_zero fun k => (r_v30 h0 h1 h2 h3 h4 _))

theorem r_v32 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1.Idx) :
    (val_main_v32 (F := Ideal) x0 x1 x2 x3 x4 i : EReal) = ∑ k, R.yA (i 0) k * R.yA (i 0) k :=
  (val_main_v32_apply _ _ _ _ _ i).trans ((r_v31 h0 h1 h2 h3 h4 _))

theorem r_v33  (i : S8192x1.Idx) :
    (val_main_v33 (F := Ideal) i : EReal) = Ideal.ofBits .f32 0x44800000#32 :=
  (val_main_v33_apply i).trans (rfl)

theorem r_v34 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1.Idx) :
    (val_main_v34 (F := Ideal) x0 x1 x2 x3 x4 i : EReal) = Ideal.div (∑ k, R.yA (i 0) k * R.yA (i 0) k) (Ideal.ofBits .f32 0x44800000#32) :=
  (val_main_v34_apply _ _ _ _ _ i).trans (quo (r_v32 h0 h1 h2 h3 h4 _) (r_v33 _))

theorem r_v35  (i : S8192x1.Idx) :
    (val_main_v35 (F := Ideal) i : EReal) = Ideal.ofBits .f32 0x358637BD#32 :=
  (val_main_v35_apply i).trans (rfl)

theorem r_v36 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1.Idx) :
    (val_main_v36 (F := Ideal) x0 x1 x2 x3 x4 i : EReal) = LfSpec.ms (R.yA (i 0)) :=
  (val_main_v36_apply _ _ _ _ _ i).trans (add (r_v34 h0 h1 h2 h3 h4 _) (r_v35 _))

theorem r_v37 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1.Idx) :
    (val_main_v37 (F := Ideal) x0 x1 x2 x3 x4 i : EReal) = FfSpec.rr (R.yA (i 0)) :=
  (val_main_v37_apply _ _ _ _ _ i).trans (congrArg Ideal.rsqrt (r_v36 h0 h1 h2 h3 h4 _))

theorem r_v38 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1.Idx) :
    (val_main_v38 (F := Ideal) x0 x1 x2 x3 x4 i : EReal) = Ideal.div (FfSpec.rr (R.yA (i 0))) (LfSpec.ms (R.yA (i 0))) :=
  (val_main_v38_apply _ _ _ _ _ i).trans (quo (r_v37 h0 h1 h2 h3 h4 _) (r_v36 h0 h1 h2 h3 h4 _))

theorem r_v39  (i : S8192x1.Idx) :
    (val_main_v39 (F := Ideal) i : EReal) = Ideal.ofBits .f32 0xBF000000#32 :=
  (val_main_v39_apply i).trans (rfl)

theorem r_v40 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1.Idx) :
    (val_main_v40 (F := Ideal) x0 x1 x2 x3 x4 i : EReal) = Ideal.ofBits .f32 0xBF000000#32 * Ideal.div (FfSpec.rr (R.yA (i 0))) (LfSpec.ms (R.yA (i 0))) :=
  (val_main_v40_apply _ _ _ _ _ i).trans (mul (r_v39 _) (r_v38 h0 h1 h2 h3 h4 _))

theorem r_v41 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v41 (F := Ideal) x0 x1 x2 x3 x4 i : EReal) = FfSpec.rr (R.yA (i 0)) :=
  (val_main_v41_apply _ _ _ _ _ i).trans ((r_v37 h0 h1 h2 h3 h4 _))

theorem r_v42 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v42 (F := Ideal) x0 x1 x2 x3 x4 i : EReal) = R.yA (i 0) (i 1) * FfSpec.rr (R.yA (i 0)) :=
  (val_main_v42_apply _ _ _ _ _ i).trans (mul (r_v29 h0 h1 h2 h3 h4 _) (r_v41 h0 h1 h2 h3 h4 _))

theorem r_v43 (h6 : ∀ i, (x6 i : EReal) = R.fnw (i 1)) (i : S8192x1024.Idx) :
    (val_main_v43 (F := Ideal) x6 i : EReal) = R.fnw (i 1) :=
  (val_main_v43_apply _ i).trans (h6 _)

theorem r_v44 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h6 : ∀ i, (x6 i : EReal) = R.fnw (i 1)) (i : S8192x1024.Idx) :
    (val_main_v44 (F := Ideal) x0 x1 x2 x3 x4 x6 i : EReal) = FfSpec.hn (R.yA (i 0)) R.fnw (i 1) :=
  (val_main_v44_apply _ _ _ _ _ _ i).trans (mul (r_v42 h0 h1 h2 h3 h4 _) (r_v43 h6 _))

theorem r_v45 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v45 (F := Ideal) x0 x1 x2 x3 x4 x5 x6 i : EReal) = LfSpec.er (R.yA (i 0)) (R.tgt (i 0)) R.fnw (i 1) :=
  (val_main_v45_apply _ _ _ _ _ _ _ i).trans (sub (r_v44 h0 h1 h2 h3 h4 h6 _) (h5 _))

theorem r_v46 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v46 (F := Ideal) x0 x1 x2 x3 x4 x5 x6 i : EReal) = LfSpec.er (R.yA (i 0)) (R.tgt (i 0)) R.fnw (i 1) * LfSpec.er (R.yA (i 0)) (R.tgt (i 0)) R.fnw (i 1) :=
  (val_main_v46_apply _ _ _ _ _ _ _ i).trans (mul (r_v45 h0 h1 h2 h3 h4 h5 h6 _) (r_v45 h0 h1 h2 h3 h4 h5 h6 _))

theorem r_v47  (i : S8192x1024.Idx) :
    (val_main_v47 (F := Ideal) i : EReal) = Ideal.ofBits .f32 0x40000000#32 :=
  (val_main_v47_apply i).trans (rfl)

theorem r_v48 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v48 (F := Ideal) x0 x1 x2 x3 x4 x5 x6 i : EReal) = Ideal.ofBits .f32 0x40000000#32 * LfSpec.er (R.yA (i 0)) (R.tgt (i 0)) R.fnw (i 1) :=
  (val_main_v48_apply _ _ _ _ _ _ _ i).trans (mul (r_v47 _) (r_v45 h0 h1 h2 h3 h4 h5 h6 _))

theorem r_v49 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192.Idx) :
    (val_main_v49 (F := Ideal) x0 x1 x2 x3 x4 x5 x6 i : EReal) = ∑ k, LfSpec.er (R.yA (i 0)) (R.tgt (i 0)) R.fnw k * LfSpec.er (R.yA (i 0)) (R.tgt (i 0)) R.fnw k :=
  (val_main_v49_apply _ _ _ _ _ _ _ i).trans (zero_sum bits_zero fun k => (r_v46 h0 h1 h2 h3 h4 h5 h6 _))

theorem r_v50  (i : S8192.Idx) :
    (val_main_v50 (F := Ideal) i : EReal) = Ideal.ofBits .f32 0x44800000#32 :=
  (val_main_v50_apply i).trans (rfl)

theorem r_v51 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192.Idx) :
    (val_main_v51 (F := Ideal) x0 x1 x2 x3 x4 x5 x6 i : EReal) = R.tlA (i 0) :=
  (val_main_v51_apply _ _ _ _ _ _ _ i).trans (quo (r_v49 h0 h1 h2 h3 h4 h5 h6 _) (r_v50 _))

theorem r_v52 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S_.Idx) :
    (val_main_v52 (F := Ideal) x0 x1 x2 x3 x4 x5 x6 i : EReal) = ∑ n, R.tlA n :=
  (val_main_v52_apply _ _ _ _ _ _ _ i).trans ((zero_sum bits_zero fun j => (r_v51 h0 h1 h2 h3 h4 h5 h6 j)).trans (sum_idx1 (n0 := 8192) (fun j => R.tlA (j 0))))

theorem r_v53 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S_.Idx) :
    (val_main_v53 (F := Ideal) x0 x1 x2 x3 x4 x5 x6 i : EReal) = R.lossA :=
  (val_main_v53_apply _ _ _ _ _ _ _ i).trans (mul rfl (r_v52 h0 h1 h2 h3 h4 h5 h6 _))

theorem r_v54  (i : S_.Idx) :
    (val_main_v54 (F := Ideal) i : EReal) = Ideal.ofBits .f32 0x3F000000#32 * Ideal.ofBits .f32 0x3F800000#32 :=
  (val_main_v54_apply i).trans (rfl)

theorem r_v55  (i : S8192.Idx) :
    (val_main_v55 (F := Ideal) i : EReal) = Ideal.ofBits .f32 0x3F000000#32 * Ideal.ofBits .f32 0x3F800000#32 :=
  (val_main_v55_apply i).trans ((r_v54 _))

theorem r_v56  (i : S8192.Idx) :
    (val_main_v56 (F := Ideal) i : EReal) = Ideal.ofBits .f32 0x44800000#32 :=
  (val_main_v56_apply i).trans (rfl)

theorem r_v57  (i : S8192.Idx) :
    (val_main_v57 (F := Ideal) i : EReal) = Ideal.div (Ideal.ofBits .f32 0x3F000000#32 * Ideal.ofBits .f32 0x3F800000#32) (Ideal.ofBits .f32 0x44800000#32) :=
  (val_main_v57_apply i).trans (quo (r_v55 _) (r_v56 _))

theorem r_v58  (i : S8192x1024.Idx) :
    (val_main_v58 (F := Ideal) i : EReal) = Ideal.div (Ideal.ofBits .f32 0x3F000000#32 * Ideal.ofBits .f32 0x3F800000#32) (Ideal.ofBits .f32 0x44800000#32) :=
  (val_main_v58_apply i).trans ((r_v57 _))

theorem r_v59 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v59 (F := Ideal) x0 x1 x2 x3 x4 x5 x6 i : EReal) = LfSpec.dd (R.yA (i 0)) (R.tgt (i 0)) R.fnw (i 1) :=
  (val_main_v59_apply _ _ _ _ _ _ _ i).trans ((mul (r_v58 _) (r_v48 h0 h1 h2 h3 h4 h5 h6 _)).trans (LfSpec.dd_eq _))

theorem r_v60 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v60 (F := Ideal) x0 x1 x2 x3 x4 x5 x6 i : EReal) = R.dwA (i 0) (i 1) :=
  (val_main_v60_apply _ _ _ _ _ _ _ i).trans ((mul (r_v42 h0 h1 h2 h3 h4 _) (r_v59 h0 h1 h2 h3 h4 h5 h6 _)).trans (mul_comm (_ : EReal) _))

theorem r_v61 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S1024.Idx) :
    (val_main_v61 (F := Ideal) x0 x1 x2 x3 x4 x5 x6 i : EReal) = R.dfnA (i 0) :=
  (val_main_v61_apply _ _ _ _ _ _ _ i).trans (zero_sum bits_zero fun k => (r_v60 h0 h1 h2 h3 h4 h5 h6 _))

theorem r_v62 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S1x1024.Idx) :
    (val_main_v62 (F := Ideal) x0 x1 x2 x3 x4 x5 x6 i : EReal) = R.dfnA (i 1) :=
  (val_main_v62_apply _ _ _ _ _ _ _ i).trans ((r_v61 h0 h1 h2 h3 h4 h5 h6 _).trans (congrArg R.dfnA (idx62 i)))

theorem r_v63 (h6 : ∀ i, (x6 i : EReal) = R.fnw (i 1)) (i : S8192x1024.Idx) :
    (val_main_v63 (F := Ideal) x6 i : EReal) = R.fnw (i 1) :=
  (val_main_v63_apply _ i).trans (h6 _)

theorem r_v64 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v64 (F := Ideal) x0 x1 x2 x3 x4 x5 x6 i : EReal) = LfSpec.dd (R.yA (i 0)) (R.tgt (i 0)) R.fnw (i 1) * R.fnw (i 1) :=
  (val_main_v64_apply _ _ _ _ _ _ _ i).trans (mul (r_v59 h0 h1 h2 h3 h4 h5 h6 _) (r_v63 h6 _))

theorem r_v65 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v65 (F := Ideal) x0 x1 x2 x3 x4 x5 x6 i : EReal) = R.yA (i 0) (i 1) * (LfSpec.dd (R.yA (i 0)) (R.tgt (i 0)) R.fnw (i 1) * R.fnw (i 1)) :=
  (val_main_v65_apply _ _ _ _ _ _ _ i).trans (mul (r_v29 h0 h1 h2 h3 h4 _) (r_v64 h0 h1 h2 h3 h4 h5 h6 _))

theorem r_v66 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192.Idx) :
    (val_main_v66 (F := Ideal) x0 x1 x2 x3 x4 x5 x6 i : EReal) = ∑ l, R.yA (i 0) l * (LfSpec.dd (R.yA (i 0)) (R.tgt (i 0)) R.fnw l * R.fnw l) :=
  (val_main_v66_apply _ _ _ _ _ _ _ i).trans (zero_sum bits_zero fun k => (r_v65 h0 h1 h2 h3 h4 h5 h6 _))

theorem r_v67 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1.Idx) :
    (val_main_v67 (F := Ideal) x0 x1 x2 x3 x4 x5 x6 i : EReal) = ∑ l, R.yA (i 0) l * (LfSpec.dd (R.yA (i 0)) (R.tgt (i 0)) R.fnw l * R.fnw l) :=
  (val_main_v67_apply _ _ _ _ _ _ _ i).trans ((r_v66 h0 h1 h2 h3 h4 h5 h6 _).trans (congrArg (fun n : Fin 8192 => ∑ l, R.yA n l * (LfSpec.dd (R.yA n) (R.tgt n) R.fnw l * R.fnw l)) (idx67 i)))

theorem r_v68 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (i : S8192x1024.Idx) :
    (val_main_v68 (F := Ideal) x0 x1 x2 x3 x4 i : EReal) = FfSpec.rr (R.yA (i 0)) :=
  (val_main_v68_apply _ _ _ _ _ i).trans ((r_v37 h0 h1 h2 h3 h4 _))

theorem r_v69 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v69 (F := Ideal) x0 x1 x2 x3 x4 x5 x6 i : EReal) = (LfSpec.dd (R.yA (i 0)) (R.tgt (i 0)) R.fnw (i 1) * R.fnw (i 1)) * FfSpec.rr (R.yA (i 0)) :=
  (val_main_v69_apply _ _ _ _ _ _ _ i).trans (mul (r_v64 h0 h1 h2 h3 h4 h5 h6 _) (r_v68 h0 h1 h2 h3 h4 _))

theorem r_v70 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1.Idx) :
    (val_main_v70 (F := Ideal) x0 x1 x2 x3 x4 x5 x6 i : EReal) = (∑ l, R.yA (i 0) l * (LfSpec.dd (R.yA (i 0)) (R.tgt (i 0)) R.fnw l * R.fnw l)) * (Ideal.ofBits .f32 0xBF000000#32 * Ideal.div (FfSpec.rr (R.yA (i 0))) (LfSpec.ms (R.yA (i 0)))) :=
  (val_main_v70_apply _ _ _ _ _ _ _ i).trans (mul (r_v67 h0 h1 h2 h3 h4 h5 h6 _) (r_v40 h0 h1 h2 h3 h4 _))

theorem r_v71  (i : S8192x1.Idx) :
    (val_main_v71 (F := Ideal) i : EReal) = Ideal.ofBits .f32 0x44800000#32 :=
  (val_main_v71_apply i).trans (rfl)

theorem r_v72 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1.Idx) :
    (val_main_v72 (F := Ideal) x0 x1 x2 x3 x4 x5 x6 i : EReal) = LfSpec.zz (R.yA (i 0)) (fun l => LfSpec.dd (R.yA (i 0)) (R.tgt (i 0)) R.fnw l * R.fnw l) :=
  (val_main_v72_apply _ _ _ _ _ _ _ i).trans (quo (r_v70 h0 h1 h2 h3 h4 h5 h6 _) (r_v71 _))

theorem r_v73 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192.Idx) :
    (val_main_v73 (F := Ideal) x0 x1 x2 x3 x4 x5 x6 i : EReal) = LfSpec.zz (R.yA (i 0)) (fun l => LfSpec.dd (R.yA (i 0)) (R.tgt (i 0)) R.fnw l * R.fnw l) :=
  (val_main_v73_apply _ _ _ _ _ _ _ i).trans ((zero_sum bits_zero fun k => (r_v72 h0 h1 h2 h3 h4 h5 h6 _)).trans (Fin.sum_univ_one _))

theorem r_v74 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v74 (F := Ideal) x0 x1 x2 x3 x4 x5 x6 i : EReal) = LfSpec.zz (R.yA (i 0)) (fun l => LfSpec.dd (R.yA (i 0)) (R.tgt (i 0)) R.fnw l * R.fnw l) :=
  (val_main_v74_apply _ _ _ _ _ _ _ i).trans ((r_v73 h0 h1 h2 h3 h4 h5 h6 _))

theorem r_v75 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v75 (F := Ideal) x0 x1 x2 x3 x4 x5 x6 i : EReal) = R.yA (i 0) (i 1) * LfSpec.zz (R.yA (i 0)) (fun l => LfSpec.dd (R.yA (i 0)) (R.tgt (i 0)) R.fnw l * R.fnw l) :=
  (val_main_v75_apply _ _ _ _ _ _ _ i).trans (mul (r_v29 h0 h1 h2 h3 h4 _) (r_v74 h0 h1 h2 h3 h4 h5 h6 _))

theorem r_v76 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v76 (F := Ideal) x0 x1 x2 x3 x4 x5 x6 i : EReal) = (LfSpec.dd (R.yA (i 0)) (R.tgt (i 0)) R.fnw (i 1) * R.fnw (i 1)) * FfSpec.rr (R.yA (i 0)) + R.yA (i 0) (i 1) * LfSpec.zz (R.yA (i 0)) (fun l => LfSpec.dd (R.yA (i 0)) (R.tgt (i 0)) R.fnw l * R.fnw l) :=
  (val_main_v76_apply _ _ _ _ _ _ _ i).trans (add (r_v69 h0 h1 h2 h3 h4 h5 h6 _) (r_v75 h0 h1 h2 h3 h4 h5 h6 _))

theorem r_v77 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v77 (F := Ideal) x0 x1 x2 x3 x4 x5 x6 i : EReal) = LfSpec.zz (R.yA (i 0)) (fun l => LfSpec.dd (R.yA (i 0)) (R.tgt (i 0)) R.fnw l * R.fnw l) * R.yA (i 0) (i 1) :=
  (val_main_v77_apply _ _ _ _ _ _ _ i).trans (mul (r_v74 h0 h1 h2 h3 h4 h5 h6 _) (r_v29 h0 h1 h2 h3 h4 _))

theorem r_v78 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8192x1024.Idx) :
    (val_main_v78 (F := Ideal) x0 x1 x2 x3 x4 x5 x6 i : EReal) = R.dyA (i 0) (i 1) :=
  (val_main_v78_apply _ _ _ _ _ _ _ i).trans ((add (r_v76 h0 h1 h2 h3 h4 h5 h6 _) (r_v77 h0 h1 h2 h3 h4 h5 h6 _)).trans (LfSpec.back_eq (R.yA (i 0)) (fun l => LfSpec.dd (R.yA (i 0)) (R.tgt (i 0)) R.fnw l * R.fnw l) (i 1)))

theorem r_v79 (h0 : ∀ i, (x0 i : EReal) = R.x (i 0) (i 1)) (h1 : ∀ i, (x1 i : EReal) = R.nw (i 1)) (h2 : ∀ i, (x2 i : EReal) = R.wg (i 0) (i 1)) (h3 : ∀ i, (x3 i : EReal) = R.wu (i 0) (i 1)) (h4 : ∀ i, (x4 i : EReal) = R.wd (i 0) (i 1)) (h5 : ∀ i, (x5 i : EReal) = R.tgt (i 0) (i 1)) (h6 : ∀ i, (x6 i : EReal) = R.fnw (i 1)) (i : S8x128.Idx) :
    (val_main_v79 (F := Ideal) x0 x1 x2 x3 x4 x5 x6 i : EReal) = R.lossA :=
  (val_main_v79_apply _ _ _ _ _ _ _ i).trans ((r_v53 h0 h1 h2 h3 h4 h5 h6 _))

theorem r_v80 (h0 : ∀ i, (x0 i : EReal) = R.x (i 0) (i 1)) (h1 : ∀ i, (x1 i : EReal) = R.nw (i 1)) (h2 : ∀ i, (x2 i : EReal) = R.wg (i 0) (i 1)) (i : S8192x2816.Idx) :
    (val_main_v80 (F := Ideal) x0 x1 x2 i : EReal) = R.gA (i 0) (i 1) :=
  (val_main_v80_apply _ _ _ i).trans ((r_v16 h0 h1 h2 _))

theorem r_v81 (h0 : ∀ i, (x0 i : EReal) = R.x (i 0) (i 1)) (h1 : ∀ i, (x1 i : EReal) = R.nw (i 1)) (h3 : ∀ i, (x3 i : EReal) = R.wu (i 0) (i 1)) (i : S8192x2816.Idx) :
    (val_main_v81 (F := Ideal) x0 x1 x3 i : EReal) = R.uA (i 0) (i 1) :=
  (val_main_v81_apply _ _ _ i).trans ((r_v20 h0 h1 h3 _))

end Cert.Reference5Ideal.Lf

end
-- ==== Proof.Lf.lean ====
/- The claims of the forward pass with the loss. -/
module

public import proofs.«01_k».proof.Defs
public import proofs.«01_k».proof.Proof.Gen.Kernel5
public import proofs.«01_k».proof.Proof.Gen.Reference5Ideal.Run
public import proofs.«01_k».proof.Proof.LfAlg
public import proofs.«01_k».proof.Proof.LfRef

@[expose] public section

set_option maxRecDepth 16384

noncomputable section

namespace Cert.Proof

open Idealize.ShloMosaic Idealize.ShloMosaic.TcCoe

theorem frame_kernel5Ideal : Cert.quiescent_Kernel5Ideal := fun m ρ _ => Cert.Kernel5Ideal.Lf.frame (F := Ideal) m ρ

set_option maxHeartbeats 4000000 in
/-- The word-for-word program and its reading over the reals have the same launches. -/
theorem lf_defs_eq : Cert.Kernel5.defs (F := Bits) = Cert.Kernel5Ideal.defs (F := Bits) := by
  have h : Cert.Kernel5.defs₀ (F := Bits) = Cert.Kernel5Ideal.defs₀ (F := Bits) := by
    unfold Cert.Kernel5.defs₀
    refine congrArg Defs.onTc (funext fun k => ?_)
    match k with
    | 0 => rfl
  unfold Cert.Kernel5.defs
  rw [h]
  rfl

theorem frame_kernel5 : Cert.quiescent_Kernel5 := by
  intro m ρ _
  rw [lf_defs_eq]
  exact Cert.Kernel5Ideal.Lf.frame (F := Bits) m ρ

theorem frame_reference5Ideal : Cert.quiescent_Reference5Ideal := fun m ρ _ =>
  (θ_run Cert.Reference5Ideal.defs _ _).mono (fun r h => ⟨fun c => (h c).2.2.2.2.2.2, Idealize.ShloMosaic.sem_eq_zero_of_no_sems (by decide) r.2⟩) (Cert.Reference5Ideal.Value.run (F := Ideal) m ρ)

theorem algebraic5 : Cert.algebraic_Kernel5Ideal_Reference5Ideal := by
  intro m g m' g' _ h
  choose R H using fun c => (⟨_, Cert.Kernel5Ideal.Lf.holds m c⟩ : ∃ R : Cert.LfSpec.Args, Cert.Kernel5Ideal.Lf.Holds m c R)
  refine ⟨fun c => (fun i : Cert.Kernel5Ideal.S8192x1024.Idx => (R c).dyA (i 0) (i 1)),
    fun c => (fun i : Cert.Kernel5Ideal.S8x128.Idx => (R c).lossA),
    fun c => (fun i : Cert.Kernel5Ideal.S1x1024.Idx => (R c).dfnA (i 1)),
    fun c => (fun i : Cert.Kernel5Ideal.S8192x1024.Idx => (R c).hA (i 0) (i 1)),
    fun c => (fun i : Cert.Kernel5Ideal.S8192x2816.Idx => (R c).gA (i 0) (i 1)),
    fun c => (fun i : Cert.Kernel5Ideal.S8192x2816.Idx => (R c).uA (i 0) (i 1)), ?_, ?_⟩
  · refine (θ_run Cert.Kernel5Ideal.defs _ _).mono (fun r hr c => ?_) (Cert.Kernel5Ideal.Lf.run_blocks (F := Ideal) m g)
    obtain ⟨k0, k1, k2, k3, k4, k5, k⟩ := hr c
    exact ⟨k0.trans (Cert.Kernel5Ideal.Lf.final7 (H c)),
      k1.trans (Cert.Kernel5Ideal.Lf.final8 (H c)),
      k2.trans (Cert.Kernel5Ideal.Lf.final9 (H c)),
      k3.trans (Cert.Kernel5Ideal.Lf.final10 (H c)),
      k4.trans (Cert.Kernel5Ideal.Lf.final11 (H c)),
      k5.trans (Cert.Kernel5Ideal.Lf.final12 (H c)), k⟩
  · refine (θ_run Cert.Reference5Ideal.defs _ _).mono (fun r hr c => ?_) (Cert.Reference5Ideal.Value.run (F := Ideal) m' g')
    obtain ⟨k0, k1, k2, k3, k4, k5, k⟩ := hr c
    obtain ⟨a0, a1, a2, a3, a4, a5, a6⟩ := h c
    obtain ⟨h0, h1, h2, h3, h4, h5, h6⟩ := H c
    refine ⟨k0.trans ?_, k1.trans ?_, k2.trans ?_, k3.trans ?_, k4.trans ?_, k5.trans ?_, k⟩
    · refine (Cert.Reference5Ideal.Read.val_main_v78_eq _ _).trans ?_
      rw [a0, a1, a2, a3, a4, a5, a6]
      funext i
      exact Cert.Reference5Ideal.Lf.r_v78 h0 h1 h2 h3 h4 h5 h6 i
    · refine (Cert.Reference5Ideal.Read.val_main_v79_eq _ _).trans ?_
      rw [a0, a1, a2, a3, a4, a5, a6]
      funext i
      exact Cert.Reference5Ideal.Lf.r_v79 h0 h1 h2 h3 h4 h5 h6 i
    · refine (Cert.Reference5Ideal.Read.val_main_v62_eq _ _).trans ?_
      rw [a0, a1, a2, a3, a4, a5, a6]
      funext i
      exact Cert.Reference5Ideal.Lf.r_v62 h0 h1 h2 h3 h4 h5 h6 i
    · refine (Cert.Reference5Ideal.Read.val_main_v12_eq _ _).trans ?_
      rw [a0, a1]
      funext i
      exact Cert.Reference5Ideal.Lf.r_v12 h0 h1 i
    · refine (Cert.Reference5Ideal.Read.val_main_v80_eq _ _ _).trans ?_
      rw [a0, a1, a2]
      funext i
      exact Cert.Reference5Ideal.Lf.r_v80 h0 h1 h2 i
    · refine (Cert.Reference5Ideal.Read.val_main_v81_eq _ _ _).trans ?_
      rw [a0, a1, a3]
      funext i
      exact Cert.Reference5Ideal.Lf.r_v81 h0 h1 h3 i

end Cert.Proof

end
-- ==== Proof.AdSpec.lean ====
/- The optimiser's update of one weight, as functions of its entries. -/
module

public import Idealize.ShloMosaic.PureOps
public import Idealize.ShloMosaic.Lib.Pipeline.Value
public import Idealize.ShloMosaic.Lib.Pointwise
public import Idealize.ShloMosaic.Lib.IdealHost
public import Idealize.ShloMosaic.Lib.VecWindow

@[expose] public section

set_option maxRecDepth 16384

noncomputable section

namespace Cert.AdSpec

open Idealize.ShloMosaic
open scoped BigOperators

/-- The gradient: the sum of the devices' parts. -/
def tot {P A B : ℕ} (x : (⟨3, ![P, A, B]⟩ : Shape).Idx → EReal) (i : (⟨2, ![A, B]⟩ : Shape).Idx) : EReal :=
  ∑ s : Fin P, x (ix3 s (i 0) (i 1))

/-- The new first moment from the gradient and the old one. -/
def newM (g m : EReal) : EReal := Ideal.ofBits .f32 0x3F666666#32 * m + Ideal.ofBits .f32 0x3DCCCCCD#32 * g

/-- The new second moment from the gradient and the old one. -/
def newV (g v : EReal) : EReal := Ideal.ofBits .f32 0x3F7FBE77#32 * v + Ideal.ofBits .f32 0x3A83126F#32 * (g * g)

/-- The step of the weight. -/
def step (g w m v : EReal) : EReal :=
  Ideal.ofBits .f32 0xBA83126F#32
    * (Ideal.div (Ideal.div (newM g m) (Ideal.ofBits .f32 0x3F26BD02#32))
        (FloatOps.sqrt (F := Ideal) (φ := .f32) (Ideal.div (newV g v) (Ideal.ofBits .f32 0x3C231ACC#32)) + Ideal.ofBits .f32 0x322BCC77#32)
      + Ideal.ofBits .f32 0x3C23D70A#32 * w)

theorem add {a b p q : EReal} (ha : a = p) (hb : b = q) : a + b = p + q := by rw [ha, hb]

theorem bits_zero : Ideal.ofBits .f32 0x00000000#32 = 0 := by simp [Ideal.ofBits, Ideal.ieee]

/-- One device's part, loaded as a slab and read as a matrix. -/
theorem slab {P A B : ℕ} {e : EltTy} (x : Vec Ideal ⟨3, ![P, A, B]⟩ e) (s : Fin P) (h) (hc : (⟨3, ![1, A, B]⟩ : Shape).ShapeCasts ⟨2, ![A, B]⟩)
    (y : (⟨2, ![A, B]⟩ : Shape).Idx) :
    shapeCast ⟨2, ![A, B]⟩ (View.ld x (Rect.unit (s := ⟨3, ![P, A, B]⟩) ![s.val, 0, 0] ![1, A, B] h)) hc y = x (ix3 s (y 0) (y 1)) := by
  refine (shapeCast_apply _ _ y (ix3 (0 : Fin 1) (y 0) (y 1) : (⟨3, ![1, A, B]⟩ : Shape).Idx) ?_).trans ?_
  · rw [Shape.rowMajor_val_three, Shape.rowMajor_val_two]
    show (0 * A + (y 0).val) * B + (y 1).val = (y 0).val * B + (y 1).val
    rw [Nat.zero_mul, Nat.zero_add]
  · refine congrArg x (funext fun a => Fin.ext ?_)
    match a with
    | ⟨0, _⟩ => show s.val + 1 * 0 = s.val; omega
    | ⟨1, _⟩ => show 0 + 1 * (y 0).val = (y 0).val; omega
    | ⟨2, _⟩ => show 0 + 1 * (y 1).val = (y 1).val; omega

/-- The rectangle of the whole block keeps every index. -/
theorem emb_whole {A B : ℕ} (h) (x : (⟨2, ![A, B]⟩ : Shape).Idx) :
    (Rect.unit (s := ⟨2, ![A, B]⟩) ![0, 0] ![A, B] h).emb x = x := by
  funext a
  apply Fin.ext
  match a with
  | ⟨0, _⟩ => show 0 + 1 * (x 0).val = (x 0).val; omega
  | ⟨1, _⟩ => show 0 + 1 * (x 1).val = (x 1).val; omega

/-- A whole block loaded is the block. -/
theorem ld_whole {A B : ℕ} {e : EltTy} (v : Vec Ideal ⟨2, ![A, B]⟩ e) (h) :
    View.ld v (Rect.unit (s := ⟨2, ![A, B]⟩) ![0, 0] ![A, B] h) = v := by
  funext x
  exact congrArg v (emb_whole h x)

/-- A block written once, whole, holds what was written. -/
theorem canon_whole {A B : ℕ} {e : EltTy} (h) (v : Vec Ideal ⟨2, ![A, B]⟩ e) :
    View.canon (Val := Elt Ideal) [⟨Rect.unit (s := ⟨2, ![A, B]⟩) ![0, 0] ![A, B] h, v⟩] = v := by
  funext y
  refine View.canon_apply_of_pieces v _ ?_ y ⟨_, List.mem_singleton.mpr rfl, ?_⟩
  · intro p hp x
    obtain rfl := List.mem_singleton.mp hp
    exact congrArg v (emb_whole h x).symm
  · show y ∈ (Rect.unit (s := ⟨2, ![A, B]⟩) ![0, 0] ![A, B] h).set
    rw [Rect.mem_set_unit]
    intro a
    match a with
    | ⟨0, _⟩ => exact ⟨Nat.zero_le _, lt_of_lt_of_eq (y 0).isLt (Nat.zero_add A).symm⟩
    | ⟨1, _⟩ => exact ⟨Nat.zero_le _, lt_of_lt_of_eq (y 1).isLt (Nat.zero_add B).symm⟩

end Cert.AdSpec

end
-- ==== Proof.Ad6.lean ====
/- The update of the rows of the FFN weights. -/
module

public import proofs.«01_k».proof.Proof.AdSpec
public import proofs.«01_k».proof.Defs
public import proofs.«01_k».proof.Proof.Gen.Kernel6
public import proofs.«01_k».proof.Proof.Gen.Kernel6Ideal.Frame
public import proofs.«01_k».proof.Proof.Gen.Reference6Ideal.Run
public import proofs.«01_k».proof.Proof.Gen.Reference6Ideal.Read

@[expose] public section

set_option maxRecDepth 16384

noncomputable section

namespace Cert.Kernel6Ideal.Ad

open Cert.Kernel6Ideal Cert.Kernel6Ideal.Gen
open Idealize.ShloMosaic Idealize.ShloMosaic.TcCoe Idealize.ShloMosaic.Tactic
open Idealize.ShloMosaic.Pipeline (Dat Cfg Window)
open Cert.AdSpec
open scoped BigOperators

section body
variable (x0 : Vec Ideal S8x176x1024 .bf16) (x1 x2 x3 : Vec Ideal S176x1024 .f32) (y : S176x1024.Idx)

theorem pay_g : (k0_pay5 x0 x1 x2 x3 y : EReal) = tot x0 y := by
  show _ = ∑ s : Fin 8, x0 (ix3 s (y 0) (y 1))
  rw [Fin.sum_univ_eight]
  exact (add (add (add (add (add (add (add (slab x0 (0 : Fin 8) _ _ y) (slab x0 (1 : Fin 8) _ _ y)) (slab x0 (2 : Fin 8) _ _ y)) (slab x0 (3 : Fin 8) _ _ y)) (slab x0 (4 : Fin 8) _ _ y)) (slab x0 (5 : Fin 8) _ _ y)) (slab x0 (6 : Fin 8) _ _ y)) (slab x0 (7 : Fin 8) _ _ y))

theorem out_4 : (out0_4 x0 x1 x2 x3 y : EReal) = tot x0 y := by
  unfold out0_4
  rw [canon_whole]
  exact pay_g x0 x1 x2 x3 y

theorem out_5 : (out0_5 x0 x1 x2 x3 y : EReal) = step (tot x0 y) (x1 y) (x2 y) (x3 y) := by
  unfold out0_5
  rw [canon_whole]
  have h1 : View.ld x1 r0_8 = x1 := ld_whole x1 _
  have h2 : View.ld x2 r0_8 = x2 := ld_whole x2 _
  have h3 : View.ld x3 r0_8 = x3 := ld_whole x3 _
  rw [← pay_g x0 x1 x2 x3 y]
  rw [h1, h2, h3]
  rfl

theorem out_6 : (out0_6 x0 x1 x2 x3 y : EReal) = newM (tot x0 y) (x2 y) := by
  unfold out0_6
  rw [canon_whole]
  have h2 : View.ld x2 r0_8 = x2 := ld_whole x2 _
  rw [← pay_g x0 x1 x2 x3 y]
  rw [h2]
  rfl

theorem out_7 : (out0_7 x0 x1 x2 x3 y : EReal) = newV (tot x0 y) (x3 y) := by
  unfold out0_7
  rw [canon_whole]
  have h3 : View.ld x3 r0_8 = x3 := ld_whole x3 _
  rw [← pay_g x0 x1 x2 x3 y]
  rw [h3]
  rfl

end body

variable (m : (ℓ : Loc nD τ sig) → Buf (Elt Ideal) ℓ) (c : Dev nD)

/-- The index of the whole array under an index of point `t`'s block. -/
def at' (t : Fin cfg0.N) (y : S176x1024.Idx) : S352x1024.Idx :=
  ix2 ⟨t.val * 176 + (y 0).val, by
    have h : t.val < 2 := lt_of_lt_of_eq t.isLt N_0
    have hy : (y 0).val < 176 := (y 0).isLt
    omega⟩ ⟨(y 1).val, (y 1).isLt⟩

theorem index0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem blk0 (t : Fin cfg0.N) (y : S176x1024.Idx) :
    tot (iblk m c 0 t : S8x176x1024.Idx → EReal) y = tot (m ((c : Thread nD τ).loc main_arg0) : S8x352x1024.Idx → EReal) (at' t y) := by
  obtain ⟨e0, e1, e2⟩ := index0 t
  refine Finset.sum_congr rfl fun s _ => congrArg (m ((c : Thread nD τ).loc main_arg0) : S8x352x1024.Idx → EReal) ?_
  funext a
  apply Fin.ext
  match a with
  | ⟨0, _⟩ => show win0_0.index t (0 : Fin 3) * 8 + 1 * s.val = s.val; omega
  | ⟨1, _⟩ => show win0_0.index t (1 : Fin 3) * 176 + 1 * (y 0).val = t.val * 176 + (y 0).val; omega
  | ⟨2, _⟩ => show win0_0.index t (2 : Fin 3) * 1024 + 1 * (y 1).val = (y 1).val; omega

theorem blk1 (t : Fin cfg0.N) (y : S176x1024.Idx) :
    ((iblk m c 1 t : S176x1024.Idx → EReal) y) = (m ((c : Thread nD τ).loc main_arg1) : S352x1024.Idx → EReal) (at' t y) := by
  obtain ⟨e0, e1⟩ := index1 t
  refine congrArg (m ((c : Thread nD τ).loc main_arg1) : S352x1024.Idx → EReal) ?_
  funext a
  apply Fin.ext
  match a with
  | ⟨0, _⟩ => show win0_1.index t (0 : Fin 2) * 176 + 1 * (y 0).val = t.val * 176 + (y 0).val; omega
  | ⟨1, _⟩ => show win0_1.index t (1 : Fin 2) * 1024 + 1 * (y 1).val = (y 1).val; omega

theorem blk2 (t : Fin cfg0.N) (y : S176x1024.Idx) :
    ((iblk m c 2 t : S176x1024.Idx → EReal) y) = (m ((c : Thread nD τ).loc main_arg2) : S352x1024.Idx → EReal) (at' t y) := by
  obtain ⟨e0, e1⟩ := index2 t
  refine congrArg (m ((c : Thread nD τ).loc main_arg2) : S352x1024.Idx → EReal) ?_
  funext a
  apply Fin.ext
  match a with
  | ⟨0, _⟩ => show win0_2.index t (0 : Fin 2) * 176 + 1 * (y 0).val = t.val * 176 + (y 0).val; omega
  | ⟨1, _⟩ => show win0_2.index t (1 : Fin 2) * 1024 + 1 * (y 1).val = (y 1).val; omega

theorem blk3 (t : Fin cfg0.N) (y : S176x1024.Idx) :
    ((iblk m c 3 t : S176x1024.Idx → EReal) y) = (m ((c : Thread nD τ).loc main_arg3) : S352x1024.Idx → EReal) (at' t y) := by
  obtain ⟨e0, e1⟩ := index3 t
  refine congrArg (m ((c : Thread nD τ).loc main_arg3) : S352x1024.Idx → EReal) ?_
  funext a
  apply Fin.ext
  match a with
  | ⟨0, _⟩ => show win0_3.index t (0 : Fin 2) * 176 + 1 * (y 0).val = t.val * 176 + (y 0).val; omega
  | ⟨1, _⟩ => show win0_3.index t (1 : Fin 2) * 1024 + 1 * (y 1).val = (y 1).val; omega

/-- The gradient at an index of the array. -/
def gA (i : S352x1024.Idx) : EReal := tot (m ((c : Thread nD τ).loc main_arg0) : S8x352x1024.Idx → EReal) i
def dA (i : S352x1024.Idx) : EReal := step (gA m c i) ((m ((c : Thread nD τ).loc main_arg1) : S352x1024.Idx → EReal) i) ((m ((c : Thread nD τ).loc main_arg2) : S352x1024.Idx → EReal) i) ((m ((c : Thread nD τ).loc main_arg3) : S352x1024.Idx → EReal) i)
def mA (i : S352x1024.Idx) : EReal := newM (gA m c i) ((m ((c : Thread nD τ).loc main_arg2) : S352x1024.Idx → EReal) i)
def vA (i : S352x1024.Idx) : EReal := newV (gA m c i) ((m ((c : Thread nD τ).loc main_arg3) : S352x1024.Idx → EReal) i)

/-- The array of output 4 after the run. -/
theorem final4 : ((dats m 0 c).arrAt 4 cfg0.N : S352x1024.Idx → EReal) = gA m c := by
  refine (dats m 0 c).arrAt_eq_of_cover 4 _ (fun t hf => ?_) (fun i => ?_)
  · obtain ⟨e0, e1⟩ := index4 t
    show (cfg0.win 4).cut (grid0.coords t) ((dats m 0 c).after 4 t) = _
    rw [after0_4]
    funext y
    have hb : ((cfg0.win 4).blk t).view.emb y = at' t y := by
      funext a
      apply Fin.ext
      match a with
      | ⟨0, _⟩ => show win0_4.index t (0 : Fin 2) * 176 + 1 * (y 0).val = t.val * 176 + (y 0).val; omega
      | ⟨1, _⟩ => show win0_4.index t (1 : Fin 2) * 1024 + 1 * (y 1).val = (y 1).val; omega
    have hx : ((cfg0.win 4).xinj (grid0.coords t) y : S176x1024.Idx) = y := by
      funext a
      apply Fin.ext
      match a with
      | ⟨0, _⟩ => rfl
      | ⟨1, _⟩ => rfl
    show (out0_4 (iblk m c 0 t) (iblk m c 1 t) (iblk m c 2 t) (iblk m c 3 t) ((cfg0.win 4).xinj (grid0.coords t) y) : EReal)
      = gA m c (((cfg0.win 4).blk t).view.emb y)
    rw [hb, hx]
    refine (out_4 (iblk m c 0 t) (iblk m c 1 t) (iblk m c 2 t) (iblk m c 3 t) y).trans ?_
    rw [blk0]
    rfl
  · have h0 : (i 0).val < 352 := (i 0).isLt
    have h1 : (i 1).val < 1024 := (i 1).isLt
    have hN : (i 0).val / 176 < cfg0.N := lt_of_lt_of_eq (by omega) N_0.symm
    obtain ⟨e0, e1⟩ := index4 ⟨(i 0).val / 176, hN⟩
    refine ⟨⟨(i 0).val / 176, hN⟩, flush0_4 _, ?_⟩
    show i ∈ ((View.whole main_v0_0).slice (win0_4.rect ⟨(i 0).val / 176, hN⟩)).set
    rw [View.set_slice_whole, Rect.mem_set_unit]
    intro a
    match a with
    | ⟨0, _⟩ =>
      show win0_4.index ⟨(i 0).val / 176, hN⟩ (0 : Fin 2) * 176 ≤ (i 0).val
        ∧ (i 0).val < win0_4.index ⟨(i 0).val / 176, hN⟩ (0 : Fin 2) * 176 + 176
      rw [e0]; dsimp only; omega
    | ⟨1, _⟩ =>
      show win0_4.index ⟨(i 0).val / 176, hN⟩ (1 : Fin 2) * 1024 ≤ (i 1).val
        ∧ (i 1).val < win0_4.index ⟨(i 0).val / 176, hN⟩ (1 : Fin 2) * 1024 + 1024
      rw [e1]; omega

/-- The array of output 5 after the run. -/
theorem final5 : ((dats m 0 c).arrAt 5 cfg0.N : S352x1024.Idx → EReal) = dA m c := by
  refine (dats m 0 c).arrAt_eq_of_cover 5 _ (fun t hf => ?_) (fun i => ?_)
  · obtain ⟨e0, e1⟩ := index5 t
    show (cfg0.win 5).cut (grid0.coords t) ((dats m 0 c).after 5 t) = _
    rw [after0_5]
    funext y
    have hb : ((cfg0.win 5).blk t).view.emb y = at' t y := by
      funext a
      apply Fin.ext
      match a with
      | ⟨0, _⟩ => show win0_5.index t (0 : Fin 2) * 176 + 1 * (y 0).val = t.val * 176 + (y 0).val; omega
      | ⟨1, _⟩ => show win0_5.index t (1 : Fin 2) * 1024 + 1 * (y 1).val = (y 1).val; omega
    have hx : ((cfg0.win 5).xinj (grid0.coords t) y : S176x1024.Idx) = y := by
      funext a
      apply Fin.ext
      match a with
      | ⟨0, _⟩ => rfl
      | ⟨1, _⟩ => rfl
    show (out0_5 (iblk m c 0 t) (iblk m c 1 t) (iblk m c 2 t) (iblk m c 3 t) ((cfg0.win 5).xinj (grid0.coords t) y) : EReal)
      = dA m c (((cfg0.win 5).blk t).view.emb y)
    rw [hb, hx]
    refine (out_5 (iblk m c 0 t) (iblk m c 1 t) (iblk m c 2 t) (iblk m c 3 t) y).trans ?_
    rw [blk0, blk1, blk2, blk3]
    rfl
  · have h0 : (i 0).val < 352 := (i 0).isLt
    have h1 : (i 1).val < 1024 := (i 1).isLt
    have hN : (i 0).val / 176 < cfg0.N := lt_of_lt_of_eq (by omega) N_0.symm
    obtain ⟨e0, e1⟩ := index5 ⟨(i 0).val / 176, hN⟩
    refine ⟨⟨(i 0).val / 176, hN⟩, flush0_5 _, ?_⟩
    show i ∈ ((View.whole main_v0_1).slice (win0_5.rect ⟨(i 0).val / 176, hN⟩)).set
    rw [View.set_slice_whole, Rect.mem_set_unit]
    intro a
    match a with
    | ⟨0, _⟩ =>
      show win0_5.index ⟨(i 0).val / 176, hN⟩ (0 : Fin 2) * 176 ≤ (i 0).val
        ∧ (i 0).val < win0_5.index ⟨(i 0).val / 176, hN⟩ (0 : Fin 2) * 176 + 176
      rw [e0]; dsimp only; omega
    | ⟨1, _⟩ =>
      show win0_5.index ⟨(i 0).val / 176, hN⟩ (1 : Fin 2) * 1024 ≤ (i 1).val
        ∧ (i 1).val < win0_5.index ⟨(i 0).val / 176, hN⟩ (1 : Fin 2) * 1024 + 1024
      rw [e1]; omega

/-- The array of output 6 after the run. -/
theorem final6 : ((dats m 0 c).arrAt 6 cfg0.N : S352x1024.Idx → EReal) = mA m c := by
  refine (dats m 0 c).arrAt_eq_of_cover 6 _ (fun t hf => ?_) (fun i => ?_)
  · obtain ⟨e0, e1⟩ := index6 t
    show (cfg0.win 6).cut (grid0.coords t) ((dats m 0 c).after 6 t) = _
    rw [after0_6]
    funext y
    have hb : ((cfg0.win 6).blk t).view.emb y = at' t y := by
      funext a
      apply Fin.ext
      match a with
      | ⟨0, _⟩ => show win0_6.index t (0 : Fin 2) * 176 + 1 * (y 0).val = t.val * 176 + (y 0).val; omega
      | ⟨1, _⟩ => show win0_6.index t (1 : Fin 2) * 1024 + 1 * (y 1).val = (y 1).val; omega
    have hx : ((cfg0.win 6).xinj (grid0.coords t) y : S176x1024.Idx) = y := by
      funext a
      apply Fin.ext
      match a with
      | ⟨0, _⟩ => rfl
      | ⟨1, _⟩ => rfl
    show (out0_6 (iblk m c 0 t) (iblk m c 1 t) (iblk m c 2 t) (iblk m c 3 t) ((cfg0.win 6).xinj (grid0.coords t) y) : EReal)
      = mA m c (((cfg0.win 6).blk t).view.emb y)
    rw [hb, hx]
    refine (out_6 (iblk m c 0 t) (iblk m c 1 t) (iblk m c 2 t) (iblk m c 3 t) y).trans ?_
    rw [blk0, blk2]
    rfl
  · have h0 : (i 0).val < 352 := (i 0).isLt
    have h1 : (i 1).val < 1024 := (i 1).isLt
    have hN : (i 0).val / 176 < cfg0.N := lt_of_lt_of_eq (by omega) N_0.symm
    obtain ⟨e0, e1⟩ := index6 ⟨(i 0).val / 176, hN⟩
    refine ⟨⟨(i 0).val / 176, hN⟩, flush0_6 _, ?_⟩
    show i ∈ ((View.whole main_v0_2).slice (win0_6.rect ⟨(i 0).val / 176, hN⟩)).set
    rw [View.set_slice_whole, Rect.mem_set_unit]
    intro a
    match a with
    | ⟨0, _⟩ =>
      show win0_6.index ⟨(i 0).val / 176, hN⟩ (0 : Fin 2) * 176 ≤ (i 0).val
        ∧ (i 0).val < win0_6.index ⟨(i 0).val / 176, hN⟩ (0 : Fin 2) * 176 + 176
      rw [e0]; dsimp only; omega
    | ⟨1, _⟩ =>
      show win0_6.index ⟨(i 0).val / 176, hN⟩ (1 : Fin 2) * 1024 ≤ (i 1).val
        ∧ (i 1).val < win0_6.index ⟨(i 0).val / 176, hN⟩ (1 : Fin 2) * 1024 + 1024
      rw [e1]; omega

/-- The array of output 7 after the run. -/
theorem final7 : ((dats m 0 c).arrAt 7 cfg0.N : S352x1024.Idx → EReal) = vA m c := by
  refine (dats m 0 c).arrAt_eq_of_cover 7 _ (fun t hf => ?_) (fun i => ?_)
  · obtain ⟨e0, e1⟩ := index7 t
    show (cfg0.win 7).cut (grid0.coords t) ((dats m 0 c).after 7 t) = _
    rw [after0_7]
    funext y
    have hb : ((cfg0.win 7).blk t).view.emb y = at' t y := by
      funext a
      apply Fin.ext
      match a with
      | ⟨0, _⟩ => show win0_7.index t (0 : Fin 2) * 176 + 1 * (y 0).val = t.val * 176 + (y 0).val; omega
      | ⟨1, _⟩ => show win0_7.index t (1 : Fin 2) * 1024 + 1 * (y 1).val = (y 1).val; omega
    have hx : ((cfg0.win 7).xinj (grid0.coords t) y : S176x1024.Idx) = y := by
      funext a
      apply Fin.ext
      match a with
      | ⟨0, _⟩ => rfl
      | ⟨1, _⟩ => rfl
    show (out0_7 (iblk m c 0 t) (iblk m c 1 t) (iblk m c 2 t) (iblk m c 3 t) ((cfg0.win 7).xinj (grid0.coords t) y) : EReal)
      = vA m c (((cfg0.win 7).blk t).view.emb y)
    rw [hb, hx]
    refine (out_7 (iblk m c 0 t) (iblk m c 1 t) (iblk m c 2 t) (iblk m c 3 t) y).trans ?_
    rw [blk0, blk3]
    rfl
  · have h0 : (i 0).val < 352 := (i 0).isLt
    have h1 : (i 1).val < 1024 := (i 1).isLt
    have hN : (i 0).val / 176 < cfg0.N := lt_of_lt_of_eq (by omega) N_0.symm
    obtain ⟨e0, e1⟩ := index7 ⟨(i 0).val / 176, hN⟩
    refine ⟨⟨(i 0).val / 176, hN⟩, flush0_7 _, ?_⟩
    show i ∈ ((View.whole main_v0_3).slice (win0_7.rect ⟨(i 0).val / 176, hN⟩)).set
    rw [View.set_slice_whole, Rect.mem_set_unit]
    intro a
    match a with
    | ⟨0, _⟩ =>
      show win0_7.index ⟨(i 0).val / 176, hN⟩ (0 : Fin 2) * 176 ≤ (i 0).val
        ∧ (i 0).val < win0_7.index ⟨(i 0).val / 176, hN⟩ (0 : Fin 2) * 176 + 176
      rw [e0]; dsimp only; omega
    | ⟨1, _⟩ =>
      show win0_7.index ⟨(i 0).val / 176, hN⟩ (1 : Fin 2) * 1024 ≤ (i 1).val
        ∧ (i 1).val < win0_7.index ⟨(i 0).val / 176, hN⟩ (1 : Fin 2) * 1024 + 1024
      rw [e1]; omega

end Cert.Kernel6Ideal.Ad

namespace Cert.Reference6Ideal.Ad

open Cert.Reference6Ideal Cert.Reference6Ideal.Gen Cert.Reference6Ideal.Read
open Idealize.ShloMosaic Idealize.ShloMosaic.TcCoe
open Cert.AdSpec
open scoped BigOperators

variable (x0 : (⟨S8x352x1024, .bf16⟩ : BufTy).Contents (Elt Ideal)) (x1 x2 x3 : (⟨S352x1024, .f32⟩ : BufTy).Contents (Elt Ideal)) (i : S352x1024.Idx)

theorem r_g : (val_main_v1 (F := Ideal) x0 i : EReal) = tot x0 i := by
  refine (val_main_v1_apply x0 i).trans ?_
  refine (congrArg (· + _) bits_zero).trans ((zero_add _).trans ?_)
  refine Finset.sum_congr rfl fun s _ => congrArg (x0 : S8x352x1024.Idx → EReal) ?_
  funext a
  apply Fin.ext
  match a with
  | ⟨0, _⟩ => rfl
  | ⟨1, _⟩ => rfl
  | ⟨2, _⟩ => rfl

theorem r_m : (val_main_v6 (F := Ideal) x0 x2 i : EReal) = newM (tot x0 i) (x2 i) := by
  rw [← r_g x0 i]
  simp only [val_main_v2_apply, val_main_v3_apply, val_main_v4_apply, val_main_v5_apply, val_main_v6_apply, val_main_cst_0_apply, val_main_cst_1_apply]
  rfl

theorem r_v : (val_main_v12 (F := Ideal) x0 x3 i : EReal) = newV (tot x0 i) (x3 i) := by
  rw [← r_g x0 i]
  simp only [val_main_v7_apply, val_main_v8_apply, val_main_v9_apply, val_main_v10_apply, val_main_v11_apply, val_main_v12_apply, val_main_cst_2_apply, val_main_cst_3_apply]
  rfl

theorem r_d : (val_main_v25 (F := Ideal) x0 x1 x2 x3 i : EReal) = step (tot x0 i) (x1 i) (x2 i) (x3 i) := by
  unfold step
  rw [← r_m x0 x2 i, ← r_v x0 x3 i]
  simp only [val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_cst_4_apply, val_main_cst_5_apply, val_main_cst_6_apply, val_main_cst_7_apply, val_main_cst_8_apply]
  rfl

end Cert.Reference6Ideal.Ad

namespace Cert.Proof

open Idealize.ShloMosaic Idealize.ShloMosaic.TcCoe

theorem frame_kernel6Ideal : Cert.quiescent_Kernel6Ideal := fun m ρ _ => Cert.Kernel6Ideal.Gen.frame (F := Ideal) m ρ

/-- The word-for-word program and its reading over the reals have the same launches. -/
theorem ad6_defs_eq : Cert.Kernel6.defs (F := Bits) = Cert.Kernel6Ideal.defs (F := Bits) := by
  have h : Cert.Kernel6.defs₀ (F := Bits) = Cert.Kernel6Ideal.defs₀ (F := Bits) := by
    unfold Cert.Kernel6.defs₀
    refine congrArg Defs.onTc (funext fun k => ?_)
    match k with
    | 0 => rfl
  unfold Cert.Kernel6.defs
  rw [h]
  rfl

theorem frame_kernel6 : Cert.quiescent_Kernel6 := by
  intro m ρ _
  rw [ad6_defs_eq]
  exact Cert.Kernel6Ideal.Gen.frame (F := Bits) m ρ

theorem frame_reference6Ideal : Cert.quiescent_Reference6Ideal := fun m ρ _ =>
  (θ_run Cert.Reference6Ideal.defs _ _).mono (fun r h => ⟨fun c => (h c).2.2.2.2, Idealize.ShloMosaic.sem_eq_zero_of_no_sems (by decide) r.2⟩) (Cert.Reference6Ideal.Value.run (F := Ideal) m ρ)

theorem algebraic6 : Cert.algebraic_Kernel6Ideal_Reference6Ideal := by
  intro m g m' g' _ h
  refine ⟨fun c => Cert.Kernel6Ideal.Ad.gA m c, fun c => Cert.Kernel6Ideal.Ad.dA m c,
    fun c => Cert.Kernel6Ideal.Ad.mA m c, fun c => Cert.Kernel6Ideal.Ad.vA m c, ?_, ?_⟩
  · refine (θ_run Cert.Kernel6Ideal.defs _ _).mono (fun r hr c => ?_) (Cert.Kernel6Ideal.Gen.run_main (F := Ideal) m g)
    exact ⟨((hr c).1 4).trans (Cert.Kernel6Ideal.Ad.final4 m c),
      ((hr c).1 5).trans (Cert.Kernel6Ideal.Ad.final5 m c),
      ((hr c).1 6).trans (Cert.Kernel6Ideal.Ad.final6 m c),
      ((hr c).1 7).trans (Cert.Kernel6Ideal.Ad.final7 m c), ((hr c).1 0).trans (((Cert.Kernel6Ideal.Gen.dats m 0 c).arrAt_in 0 rfl _).trans ((Cert.Kernel6Ideal.Gen.A_eq m c 0).trans (Cert.Kernel6Ideal.Gen.V_main_arg0 m c))),
      ((hr c).1 1).trans (((Cert.Kernel6Ideal.Gen.dats m 0 c).arrAt_in 1 rfl _).trans ((Cert.Kernel6Ideal.Gen.A_eq m c 1).trans (Cert.Kernel6Ideal.Gen.V_main_arg1 m c))),
      ((hr c).1 2).trans (((Cert.Kernel6Ideal.Gen.dats m 0 c).arrAt_in 2 rfl _).trans ((Cert.Kernel6Ideal.Gen.A_eq m c 2).trans (Cert.Kernel6Ideal.Gen.V_main_arg2 m c))),
      ((hr c).1 3).trans (((Cert.Kernel6Ideal.Gen.dats m 0 c).arrAt_in 3 rfl _).trans ((Cert.Kernel6Ideal.Gen.A_eq m c 3).trans (Cert.Kernel6Ideal.Gen.V_main_arg3 m c)))⟩
  · refine (θ_run Cert.Reference6Ideal.defs _ _).mono (fun r hr c => ?_) (Cert.Reference6Ideal.Value.run (F := Ideal) m' g')
    obtain ⟨k0, k1, k2, k3, k⟩ := hr c
    obtain ⟨a0, a1, a2, a3⟩ := h c
    refine ⟨k0.trans ?_, k1.trans ?_, k2.trans ?_, k3.trans ?_, k⟩
    · refine (Cert.Reference6Ideal.Read.val_main_v1_eq _).trans ?_
      rw [a0]
      funext i
      exact Cert.Reference6Ideal.Ad.r_g _ i
    · refine (Cert.Reference6Ideal.Read.val_main_v25_eq _ _ _ _).trans ?_
      rw [a0, a1, a2, a3]
      funext i
      exact Cert.Reference6Ideal.Ad.r_d _ _ _ _ i
    · refine (Cert.Reference6Ideal.Read.val_main_v6_eq _ _).trans ?_
      rw [a0, a2]
      funext i
      exact Cert.Reference6Ideal.Ad.r_m _ _ i
    · refine (Cert.Reference6Ideal.Read.val_main_v12_eq _ _).trans ?_
      rw [a0, a3]
      funext i
      exact Cert.Reference6Ideal.Ad.r_v _ _ i

end Cert.Proof

end
-- ==== Proof.Ad7.lean ====
/- The update of the input projection. -/
module

public import proofs.«01_k».proof.Proof.AdSpec
public import proofs.«01_k».proof.Defs
public import proofs.«01_k».proof.Proof.Gen.Kernel7
public import proofs.«01_k».proof.Proof.Gen.Kernel7Ideal.Frame
public import proofs.«01_k».proof.Proof.Gen.Reference7Ideal.Run
public import proofs.«01_k».proof.Proof.Gen.Reference7Ideal.Read

@[expose] public section

set_option maxRecDepth 16384

noncomputable section

namespace Cert.Kernel7Ideal.Ad

open Cert.Kernel7Ideal Cert.Kernel7Ideal.Gen
open Idealize.ShloMosaic Idealize.ShloMosaic.TcCoe Idealize.ShloMosaic.Tactic
open Idealize.ShloMosaic.Pipeline (Dat Cfg Window)
open Cert.AdSpec
open scoped BigOperators

section body
variable (x0 : Vec Ideal S8x385x1024 .bf16) (x1 x2 x3 : Vec Ideal S385x1024 .f32) (y : S385x1024.Idx)

theorem pay_g : (k0_pay5 x0 x1 x2 x3 y : EReal) = tot x0 y := by
  show _ = ∑ s : Fin 8, x0 (ix3 s (y 0) (y 1))
  rw [Fin.sum_univ_eight]
  exact (add (add (add (add (add (add (add (slab x0 (0 : Fin 8) _ _ y) (slab x0 (1 : Fin 8) _ _ y)) (slab x0 (2 : Fin 8) _ _ y)) (slab x0 (3 : Fin 8) _ _ y)) (slab x0 (4 : Fin 8) _ _ y)) (slab x0 (5 : Fin 8) _ _ y)) (slab x0 (6 : Fin 8) _ _ y)) (slab x0 (7 : Fin 8) _ _ y))

theorem out_4 : (out0_4 x0 x1 x2 x3 y : EReal) = tot x0 y := by
  unfold out0_4
  rw [canon_whole]
  exact pay_g x0 x1 x2 x3 y

theorem out_5 : (out0_5 x0 x1 x2 x3 y : EReal) = step (tot x0 y) (x1 y) (x2 y) (x3 y) := by
  unfold out0_5
  rw [canon_whole]
  have h1 : View.ld x1 r0_8 = x1 := ld_whole x1 _
  have h2 : View.ld x2 r0_8 = x2 := ld_whole x2 _
  have h3 : View.ld x3 r0_8 = x3 := ld_whole x3 _
  rw [← pay_g x0 x1 x2 x3 y]
  rw [h1, h2, h3]
  rfl

theorem out_6 : (out0_6 x0 x1 x2 x3 y : EReal) = newM (tot x0 y) (x2 y) := by
  unfold out0_6
  rw [canon_whole]
  have h2 : View.ld x2 r0_8 = x2 := ld_whole x2 _
  rw [← pay_g x0 x1 x2 x3 y]
  rw [h2]
  rfl

theorem out_7 : (out0_7 x0 x1 x2 x3 y : EReal) = newV (tot x0 y) (x3 y) := by
  unfold out0_7
  rw [canon_whole]
  have h3 : View.ld x3 r0_8 = x3 := ld_whole x3 _
  rw [← pay_g x0 x1 x2 x3 y]
  rw [h3]
  rfl

end body

variable (m : (ℓ : Loc nD τ sig) → Buf (Elt Ideal) ℓ) (c : Dev nD)

/-- The index of the whole array under an index of point `t`'s block. -/
def at' (t : Fin cfg0.N) (y : S385x1024.Idx) : S385x1024.Idx :=
  ix2 ⟨t.val * 385 + (y 0).val, by
    have h : t.val < 1 := lt_of_lt_of_eq t.isLt N_0
    have hy : (y 0).val < 385 := (y 0).isLt
    omega⟩ ⟨(y 1).val, (y 1).isLt⟩

theorem index0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem blk0 (t : Fin cfg0.N) (y : S385x1024.Idx) :
    tot (iblk m c 0 t : S8x385x1024.Idx → EReal) y = tot (m ((c : Thread nD τ).loc main_arg0) : S8x385x1024.Idx → EReal) (at' t y) := by
  obtain ⟨e0, e1, e2⟩ := index0 t
  refine Finset.sum_congr rfl fun s _ => congrArg (m ((c : Thread nD τ).loc main_arg0) : S8x385x1024.Idx → EReal) ?_
  funext a
  apply Fin.ext
  match a with
  | ⟨0, _⟩ => show win0_0.index t (0 : Fin 3) * 8 + 1 * s.val = s.val; omega
  | ⟨1, _⟩ => show win0_0.index t (1 : Fin 3) * 385 + 1 * (y 0).val = t.val * 385 + (y 0).val; omega
  | ⟨2, _⟩ => show win0_0.index t (2 : Fin 3) * 1024 + 1 * (y 1).val = (y 1).val; omega

theorem blk1 (t : Fin cfg0.N) (y : S385x1024.Idx) :
    ((iblk m c 1 t : S385x1024.Idx → EReal) y) = (m ((c : Thread nD τ).loc main_arg1) : S385x1024.Idx → EReal) (at' t y) := by
  obtain ⟨e0, e1⟩ := index1 t
  refine congrArg (m ((c : Thread nD τ).loc main_arg1) : S385x1024.Idx → EReal) ?_
  funext a
  apply Fin.ext
  match a with
  | ⟨0, _⟩ => show win0_1.index t (0 : Fin 2) * 385 + 1 * (y 0).val = t.val * 385 + (y 0).val; omega
  | ⟨1, _⟩ => show win0_1.index t (1 : Fin 2) * 1024 + 1 * (y 1).val = (y 1).val; omega

theorem blk2 (t : Fin cfg0.N) (y : S385x1024.Idx) :
    ((iblk m c 2 t : S385x1024.Idx → EReal) y) = (m ((c : Thread nD τ).loc main_arg2) : S385x1024.Idx → EReal) (at' t y) := by
  obtain ⟨e0, e1⟩ := index2 t
  refine congrArg (m ((c : Thread nD τ).loc main_arg2) : S385x1024.Idx → EReal) ?_
  funext a
  apply Fin.ext
  match a with
  | ⟨0, _⟩ => show win0_2.index t (0 : Fin 2) * 385 + 1 * (y 0).val = t.val * 385 + (y 0).val; omega
  | ⟨1, _⟩ => show win0_2.index t (1 : Fin 2) * 1024 + 1 * (y 1).val = (y 1).val; omega

theorem blk3 (t : Fin cfg0.N) (y : S385x1024.Idx) :
    ((iblk m c 3 t : S385x1024.Idx → EReal) y) = (m ((c : Thread nD τ).loc main_arg3) : S385x1024.Idx → EReal) (at' t y) := by
  obtain ⟨e0, e1⟩ := index3 t
  refine congrArg (m ((c : Thread nD τ).loc main_arg3) : S385x1024.Idx → EReal) ?_
  funext a
  apply Fin.ext
  match a with
  | ⟨0, _⟩ => show win0_3.index t (0 : Fin 2) * 385 + 1 * (y 0).val = t.val * 385 + (y 0).val; omega
  | ⟨1, _⟩ => show win0_3.index t (1 : Fin 2) * 1024 + 1 * (y 1).val = (y 1).val; omega

/-- The gradient at an index of the array. -/
def gA (i : S385x1024.Idx) : EReal := tot (m ((c : Thread nD τ).loc main_arg0) : S8x385x1024.Idx → EReal) i
def dA (i : S385x1024.Idx) : EReal := step (gA m c i) ((m ((c : Thread nD τ).loc main_arg1) : S385x1024.Idx → EReal) i) ((m ((c : Thread nD τ).loc main_arg2) : S385x1024.Idx → EReal) i) ((m ((c : Thread nD τ).loc main_arg3) : S385x1024.Idx → EReal) i)
def mA (i : S385x1024.Idx) : EReal := newM (gA m c i) ((m ((c : Thread nD τ).loc main_arg2) : S385x1024.Idx → EReal) i)
def vA (i : S385x1024.Idx) : EReal := newV (gA m c i) ((m ((c : Thread nD τ).loc main_arg3) : S385x1024.Idx → EReal) i)

/-- The array of output 4 after the run. -/
theorem final4 : ((dats m 0 c).arrAt 4 cfg0.N : S385x1024.Idx → EReal) = gA m c := by
  refine (dats m 0 c).arrAt_eq_of_cover 4 _ (fun t hf => ?_) (fun i => ?_)
  · obtain ⟨e0, e1⟩ := index4 t
    show (cfg0.win 4).cut (grid0.coords t) ((dats m 0 c).after 4 t) = _
    rw [after0_4]
    funext y
    have hb : ((cfg0.win 4).blk t).view.emb y = at' t y := by
      funext a
      apply Fin.ext
      match a with
      | ⟨0, _⟩ => show win0_4.index t (0 : Fin 2) * 385 + 1 * (y 0).val = t.val * 385 + (y 0).val; omega
      | ⟨1, _⟩ => show win0_4.index t (1 : Fin 2) * 1024 + 1 * (y 1).val = (y 1).val; omega
    have hx : ((cfg0.win 4).xinj (grid0.coords t) y : S385x1024.Idx) = y := by
      funext a
      apply Fin.ext
      match a with
      | ⟨0, _⟩ => rfl
      | ⟨1, _⟩ => rfl
    show (out0_4 (iblk m c 0 t) (iblk m c 1 t) (iblk m c 2 t) (iblk m c 3 t) ((cfg0.win 4).xinj (grid0.coords t) y) : EReal)
      = gA m c (((cfg0.win 4).blk t).view.emb y)
    rw [hb, hx]
    refine (out_4 (iblk m c 0 t) (iblk m c 1 t) (iblk m c 2 t) (iblk m c 3 t) y).trans ?_
    rw [blk0]
    rfl
  · have h0 : (i 0).val < 385 := (i 0).isLt
    have h1 : (i 1).val < 1024 := (i 1).isLt
    have hN : (i 0).val / 385 < cfg0.N := lt_of_lt_of_eq (by omega) N_0.symm
    obtain ⟨e0, e1⟩ := index4 ⟨(i 0).val / 385, hN⟩
    refine ⟨⟨(i 0).val / 385, hN⟩, flush0_4 _, ?_⟩
    show i ∈ ((View.whole main_v0_0).slice (win0_4.rect ⟨(i 0).val / 385, hN⟩)).set
    rw [View.set_slice_whole, Rect.mem_set_unit]
    intro a
    match a with
    | ⟨0, _⟩ =>
      show win0_4.index ⟨(i 0).val / 385, hN⟩ (0 : Fin 2) * 385 ≤ (i 0).val
        ∧ (i 0).val < win0_4.index ⟨(i 0).val / 385, hN⟩ (0 : Fin 2) * 385 + 385
      rw [e0]; dsimp only; omega
    | ⟨1, _⟩ =>
      show win0_4.index ⟨(i 0).val / 385, hN⟩ (1 : Fin 2) * 1024 ≤ (i 1).val
        ∧ (i 1).val < win0_4.index ⟨(i 0).val / 385, hN⟩ (1 : Fin 2) * 1024 + 1024
      rw [e1]; omega

/-- The array of output 5 after the run. -/
theorem final5 : ((dats m 0 c).arrAt 5 cfg0.N : S385x1024.Idx → EReal) = dA m c := by
  refine (dats m 0 c).arrAt_eq_of_cover 5 _ (fun t hf => ?_) (fun i => ?_)
  · obtain ⟨e0, e1⟩ := index5 t
    show (cfg0.win 5).cut (grid0.coords t) ((dats m 0 c).after 5 t) = _
    rw [after0_5]
    funext y
    have hb : ((cfg0.win 5).blk t).view.emb y = at' t y := by
      funext a
      apply Fin.ext
      match a with
      | ⟨0, _⟩ => show win0_5.index t (0 : Fin 2) * 385 + 1 * (y 0).val = t.val * 385 + (y 0).val; omega
      | ⟨1, _⟩ => show win0_5.index t (1 : Fin 2) * 1024 + 1 * (y 1).val = (y 1).val; omega
    have hx : ((cfg0.win 5).xinj (grid0.coords t) y : S385x1024.Idx) = y := by
      funext a
      apply Fin.ext
      match a with
      | ⟨0, _⟩ => rfl
      | ⟨1, _⟩ => rfl
    show (out0_5 (iblk m c 0 t) (iblk m c 1 t) (iblk m c 2 t) (iblk m c 3 t) ((cfg0.win 5).xinj (grid0.coords t) y) : EReal)
      = dA m c (((cfg0.win 5).blk t).view.emb y)
    rw [hb, hx]
    refine (out_5 (iblk m c 0 t) (iblk m c 1 t) (iblk m c 2 t) (iblk m c 3 t) y).trans ?_
    rw [blk0, blk1, blk2, blk3]
    rfl
  · have h0 : (i 0).val < 385 := (i 0).isLt
    have h1 : (i 1).val < 1024 := (i 1).isLt
    have hN : (i 0).val / 385 < cfg0.N := lt_of_lt_of_eq (by omega) N_0.symm
    obtain ⟨e0, e1⟩ := index5 ⟨(i 0).val / 385, hN⟩
    refine ⟨⟨(i 0).val / 385, hN⟩, flush0_5 _, ?_⟩
    show i ∈ ((View.whole main_v0_1).slice (win0_5.rect ⟨(i 0).val / 385, hN⟩)).set
    rw [View.set_slice_whole, Rect.mem_set_unit]
    intro a
    match a with
    | ⟨0, _⟩ =>
      show win0_5.index ⟨(i 0).val / 385, hN⟩ (0 : Fin 2) * 385 ≤ (i 0).val
        ∧ (i 0).val < win0_5.index ⟨(i 0).val / 385, hN⟩ (0 : Fin 2) * 385 + 385
      rw [e0]; dsimp only; omega
    | ⟨1, _⟩ =>
      show win0_5.index ⟨(i 0).val / 385, hN⟩ (1 : Fin 2) * 1024 ≤ (i 1).val
        ∧ (i 1).val < win0_5.index ⟨(i 0).val / 385, hN⟩ (1 : Fin 2) * 1024 + 1024
      rw [e1]; omega

/-- The array of output 6 after the run. -/
theorem final6 : ((dats m 0 c).arrAt 6 cfg0.N : S385x1024.Idx → EReal) = mA m c := by
  refine (dats m 0 c).arrAt_eq_of_cover 6 _ (fun t hf => ?_) (fun i => ?_)
  · obtain ⟨e0, e1⟩ := index6 t
    show (cfg0.win 6).cut (grid0.coords t) ((dats m 0 c).after 6 t) = _
    rw [after0_6]
    funext y
    have hb : ((cfg0.win 6).blk t).view.emb y = at' t y := by
      funext a
      apply Fin.ext
      match a with
      | ⟨0, _⟩ => show win0_6.index t (0 : Fin 2) * 385 + 1 * (y 0).val = t.val * 385 + (y 0).val; omega
      | ⟨1, _⟩ => show win0_6.index t (1 : Fin 2) * 1024 + 1 * (y 1).val = (y 1).val; omega
    have hx : ((cfg0.win 6).xinj (grid0.coords t) y : S385x1024.Idx) = y := by
      funext a
      apply Fin.ext
      match a with
      | ⟨0, _⟩ => rfl
      | ⟨1, _⟩ => rfl
    show (out0_6 (iblk m c 0 t) (iblk m c 1 t) (iblk m c 2 t) (iblk m c 3 t) ((cfg0.win 6).xinj (grid0.coords t) y) : EReal)
      = mA m c (((cfg0.win 6).blk t).view.emb y)
    rw [hb, hx]
    refine (out_6 (iblk m c 0 t) (iblk m c 1 t) (iblk m c 2 t) (iblk m c 3 t) y).trans ?_
    rw [blk0, blk2]
    rfl
  · have h0 : (i 0).val < 385 := (i 0).isLt
    have h1 : (i 1).val < 1024 := (i 1).isLt
    have hN : (i 0).val / 385 < cfg0.N := lt_of_lt_of_eq (by omega) N_0.symm
    obtain ⟨e0, e1⟩ := index6 ⟨(i 0).val / 385, hN⟩
    refine ⟨⟨(i 0).val / 385, hN⟩, flush0_6 _, ?_⟩
    show i ∈ ((View.whole main_v0_2).slice (win0_6.rect ⟨(i 0).val / 385, hN⟩)).set
    rw [View.set_slice_whole, Rect.mem_set_unit]
    intro a
    match a with
    | ⟨0, _⟩ =>
      show win0_6.index ⟨(i 0).val / 385, hN⟩ (0 : Fin 2) * 385 ≤ (i 0).val
        ∧ (i 0).val < win0_6.index ⟨(i 0).val / 385, hN⟩ (0 : Fin 2) * 385 + 385
      rw [e0]; dsimp only; omega
    | ⟨1, _⟩ =>
      show win0_6.index ⟨(i 0).val / 385, hN⟩ (1 : Fin 2) * 1024 ≤ (i 1).val
        ∧ (i 1).val < win0_6.index ⟨(i 0).val / 385, hN⟩ (1 : Fin 2) * 1024 + 1024
      rw [e1]; omega

/-- The array of output 7 after the run. -/
theorem final7 : ((dats m 0 c).arrAt 7 cfg0.N : S385x1024.Idx → EReal) = vA m c := by
  refine (dats m 0 c).arrAt_eq_of_cover 7 _ (fun t hf => ?_) (fun i => ?_)
  · obtain ⟨e0, e1⟩ := index7 t
    show (cfg0.win 7).cut (grid0.coords t) ((dats m 0 c).after 7 t) = _
    rw [after0_7]
    funext y
    have hb : ((cfg0.win 7).blk t).view.emb y = at' t y := by
      funext a
      apply Fin.ext
      match a with
      | ⟨0, _⟩ => show win0_7.index t (0 : Fin 2) * 385 + 1 * (y 0).val = t.val * 385 + (y 0).val; omega
      | ⟨1, _⟩ => show win0_7.index t (1 : Fin 2) * 1024 + 1 * (y 1).val = (y 1).val; omega
    have hx : ((cfg0.win 7).xinj (grid0.coords t) y : S385x1024.Idx) = y := by
      funext a
      apply Fin.ext
      match a with
      | ⟨0, _⟩ => rfl
      | ⟨1, _⟩ => rfl
    show (out0_7 (iblk m c 0 t) (iblk m c 1 t) (iblk m c 2 t) (iblk m c 3 t) ((cfg0.win 7).xinj (grid0.coords t) y) : EReal)
      = vA m c (((cfg0.win 7).blk t).view.emb y)
    rw [hb, hx]
    refine (out_7 (iblk m c 0 t) (iblk m c 1 t) (iblk m c 2 t) (iblk m c 3 t) y).trans ?_
    rw [blk0, blk3]
    rfl
  · have h0 : (i 0).val < 385 := (i 0).isLt
    have h1 : (i 1).val < 1024 := (i 1).isLt
    have hN : (i 0).val / 385 < cfg0.N := lt_of_lt_of_eq (by omega) N_0.symm
    obtain ⟨e0, e1⟩ := index7 ⟨(i 0).val / 385, hN⟩
    refine ⟨⟨(i 0).val / 385, hN⟩, flush0_7 _, ?_⟩
    show i ∈ ((View.whole main_v0_3).slice (win0_7.rect ⟨(i 0).val / 385, hN⟩)).set
    rw [View.set_slice_whole, Rect.mem_set_unit]
    intro a
    match a with
    | ⟨0, _⟩ =>
      show win0_7.index ⟨(i 0).val / 385, hN⟩ (0 : Fin 2) * 385 ≤ (i 0).val
        ∧ (i 0).val < win0_7.index ⟨(i 0).val / 385, hN⟩ (0 : Fin 2) * 385 + 385
      rw [e0]; dsimp only; omega
    | ⟨1, _⟩ =>
      show win0_7.index ⟨(i 0).val / 385, hN⟩ (1 : Fin 2) * 1024 ≤ (i 1).val
        ∧ (i 1).val < win0_7.index ⟨(i 0).val / 385, hN⟩ (1 : Fin 2) * 1024 + 1024
      rw [e1]; omega

end Cert.Kernel7Ideal.Ad

namespace Cert.Reference7Ideal.Ad

open Cert.Reference7Ideal Cert.Reference7Ideal.Gen Cert.Reference7Ideal.Read
open Idealize.ShloMosaic Idealize.ShloMosaic.TcCoe
open Cert.AdSpec
open scoped BigOperators

variable (x0 : (⟨S8x385x1024, .bf16⟩ : BufTy).Contents (Elt Ideal)) (x1 x2 x3 : (⟨S385x1024, .f32⟩ : BufTy).Contents (Elt Ideal)) (i : S385x1024.Idx)

theorem r_g : (val_main_v1 (F := Ideal) x0 i : EReal) = tot x0 i := by
  refine (val_main_v1_apply x0 i).trans ?_
  refine (congrArg (· + _) bits_zero).trans ((zero_add _).trans ?_)
  refine Finset.sum_congr rfl fun s _ => congrArg (x0 : S8x385x1024.Idx → EReal) ?_
  funext a
  apply Fin.ext
  match a with
  | ⟨0, _⟩ => rfl
  | ⟨1, _⟩ => rfl
  | ⟨2, _⟩ => rfl

theorem r_m : (val_main_v6 (F := Ideal) x0 x2 i : EReal) = newM (tot x0 i) (x2 i) := by
  rw [← r_g x0 i]
  simp only [val_main_v2_apply, val_main_v3_apply, val_main_v4_apply, val_main_v5_apply, val_main_v6_apply, val_main_cst_0_apply, val_main_cst_1_apply]
  rfl

theorem r_v : (val_main_v12 (F := Ideal) x0 x3 i : EReal) = newV (tot x0 i) (x3 i) := by
  rw [← r_g x0 i]
  simp only [val_main_v7_apply, val_main_v8_apply, val_main_v9_apply, val_main_v10_apply, val_main_v11_apply, val_main_v12_apply, val_main_cst_2_apply, val_main_cst_3_apply]
  rfl

theorem r_d : (val_main_v25 (F := Ideal) x0 x1 x2 x3 i : EReal) = step (tot x0 i) (x1 i) (x2 i) (x3 i) := by
  unfold step
  rw [← r_m x0 x2 i, ← r_v x0 x3 i]
  simp only [val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_cst_4_apply, val_main_cst_5_apply, val_main_cst_6_apply, val_main_cst_7_apply, val_main_cst_8_apply]
  rfl

end Cert.Reference7Ideal.Ad

namespace Cert.Proof

open Idealize.ShloMosaic Idealize.ShloMosaic.TcCoe

theorem frame_kernel7Ideal : Cert.quiescent_Kernel7Ideal := fun m ρ _ => Cert.Kernel7Ideal.Gen.frame (F := Ideal) m ρ

/-- The word-for-word program and its reading over the reals have the same launches. -/
theorem ad7_defs_eq : Cert.Kernel7.defs (F := Bits) = Cert.Kernel7Ideal.defs (F := Bits) := by
  have h : Cert.Kernel7.defs₀ (F := Bits) = Cert.Kernel7Ideal.defs₀ (F := Bits) := by
    unfold Cert.Kernel7.defs₀
    refine congrArg Defs.onTc (funext fun k => ?_)
    match k with
    | 0 => rfl
  unfold Cert.Kernel7.defs
  rw [h]
  rfl

theorem frame_kernel7 : Cert.quiescent_Kernel7 := by
  intro m ρ _
  rw [ad7_defs_eq]
  exact Cert.Kernel7Ideal.Gen.frame (F := Bits) m ρ

theorem frame_reference7Ideal : Cert.quiescent_Reference7Ideal := fun m ρ _ =>
  (θ_run Cert.Reference7Ideal.defs _ _).mono (fun r h => ⟨fun c => (h c).2.2.2.2, Idealize.ShloMosaic.sem_eq_zero_of_no_sems (by decide) r.2⟩) (Cert.Reference7Ideal.Value.run (F := Ideal) m ρ)

theorem algebraic7 : Cert.algebraic_Kernel7Ideal_Reference7Ideal := by
  intro m g m' g' _ h
  refine ⟨fun c => Cert.Kernel7Ideal.Ad.gA m c, fun c => Cert.Kernel7Ideal.Ad.dA m c,
    fun c => Cert.Kernel7Ideal.Ad.mA m c, fun c => Cert.Kernel7Ideal.Ad.vA m c, ?_, ?_⟩
  · refine (θ_run Cert.Kernel7Ideal.defs _ _).mono (fun r hr c => ?_) (Cert.Kernel7Ideal.Gen.run_main (F := Ideal) m g)
    exact ⟨((hr c).1 4).trans (Cert.Kernel7Ideal.Ad.final4 m c),
      ((hr c).1 5).trans (Cert.Kernel7Ideal.Ad.final5 m c),
      ((hr c).1 6).trans (Cert.Kernel7Ideal.Ad.final6 m c),
      ((hr c).1 7).trans (Cert.Kernel7Ideal.Ad.final7 m c), ((hr c).1 0).trans (((Cert.Kernel7Ideal.Gen.dats m 0 c).arrAt_in 0 rfl _).trans ((Cert.Kernel7Ideal.Gen.A_eq m c 0).trans (Cert.Kernel7Ideal.Gen.V_main_arg0 m c))),
      ((hr c).1 1).trans (((Cert.Kernel7Ideal.Gen.dats m 0 c).arrAt_in 1 rfl _).trans ((Cert.Kernel7Ideal.Gen.A_eq m c 1).trans (Cert.Kernel7Ideal.Gen.V_main_arg1 m c))),
      ((hr c).1 2).trans (((Cert.Kernel7Ideal.Gen.dats m 0 c).arrAt_in 2 rfl _).trans ((Cert.Kernel7Ideal.Gen.A_eq m c 2).trans (Cert.Kernel7Ideal.Gen.V_main_arg2 m c))),
      ((hr c).1 3).trans (((Cert.Kernel7Ideal.Gen.dats m 0 c).arrAt_in 3 rfl _).trans ((Cert.Kernel7Ideal.Gen.A_eq m c 3).trans (Cert.Kernel7Ideal.Gen.V_main_arg3 m c)))⟩
  · refine (θ_run Cert.Reference7Ideal.defs _ _).mono (fun r hr c => ?_) (Cert.Reference7Ideal.Value.run (F := Ideal) m' g')
    obtain ⟨k0, k1, k2, k3, k⟩ := hr c
    obtain ⟨a0, a1, a2, a3⟩ := h c
    refine ⟨k0.trans ?_, k1.trans ?_, k2.trans ?_, k3.trans ?_, k⟩
    · refine (Cert.Reference7Ideal.Read.val_main_v1_eq _).trans ?_
      rw [a0]
      funext i
      exact Cert.Reference7Ideal.Ad.r_g _ i
    · refine (Cert.Reference7Ideal.Read.val_main_v25_eq _ _ _ _).trans ?_
      rw [a0, a1, a2, a3]
      funext i
      exact Cert.Reference7Ideal.Ad.r_d _ _ _ _ i
    · refine (Cert.Reference7Ideal.Read.val_main_v6_eq _ _).trans ?_
      rw [a0, a2]
      funext i
      exact Cert.Reference7Ideal.Ad.r_m _ _ i
    · refine (Cert.Reference7Ideal.Read.val_main_v12_eq _ _).trans ?_
      rw [a0, a3]
      funext i
      exact Cert.Reference7Ideal.Ad.r_v _ _ i

end Cert.Proof

end
-- ==== Proof.Ad8.lean ====
/- The update of the output projection. -/
module

public import proofs.«01_k».proof.Proof.AdSpec
public import proofs.«01_k».proof.Defs
public import proofs.«01_k».proof.Proof.Gen.Kernel8
public import proofs.«01_k».proof.Proof.Gen.Kernel8Ideal.Frame
public import proofs.«01_k».proof.Proof.Gen.Reference8Ideal.Run
public import proofs.«01_k».proof.Proof.Gen.Reference8Ideal.Read

@[expose] public section

set_option maxRecDepth 16384

noncomputable section

namespace Cert.Kernel8Ideal.Ad

open Cert.Kernel8Ideal Cert.Kernel8Ideal.Gen
open Idealize.ShloMosaic Idealize.ShloMosaic.TcCoe Idealize.ShloMosaic.Tactic
open Idealize.ShloMosaic.Pipeline (Dat Cfg Window)
open Cert.AdSpec
open scoped BigOperators

section body
variable (x0 : Vec Ideal S8x128x1024 .bf16) (x1 x2 x3 : Vec Ideal S128x1024 .f32) (y : S128x1024.Idx)

theorem pay_g : (k0_pay5 x0 x1 x2 x3 y : EReal) = tot x0 y := by
  show _ = ∑ s : Fin 8, x0 (ix3 s (y 0) (y 1))
  rw [Fin.sum_univ_eight]
  exact (add (add (add (add (add (add (add (slab x0 (0 : Fin 8) _ _ y) (slab x0 (1 : Fin 8) _ _ y)) (slab x0 (2 : Fin 8) _ _ y)) (slab x0 (3 : Fin 8) _ _ y)) (slab x0 (4 : Fin 8) _ _ y)) (slab x0 (5 : Fin 8) _ _ y)) (slab x0 (6 : Fin 8) _ _ y)) (slab x0 (7 : Fin 8) _ _ y))

theorem out_4 : (out0_4 x0 x1 x2 x3 y : EReal) = tot x0 y := by
  unfold out0_4
  rw [canon_whole]
  exact pay_g x0 x1 x2 x3 y

theorem out_5 : (out0_5 x0 x1 x2 x3 y : EReal) = step (tot x0 y) (x1 y) (x2 y) (x3 y) := by
  unfold out0_5
  rw [canon_whole]
  have h1 : View.ld x1 r0_8 = x1 := ld_whole x1 _
  have h2 : View.ld x2 r0_8 = x2 := ld_whole x2 _
  have h3 : View.ld x3 r0_8 = x3 := ld_whole x3 _
  rw [← pay_g x0 x1 x2 x3 y]
  rw [h1, h2, h3]
  rfl

theorem out_6 : (out0_6 x0 x1 x2 x3 y : EReal) = newM (tot x0 y) (x2 y) := by
  unfold out0_6
  rw [canon_whole]
  have h2 : View.ld x2 r0_8 = x2 := ld_whole x2 _
  rw [← pay_g x0 x1 x2 x3 y]
  rw [h2]
  rfl

theorem out_7 : (out0_7 x0 x1 x2 x3 y : EReal) = newV (tot x0 y) (x3 y) := by
  unfold out0_7
  rw [canon_whole]
  have h3 : View.ld x3 r0_8 = x3 := ld_whole x3 _
  rw [← pay_g x0 x1 x2 x3 y]
  rw [h3]
  rfl

end body

variable (m : (ℓ : Loc nD τ sig) → Buf (Elt Ideal) ℓ) (c : Dev nD)

/-- The index of the whole array under an index of point `t`'s block. -/
def at' (t : Fin cfg0.N) (y : S128x1024.Idx) : S128x1024.Idx :=
  ix2 ⟨t.val * 128 + (y 0).val, by
    have h : t.val < 1 := lt_of_lt_of_eq t.isLt N_0
    have hy : (y 0).val < 128 := (y 0).isLt
    omega⟩ ⟨(y 1).val, (y 1).isLt⟩

theorem index0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem blk0 (t : Fin cfg0.N) (y : S128x1024.Idx) :
    tot (iblk m c 0 t : S8x128x1024.Idx → EReal) y = tot (m ((c : Thread nD τ).loc main_arg0) : S8x128x1024.Idx → EReal) (at' t y) := by
  obtain ⟨e0, e1, e2⟩ := index0 t
  refine Finset.sum_congr rfl fun s _ => congrArg (m ((c : Thread nD τ).loc main_arg0) : S8x128x1024.Idx → EReal) ?_
  funext a
  apply Fin.ext
  match a with
  | ⟨0, _⟩ => show win0_0.index t (0 : Fin 3) * 8 + 1 * s.val = s.val; omega
  | ⟨1, _⟩ => show win0_0.index t (1 : Fin 3) * 128 + 1 * (y 0).val = t.val * 128 + (y 0).val; omega
  | ⟨2, _⟩ => show win0_0.index t (2 : Fin 3) * 1024 + 1 * (y 1).val = (y 1).val; omega

theorem blk1 (t : Fin cfg0.N) (y : S128x1024.Idx) :
    ((iblk m c 1 t : S128x1024.Idx → EReal) y) = (m ((c : Thread nD τ).loc main_arg1) : S128x1024.Idx → EReal) (at' t y) := by
  obtain ⟨e0, e1⟩ := index1 t
  refine congrArg (m ((c : Thread nD τ).loc main_arg1) : S128x1024.Idx → EReal) ?_
  funext a
  apply Fin.ext
  match a with
  | ⟨0, _⟩ => show win0_1.index t (0 : Fin 2) * 128 + 1 * (y 0).val = t.val * 128 + (y 0).val; omega
  | ⟨1, _⟩ => show win0_1.index t (1 : Fin 2) * 1024 + 1 * (y 1).val = (y 1).val; omega

theorem blk2 (t : Fin cfg0.N) (y : S128x1024.Idx) :
    ((iblk m c 2 t : S128x1024.Idx → EReal) y) = (m ((c : Thread nD τ).loc main_arg2) : S128x1024.Idx → EReal) (at' t y) := by
  obtain ⟨e0, e1⟩ := index2 t
  refine congrArg (m ((c : Thread nD τ).loc main_arg2) : S128x1024.Idx → EReal) ?_
  funext a
  apply Fin.ext
  match a with
  | ⟨0, _⟩ => show win0_2.index t (0 : Fin 2) * 128 + 1 * (y 0).val = t.val * 128 + (y 0).val; omega
  | ⟨1, _⟩ => show win0_2.index t (1 : Fin 2) * 1024 + 1 * (y 1).val = (y 1).val; omega

theorem blk3 (t : Fin cfg0.N) (y : S128x1024.Idx) :
    ((iblk m c 3 t : S128x1024.Idx → EReal) y) = (m ((c : Thread nD τ).loc main_arg3) : S128x1024.Idx → EReal) (at' t y) := by
  obtain ⟨e0, e1⟩ := index3 t
  refine congrArg (m ((c : Thread nD τ).loc main_arg3) : S128x1024.Idx → EReal) ?_
  funext a
  apply Fin.ext
  match a with
  | ⟨0, _⟩ => show win0_3.index t (0 : Fin 2) * 128 + 1 * (y 0).val = t.val * 128 + (y 0).val; omega
  | ⟨1, _⟩ => show win0_3.index t (1 : Fin 2) * 1024 + 1 * (y 1).val = (y 1).val; omega

/-- The gradient at an index of the array. -/
def gA (i : S128x1024.Idx) : EReal := tot (m ((c : Thread nD τ).loc main_arg0) : S8x128x1024.Idx → EReal) i
def dA (i : S128x1024.Idx) : EReal := step (gA m c i) ((m ((c : Thread nD τ).loc main_arg1) : S128x1024.Idx → EReal) i) ((m ((c : Thread nD τ).loc main_arg2) : S128x1024.Idx → EReal) i) ((m ((c : Thread nD τ).loc main_arg3) : S128x1024.Idx → EReal) i)
def mA (i : S128x1024.Idx) : EReal := newM (gA m c i) ((m ((c : Thread nD τ).loc main_arg2) : S128x1024.Idx → EReal) i)
def vA (i : S128x1024.Idx) : EReal := newV (gA m c i) ((m ((c : Thread nD τ).loc main_arg3) : S128x1024.Idx → EReal) i)

/-- The array of output 4 after the run. -/
theorem final4 : ((dats m 0 c).arrAt 4 cfg0.N : S128x1024.Idx → EReal) = gA m c := by
  refine (dats m 0 c).arrAt_eq_of_cover 4 _ (fun t hf => ?_) (fun i => ?_)
  · obtain ⟨e0, e1⟩ := index4 t
    show (cfg0.win 4).cut (grid0.coords t) ((dats m 0 c).after 4 t) = _
    rw [after0_4]
    funext y
    have hb : ((cfg0.win 4).blk t).view.emb y = at' t y := by
      funext a
      apply Fin.ext
      match a with
      | ⟨0, _⟩ => show win0_4.index t (0 : Fin 2) * 128 + 1 * (y 0).val = t.val * 128 + (y 0).val; omega
      | ⟨1, _⟩ => show win0_4.index t (1 : Fin 2) * 1024 + 1 * (y 1).val = (y 1).val; omega
    have hx : ((cfg0.win 4).xinj (grid0.coords t) y : S128x1024.Idx) = y := by
      funext a
      apply Fin.ext
      match a with
      | ⟨0, _⟩ => rfl
      | ⟨1, _⟩ => rfl
    show (out0_4 (iblk m c 0 t) (iblk m c 1 t) (iblk m c 2 t) (iblk m c 3 t) ((cfg0.win 4).xinj (grid0.coords t) y) : EReal)
      = gA m c (((cfg0.win 4).blk t).view.emb y)
    rw [hb, hx]
    refine (out_4 (iblk m c 0 t) (iblk m c 1 t) (iblk m c 2 t) (iblk m c 3 t) y).trans ?_
    rw [blk0]
    rfl
  · have h0 : (i 0).val < 128 := (i 0).isLt
    have h1 : (i 1).val < 1024 := (i 1).isLt
    have hN : (i 0).val / 128 < cfg0.N := lt_of_lt_of_eq (by omega) N_0.symm
    obtain ⟨e0, e1⟩ := index4 ⟨(i 0).val / 128, hN⟩
    refine ⟨⟨(i 0).val / 128, hN⟩, flush0_4 _, ?_⟩
    show i ∈ ((View.whole main_v0_0).slice (win0_4.rect ⟨(i 0).val / 128, hN⟩)).set
    rw [View.set_slice_whole, Rect.mem_set_unit]
    intro a
    match a with
    | ⟨0, _⟩ =>
      show win0_4.index ⟨(i 0).val / 128, hN⟩ (0 : Fin 2) * 128 ≤ (i 0).val
        ∧ (i 0).val < win0_4.index ⟨(i 0).val / 128, hN⟩ (0 : Fin 2) * 128 + 128
      rw [e0]; dsimp only; omega
    | ⟨1, _⟩ =>
      show win0_4.index ⟨(i 0).val / 128, hN⟩ (1 : Fin 2) * 1024 ≤ (i 1).val
        ∧ (i 1).val < win0_4.index ⟨(i 0).val / 128, hN⟩ (1 : Fin 2) * 1024 + 1024
      rw [e1]; omega

/-- The array of output 5 after the run. -/
theorem final5 : ((dats m 0 c).arrAt 5 cfg0.N : S128x1024.Idx → EReal) = dA m c := by
  refine (dats m 0 c).arrAt_eq_of_cover 5 _ (fun t hf => ?_) (fun i => ?_)
  · obtain ⟨e0, e1⟩ := index5 t
    show (cfg0.win 5).cut (grid0.coords t) ((dats m 0 c).after 5 t) = _
    rw [after0_5]
    funext y
    have hb : ((cfg0.win 5).blk t).view.emb y = at' t y := by
      funext a
      apply Fin.ext
      match a with
      | ⟨0, _⟩ => show win0_5.index t (0 : Fin 2) * 128 + 1 * (y 0).val = t.val * 128 + (y 0).val; omega
      | ⟨1, _⟩ => show win0_5.index t (1 : Fin 2) * 1024 + 1 * (y 1).val = (y 1).val; omega
    have hx : ((cfg0.win 5).xinj (grid0.coords t) y : S128x1024.Idx) = y := by
      funext a
      apply Fin.ext
      match a with
      | ⟨0, _⟩ => rfl
      | ⟨1, _⟩ => rfl
    show (out0_5 (iblk m c 0 t) (iblk m c 1 t) (iblk m c 2 t) (iblk m c 3 t) ((cfg0.win 5).xinj (grid0.coords t) y) : EReal)
      = dA m c (((cfg0.win 5).blk t).view.emb y)
    rw [hb, hx]
    refine (out_5 (iblk m c 0 t) (iblk m c 1 t) (iblk m c 2 t) (iblk m c 3 t) y).trans ?_
    rw [blk0, blk1, blk2, blk3]
    rfl
  · have h0 : (i 0).val < 128 := (i 0).isLt
    have h1 : (i 1).val < 1024 := (i 1).isLt
    have hN : (i 0).val / 128 < cfg0.N := lt_of_lt_of_eq (by omega) N_0.symm
    obtain ⟨e0, e1⟩ := index5 ⟨(i 0).val / 128, hN⟩
    refine ⟨⟨(i 0).val / 128, hN⟩, flush0_5 _, ?_⟩
    show i ∈ ((View.whole main_v0_1).slice (win0_5.rect ⟨(i 0).val / 128, hN⟩)).set
    rw [View.set_slice_whole, Rect.mem_set_unit]
    intro a
    match a with
    | ⟨0, _⟩ =>
      show win0_5.index ⟨(i 0).val / 128, hN⟩ (0 : Fin 2) * 128 ≤ (i 0).val
        ∧ (i 0).val < win0_5.index ⟨(i 0).val / 128, hN⟩ (0 : Fin 2) * 128 + 128
      rw [e0]; dsimp only; omega
    | ⟨1, _⟩ =>
      show win0_5.index ⟨(i 0).val / 128, hN⟩ (1 : Fin 2) * 1024 ≤ (i 1).val
        ∧ (i 1).val < win0_5.index ⟨(i 0).val / 128, hN⟩ (1 : Fin 2) * 1024 + 1024
      rw [e1]; omega

/-- The array of output 6 after the run. -/
theorem final6 : ((dats m 0 c).arrAt 6 cfg0.N : S128x1024.Idx → EReal) = mA m c := by
  refine (dats m 0 c).arrAt_eq_of_cover 6 _ (fun t hf => ?_) (fun i => ?_)
  · obtain ⟨e0, e1⟩ := index6 t
    show (cfg0.win 6).cut (grid0.coords t) ((dats m 0 c).after 6 t) = _
    rw [after0_6]
    funext y
    have hb : ((cfg0.win 6).blk t).view.emb y = at' t y := by
      funext a
      apply Fin.ext
      match a with
      | ⟨0, _⟩ => show win0_6.index t (0 : Fin 2) * 128 + 1 * (y 0).val = t.val * 128 + (y 0).val; omega
      | ⟨1, _⟩ => show win0_6.index t (1 : Fin 2) * 1024 + 1 * (y 1).val = (y 1).val; omega
    have hx : ((cfg0.win 6).xinj (grid0.coords t) y : S128x1024.Idx) = y := by
      funext a
      apply Fin.ext
      match a with
      | ⟨0, _⟩ => rfl
      | ⟨1, _⟩ => rfl
    show (out0_6 (iblk m c 0 t) (iblk m c 1 t) (iblk m c 2 t) (iblk m c 3 t) ((cfg0.win 6).xinj (grid0.coords t) y) : EReal)
      = mA m c (((cfg0.win 6).blk t).view.emb y)
    rw [hb, hx]
    refine (out_6 (iblk m c 0 t) (iblk m c 1 t) (iblk m c 2 t) (iblk m c 3 t) y).trans ?_
    rw [blk0, blk2]
    rfl
  · have h0 : (i 0).val < 128 := (i 0).isLt
    have h1 : (i 1).val < 1024 := (i 1).isLt
    have hN : (i 0).val / 128 < cfg0.N := lt_of_lt_of_eq (by omega) N_0.symm
    obtain ⟨e0, e1⟩ := index6 ⟨(i 0).val / 128, hN⟩
    refine ⟨⟨(i 0).val / 128, hN⟩, flush0_6 _, ?_⟩
    show i ∈ ((View.whole main_v0_2).slice (win0_6.rect ⟨(i 0).val / 128, hN⟩)).set
    rw [View.set_slice_whole, Rect.mem_set_unit]
    intro a
    match a with
    | ⟨0, _⟩ =>
      show win0_6.index ⟨(i 0).val / 128, hN⟩ (0 : Fin 2) * 128 ≤ (i 0).val
        ∧ (i 0).val < win0_6.index ⟨(i 0).val / 128, hN⟩ (0 : Fin 2) * 128 + 128
      rw [e0]; dsimp only; omega
    | ⟨1, _⟩ =>
      show win0_6.index ⟨(i 0).val / 128, hN⟩ (1 : Fin 2) * 1024 ≤ (i 1).val
        ∧ (i 1).val < win0_6.index ⟨(i 0).val / 128, hN⟩ (1 : Fin 2) * 1024 + 1024
      rw [e1]; omega

/-- The array of output 7 after the run. -/
theorem final7 : ((dats m 0 c).arrAt 7 cfg0.N : S128x1024.Idx → EReal) = vA m c := by
  refine (dats m 0 c).arrAt_eq_of_cover 7 _ (fun t hf => ?_) (fun i => ?_)
  · obtain ⟨e0, e1⟩ := index7 t
    show (cfg0.win 7).cut (grid0.coords t) ((dats m 0 c).after 7 t) = _
    rw [after0_7]
    funext y
    have hb : ((cfg0.win 7).blk t).view.emb y = at' t y := by
      funext a
      apply Fin.ext
      match a with
      | ⟨0, _⟩ => show win0_7.index t (0 : Fin 2) * 128 + 1 * (y 0).val = t.val * 128 + (y 0).val; omega
      | ⟨1, _⟩ => show win0_7.index t (1 : Fin 2) * 1024 + 1 * (y 1).val = (y 1).val; omega
    have hx : ((cfg0.win 7).xinj (grid0.coords t) y : S128x1024.Idx) = y := by
      funext a
      apply Fin.ext
      match a with
      | ⟨0, _⟩ => rfl
      | ⟨1, _⟩ => rfl
    show (out0_7 (iblk m c 0 t) (iblk m c 1 t) (iblk m c 2 t) (iblk m c 3 t) ((cfg0.win 7).xinj (grid0.coords t) y) : EReal)
      = vA m c (((cfg0.win 7).blk t).view.emb y)
    rw [hb, hx]
    refine (out_7 (iblk m c 0 t) (iblk m c 1 t) (iblk m c 2 t) (iblk m c 3 t) y).trans ?_
    rw [blk0, blk3]
    rfl
  · have h0 : (i 0).val < 128 := (i 0).isLt
    have h1 : (i 1).val < 1024 := (i 1).isLt
    have hN : (i 0).val / 128 < cfg0.N := lt_of_lt_of_eq (by omega) N_0.symm
    obtain ⟨e0, e1⟩ := index7 ⟨(i 0).val / 128, hN⟩
    refine ⟨⟨(i 0).val / 128, hN⟩, flush0_7 _, ?_⟩
    show i ∈ ((View.whole main_v0_3).slice (win0_7.rect ⟨(i 0).val / 128, hN⟩)).set
    rw [View.set_slice_whole, Rect.mem_set_unit]
    intro a
    match a with
    | ⟨0, _⟩ =>
      show win0_7.index ⟨(i 0).val / 128, hN⟩ (0 : Fin 2) * 128 ≤ (i 0).val
        ∧ (i 0).val < win0_7.index ⟨(i 0).val / 128, hN⟩ (0 : Fin 2) * 128 + 128
      rw [e0]; dsimp only; omega
    | ⟨1, _⟩ =>
      show win0_7.index ⟨(i 0).val / 128, hN⟩ (1 : Fin 2) * 1024 ≤ (i 1).val
        ∧ (i 1).val < win0_7.index ⟨(i 0).val / 128, hN⟩ (1 : Fin 2) * 1024 + 1024
      rw [e1]; omega

end Cert.Kernel8Ideal.Ad

namespace Cert.Reference8Ideal.Ad

open Cert.Reference8Ideal Cert.Reference8Ideal.Gen Cert.Reference8Ideal.Read
open Idealize.ShloMosaic Idealize.ShloMosaic.TcCoe
open Cert.AdSpec
open scoped BigOperators

variable (x0 : (⟨S8x128x1024, .bf16⟩ : BufTy).Contents (Elt Ideal)) (x1 x2 x3 : (⟨S128x1024, .f32⟩ : BufTy).Contents (Elt Ideal)) (i : S128x1024.Idx)

theorem r_g : (val_main_v1 (F := Ideal) x0 i : EReal) = tot x0 i := by
  refine (val_main_v1_apply x0 i).trans ?_
  refine (congrArg (· + _) bits_zero).trans ((zero_add _).trans ?_)
  refine Finset.sum_congr rfl fun s _ => congrArg (x0 : S8x128x1024.Idx → EReal) ?_
  funext a
  apply Fin.ext
  match a with
  | ⟨0, _⟩ => rfl
  | ⟨1, _⟩ => rfl
  | ⟨2, _⟩ => rfl

theorem r_m : (val_main_v6 (F := Ideal) x0 x2 i : EReal) = newM (tot x0 i) (x2 i) := by
  rw [← r_g x0 i]
  simp only [val_main_v2_apply, val_main_v3_apply, val_main_v4_apply, val_main_v5_apply, val_main_v6_apply, val_main_cst_0_apply, val_main_cst_1_apply]
  rfl

theorem r_v : (val_main_v12 (F := Ideal) x0 x3 i : EReal) = newV (tot x0 i) (x3 i) := by
  rw [← r_g x0 i]
  simp only [val_main_v7_apply, val_main_v8_apply, val_main_v9_apply, val_main_v10_apply, val_main_v11_apply, val_main_v12_apply, val_main_cst_2_apply, val_main_cst_3_apply]
  rfl

theorem r_d : (val_main_v25 (F := Ideal) x0 x1 x2 x3 i : EReal) = step (tot x0 i) (x1 i) (x2 i) (x3 i) := by
  unfold step
  rw [← r_m x0 x2 i, ← r_v x0 x3 i]
  simp only [val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_cst_4_apply, val_main_cst_5_apply, val_main_cst_6_apply, val_main_cst_7_apply, val_main_cst_8_apply]
  rfl

end Cert.Reference8Ideal.Ad

namespace Cert.Proof

open Idealize.ShloMosaic Idealize.ShloMosaic.TcCoe

theorem frame_kernel8Ideal : Cert.quiescent_Kernel8Ideal := fun m ρ _ => Cert.Kernel8Ideal.Gen.frame (F := Ideal) m ρ

/-- The word-for-word program and its reading over the reals have the same launches. -/
theorem ad8_defs_eq : Cert.Kernel8.defs (F := Bits) = Cert.Kernel8Ideal.defs (F := Bits) := by
  have h : Cert.Kernel8.defs₀ (F := Bits) = Cert.Kernel8Ideal.defs₀ (F := Bits) := by
    unfold Cert.Kernel8.defs₀
    refine congrArg Defs.onTc (funext fun k => ?_)
    match k with
    | 0 => rfl
  unfold Cert.Kernel8.defs
  rw [h]
  rfl

theorem frame_kernel8 : Cert.quiescent_Kernel8 := by
  intro m ρ _
  rw [ad8_defs_eq]
  exact Cert.Kernel8Ideal.Gen.frame (F := Bits) m ρ

theorem frame_reference8Ideal : Cert.quiescent_Reference8Ideal := fun m ρ _ =>
  (θ_run Cert.Reference8Ideal.defs _ _).mono (fun r h => ⟨fun c => (h c).2.2.2.2, Idealize.ShloMosaic.sem_eq_zero_of_no_sems (by decide) r.2⟩) (Cert.Reference8Ideal.Value.run (F := Ideal) m ρ)

theorem algebraic8 : Cert.algebraic_Kernel8Ideal_Reference8Ideal := by
  intro m g m' g' _ h
  refine ⟨fun c => Cert.Kernel8Ideal.Ad.gA m c, fun c => Cert.Kernel8Ideal.Ad.dA m c,
    fun c => Cert.Kernel8Ideal.Ad.mA m c, fun c => Cert.Kernel8Ideal.Ad.vA m c, ?_, ?_⟩
  · refine (θ_run Cert.Kernel8Ideal.defs _ _).mono (fun r hr c => ?_) (Cert.Kernel8Ideal.Gen.run_main (F := Ideal) m g)
    exact ⟨((hr c).1 4).trans (Cert.Kernel8Ideal.Ad.final4 m c),
      ((hr c).1 5).trans (Cert.Kernel8Ideal.Ad.final5 m c),
      ((hr c).1 6).trans (Cert.Kernel8Ideal.Ad.final6 m c),
      ((hr c).1 7).trans (Cert.Kernel8Ideal.Ad.final7 m c), ((hr c).1 0).trans (((Cert.Kernel8Ideal.Gen.dats m 0 c).arrAt_in 0 rfl _).trans ((Cert.Kernel8Ideal.Gen.A_eq m c 0).trans (Cert.Kernel8Ideal.Gen.V_main_arg0 m c))),
      ((hr c).1 1).trans (((Cert.Kernel8Ideal.Gen.dats m 0 c).arrAt_in 1 rfl _).trans ((Cert.Kernel8Ideal.Gen.A_eq m c 1).trans (Cert.Kernel8Ideal.Gen.V_main_arg1 m c))),
      ((hr c).1 2).trans (((Cert.Kernel8Ideal.Gen.dats m 0 c).arrAt_in 2 rfl _).trans ((Cert.Kernel8Ideal.Gen.A_eq m c 2).trans (Cert.Kernel8Ideal.Gen.V_main_arg2 m c))),
      ((hr c).1 3).trans (((Cert.Kernel8Ideal.Gen.dats m 0 c).arrAt_in 3 rfl _).trans ((Cert.Kernel8Ideal.Gen.A_eq m c 3).trans (Cert.Kernel8Ideal.Gen.V_main_arg3 m c)))⟩
  · refine (θ_run Cert.Reference8Ideal.defs _ _).mono (fun r hr c => ?_) (Cert.Reference8Ideal.Value.run (F := Ideal) m' g')
    obtain ⟨k0, k1, k2, k3, k⟩ := hr c
    obtain ⟨a0, a1, a2, a3⟩ := h c
    refine ⟨k0.trans ?_, k1.trans ?_, k2.trans ?_, k3.trans ?_, k⟩
    · refine (Cert.Reference8Ideal.Read.val_main_v1_eq _).trans ?_
      rw [a0]
      funext i
      exact Cert.Reference8Ideal.Ad.r_g _ i
    · refine (Cert.Reference8Ideal.Read.val_main_v25_eq _ _ _ _).trans ?_
      rw [a0, a1, a2, a3]
      funext i
      exact Cert.Reference8Ideal.Ad.r_d _ _ _ _ i
    · refine (Cert.Reference8Ideal.Read.val_main_v6_eq _ _).trans ?_
      rw [a0, a2]
      funext i
      exact Cert.Reference8Ideal.Ad.r_m _ _ i
    · refine (Cert.Reference8Ideal.Read.val_main_v12_eq _ _).trans ?_
      rw [a0, a3]
      funext i
      exact Cert.Reference8Ideal.Ad.r_v _ _ i

end Cert.Proof

end
-- ==== Proof.Ad9.lean ====
/- The update of the packed small weights. -/
module

public import proofs.«01_k».proof.Proof.AdSpec
public import proofs.«01_k».proof.Defs
public import proofs.«01_k».proof.Proof.Gen.Kernel9
public import proofs.«01_k».proof.Proof.Gen.Kernel9Ideal.Frame
public import proofs.«01_k».proof.Proof.Gen.Reference9Ideal.Run
public import proofs.«01_k».proof.Proof.Gen.Reference9Ideal.Read

@[expose] public section

set_option maxRecDepth 16384

noncomputable section

namespace Cert.Kernel9Ideal.Ad

open Cert.Kernel9Ideal Cert.Kernel9Ideal.Gen
open Idealize.ShloMosaic Idealize.ShloMosaic.TcCoe Idealize.ShloMosaic.Tactic
open Idealize.ShloMosaic.Pipeline (Dat Cfg Window)
open Cert.AdSpec
open scoped BigOperators

section body
variable (x0 : Vec Ideal S8x24x128 .f32) (x1 x2 x3 : Vec Ideal S24x128 .f32) (y : S24x128.Idx)

theorem pay_g : (k0_pay5 x0 x1 x2 x3 y : EReal) = tot x0 y := by
  show _ = ∑ s : Fin 8, x0 (ix3 s (y 0) (y 1))
  rw [Fin.sum_univ_eight]
  exact (add (add (add (add (add (add (add (slab x0 (0 : Fin 8) _ _ y) (slab x0 (1 : Fin 8) _ _ y)) (slab x0 (2 : Fin 8) _ _ y)) (slab x0 (3 : Fin 8) _ _ y)) (slab x0 (4 : Fin 8) _ _ y)) (slab x0 (5 : Fin 8) _ _ y)) (slab x0 (6 : Fin 8) _ _ y)) (slab x0 (7 : Fin 8) _ _ y))

theorem out_4 : (out0_4 x0 x1 x2 x3 y : EReal) = tot x0 y := by
  unfold out0_4
  rw [canon_whole]
  exact pay_g x0 x1 x2 x3 y

theorem out_5 : (out0_5 x0 x1 x2 x3 y : EReal) = step (tot x0 y) (x1 y) (x2 y) (x3 y) := by
  unfold out0_5
  rw [canon_whole]
  have h1 : View.ld x1 r0_8 = x1 := ld_whole x1 _
  have h2 : View.ld x2 r0_8 = x2 := ld_whole x2 _
  have h3 : View.ld x3 r0_8 = x3 := ld_whole x3 _
  rw [← pay_g x0 x1 x2 x3 y]
  unfold k0_pay6
  rw [h1, h2, h3]
  rfl

theorem out_6 : (out0_6 x0 x1 x2 x3 y : EReal) = newM (tot x0 y) (x2 y) := by
  unfold out0_6
  rw [canon_whole]
  have h2 : View.ld x2 r0_8 = x2 := ld_whole x2 _
  rw [← pay_g x0 x1 x2 x3 y]
  unfold k0_pay6
  rw [h2]
  rfl

theorem out_7 : (out0_7 x0 x1 x2 x3 y : EReal) = newV (tot x0 y) (x3 y) := by
  unfold out0_7
  rw [canon_whole]
  have h3 : View.ld x3 r0_8 = x3 := ld_whole x3 _
  rw [← pay_g x0 x1 x2 x3 y]
  rw [h3]
  rfl

end body

variable (m : (ℓ : Loc nD τ sig) → Buf (Elt Ideal) ℓ) (c : Dev nD)

/-- The index of the whole array under an index of point `t`'s block. -/
def at' (t : Fin cfg0.N) (y : S24x128.Idx) : S1128x128.Idx :=
  ix2 ⟨t.val * 24 + (y 0).val, by
    have h : t.val < 47 := lt_of_lt_of_eq t.isLt N_0
    have hy : (y 0).val < 24 := (y 0).isLt
    omega⟩ ⟨(y 1).val, (y 1).isLt⟩

theorem index0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem blk0 (t : Fin cfg0.N) (y : S24x128.Idx) :
    tot (iblk m c 0 t : S8x24x128.Idx → EReal) y = tot (m ((c : Thread nD τ).loc main_arg0) : S8x1128x128.Idx → EReal) (at' t y) := by
  obtain ⟨e0, e1, e2⟩ := index0 t
  refine Finset.sum_congr rfl fun s _ => congrArg (m ((c : Thread nD τ).loc main_arg0) : S8x1128x128.Idx → EReal) ?_
  funext a
  apply Fin.ext
  match a with
  | ⟨0, _⟩ => show win0_0.index t (0 : Fin 3) * 8 + 1 * s.val = s.val; omega
  | ⟨1, _⟩ => show win0_0.index t (1 : Fin 3) * 24 + 1 * (y 0).val = t.val * 24 + (y 0).val; omega
  | ⟨2, _⟩ => show win0_0.index t (2 : Fin 3) * 128 + 1 * (y 1).val = (y 1).val; omega

theorem blk1 (t : Fin cfg0.N) (y : S24x128.Idx) :
    ((iblk m c 1 t : S24x128.Idx → EReal) y) = (m ((c : Thread nD τ).loc main_arg1) : S1128x128.Idx → EReal) (at' t y) := by
  obtain ⟨e0, e1⟩ := index1 t
  refine congrArg (m ((c : Thread nD τ).loc main_arg1) : S1128x128.Idx → EReal) ?_
  funext a
  apply Fin.ext
  match a with
  | ⟨0, _⟩ => show win0_1.index t (0 : Fin 2) * 24 + 1 * (y 0).val = t.val * 24 + (y 0).val; omega
  | ⟨1, _⟩ => show win0_1.index t (1 : Fin 2) * 128 + 1 * (y 1).val = (y 1).val; omega

theorem blk2 (t : Fin cfg0.N) (y : S24x128.Idx) :
    ((iblk m c 2 t : S24x128.Idx → EReal) y) = (m ((c : Thread nD τ).loc main_arg2) : S1128x128.Idx → EReal) (at' t y) := by
  obtain ⟨e0, e1⟩ := index2 t
  refine congrArg (m ((c : Thread nD τ).loc main_arg2) : S1128x128.Idx → EReal) ?_
  funext a
  apply Fin.ext
  match a with
  | ⟨0, _⟩ => show win0_2.index t (0 : Fin 2) * 24 + 1 * (y 0).val = t.val * 24 + (y 0).val; omega
  | ⟨1, _⟩ => show win0_2.index t (1 : Fin 2) * 128 + 1 * (y 1).val = (y 1).val; omega

theorem blk3 (t : Fin cfg0.N) (y : S24x128.Idx) :
    ((iblk m c 3 t : S24x128.Idx → EReal) y) = (m ((c : Thread nD τ).loc main_arg3) : S1128x128.Idx → EReal) (at' t y) := by
  obtain ⟨e0, e1⟩ := index3 t
  refine congrArg (m ((c : Thread nD τ).loc main_arg3) : S1128x128.Idx → EReal) ?_
  funext a
  apply Fin.ext
  match a with
  | ⟨0, _⟩ => show win0_3.index t (0 : Fin 2) * 24 + 1 * (y 0).val = t.val * 24 + (y 0).val; omega
  | ⟨1, _⟩ => show win0_3.index t (1 : Fin 2) * 128 + 1 * (y 1).val = (y 1).val; omega

/-- The gradient at an index of the array. -/
def gA (i : S1128x128.Idx) : EReal := tot (m ((c : Thread nD τ).loc main_arg0) : S8x1128x128.Idx → EReal) i
def dA (i : S1128x128.Idx) : EReal := step (gA m c i) ((m ((c : Thread nD τ).loc main_arg1) : S1128x128.Idx → EReal) i) ((m ((c : Thread nD τ).loc main_arg2) : S1128x128.Idx → EReal) i) ((m ((c : Thread nD τ).loc main_arg3) : S1128x128.Idx → EReal) i)
def mA (i : S1128x128.Idx) : EReal := newM (gA m c i) ((m ((c : Thread nD τ).loc main_arg2) : S1128x128.Idx → EReal) i)
def vA (i : S1128x128.Idx) : EReal := newV (gA m c i) ((m ((c : Thread nD τ).loc main_arg3) : S1128x128.Idx → EReal) i)

/-- The array of output 4 after the run. -/
theorem final4 : ((dats m 0 c).arrAt 4 cfg0.N : S1128x128.Idx → EReal) = gA m c := by
  refine (dats m 0 c).arrAt_eq_of_cover 4 _ (fun t hf => ?_) (fun i => ?_)
  · obtain ⟨e0, e1⟩ := index4 t
    show (cfg0.win 4).cut (grid0.coords t) ((dats m 0 c).after 4 t) = _
    rw [after0_4]
    funext y
    have hb : ((cfg0.win 4).blk t).view.emb y = at' t y := by
      funext a
      apply Fin.ext
      match a with
      | ⟨0, _⟩ => show win0_4.index t (0 : Fin 2) * 24 + 1 * (y 0).val = t.val * 24 + (y 0).val; omega
      | ⟨1, _⟩ => show win0_4.index t (1 : Fin 2) * 128 + 1 * (y 1).val = (y 1).val; omega
    have hx : ((cfg0.win 4).xinj (grid0.coords t) y : S24x128.Idx) = y := by
      funext a
      apply Fin.ext
      match a with
      | ⟨0, _⟩ => rfl
      | ⟨1, _⟩ => rfl
    show (out0_4 (iblk m c 0 t) (iblk m c 1 t) (iblk m c 2 t) (iblk m c 3 t) ((cfg0.win 4).xinj (grid0.coords t) y) : EReal)
      = gA m c (((cfg0.win 4).blk t).view.emb y)
    rw [hb, hx]
    refine (out_4 (iblk m c 0 t) (iblk m c 1 t) (iblk m c 2 t) (iblk m c 3 t) y).trans ?_
    rw [blk0]
    rfl
  · have h0 : (i 0).val < 1128 := (i 0).isLt
    have h1 : (i 1).val < 128 := (i 1).isLt
    have hN : (i 0).val / 24 < cfg0.N := lt_of_lt_of_eq (by omega) N_0.symm
    obtain ⟨e0, e1⟩ := index4 ⟨(i 0).val / 24, hN⟩
    refine ⟨⟨(i 0).val / 24, hN⟩, flush0_4 _, ?_⟩
    show i ∈ ((View.whole main_v0_0).slice (win0_4.rect ⟨(i 0).val / 24, hN⟩)).set
    rw [View.set_slice_whole, Rect.mem_set_unit]
    intro a
    match a with
    | ⟨0, _⟩ =>
      show win0_4.index ⟨(i 0).val / 24, hN⟩ (0 : Fin 2) * 24 ≤ (i 0).val
        ∧ (i 0).val < win0_4.index ⟨(i 0).val / 24, hN⟩ (0 : Fin 2) * 24 + 24
      rw [e0]; dsimp only; omega
    | ⟨1, _⟩ =>
      show win0_4.index ⟨(i 0).val / 24, hN⟩ (1 : Fin 2) * 128 ≤ (i 1).val
        ∧ (i 1).val < win0_4.index ⟨(i 0).val / 24, hN⟩ (1 : Fin 2) * 128 + 128
      rw [e1]; omega

/-- The array of output 5 after the run. -/
theorem final5 : ((dats m 0 c).arrAt 5 cfg0.N : S1128x128.Idx → EReal) = dA m c := by
  refine (dats m 0 c).arrAt_eq_of_cover 5 _ (fun t hf => ?_) (fun i => ?_)
  · obtain ⟨e0, e1⟩ := index5 t
    show (cfg0.win 5).cut (grid0.coords t) ((dats m 0 c).after 5 t) = _
    rw [after0_5]
    funext y
    have hb : ((cfg0.win 5).blk t).view.emb y = at' t y := by
      funext a
      apply Fin.ext
      match a with
      | ⟨0, _⟩ => show win0_5.index t (0 : Fin 2) * 24 + 1 * (y 0).val = t.val * 24 + (y 0).val; omega
      | ⟨1, _⟩ => show win0_5.index t (1 : Fin 2) * 128 + 1 * (y 1).val = (y 1).val; omega
    have hx : ((cfg0.win 5).xinj (grid0.coords t) y : S24x128.Idx) = y := by
      funext a
      apply Fin.ext
      match a with
      | ⟨0, _⟩ => rfl
      | ⟨1, _⟩ => rfl
    show (out0_5 (iblk m c 0 t) (iblk m c 1 t) (iblk m c 2 t) (iblk m c 3 t) ((cfg0.win 5).xinj (grid0.coords t) y) : EReal)
      = dA m c (((cfg0.win 5).blk t).view.emb y)
    rw [hb, hx]
    refine (out_5 (iblk m c 0 t) (iblk m c 1 t) (iblk m c 2 t) (iblk m c 3 t) y).trans ?_
    rw [blk0, blk1, blk2, blk3]
    rfl
  · have h0 : (i 0).val < 1128 := (i 0).isLt
    have h1 : (i 1).val < 128 := (i 1).isLt
    have hN : (i 0).val / 24 < cfg0.N := lt_of_lt_of_eq (by omega) N_0.symm
    obtain ⟨e0, e1⟩ := index5 ⟨(i 0).val / 24, hN⟩
    refine ⟨⟨(i 0).val / 24, hN⟩, flush0_5 _, ?_⟩
    show i ∈ ((View.whole main_v0_1).slice (win0_5.rect ⟨(i 0).val / 24, hN⟩)).set
    rw [View.set_slice_whole, Rect.mem_set_unit]
    intro a
    match a with
    | ⟨0, _⟩ =>
      show win0_5.index ⟨(i 0).val / 24, hN⟩ (0 : Fin 2) * 24 ≤ (i 0).val
        ∧ (i 0).val < win0_5.index ⟨(i 0).val / 24, hN⟩ (0 : Fin 2) * 24 + 24
      rw [e0]; dsimp only; omega
    | ⟨1, _⟩ =>
      show win0_5.index ⟨(i 0).val / 24, hN⟩ (1 : Fin 2) * 128 ≤ (i 1).val
        ∧ (i 1).val < win0_5.index ⟨(i 0).val / 24, hN⟩ (1 : Fin 2) * 128 + 128
      rw [e1]; omega

/-- The array of output 6 after the run. -/
theorem final6 : ((dats m 0 c).arrAt 6 cfg0.N : S1128x128.Idx → EReal) = mA m c := by
  refine (dats m 0 c).arrAt_eq_of_cover 6 _ (fun t hf => ?_) (fun i => ?_)
  · obtain ⟨e0, e1⟩ := index6 t
    show (cfg0.win 6).cut (grid0.coords t) ((dats m 0 c).after 6 t) = _
    rw [after0_6]
    funext y
    have hb : ((cfg0.win 6).blk t).view.emb y = at' t y := by
      funext a
      apply Fin.ext
      match a with
      | ⟨0, _⟩ => show win0_6.index t (0 : Fin 2) * 24 + 1 * (y 0).val = t.val * 24 + (y 0).val; omega
      | ⟨1, _⟩ => show win0_6.index t (1 : Fin 2) * 128 + 1 * (y 1).val = (y 1).val; omega
    have hx : ((cfg0.win 6).xinj (grid0.coords t) y : S24x128.Idx) = y := by
      funext a
      apply Fin.ext
      match a with
      | ⟨0, _⟩ => rfl
      | ⟨1, _⟩ => rfl
    show (out0_6 (iblk m c 0 t) (iblk m c 1 t) (iblk m c 2 t) (iblk m c 3 t) ((cfg0.win 6).xinj (grid0.coords t) y) : EReal)
      = mA m c (((cfg0.win 6).blk t).view.emb y)
    rw [hb, hx]
    refine (out_6 (iblk m c 0 t) (iblk m c 1 t) (iblk m c 2 t) (iblk m c 3 t) y).trans ?_
    rw [blk0, blk2]
    rfl
  · have h0 : (i 0).val < 1128 := (i 0).isLt
    have h1 : (i 1).val < 128 := (i 1).isLt
    have hN : (i 0).val / 24 < cfg0.N := lt_of_lt_of_eq (by omega) N_0.symm
    obtain ⟨e0, e1⟩ := index6 ⟨(i 0).val / 24, hN⟩
    refine ⟨⟨(i 0).val / 24, hN⟩, flush0_6 _, ?_⟩
    show i ∈ ((View.whole main_v0_2).slice (win0_6.rect ⟨(i 0).val / 24, hN⟩)).set
    rw [View.set_slice_whole, Rect.mem_set_unit]
    intro a
    match a with
    | ⟨0, _⟩ =>
      show win0_6.index ⟨(i 0).val / 24, hN⟩ (0 : Fin 2) * 24 ≤ (i 0).val
        ∧ (i 0).val < win0_6.index ⟨(i 0).val / 24, hN⟩ (0 : Fin 2) * 24 + 24
      rw [e0]; dsimp only; omega
    | ⟨1, _⟩ =>
      show win0_6.index ⟨(i 0).val / 24, hN⟩ (1 : Fin 2) * 128 ≤ (i 1).val
        ∧ (i 1).val < win0_6.index ⟨(i 0).val / 24, hN⟩ (1 : Fin 2) * 128 + 128
      rw [e1]; omega

/-- The array of output 7 after the run. -/
theorem final7 : ((dats m 0 c).arrAt 7 cfg0.N : S1128x128.Idx → EReal) = vA m c := by
  refine (dats m 0 c).arrAt_eq_of_cover 7 _ (fun t hf => ?_) (fun i => ?_)
  · obtain ⟨e0, e1⟩ := index7 t
    show (cfg0.win 7).cut (grid0.coords t) ((dats m 0 c).after 7 t) = _
    rw [after0_7]
    funext y
    have hb : ((cfg0.win 7).blk t).view.emb y = at' t y := by
      funext a
      apply Fin.ext
      match a with
      | ⟨0, _⟩ => show win0_7.index t (0 : Fin 2) * 24 + 1 * (y 0).val = t.val * 24 + (y 0).val; omega
      | ⟨1, _⟩ => show win0_7.index t (1 : Fin 2) * 128 + 1 * (y 1).val = (y 1).val; omega
    have hx : ((cfg0.win 7).xinj (grid0.coords t) y : S24x128.Idx) = y := by
      funext a
      apply Fin.ext
      match a with
      | ⟨0, _⟩ => rfl
      | ⟨1, _⟩ => rfl
    show (out0_7 (iblk m c 0 t) (iblk m c 1 t) (iblk m c 2 t) (iblk m c 3 t) ((cfg0.win 7).xinj (grid0.coords t) y) : EReal)
      = vA m c (((cfg0.win 7).blk t).view.emb y)
    rw [hb, hx]
    refine (out_7 (iblk m c 0 t) (iblk m c 1 t) (iblk m c 2 t) (iblk m c 3 t) y).trans ?_
    rw [blk0, blk3]
    rfl
  · have h0 : (i 0).val < 1128 := (i 0).isLt
    have h1 : (i 1).val < 128 := (i 1).isLt
    have hN : (i 0).val / 24 < cfg0.N := lt_of_lt_of_eq (by omega) N_0.symm
    obtain ⟨e0, e1⟩ := index7 ⟨(i 0).val / 24, hN⟩
    refine ⟨⟨(i 0).val / 24, hN⟩, flush0_7 _, ?_⟩
    show i ∈ ((View.whole main_v0_3).slice (win0_7.rect ⟨(i 0).val / 24, hN⟩)).set
    rw [View.set_slice_whole, Rect.mem_set_unit]
    intro a
    match a with
    | ⟨0, _⟩ =>
      show win0_7.index ⟨(i 0).val / 24, hN⟩ (0 : Fin 2) * 24 ≤ (i 0).val
        ∧ (i 0).val < win0_7.index ⟨(i 0).val / 24, hN⟩ (0 : Fin 2) * 24 + 24
      rw [e0]; dsimp only; omega
    | ⟨1, _⟩ =>
      show win0_7.index ⟨(i 0).val / 24, hN⟩ (1 : Fin 2) * 128 ≤ (i 1).val
        ∧ (i 1).val < win0_7.index ⟨(i 0).val / 24, hN⟩ (1 : Fin 2) * 128 + 128
      rw [e1]; omega

end Cert.Kernel9Ideal.Ad

namespace Cert.Reference9Ideal.Ad

open Cert.Reference9Ideal Cert.Reference9Ideal.Gen Cert.Reference9Ideal.Read
open Idealize.ShloMosaic Idealize.ShloMosaic.TcCoe
open Cert.AdSpec
open scoped BigOperators

variable (x0 : (⟨S8x1128x128, .f32⟩ : BufTy).Contents (Elt Ideal)) (x1 x2 x3 : (⟨S1128x128, .f32⟩ : BufTy).Contents (Elt Ideal)) (i : S1128x128.Idx)

theorem r_g : (val_main_v0 (F := Ideal) x0 i : EReal) = tot x0 i := by
  refine (val_main_v0_apply x0 i).trans ?_
  refine (congrArg (· + _) bits_zero).trans ((zero_add _).trans ?_)
  refine Finset.sum_congr rfl fun s _ => congrArg (x0 : S8x1128x128.Idx → EReal) ?_
  funext a
  apply Fin.ext
  match a with
  | ⟨0, _⟩ => rfl
  | ⟨1, _⟩ => rfl
  | ⟨2, _⟩ => rfl

theorem r_m : (val_main_v5 (F := Ideal) x0 x2 i : EReal) = newM (tot x0 i) (x2 i) := by
  rw [← r_g x0 i]
  simp only [val_main_v1_apply, val_main_v2_apply, val_main_v3_apply, val_main_v4_apply, val_main_v5_apply, val_main_cst_0_apply, val_main_cst_1_apply]
  rfl

theorem r_v : (val_main_v11 (F := Ideal) x0 x3 i : EReal) = newV (tot x0 i) (x3 i) := by
  rw [← r_g x0 i]
  simp only [val_main_v6_apply, val_main_v7_apply, val_main_v8_apply, val_main_v9_apply, val_main_v10_apply, val_main_v11_apply, val_main_cst_2_apply, val_main_cst_3_apply]
  rfl

theorem r_d : (val_main_v24 (F := Ideal) x0 x1 x2 x3 i : EReal) = step (tot x0 i) (x1 i) (x2 i) (x3 i) := by
  unfold step
  rw [← r_m x0 x2 i, ← r_v x0 x3 i]
  simp only [val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_cst_4_apply, val_main_cst_5_apply, val_main_cst_6_apply, val_main_cst_7_apply, val_main_cst_8_apply]
  rfl

end Cert.Reference9Ideal.Ad

namespace Cert.Proof

open Idealize.ShloMosaic Idealize.ShloMosaic.TcCoe

theorem frame_kernel9Ideal : Cert.quiescent_Kernel9Ideal := fun m ρ _ => Cert.Kernel9Ideal.Gen.frame (F := Ideal) m ρ

/-- The word-for-word program and its reading over the reals have the same launches. -/
theorem ad9_defs_eq : Cert.Kernel9.defs (F := Bits) = Cert.Kernel9Ideal.defs (F := Bits) := by
  have h : Cert.Kernel9.defs₀ (F := Bits) = Cert.Kernel9Ideal.defs₀ (F := Bits) := by
    unfold Cert.Kernel9.defs₀
    refine congrArg Defs.onTc (funext fun k => ?_)
    match k with
    | 0 => rfl
  unfold Cert.Kernel9.defs
  rw [h]
  rfl

theorem frame_kernel9 : Cert.quiescent_Kernel9 := by
  intro m ρ _
  rw [ad9_defs_eq]
  exact Cert.Kernel9Ideal.Gen.frame (F := Bits) m ρ

theorem frame_reference9Ideal : Cert.quiescent_Reference9Ideal := fun m ρ _ =>
  (θ_run Cert.Reference9Ideal.defs _ _).mono (fun r h => ⟨fun c => (h c).2.2.2.2, Idealize.ShloMosaic.sem_eq_zero_of_no_sems (by decide) r.2⟩) (Cert.Reference9Ideal.Value.run (F := Ideal) m ρ)

theorem algebraic9 : Cert.algebraic_Kernel9Ideal_Reference9Ideal := by
  intro m g m' g' _ h
  refine ⟨fun c => Cert.Kernel9Ideal.Ad.gA m c, fun c => Cert.Kernel9Ideal.Ad.dA m c,
    fun c => Cert.Kernel9Ideal.Ad.mA m c, fun c => Cert.Kernel9Ideal.Ad.vA m c, ?_, ?_⟩
  · refine (θ_run Cert.Kernel9Ideal.defs _ _).mono (fun r hr c => ?_) (Cert.Kernel9Ideal.Gen.run_main (F := Ideal) m g)
    exact ⟨((hr c).1 4).trans (Cert.Kernel9Ideal.Ad.final4 m c),
      ((hr c).1 5).trans (Cert.Kernel9Ideal.Ad.final5 m c),
      ((hr c).1 6).trans (Cert.Kernel9Ideal.Ad.final6 m c),
      ((hr c).1 7).trans (Cert.Kernel9Ideal.Ad.final7 m c), ((hr c).1 0).trans (((Cert.Kernel9Ideal.Gen.dats m 0 c).arrAt_in 0 rfl _).trans ((Cert.Kernel9Ideal.Gen.A_eq m c 0).trans (Cert.Kernel9Ideal.Gen.V_main_arg0 m c))),
      ((hr c).1 1).trans (((Cert.Kernel9Ideal.Gen.dats m 0 c).arrAt_in 1 rfl _).trans ((Cert.Kernel9Ideal.Gen.A_eq m c 1).trans (Cert.Kernel9Ideal.Gen.V_main_arg1 m c))),
      ((hr c).1 2).trans (((Cert.Kernel9Ideal.Gen.dats m 0 c).arrAt_in 2 rfl _).trans ((Cert.Kernel9Ideal.Gen.A_eq m c 2).trans (Cert.Kernel9Ideal.Gen.V_main_arg2 m c))),
      ((hr c).1 3).trans (((Cert.Kernel9Ideal.Gen.dats m 0 c).arrAt_in 3 rfl _).trans ((Cert.Kernel9Ideal.Gen.A_eq m c 3).trans (Cert.Kernel9Ideal.Gen.V_main_arg3 m c)))⟩
  · refine (θ_run Cert.Reference9Ideal.defs _ _).mono (fun r hr c => ?_) (Cert.Reference9Ideal.Value.run (F := Ideal) m' g')
    obtain ⟨k0, k1, k2, k3, k⟩ := hr c
    obtain ⟨a0, a1, a2, a3⟩ := h c
    refine ⟨k0.trans ?_, k1.trans ?_, k2.trans ?_, k3.trans ?_, k⟩
    · refine (Cert.Reference9Ideal.Read.val_main_v0_eq _).trans ?_
      rw [a0]
      funext i
      exact Cert.Reference9Ideal.Ad.r_g _ i
    · refine (Cert.Reference9Ideal.Read.val_main_v24_eq _ _ _ _).trans ?_
      rw [a0, a1, a2, a3]
      funext i
      exact Cert.Reference9Ideal.Ad.r_d _ _ _ _ i
    · refine (Cert.Reference9Ideal.Read.val_main_v5_eq _ _).trans ?_
      rw [a0, a2]
      funext i
      exact Cert.Reference9Ideal.Ad.r_m _ _ i
    · refine (Cert.Reference9Ideal.Read.val_main_v11_eq _ _).trans ?_
      rw [a0, a3]
      funext i
      exact Cert.Reference9Ideal.Ad.r_v _ _ i

end Cert.Proof

end
-- ==== Proof.Ad10.lean ====
/- The update of the convolution weight. -/
module

public import proofs.«01_k».proof.Proof.AdSpec
public import proofs.«01_k».proof.Defs
public import proofs.«01_k».proof.Proof.Gen.Kernel10
public import proofs.«01_k».proof.Proof.Gen.Kernel10Ideal.Frame
public import proofs.«01_k».proof.Proof.Gen.Reference10Ideal.Run
public import proofs.«01_k».proof.Proof.Gen.Reference10Ideal.Read

@[expose] public section

set_option maxRecDepth 16384

noncomputable section

namespace Cert.Kernel10Ideal.Ad

open Cert.Kernel10Ideal Cert.Kernel10Ideal.Gen
open Idealize.ShloMosaic Idealize.ShloMosaic.TcCoe Idealize.ShloMosaic.Tactic
open Idealize.ShloMosaic.Pipeline (Dat Cfg Window)
open Cert.AdSpec
open scoped BigOperators

section body
variable (x0 : Vec Ideal S1x4x192 .f32) (x1 x2 x3 : Vec Ideal S4x192 .f32) (y : S4x192.Idx)

theorem pay_g : (k0_pay1 (View.ld x0 r0_0) y : EReal) = tot x0 y := by
  show _ = ∑ s : Fin 1, x0 (ix3 s (y 0) (y 1))
  rw [Fin.sum_univ_one]
  exact (slab x0 (0 : Fin 1) _ _ y)

theorem out_4 : (out0_4 x0 x1 x2 x3 y : EReal) = tot x0 y := by
  unfold out0_4
  rw [canon_whole]
  exact pay_g x0 y

theorem out_5 : (out0_5 x0 x1 x2 x3 y : EReal) = step (tot x0 y) (x1 y) (x2 y) (x3 y) := by
  unfold out0_5
  rw [canon_whole]
  have h1 : View.ld x1 r0_1 = x1 := ld_whole x1 _
  have h2 : View.ld x2 r0_1 = x2 := ld_whole x2 _
  have h3 : View.ld x3 r0_1 = x3 := ld_whole x3 _
  rw [← pay_g x0 y]
  rw [h1, h2, h3]
  rfl

theorem out_6 : (out0_6 x0 x1 x2 x3 y : EReal) = newM (tot x0 y) (x2 y) := by
  unfold out0_6
  rw [canon_whole]
  have h2 : View.ld x2 r0_1 = x2 := ld_whole x2 _
  rw [← pay_g x0 y]
  rw [h2]
  rfl

theorem out_7 : (out0_7 x0 x1 x2 x3 y : EReal) = newV (tot x0 y) (x3 y) := by
  unfold out0_7
  rw [canon_whole]
  have h3 : View.ld x3 r0_1 = x3 := ld_whole x3 _
  rw [← pay_g x0 y]
  rw [h3]
  rfl

end body

variable (m : (ℓ : Loc nD τ sig) → Buf (Elt Ideal) ℓ) (c : Dev nD)

/-- The index of the whole array under an index of point `t`'s block. -/
def at' (t : Fin cfg0.N) (y : S4x192.Idx) : S4x192.Idx :=
  ix2 ⟨t.val * 4 + (y 0).val, by
    have h : t.val < 1 := lt_of_lt_of_eq t.isLt N_0
    have hy : (y 0).val < 4 := (y 0).isLt
    omega⟩ ⟨(y 1).val, (y 1).isLt⟩

theorem index0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem blk0 (t : Fin cfg0.N) (y : S4x192.Idx) :
    tot (iblk m c 0 t : S1x4x192.Idx → EReal) y = tot (m ((c : Thread nD τ).loc main_arg0) : S1x4x192.Idx → EReal) (at' t y) := by
  obtain ⟨e0, e1, e2⟩ := index0 t
  refine Finset.sum_congr rfl fun s _ => congrArg (m ((c : Thread nD τ).loc main_arg0) : S1x4x192.Idx → EReal) ?_
  funext a
  apply Fin.ext
  match a with
  | ⟨0, _⟩ => show win0_0.index t (0 : Fin 3) * 1 + 1 * s.val = s.val; omega
  | ⟨1, _⟩ => show win0_0.index t (1 : Fin 3) * 4 + 1 * (y 0).val = t.val * 4 + (y 0).val; omega
  | ⟨2, _⟩ => show win0_0.index t (2 : Fin 3) * 192 + 1 * (y 1).val = (y 1).val; omega

theorem blk1 (t : Fin cfg0.N) (y : S4x192.Idx) :
    ((iblk m c 1 t : S4x192.Idx → EReal) y) = (m ((c : Thread nD τ).loc main_arg1) : S4x192.Idx → EReal) (at' t y) := by
  obtain ⟨e0, e1⟩ := index1 t
  refine congrArg (m ((c : Thread nD τ).loc main_arg1) : S4x192.Idx → EReal) ?_
  funext a
  apply Fin.ext
  match a with
  | ⟨0, _⟩ => show win0_1.index t (0 : Fin 2) * 4 + 1 * (y 0).val = t.val * 4 + (y 0).val; omega
  | ⟨1, _⟩ => show win0_1.index t (1 : Fin 2) * 192 + 1 * (y 1).val = (y 1).val; omega

theorem blk2 (t : Fin cfg0.N) (y : S4x192.Idx) :
    ((iblk m c 2 t : S4x192.Idx → EReal) y) = (m ((c : Thread nD τ).loc main_arg2) : S4x192.Idx → EReal) (at' t y) := by
  obtain ⟨e0, e1⟩ := index2 t
  refine congrArg (m ((c : Thread nD τ).loc main_arg2) : S4x192.Idx → EReal) ?_
  funext a
  apply Fin.ext
  match a with
  | ⟨0, _⟩ => show win0_2.index t (0 : Fin 2) * 4 + 1 * (y 0).val = t.val * 4 + (y 0).val; omega
  | ⟨1, _⟩ => show win0_2.index t (1 : Fin 2) * 192 + 1 * (y 1).val = (y 1).val; omega

theorem blk3 (t : Fin cfg0.N) (y : S4x192.Idx) :
    ((iblk m c 3 t : S4x192.Idx → EReal) y) = (m ((c : Thread nD τ).loc main_arg3) : S4x192.Idx → EReal) (at' t y) := by
  obtain ⟨e0, e1⟩ := index3 t
  refine congrArg (m ((c : Thread nD τ).loc main_arg3) : S4x192.Idx → EReal) ?_
  funext a
  apply Fin.ext
  match a with
  | ⟨0, _⟩ => show win0_3.index t (0 : Fin 2) * 4 + 1 * (y 0).val = t.val * 4 + (y 0).val; omega
  | ⟨1, _⟩ => show win0_3.index t (1 : Fin 2) * 192 + 1 * (y 1).val = (y 1).val; omega

/-- The gradient at an index of the array. -/
def gA (i : S4x192.Idx) : EReal := tot (m ((c : Thread nD τ).loc main_arg0) : S1x4x192.Idx → EReal) i
def dA (i : S4x192.Idx) : EReal := step (gA m c i) ((m ((c : Thread nD τ).loc main_arg1) : S4x192.Idx → EReal) i) ((m ((c : Thread nD τ).loc main_arg2) : S4x192.Idx → EReal) i) ((m ((c : Thread nD τ).loc main_arg3) : S4x192.Idx → EReal) i)
def mA (i : S4x192.Idx) : EReal := newM (gA m c i) ((m ((c : Thread nD τ).loc main_arg2) : S4x192.Idx → EReal) i)
def vA (i : S4x192.Idx) : EReal := newV (gA m c i) ((m ((c : Thread nD τ).loc main_arg3) : S4x192.Idx → EReal) i)

/-- The array of output 4 after the run. -/
theorem final4 : ((dats m 0 c).arrAt 4 cfg0.N : S4x192.Idx → EReal) = gA m c := by
  refine (dats m 0 c).arrAt_eq_of_cover 4 _ (fun t hf => ?_) (fun i => ?_)
  · obtain ⟨e0, e1⟩ := index4 t
    show (cfg0.win 4).cut (grid0.coords t) ((dats m 0 c).after 4 t) = _
    rw [after0_4]
    funext y
    have hb : ((cfg0.win 4).blk t).view.emb y = at' t y := by
      funext a
      apply Fin.ext
      match a with
      | ⟨0, _⟩ => show win0_4.index t (0 : Fin 2) * 4 + 1 * (y 0).val = t.val * 4 + (y 0).val; omega
      | ⟨1, _⟩ => show win0_4.index t (1 : Fin 2) * 192 + 1 * (y 1).val = (y 1).val; omega
    have hx : ((cfg0.win 4).xinj (grid0.coords t) y : S4x192.Idx) = y := by
      funext a
      apply Fin.ext
      match a with
      | ⟨0, _⟩ => rfl
      | ⟨1, _⟩ => rfl
    show (out0_4 (iblk m c 0 t) (iblk m c 1 t) (iblk m c 2 t) (iblk m c 3 t) ((cfg0.win 4).xinj (grid0.coords t) y) : EReal)
      = gA m c (((cfg0.win 4).blk t).view.emb y)
    rw [hb, hx]
    refine (out_4 (iblk m c 0 t) (iblk m c 1 t) (iblk m c 2 t) (iblk m c 3 t) y).trans ?_
    rw [blk0]
    rfl
  · have h0 : (i 0).val < 4 := (i 0).isLt
    have h1 : (i 1).val < 192 := (i 1).isLt
    have hN : (i 0).val / 4 < cfg0.N := lt_of_lt_of_eq (by omega) N_0.symm
    obtain ⟨e0, e1⟩ := index4 ⟨(i 0).val / 4, hN⟩
    refine ⟨⟨(i 0).val / 4, hN⟩, flush0_4 _, ?_⟩
    show i ∈ ((View.whole main_v0_0).slice (win0_4.rect ⟨(i 0).val / 4, hN⟩)).set
    rw [View.set_slice_whole, Rect.mem_set_unit]
    intro a
    match a with
    | ⟨0, _⟩ =>
      show win0_4.index ⟨(i 0).val / 4, hN⟩ (0 : Fin 2) * 4 ≤ (i 0).val
        ∧ (i 0).val < win0_4.index ⟨(i 0).val / 4, hN⟩ (0 : Fin 2) * 4 + 4
      rw [e0]; dsimp only; omega
    | ⟨1, _⟩ =>
      show win0_4.index ⟨(i 0).val / 4, hN⟩ (1 : Fin 2) * 192 ≤ (i 1).val
        ∧ (i 1).val < win0_4.index ⟨(i 0).val / 4, hN⟩ (1 : Fin 2) * 192 + 192
      rw [e1]; omega

/-- The array of output 5 after the run. -/
theorem final5 : ((dats m 0 c).arrAt 5 cfg0.N : S4x192.Idx → EReal) = dA m c := by
  refine (dats m 0 c).arrAt_eq_of_cover 5 _ (fun t hf => ?_) (fun i => ?_)
  · obtain ⟨e0, e1⟩ := index5 t
    show (cfg0.win 5).cut (grid0.coords t) ((dats m 0 c).after 5 t) = _
    rw [after0_5]
    funext y
    have hb : ((cfg0.win 5).blk t).view.emb y = at' t y := by
      funext a
      apply Fin.ext
      match a with
      | ⟨0, _⟩ => show win0_5.index t (0 : Fin 2) * 4 + 1 * (y 0).val = t.val * 4 + (y 0).val; omega
      | ⟨1, _⟩ => show win0_5.index t (1 : Fin 2) * 192 + 1 * (y 1).val = (y 1).val; omega
    have hx : ((cfg0.win 5).xinj (grid0.coords t) y : S4x192.Idx) = y := by
      funext a
      apply Fin.ext
      match a with
      | ⟨0, _⟩ => rfl
      | ⟨1, _⟩ => rfl
    show (out0_5 (iblk m c 0 t) (iblk m c 1 t) (iblk m c 2 t) (iblk m c 3 t) ((cfg0.win 5).xinj (grid0.coords t) y) : EReal)
      = dA m c (((cfg0.win 5).blk t).view.emb y)
    rw [hb, hx]
    refine (out_5 (iblk m c 0 t) (iblk m c 1 t) (iblk m c 2 t) (iblk m c 3 t) y).trans ?_
    rw [blk0, blk1, blk2, blk3]
    rfl
  · have h0 : (i 0).val < 4 := (i 0).isLt
    have h1 : (i 1).val < 192 := (i 1).isLt
    have hN : (i 0).val / 4 < cfg0.N := lt_of_lt_of_eq (by omega) N_0.symm
    obtain ⟨e0, e1⟩ := index5 ⟨(i 0).val / 4, hN⟩
    refine ⟨⟨(i 0).val / 4, hN⟩, flush0_5 _, ?_⟩
    show i ∈ ((View.whole main_v0_1).slice (win0_5.rect ⟨(i 0).val / 4, hN⟩)).set
    rw [View.set_slice_whole, Rect.mem_set_unit]
    intro a
    match a with
    | ⟨0, _⟩ =>
      show win0_5.index ⟨(i 0).val / 4, hN⟩ (0 : Fin 2) * 4 ≤ (i 0).val
        ∧ (i 0).val < win0_5.index ⟨(i 0).val / 4, hN⟩ (0 : Fin 2) * 4 + 4
      rw [e0]; dsimp only; omega
    | ⟨1, _⟩ =>
      show win0_5.index ⟨(i 0).val / 4, hN⟩ (1 : Fin 2) * 192 ≤ (i 1).val
        ∧ (i 1).val < win0_5.index ⟨(i 0).val / 4, hN⟩ (1 : Fin 2) * 192 + 192
      rw [e1]; omega

/-- The array of output 6 after the run. -/
theorem final6 : ((dats m 0 c).arrAt 6 cfg0.N : S4x192.Idx → EReal) = mA m c := by
  refine (dats m 0 c).arrAt_eq_of_cover 6 _ (fun t hf => ?_) (fun i => ?_)
  · obtain ⟨e0, e1⟩ := index6 t
    show (cfg0.win 6).cut (grid0.coords t) ((dats m 0 c).after 6 t) = _
    rw [after0_6]
    funext y
    have hb : ((cfg0.win 6).blk t).view.emb y = at' t y := by
      funext a
      apply Fin.ext
      match a with
      | ⟨0, _⟩ => show win0_6.index t (0 : Fin 2) * 4 + 1 * (y 0).val = t.val * 4 + (y 0).val; omega
      | ⟨1, _⟩ => show win0_6.index t (1 : Fin 2) * 192 + 1 * (y 1).val = (y 1).val; omega
    have hx : ((cfg0.win 6).xinj (grid0.coords t) y : S4x192.Idx) = y := by
      funext a
      apply Fin.ext
      match a with
      | ⟨0, _⟩ => rfl
      | ⟨1, _⟩ => rfl
    show (out0_6 (iblk m c 0 t) (iblk m c 1 t) (iblk m c 2 t) (iblk m c 3 t) ((cfg0.win 6).xinj (grid0.coords t) y) : EReal)
      = mA m c (((cfg0.win 6).blk t).view.emb y)
    rw [hb, hx]
    refine (out_6 (iblk m c 0 t) (iblk m c 1 t) (iblk m c 2 t) (iblk m c 3 t) y).trans ?_
    rw [blk0, blk2]
    rfl
  · have h0 : (i 0).val < 4 := (i 0).isLt
    have h1 : (i 1).val < 192 := (i 1).isLt
    have hN : (i 0).val / 4 < cfg0.N := lt_of_lt_of_eq (by omega) N_0.symm
    obtain ⟨e0, e1⟩ := index6 ⟨(i 0).val / 4, hN⟩
    refine ⟨⟨(i 0).val / 4, hN⟩, flush0_6 _, ?_⟩
    show i ∈ ((View.whole main_v0_2).slice (win0_6.rect ⟨(i 0).val / 4, hN⟩)).set
    rw [View.set_slice_whole, Rect.mem_set_unit]
    intro a
    match a with
    | ⟨0, _⟩ =>
      show win0_6.index ⟨(i 0).val / 4, hN⟩ (0 : Fin 2) * 4 ≤ (i 0).val
        ∧ (i 0).val < win0_6.index ⟨(i 0).val / 4, hN⟩ (0 : Fin 2) * 4 + 4
      rw [e0]; dsimp only; omega
    | ⟨1, _⟩ =>
      show win0_6.index ⟨(i 0).val / 4, hN⟩ (1 : Fin 2) * 192 ≤ (i 1).val
        ∧ (i 1).val < win0_6.index ⟨(i 0).val / 4, hN⟩ (1 : Fin 2) * 192 + 192
      rw [e1]; omega

/-- The array of output 7 after the run. -/
theorem final7 : ((dats m 0 c).arrAt 7 cfg0.N : S4x192.Idx → EReal) = vA m c := by
  refine (dats m 0 c).arrAt_eq_of_cover 7 _ (fun t hf => ?_) (fun i => ?_)
  · obtain ⟨e0, e1⟩ := index7 t
    show (cfg0.win 7).cut (grid0.coords t) ((dats m 0 c).after 7 t) = _
    rw [after0_7]
    funext y
    have hb : ((cfg0.win 7).blk t).view.emb y = at' t y := by
      funext a
      apply Fin.ext
      match a with
      | ⟨0, _⟩ => show win0_7.index t (0 : Fin 2) * 4 + 1 * (y 0).val = t.val * 4 + (y 0).val; omega
      | ⟨1, _⟩ => show win0_7.index t (1 : Fin 2) * 192 + 1 * (y 1).val = (y 1).val; omega
    have hx : ((cfg0.win 7).xinj (grid0.coords t) y : S4x192.Idx) = y := by
      funext a
      apply Fin.ext
      match a with
      | ⟨0, _⟩ => rfl
      | ⟨1, _⟩ => rfl
    show (out0_7 (iblk m c 0 t) (iblk m c 1 t) (iblk m c 2 t) (iblk m c 3 t) ((cfg0.win 7).xinj (grid0.coords t) y) : EReal)
      = vA m c (((cfg0.win 7).blk t).view.emb y)
    rw [hb, hx]
    refine (out_7 (iblk m c 0 t) (iblk m c 1 t) (iblk m c 2 t) (iblk m c 3 t) y).trans ?_
    rw [blk0, blk3]
    rfl
  · have h0 : (i 0).val < 4 := (i 0).isLt
    have h1 : (i 1).val < 192 := (i 1).isLt
    have hN : (i 0).val / 4 < cfg0.N := lt_of_lt_of_eq (by omega) N_0.symm
    obtain ⟨e0, e1⟩ := index7 ⟨(i 0).val / 4, hN⟩
    refine ⟨⟨(i 0).val / 4, hN⟩, flush0_7 _, ?_⟩
    show i ∈ ((View.whole main_v0_3).slice (win0_7.rect ⟨(i 0).val / 4, hN⟩)).set
    rw [View.set_slice_whole, Rect.mem_set_unit]
    intro a
    match a with
    | ⟨0, _⟩ =>
      show win0_7.index ⟨(i 0).val / 4, hN⟩ (0 : Fin 2) * 4 ≤ (i 0).val
        ∧ (i 0).val < win0_7.index ⟨(i 0).val / 4, hN⟩ (0 : Fin 2) * 4 + 4
      rw [e0]; dsimp only; omega
    | ⟨1, _⟩ =>
      show win0_7.index ⟨(i 0).val / 4, hN⟩ (1 : Fin 2) * 192 ≤ (i 1).val
        ∧ (i 1).val < win0_7.index ⟨(i 0).val / 4, hN⟩ (1 : Fin 2) * 192 + 192
      rw [e1]; omega

end Cert.Kernel10Ideal.Ad

namespace Cert.Reference10Ideal.Ad

open Cert.Reference10Ideal Cert.Reference10Ideal.Gen Cert.Reference10Ideal.Read
open Idealize.ShloMosaic Idealize.ShloMosaic.TcCoe
open Cert.AdSpec
open scoped BigOperators

variable (x0 : (⟨S1x4x192, .f32⟩ : BufTy).Contents (Elt Ideal)) (x1 x2 x3 : (⟨S4x192, .f32⟩ : BufTy).Contents (Elt Ideal)) (i : S4x192.Idx)

theorem r_g : (val_main_v0 (F := Ideal) x0 i : EReal) = tot x0 i := by
  refine (val_main_v0_apply x0 i).trans ?_
  refine (congrArg (· + _) bits_zero).trans ((zero_add _).trans ?_)
  refine Finset.sum_congr rfl fun s _ => congrArg (x0 : S1x4x192.Idx → EReal) ?_
  funext a
  apply Fin.ext
  match a with
  | ⟨0, _⟩ => rfl
  | ⟨1, _⟩ => rfl
  | ⟨2, _⟩ => rfl

theorem r_m : (val_main_v5 (F := Ideal) x0 x2 i : EReal) = newM (tot x0 i) (x2 i) := by
  rw [← r_g x0 i]
  simp only [val_main_v1_apply, val_main_v2_apply, val_main_v3_apply, val_main_v4_apply, val_main_v5_apply, val_main_cst_0_apply, val_main_cst_1_apply]
  rfl

theorem r_v : (val_main_v11 (F := Ideal) x0 x3 i : EReal) = newV (tot x0 i) (x3 i) := by
  rw [← r_g x0 i]
  simp only [val_main_v6_apply, val_main_v7_apply, val_main_v8_apply, val_main_v9_apply, val_main_v10_apply, val_main_v11_apply, val_main_cst_2_apply, val_main_cst_3_apply]
  rfl

theorem r_d : (val_main_v24 (F := Ideal) x0 x1 x2 x3 i : EReal) = step (tot x0 i) (x1 i) (x2 i) (x3 i) := by
  unfold step
  rw [← r_m x0 x2 i, ← r_v x0 x3 i]
  simp only [val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_cst_4_apply, val_main_cst_5_apply, val_main_cst_6_apply, val_main_cst_7_apply, val_main_cst_8_apply]
  rfl

end Cert.Reference10Ideal.Ad

namespace Cert.Proof

open Idealize.ShloMosaic Idealize.ShloMosaic.TcCoe

theorem frame_kernel10Ideal : Cert.quiescent_Kernel10Ideal := fun m ρ _ => Cert.Kernel10Ideal.Gen.frame (F := Ideal) m ρ

/-- The word-for-word program and its reading over the reals have the same launches. -/
theorem ad10_defs_eq : Cert.Kernel10.defs (F := Bits) = Cert.Kernel10Ideal.defs (F := Bits) := by
  have h : Cert.Kernel10.defs₀ (F := Bits) = Cert.Kernel10Ideal.defs₀ (F := Bits) := by
    unfold Cert.Kernel10.defs₀
    refine congrArg Defs.onTc (funext fun k => ?_)
    match k with
    | 0 => rfl
  unfold Cert.Kernel10.defs
  rw [h]
  rfl

theorem frame_kernel10 : Cert.quiescent_Kernel10 := by
  intro m ρ _
  rw [ad10_defs_eq]
  exact Cert.Kernel10Ideal.Gen.frame (F := Bits) m ρ

theorem frame_reference10Ideal : Cert.quiescent_Reference10Ideal := fun m ρ _ =>
  (θ_run Cert.Reference10Ideal.defs _ _).mono (fun r h => ⟨fun c => (h c).2.2.2.2, Idealize.ShloMosaic.sem_eq_zero_of_no_sems (by decide) r.2⟩) (Cert.Reference10Ideal.Value.run (F := Ideal) m ρ)

theorem algebraic10 : Cert.algebraic_Kernel10Ideal_Reference10Ideal := by
  intro m g m' g' _ h
  refine ⟨fun c => Cert.Kernel10Ideal.Ad.gA m c, fun c => Cert.Kernel10Ideal.Ad.dA m c,
    fun c => Cert.Kernel10Ideal.Ad.mA m c, fun c => Cert.Kernel10Ideal.Ad.vA m c, ?_, ?_⟩
  · refine (θ_run Cert.Kernel10Ideal.defs _ _).mono (fun r hr c => ?_) (Cert.Kernel10Ideal.Gen.run_main (F := Ideal) m g)
    exact ⟨((hr c).1 4).trans (Cert.Kernel10Ideal.Ad.final4 m c),
      ((hr c).1 5).trans (Cert.Kernel10Ideal.Ad.final5 m c),
      ((hr c).1 6).trans (Cert.Kernel10Ideal.Ad.final6 m c),
      ((hr c).1 7).trans (Cert.Kernel10Ideal.Ad.final7 m c), ((hr c).1 0).trans (((Cert.Kernel10Ideal.Gen.dats m 0 c).arrAt_in 0 rfl _).trans ((Cert.Kernel10Ideal.Gen.A_eq m c 0).trans (Cert.Kernel10Ideal.Gen.V_main_arg0 m c))),
      ((hr c).1 1).trans (((Cert.Kernel10Ideal.Gen.dats m 0 c).arrAt_in 1 rfl _).trans ((Cert.Kernel10Ideal.Gen.A_eq m c 1).trans (Cert.Kernel10Ideal.Gen.V_main_arg1 m c))),
      ((hr c).1 2).trans (((Cert.Kernel10Ideal.Gen.dats m 0 c).arrAt_in 2 rfl _).trans ((Cert.Kernel10Ideal.Gen.A_eq m c 2).trans (Cert.Kernel10Ideal.Gen.V_main_arg2 m c))),
      ((hr c).1 3).trans (((Cert.Kernel10Ideal.Gen.dats m 0 c).arrAt_in 3 rfl _).trans ((Cert.Kernel10Ideal.Gen.A_eq m c 3).trans (Cert.Kernel10Ideal.Gen.V_main_arg3 m c)))⟩
  · refine (θ_run Cert.Reference10Ideal.defs _ _).mono (fun r hr c => ?_) (Cert.Reference10Ideal.Value.run (F := Ideal) m' g')
    obtain ⟨k0, k1, k2, k3, k⟩ := hr c
    obtain ⟨a0, a1, a2, a3⟩ := h c
    refine ⟨k0.trans ?_, k1.trans ?_, k2.trans ?_, k3.trans ?_, k⟩
    · refine (Cert.Reference10Ideal.Read.val_main_v0_eq _).trans ?_
      rw [a0]
      funext i
      exact Cert.Reference10Ideal.Ad.r_g _ i
    · refine (Cert.Reference10Ideal.Read.val_main_v24_eq _ _ _ _).trans ?_
      rw [a0, a1, a2, a3]
      funext i
      exact Cert.Reference10Ideal.Ad.r_d _ _ _ _ i
    · refine (Cert.Reference10Ideal.Read.val_main_v5_eq _ _).trans ?_
      rw [a0, a2]
      funext i
      exact Cert.Reference10Ideal.Ad.r_m _ _ i
    · refine (Cert.Reference10Ideal.Read.val_main_v11_eq _ _).trans ?_
      rw [a0, a3]
      funext i
      exact Cert.Reference10Ideal.Ad.r_v _ _ i

end Cert.Proof

end
-- ==== Proof.WmRuns.lean ====
/- What the runs of the weight-gradient product share: its blocks, its branch conditions, its staging memrefs. -/
module

public import proofs.«01_k».proof.Proof.Gen.Kernel11Ideal.Skeleton
public import proofs.«01_k».proof.Proof.Gen.Kernel11Ideal.Launch
public import proofs.«01_k».proof.Proof.Gen.Kernel11Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel11Ideal.Wm

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel11Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 3 (mod 4) — by arithmetic of the point. -/
theorem hcond0_0 : ∀ t : Fin cfg0.N, cond0_0 (grid0.coords t) ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 4 % 1 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, ¬cond0_0 (grid0.coords t) → cfg0.idle 2 (grid0.coords t) = true := by decide +kernel
/-- At the points of case A the pipeline does not write output 2's block back. -/
theorem noFlush0_2_A : ∀ t : Fin cfg0.N, ¬cond0_0 (grid0.coords t) → (cfg0.win 2).flush t = false := by decide +kernel
/-- At the points of case B the printed configuration (`Cfg.idle`) calls output 2 live: the case stores into it. -/
theorem liveAt0_2_B : ∀ t : Fin cfg0.N, cond0_0 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1664x1024 .bf16 := (Memref.whole cc0_stg2_0 : Memref sig .tc .vmem S1664x1024 .bf16).view
/-- Each window's current staging memref at point `t`, spelled as the pipeline passes it (`bodyAt0`), and its wholeness. -/
abbrev ms0_0 (t : Fin cfg0.N) : Memref sig .tc .vmem S2048x1664 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1664x1024 .bf16 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1664x1024 .f32 := Memref.whole cc0_scratch0
/-- The scratch `arg6` the kernel carries between points, as a view: what it holds is stated through it. -/
abbrev VS0_0 : View sig .tc .vmem S1664x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel11Ideal.Wm

end
-- ==== Proof.WmRunA.lean ====
/- One run of the body of the weight-gradient product (case A). -/
module

public import proofs.«01_k».proof.Proof.WmRuns

@[expose] public section

set_option maxRecDepth 16384

noncomputable section

namespace Cert.Kernel11Ideal.Wm

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 not taken: points 0, 1, 2, 4, 5, 6), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : ¬cond0_0 i)
    (x0 : Vec F S2048x1664 .bf16) (x1 : Vec F S2048x1024 .bf16) (xs0 : Vec F S1664x1024 .f32) :
    Σ' (L2 : List (View.Piece (Elt F) S1664x1024 .bf16)), { LS0 : List (View.Piece (Elt F) S1664x1024 .f32) //
      ∀ (xi2 : Vec F S1664x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_mix_in_bwd_w i arg3 harg3 arg4 harg4 arg5 harg5 arg6 harg6) K } := by
  refine ⟨[], ?_, fun xi2 E K => ?run⟩
  case run =>
    simp only [cc0_mix_in_bwd_w_eq_skeleton]; unfold cc0_mix_in_bwd_w_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel11Ideal.Wm

end
-- ==== Proof.WmRunB.lean ====
/- One run of the body of the weight-gradient product (case B). -/
module

public import proofs.«01_k».proof.Proof.WmRuns

@[expose] public section

set_option maxRecDepth 16384

noncomputable section

namespace Cert.Kernel11Ideal.Wm

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 taken: points 3, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec F S2048x1664 .bf16) (x1 : Vec F S2048x1024 .bf16) (xs0 : Vec F S1664x1024 .f32) :
    Σ' (L2 : List (View.Piece (Elt F) S1664x1024 .bf16)), { LS0 : List (View.Piece (Elt F) S1664x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0_mix_in_bwd_w i arg3 harg3 arg4 harg4 arg5 harg5 arg6 harg6) K } := by
  refine ⟨?_, ?_, fun E K => ?run⟩
  case run =>
    simp only [cc0_mix_in_bwd_w_eq_skeleton]; unfold cc0_mix_in_bwd_w_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel11Ideal.Wm

end
-- ==== Proof.WmFrame.lean ====
/- What the weight-gradient product leaves point by point, its body obligation, its run. -/
module

public import proofs.«01_k».proof.Proof.WmRunA
public import proofs.«01_k».proof.Proof.WmRunB
public import Idealize.ShloMosaic.Lib.Claim

@[expose] public section

set_option maxRecDepth 16384

noncomputable section

namespace Cert.Kernel11Ideal.Wm

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : ¬cond0_0 i)
    (x0 : Vec F S2048x1664 .bf16) (x1 : Vec F S2048x1024 .bf16) (xs0 : Vec F S1664x1024 .f32) : Vec F S1664x1024 .bf16 :=
  VO0_2.read (Elt F) (VO0_2.writes (Elt F) VO0_2.junk (kernelRun0_A c i arg3 harg3 arg4 harg4 arg5 harg5 arg6 harg6 hc0 x0 x1 xs0).1)

/-- Case A's pieces for scratch `arg6`, which the kernel carries between points, cover it: 4 pieces of `S1664x256` tiling it (Lib/Ring.lean `Piece.tiledL`). -/
theorem scover0_A_0 (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : ¬cond0_0 i)
    (x0 : Vec F S2048x1664 .bf16) (x1 : Vec F S2048x1024 .bf16) (xs0 : Vec F S1664x1024 .f32) (y : S1664x1024.Idx) :
    ∃ pc ∈ (kernelRun0_A c i arg3 harg3 arg4 harg4 arg5 harg5 arg6 harg6 hc0 x0 x1 xs0).2.1, y ∈ pc.1.set :=
  View.cover_of_tiledL (kernelRun0_A c i arg3 harg3 arg4 harg4 arg5 harg5 arg6 harg6 hc0 x0 x1 xs0).2.1 S1664x256.size (by sl_kernel_rfl) y

/-- What case A leaves in scratch `arg6`: its pieces read back over junk. -/
def sout0_A_0 (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : ¬cond0_0 i)
    (x0 : Vec F S2048x1664 .bf16) (x1 : Vec F S2048x1024 .bf16) (xs0 : Vec F S1664x1024 .f32) : Vec F S1664x1024 .f32 :=
  VS0_0.read (Elt F) (VS0_0.writes (Elt F) VS0_0.junk (kernelRun0_A c i arg3 harg3 arg4 harg4 arg5 harg5 arg6 harg6 hc0 x0 x1 xs0).2.1)

/-- Case B's pieces for output 2 tile its block (1 store of `S1664x1024`, checked by the kernel's evaluation: Lib/Ring.lean `Piece.tiledL`, linear in the pieces, through a loop's `@[irreducible]` trip theorem too), so they cover it. -/
theorem cover0_B_2 (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec F S2048x1664 .bf16) (x1 : Vec F S2048x1024 .bf16) (xs0 : Vec F S1664x1024 .f32) (y : S1664x1024.Idx) :
    ∃ pc ∈ (kernelRun0_B c i arg3 harg3 arg4 harg4 arg5 harg5 arg6 harg6 hc0 x0 x1 xs0).1, y ∈ pc.1.set :=
  View.cover_of_tiledL (kernelRun0_B c i arg3 harg3 arg4 harg4 arg5 harg5 arg6 harg6 hc0 x0 x1 xs0).1 S1664x1024.size (by sl_kernel_rfl) y

/-- What case B leaves in output 2's staging buffer: its pieces read back over junk. -/
def out0_B_2 (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec F S2048x1664 .bf16) (x1 : Vec F S2048x1024 .bf16) (xs0 : Vec F S1664x1024 .f32) : Vec F S1664x1024 .bf16 :=
  VO0_2.read (Elt F) (VO0_2.writes (Elt F) VO0_2.junk (kernelRun0_B c i arg3 harg3 arg4 harg4 arg5 harg5 arg6 harg6 hc0 x0 x1 xs0).1)

/-- Case B's pieces for scratch `arg6`, which the kernel carries between points, cover it: 4 pieces of `S1664x256` tiling it (Lib/Ring.lean `Piece.tiledL`). -/
theorem scover0_B_0 (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec F S2048x1664 .bf16) (x1 : Vec F S2048x1024 .bf16) (xs0 : Vec F S1664x1024 .f32) (y : S1664x1024.Idx) :
    ∃ pc ∈ (kernelRun0_B c i arg3 harg3 arg4 harg4 arg5 harg5 arg6 harg6 hc0 x0 x1 xs0).2.1, y ∈ pc.1.set :=
  View.cover_of_tiledL (kernelRun0_B c i arg3 harg3 arg4 harg4 arg5 harg5 arg6 harg6 hc0 x0 x1 xs0).2.1 S1664x256.size (by sl_kernel_rfl) y

/-- What case B leaves in scratch `arg6`: its pieces read back over junk. -/
def sout0_B_0 (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec F S2048x1664 .bf16) (x1 : Vec F S2048x1024 .bf16) (xs0 : Vec F S1664x1024 .f32) : Vec F S1664x1024 .f32 :=
  VS0_0.read (Elt F) (VS0_0.writes (Elt F) VS0_0.junk (kernelRun0_B c i arg3 harg3 arg4 harg4 arg5 harg5 arg6 harg6 hc0 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1664x1024 .bf16 × Vec F S1664x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (fun h => (fun h => by (try dsimp only at h); omega) ((hcond0_0 ⟨0, hn⟩).mp h)) (iblk m c 0 ⟨0, hn⟩) (iblk m c 1 ⟨0, hn⟩) ((VO0_2.read (Elt F) VO0_2.junk, VS0_0.read (Elt F) VS0_0.junk) : Vec F S1664x1024 .bf16 × Vec F S1664x1024 .f32).2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (fun h => (fun h => by (try dsimp only at h); omega) ((hcond0_0 ⟨0, hn⟩).mp h)) (iblk m c 0 ⟨0, hn⟩) (iblk m c 1 ⟨0, hn⟩) ((VO0_2.read (Elt F) VO0_2.junk, VS0_0.read (Elt F) VS0_0.junk) : Vec F S1664x1024 .bf16 × Vec F S1664x1024 .f32).2)
  | n + 1, hn =>
    if h0 : (n + 1) % 4 = 3 then
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk m c 0 ⟨n + 1, hn⟩) (iblk m c 1 ⟨n + 1, hn⟩) (outsAt0 c n (Nat.lt_of_succ_lt hn)).2)
    else
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2)

/-- `outsAt0` at a point of case A: that case's contents, over what the point before left. -/
theorem outsAt0_A (c : Dev nD) (t : Fin cfg0.N) (h0 : ¬t.val % 4 = 3) (hz : t.val ≠ 0) :
    outsAt0 m c t.val t.isLt = (out0_A_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2, sout0_A_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl hz
  | succ n => exact (dif_neg h0).trans rfl

/-- `outsAt0` at a point of case A: that case's contents, at the grid's first point. -/
theorem outsAt0_A0 (c : Dev nD) (t : Fin cfg0.N) (h0 : ¬t.val % 4 = 3) (hz : t.val = 0) :
    outsAt0 m c t.val t.isLt = (out0_A_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) ((VO0_2.read (Elt F) VO0_2.junk, VS0_0.read (Elt F) VS0_0.junk) : Vec F S1664x1024 .bf16 × Vec F S1664x1024 .f32).2, sout0_A_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) ((VO0_2.read (Elt F) VO0_2.junk, VS0_0.read (Elt F) VS0_0.junk) : Vec F S1664x1024 .bf16 × Vec F S1664x1024 .f32).2) := by
  obtain ⟨n, hn⟩ := t
  cases n with
  | zero => exact rfl
  | succ n => exact absurd hz (Nat.succ_ne_zero n)

/-- `outsAt0` at a point of case B: that case's contents, over what the point before left. -/
theorem outsAt0_B (c : Dev nD) (t : Fin cfg0.N) (h0 : t.val % 4 = 3) :
    outsAt0 m c t.val t.isLt = (out0_B_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) ((hcond0_0 t).mpr h0) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact by omega)
  | succ n => exact (dif_pos h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- A select whose condition compares zero with zero takes its first branch. -/
theorem sel_zero (x y : FVec F S1664x256 .f32) :
    Scalar.select (Scalar.cmpi .eq (BitVec.ofNat 32 0) 0#32) x y = x := rfl

/-- At a point that begins a sum over the tokens, the pieces do not depend on what the accumulator held. -/
theorem pieces_first (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : ¬cond0_0 i)
    (x0 : Vec F S2048x1664 .bf16) (x1 : Vec F S2048x1024 .bf16) (xs xs' : Vec F S1664x1024 .f32) (hi : (i 2).val = 0) :
    (kernelRun0_A c i arg3 harg3 arg4 harg4 arg5 harg5 arg6 harg6 hc0 x0 x1 xs).2.1 = (kernelRun0_A c i arg3 harg3 arg4 harg4 arg5 harg5 arg6 harg6 hc0 x0 x1 xs').2.1 := by
  unfold kernelRun0_A
  dsimp only
  unfold k0_pay1 k0_pay2 k0_pay4 k0_pay5 kernelRun0_A.sl.v25
  simp only [hi, sel_zero]

/-- The grid's first point begins a sum. -/
theorem first_coord (t : Fin cfg0.N) (hz : t.val = 0) : ((grid0.coords t) 2).val = 0 := by
  have h : ∀ t : Fin grid0.N, t.val = 0 → ((grid0.coords t) 2).val = 0 := by decide +kernel
  exact h t hz

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 3
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2_B t ((hcond0_0 t).mpr h0)], after0_2]
    by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_2 sout0_B_0; (try dsimp only)
      iintro ⟨⟨HS0, Hg⟩, Ho, ⟨%d0, H0⟩, ⟨%d1, H1⟩, ⟨%d2, H2⟩⟩
      iapply ((kernelRun0_B c (grid0.coords t) _ _ _ _ _ _ _ _ ((hcond0_0 t).mpr h0) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2_A t (fun h => h0 ((hcond0_0 t).mp h))) (noFlush0_2_A t (fun h => h0 ((hcond0_0 t).mp h)))]
    by_cases hz : t.val = 0
    · rw [PhiS_castSucc m c t, PhiS_zero m c _ _ hz, PhiA0_eq]
      rw [outsAt0_A0 m c t h0 hz]
      unfold sout0_A_0; (try dsimp only)
      iintro ⟨⟨⟨%ds, HS0⟩, Hg⟩, Ho, ⟨%d0, H0⟩, ⟨%d1, H1⟩, ⟨%d2, H2⟩⟩
      iapply ((kernelRun0_A c (grid0.coords t) _ _ _ _ _ _ _ _ (fun h => h0 ((hcond0_0 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; rw [pieces_first c (grid0.coords t) _ _ _ _ _ _ _ _ (fun h => h0 ((hcond0_0 t).mp h)) (iblk m c 0 t) (iblk m c 1 t) ds ((VO0_2.read (Elt F) VO0_2.junk, VS0_0.read (Elt F) VS0_0.junk) : Vec F S1664x1024 .bf16 × Vec F S1664x1024 .f32).2 (first_coord t hz)]; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      rw [outsAt0_A m c t h0 hz]
      unfold sout0_A_0; (try dsimp only)
      iintro ⟨⟨HS0, Hg⟩, Ho, ⟨%d0, H0⟩, ⟨%d1, H1⟩, ⟨%d2, H2⟩⟩
      iapply ((kernelRun0_A c (grid0.coords t) _ _ _ _ _ _ _ _ (fun h => h0 ((hcond0_0 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Kernel11Ideal`'s statement (Defs.lean) at any `F` — Proof.lean cites it at `Bits`:
    `theorem Cert.Proof.claim : Cert.Claim := ⟨Cert.Kernel11Ideal.Gen.facts, fun m ρ _ => Cert.Kernel11Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel11Ideal.Wm

end
-- ==== Proof.WmValue.lean ====
/- The output arrays of the weight-gradient product, block by block. -/
module

public import proofs.«01_k».proof.Proof.WmFrame
public import Idealize.ShloMosaic.Lib.Pipeline.Value

@[expose] public section

set_option maxRecDepth 16384

noncomputable section

namespace Cert.Kernel11Ideal.Wm

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : t.val % 4 = 3) :
    (dats m 0 c).flushed 2 t = (cfg0.win 2).cut (grid0.coords t) (out0_B_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t) (outsAt0 m c (t.val - 1) (Nat.lt_of_le_of_lt (Nat.sub_le _ _) t.isLt)).2) := by
  simp only [flushed2, outsAt0_B m c t h0]

-- no `blocks2`: window 2's index map revisits a block index, or its points could not be enumerated here;
-- the final array is still the frame's `arrAt`, to read with Lib/Pipeline/Value.lean's lemmas by hand

/-- An index that no flushing point's block covers keeps output window 2's array contents at region entry. -/
theorem entry2 (c : Dev nD) (i : S3328x1024.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0) = (dats m 0 c).arrAt 2 cfg0.N :=
  (h c).1 2

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      kept_main_arg0 m r h c,
      kept_main_arg1 m r h c⟩)
    (run_main m ρ)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1664x1024 .bf16 × Vec F S1664x1024 .f32 :=
  ((VO0_2.read (Elt F) VO0_2.junk, VS0_0.read (Elt F) VS0_0.junk) : Vec F S1664x1024 .bf16 × Vec F S1664x1024 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1664x1024 .bf16 × Vec F S1664x1024 .f32) : Vec F S1664x1024 .bf16 × Vec F S1664x1024 .f32 :=
  if h0 : n % 4 = 3 then
    (out0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) acc.2)
  else
    (out0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2, sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc.2)

/-- `stAt0` at a point of case A: that case's contents, over `acc`. -/
theorem stAt0_A (c : Dev nD) (t : Fin cfg0.N) (acc : Vec F S1664x1024 .bf16 × Vec F S1664x1024 .f32) (h0 : ¬t.val % 4 = 3) :
    stAt0 m c t.val t.isLt acc = (out0_A_2 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) acc.2, sout0_A_0 c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) acc.2) :=
  (dif_neg h0).trans rfl

/-- `stAt0` at a point of case B: that case's contents, over `acc`. -/
theorem stAt0_B (c : Dev nD) (t : Fin cfg0.N) (acc : Vec F S1664x1024 .bf16 × Vec F S1664x1024 .f32) (h0 : t.val % 4 = 3) :
    stAt0 m c t.val t.isLt acc = (out0_B_2 c (grid0.coords t) (ms0_0 t) (hs0_0 t) (ms0_1 t) (hs0_1 t) (ms0_2 t) (hs0_2 t) scM0_0 (Memref.isWhole_whole _) ((hcond0_0 t).mpr h0) (iblk m c 0 t) (iblk m c 1 t) acc.2, sout0_B_0 c (grid0.coords t) (ms0_0 t) (hs0_0 t) (ms0_1 t) (hs0_1 t) (ms0_2 t) (hs0_2 t) scM0_0 (Memref.isWhole_whole _) ((hcond0_0 t).mpr h0) (iblk m c 0 t) (iblk m c 1 t) acc.2) :=
  (dif_pos h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 8 from N_0)
  have e := Pipeline.eq_accAt_of_mod (fun n h => outsAt0 m c n h) 8 (fun n h => stAt0 m c n h junk0) (stAt0 m c)
    (fun n h _ => by
      have hN := lt_of_lt_of_eq h (show cfg0.N = 8 from N_0)
      obtain rfl : n = 0 := by omega
      exact outsAt0_zero m c h)
    (fun n h _ => outsAt0_succ m c n h)
    (by decide) n hn (by have := Nat.div_add_mod n 8; omega)
  have hd : n / 8 = 0 := Nat.div_eq_of_lt hN
  have hm : n % 8 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 2 -/

/-- The block of the array that holds index `i`, numbered in the order the points write the blocks back (one every 4 points),
    `i`'s place in it, and the point that writes it back (the last of its 4). -/
abbrev run2Of (i : S3328x1024.Idx) : ℕ := 1 * ((i 0).val / 1664 - 0) + 1 * ((i 1).val / 1024 - 0)
set_option backward.proofsInPublic true in
abbrev loc2Of (i : S3328x1024.Idx) : S1664x1024.Idx := fun a => match a with
  | ⟨0, _⟩ => ⟨(i 0).val % 1664, Nat.mod_lt _ (by decide)⟩
  | ⟨1, _⟩ => ⟨(i 1).val % 1024, Nat.mod_lt _ (by decide)⟩
abbrev pt2Of (i : S3328x1024.Idx) : ℕ := 4 * run2Of i + 3

/-- WHAT THE ARRAY ENDS HOLDING at index `i` inside the box the flushing blocks fill: output 2's component of the carried
    state's fold at the point that writes `i`'s block back, at `i`'s place in the block. `G2` states the array's contents
    only inside the box. -/
def G2 (c : Dev nD) : Buf (Elt F) ((c : Thread nD τ).loc main_v0) := fun i =>
  if h : pt2Of i < cfg0.N then
    (Pipeline.accAt (fun n h => stAt0 m c n h junk0) (stAt0 m c) 0 (pt2Of i) (by omega)).1 (loc2Of i)
  else V m c (Pipeline.arrRef spec0 2) i

/-- The printed index map, decided over the grid: output window 2's block indices stay in the box, and the block number
    read off them is the point's (`t / 4`). -/
theorem idx_facts2 : ∀ t : Fin cfg0.N, 0 ≤ win0_2.index t (0 : Fin 2) ∧ win0_2.index t (0 : Fin 2) ≤ 1
    ∧ 0 ≤ win0_2.index t (1 : Fin 2) ∧ win0_2.index t (1 : Fin 2) ≤ 0
    ∧ 1 * (win0_2.index t (0 : Fin 2) - 0) + 1 * (win0_2.index t (1 : Fin 2) - 0) = t.val / 4 :=
  (by decide +kernel : ∀ t : Fin grid0.N, _)

/-- Every block of the box is SOME flushing point's: `onto2Pt`, the point that writes back the block at place `q` of the box (the last point of its run). -/
abbrev onto2Pt (q0 : Fin 2) (q1 : Fin 1) : Fin grid0.N :=
  ⟨4 * (1 * q0.val + 1 * q1.val) + 3, lt_of_lt_of_eq (by omega) N_0.symm⟩
theorem idx_onto2 : ∀ (q0 : Fin 2) (q1 : Fin 1), ∃ t : Fin cfg0.N, (cfg0.win 2).flush t = true ∧ win0_2.index t = ![q0.val + 0, q1.val + 0] :=
  fun q0 q1 => ⟨onto2Pt q0 q1, (by decide +kernel : ∀ (q0 : Fin 2) (q1 : Fin 1), win0_2.flush (onto2Pt q0 q1) = true ∧ win0_2.index (onto2Pt q0 q1) = ![q0.val + 0, q1.val + 0]) q0 q1⟩

/-- WHAT A FLUSHING POINT `t` WRITES BACK is block `t` of `G2`: output 2's component of the fold up to `t`. -/
theorem flushed2_eq (c : Dev nD) (t : Fin cfg0.N) (hf : (cfg0.win 2).flush t = true) :
    (dats m 0 c).flushed 2 t = ((cfg0.win 2).blk t).view.read (Elt F) (G2 m c) := by
  show (cfg0.win 2).cut (grid0.coords t) ((dats m 0 c).after 2 t) = _
  rw [after0_2, outsAt0_sweep]
  have hm : t.val % 4 = 3 := (flush0_2 t).mp hf
  obtain ⟨e0, e1, e2⟩ := idx_facts2 t
  funext y
  have hy0 : (y 0).val < 1664 := (y 0).isLt
  have hy1 : (y 1).val < 1024 := (y 1).isLt
  have hb0 : (((cfg0.win 2).blk t).view.emb y 0).val = win0_2.index t (0 : Fin 2) * 1664 + 1 * (y 0).val := rfl
  have hb1 : (((cfg0.win 2).blk t).view.emb y 1).val = win0_2.index t (1 : Fin 2) * 1024 + 1 * (y 1).val := rfl
  have hr : run2Of (((cfg0.win 2).blk t).view.emb y) = t.val / 4 := by
    show 1 * ((((cfg0.win 2).blk t).view.emb y 0).val / 1664 - 0) + 1 * ((((cfg0.win 2).blk t).view.emb y 1).val / 1024 - 0) = _
    rw [hb0, hb1]
    rw [show (win0_2.index t (0 : Fin 2) * 1664 + 1 * (y 0).val) / 1664 = win0_2.index t (0 : Fin 2) from by omega]; rw [show (win0_2.index t (1 : Fin 2) * 1024 + 1 * (y 1).val) / 1024 = win0_2.index t (1 : Fin 2) from by omega]
    omega
  have hl : loc2Of (((cfg0.win 2).blk t).view.emb y) = (cfg0.win 2).xinj (grid0.coords t) y := by
    funext a; apply Fin.ext
    match a with
    | ⟨0, _⟩ => show (((cfg0.win 2).blk t).view.emb y 0).val % 1664 = (y 0).val; rw [hb0]; omega
    | ⟨1, _⟩ => show (((cfg0.win 2).blk t).view.emb y 1).val % 1024 = (y 1).val; rw [hb1]; omega
  have hp : pt2Of (((cfg0.win 2).blk t).view.emb y) = t.val := by
    show 4 * run2Of (((cfg0.win 2).blk t).view.emb y) + 3 = _
    rw [hr]; have := Nat.div_add_mod t.val 4; omega
  show (Pipeline.accAt (fun n h => stAt0 m c n h junk0) (stAt0 m c) 0 t.val _).1 ((cfg0.win 2).xinj (grid0.coords t) y) = G2 m c (((cfg0.win 2).blk t).view.emb y)
  unfold G2
  rw [dif_pos (by rw [hp]; exact t.isLt), hl, fold0_congr m c _ _ _ _ hp.symm]

/-- An index of the array is in point `t`'s block iff each coordinate is in the block's range on its axis. -/
theorem mem_blk2 (t : Fin cfg0.N) (i : S3328x1024.Idx) :
    i ∈ ((cfg0.win 2).blk t).view.set ↔ ∀ a : Fin 2, win0_2.index t a * S1664x1024.size a ≤ (i a).val ∧ (i a).val < win0_2.index t a * S1664x1024.size a + S1664x1024.size a := by
  show i ∈ ((View.whole main_v0).slice (win0_2.rect t)).set ↔ _
  rw [View.set_slice_whole, Rect.mem_set_unit]
  exact Iff.rfl

/-- THE COVERED INDICES: in some flushing point's block iff inside the box those blocks fill. -/
theorem covered_iff2 (i : S3328x1024.Idx) :
    (∃ t : Fin cfg0.N, (cfg0.win 2).flush t = true ∧ i ∈ ((cfg0.win 2).blk t).view.set) ↔ 0 ≤ (i 0).val ∧ (i 0).val < 3328 ∧ 0 ≤ (i 1).val ∧ (i 1).val < 1024 := by
  constructor
  · rintro ⟨t, -, hi⟩
    rw [mem_blk2] at hi
    have b0 : win0_2.index t (0 : Fin 2) * 1664 ≤ (i 0).val ∧ (i 0).val < win0_2.index t (0 : Fin 2) * 1664 + 1664 := hi 0
    have b1 : win0_2.index t (1 : Fin 2) * 1024 ≤ (i 1).val ∧ (i 1).val < win0_2.index t (1 : Fin 2) * 1024 + 1024 := hi 1
    obtain ⟨e0, e1, e2⟩ := idx_facts2 t
    omega
  · intro h
    have hi0 : (i 0).val < 3328 := (i 0).isLt
    have hi1 : (i 1).val < 1024 := (i 1).isLt
    obtain ⟨t, hft, ht⟩ := idx_onto2 ⟨(i 0).val / 1664 - 0, by omega⟩ ⟨(i 1).val / 1024 - 0, by omega⟩
    have q0 : win0_2.index t (0 : Fin 2) = (i 0).val / 1664 - 0 + 0 := congrFun ht 0
    have q1 : win0_2.index t (1 : Fin 2) = (i 1).val / 1024 - 0 + 0 := congrFun ht 1
    refine ⟨t, hft, ?_⟩
    rw [mem_blk2]
    intro a
    match a with
    | ⟨0, _⟩ => show win0_2.index t (0 : Fin 2) * 1664 ≤ (i 0).val ∧ (i 0).val < win0_2.index t (0 : Fin 2) * 1664 + 1664; omega
    | ⟨1, _⟩ => show win0_2.index t (1 : Fin 2) * 1024 ≤ (i 1).val ∧ (i 1).val < win0_2.index t (1 : Fin 2) * 1024 + 1024; omega

/-- THE ARRAY after the run: `G2` (the flushing blocks tile it). -/
theorem final2 (c : Dev nD) : (dats m 0 c).arrAt 2 cfg0.N = G2 m c :=
  (dats m 0 c).arrAt_eq_of_cover 2 _ (fun t hf => flushed2_eq m c t hf) (fun i => (covered_iff2 i).2 (by
    have h0 : (i 0).val < 3328 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      kept_main_arg0 m r h c,
      kept_main_arg1 m r h c⟩)
    (run_main m ρ)

end Cert.Kernel11Ideal.Wm

end
-- ==== Proof.WmAlg.lean ====
/- The value of the weight-gradient product over the extended reals. -/
module

public import proofs.«01_k».proof.Proof.WmValue
public import Idealize.ShloMosaic.Lib.Pointwise
public import Idealize.ShloMosaic.Lib.ValueIdx
public import Idealize.ShloMosaic.Lib.Pointwise.Sums

@[expose] public section

set_option maxRecDepth 16384

noncomputable section

namespace Cert.Kernel11Ideal.Wm

open Cert.Kernel11Ideal Cert.Kernel11Ideal.Gen
open Idealize.ShloMosaic Idealize.ShloMosaic.TcCoe Idealize.ShloMosaic.Tactic
open Idealize.ShloMosaic.Pipeline (Dat Cfg Window BodyObligation cellOf)
open scoped BigOperators

/-- One block's product: 2048 tokens' contribution to the gradient at `y`. -/
def addend (x0 : Vec Ideal S2048x1664 .bf16) (x1 : Vec Ideal S2048x1024 .bf16) (y : S1664x1024.Idx) : EReal :=
  ∑ k : Fin 2048, x0 (ix2 k (y 0)) * x1 (ix2 k (y 1))

/-- What the accumulator holds after a point: the block's product added to what it held, or to zero where a sum begins. -/
def stepAt (i : grid0.Coords) (x0 : Vec Ideal S2048x1664 .bf16) (x1 : Vec Ideal S2048x1024 .bf16) (xs0 : Vec Ideal S1664x1024 .f32)
    (y : S1664x1024.Idx) : EReal :=
  (if (i 2).val = 0 then 0 else xs0 y) + addend x0 x1 y

theorem sel_apply (n : ℕ) (hn : n < 4) (x y : FVec Ideal S1664x256 .f32) (j : S1664x256.Idx) :
    Scalar.select (Scalar.cmpi .eq (BitVec.ofNat 32 n) 0#32) x y j = if n = 0 then x j else y j := by
  have : n = 0 ∨ n = 1 ∨ n = 2 ∨ n = 3 := by omega
  rcases this with rfl | rfl | rfl | rfl <;> rfl

/-- The step at a place of one block of 256 columns. -/
theorem step_rect (i : grid0.Coords) (x0 : Vec Ideal S2048x1664 .bf16) (x1 : Vec Ideal S2048x1024 .bf16)
    (xs0 : Vec Ideal S1664x1024 .f32) (y z : S1664x1024.Idx) (f : Fin 2048 → S2048x1664.Idx) (g : Fin 2048 → S2048x1024.Idx)
    (hz : z = y) (hf : ∀ k, f k = ix2 k (y 0)) (hg : ∀ k, g k = ix2 k (y 1)) :
    (if (i 2).val = 0 then (0 : EReal) else xs0 z) + ((0 : EReal) + ∑ k : Fin 2048, x0 (f k) * x1 (g k))
      = stepAt i x0 x1 xs0 y := by
  subst hz
  obtain rfl : f = fun k => ix2 k (z 0) := funext hf
  obtain rfl : g = fun k => ix2 k (z 1) := funext hg
  unfold stepAt addend
  exact congrArg (fun u : EReal => (if (i 2).val = 0 then (0 : EReal) else xs0 z) + u) (zero_add _)

theorem ix2_eq {n0 n1 : ℕ} {a a' : Fin n0} {b b' : Fin n1} (ha : a.val = a'.val) (hb : b.val = b'.val) : ix2 a b = ix2 a' b' := by
  obtain rfl := Fin.ext ha
  obtain rfl := Fin.ext hb
  rfl

/-- The pieces a point stores in the accumulator are its step's values. -/
theorem pieces_A (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : ¬cond0_0 i)
    (x0 : Vec Ideal S2048x1664 .bf16) (x1 : Vec Ideal S2048x1024 .bf16) (xs0 : Vec Ideal S1664x1024 .f32) :
    ∀ p ∈ (kernelRun0_A c i arg3 harg3 arg4 harg4 arg5 harg5 arg6 harg6 hc0 x0 x1 xs0).2.1, ∀ x, p.2 x = stepAt i x0 x1 xs0 (p.1.emb x) := by
  have hi : (i 2).val < 4 := (i 2).isLt
  unfold kernelRun0_A
  dsimp only
  intro p hp x
  simp only [List.mem_cons, List.mem_nil_iff, or_false] at hp
  rcases hp with rfl | rfl | rfl | rfl <;> dsimp only
  · unfold k0_pay2 kernelRun0_A.sl.v37
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay1 kernelRun0_A.sl.r kernelRun0_A.sl.v25 kernelRun0_A.sl.v26
    dsimp only
    unfold k0_pay6
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay5 kernelRun0_A.sl.v15
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay4
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl

/-- The pieces the last point of a sum stores in the accumulator are its step's values. -/
theorem pieces_B (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec Ideal S2048x1664 .bf16) (x1 : Vec Ideal S2048x1024 .bf16) (xs0 : Vec Ideal S1664x1024 .f32) :
    ∀ p ∈ (kernelRun0_B c i arg3 harg3 arg4 harg4 arg5 harg5 arg6 harg6 hc0 x0 x1 xs0).2.1, ∀ x, p.2 x = stepAt i x0 x1 xs0 (p.1.emb x) := by
  have hi : (i 2).val < 4 := (i 2).isLt
  unfold kernelRun0_B
  dsimp only
  unfold kernelRun0_B.sl.HS0_4
  intro p hp x
  simp only [List.mem_cons, List.mem_nil_iff, or_false] at hp
  rcases hp with rfl | rfl | rfl | rfl <;> dsimp only
  · unfold k0_pay2 kernelRun0_B.sl.v37
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay1 kernelRun0_B.sl.r kernelRun0_B.sl.v25 kernelRun0_B.sl.v26
    dsimp only
    unfold k0_pay6
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay5 kernelRun0_B.sl.v15
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl
  · unfold k0_pay4
    simp only [pointwise, View.readAt_eq_ld, Memref.IsWhole.read_unread, sel_apply _ hi]
    refine step_rect i x0 x1 xs0 _ _ _ _ ?_ (fun k => ?_) (fun k => ?_)
    · funext a
      match a with
      | ⟨0, _⟩ => rfl
      | ⟨1, _⟩ => rfl
    · exact ix2_eq (Nat.zero_add _ |>.trans (Nat.one_mul _)) rfl
    · exact ix2_eq (Nat.zero_add _ |>.trans (Nat.one_mul _)) rfl

theorem sout0_A_apply (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : ¬cond0_0 i)
    (x0 : Vec Ideal S2048x1664 .bf16) (x1 : Vec Ideal S2048x1024 .bf16) (xs0 : Vec Ideal S1664x1024 .f32) (y : S1664x1024.Idx) :
    sout0_A_0 c i arg3 harg3 arg4 harg4 arg5 harg5 arg6 harg6 hc0 x0 x1 xs0 y = stepAt i x0 x1 xs0 y := by
  unfold sout0_A_0
  exact View.read_writes_apply_of_pieces _ _ (stepAt i x0 x1 xs0) _ (pieces_A c i arg3 harg3 arg4 harg4 arg5 harg5 arg6 harg6 hc0 x0 x1 xs0) y (scover0_A_0 c i arg3 harg3 arg4 harg4 arg5 harg5 arg6 harg6 hc0 x0 x1 xs0 y)

theorem sout0_B_apply (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec Ideal S2048x1664 .bf16) (x1 : Vec Ideal S2048x1024 .bf16) (xs0 : Vec Ideal S1664x1024 .f32) (y : S1664x1024.Idx) :
    sout0_B_0 c i arg3 harg3 arg4 harg4 arg5 harg5 arg6 harg6 hc0 x0 x1 xs0 y = stepAt i x0 x1 xs0 y := by
  unfold sout0_B_0
  exact View.read_writes_apply_of_pieces _ _ (stepAt i x0 x1 xs0) _ (pieces_B c i arg3 harg3 arg4 harg4 arg5 harg5 arg6 harg6 hc0 x0 x1 xs0) y (scover0_B_0 c i arg3 harg3 arg4 harg4 arg5 harg5 arg6 harg6 hc0 x0 x1 xs0 y)

theorem out0_B_apply (c : Dev nD) (i : grid0.Coords) (arg3 : Memref sig .tc .vmem S2048x1664 .bf16) (harg3 : arg3.IsWhole) (arg4 : Memref sig .tc .vmem S2048x1024 .bf16) (harg4 : arg4.IsWhole) (arg5 : Memref sig .tc .vmem S1664x1024 .bf16) (harg5 : arg5.IsWhole) (arg6 : Memref sig .tc .vmem S1664x1024 .f32) (harg6 : arg6.IsWhole) (hc0 : cond0_0 i)
    (x0 : Vec Ideal S2048x1664 .bf16) (x1 : Vec Ideal S2048x1024 .bf16) (xs0 : Vec Ideal S1664x1024 .f32) (y : S1664x1024.Idx) :
    out0_B_2 c i arg3 harg3 arg4 harg4 arg5 harg5 arg6 harg6 hc0 x0 x1 xs0 y = stepAt i x0 x1 xs0 y := by
  unfold out0_B_2
  refine View.read_writes_apply_of_pieces _ _ (stepAt i x0 x1 xs0) _ ?_ y (cover0_B_2 c i arg3 harg3 arg4 harg4 arg5 harg5 arg6 harg6 hc0 x0 x1 xs0 y)
  unfold kernelRun0_B
  dsimp only
  intro p hp x
  simp only [List.mem_cons, List.mem_nil_iff, or_false] at hp
  subst hp
  dsimp only
  unfold k0_pay3 kernelRun0_B.sl.v47
  simp only [pointwise]
  exact View.read_writes_apply_of_pieces arg6.view _ (stepAt i x0 x1 xs0) (kernelRun0_B c i arg3 harg3 arg4 harg4 arg5 harg5 arg6 harg6 hc0 x0 x1 xs0).2.1 (pieces_B c i arg3 harg3 arg4 harg4 arg5 harg5 arg6 harg6 hc0 x0 x1 xs0) _ (scover0_B_0 c i arg3 harg3 arg4 harg4 arg5 harg5 arg6 harg6 hc0 x0 x1 xs0 _)

variable (m : (ℓ : Loc nD τ sig) → Buf (Elt Ideal) ℓ)

/-- The incoming gradient's array. -/
def dgArr (c : Dev nD) : S8192x3328.Idx → EReal := m ((c : Thread nD τ).loc main_arg0)
/-- The activations' array. -/
def hArr (c : Dev nD) : S8192x1024.Idx → EReal := m ((c : Thread nD τ).loc main_arg1)

/-- The two arrays' product at one token, at the places the gradient's index names. -/
def term (c : Dev nD) (i : S3328x1024.Idx) (k : Fin 8192) : EReal :=
  dgArr m c (ix2 k (i 0)) * hArr m c (ix2 k (i 1))

/-- The array the kernel leaves, read as extended reals. -/
def outArr (c : Dev nD) : S3328x1024.Idx → EReal := G2 m c

/-- The grid's third coordinate counts the blocks of tokens. -/
theorem coord2 : ∀ t : Fin cfg0.N, ((grid0.coords t) 2).val = t.val % 4 :=
  (by decide +kernel : ∀ t : Fin grid0.N, _)

theorem index0 : ∀ t : Fin cfg0.N, win0_0.index t (0 : Fin 2) = t.val % 4 ∧ win0_0.index t (1 : Fin 2) = t.val / 4 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)

theorem lt_N (t : Fin cfg0.N) : t.val < 8 := lt_of_lt_of_eq t.isLt N_0

theorem iblk0_apply (c : Dev nD) (t : Fin cfg0.N) (k : Fin 2048) (a : Fin 1664) :
    (iblk m c 0 t : S2048x1664.Idx → EReal) (ix2 k a)
      = dgArr m c
          (ix2 ⟨t.val % 4 * 2048 + k.val, by omega⟩ ⟨t.val / 4 * 1664 + a.val, by have := lt_N t; omega⟩) := by
  obtain ⟨e0, e1⟩ := index0 t
  show dgArr m c (((cfg0.win 0).blk t).view.emb (ix2 k a)) = _
  refine congrArg _ (funext fun b => ?_)
  match b with
  | ⟨0, _⟩ =>
    apply Fin.ext
    show win0_0.index t (0 : Fin 2) * 2048 + 1 * k.val = t.val % 4 * 2048 + k.val
    rw [e0, Nat.one_mul]
  | ⟨1, _⟩ =>
    apply Fin.ext
    show win0_0.index t (1 : Fin 2) * 1664 + 1 * a.val = t.val / 4 * 1664 + a.val
    rw [e1, Nat.one_mul]

theorem iblk1_apply (c : Dev nD) (t : Fin cfg0.N) (k : Fin 2048) (a : Fin 1024) :
    (iblk m c 1 t : S2048x1024.Idx → EReal) (ix2 k a)
      = hArr m c
          (ix2 ⟨t.val % 4 * 2048 + k.val, by omega⟩ a) := by
  obtain ⟨e0, e1⟩ := index1 t
  show hArr m c (((cfg0.win 1).blk t).view.emb (ix2 k a)) = _
  refine congrArg _ (funext fun b => ?_)
  match b with
  | ⟨0, _⟩ =>
    apply Fin.ext
    show win0_1.index t (0 : Fin 2) * 2048 + 1 * k.val = t.val % 4 * 2048 + k.val
    rw [e0, Nat.one_mul]
  | ⟨1, _⟩ =>
    apply Fin.ext
    show win0_1.index t (1 : Fin 2) * 1024 + 1 * a.val = a.val
    rw [e1, Nat.one_mul, Nat.zero_mul, Nat.zero_add]

/-- What point `n` adds to the accumulator. -/
def blockAdd (c : Dev nD) (n : ℕ) (hn : n < cfg0.N) (y : S1664x1024.Idx) : EReal :=
  addend (iblk m c 0 ⟨n, hn⟩) (iblk m c 1 ⟨n, hn⟩) y

/-- It is the sum over the point's 2048 tokens. -/
theorem blockAdd_eq (c : Dev nD) (n s : ℕ) (hn : n < cfg0.N) (i : S3328x1024.Idx) (hs : s < 4) (h : n = 4 * ((i 0).val / 1664) + s) :
    blockAdd m c n hn (loc2Of i) = ∑ k : Fin 2048, term m c i ⟨s * 2048 + k.val, by omega⟩ := by
  unfold blockAdd addend term
  refine Finset.sum_congr rfl fun k _ => ?_
  have h8 : n < 8 := lt_of_lt_of_eq hn N_0
  have e0 : n % 4 = s := by omega
  have e1 : n / 4 = (i 0).val / 1664 := by omega
  have h1 : (i 1).val < 1024 := (i 1).isLt
  refine congrArg₂ (fun a b : EReal => a * b) ((iblk0_apply m c ⟨n, hn⟩ k (loc2Of i 0)).trans (congrArg _ (ix2_eq ?_ ?_)))
    ((iblk1_apply m c ⟨n, hn⟩ k (loc2Of i 1)).trans (congrArg _ (ix2_eq ?_ ?_)))
  · show n % 4 * 2048 + k.val = s * 2048 + k.val
    rw [e0]
  · show n / 4 * 1664 + (i 0).val % 1664 = (i 0).val
    rw [e1]; omega
  · show n % 4 * 2048 + k.val = s * 2048 + k.val
    rw [e0]
  · show (i 1).val % 1024 = (i 1).val
    omega

theorem stAt0_snd (c : Dev nD) (n : ℕ) (hn : n < cfg0.N) (acc : Vec Ideal S1664x1024 .bf16 × Vec Ideal S1664x1024 .f32) (y : S1664x1024.Idx) :
    (stAt0 m c n hn acc).2 y = (if n % 4 = 0 then (0 : EReal) else acc.2 y) + blockAdd m c n hn y := by
  have hc := coord2 ⟨n, hn⟩
  by_cases h0 : n % 4 = 3
  · rw [stAt0_B m c ⟨n, hn⟩ acc h0]
    dsimp only
    rw [sout0_B_apply]
    unfold stepAt blockAdd
    rw [hc]
  · rw [stAt0_A m c ⟨n, hn⟩ acc h0]
    dsimp only
    rw [sout0_A_apply]
    unfold stepAt blockAdd
    rw [hc]

theorem stAt0_fst (c : Dev nD) (n : ℕ) (hn : n < cfg0.N) (acc : Vec Ideal S1664x1024 .bf16 × Vec Ideal S1664x1024 .f32) (y : S1664x1024.Idx)
    (h0 : n % 4 = 3) : (stAt0 m c n hn acc).1 y = acc.2 y + blockAdd m c n hn y := by
  have hc := coord2 ⟨n, hn⟩
  rw [stAt0_B m c ⟨n, hn⟩ acc h0]
  dsimp only
  rw [out0_B_apply]
  unfold stepAt blockAdd
  rw [hc, if_neg (by show ¬ n % 4 = 0; omega)]

/-- A sum begins at the first block of tokens. -/
theorem fold_first (c : Dev nD) (n : ℕ) (hn : n < cfg0.N) (h : n % 4 = 0) (y : S1664x1024.Idx) :
    (outsAt0 m c n hn).2 y = blockAdd m c n hn y := by
  match n, hn, h with
  | 0, hn, h => rw [outsAt0_zero, stAt0_snd, if_pos h, zero_add]
  | n + 1, hn, h => rw [outsAt0_succ, stAt0_snd, if_pos h, zero_add]

theorem fold_next (c : Dev nD) (n : ℕ) (hn : n + 1 < cfg0.N) (h : ¬ (n + 1) % 4 = 0) (y : S1664x1024.Idx) :
    (outsAt0 m c (n + 1) hn).2 y = (outsAt0 m c n (Nat.lt_of_succ_lt hn)).2 y + blockAdd m c (n + 1) hn y := by
  rw [outsAt0_succ, stAt0_snd, if_neg h]

theorem fold_last (c : Dev nD) (n : ℕ) (hn : n + 1 < cfg0.N) (h : (n + 1) % 4 = 3) (y : S1664x1024.Idx) :
    (outsAt0 m c (n + 1) hn).1 y = (outsAt0 m c n (Nat.lt_of_succ_lt hn)).2 y + blockAdd m c (n + 1) hn y := by
  rw [outsAt0_succ, stAt0_fst m c _ _ _ _ h]

/-- The array the kernel leaves: at each place, the product summed over all the tokens. -/
theorem G2_apply (c : Dev nD) (i : S3328x1024.Idx) : outArr m c i = ∑ k : Fin 8192, term m c i k := by
  have hi0 : (i 0).val < 3328 := (i 0).isLt
  have hi1 : (i 1).val < 1024 := (i 1).isLt
  have hN : cfg0.N = 8 := N_0
  have hp : pt2Of i = 4 * ((i 0).val / 1664) + 2 + 1 := by unfold pt2Of run2Of; omega
  have hlt : 4 * ((i 0).val / 1664) + 2 + 1 < cfg0.N := by omega
  have hG : outArr m c i = (outsAt0 m c (4 * ((i 0).val / 1664) + 2 + 1) hlt).1 (loc2Of i) := by
    unfold outArr G2
    rw [dif_pos (by omega), ← outsAt0_sweep m c (pt2Of i) (by omega)]
    simp only [hp]
  rw [hG, fold_last m c _ _ (by omega), fold_next m c _ _ (by omega), fold_next m c _ _ (by omega), fold_first m c _ _ (by omega),
    blockAdd_eq m c _ 0 _ i (by omega) (by omega), blockAdd_eq m c _ 1 _ i (by omega) (by omega),
    blockAdd_eq m c _ 2 _ i (by omega) (by omega), blockAdd_eq m c _ 3 _ i (by omega) (by omega),
    Fin.sum_univ_tiles 4 2048 rfl, Fin.sum_univ_four]
  rfl

end Cert.Kernel11Ideal.Wm

end
-- ==== Proof.Wm.lean ====
/- The claims of the weight-gradient product of the mixing layer. -/
module

public import proofs.«01_k».proof.Defs
public import proofs.«01_k».proof.Proof.Gen.Kernel11
public import proofs.«01_k».proof.Proof.Gen.Reference11Ideal.Run
public import proofs.«01_k».proof.Proof.Gen.Reference11Ideal.Read
public import proofs.«01_k».proof.Proof.WmAlg

@[expose] public section

noncomputable section

namespace Cert.Proof

open Idealize.ShloMosaic Idealize.ShloMosaic.TcCoe Idealize.SL.Sem

theorem frame_kernel11Ideal : Cert.quiescent_Kernel11Ideal := fun m ρ _ => Cert.Kernel11Ideal.Wm.frame (F := Ideal) m ρ

/-- At bit patterns the two printings are one program. -/
theorem wm_defs_eq : Cert.Kernel11.defs (F := Bits) = Cert.Kernel11Ideal.defs (F := Bits) := by
  have h : Cert.Kernel11.defs₀ (F := Bits) = Cert.Kernel11Ideal.defs₀ (F := Bits) := by
    unfold Cert.Kernel11.defs₀
    refine congrArg Defs.onTc (funext fun k => ?_)
    match k with
    | 0 => rfl
  unfold Cert.Kernel11.defs
  rw [h]
  rfl

theorem frame_kernel11 : Cert.quiescent_Kernel11 := by
  intro m ρ _
  rw [wm_defs_eq]
  exact Cert.Kernel11Ideal.Wm.frame (F := Bits) m ρ

theorem frame_reference11Ideal : Cert.quiescent_Reference11Ideal := fun m ρ _ =>
  (θ_run Cert.Reference11Ideal.defs _ _).mono (fun r h => ⟨fun c => (h c).2, Idealize.ShloMosaic.sem_eq_zero_of_no_sems (by decide) r.2⟩) (Cert.Reference11Ideal.Value.run (F := Ideal) m ρ)

/-- The reference's weight gradient at a place: the product of the two arrays summed over the tokens. -/
theorem reference11_apply (x0 : (⟨Cert.Reference11Ideal.S8192x3328, .bf16⟩ : BufTy).Contents (Elt Ideal)) (x1 : (⟨Cert.Reference11Ideal.S8192x1024, .bf16⟩ : BufTy).Contents (Elt Ideal))
    (i : Cert.Reference11Ideal.S3328x1024.Idx) :
    (Cert.Reference11Ideal.Read.val_main_v7 (F := Ideal) x0 x1 i : EReal)
      = ∑ k : Fin 8192, (x0 : Cert.Reference11Ideal.S8192x3328.Idx → EReal) (ix2 k (i 0)) * (x1 : Cert.Reference11Ideal.S8192x1024.Idx → EReal) (ix2 k (i 1)) := by
  rw [Cert.Reference11Ideal.Read.val_main_v7_apply, Cert.Reference11Ideal.Read.val_main_v6_apply, Cert.Reference11Ideal.Read.val_main_v5_apply,
    Cert.Reference11Ideal.Read.val_main_v4_apply]
  refine Finset.sum_congr rfl fun k _ => ?_
  have e0 : Cert.Reference11Ideal.Read.lidx_main_v4 (Cert.Reference11Ideal.Read.idx_main_v5 (Cert.Reference11Ideal.Read.idx_main_v6 i)) k = ix2 k (i 0) := by
    funext a
    match a with
    | ⟨0, _⟩ => rfl
    | ⟨1, _⟩ => rfl
  have e1 : Cert.Reference11Ideal.Read.ridx_main_v4 (Cert.Reference11Ideal.Read.idx_main_v5 (Cert.Reference11Ideal.Read.idx_main_v6 i)) k = ix2 k (i 1) := by
    funext a
    match a with
    | ⟨0, _⟩ => rfl
    | ⟨1, _⟩ => rfl
  rw [Cert.Reference11Ideal.Read.val_main_v3_apply, Cert.Reference11Ideal.Read.val_main_v1_apply, e0, e1]
  rfl

theorem algebraic11 : Cert.algebraic_Kernel11Ideal_Reference11Ideal := by
  intro m g m' g' _ h
  refine ⟨fun c => Cert.Kernel11Ideal.Wm.G2 m c, Cert.Kernel11Ideal.Wm.run (F := Ideal) m g, ?_⟩
  refine (θ_run Cert.Reference11Ideal.defs _ _).mono (fun r hr c => ⟨(hr c).1.trans ?_, (hr c).2⟩) (Cert.Reference11Ideal.Value.run (F := Ideal) m' g')
  refine (Cert.Reference11Ideal.Read.val_main_v7_eq _ _).trans ?_
  rw [(h c).1, (h c).2]
  funext i
  exact (reference11_apply _ _ i).trans (Cert.Kernel11Ideal.Wm.G2_apply m c i).symm

end Cert.Proof

end
-- ==== Proof.Mf.lean ====
/- The projections of the mixing layer's input. -/
module

public import proofs.«01_k».proof.Proof.AdSpec
public import proofs.«01_k».proof.Proof.FfSpec
public import proofs.«01_k».proof.Defs
public import proofs.«01_k».proof.Proof.Gen.Kernel12
public import proofs.«01_k».proof.Proof.Gen.Kernel12Ideal.Frame
public import proofs.«01_k».proof.Proof.Gen.Reference12Ideal.Run
public import proofs.«01_k».proof.Proof.Gen.Reference12Ideal.Read

@[expose] public section

set_option maxRecDepth 16384

noncomputable section

namespace Cert.MfSpec

open Idealize.ShloMosaic

/-- A row, normalised and weighted, times a row of a matrix. -/
def prod {P N : ℕ} (x : (⟨2, ![P, 1024]⟩ : Shape).Idx → EReal) (nw : (⟨2, ![1, 1024]⟩ : Shape).Idx → EReal)
    (w : (⟨2, ![N, 1024]⟩ : Shape).Idx → EReal) (i : (⟨2, ![P, N]⟩ : Shape).Idx) : EReal :=
  FfSpec.pr (FfSpec.hn (fun k => x (ix2 (i 0) k)) (fun k => nw (ix2 0 k))) (fun k => w (ix2 (i 1) k))

theorem prod_congr {P Q N : ℕ} {x : (⟨2, ![P, 1024]⟩ : Shape).Idx → EReal} {x' : (⟨2, ![Q, 1024]⟩ : Shape).Idx → EReal}
    {nw nw' : (⟨2, ![1, 1024]⟩ : Shape).Idx → EReal} {w w' : (⟨2, ![N, 1024]⟩ : Shape).Idx → EReal}
    (i : (⟨2, ![P, N]⟩ : Shape).Idx) (i' : (⟨2, ![Q, N]⟩ : Shape).Idx)
    (hx : ∀ k, x (ix2 (i 0) k) = x' (ix2 (i' 0) k)) (hn : nw = nw') (hw : w = w') (h1 : (i 1 : Fin N) = i' 1) :
    prod x nw w i = prod x' nw' w' i' := by
  subst hn hw
  unfold prod
  rw [show (fun k => x (ix2 (i 0) k)) = fun k => x' (ix2 (i' 0) k) from funext hx, show (i 1 : Fin N) = i' 1 from h1]

/-- An index of a matrix is the pair of its coordinates. -/
theorem pair {A B : ℕ} (i : (⟨2, ![A, B]⟩ : Shape).Idx) : i = ix2 (i 0) (i 1) := by
  funext a
  match a with
  | ⟨0, _⟩ => rfl
  | ⟨1, _⟩ => rfl

theorem mul {a b p q : EReal} (ha : a = p) (hb : b = q) : a * b = p * q := by rw [ha, hb]
theorem quo {a b p q : EReal} (ha : a = p) (hb : b = q) : Ideal.div a b = Ideal.div p q := by rw [ha, hb]

end Cert.MfSpec

namespace Cert.Kernel12Ideal.Mf

open Cert.Kernel12Ideal Cert.Kernel12Ideal.Gen
open Idealize.ShloMosaic Idealize.ShloMosaic.TcCoe Idealize.ShloMosaic.Tactic
open Idealize.ShloMosaic.Pipeline (Dat Cfg Window)
open Cert.AdSpec Cert.MfSpec
open scoped BigOperators

/-- A column broadcast along the rows, at an index. -/
theorem bcCol (v : FVec Ideal S512x1 .f32) (h) (p : Fin 512) (k : Fin 1024) :
    broadcastTo S512x1024 v h (ix2 p k) = v (ix2 p 0) := by
  refine congrArg v (funext fun a => ?_)
  match a with
  | ⟨0, _⟩ => rfl
  | ⟨1, _⟩ => rfl

/-- A row broadcast along the columns, at an index. -/
theorem bcRow (v : FVec Ideal S1x1024 .f32) (h) (p : Fin 512) (k : Fin 1024) :
    broadcastTo S512x1024 v h (ix2 p k) = v (ix2 0 k) := by
  refine congrArg v (funext fun a => ?_)
  match a with
  | ⟨0, _⟩ => rfl
  | ⟨1, _⟩ => rfl

section body
variable (x0 : Vec Ideal S512x1024 .f32) (x1 : Vec Ideal S1x1024 .f32) (x2 x3 : Vec Ideal S512x1024 .bf16) (x4 : Vec Ideal S1536x1024 .bf16) (x5 : Vec Ideal S512x1024 .bf16)
  (x6 x7 : Vec Ideal S128x1024 .bf16)

theorem pay_3 (p : Fin 512) (k : Fin 1024) :
    (k0_pay3 x0 x1 (ix2 p k) : EReal) = FfSpec.hn (fun k => x0 (ix2 p k)) (fun k => x1 (ix2 0 k)) k := by
  unfold k0_pay3
  simp only [↓bcCol, ↓bcRow, pointwise]
  rfl

theorem pay_4 (p : Fin 512) (n : Fin 512) : (k0_pay4 x0 x1 x2 (ix2 p n) : EReal) = prod x0 x1 x2 (ix2 p n : S512x512.Idx) := by
  unfold k0_pay4
  simp only [pointwise]
  simp only [pay_3, zero_add]
  rfl

theorem pay_5 (p : Fin 512) (n : Fin 512) : (k0_pay5 x0 x1 x3 (ix2 p n) : EReal) = prod x0 x1 x3 (ix2 p n : S512x512.Idx) := by
  unfold k0_pay5
  simp only [pointwise]
  simp only [pay_3, zero_add]
  rfl

theorem pay_6 (p : Fin 512) (n : Fin 1536) : (k0_pay6 x0 x1 x4 (ix2 p n) : EReal) = prod x0 x1 x4 (ix2 p n : S512x1536.Idx) := by
  unfold k0_pay6
  simp only [pointwise]
  simp only [pay_3, zero_add]
  rfl

theorem pay_7 (p : Fin 512) (n : Fin 512) : (k0_pay7 x0 x1 x5 (ix2 p n) : EReal) = prod x0 x1 x5 (ix2 p n : S512x512.Idx) := by
  unfold k0_pay7
  simp only [pointwise]
  simp only [pay_3, zero_add]
  rfl

theorem pay_1 (p : Fin 512) (n : Fin 128) : (k0_pay1 (k0_pay3 x0 x1) x6 (ix2 p n) : EReal) = prod x0 x1 x6 (ix2 p n : S512x128.Idx) := by
  unfold k0_pay1
  simp only [pointwise]
  simp only [pay_3, zero_add]
  rfl

theorem pay_2 (p : Fin 512) (n : Fin 128) : (k0_pay2 (k0_pay3 x0 x1) x7 (ix2 p n) : EReal) = prod x0 x1 x7 (ix2 p n : S512x128.Idx) := by
  unfold k0_pay2
  simp only [pointwise]
  simp only [pay_3, zero_add]
  rfl

theorem out_8 (y : S512x512.Idx) : (out0_8 x0 x1 x2 x3 x4 x5 x6 x7 y : EReal) = prod x0 x1 x2 y := by
  unfold out0_8
  rw [canon_whole]
  have h0 : View.ld x0 r0_0 = x0 := ld_whole x0 _
  have h1 : View.ld x1 r0_1 = x1 := ld_whole x1 _
  have hw : View.ld x2 r0_0 = x2 := ld_whole x2 _
  rw [h0, h1, hw]
  rw [pair y]
  exact pay_4 x0 x1 x2 (y 0) (y 1)

theorem out_9 (y : S512x512.Idx) : (out0_9 x0 x1 x2 x3 x4 x5 x6 x7 y : EReal) = prod x0 x1 x3 y := by
  unfold out0_9
  rw [canon_whole]
  have h0 : View.ld x0 r0_0 = x0 := ld_whole x0 _
  have h1 : View.ld x1 r0_1 = x1 := ld_whole x1 _
  have hw : View.ld x3 r0_0 = x3 := ld_whole x3 _
  rw [h0, h1, hw]
  rw [pair y]
  exact pay_5 x0 x1 x3 (y 0) (y 1)

theorem out_10 (y : S512x1536.Idx) : (out0_10 x0 x1 x2 x3 x4 x5 x6 x7 y : EReal) = prod x0 x1 x4 y := by
  unfold out0_10
  rw [canon_whole]
  have h0 : View.ld x0 r0_0 = x0 := ld_whole x0 _
  have h1 : View.ld x1 r0_1 = x1 := ld_whole x1 _
  have hw : View.ld x4 r0_3 = x4 := ld_whole x4 _
  rw [h0, h1, hw]
  rw [pair y]
  exact pay_6 x0 x1 x4 (y 0) (y 1)

theorem out_11 (y : S512x512.Idx) : (out0_11 x0 x1 x2 x3 x4 x5 x6 x7 y : EReal) = prod x0 x1 x5 y := by
  unfold out0_11
  rw [canon_whole]
  have h0 : View.ld x0 r0_0 = x0 := ld_whole x0 _
  have h1 : View.ld x1 r0_1 = x1 := ld_whole x1 _
  have hw : View.ld x5 r0_0 = x5 := ld_whole x5 _
  rw [h0, h1, hw]
  rw [pair y]
  exact pay_7 x0 x1 x5 (y 0) (y 1)

theorem out_12 (y : S512x128.Idx) : (out0_12 x0 x1 x2 x3 x4 x5 x6 x7 y : EReal) = prod x0 x1 x6 y := by
  unfold out0_12
  rw [canon_whole]
  unfold k0_pay8
  have h0 : View.ld x0 r0_0 = x0 := ld_whole x0 _
  have h1 : View.ld x1 r0_1 = x1 := ld_whole x1 _
  have hw : View.ld x6 r0_5 = x6 := ld_whole x6 _
  rw [h0, h1, hw]
  rw [pair y]
  exact pay_1 x0 x1 x6 (y 0) (y 1)

theorem out_13 (y : S512x128.Idx) : (out0_13 x0 x1 x2 x3 x4 x5 x6 x7 y : EReal) = prod x0 x1 x7 y := by
  unfold out0_13
  rw [canon_whole]
  unfold k0_pay8
  have h0 : View.ld x0 r0_0 = x0 := ld_whole x0 _
  have h1 : View.ld x1 r0_1 = x1 := ld_whole x1 _
  have hw : View.ld x7 r0_5 = x7 := ld_whole x7 _
  rw [h0, h1, hw]
  rw [pair y]
  exact pay_2 x0 x1 x7 (y 0) (y 1)

end body

variable (m : (ℓ : Loc nD τ sig) → Buf (Elt Ideal) ℓ) (c : Dev nD)
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem index10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem index11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem index12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem index13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-- The index of a whole array of 512 columns under an index of point `t`'s block. -/
def at512 (t : Fin cfg0.N) (y : S512x512.Idx) : S8192x512.Idx :=
  ix2 ⟨t.val * 512 + (y 0).val, by
    have h : t.val < 16 := lt_of_lt_of_eq t.isLt N_0
    have hy : (y 0).val < 512 := (y 0).isLt
    omega⟩ ⟨(y 1).val, (y 1).isLt⟩

/-- The index of a whole array of 1536 columns under an index of point `t`'s block. -/
def at1536 (t : Fin cfg0.N) (y : S512x1536.Idx) : S8192x1536.Idx :=
  ix2 ⟨t.val * 512 + (y 0).val, by
    have h : t.val < 16 := lt_of_lt_of_eq t.isLt N_0
    have hy : (y 0).val < 512 := (y 0).isLt
    omega⟩ ⟨(y 1).val, (y 1).isLt⟩

/-- The index of a whole array of 128 columns under an index of point `t`'s block. -/
def at128 (t : Fin cfg0.N) (y : S512x128.Idx) : S8192x128.Idx :=
  ix2 ⟨t.val * 512 + (y 0).val, by
    have h : t.val < 16 := lt_of_lt_of_eq t.isLt N_0
    have hy : (y 0).val < 512 := (y 0).isLt
    omega⟩ ⟨(y 1).val, (y 1).isLt⟩

theorem blk0 (t : Fin cfg0.N) (p : Fin 512) (k : Fin 1024) (q : Fin 8192) (hq : q.val = t.val * 512 + p.val) :
    ((iblk m c 0 t : S512x1024.Idx → EReal) (ix2 p k)) = (m ((c : Thread nD τ).loc main_arg0) : S8192x1024.Idx → EReal) (ix2 q k) := by
  obtain ⟨e0, e1⟩ := index0 t
  refine congrArg (m ((c : Thread nD τ).loc main_arg0) : S8192x1024.Idx → EReal) ?_
  funext a
  apply Fin.ext
  match a with
  | ⟨0, _⟩ => show win0_0.index t (0 : Fin 2) * 512 + 1 * p.val = q.val; omega
  | ⟨1, _⟩ => show win0_0.index t (1 : Fin 2) * 1024 + 1 * k.val = k.val; omega

theorem blk1 (t : Fin cfg0.N) : (iblk m c 1 t : S1x1024.Idx → EReal) = (m ((c : Thread nD τ).loc main_arg1) : S1x1024.Idx → EReal) := by
  obtain ⟨e0, e1⟩ := index1 t
  funext y
  refine congrArg (m ((c : Thread nD τ).loc main_arg1) : S1x1024.Idx → EReal) ?_
  funext a
  apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega

theorem blk2 (t : Fin cfg0.N) : (iblk m c 2 t : S512x1024.Idx → EReal) = (m ((c : Thread nD τ).loc main_arg2) : S512x1024.Idx → EReal) := by
  obtain ⟨e0, e1⟩ := index2 t
  funext y
  refine congrArg (m ((c : Thread nD τ).loc main_arg2) : S512x1024.Idx → EReal) ?_
  funext a
  apply Fin.ext
  match a with
  | ⟨0, _⟩ => show win0_2.index t (0 : Fin 2) * 512 + 1 * (y 0).val = (y 0).val; omega
  | ⟨1, _⟩ => show win0_2.index t (1 : Fin 2) * 1024 + 1 * (y 1).val = (y 1).val; omega

theorem blk3 (t : Fin cfg0.N) : (iblk m c 3 t : S512x1024.Idx → EReal) = (m ((c : Thread nD τ).loc main_arg3) : S512x1024.Idx → EReal) := by
  obtain ⟨e0, e1⟩ := index3 t
  funext y
  refine congrArg (m ((c : Thread nD τ).loc main_arg3) : S512x1024.Idx → EReal) ?_
  funext a
  apply Fin.ext
  match a with
  | ⟨0, _⟩ => show win0_3.index t (0 : Fin 2) * 512 + 1 * (y 0).val = (y 0).val; omega
  | ⟨1, _⟩ => show win0_3.index t (1 : Fin 2) * 1024 + 1 * (y 1).val = (y 1).val; omega

theorem blk4 (t : Fin cfg0.N) : (iblk m c 4 t : S1536x1024.Idx → EReal) = (m ((c : Thread nD τ).loc main_arg4) : S1536x1024.Idx → EReal) := by
  obtain ⟨e0, e1⟩ := index4 t
  funext y
  refine congrArg (m ((c : Thread nD τ).loc main_arg4) : S1536x1024.Idx → EReal) ?_
  funext a
  apply Fin.ext
  match a with
  | ⟨0, _⟩ => show win0_4.index t (0 : Fin 2) * 1536 + 1 * (y 0).val = (y 0).val; omega
  | ⟨1, _⟩ => show win0_4.index t (1 : Fin 2) * 1024 + 1 * (y 1).val = (y 1).val; omega

theorem blk5 (t : Fin cfg0.N) : (iblk m c 5 t : S512x1024.Idx → EReal) = (m ((c : Thread nD τ).loc main_arg5) : S512x1024.Idx → EReal) := by
  obtain ⟨e0, e1⟩ := index5 t
  funext y
  refine congrArg (m ((c : Thread nD τ).loc main_arg5) : S512x1024.Idx → EReal) ?_
  funext a
  apply Fin.ext
  match a with
  | ⟨0, _⟩ => show win0_5.index t (0 : Fin 2) * 512 + 1 * (y 0).val = (y 0).val; omega
  | ⟨1, _⟩ => show win0_5.index t (1 : Fin 2) * 1024 + 1 * (y 1).val = (y 1).val; omega

theorem blk6 (t : Fin cfg0.N) : (iblk m c 6 t : S128x1024.Idx → EReal) = (m ((c : Thread nD τ).loc main_arg6) : S128x1024.Idx → EReal) := by
  obtain ⟨e0, e1⟩ := index6 t
  funext y
  refine congrArg (m ((c : Thread nD τ).loc main_arg6) : S128x1024.Idx → EReal) ?_
  funext a
  apply Fin.ext
  match a with
  | ⟨0, _⟩ => show win0_6.index t (0 : Fin 2) * 128 + 1 * (y 0).val = (y 0).val; omega
  | ⟨1, _⟩ => show win0_6.index t (1 : Fin 2) * 1024 + 1 * (y 1).val = (y 1).val; omega

theorem blk7 (t : Fin cfg0.N) : (iblk m c 7 t : S128x1024.Idx → EReal) = (m ((c : Thread nD τ).loc main_arg7) : S128x1024.Idx → EReal) := by
  obtain ⟨e0, e1⟩ := index7 t
  funext y
  refine congrArg (m ((c : Thread nD τ).loc main_arg7) : S128x1024.Idx → EReal) ?_
  funext a
  apply Fin.ext
  match a with
  | ⟨0, _⟩ => show win0_7.index t (0 : Fin 2) * 128 + 1 * (y 0).val = (y 0).val; omega
  | ⟨1, _⟩ => show win0_7.index t (1 : Fin 2) * 1024 + 1 * (y 1).val = (y 1).val; omega

/-- The value of output 8. -/
def val8 : S8192x512.Idx → EReal :=
  prod (m ((c : Thread nD τ).loc main_arg0) : S8192x1024.Idx → EReal) (m ((c : Thread nD τ).loc main_arg1) : S1x1024.Idx → EReal)
    (m ((c : Thread nD τ).loc main_arg2) : S512x1024.Idx → EReal)

/-- The array of output 8 after the run. -/
theorem final8 : ((dats m 0 c).arrAt 8 cfg0.N : S8192x512.Idx → EReal) = val8 m c := by
  refine (dats m 0 c).arrAt_eq_of_cover 8 _ (fun t hf => ?_) (fun i => ?_)
  · obtain ⟨e0, e1⟩ := index8 t
    show (cfg0.win 8).cut (grid0.coords t) ((dats m 0 c).after 8 t) = _
    rw [after0_8]
    funext y
    have hb : ((cfg0.win 8).blk t).view.emb y = at512 t y := by
      funext a
      apply Fin.ext
      match a with
      | ⟨0, _⟩ => show win0_8.index t (0 : Fin 2) * 512 + 1 * (y 0).val = t.val * 512 + (y 0).val; omega
      | ⟨1, _⟩ => show win0_8.index t (1 : Fin 2) * 512 + 1 * (y 1).val = (y 1).val; omega
    have hx : ((cfg0.win 8).xinj (grid0.coords t) y : S512x512.Idx) = y := by
      funext a
      apply Fin.ext
      match a with
      | ⟨0, _⟩ => rfl
      | ⟨1, _⟩ => rfl
    show (out0_8 (iblk m c 0 t) (iblk m c 1 t) (iblk m c 2 t) (iblk m c 3 t) (iblk m c 4 t) (iblk m c 5 t) (iblk m c 6 t) (iblk m c 7 t) ((cfg0.win 8).xinj (grid0.coords t) y) : EReal)
      = val8 m c (((cfg0.win 8).blk t).view.emb y)
    rw [hb, hx]
    exact (out_8 (iblk m c 0 t) (iblk m c 1 t) (iblk m c 2 t) (iblk m c 3 t) (iblk m c 4 t) (iblk m c 5 t) (iblk m c 6 t) (iblk m c 7 t) y).trans
      (prod_congr y (at512 t y) (fun k => blk0 m c t (y 0) k _ rfl) (blk1 m c t) (blk2 m c t) rfl)
  · have h0 : (i 0).val < 8192 := (i 0).isLt
    have h1 : (i 1).val < 512 := (i 1).isLt
    have hN : (i 0).val / 512 < cfg0.N := lt_of_lt_of_eq (by omega) N_0.symm
    obtain ⟨e0, e1⟩ := index8 ⟨(i 0).val / 512, hN⟩
    refine ⟨⟨(i 0).val / 512, hN⟩, flush0_8 _, ?_⟩
    show i ∈ ((View.whole main_v0_0).slice (win0_8.rect ⟨(i 0).val / 512, hN⟩)).set
    rw [View.set_slice_whole, Rect.mem_set_unit]
    intro a
    match a with
    | ⟨0, _⟩ =>
      show win0_8.index ⟨(i 0).val / 512, hN⟩ (0 : Fin 2) * 512 ≤ (i 0).val
        ∧ (i 0).val < win0_8.index ⟨(i 0).val / 512, hN⟩ (0 : Fin 2) * 512 + 512
      rw [e0]; dsimp only; omega
    | ⟨1, _⟩ =>
      show win0_8.index ⟨(i 0).val / 512, hN⟩ (1 : Fin 2) * 512 ≤ (i 1).val
        ∧ (i 1).val < win0_8.index ⟨(i 0).val / 512, hN⟩ (1 : Fin 2) * 512 + 512
      rw [e1]; omega

/-- The value of output 9. -/
def val9 : S8192x512.Idx → EReal :=
  prod (m ((c : Thread nD τ).loc main_arg0) : S8192x1024.Idx → EReal) (m ((c : Thread nD τ).loc main_arg1) : S1x1024.Idx → EReal)
    (m ((c : Thread nD τ).loc main_arg3) : S512x1024.Idx → EReal)

/-- The array of output 9 after the run. -/
theorem final9 : ((dats m 0 c).arrAt 9 cfg0.N : S8192x512.Idx → EReal) = val9 m c := by
  refine (dats m 0 c).arrAt_eq_of_cover 9 _ (fun t hf => ?_) (fun i => ?_)
  · obtain ⟨e0, e1⟩ := index9 t
    show (cfg0.win 9).cut (grid0.coords t) ((dats m 0 c).after 9 t) = _
    rw [after0_9]
    funext y
    have hb : ((cfg0.win 9).blk t).view.emb y = at512 t y := by
      funext a
      apply Fin.ext
      match a with
      | ⟨0, _⟩ => show win0_9.index t (0 : Fin 2) * 512 + 1 * (y 0).val = t.val * 512 + (y 0).val; omega
      | ⟨1, _⟩ => show win0_9.index t (1 : Fin 2) * 512 + 1 * (y 1).val = (y 1).val; omega
    have hx : ((cfg0.win 9).xinj (grid0.coords t) y : S512x512.Idx) = y := by
      funext a
      apply Fin.ext
      match a with
      | ⟨0, _⟩ => rfl
      | ⟨1, _⟩ => rfl
    show (out0_9 (iblk m c 0 t) (iblk m c 1 t) (iblk m c 2 t) (iblk m c 3 t) (iblk m c 4 t) (iblk m c 5 t) (iblk m c 6 t) (iblk m c 7 t) ((cfg0.win 9).xinj (grid0.coords t) y) : EReal)
      = val9 m c (((cfg0.win 9).blk t).view.emb y)
    rw [hb, hx]
    exact (out_9 (iblk m c 0 t) (iblk m c 1 t) (iblk m c 2 t) (iblk m c 3 t) (iblk m c 4 t) (iblk m c 5 t) (iblk m c 6 t) (iblk m c 7 t) y).trans
      (prod_congr y (at512 t y) (fun k => blk0 m c t (y 0) k _ rfl) (blk1 m c t) (blk3 m c t) rfl)
  · have h0 : (i 0).val < 8192 := (i 0).isLt
    have h1 : (i 1).val < 512 := (i 1).isLt
    have hN : (i 0).val / 512 < cfg0.N := lt_of_lt_of_eq (by omega) N_0.symm
    obtain ⟨e0, e1⟩ := index9 ⟨(i 0).val / 512, hN⟩
    refine ⟨⟨(i 0).val / 512, hN⟩, flush0_9 _, ?_⟩
    show i ∈ ((View.whole main_v0_1).slice (win0_9.rect ⟨(i 0).val / 512, hN⟩)).set
    rw [View.set_slice_whole, Rect.mem_set_unit]
    intro a
    match a with
    | ⟨0, _⟩ =>
      show win0_9.index ⟨(i 0).val / 512, hN⟩ (0 : Fin 2) * 512 ≤ (i 0).val
        ∧ (i 0).val < win0_9.index ⟨(i 0).val / 512, hN⟩ (0 : Fin 2) * 512 + 512
      rw [e0]; dsimp only; omega
    | ⟨1, _⟩ =>
      show win0_9.index ⟨(i 0).val / 512, hN⟩ (1 : Fin 2) * 512 ≤ (i 1).val
        ∧ (i 1).val < win0_9.index ⟨(i 0).val / 512, hN⟩ (1 : Fin 2) * 512 + 512
      rw [e1]; omega

/-- The value of output 10. -/
def val10 : S8192x1536.Idx → EReal :=
  prod (m ((c : Thread nD τ).loc main_arg0) : S8192x1024.Idx → EReal) (m ((c : Thread nD τ).loc main_arg1) : S1x1024.Idx → EReal)
    (m ((c : Thread nD τ).loc main_arg4) : S1536x1024.Idx → EReal)

/-- The array of output 10 after the run. -/
theorem final10 : ((dats m 0 c).arrAt 10 cfg0.N : S8192x1536.Idx → EReal) = val10 m c := by
  refine (dats m 0 c).arrAt_eq_of_cover 10 _ (fun t hf => ?_) (fun i => ?_)
  · obtain ⟨e0, e1⟩ := index10 t
    show (cfg0.win 10).cut (grid0.coords t) ((dats m 0 c).after 10 t) = _
    rw [after0_10]
    funext y
    have hb : ((cfg0.win 10).blk t).view.emb y = at1536 t y := by
      funext a
      apply Fin.ext
      match a with
      | ⟨0, _⟩ => show win0_10.index t (0 : Fin 2) * 512 + 1 * (y 0).val = t.val * 512 + (y 0).val; omega
      | ⟨1, _⟩ => show win0_10.index t (1 : Fin 2) * 1536 + 1 * (y 1).val = (y 1).val; omega
    have hx : ((cfg0.win 10).xinj (grid0.coords t) y : S512x1536.Idx) = y := by
      funext a
      apply Fin.ext
      match a with
      | ⟨0, _⟩ => rfl
      | ⟨1, _⟩ => rfl
    show (out0_10 (iblk m c 0 t) (iblk m c 1 t) (iblk m c 2 t) (iblk m c 3 t) (iblk m c 4 t) (iblk m c 5 t) (iblk m c 6 t) (iblk m c 7 t) ((cfg0.win 10).xinj (grid0.coords t) y) : EReal)
      = val10 m c (((cfg0.win 10).blk t).view.emb y)
    rw [hb, hx]
    exact (out_10 (iblk m c 0 t) (iblk m c 1 t) (iblk m c 2 t) (iblk m c 3 t) (iblk m c 4 t) (iblk m c 5 t) (iblk m c 6 t) (iblk m c 7 t) y).trans
      (prod_congr y (at1536 t y) (fun k => blk0 m c t (y 0) k _ rfl) (blk1 m c t) (blk4 m c t) rfl)
  · have h0 : (i 0).val < 8192 := (i 0).isLt
    have h1 : (i 1).val < 1536 := (i 1).isLt
    have hN : (i 0).val / 512 < cfg0.N := lt_of_lt_of_eq (by omega) N_0.symm
    obtain ⟨e0, e1⟩ := index10 ⟨(i 0).val / 512, hN⟩
    refine ⟨⟨(i 0).val / 512, hN⟩, flush0_10 _, ?_⟩
    show i ∈ ((View.whole main_v0_2).slice (win0_10.rect ⟨(i 0).val / 512, hN⟩)).set
    rw [View.set_slice_whole, Rect.mem_set_unit]
    intro a
    match a with
    | ⟨0, _⟩ =>
      show win0_10.index ⟨(i 0).val / 512, hN⟩ (0 : Fin 2) * 512 ≤ (i 0).val
        ∧ (i 0).val < win0_10.index ⟨(i 0).val / 512, hN⟩ (0 : Fin 2) * 512 + 512
      rw [e0]; dsimp only; omega
    | ⟨1, _⟩ =>
      show win0_10.index ⟨(i 0).val / 512, hN⟩ (1 : Fin 2) * 1536 ≤ (i 1).val
        ∧ (i 1).val < win0_10.index ⟨(i 0).val / 512, hN⟩ (1 : Fin 2) * 1536 + 1536
      rw [e1]; omega

/-- The value of output 11. -/
def val11 : S8192x512.Idx → EReal :=
  prod (m ((c : Thread nD τ).loc main_arg0) : S8192x1024.Idx → EReal) (m ((c : Thread nD τ).loc main_arg1) : S1x1024.Idx → EReal)
    (m ((c : Thread nD τ).loc main_arg5) : S512x1024.Idx → EReal)

/-- The array of output 11 after the run. -/
theorem final11 : ((dats m 0 c).arrAt 11 cfg0.N : S8192x512.Idx → EReal) = val11 m c := by
  refine (dats m 0 c).arrAt_eq_of_cover 11 _ (fun t hf => ?_) (fun i => ?_)
  · obtain ⟨e0, e1⟩ := index11 t
    show (cfg0.win 11).cut (grid0.coords t) ((dats m 0 c).after 11 t) = _
    rw [after0_11]
    funext y
    have hb : ((cfg0.win 11).blk t).view.emb y = at512 t y := by
      funext a
      apply Fin.ext
      match a with
      | ⟨0, _⟩ => show win0_11.index t (0 : Fin 2) * 512 + 1 * (y 0).val = t.val * 512 + (y 0).val; omega
      | ⟨1, _⟩ => show win0_11.index t (1 : Fin 2) * 512 + 1 * (y 1).val = (y 1).val; omega
    have hx : ((cfg0.win 11).xinj (grid0.coords t) y : S512x512.Idx) = y := by
      funext a
      apply Fin.ext
      match a with
      | ⟨0, _⟩ => rfl
      | ⟨1, _⟩ => rfl
    show (out0_11 (iblk m c 0 t) (iblk m c 1 t) (iblk m c 2 t) (iblk m c 3 t) (iblk m c 4 t) (iblk m c 5 t) (iblk m c 6 t) (iblk m c 7 t) ((cfg0.win 11).xinj (grid0.coords t) y) : EReal)
      = val11 m c (((cfg0.win 11).blk t).view.emb y)
    rw [hb, hx]
    exact (out_11 (iblk m c 0 t) (iblk m c 1 t) (iblk m c 2 t) (iblk m c 3 t) (iblk m c 4 t) (iblk m c 5 t) (iblk m c 6 t) (iblk m c 7 t) y).trans
      (prod_congr y (at512 t y) (fun k => blk0 m c t (y 0) k _ rfl) (blk1 m c t) (blk5 m c t) rfl)
  · have h0 : (i 0).val < 8192 := (i 0).isLt
    have h1 : (i 1).val < 512 := (i 1).isLt
    have hN : (i 0).val / 512 < cfg0.N := lt_of_lt_of_eq (by omega) N_0.symm
    obtain ⟨e0, e1⟩ := index11 ⟨(i 0).val / 512, hN⟩
    refine ⟨⟨(i 0).val / 512, hN⟩, flush0_11 _, ?_⟩
    show i ∈ ((View.whole main_v0_3).slice (win0_11.rect ⟨(i 0).val / 512, hN⟩)).set
    rw [View.set_slice_whole, Rect.mem_set_unit]
    intro a
    match a with
    | ⟨0, _⟩ =>
      show win0_11.index ⟨(i 0).val / 512, hN⟩ (0 : Fin 2) * 512 ≤ (i 0).val
        ∧ (i 0).val < win0_11.index ⟨(i 0).val / 512, hN⟩ (0 : Fin 2) * 512 + 512
      rw [e0]; dsimp only; omega
    | ⟨1, _⟩ =>
      show win0_11.index ⟨(i 0).val / 512, hN⟩ (1 : Fin 2) * 512 ≤ (i 1).val
        ∧ (i 1).val < win0_11.index ⟨(i 0).val / 512, hN⟩ (1 : Fin 2) * 512 + 512
      rw [e1]; omega

/-- The value of output 12. -/
def val12 : S8192x128.Idx → EReal :=
  prod (m ((c : Thread nD τ).loc main_arg0) : S8192x1024.Idx → EReal) (m ((c : Thread nD τ).loc main_arg1) : S1x1024.Idx → EReal)
    (m ((c : Thread nD τ).loc main_arg6) : S128x1024.Idx → EReal)

/-- The array of output 12 after the run. -/
theorem final12 : ((dats m 0 c).arrAt 12 cfg0.N : S8192x128.Idx → EReal) = val12 m c := by
  refine (dats m 0 c).arrAt_eq_of_cover 12 _ (fun t hf => ?_) (fun i => ?_)
  · obtain ⟨e0, e1⟩ := index12 t
    show (cfg0.win 12).cut (grid0.coords t) ((dats m 0 c).after 12 t) = _
    rw [after0_12]
    funext y
    have hb : ((cfg0.win 12).blk t).view.emb y = at128 t y := by
      funext a
      apply Fin.ext
      match a with
      | ⟨0, _⟩ => show win0_12.index t (0 : Fin 2) * 512 + 1 * (y 0).val = t.val * 512 + (y 0).val; omega
      | ⟨1, _⟩ => show win0_12.index t (1 : Fin 2) * 128 + 1 * (y 1).val = (y 1).val; omega
    have hx : ((cfg0.win 12).xinj (grid0.coords t) y : S512x128.Idx) = y := by
      funext a
      apply Fin.ext
      match a with
      | ⟨0, _⟩ => rfl
      | ⟨1, _⟩ => rfl
    show (out0_12 (iblk m c 0 t) (iblk m c 1 t) (iblk m c 2 t) (iblk m c 3 t) (iblk m c 4 t) (iblk m c 5 t) (iblk m c 6 t) (iblk m c 7 t) ((cfg0.win 12).xinj (grid0.coords t) y) : EReal)
      = val12 m c (((cfg0.win 12).blk t).view.emb y)
    rw [hb, hx]
    exact (out_12 (iblk m c 0 t) (iblk m c 1 t) (iblk m c 2 t) (iblk m c 3 t) (iblk m c 4 t) (iblk m c 5 t) (iblk m c 6 t) (iblk m c 7 t) y).trans
      (prod_congr y (at128 t y) (fun k => blk0 m c t (y 0) k _ rfl) (blk1 m c t) (blk6 m c t) rfl)
  · have h0 : (i 0).val < 8192 := (i 0).isLt
    have h1 : (i 1).val < 128 := (i 1).isLt
    have hN : (i 0).val / 512 < cfg0.N := lt_of_lt_of_eq (by omega) N_0.symm
    obtain ⟨e0, e1⟩ := index12 ⟨(i 0).val / 512, hN⟩
    refine ⟨⟨(i 0).val / 512, hN⟩, flush0_12 _, ?_⟩
    show i ∈ ((View.whole main_v0_4).slice (win0_12.rect ⟨(i 0).val / 512, hN⟩)).set
    rw [View.set_slice_whole, Rect.mem_set_unit]
    intro a
    match a with
    | ⟨0, _⟩ =>
      show win0_12.index ⟨(i 0).val / 512, hN⟩ (0 : Fin 2) * 512 ≤ (i 0).val
        ∧ (i 0).val < win0_12.index ⟨(i 0).val / 512, hN⟩ (0 : Fin 2) * 512 + 512
      rw [e0]; dsimp only; omega
    | ⟨1, _⟩ =>
      show win0_12.index ⟨(i 0).val / 512, hN⟩ (1 : Fin 2) * 128 ≤ (i 1).val
        ∧ (i 1).val < win0_12.index ⟨(i 0).val / 512, hN⟩ (1 : Fin 2) * 128 + 128
      rw [e1]; omega

/-- The value of output 13. -/
def val13 : S8192x128.Idx → EReal :=
  prod (m ((c : Thread nD τ).loc main_arg0) : S8192x1024.Idx → EReal) (m ((c : Thread nD τ).loc main_arg1) : S1x1024.Idx → EReal)
    (m ((c : Thread nD τ).loc main_arg7) : S128x1024.Idx → EReal)

/-- The array of output 13 after the run. -/
theorem final13 : ((dats m 0 c).arrAt 13 cfg0.N : S8192x128.Idx → EReal) = val13 m c := by
  refine (dats m 0 c).arrAt_eq_of_cover 13 _ (fun t hf => ?_) (fun i => ?_)
  · obtain ⟨e0, e1⟩ := index13 t
    show (cfg0.win 13).cut (grid0.coords t) ((dats m 0 c).after 13 t) = _
    rw [after0_13]
    funext y
    have hb : ((cfg0.win 13).blk t).view.emb y = at128 t y := by
      funext a
      apply Fin.ext
      match a with
      | ⟨0, _⟩ => show win0_13.index t (0 : Fin 2) * 512 + 1 * (y 0).val = t.val * 512 + (y 0).val; omega
      | ⟨1, _⟩ => show win0_13.index t (1 : Fin 2) * 128 + 1 * (y 1).val = (y 1).val; omega
    have hx : ((cfg0.win 13).xinj (grid0.coords t) y : S512x128.Idx) = y := by
      funext a
      apply Fin.ext
      match a with
      | ⟨0, _⟩ => rfl
      | ⟨1, _⟩ => rfl
    show (out0_13 (iblk m c 0 t) (iblk m c 1 t) (iblk m c 2 t) (iblk m c 3 t) (iblk m c 4 t) (iblk m c 5 t) (iblk m c 6 t) (iblk m c 7 t) ((cfg0.win 13).xinj (grid0.coords t) y) : EReal)
      = val13 m c (((cfg0.win 13).blk t).view.emb y)
    rw [hb, hx]
    exact (out_13 (iblk m c 0 t) (iblk m c 1 t) (iblk m c 2 t) (iblk m c 3 t) (iblk m c 4 t) (iblk m c 5 t) (iblk m c 6 t) (iblk m c 7 t) y).trans
      (prod_congr y (at128 t y) (fun k => blk0 m c t (y 0) k _ rfl) (blk1 m c t) (blk7 m c t) rfl)
  · have h0 : (i 0).val < 8192 := (i 0).isLt
    have h1 : (i 1).val < 128 := (i 1).isLt
    have hN : (i 0).val / 512 < cfg0.N := lt_of_lt_of_eq (by omega) N_0.symm
    obtain ⟨e0, e1⟩ := index13 ⟨(i 0).val / 512, hN⟩
    refine ⟨⟨(i 0).val / 512, hN⟩, flush0_13 _, ?_⟩
    show i ∈ ((View.whole main_v0_5).slice (win0_13.rect ⟨(i 0).val / 512, hN⟩)).set
    rw [View.set_slice_whole, Rect.mem_set_unit]
    intro a
    match a with
    | ⟨0, _⟩ =>
      show win0_13.index ⟨(i 0).val / 512, hN⟩ (0 : Fin 2) * 512 ≤ (i 0).val
        ∧ (i 0).val < win0_13.index ⟨(i 0).val / 512, hN⟩ (0 : Fin 2) * 512 + 512
      rw [e0]; dsimp only; omega
    | ⟨1, _⟩ =>
      show win0_13.index ⟨(i 0).val / 512, hN⟩ (1 : Fin 2) * 128 ≤ (i 1).val
        ∧ (i 1).val < win0_13.index ⟨(i 0).val / 512, hN⟩ (1 : Fin 2) * 128 + 128
      rw [e1]; omega

end Cert.Kernel12Ideal.Mf

namespace Cert.Reference12Ideal.Mf

open Cert.Reference12Ideal Cert.Reference12Ideal.Gen Cert.Reference12Ideal.Read
open Idealize.ShloMosaic Idealize.ShloMosaic.TcCoe
open Cert.AdSpec Cert.MfSpec
open scoped BigOperators

variable (x0 : (⟨S8192x1024, .f32⟩ : BufTy).Contents (Elt Ideal)) (x1 : (⟨S1x1024, .f32⟩ : BufTy).Contents (Elt Ideal))

theorem r_square (i : S8192x1024.Idx) : (val_main_v0 (F := Ideal) x0 i : EReal) = x0 (ix2 (i 0) (i 1)) * x0 (ix2 (i 0) (i 1)) :=
  (val_main_v0_apply x0 i).trans (mul (congrArg x0 (pair i)) (congrArg x0 (pair i)))

theorem r_sum (i : S8192.Idx) : (val_main_v1 (F := Ideal) x0 i : EReal) = ∑ k : Fin 1024, x0 (ix2 (i 0) k) * x0 (ix2 (i 0) k) :=
  (val_main_v1_apply x0 i).trans ((congrArg (· + _) bits_zero).trans ((zero_add _).trans (Finset.sum_congr rfl fun k _ => r_square x0 _)))

theorem r_mean (i : S8192x1.Idx) : (val_main_v4 (F := Ideal) x0 i : EReal)
    = Ideal.div (∑ k : Fin 1024, x0 (ix2 (i 0) k) * x0 (ix2 (i 0) k)) (Ideal.ofBits .f32 0x44800000#32) :=
  (val_main_v4_apply x0 i).trans (quo ((val_main_v2_apply x0 i).trans (r_sum x0 _)) ((val_main_v3_apply i).trans rfl))

theorem r_scale (i : S8192x1.Idx) : (val_main_v7 (F := Ideal) x0 i : EReal) = FfSpec.rr fun k => x0 (ix2 (i 0) k) :=
  (val_main_v7_apply x0 i).trans (congrArg Ideal.rsqrt
    ((val_main_v6_apply x0 i).trans (add (r_mean x0 i) ((val_main_v5_apply i).trans rfl))))

theorem r_norm (i : S8192x1024.Idx) :
    (val_main_v12 (F := Ideal) x0 x1 i : EReal) = FfSpec.hn (fun k => x0 (ix2 (i 0) k)) (fun k => x1 (ix2 0 k)) (i 1) :=
  (val_main_v12_apply x0 x1 i).trans ((val_main_v11_apply x0 x1 i).trans (mul
    ((val_main_v9_apply x0 i).trans (mul (congrArg x0 (pair i)) ((val_main_v8_apply x0 i).trans (r_scale x0 _))))
    ((val_main_v10_apply x1 i).trans (congrArg x1 (pair _)))))

theorem r_16 (x2 : (⟨S512x1024, .bf16⟩ : BufTy).Contents (Elt Ideal)) (i : S8192x512.Idx) :
    (val_main_v16 (F := Ideal) x0 x1 x2 i : EReal) = prod x0 x1 x2 i :=
  (val_main_v16_apply x0 x1 x2 i).trans (Finset.sum_congr rfl fun k _ => mul
    ((val_main_v15_apply x0 x1 _).trans (r_norm x0 x1 _))
    ((val_main_v14_apply x2 _).trans ((val_main_v13_apply x2 _).trans (congrArg x2 (pair _)))))

theorem r_20 (x3 : (⟨S512x1024, .bf16⟩ : BufTy).Contents (Elt Ideal)) (i : S8192x512.Idx) :
    (val_main_v20 (F := Ideal) x0 x1 x3 i : EReal) = prod x0 x1 x3 i :=
  (val_main_v20_apply x0 x1 x3 i).trans (Finset.sum_congr rfl fun k _ => mul
    ((val_main_v19_apply x0 x1 _).trans (r_norm x0 x1 _))
    ((val_main_v18_apply x3 _).trans ((val_main_v17_apply x3 _).trans (congrArg x3 (pair _)))))

theorem r_24 (x4 : (⟨S1536x1024, .bf16⟩ : BufTy).Contents (Elt Ideal)) (i : S8192x1536.Idx) :
    (val_main_v24 (F := Ideal) x0 x1 x4 i : EReal) = prod x0 x1 x4 i :=
  (val_main_v24_apply x0 x1 x4 i).trans (Finset.sum_congr rfl fun k _ => mul
    ((val_main_v23_apply x0 x1 _).trans (r_norm x0 x1 _))
    ((val_main_v22_apply x4 _).trans ((val_main_v21_apply x4 _).trans (congrArg x4 (pair _)))))

theorem r_28 (x5 : (⟨S512x1024, .bf16⟩ : BufTy).Contents (Elt Ideal)) (i : S8192x512.Idx) :
    (val_main_v28 (F := Ideal) x0 x1 x5 i : EReal) = prod x0 x1 x5 i :=
  (val_main_v28_apply x0 x1 x5 i).trans (Finset.sum_congr rfl fun k _ => mul
    ((val_main_v27_apply x0 x1 _).trans (r_norm x0 x1 _))
    ((val_main_v26_apply x5 _).trans ((val_main_v25_apply x5 _).trans (congrArg x5 (pair _)))))

theorem r_32 (x6 : (⟨S128x1024, .bf16⟩ : BufTy).Contents (Elt Ideal)) (i : S8192x128.Idx) :
    (val_main_v32 (F := Ideal) x0 x1 x6 i : EReal) = prod x0 x1 x6 i :=
  (val_main_v32_apply x0 x1 x6 i).trans (Finset.sum_congr rfl fun k _ => mul
    ((val_main_v31_apply x0 x1 _).trans (r_norm x0 x1 _))
    ((val_main_v30_apply x6 _).trans ((val_main_v29_apply x6 _).trans (congrArg x6 (pair _)))))

theorem r_36 (x7 : (⟨S128x1024, .bf16⟩ : BufTy).Contents (Elt Ideal)) (i : S8192x128.Idx) :
    (val_main_v36 (F := Ideal) x0 x1 x7 i : EReal) = prod x0 x1 x7 i :=
  (val_main_v36_apply x0 x1 x7 i).trans (Finset.sum_congr rfl fun k _ => mul
    ((val_main_v35_apply x0 x1 _).trans (r_norm x0 x1 _))
    ((val_main_v34_apply x7 _).trans ((val_main_v33_apply x7 _).trans (congrArg x7 (pair _)))))

end Cert.Reference12Ideal.Mf

namespace Cert.Proof

open Idealize.ShloMosaic Idealize.ShloMosaic.TcCoe

theorem frame_kernel12Ideal : Cert.quiescent_Kernel12Ideal := fun m ρ _ => Cert.Kernel12Ideal.Gen.frame (F := Ideal) m ρ

/-- The word-for-word program and its reading over the reals have the same launches. -/
theorem mf_defs_eq : Cert.Kernel12.defs (F := Bits) = Cert.Kernel12Ideal.defs (F := Bits) := by
  have h : Cert.Kernel12.defs₀ (F := Bits) = Cert.Kernel12Ideal.defs₀ (F := Bits) := by
    unfold Cert.Kernel12.defs₀
    refine congrArg Defs.onTc (funext fun k => ?_)
    match k with
    | 0 => rfl
  unfold Cert.Kernel12.defs
  rw [h]
  rfl

theorem frame_kernel12 : Cert.quiescent_Kernel12 := by
  intro m ρ _
  rw [mf_defs_eq]
  exact Cert.Kernel12Ideal.Gen.frame (F := Bits) m ρ

theorem frame_reference12Ideal : Cert.quiescent_Reference12Ideal := fun m ρ _ =>
  (θ_run Cert.Reference12Ideal.defs _ _).mono (fun r h => ⟨fun c => (h c).2.2.2.2.2.2, Idealize.ShloMosaic.sem_eq_zero_of_no_sems (by decide) r.2⟩) (Cert.Reference12Ideal.Value.run (F := Ideal) m ρ)

theorem algebraic12 : Cert.algebraic_Kernel12Ideal_Reference12Ideal := by
  intro m g m' g' _ h
  refine ⟨fun c => Cert.Kernel12Ideal.Mf.val8 m c, fun c => Cert.Kernel12Ideal.Mf.val9 m c, fun c => Cert.Kernel12Ideal.Mf.val10 m c, fun c => Cert.Kernel12Ideal.Mf.val11 m c, fun c => Cert.Kernel12Ideal.Mf.val12 m c, fun c => Cert.Kernel12Ideal.Mf.val13 m c, ?_, ?_⟩
  · refine (θ_run Cert.Kernel12Ideal.defs _ _).mono (fun r hr c => ?_) (Cert.Kernel12Ideal.Gen.run_main (F := Ideal) m g)
    exact ⟨((hr c).1 8).trans (Cert.Kernel12Ideal.Mf.final8 m c),
      ((hr c).1 9).trans (Cert.Kernel12Ideal.Mf.final9 m c),
      ((hr c).1 10).trans (Cert.Kernel12Ideal.Mf.final10 m c),
      ((hr c).1 11).trans (Cert.Kernel12Ideal.Mf.final11 m c),
      ((hr c).1 12).trans (Cert.Kernel12Ideal.Mf.final12 m c),
      ((hr c).1 13).trans (Cert.Kernel12Ideal.Mf.final13 m c),
      ((hr c).1 0).trans (((Cert.Kernel12Ideal.Gen.dats m 0 c).arrAt_in 0 rfl _).trans ((Cert.Kernel12Ideal.Gen.A_eq m c 0).trans (Cert.Kernel12Ideal.Gen.V_main_arg0 m c))),
      ((hr c).1 1).trans (((Cert.Kernel12Ideal.Gen.dats m 0 c).arrAt_in 1 rfl _).trans ((Cert.Kernel12Ideal.Gen.A_eq m c 1).trans (Cert.Kernel12Ideal.Gen.V_main_arg1 m c))),
      ((hr c).1 2).trans (((Cert.Kernel12Ideal.Gen.dats m 0 c).arrAt_in 2 rfl _).trans ((Cert.Kernel12Ideal.Gen.A_eq m c 2).trans (Cert.Kernel12Ideal.Gen.V_main_arg2 m c))),
      ((hr c).1 3).trans (((Cert.Kernel12Ideal.Gen.dats m 0 c).arrAt_in 3 rfl _).trans ((Cert.Kernel12Ideal.Gen.A_eq m c 3).trans (Cert.Kernel12Ideal.Gen.V_main_arg3 m c))),
      ((hr c).1 4).trans (((Cert.Kernel12Ideal.Gen.dats m 0 c).arrAt_in 4 rfl _).trans ((Cert.Kernel12Ideal.Gen.A_eq m c 4).trans (Cert.Kernel12Ideal.Gen.V_main_arg4 m c))),
      ((hr c).1 5).trans (((Cert.Kernel12Ideal.Gen.dats m 0 c).arrAt_in 5 rfl _).trans ((Cert.Kernel12Ideal.Gen.A_eq m c 5).trans (Cert.Kernel12Ideal.Gen.V_main_arg5 m c))),
      ((hr c).1 6).trans (((Cert.Kernel12Ideal.Gen.dats m 0 c).arrAt_in 6 rfl _).trans ((Cert.Kernel12Ideal.Gen.A_eq m c 6).trans (Cert.Kernel12Ideal.Gen.V_main_arg6 m c))),
      ((hr c).1 7).trans (((Cert.Kernel12Ideal.Gen.dats m 0 c).arrAt_in 7 rfl _).trans ((Cert.Kernel12Ideal.Gen.A_eq m c 7).trans (Cert.Kernel12Ideal.Gen.V_main_arg7 m c)))⟩
  · refine (θ_run Cert.Reference12Ideal.defs _ _).mono (fun r hr c => ?_) (Cert.Reference12Ideal.Value.run (F := Ideal) m' g')
    obtain ⟨k0, k1, k2, k3, k4, k5, k⟩ := hr c
    obtain ⟨a0, a1, a2, a3, a4, a5, a6, a7⟩ := h c
    refine ⟨k0.trans ?_, k1.trans ?_, k2.trans ?_, k3.trans ?_, k4.trans ?_, k5.trans ?_, k⟩
    · refine (Cert.Reference12Ideal.Read.val_main_v16_eq _ _ _).trans ?_
      rw [a0, a1, a2]
      funext i
      exact Cert.Reference12Ideal.Mf.r_16 _ _ _ i
    · refine (Cert.Reference12Ideal.Read.val_main_v20_eq _ _ _).trans ?_
      rw [a0, a1, a3]
      funext i
      exact Cert.Reference12Ideal.Mf.r_20 _ _ _ i
    · refine (Cert.Reference12Ideal.Read.val_main_v24_eq _ _ _).trans ?_
      rw [a0, a1, a4]
      funext i
      exact Cert.Reference12Ideal.Mf.r_24 _ _ _ i
    · refine (Cert.Reference12Ideal.Read.val_main_v28_eq _ _ _).trans ?_
      rw [a0, a1, a5]
      funext i
      exact Cert.Reference12Ideal.Mf.r_28 _ _ _ i
    · refine (Cert.Reference12Ideal.Read.val_main_v32_eq _ _ _).trans ?_
      rw [a0, a1, a6]
      funext i
      exact Cert.Reference12Ideal.Mf.r_32 _ _ _ i
    · refine (Cert.Reference12Ideal.Read.val_main_v36_eq _ _ _).trans ?_
      rw [a0, a1, a7]
      funext i
      exact Cert.Reference12Ideal.Mf.r_36 _ _ _ i

end Cert.Proof

end
-- ==== Proof.Mo.lean ====
/- The mixing layer's output projection. -/
module

public import proofs.«01_k».proof.Proof.AdSpec
public import proofs.«01_k».proof.Defs
public import proofs.«01_k».proof.Proof.Gen.Kernel13
public import proofs.«01_k».proof.Proof.Gen.Kernel13Ideal.Frame
public import proofs.«01_k».proof.Proof.Gen.Reference13Ideal.Run
public import proofs.«01_k».proof.Proof.Gen.Reference13Ideal.Read

@[expose] public section

set_option maxRecDepth 16384

noncomputable section

namespace Cert.MoSpec

open Idealize.ShloMosaic
open scoped BigOperators

/-- The reciprocal of a head's root mean square. -/
def rr (o : Fin 128 → EReal) : EReal :=
  Ideal.rsqrt (Ideal.div (∑ k, o k * o k) (Ideal.ofBits .f32 0x43000000#32) + Ideal.ofBits .f32 0x358637BD#32)

/-- One head, normalised, weighted and gated. -/
def gate (o z w : Fin 128 → EReal) (k : Fin 128) : EReal := o k * rr o * w k * (z k * Ideal.div 1 (1 + Ideal.exp (-z k)))

/-- Entry `k` of head `h`. -/
def col (h : Fin 4) (k : Fin 128) : Fin 512 := ⟨h.val * 128 + k.val, by have := h.isLt; have := k.isLt; omega⟩

/-- The head of an entry. -/
def head (j : Fin 512) : Fin 4 := ⟨j.val / 128, by have := j.isLt; omega⟩

/-- An entry's place in its head. -/
def lane (j : Fin 512) : Fin 128 := ⟨j.val % 128, by omega⟩

/-- All heads of a row. -/
def dn {P : ℕ} (o z : (⟨2, ![P, 512]⟩ : Shape).Idx → EReal) (w : (⟨2, ![1, 128]⟩ : Shape).Idx → EReal) (p : Fin P) (j : Fin 512) : EReal :=
  gate (fun k => o (ix2 p (col (head j) k))) (fun k => z (ix2 p (col (head j) k))) (fun k => w (ix2 0 k)) (lane j)

/-- The layer's output. -/
def res {P : ℕ} (x : (⟨2, ![P, 1024]⟩ : Shape).Idx → EReal) (s o z : (⟨2, ![P, 512]⟩ : Shape).Idx → EReal)
    (ws wd : (⟨2, ![512, 1024]⟩ : Shape).Idx → EReal) (w : (⟨2, ![1, 128]⟩ : Shape).Idx → EReal) (i : (⟨2, ![P, 1024]⟩ : Shape).Idx) : EReal :=
  x i + ∑ k, s (ix2 (i 0) k) * ws (ix2 k (i 1)) + ∑ k, dn o z w (i 0) k * wd (ix2 k (i 1))

theorem res_congr {P Q : ℕ} {x : (⟨2, ![P, 1024]⟩ : Shape).Idx → EReal} {x' : (⟨2, ![Q, 1024]⟩ : Shape).Idx → EReal}
    {s o z : (⟨2, ![P, 512]⟩ : Shape).Idx → EReal} {s' o' z' : (⟨2, ![Q, 512]⟩ : Shape).Idx → EReal}
    {ws wd ws' wd' : (⟨2, ![512, 1024]⟩ : Shape).Idx → EReal} {w w' : (⟨2, ![1, 128]⟩ : Shape).Idx → EReal}
    (i : (⟨2, ![P, 1024]⟩ : Shape).Idx) (i' : (⟨2, ![Q, 1024]⟩ : Shape).Idx) (hx : x i = x' i')
    (hs : ∀ k, s (ix2 (i 0) k) = s' (ix2 (i' 0) k)) (ho : ∀ k, o (ix2 (i 0) k) = o' (ix2 (i' 0) k)) (hz : ∀ k, z (ix2 (i 0) k) = z' (ix2 (i' 0) k))
    (h4 : ws = ws') (h5 : wd = wd') (h6 : w = w') (h1 : (i 1 : Fin 1024) = i' 1) :
    res x s o z ws wd w i = res x' s' o' z' ws' wd' w' i' := by
  subst h4 h5 h6
  unfold res dn
  rw [hx]
  simp only [hs, ho, hz, show (i 1 : Fin 1024) = i' 1 from h1]

/-- An index of a matrix is the pair of its coordinates. -/
theorem pair {A B : ℕ} (i : (⟨2, ![A, B]⟩ : Shape).Idx) : i = ix2 (i 0) (i 1) := by
  funext a
  match a with
  | ⟨0, _⟩ => rfl
  | ⟨1, _⟩ => rfl

theorem mul {a b p q : EReal} (ha : a = p) (hb : b = q) : a * b = p * q := by rw [ha, hb]
theorem quo {a b p q : EReal} (ha : a = p) (hb : b = q) : Ideal.div a b = Ideal.div p q := by rw [ha, hb]
theorem bits_one : Ideal.ofBits .f32 0x3F800000#32 = 1 :=
  (show Ideal.ofBits .f32 0x3F800000#32 = ((1 : ℝ) : EReal) by
    simp [Ideal.ofBits, Ideal.ieee, -EReal.coe_mul]; norm_num).trans EReal.coe_one

end Cert.MoSpec

namespace Cert.Kernel13Ideal.Mo

open Cert.Kernel13Ideal Cert.Kernel13Ideal.Gen
open Idealize.ShloMosaic Idealize.ShloMosaic.TcCoe Idealize.ShloMosaic.Tactic
open Idealize.ShloMosaic.Pipeline (Dat Cfg Window)
open Cert.AdSpec Cert.MoSpec
open scoped BigOperators

/-- A column broadcast along the rows, at an index. -/
theorem bcCol (v : FVec Ideal S512x1 .f32) (h) (p : Fin 512) (k : Fin 128) :
    broadcastTo S512x128 v h (ix2 p k) = v (ix2 p 0) := by
  refine congrArg v (funext fun a => ?_)
  match a with
  | ⟨0, _⟩ => rfl
  | ⟨1, _⟩ => rfl

/-- A row broadcast along the columns, at an index. -/
theorem bcRow (v : FVec Ideal S1x128 .f32) (h) (p : Fin 512) (k : Fin 128) :
    broadcastTo S512x128 v h (ix2 p k) = v (ix2 0 k) := by
  refine congrArg v (funext fun a => ?_)
  match a with
  | ⟨0, _⟩ => rfl
  | ⟨1, _⟩ => rfl

section body
variable (o z : Vec Ideal S512x128 .f32) (w : Vec Ideal S1x128 .f32) (p : Fin 512) (k : Fin 128)

theorem pay_2 : (k0_pay2 o z w (ix2 p k) : EReal) = gate (fun k => o (ix2 p k)) (fun k => z (ix2 p k)) (fun k => w (ix2 0 k)) k := by
  unfold k0_pay2
  simp only [↓bcCol, ↓bcRow, pointwise]
  simp only [zero_sub]
  rfl

theorem pay_4 : (k0_pay4 o z w (ix2 p k) : EReal) = gate (fun k => o (ix2 p k)) (fun k => z (ix2 p k)) (fun k => w (ix2 0 k)) k := by
  unfold k0_pay4
  simp only [↓bcCol, ↓bcRow, pointwise]
  simp only [zero_sub]
  rfl

theorem pay_8 : (k0_pay8 o z w (ix2 p k) : EReal) = gate (fun k => o (ix2 p k)) (fun k => z (ix2 p k)) (fun k => w (ix2 0 k)) k := by
  unfold k0_pay8
  simp only [↓bcCol, ↓bcRow, pointwise]
  simp only [zero_sub]
  rfl

theorem pay_7 : (k0_pay7 z (k0_pay5 o w) (k0_pay6 z) (ix2 p k) : EReal) = gate (fun k => o (ix2 p k)) (fun k => z (ix2 p k)) (fun k => w (ix2 0 k)) k := by
  unfold k0_pay7 k0_pay5 k0_pay6
  simp only [↓bcCol, ↓bcRow, pointwise]
  simp only [zero_sub]
  rfl

theorem pay_3 : (k0_pay3 (k0_pay2 o z w) (ix2 p k) : EReal) = gate (fun k => o (ix2 p k)) (fun k => z (ix2 p k)) (fun k => w (ix2 0 k)) k := by
  refine Eq.trans ?_ (pay_2 o z w p k)
  unfold k0_pay3
  simp only [pointwise]

theorem pay_1 (x : Vec Ideal S512x1024 .f32) (s : Vec Ideal S512x512 .f32) (ws wd : Vec Ideal S512x1024 .bf16) (d : Vec Ideal S512x512 .bf16)
    (p : Fin 512) (n : Fin 1024) :
    (k0_pay1 x (k0_pay9 s) ws d wd (ix2 p n) : EReal) = x (ix2 p n) + ∑ k, s (ix2 p k) * ws (ix2 k n) + ∑ k, d (ix2 p k) * wd (ix2 k n) := by
  unfold k0_pay1 k0_pay9
  simp only [pointwise]
  simp only [zero_add]

/-- A head's entries, read from the block of all heads. -/
theorem piece (off : ℕ) (hoff : off % 128 = 0) (h) (o z : Vec Ideal S512x512 .f32) (w : Vec Ideal S1x128 .f32) (x : S512x128.Idx) :
    gate (fun k => View.ld o (Rect.unit (s := S512x512) ![0, off] S512x128.size h) (ix2 (x 0) k))
        (fun k => View.ld z (Rect.unit (s := S512x512) ![0, off] S512x128.size h) (ix2 (x 0) k)) (fun k => w (ix2 0 k)) (x 1)
      = dn (P := 512) o z w ((Rect.unit (s := S512x512) ![0, off] S512x128.size h).emb x 0) ((Rect.unit (s := S512x512) ![0, off] S512x128.size h).emb x 1) := by
  have hx : (x 1).val < 128 := (x 1).isLt
  have hk : ∀ k : Fin 128, (Rect.unit (s := S512x512) ![0, off] S512x128.size h).emb (ix2 (x 0) k)
      = ix2 ((Rect.unit (s := S512x512) ![0, off] S512x128.size h).emb x 0) (col (head ((Rect.unit (s := S512x512) ![0, off] S512x128.size h).emb x 1)) k) := by
    intro k
    funext a
    apply Fin.ext
    match a with
    | ⟨0, _⟩ => rfl
    | ⟨1, _⟩ => show off + 1 * k.val = (off + 1 * (x 1).val) / 128 * 128 + k.val; omega
  have hl : (x 1 : Fin 128) = lane ((Rect.unit (s := S512x512) ![0, off] S512x128.size h).emb x 1) := by
    apply Fin.ext
    show (x 1).val = (off + 1 * (x 1).val) % 128
    omega
  unfold dn
  rw [← hl]
  refine congrArg₂ (fun a b => gate a b _ _) (funext fun k => ?_) (funext fun k => ?_)
  · exact congrArg o (hk k)
  · exact congrArg z (hk k)

theorem out_7 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x128 .f32) (harg7 : arg7.IsWhole) (arg8 : Memref sig .tc .vmem S512x1024 .f32) (harg8 : arg8.IsWhole) (arg9 : Memref sig .tc .vmem S512x512 .bf16) (harg9 : arg9.IsWhole)
    (x0 : Vec Ideal S512x1024 .f32) (x1 : Vec Ideal S512x512 .f32) (x2 : Vec Ideal S512x512 .f32) (x3 : Vec Ideal S512x512 .f32) (x4 : Vec Ideal S512x1024 .bf16) (x5 : Vec Ideal S512x1024 .bf16) (x6 : Vec Ideal S1x128 .f32) :
    out0_A_7 c i arg1 harg1 arg2 harg2 arg3 harg3 arg4 harg4 arg5 harg5 arg6 harg6 arg7 harg7 arg8 harg8 arg9 harg9 x0 x1 x2 x3 x4 x5 x6 = (res (P := 512) x0 x1 x2 x3 x4 x5 x6 : S512x1024.Idx → EReal) := by
  have hS : (arg9.view.readCov (kernelRun0_A.sl.HS0_4 c arg3 harg3 arg4 harg4 arg7 harg7 x2 x3 x6)
        (Rect.unit (s := S512x512) ![0, 0] S512x512.size inb_S512x512_S512x512_0_0).toLoadRect : S512x512.Idx → EReal)
      = fun y => dn (P := 512) x2 x3 x6 (y 0) (y 1) := by
    rw [View.readCov_eq_canon']
    funext y
    refine (View.canon_apply_of_pieces (Val := Elt Ideal) (S := S512x512) (e := .bf16) (fun y => dn (P := 512) x2 x3 x6 (y 0) (y 1)) _ ?_ _ ?_).trans ?_
    · simp only [kernelRun0_A.sl.HS0_4, kernelRun0_A.sl.r, kernelRun0_A.sl.r_1, kernelRun0_A.sl.r_2, kernelRun0_A.sl.r_3, kernelRun0_A.sl.r_4,
        kernelRun0_A.sl.r_5, kernelRun0_A.sl.r_6, kernelRun0_A.sl.r_7, kernelRun0_A.sl.r_8, View.readAt_eq_ld, Memref.IsWhole.read_unread, ld_whole]
      intro q hq x
      rcases List.mem_cons.mp hq with rfl | hq
      · exact ((congrArg _ (pair (A := 512) (B := 128) x)).trans (pay_8 _ _ _ (x 0) (x 1))).trans (piece 384 rfl _ x2 x3 x6 x)
      rcases List.mem_cons.mp hq with rfl | hq
      · exact ((congrArg _ (pair (A := 512) (B := 128) x)).trans (pay_7 _ _ _ (x 0) (x 1))).trans (piece 256 rfl _ x2 x3 x6 x)
      rcases List.mem_cons.mp hq with rfl | hq
      · exact ((congrArg _ (pair (A := 512) (B := 128) x)).trans (pay_4 _ _ _ (x 0) (x 1))).trans (piece 128 rfl _ x2 x3 x6 x)
      obtain rfl := List.mem_singleton.mp hq
      exact ((congrArg _ (pair (A := 512) (B := 128) x)).trans (pay_3 _ _ _ (x 0) (x 1))).trans (piece 0 rfl _ x2 x3 x6 x)
    · exact View.cover_of_tiledL (s := S512x512) _ ![512, 128] (by sl_kernel_rfl) _
    · exact congrArg (fun y : S512x512.Idx => dn (P := 512) x2 x3 x6 (y 0) (y 1)) (emb_whole (A := 512) (B := 512) inb_S512x512_S512x512_0_0 y)
  unfold out0_A_7
  unfold kernelRun0_A
  dsimp only
  rw [View.read_writes_full]
  simp only [kernelRun0_A.sl.r_9, kernelRun0_A.sl.r_10, kernelRun0_A.sl.v118, View.readAt_eq_ld, Memref.IsWhole.read_unread, ld_whole]
  funext y
  refine ((congrArg _ (pair (A := 512) (B := 1024) y)).trans (pay_1 x0 x1 x4 x5 _ (y 0) (y 1))).trans ?_
  unfold res
  refine add (add (congrArg (x0 : S512x1024.Idx → EReal) (pair (A := 512) (B := 1024) y).symm) rfl) (Finset.sum_congr rfl fun k _ => congrArg (· * _) ?_)
  exact congrFun hS (ix2 (y 0) k)

end body

variable (m : (ℓ : Loc nD τ sig) → Buf (Elt Ideal) ℓ) (c : Dev nD)
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- The index of the whole array under an index of point `t`'s block. -/
def at' (t : Fin cfg0.N) (y : S512x1024.Idx) : S8192x1024.Idx :=
  ix2 ⟨t.val * 512 + (y 0).val, by
    have h : t.val < 16 := lt_of_lt_of_eq t.isLt N_0
    have hy : (y 0).val < 512 := (y 0).isLt
    omega⟩ ⟨(y 1).val, (y 1).isLt⟩

theorem blk0 (t : Fin cfg0.N) (p : Fin 512) (k : Fin 1024) (q : Fin 8192) (hq : q.val = t.val * 512 + p.val) :
    ((iblk m c 0 t : S512x1024.Idx → EReal) (ix2 p k)) = (m ((c : Thread nD τ).loc main_arg0) : S8192x1024.Idx → EReal) (ix2 q k) := by
  obtain ⟨e0, e1⟩ := index0 t
  refine congrArg (m ((c : Thread nD τ).loc main_arg0) : S8192x1024.Idx → EReal) ?_
  funext a
  apply Fin.ext
  match a with
  | ⟨0, _⟩ => show win0_0.index t (0 : Fin 2) * 512 + 1 * p.val = q.val; omega
  | ⟨1, _⟩ => show win0_0.index t (1 : Fin 2) * 1024 + 1 * k.val = k.val; omega

theorem blk1 (t : Fin cfg0.N) (p : Fin 512) (k : Fin 512) (q : Fin 8192) (hq : q.val = t.val * 512 + p.val) :
    ((iblk m c 1 t : S512x512.Idx → EReal) (ix2 p k)) = (m ((c : Thread nD τ).loc main_arg1) : S8192x512.Idx → EReal) (ix2 q k) := by
  obtain ⟨e0, e1⟩ := index1 t
  refine congrArg (m ((c : Thread nD τ).loc main_arg1) : S8192x512.Idx → EReal) ?_
  funext a
  apply Fin.ext
  match a with
  | ⟨0, _⟩ => show win0_1.index t (0 : Fin 2) * 512 + 1 * p.val = q.val; omega
  | ⟨1, _⟩ => show win0_1.index t (1 : Fin 2) * 512 + 1 * k.val = k.val; omega

theorem blk2 (t : Fin cfg0.N) (p : Fin 512) (k : Fin 512) (q : Fin 8192) (hq : q.val = t.val * 512 + p.val) :
    ((iblk m c 2 t : S512x512.Idx → EReal) (ix2 p k)) = (m ((c : Thread nD τ).loc main_arg2) : S8192x512.Idx → EReal) (ix2 q k) := by
  obtain ⟨e0, e1⟩ := index2 t
  refine congrArg (m ((c : Thread nD τ).loc main_arg2) : S8192x512.Idx → EReal) ?_
  funext a
  apply Fin.ext
  match a with
  | ⟨0, _⟩ => show win0_2.index t (0 : Fin 2) * 512 + 1 * p.val = q.val; omega
  | ⟨1, _⟩ => show win0_2.index t (1 : Fin 2) * 512 + 1 * k.val = k.val; omega

theorem blk3 (t : Fin cfg0.N) (p : Fin 512) (k : Fin 512) (q : Fin 8192) (hq : q.val = t.val * 512 + p.val) :
    ((iblk m c 3 t : S512x512.Idx → EReal) (ix2 p k)) = (m ((c : Thread nD τ).loc main_arg3) : S8192x512.Idx → EReal) (ix2 q k) := by
  obtain ⟨e0, e1⟩ := index3 t
  refine congrArg (m ((c : Thread nD τ).loc main_arg3) : S8192x512.Idx → EReal) ?_
  funext a
  apply Fin.ext
  match a with
  | ⟨0, _⟩ => show win0_3.index t (0 : Fin 2) * 512 + 1 * p.val = q.val; omega
  | ⟨1, _⟩ => show win0_3.index t (1 : Fin 2) * 512 + 1 * k.val = k.val; omega

theorem blk4 (t : Fin cfg0.N) : (iblk m c 4 t : S512x1024.Idx → EReal) = (m ((c : Thread nD τ).loc main_arg4) : S512x1024.Idx → EReal) := by
  obtain ⟨e0, e1⟩ := index4 t
  funext y
  refine congrArg (m ((c : Thread nD τ).loc main_arg4) : S512x1024.Idx → EReal) ?_
  funext a
  apply Fin.ext
  match a with
  | ⟨0, _⟩ => show win0_4.index t (0 : Fin 2) * 512 + 1 * (y 0).val = (y 0).val; omega
  | ⟨1, _⟩ => show win0_4.index t (1 : Fin 2) * 1024 + 1 * (y 1).val = (y 1).val; omega

theorem blk5 (t : Fin cfg0.N) : (iblk m c 5 t : S512x1024.Idx → EReal) = (m ((c : Thread nD τ).loc main_arg5) : S512x1024.Idx → EReal) := by
  obtain ⟨e0, e1⟩ := index5 t
  funext y
  refine congrArg (m ((c : Thread nD τ).loc main_arg5) : S512x1024.Idx → EReal) ?_
  funext a
  apply Fin.ext
  match a with
  | ⟨0, _⟩ => show win0_5.index t (0 : Fin 2) * 512 + 1 * (y 0).val = (y 0).val; omega
  | ⟨1, _⟩ => show win0_5.index t (1 : Fin 2) * 1024 + 1 * (y 1).val = (y 1).val; omega

theorem blk6 (t : Fin cfg0.N) : (iblk m c 6 t : S1x128.Idx → EReal) = (m ((c : Thread nD τ).loc main_arg6) : S1x128.Idx → EReal) := by
  obtain ⟨e0, e1⟩ := index6 t
  funext y
  refine congrArg (m ((c : Thread nD τ).loc main_arg6) : S1x128.Idx → EReal) ?_
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The value of the output. -/
def val : S8192x1024.Idx → EReal :=
  res (m ((c : Thread nD τ).loc main_arg0) : S8192x1024.Idx → EReal) (m ((c : Thread nD τ).loc main_arg1) : S8192x512.Idx → EReal) (m ((c : Thread nD τ).loc main_arg2) : S8192x512.Idx → EReal) (m ((c : Thread nD τ).loc main_arg3) : S8192x512.Idx → EReal) (m ((c : Thread nD τ).loc main_arg4) : S512x1024.Idx → EReal) (m ((c : Thread nD τ).loc main_arg5) : S512x1024.Idx → EReal) (m ((c : Thread nD τ).loc main_arg6) : S1x128.Idx → EReal)

/-- The array of the output after the run. -/
theorem final7 : ((dats m 0 c).arrAt 7 cfg0.N : S8192x1024.Idx → EReal) = val m c := by
  refine (dats m 0 c).arrAt_eq_of_cover 7 _ (fun t hf => ?_) (fun i => ?_)
  · obtain ⟨e0, e1⟩ := index7 t
    show (cfg0.win 7).cut (grid0.coords t) ((dats m 0 c).after 7 t) = _
    rw [after0_7]
    funext y
    have hb : ((cfg0.win 7).blk t).view.emb y = at' t y := by
      funext a
      apply Fin.ext
      match a with
      | ⟨0, _⟩ => show win0_7.index t (0 : Fin 2) * 512 + 1 * (y 0).val = t.val * 512 + (y 0).val; omega
      | ⟨1, _⟩ => show win0_7.index t (1 : Fin 2) * 1024 + 1 * (y 1).val = (y 1).val; omega
    have hx : ((cfg0.win 7).xinj (grid0.coords t) y : S512x1024.Idx) = y := by
      funext a
      apply Fin.ext
      match a with
      | ⟨0, _⟩ => rfl
      | ⟨1, _⟩ => rfl
    show (outsAt0 m c t ((cfg0.win 7).xinj (grid0.coords t) y) : EReal)
      = val m c (((cfg0.win 7).blk t).view.emb y)
    rw [hb, hx]
    unfold outsAt0
    rw [out_7]
    exact res_congr y (at' t y) ((congrArg (iblk m c 0 t : S512x1024.Idx → EReal) (pair (A := 512) (B := 1024) y)).trans (blk0 m c t (y 0) (y 1) _ rfl))
      (fun k => blk1 m c t (y 0) k _ rfl) (fun k => blk2 m c t (y 0) k _ rfl) (fun k => blk3 m c t (y 0) k _ rfl)
      (blk4 m c t) (blk5 m c t) (blk6 m c t) rfl
  · have h0 : (i 0).val < 8192 := (i 0).isLt
    have h1 : (i 1).val < 1024 := (i 1).isLt
    have hN : (i 0).val / 512 < cfg0.N := lt_of_lt_of_eq (by omega) N_0.symm
    obtain ⟨e0, e1⟩ := index7 ⟨(i 0).val / 512, hN⟩
    refine ⟨⟨(i 0).val / 512, hN⟩, flush0_7 _, ?_⟩
    show i ∈ ((View.whole main_v0).slice (win0_7.rect ⟨(i 0).val / 512, hN⟩)).set
    rw [View.set_slice_whole, Rect.mem_set_unit]
    intro a
    match a with
    | ⟨0, _⟩ =>
      show win0_7.index ⟨(i 0).val / 512, hN⟩ (0 : Fin 2) * 512 ≤ (i 0).val
        ∧ (i 0).val < win0_7.index ⟨(i 0).val / 512, hN⟩ (0 : Fin 2) * 512 + 512
      rw [e0]; dsimp only; omega
    | ⟨1, _⟩ =>
      show win0_7.index ⟨(i 0).val / 512, hN⟩ (1 : Fin 2) * 1024 ≤ (i 1).val
        ∧ (i 1).val < win0_7.index ⟨(i 0).val / 512, hN⟩ (1 : Fin 2) * 1024 + 1024
      rw [e1]; omega

end Cert.Kernel13Ideal.Mo

namespace Cert.Reference13Ideal.Mo

open Cert.Reference13Ideal Cert.Reference13Ideal.Gen Cert.Reference13Ideal.Read
open Idealize.ShloMosaic Idealize.ShloMosaic.TcCoe
open Cert.AdSpec Cert.MoSpec
open scoped BigOperators

variable (x0 : (⟨S8192x1024, .f32⟩ : BufTy).Contents (Elt Ideal)) (x1 x2 x3 : (⟨S8192x512, .f32⟩ : BufTy).Contents (Elt Ideal))
  (x4 x5 : (⟨S512x1024, .bf16⟩ : BufTy).Contents (Elt Ideal)) (x6 : (⟨S1x128, .f32⟩ : BufTy).Contents (Elt Ideal))

theorem idx0 (i : S8192x4x128.Idx) : idx_main_v0 i = (ix2 (i 0) (col (i 1) (i 2)) : S8192x512.Idx) := by
  have h0 : (i 0).val < 8192 := (i 0).isLt
  have h1 : (i 1).val < 4 := (i 1).isLt
  have h2 : (i 2).val < 128 := (i 2).isLt
  funext a
  apply Fin.ext
  match a with
  | ⟨0, _⟩ => show (((i 0).val * 4 + (i 1).val) * 128 + (i 2).val) / 512 = (i 0).val; omega
  | ⟨1, _⟩ => show (((i 0).val * 4 + (i 1).val) * 128 + (i 2).val) % 512 = (i 1).val * 128 + (i 2).val; omega

theorem r_o (i : S8192x4x128.Idx) : (val_main_v0 (F := Ideal) x2 i : EReal) = x2 (ix2 (i 0) (col (i 1) (i 2)) : S8192x512.Idx) :=
  (val_main_v0_apply x2 i).trans (congrArg x2 (idx0 i))

theorem r_z (i : S8192x4x128.Idx) : (val_main_v1 (F := Ideal) x3 i : EReal) = x3 (ix2 (i 0) (col (i 1) (i 2)) : S8192x512.Idx) :=
  (val_main_v1_apply x3 i).trans (congrArg x3 (idx0 i))

theorem r_sum (i : S8192x4.Idx) : (val_main_v3 (F := Ideal) x2 i : EReal)
    = ∑ k : Fin 128, x2 (ix2 (i 0) (col (i 1) k) : S8192x512.Idx) * x2 (ix2 (i 0) (col (i 1) k) : S8192x512.Idx) :=
  (val_main_v3_apply x2 i).trans ((congrArg (· + _) bits_zero).trans ((zero_add _).trans (Finset.sum_congr rfl fun k _ =>
    (val_main_v2_apply x2 _).trans (mul (r_o x2 _) (r_o x2 _)))))

theorem r_mean (i : S8192x4x1.Idx) : (val_main_v6 (F := Ideal) x2 i : EReal)
    = Ideal.div (∑ k : Fin 128, x2 (ix2 (i 0) (col (i 1) k) : S8192x512.Idx) * x2 (ix2 (i 0) (col (i 1) k) : S8192x512.Idx)) (Ideal.ofBits .f32 0x43000000#32) :=
  (val_main_v6_apply x2 i).trans (quo ((val_main_v4_apply x2 i).trans (r_sum x2 _)) ((val_main_v5_apply i).trans rfl))

theorem r_scale (i : S8192x4x1.Idx) : (val_main_v9 (F := Ideal) x2 i : EReal) = rr fun k => x2 (ix2 (i 0) (col (i 1) k) : S8192x512.Idx) :=
  (val_main_v9_apply x2 i).trans (congrArg Ideal.rsqrt
    ((val_main_v8_apply x2 i).trans (add (r_mean x2 i) ((val_main_v7_apply i).trans rfl))))

theorem r_norm (i : S8192x4x128.Idx) : (val_main_v14 (F := Ideal) x2 x6 i : EReal)
    = x2 (ix2 (i 0) (col (i 1) (i 2)) : S8192x512.Idx) * rr (fun k => x2 (ix2 (i 0) (col (i 1) k) : S8192x512.Idx)) * x6 (ix2 0 (i 2) : S1x128.Idx) :=
  (val_main_v14_apply x2 x6 i).trans (mul
    ((val_main_v11_apply x2 i).trans (mul (r_o x2 i) ((val_main_v10_apply x2 i).trans (r_scale x2 _))))
    ((val_main_v13_apply x6 i).trans ((val_main_v12_apply x6 _).trans (congrArg x6 (pair _)))))

theorem r_silu (i : S8192x4x128.Idx) : (val_main_v15 (F := Ideal) x3 i : EReal)
    = x3 (ix2 (i 0) (col (i 1) (i 2)) : S8192x512.Idx) * Ideal.div 1 (1 + Ideal.exp (-x3 (ix2 (i 0) (col (i 1) (i 2)) : S8192x512.Idx))) :=
  (val_main_v15_apply x3 i).trans (mul (r_z x3 i) ((val_main_call0_v5_apply x3 i).trans (quo
    ((val_main_call0_v4_apply i).trans bits_one)
    ((val_main_call0_v3_apply x3 i).trans (add ((val_main_call0_v2_apply i).trans bits_one)
      ((val_main_call0_v1_apply x3 i).trans (congrArg Ideal.exp ((val_main_call0_v0_apply x3 i).trans (congrArg (-·) (r_z x3 i))))))))))

theorem r_gate (i : S8192x4x128.Idx) : (val_main_v16 (F := Ideal) x2 x3 x6 i : EReal)
    = gate (fun k => x2 (ix2 (i 0) (col (i 1) k) : S8192x512.Idx)) (fun k => x3 (ix2 (i 0) (col (i 1) k) : S8192x512.Idx)) (fun k => x6 (ix2 0 k : S1x128.Idx)) (i 2) :=
  (val_main_v16_apply x2 x3 x6 i).trans (mul (r_norm x2 x6 i) (r_silu x3 i))

theorem r_dn (i : S8192x512.Idx) : (val_main_v18 (F := Ideal) x2 x3 x6 i : EReal) = dn (P := 8192) x2 x3 x6 (i 0) (i 1) := by
  have h0 : (i 0).val < 8192 := (i 0).isLt
  have h1 : (i 1).val < 512 := (i 1).isLt
  have e0 : (idx_main_v17 i 0 : Fin 8192) = i 0 := by
    apply Fin.ext
    show ((i 0).val * 512 + (i 1).val) / 512 = (i 0).val
    omega
  have e1 : (idx_main_v17 i 1 : Fin 4) = head (i 1) := by
    apply Fin.ext
    show ((i 0).val * 512 + (i 1).val) / 128 % 4 = (i 1).val / 128
    omega
  have e2 : (idx_main_v17 i 2 : Fin 128) = lane (i 1) := by
    apply Fin.ext
    show ((i 0).val * 512 + (i 1).val) % 128 = (i 1).val % 128
    omega
  refine (val_main_v18_apply x2 x3 x6 i).trans ((val_main_v17_apply x2 x3 x6 i).trans ((r_gate x2 x3 x6 _).trans ?_))
  unfold dn
  rw [← e0, ← e1, ← e2]

theorem r_left (p : Fin 8192) (k : Fin 512) (j : S8192x1024.Idx) (h0 : (j 0).val = p.val) (h1 : (j 1).val = k.val) :
    (val_main_v23 (F := Ideal) x1 x2 x3 x6 j : EReal) = x1 (ix2 p k : S8192x512.Idx) :=
  (val_main_v23_apply x1 x2 x3 x6 j).trans ((concatenate_pair_apply_left (t := S8192x1024) (s₁ := S8192x512) (s₂ := S8192x512) (1 : Fin 2) (val_main_v21 (F := Ideal) x1) (val_main_v18 (F := Ideal) x2 x3 x6)
    concatenates_S8192x512_S8192x512_S8192x1024_d1 j rfl (ix2 p k) (fun b => by
      match b with
      | ⟨0, _⟩ => exact h0.symm
      | ⟨1, _⟩ => exact h1.symm)).trans ((val_main_v21_apply x1 _).trans rfl))

theorem r_right (p : Fin 8192) (k : Fin 512) (j : S8192x1024.Idx) (h0 : (j 0).val = p.val) (h1 : k.val + 512 = (j 1).val) :
    (val_main_v23 (F := Ideal) x1 x2 x3 x6 j : EReal) = dn (P := 8192) x2 x3 x6 p k :=
  (val_main_v23_apply x1 x2 x3 x6 j).trans ((concatenate_pair_apply_right (t := S8192x1024) (s₁ := S8192x512) (s₂ := S8192x512) (1 : Fin 2) (val_main_v21 (F := Ideal) x1) (val_main_v18 (F := Ideal) x2 x3 x6)
    concatenates_S8192x512_S8192x512_S8192x1024_d1 j rfl rfl (ix2 p k) (fun b hb => by
      match b with
      | ⟨0, _⟩ => exact h0.symm
      | ⟨1, _⟩ => exact absurd rfl hb) h1).trans (r_dn x2 x3 x6 _))

theorem r_top (k : Fin 512) (n : Fin 1024) (j : S1024x1024.Idx) (h0 : (j 0).val = k.val) (h1 : (j 1).val = n.val) :
    (val_main_v20 (F := Ideal) x4 x5 j : EReal) = x4 (ix2 k n : S512x1024.Idx) :=
  (val_main_v20_apply x4 x5 j).trans (concatenate_pair_apply_left (t := S1024x1024) (s₁ := S512x1024) (s₂ := S512x1024) (0 : Fin 2) x4 x5 concatenates_S512x1024_S512x1024_S1024x1024_d0 j rfl (ix2 k n) (fun b => by
      match b with
      | ⟨0, _⟩ => exact h0.symm
      | ⟨1, _⟩ => exact h1.symm))

theorem r_bot (k : Fin 512) (n : Fin 1024) (j : S1024x1024.Idx) (h0 : k.val + 512 = (j 0).val) (h1 : (j 1).val = n.val) :
    (val_main_v20 (F := Ideal) x4 x5 j : EReal) = x5 (ix2 k n : S512x1024.Idx) :=
  (val_main_v20_apply x4 x5 j).trans (concatenate_pair_apply_right (t := S1024x1024) (s₁ := S512x1024) (s₂ := S512x1024) (0 : Fin 2) x4 x5 concatenates_S512x1024_S512x1024_S1024x1024_d0 j rfl rfl (ix2 k n) (fun b hb => by
      match b with
      | ⟨0, _⟩ => exact absurd rfl hb
      | ⟨1, _⟩ => exact h1.symm) h0)

theorem r_25 (i : S8192x1024.Idx) : (val_main_v25 (F := Ideal) x0 x1 x2 x3 x4 x5 x6 i : EReal) = res (P := 8192) x0 x1 x2 x3 x4 x5 x6 i := by
  refine (val_main_v25_apply x0 x1 x2 x3 x4 x5 x6 i).trans ?_
  unfold res
  rw [add_assoc]
  refine congrArg ((x0 : S8192x1024.Idx → EReal) i + ·) ((val_main_v24_apply x1 x2 x3 x4 x5 x6 i).trans ?_)
  refine (Fin.sum_univ_add (a := 512) (b := 512) (fun k : Fin (512 + 512) =>
    ((val_main_v23 (F := Ideal) x1 x2 x3 x6 (lidx_main_v24 i k) : EReal)) * (val_main_v20 (F := Ideal) x4 x5 (ridx_main_v24 i k) : EReal))).trans
    (add (Finset.sum_congr rfl fun k _ => ?_) (Finset.sum_congr rfl fun k _ => ?_))
  · exact mul (r_left x1 x2 x3 x6 (i 0) k _ rfl rfl) (r_top x4 x5 k (i 1) _ rfl rfl)
  · exact mul (r_right x1 x2 x3 x6 (i 0) k _ rfl (Nat.add_comm _ _)) (r_bot x4 x5 k (i 1) _ (Nat.add_comm _ _) rfl)

end Cert.Reference13Ideal.Mo

namespace Cert.Proof

open Idealize.ShloMosaic Idealize.ShloMosaic.TcCoe

theorem frame_kernel13Ideal : Cert.quiescent_Kernel13Ideal := fun m ρ _ => Cert.Kernel13Ideal.Gen.frame (F := Ideal) m ρ

/-- The word-for-word program and its reading over the reals have the same launches. -/
theorem mo_defs_eq : Cert.Kernel13.defs (F := Bits) = Cert.Kernel13Ideal.defs (F := Bits) := by
  have h : Cert.Kernel13.defs₀ (F := Bits) = Cert.Kernel13Ideal.defs₀ (F := Bits) := by
    unfold Cert.Kernel13.defs₀
    refine congrArg Defs.onTc (funext fun k => ?_)
    match k with
    | 0 => rfl
  unfold Cert.Kernel13.defs
  rw [h]
  rfl

theorem frame_kernel13 : Cert.quiescent_Kernel13 := by
  intro m ρ _
  rw [mo_defs_eq]
  exact Cert.Kernel13Ideal.Gen.frame (F := Bits) m ρ

theorem frame_reference13Ideal : Cert.quiescent_Reference13Ideal := fun m ρ _ =>
  (θ_run Cert.Reference13Ideal.defs _ _).mono (fun r h => ⟨fun c => (h c).2, Idealize.ShloMosaic.sem_eq_zero_of_no_sems (by decide) r.2⟩) (Cert.Reference13Ideal.Value.run (F := Ideal) m ρ)

theorem algebraic13 : Cert.algebraic_Kernel13Ideal_Reference13Ideal := by
  intro m g m' g' _ h
  refine ⟨fun c => Cert.Kernel13Ideal.Mo.val m c, ?_, ?_⟩
  · refine (θ_run Cert.Kernel13Ideal.defs _ _).mono (fun r hr c => ?_) (Cert.Kernel13Ideal.Gen.run_main (F := Ideal) m g)
    exact ⟨((hr c).1 7).trans (Cert.Kernel13Ideal.Mo.final7 m c),
      ((hr c).1 0).trans (((Cert.Kernel13Ideal.Gen.dats m 0 c).arrAt_in 0 rfl _).trans ((Cert.Kernel13Ideal.Gen.A_eq m c 0).trans (Cert.Kernel13Ideal.Gen.V_main_arg0 m c))),
      ((hr c).1 1).trans (((Cert.Kernel13Ideal.Gen.dats m 0 c).arrAt_in 1 rfl _).trans ((Cert.Kernel13Ideal.Gen.A_eq m c 1).trans (Cert.Kernel13Ideal.Gen.V_main_arg1 m c))),
      ((hr c).1 2).trans (((Cert.Kernel13Ideal.Gen.dats m 0 c).arrAt_in 2 rfl _).trans ((Cert.Kernel13Ideal.Gen.A_eq m c 2).trans (Cert.Kernel13Ideal.Gen.V_main_arg2 m c))),
      ((hr c).1 3).trans (((Cert.Kernel13Ideal.Gen.dats m 0 c).arrAt_in 3 rfl _).trans ((Cert.Kernel13Ideal.Gen.A_eq m c 3).trans (Cert.Kernel13Ideal.Gen.V_main_arg3 m c))),
      ((hr c).1 4).trans (((Cert.Kernel13Ideal.Gen.dats m 0 c).arrAt_in 4 rfl _).trans ((Cert.Kernel13Ideal.Gen.A_eq m c 4).trans (Cert.Kernel13Ideal.Gen.V_main_arg4 m c))),
      ((hr c).1 5).trans (((Cert.Kernel13Ideal.Gen.dats m 0 c).arrAt_in 5 rfl _).trans ((Cert.Kernel13Ideal.Gen.A_eq m c 5).trans (Cert.Kernel13Ideal.Gen.V_main_arg5 m c))),
      ((hr c).1 6).trans (((Cert.Kernel13Ideal.Gen.dats m 0 c).arrAt_in 6 rfl _).trans ((Cert.Kernel13Ideal.Gen.A_eq m c 6).trans (Cert.Kernel13Ideal.Gen.V_main_arg6 m c)))⟩
  · refine (θ_run Cert.Reference13Ideal.defs _ _).mono (fun r hr c => ?_) (Cert.Reference13Ideal.Value.run (F := Ideal) m' g')
    obtain ⟨k0, k⟩ := hr c
    obtain ⟨a0, a1, a2, a3, a4, a5, a6⟩ := h c
    refine ⟨k0.trans ?_, k⟩
    refine (Cert.Reference13Ideal.Read.val_main_v25_eq _ _ _ _ _ _ _).trans ?_
    rw [a0, a1, a2, a3, a4, a5, a6]
    funext i
    exact Cert.Reference13Ideal.Mo.r_25 _ _ _ _ _ _ _ i

end Cert.Proof

end
-- ==== Proof.Ls.lean ====
/-
  The sum of the loss over the devices (`Cert.Kernel14`): each device takes one number of its part of the loss, and the
  devices add these numbers by one all-reduce. The run is proved once, for any float values: it ends, the argument is
  as it was, every counter reads zero again, and every device's result is the sum, in the group's order, of the
  devices' numbers. Over the reals that is the plain sum over the eight parts.
-/
module

public import proofs.«01_k».proof.Defs
public import proofs.«01_k».proof.Proof.Gen.Kernel14
public import proofs.«01_k».proof.Proof.Gen.Kernel14Ideal.Launch
public import proofs.«01_k».proof.Proof.Gen.Reference14Ideal.Run
public import proofs.«01_k».proof.Proof.Gen.Reference14Ideal.Read
public import Idealize.ShloMosaic.Lib.StableHlo.CollectiveRules
public import Idealize.ShloMosaic.Lib.Pipeline.Regions
public import Idealize.ShloMosaic.Lib.Pipeline.CollectiveSegs
public import Idealize.ShloMosaic.Lib.Pipeline.Kit
public import Idealize.ShloMosaic.Lib.StableHlo.Run
public import Idealize.ShloMosaic.Lib.Tactic

@[expose] public section

noncomputable section

namespace Cert.Proof.Ls

open Cert.Kernel14Ideal Cert.Kernel14Ideal.Gen
open Cert.Kernel14Ideal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staging cells' component (there is none) beside the all-reduce's. -/
abbrev UU : Type := UR sig nD τ × Sites.UC

/-- The resources of the run. -/
abbrev MM (F : FTy → Type) [FloatOps F] := MT nD τ sig ℕ (Elt F) ℕ UU ℕ

/-- The two components' places. -/
abbrev EP : Emb (UR sig nD τ) (MM F) := embL
abbrev EC : Emb Sites.UC (MM F) := embR

variable (m : (ℓ : Loc nD τ sig) → Buf (Elt F) ℓ) (ρ : Dev nD → PrngReg)

/-- A device's buffers at launch, -/
abbrev V₀ (c : Dev nD) : Valuation τ sig (Elt F) := fun b => m ((c : Dev nD), b)
/-- and where the all-reduce begins. -/
abbrev V (c : Dev nD) : Valuation τ sig (Elt F) := StableHlo.after (hostOps0 (F := F)) (V₀ m c)

/-- There is no kernel call, so nothing is admitted and there is no proof data. -/
abbrev adm : (p : Fin 0) → (pcfgs (F := F) p).Adm := fun p => p.elim0
abbrev pdats : (p : Fin 0) → (c : Dev nD) → Pipeline.Dat τ (Elt F) ℕ ℕ UU ℕ (Pipeline.pin (pcfgs (F := F)) adm p) c := fun p => p.elim0

/-- The record that the all-reduce's cells are under their invariants: it is read when the counters are. -/
abbrev invs : sProp (MM F) := iprop(∃ κ, (AllReduce.Dat.once (ar0 (F := F)) (V m)).cellInvs (Sites.E0 EC) κ)

/-- It is part of what rides to the all-reduce, and can be kept. -/
theorem keep (c : Dev nD) : (Sites.rides0 EC (V m) c : sProp (MM F)) ⊢ iprop(invs m ∗ Sites.rides0 EC (V m) c) := by
  unfold Sites.rides0 AllReduce.Dat.rides
  iintro ⟨#Hi, Hr⟩
  isplitr; · iexact Hi
  isplitr; · iexact Hi
  iexact Hr

theorem ops_fresh : (hostOps0 (F := F)).Forall fun op => op.fresh = ∅ := ⟨rfl, rfl⟩

/-- The host operations before the all-reduce, -/
abbrev H0 : Pipeline.HostSeg (Ix := ℕ) (Name := ℕ) (U := UU) (Lvl := ℕ) (pcfgs (F := F)) defs₀ Variants.none L lv :=
  Pipeline.HostSeg.ofOps (pcfgs (F := F)) defs₀ Variants.none L lv (Pipeline.ucRefs τ sig) (hostOps0 (F := F))
    (fun op h => Pipeline.sub_ucRefs op (List.forall_iff_forall_mem.mp hostOps0_sub op h))
    (fun op h => List.forall_iff_forall_mem.mp ops_fresh op h) (V₀ m) (fun c => Sites.Es EC (V m) 0 c)

/-- and the all-reduce. -/
abbrev H1 : Pipeline.HostSeg (Ix := ℕ) (Name := ℕ) (U := UU) (Lvl := ℕ) (pcfgs (F := F)) defs₀ Variants.none L lv :=
  Sites.seg0 EC Variants.none (V m) (Sites.Rest0 (V m) fun _ => invs m)

abbrev segs : List (Pipeline.Seg (pcfgs (F := F)) adm pdats 0 defs₀ Variants.none L lv) := [.host (H0 m), .host (H1 m)]

/-- What a device holds at the end: its buffers past the all-reduce, and the counters' records. -/
abbrev Tn (c : Dev nD) : sProp (MM F) :=
  iprop(StableHlo.held (c : Thread nD τ) (Pipeline.ucRefs τ sig) ((ar0 (F := F)).after₀ (V m) c) ∗ (invs m ∗ Sites.Ghost0 EC c))

/-- What a device holds at the start. -/
abbrev T0 (c : Dev nD) : sProp (MM F) :=
  iprop(StableHlo.held (c : Thread nD τ) (Pipeline.ucRefs τ sig) (V₀ m c) ∗ Sites.Es EC (V m) 0 c)

/-- The launch gives every device what it starts with. -/
theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V m) c)) ∗ levAts L lv)
      ⊢ (|={Set.univ}=> bigSep Finset.univ (T0 m) : sProp (MM F)) := by
  have h1 (c : Dev nD) : iprop(unscopedBufs c (fun b => m ((c : Thread nD τ).loc b)) ∗ unscopedSems0 c
        ∗ owes (c : Thread nD τ) (Sites.O0 (F := F) c) ∅ ∗ Pipeline.launchCred (Sites.O0 (F := F)) c ∗ prngReg c (ρ c) ∗ Sites.G EC (V m) c)
      ⊢ (iprop(StableHlo.held (c : Thread nD τ) (Pipeline.ucRefs τ sig) (V₀ m c)
        ∗ iprop(unscopedSems0 c ∗ owes (c : Thread nD τ) (Sites.O0 (F := F) c) ∅ ∗ Pipeline.launchCred (Sites.O0 (F := F)) c ∗ prngReg c (ρ c) ∗ Sites.G EC (V m) c)) : sProp (MM F)) := by
    rw [show unscopedBufs c (fun b => m ((c : Thread nD τ).loc b)) = StableHlo.held (c : Thread nD τ) (Pipeline.ucRefs τ sig) (V₀ m c)
        from Pipeline.unscopedBufs_held (Ix := ℕ) (Name := ℕ) (U := UU) (Lvl := ℕ) c (V₀ m c)]
  iintro ⟨H, Hl⟩
  ihave H' := (show _ ⊢ iprop((bigSep Finset.univ fun c : Dev nD => StableHlo.held (c : Thread nD τ) (Pipeline.ucRefs τ sig) (V₀ m c))
        ∗ bigSep Finset.univ fun c : Dev nD => iprop(unscopedSems0 c ∗ owes (c : Thread nD τ) (Sites.O0 (F := F) c) ∅ ∗ Pipeline.launchCred (Sites.O0 (F := F)) c ∗ prngReg c (ρ c) ∗ Sites.G EC (V m) c))
      from by rw [← bigSep_sep']; exact bigSep_mono fun c _ => h1 c) $$ H
  icases H' with ⟨Hb, Hs⟩
  imod (Sites.hE0 EC (V m) ρ) $$ [Hs Hl] with Hr
  · isplitl [Hs] <;> iassumption
  imodintro
  iapply (show iprop((bigSep Finset.univ fun c : Dev nD => StableHlo.held (c : Thread nD τ) (Pipeline.ucRefs τ sig) (V₀ m c))
        ∗ bigSep Finset.univ (Sites.Es EC (V m) 0)) ⊢ (bigSep Finset.univ (T0 m) : sProp (MM F)) from by rw [← bigSep_sep'])
  isplitl [Hb] <;> iassumption

/-- From the host operations to the all-reduce: the record of the invariants is kept aside. -/
theorem h0_h1 (c : Dev nD) : (H0 m).post c ⊢ ((H1 m).pre c : sProp (MM F)) := by
  refine .trans ?_ (Sites.pre0 EC Variants.none (V m) (fun _ => invs m) c)
  show iprop(StableHlo.held (c : Thread nD τ) (Pipeline.ucRefs τ sig) (V m c) ∗ Sites.Es EC (V m) 0 c) ⊢ _
  rw [Sites.Es_0]
  iintro ⟨Hh, HO, Hp, Hr⟩
  ihave Hr := (keep m c) $$ Hr
  icases Hr with ⟨Hi, Hr⟩
  isplitl [Hh]; · iexact Hh
  isplitr [Hi]; swap; · iexact Hi
  isplitl [HO]; · iexact HO
  isplitl [Hp] <;> iassumption

/-- From the all-reduce to the end. -/
theorem h1_end (c : Dev nD) : (H1 m).post c ⊢ (iprop(Tn m c ∗ ∃ W, owes (c : Thread nD τ) (0 : CellTallies nD τ sig ℕ) W) : sProp (MM F)) := by
  refine (Sites.post0 EC Variants.none (V m) (fun _ => invs m) c).trans ?_
  iintro ⟨Hh, HE, Hg, Hi⟩
  ihave HO := (Sites.hE_last EC (V m) c) $$ HE
  isplitr [HO]; swap; · iexact HO
  isplitl [Hh]; · iexact Hh
  isplitl [Hi] <;> iassumption

set_option backward.isDefEq.respectTransparency.types false in
/-- The run, for any float values: every device's unscoped buffers end as past the all-reduce, and every counter reads
    zero. -/
theorem run_main : θ_run (defs (F := F)) (onTc (τ := τ) (main (F := F))) ⟨m, fun _ => 0, ρ⟩
    (fun r => (∀ (c : Dev nD) (b : Ref sig .tc), b.isScoped = false →
      r.2.mem ((c : Thread nD τ).loc b) = (ar0 (F := F)).after₀ (V m) c (Proc.devRef .tc b)) ∧ r.2.sem = fun _ => 0) :=
  Pipeline.θ_run_regions_kit_sems (pcfgs (F := F)) adm pdats 0 cellOf_inj EP defs₀ Variants.none L lv m ρ main (segs m)
    (fun c Q => by rw [main_segs adm pdats 0 Variants.none L lv (H0 m) (H1 m) rfl rfl c])
    (by simp only [segs, Pipeline.Seg.pipes_host, Pipeline.Seg.pipes_nil]; exact List.nodup_nil)
    (O₀ := Sites.O0 (F := F)) (hL := Sites.hL) (G := Sites.G EC (V m))
    (u₀ := (initOf (Pipeline.cells (Pipeline.pin (pcfgs (F := F)) adm) cellOf_inj) (Pipeline.launchToks (Pipeline.pin (pcfgs (F := F)) adm) cellOf_inj),
      Sites.uC (U := UU) (V m)))
    (hu₀ := by
      iintro Hu
      ihave H := (ownU_pair _ _) $$ Hu
      icases H with ⟨HP, HX⟩
      imodintro
      isplitl [HP]; · iexact HP
      rw [Sites.bigSep_G]; iexact HX)
    (T₀ := T0 m) (Tₙ := Tn m)
    (hch := ⟨fun _ => .rfl, h0_h1 m, h1_end m⟩)
    (hinit := init m ρ)
    (QY := fun c s => (∀ b : Ref sig .tc, b.isScoped = false → s.mem ((c : Thread nD τ).loc b) = (ar0 (F := F)).after₀ (V m) c (Proc.devRef .tc b))
      ∧ (s.sem ((ar0 (F := F)).barrierCell c) = 0 ∧ s.sem ((ar0 (F := F)).recvCell c) = 0 ∧ s.sem ((ar0 (F := F)).sendCell c) = 0))
    (hfin := fun c s' => by
      refine Laws.pure_elim _ ((sep_mono_left sep_elim_left).trans (sep_comm.1.trans (SI_pointsTo_bufs_agree (qs := fun _ => fullShare) (Pipeline.ucRefs τ sig)))) fun h => ?_
      iintro ⟨⟨-, He⟩, HSI⟩
      imod ((AllReduce.Dat.once (ar0 (F := F)) (V m)).ghostAfter_read (Sites.E0 EC) c (k := 0) le_rfl s') $$ [He HSI] with ⟨%ha, HSI⟩
      · isplitl [He] <;> iassumption
      imodintro
      isplitr
      · ipureintro
        exact ⟨fun b hb => h _ (Finset.mem_filter.mpr ⟨StableHlo.devRef_mem_tcRefs b, fun h' => Bool.false_ne_true (hb.symm.trans h')⟩), ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## What every device's result is -/

/-- The first place of a device's part of the loss. -/
def first : S8x128.Idx := fun a => match a with
  | ⟨0, _⟩ => ⟨0, by show 0 < 8; decide⟩
  | ⟨1, _⟩ => ⟨0, by show 0 < 128; decide⟩

/-- The number that device `c` gives to the sum. -/
def part (c : Dev nD) : Elt F .f32 := m ((c : Thread nD τ).loc main_arg0) first

theorem V_v2 (c : Dev nD) (i : S_.Idx) : V m c (Proc.devRef .tc main_v2) i = part m c := by
  have e : V m c (Proc.devRef .tc main_v2)
      = shapeCast S_ (extractStridedSlice S1x1 ![0, 0] (m ((c : Thread nD τ).loc main_arg0)) slices_S8x128_S1x1_0_0) shapeCasts_S1x1_S_ := by
    after_results <;> rfl
  rw [e, shapeCast_apply _ shapeCasts_S1x1_S_ i (fun a => match a with | ⟨0, _⟩ => ⟨0, Nat.one_pos⟩ | ⟨1, _⟩ => ⟨0, Nat.one_pos⟩) (by
    rw [Shape.rowMajor_val_two]
    have h : (S_.rowMajor i).val < 1 := (S_.rowMajor i).isLt
    show 0 * 1 + 0 = (S_.rowMajor i).val
    omega)]
  refine congrArg (m ((c : Thread nD τ).loc main_arg0)) (funext fun a => Fin.ext ?_)
  match a with
  | ⟨0, _⟩ => rfl
  | ⟨1, _⟩ => rfl

theorem end_arg0 (c : Dev nD) : (ar0 (F := F)).after₀ (V m) c (Proc.devRef .tc main_arg0) = m ((c : Thread nD τ).loc main_arg0) := by
  have hs : ∀ j, ar0_stage j ≠ main_arg0 := by decide
  rw [(ar0 (F := F)).after₀_of_notMem (V m) c fun h => by
    rcases Finset.mem_insert.mp h with h | h
    · exact (by decide : main_arg0 ≠ main_v3) (Proc.devRef_injective _ h)
    · obtain ⟨j, -, hj⟩ := Finset.mem_map.mp h
      exact hs j (Proc.devRef_injective _ hj)]
  after_results <;> rfl

/-- The result is the fold, in the group's order, of what the devices give. -/
theorem result_eq (W : Dev nD → Valuation τ sig (Elt Ideal)) (c : Dev nD) (i : S_.Idx) :
    (ar0 (F := Ideal)).after₀ W c (Proc.devRef .tc main_v3) i
      = ((List.finRange 8).drop 1).foldl (fun (a : EReal) (j : Fin 8) => a + W ((ar0 (F := Ideal)).peer c j) (Proc.devRef .tc main_v2) i)
        (W ((ar0 (F := Ideal)).peer c (0 : Fin 8)) (Proc.devRef .tc main_v2) i) :=
  congrFun ((ar0 (F := Ideal)).after₀_result W c) i

/-- Over the reals, every device's result is the plain sum of the devices' numbers. -/
theorem end_v3 (m : (ℓ : Loc nD τ sig) → Buf (Elt Ideal) ℓ) (c : Dev nD) (i : S_.Idx) :
    (ar0 (F := Ideal)).after₀ (V m) c (Proc.devRef .tc main_v3) i = ∑ j : Fin 8, (part m (j : Dev nD) : EReal) := by
  rw [result_eq]
  have hp : ∀ j : Fin 8, (ar0 (F := Ideal)).peer c j = (j : Dev nD) := by
    intro j; fin_cases c <;> fin_cases j <;> rfl
  have hv : ∀ j : Fin 8, V m ((ar0 (F := Ideal)).peer c j) (Proc.devRef .tc main_v2) i = part m (j : Dev nD) := fun j => by
    rw [hp, V_v2]
  generalize V m = W at hv ⊢
  simp only [hv]
  rw [Fin.sum_univ_eight]
  rfl

/-! ## The claims -/

theorem run_frame : θ_run (defs (F := F)) (onTc (τ := τ) (main (F := F))) ⟨m, fun _ => 0, ρ⟩
    (fun r => (∀ c : Dev nD, r.2.mem ((c : Thread nD τ).loc main_arg0) = m ((c : Thread nD τ).loc main_arg0)) ∧ r.2.sem = fun _ => 0) :=
  (θ_run (defs (F := F)) _ _).mono (fun _ h => ⟨fun c => (h.1 c main_arg0 rfl).trans (end_arg0 m c), h.2⟩) (run_main m ρ)

end Cert.Proof.Ls

namespace Cert.Proof

open Idealize.ShloMosaic Idealize.ShloMosaic.TcCoe Idealize.SL.Sem

theorem frame_kernel14Ideal : Cert.quiescent_Kernel14Ideal := fun m ρ _ => Ls.run_frame (F := Ideal) m ρ

theorem frame_kernel14 : Cert.quiescent_Kernel14 := fun m ρ _ => Ls.run_frame (F := Bits) m ρ

theorem frame_reference14Ideal : Cert.quiescent_Reference14Ideal := fun m ρ _ =>
  (θ_run Cert.Reference14Ideal.defs _ _).mono (fun r h => ⟨fun c => (h c).2, Idealize.ShloMosaic.sem_eq_zero_of_no_sems (by decide) r.2⟩) (Cert.Reference14Ideal.Value.run (F := Ideal) m ρ)

/-- The eight places, as numbers. -/
abbrev lsIdx (j : Fin 8) : Cert.Reference14Ideal.S8.Idx := fun a => match a with
  | ⟨0, _⟩ => ⟨j.val, j.isLt⟩

def lsEquiv : Fin 8 ≃ Cert.Reference14Ideal.S8.Idx where
  toFun := lsIdx
  invFun i := ⟨(i 0).val, (i 0).isLt⟩
  left_inv _ := rfl
  right_inv i := funext fun a => match a with | ⟨0, _⟩ => rfl

/-- The plain formula's sum, part by part. -/
theorem ls_reference (x : (⟨Cert.Reference14Ideal.S64x128, .f32⟩ : BufTy).Contents (Elt Ideal)) (i : Cert.Reference14Ideal.S_.Idx) :
    Cert.Reference14Ideal.Read.val_main_v3 (F := Ideal) x i
      = ∑ j : Fin 8, (x (fun a => match a with | ⟨0, _⟩ => ⟨8 * j.val, by have := j.isLt; show 8 * j.val < 64; omega⟩ | ⟨1, _⟩ => ⟨0, by show 0 < 128; decide⟩) : EReal) := by
  rw [Cert.Reference14Ideal.Read.val_main_v3_apply]
  refine (congrArg (fun z : EReal => z + ∑ j : Cert.Reference14Ideal.S8.Idx, (Cert.Reference14Ideal.Read.val_main_v2 (F := Ideal) x) j)
    ((Cert.Reference14Ideal.Read.val_main_cst_apply (F := Ideal) _).trans Ideal.ofBits_zero_f32)).trans ((zero_add _).trans ?_)
  refine (Fintype.sum_equiv lsEquiv _ _ fun j => ?_).symm
  show _ = Cert.Reference14Ideal.Read.val_main_v2 (F := Ideal) x (lsIdx j)
  rw [Cert.Reference14Ideal.Read.val_main_v2_apply, Cert.Reference14Ideal.Read.val_main_v1_apply, Cert.Reference14Ideal.Read.val_main_v0_apply]
  refine congrArg x (funext fun a => Fin.ext ?_)
  have hj := j.isLt
  match a with
  | ⟨0, _⟩ => simp [Cert.Reference14Ideal.Read.idx_main_v0]; omega
  | ⟨1, _⟩ => simp [Cert.Reference14Ideal.Read.idx_main_v0]

/-- The all-reduce's result is the plain sum over the eight parts. -/
theorem algebraic14 : Cert.algebraic_Kernel14Ideal_Reference14Ideal := by
  intro m ρ m' ρ' _ hin
  refine ⟨Cert.Reference14Ideal.Read.val_main_v3 (F := Ideal) (m' (((0 : Dev Cert.Reference14Ideal.nD).tc : Thread Cert.Reference14Ideal.nD Cert.Reference14Ideal.τ).loc Cert.Reference14Ideal.main_arg0)),
    (θ_run Cert.Kernel14Ideal.defs _ _).mono (fun r h c => ⟨?_, (h.1 c Cert.Kernel14Ideal.main_arg0 rfl).trans (Ls.end_arg0 m c)⟩) (Ls.run_main (F := Ideal) m ρ),
    (θ_run Cert.Reference14Ideal.defs _ _).mono (fun r h => ⟨((h 0).1).trans (Cert.Reference14Ideal.Read.val_main_v3_eq _), (h 0).2⟩) (Cert.Reference14Ideal.Value.run (F := Ideal) m' ρ')⟩
  refine (h.1 c Cert.Kernel14Ideal.main_v3 rfl).trans (funext fun i => ?_)
  refine (Ls.end_v3 m c i).trans (.trans ?_ (ls_reference _ i).symm)
  refine Finset.sum_congr (M := EReal) rfl fun j _ => ?_
  unfold Ls.part
  refine (congrFun (hin j) _).trans (congrArg (m' _) (funext fun a => Fin.ext ?_))
  match a with
  | ⟨0, _⟩ => exact (by show j.val * 8 + 0 = 8 * j.val; omega)
  | ⟨1, _⟩ => rfl

end Cert.Proof

end
-- ==== Proof.lean ====
/- The proof of the claims of proofs.«01_k».proof.Defs. -/
module

public import proofs.«01_k».proof.Defs
public import proofs.«01_k».proof.Proof.Bits
public import proofs.«01_k».proof.Proof.Wg
public import proofs.«01_k».proof.Proof.Fb
public import proofs.«01_k».proof.Proof.Ff
public import proofs.«01_k».proof.Proof.Lf
public import proofs.«01_k».proof.Proof.Ad6
public import proofs.«01_k».proof.Proof.Ad7
public import proofs.«01_k».proof.Proof.Ad8
public import proofs.«01_k».proof.Proof.Ad9
public import proofs.«01_k».proof.Proof.Ad10
public import proofs.«01_k».proof.Proof.Wm
public import proofs.«01_k».proof.Proof.Mf
public import proofs.«01_k».proof.Proof.Mo
public import proofs.«01_k».proof.Proof.Ls

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => h.1) (Cert.KernelIdeal.Run.run_main (F := Ideal) m ρ)

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts, Cert.Pre_finite3.facts,
    frame_kernel, frame_kernelIdeal, frame_kernel2, frame_kernel2Ideal, frame_reference2Ideal, frame_kernel3, frame_kernel3Ideal,
    frame_kernel3Ideal_pre, frame_reference3Ideal, frame_reference3Ideal_pre, frame_kernel4, frame_kernel4Ideal, frame_reference4Ideal, frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    frame_kernel9, frame_kernel9Ideal, frame_reference9Ideal,
    frame_kernel10, frame_kernel10Ideal, frame_reference10Ideal,
    frame_kernel11, frame_kernel11Ideal, frame_reference11Ideal,
    frame_kernel12, frame_kernel12Ideal, frame_reference12Ideal,
    frame_kernel13, frame_kernel13Ideal, frame_reference13Ideal,
    frame_kernel14, frame_kernel14Ideal, frame_reference14Ideal,
    trivial, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14⟩

end Cert.Proof

end
